-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x128x4000 : Shape := ⟨4, ![64, 1, 128, 4000]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S64 : Shape := ⟨1, ![64]⟩
abbrev S64x1 : Shape := ⟨2, ![64, 1]⟩
abbrev S64x2 : Shape := ⟨2, ![64, 2]⟩
abbrev S64x2x1 : Shape := ⟨3, ![64, 2, 1]⟩
abbrev S64x2x16 : Shape := ⟨3, ![64, 2, 16]⟩
abbrev S64x128x4000 : Shape := ⟨3, ![64, 128, 4000]⟩
abbrev S2x16 : Shape := ⟨2, ![2, 16]⟩
abbrev S8x4000 : Shape := ⟨2, ![8, 4000]⟩
abbrev S16 : Shape := ⟨1, ![16]⟩
abbrev S1x2x16 : Shape := ⟨3, ![1, 2, 16]⟩
abbrev S1x16 : Shape := ⟨2, ![1, 16]⟩
abbrev S1x8x4000 : Shape := ⟨3, ![1, 8, 4000]⟩

abbrev nBuf : Table → Nat
  | .hbm => 2031
  | .local .scVector .vmem => 2
  | _ => 0

abbrev hbmTy0_0 (i : Nat) : BufTy := match i % 128 with
  | 0 => ⟨S64x1x128x4000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .i32⟩
  | 12 => ⟨S_, .i32⟩
  | 13 => ⟨S_, .i32⟩
  | 14 => ⟨S1, .i32⟩
  | 15 => ⟨S_, .i32⟩
  | 16 => ⟨S_, .i32⟩
  | 17 => ⟨S1, .i32⟩
  | 18 => ⟨S2, .i32⟩
  | 19 => ⟨S1, .i32⟩
  | 20 => ⟨S_, .i32⟩
  | 21 => ⟨S1, .i32⟩
  | 22 => ⟨S_, .i32⟩
  | 23 => ⟨S1, .i32⟩
  | 24 => ⟨S1, .i32⟩
  | 25 => ⟨S_, .i32⟩
  | 26 => ⟨S_, .i32⟩
  | 27 => ⟨S_, .i32⟩
  | 28 => ⟨S1, .i32⟩
  | 29 => ⟨S1, .i32⟩
  | 30 => ⟨S1, .i32⟩
  | 31 => ⟨S1, .i32⟩
  | 32 => ⟨S1, .i32⟩
  | 33 => ⟨S_, .i32⟩
  | 34 => ⟨S1, .i32⟩
  | 35 => ⟨S1, .i32⟩
  | 36 => ⟨S_, .i32⟩
  | 37 => ⟨S1, .i32⟩
  | 38 => ⟨S1, .i32⟩
  | 39 => ⟨S1, .i32⟩
  | 40 => ⟨S1, .i32⟩
  | 41 => ⟨S1, .i32⟩
  | 42 => ⟨S_, .i32⟩
  | 43 => ⟨S1, .i32⟩
  | 44 => ⟨S1, .i32⟩
  | 45 => ⟨S_, .i32⟩
  | 46 => ⟨S1, .i32⟩
  | 47 => ⟨S1, .i32⟩
  | 48 => ⟨S1, .i32⟩
  | 49 => ⟨S1, .i32⟩
  | 50 => ⟨S1, .i32⟩
  | 51 => ⟨S_, .i32⟩
  | 52 => ⟨S1, .i32⟩
  | 53 => ⟨S1, .i32⟩
  | 54 => ⟨S_, .i32⟩
  | 55 => ⟨S1, .i32⟩
  | 56 => ⟨S1, .i32⟩
  | 57 => ⟨S1, .i32⟩
  | 58 => ⟨S1, .i32⟩
  | 59 => ⟨S1, .i32⟩
  | 60 => ⟨S_, .i32⟩
  | 61 => ⟨S1, .i32⟩
  | 62 => ⟨S1, .i32⟩
  | 63 => ⟨S_, .i32⟩
  | 64 => ⟨S1, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S_, .i32⟩
  | 73 => ⟨S1, .i32⟩
  | 74 => ⟨S1, .i32⟩
  | 75 => ⟨S1, .i32⟩
  | 76 => ⟨S_, .i32⟩
  | 77 => ⟨S1, .i32⟩
  | 78 => ⟨S1, .i32⟩
  | 79 => ⟨S_, .i32⟩
  | 80 => ⟨S1, .i32⟩
  | 81 => ⟨S1, .i32⟩
  | 82 => ⟨S1, .i32⟩
  | 83 => ⟨S1, .i32⟩
  | 84 => ⟨S1, .i32⟩
  | 85 => ⟨S_, .i32⟩
  | 86 => ⟨S1, .i32⟩
  | 87 => ⟨S1, .i32⟩
  | 88 => ⟨S_, .i32⟩
  | 89 => ⟨S1, .i32⟩
  | 90 => ⟨S1, .i32⟩
  | 91 => ⟨S1, .i32⟩
  | 92 => ⟨S1, .i32⟩
  | 93 => ⟨S1, .i32⟩
  | 94 => ⟨S_, .i32⟩
  | 95 => ⟨S1, .i32⟩
  | 96 => ⟨S1, .i32⟩
  | 97 => ⟨S_, .i32⟩
  | 98 => ⟨S1, .i32⟩
  | 99 => ⟨S1, .i32⟩
  | 100 => ⟨S1, .i32⟩
  | 101 => ⟨S1, .i32⟩
  | 102 => ⟨S1, .i32⟩
  | 103 => ⟨S_, .i32⟩
  | 104 => ⟨S1, .i32⟩
  | 105 => ⟨S1, .i32⟩
  | 106 => ⟨S_, .i32⟩
  | 107 => ⟨S1, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S_, .i32⟩
  | 116 => ⟨S1, .i32⟩
  | 117 => ⟨S1, .i32⟩
  | 118 => ⟨S1, .i32⟩
  | 119 => ⟨S_, .i32⟩
  | 120 => ⟨S1, .i32⟩
  | 121 => ⟨S1, .i32⟩
  | 122 => ⟨S_, .i32⟩
  | 123 => ⟨S1, .i32⟩
  | 124 => ⟨S1, .i32⟩
  | 125 => ⟨S1, .i32⟩
  | 126 => ⟨S1, .i32⟩
  | 127 => ⟨S1, .i32⟩
  | _ => ⟨S64x1x128x4000, .f32⟩

abbrev hbmTy0_1 (i : Nat) : BufTy := match i % 128 with
  | 0 => ⟨S_, .i32⟩
  | 1 => ⟨S1, .i32⟩
  | 2 => ⟨S1, .i32⟩
  | 3 => ⟨S_, .i32⟩
  | 4 => ⟨S1, .i32⟩
  | 5 => ⟨S1, .i32⟩
  | 6 => ⟨S1, .i32⟩
  | 7 => ⟨S1, .i32⟩
  | 8 => ⟨S1, .i32⟩
  | 9 => ⟨S_, .i32⟩
  | 10 => ⟨S1, .i32⟩
  | 11 => ⟨S1, .i32⟩
  | 12 => ⟨S_, .i32⟩
  | 13 => ⟨S1, .i32⟩
  | 14 => ⟨S1, .i32⟩
  | 15 => ⟨S1, .i32⟩
  | 16 => ⟨S1, .i32⟩
  | 17 => ⟨S1, .i32⟩
  | 18 => ⟨S_, .i32⟩
  | 19 => ⟨S1, .i32⟩
  | 20 => ⟨S1, .i32⟩
  | 21 => ⟨S_, .i32⟩
  | 22 => ⟨S1, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S_, .i32⟩
  | 31 => ⟨S1, .i32⟩
  | 32 => ⟨S1, .i32⟩
  | 33 => ⟨S1, .i32⟩
  | 34 => ⟨S_, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S1, .i32⟩
  | 42 => ⟨S1, .i32⟩
  | 43 => ⟨S_, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S_, .i32⟩
  | 56 => ⟨S1, .i32⟩
  | 57 => ⟨S1, .i32⟩
  | 58 => ⟨S1, .i32⟩
  | 59 => ⟨S1, .i32⟩
  | 60 => ⟨S1, .i32⟩
  | 61 => ⟨S_, .i32⟩
  | 62 => ⟨S1, .i32⟩
  | 63 => ⟨S1, .i32⟩
  | 64 => ⟨S_, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S2, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i1⟩
  | _ => ⟨S64x1x128x4000, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S1, .i32⟩
  | 11 => ⟨S1, .i32⟩
  | 12 => ⟨S1, .i32⟩
  | 13 => ⟨S_, .i32⟩
  | 14 => ⟨S1, .i32⟩
  | 15 => ⟨S_, .i32⟩
  | 16 => ⟨S2, .i64⟩
  | 17 => ⟨S_, .i64⟩
  | 18 => ⟨S2, .i64⟩
  | 19 => ⟨S2, .i64⟩
  | 20 => ⟨S_, .i64⟩
  | 21 => ⟨S2, .i64⟩
  | 22 => ⟨S2, .i64⟩
  | 23 => ⟨S2, .i32⟩
  | 24 => ⟨S2, .i32⟩
  | 25 => ⟨S_, .i32⟩
  | 26 => ⟨S_, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S64x1x128x4000, .f32⟩

abbrev hbmTy0_3 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S2x1, .i32⟩
  | 120 => ⟨S2x1, .i32⟩
  | 121 => ⟨S2x2, .i32⟩
  | 122 => ⟨S1x2, .i32⟩
  | 123 => ⟨S2, .i32⟩
  | 124 => ⟨S1x2, .i32⟩
  | 125 => ⟨S2, .i32⟩
  | 126 => ⟨S1, .i32⟩
  | 127 => ⟨S_, .i32⟩
  | _ => ⟨S64x1x128x4000, .f32⟩

abbrev hbmTy0_4 (i : Nat) : BufTy := match i % 128 with
  | 0 => ⟨S1, .i32⟩
  | 1 => ⟨S_, .i32⟩
  | 2 => ⟨S64, .i64⟩
  | 3 => ⟨S_, .i64⟩
  | 4 => ⟨S64, .i64⟩
  | 5 => ⟨S64, .i64⟩
  | 6 => ⟨S_, .i64⟩
  | 7 => ⟨S64, .i64⟩
  | 8 => ⟨S64, .i64⟩
  | 9 => ⟨S64, .i32⟩
  | 10 => ⟨S64, .i32⟩
  | 11 => ⟨S_, .i32⟩
  | 12 => ⟨S_, .i32⟩
  | 13 => ⟨S_, .i32⟩
  | 14 => ⟨S64, .i32⟩
  | 15 => ⟨S64, .i32⟩
  | 16 => ⟨S64, .i32⟩
  | 17 => ⟨S64, .i32⟩
  | 18 => ⟨S64, .i32⟩
  | 19 => ⟨S_, .i32⟩
  | 20 => ⟨S64, .i32⟩
  | 21 => ⟨S64, .i32⟩
  | 22 => ⟨S_, .i32⟩
  | 23 => ⟨S64, .i32⟩
  | 24 => ⟨S64, .i32⟩
  | 25 => ⟨S64, .i32⟩
  | 26 => ⟨S64, .i32⟩
  | 27 => ⟨S64, .i32⟩
  | 28 => ⟨S_, .i32⟩
  | 29 => ⟨S64, .i32⟩
  | 30 => ⟨S64, .i32⟩
  | 31 => ⟨S_, .i32⟩
  | 32 => ⟨S64, .i32⟩
  | 33 => ⟨S64, .i32⟩
  | 34 => ⟨S64, .i32⟩
  | 35 => ⟨S64, .i32⟩
  | 36 => ⟨S64, .i32⟩
  | 37 => ⟨S_, .i32⟩
  | 38 => ⟨S64, .i32⟩
  | 39 => ⟨S64, .i32⟩
  | 40 => ⟨S_, .i32⟩
  | 41 => ⟨S64, .i32⟩
  | 42 => ⟨S64, .i32⟩
  | 43 => ⟨S64, .i32⟩
  | 44 => ⟨S64, .i32⟩
  | 45 => ⟨S64, .i32⟩
  | 46 => ⟨S_, .i32⟩
  | 47 => ⟨S64, .i32⟩
  | 48 => ⟨S64, .i32⟩
  | 49 => ⟨S_, .i32⟩
  | 50 => ⟨S64, .i32⟩
  | 51 => ⟨S64, .i32⟩
  | 52 => ⟨S64, .i32⟩
  | 53 => ⟨S64, .i32⟩
  | 54 => ⟨S64, .i32⟩
  | 55 => ⟨S64, .i32⟩
  | 56 => ⟨S64, .i32⟩
  | 57 => ⟨S64, .i32⟩
  | 58 => ⟨S_, .i32⟩
  | 59 => ⟨S64, .i32⟩
  | 60 => ⟨S64, .i32⟩
  | 61 => ⟨S64, .i32⟩
  | 62 => ⟨S_, .i32⟩
  | 63 => ⟨S64, .i32⟩
  | 64 => ⟨S64, .i32⟩
  | 65 => ⟨S_, .i32⟩
  | 66 => ⟨S64, .i32⟩
  | 67 => ⟨S64, .i32⟩
  | 68 => ⟨S64, .i32⟩
  | 69 => ⟨S64, .i32⟩
  | 70 => ⟨S64, .i32⟩
  | 71 => ⟨S_, .i32⟩
  | 72 => ⟨S64, .i32⟩
  | 73 => ⟨S64, .i32⟩
  | 74 => ⟨S_, .i32⟩
  | 75 => ⟨S64, .i32⟩
  | 76 => ⟨S64, .i32⟩
  | 77 => ⟨S64, .i32⟩
  | 78 => ⟨S64, .i32⟩
  | 79 => ⟨S64, .i32⟩
  | 80 => ⟨S_, .i32⟩
  | 81 => ⟨S64, .i32⟩
  | 82 => ⟨S64, .i32⟩
  | 83 => ⟨S_, .i32⟩
  | 84 => ⟨S64, .i32⟩
  | 85 => ⟨S64, .i32⟩
  | 86 => ⟨S64, .i32⟩
  | 87 => ⟨S64, .i32⟩
  | 88 => ⟨S64, .i32⟩
  | 89 => ⟨S_, .i32⟩
  | 90 => ⟨S64, .i32⟩
  | 91 => ⟨S64, .i32⟩
  | 92 => ⟨S_, .i32⟩
  | 93 => ⟨S64, .i32⟩
  | 94 => ⟨S64, .i32⟩
  | 95 => ⟨S64, .i32⟩
  | 96 => ⟨S64, .i32⟩
  | 97 => ⟨S64, .i32⟩
  | 98 => ⟨S64, .i32⟩
  | 99 => ⟨S64, .i32⟩
  | 100 => ⟨S64, .i32⟩
  | 101 => ⟨S_, .i32⟩
  | 102 => ⟨S64, .i32⟩
  | 103 => ⟨S64, .i32⟩
  | 104 => ⟨S64, .i32⟩
  | 105 => ⟨S_, .i32⟩
  | 106 => ⟨S64, .i32⟩
  | 107 => ⟨S64, .i32⟩
  | 108 => ⟨S_, .i32⟩
  | 109 => ⟨S64, .i32⟩
  | 110 => ⟨S64, .i32⟩
  | 111 => ⟨S64, .i32⟩
  | 112 => ⟨S64, .i32⟩
  | 113 => ⟨S64, .i32⟩
  | 114 => ⟨S_, .i32⟩
  | 115 => ⟨S64, .i32⟩
  | 116 => ⟨S64, .i32⟩
  | 117 => ⟨S_, .i32⟩
  | 118 => ⟨S64, .i32⟩
  | 119 => ⟨S64, .i32⟩
  | 120 => ⟨S64, .i32⟩
  | 121 => ⟨S64, .i32⟩
  | 122 => ⟨S64, .i32⟩
  | 123 => ⟨S_, .i32⟩
  | 124 => ⟨S64, .i32⟩
  | 125 => ⟨S64, .i32⟩
  | 126 => ⟨S_, .i32⟩
  | 127 => ⟨S64, .i32⟩
  | _ => ⟨S64x1x128x4000, .f32⟩

abbrev hbmTy0_5 (i : Nat) : BufTy := match i % 128 with
  | 0 => ⟨S64, .i32⟩
  | 1 => ⟨S64, .i32⟩
  | 2 => ⟨S64, .i32⟩
  | 3 => ⟨S64, .i32⟩
  | 4 => ⟨S_, .i32⟩
  | 5 => ⟨S64, .i32⟩
  | 6 => ⟨S64, .i32⟩
  | 7 => ⟨S_, .i32⟩
  | 8 => ⟨S64, .i32⟩
  | 9 => ⟨S64, .i32⟩
  | 10 => ⟨S64, .i32⟩
  | 11 => ⟨S64, .i32⟩
  | 12 => ⟨S64, .i32⟩
  | 13 => ⟨S64, .i32⟩
  | 14 => ⟨S64, .i32⟩
  | 15 => ⟨S64, .i32⟩
  | 16 => ⟨S_, .i32⟩
  | 17 => ⟨S64, .i32⟩
  | 18 => ⟨S64, .i32⟩
  | 19 => ⟨S64, .i32⟩
  | 20 => ⟨S_, .i32⟩
  | 21 => ⟨S64, .i32⟩
  | 22 => ⟨S64, .i32⟩
  | 23 => ⟨S_, .i32⟩
  | 24 => ⟨S64, .i32⟩
  | 25 => ⟨S64, .i32⟩
  | 26 => ⟨S64, .i32⟩
  | 27 => ⟨S64, .i32⟩
  | 28 => ⟨S64, .i32⟩
  | 29 => ⟨S_, .i32⟩
  | 30 => ⟨S64, .i32⟩
  | 31 => ⟨S64, .i32⟩
  | 32 => ⟨S_, .i32⟩
  | 33 => ⟨S64, .i32⟩
  | 34 => ⟨S64, .i32⟩
  | 35 => ⟨S64, .i32⟩
  | 36 => ⟨S64, .i32⟩
  | 37 => ⟨S64, .i32⟩
  | 38 => ⟨S_, .i32⟩
  | 39 => ⟨S64, .i32⟩
  | 40 => ⟨S64, .i32⟩
  | 41 => ⟨S_, .i32⟩
  | 42 => ⟨S64, .i32⟩
  | 43 => ⟨S64, .i32⟩
  | 44 => ⟨S64, .i32⟩
  | 45 => ⟨S64, .i32⟩
  | 46 => ⟨S64, .i32⟩
  | 47 => ⟨S_, .i32⟩
  | 48 => ⟨S64, .i32⟩
  | 49 => ⟨S64, .i32⟩
  | 50 => ⟨S_, .i32⟩
  | 51 => ⟨S64, .i32⟩
  | 52 => ⟨S64, .i32⟩
  | 53 => ⟨S64, .i32⟩
  | 54 => ⟨S64, .i32⟩
  | 55 => ⟨S64, .i32⟩
  | 56 => ⟨S64, .i32⟩
  | 57 => ⟨S64, .i32⟩
  | 58 => ⟨S64, .i32⟩
  | 59 => ⟨S_, .i32⟩
  | 60 => ⟨S64, .i32⟩
  | 61 => ⟨S64, .i32⟩
  | 62 => ⟨S64, .i32⟩
  | 63 => ⟨S_, .i32⟩
  | 64 => ⟨S64, .i32⟩
  | 65 => ⟨S64, .i32⟩
  | 66 => ⟨S_, .i32⟩
  | 67 => ⟨S64, .i32⟩
  | 68 => ⟨S64, .i32⟩
  | 69 => ⟨S64, .i32⟩
  | 70 => ⟨S64, .i32⟩
  | 71 => ⟨S64, .i32⟩
  | 72 => ⟨S_, .i32⟩
  | 73 => ⟨S64, .i32⟩
  | 74 => ⟨S64, .i32⟩
  | 75 => ⟨S_, .i32⟩
  | 76 => ⟨S64, .i32⟩
  | 77 => ⟨S64, .i32⟩
  | 78 => ⟨S64, .i32⟩
  | 79 => ⟨S64, .i32⟩
  | 80 => ⟨S64, .i32⟩
  | 81 => ⟨S_, .i32⟩
  | 82 => ⟨S64, .i32⟩
  | 83 => ⟨S64, .i32⟩
  | 84 => ⟨S_, .i32⟩
  | 85 => ⟨S64, .i32⟩
  | 86 => ⟨S64, .i32⟩
  | 87 => ⟨S64, .i32⟩
  | 88 => ⟨S64, .i32⟩
  | 89 => ⟨S64, .i32⟩
  | 90 => ⟨S_, .i32⟩
  | 91 => ⟨S64, .i32⟩
  | 92 => ⟨S64, .i32⟩
  | 93 => ⟨S_, .i32⟩
  | 94 => ⟨S64, .i32⟩
  | 95 => ⟨S64, .i32⟩
  | 96 => ⟨S64, .i32⟩
  | 97 => ⟨S64, .i32⟩
  | 98 => ⟨S64, .i32⟩
  | 99 => ⟨S64, .i32⟩
  | 100 => ⟨S64, .i32⟩
  | 101 => ⟨S64, .i32⟩
  | 102 => ⟨S_, .i32⟩
  | 103 => ⟨S64, .i32⟩
  | 104 => ⟨S64, .i32⟩
  | 105 => ⟨S64, .i32⟩
  | 106 => ⟨S1, .i32⟩
  | 107 => ⟨S_, .i32⟩
  | 108 => ⟨S1, .i32⟩
  | 109 => ⟨S_, .i32⟩
  | 110 => ⟨S64, .i64⟩
  | 111 => ⟨S_, .i64⟩
  | 112 => ⟨S64, .i64⟩
  | 113 => ⟨S64, .i64⟩
  | 114 => ⟨S_, .i64⟩
  | 115 => ⟨S64, .i64⟩
  | 116 => ⟨S64, .i64⟩
  | 117 => ⟨S64, .i32⟩
  | 118 => ⟨S64, .i32⟩
  | 119 => ⟨S_, .i32⟩
  | 120 => ⟨S_, .i32⟩
  | 121 => ⟨S_, .i32⟩
  | 122 => ⟨S64, .i32⟩
  | 123 => ⟨S64, .i32⟩
  | 124 => ⟨S64, .i32⟩
  | 125 => ⟨S64, .i32⟩
  | 126 => ⟨S64, .i32⟩
  | 127 => ⟨S_, .i32⟩
  | _ => ⟨S64x1x128x4000, .f32⟩

abbrev hbmTy0_6 (i : Nat) : BufTy := match i % 128 with
  | 0 => ⟨S64, .i32⟩
  | 1 => ⟨S64, .i32⟩
  | 2 => ⟨S_, .i32⟩
  | 3 => ⟨S64, .i32⟩
  | 4 => ⟨S64, .i32⟩
  | 5 => ⟨S64, .i32⟩
  | 6 => ⟨S64, .i32⟩
  | 7 => ⟨S64, .i32⟩
  | 8 => ⟨S_, .i32⟩
  | 9 => ⟨S64, .i32⟩
  | 10 => ⟨S64, .i32⟩
  | 11 => ⟨S_, .i32⟩
  | 12 => ⟨S64, .i32⟩
  | 13 => ⟨S64, .i32⟩
  | 14 => ⟨S64, .i32⟩
  | 15 => ⟨S64, .i32⟩
  | 16 => ⟨S64, .i32⟩
  | 17 => ⟨S_, .i32⟩
  | 18 => ⟨S64, .i32⟩
  | 19 => ⟨S64, .i32⟩
  | 20 => ⟨S_, .i32⟩
  | 21 => ⟨S64, .i32⟩
  | 22 => ⟨S64, .i32⟩
  | 23 => ⟨S64, .i32⟩
  | 24 => ⟨S64, .i32⟩
  | 25 => ⟨S64, .i32⟩
  | 26 => ⟨S_, .i32⟩
  | 27 => ⟨S64, .i32⟩
  | 28 => ⟨S64, .i32⟩
  | 29 => ⟨S_, .i32⟩
  | 30 => ⟨S64, .i32⟩
  | 31 => ⟨S64, .i32⟩
  | 32 => ⟨S64, .i32⟩
  | 33 => ⟨S64, .i32⟩
  | 34 => ⟨S64, .i32⟩
  | 35 => ⟨S64, .i32⟩
  | 36 => ⟨S64, .i32⟩
  | 37 => ⟨S64, .i32⟩
  | 38 => ⟨S_, .i32⟩
  | 39 => ⟨S64, .i32⟩
  | 40 => ⟨S64, .i32⟩
  | 41 => ⟨S64, .i32⟩
  | 42 => ⟨S_, .i32⟩
  | 43 => ⟨S64, .i32⟩
  | 44 => ⟨S64, .i32⟩
  | 45 => ⟨S_, .i32⟩
  | 46 => ⟨S64, .i32⟩
  | 47 => ⟨S64, .i32⟩
  | 48 => ⟨S64, .i32⟩
  | 49 => ⟨S64, .i32⟩
  | 50 => ⟨S64, .i32⟩
  | 51 => ⟨S_, .i32⟩
  | 52 => ⟨S64, .i32⟩
  | 53 => ⟨S64, .i32⟩
  | 54 => ⟨S_, .i32⟩
  | 55 => ⟨S64, .i32⟩
  | 56 => ⟨S64, .i32⟩
  | 57 => ⟨S64, .i32⟩
  | 58 => ⟨S64, .i32⟩
  | 59 => ⟨S64, .i32⟩
  | 60 => ⟨S_, .i32⟩
  | 61 => ⟨S64, .i32⟩
  | 62 => ⟨S64, .i32⟩
  | 63 => ⟨S_, .i32⟩
  | 64 => ⟨S64, .i32⟩
  | 65 => ⟨S64, .i32⟩
  | 66 => ⟨S64, .i32⟩
  | 67 => ⟨S64, .i32⟩
  | 68 => ⟨S64, .i32⟩
  | 69 => ⟨S_, .i32⟩
  | 70 => ⟨S64, .i32⟩
  | 71 => ⟨S64, .i32⟩
  | 72 => ⟨S_, .i32⟩
  | 73 => ⟨S64, .i32⟩
  | 74 => ⟨S64, .i32⟩
  | 75 => ⟨S64, .i32⟩
  | 76 => ⟨S64, .i32⟩
  | 77 => ⟨S64, .i32⟩
  | 78 => ⟨S64, .i32⟩
  | 79 => ⟨S64, .i32⟩
  | 80 => ⟨S64, .i32⟩
  | 81 => ⟨S_, .i32⟩
  | 82 => ⟨S64, .i32⟩
  | 83 => ⟨S64, .i32⟩
  | 84 => ⟨S64, .i32⟩
  | 85 => ⟨S_, .i32⟩
  | 86 => ⟨S64, .i32⟩
  | 87 => ⟨S64, .i32⟩
  | 88 => ⟨S_, .i32⟩
  | 89 => ⟨S64, .i32⟩
  | 90 => ⟨S64, .i32⟩
  | 91 => ⟨S64, .i32⟩
  | 92 => ⟨S64, .i32⟩
  | 93 => ⟨S64, .i32⟩
  | 94 => ⟨S_, .i32⟩
  | 95 => ⟨S64, .i32⟩
  | 96 => ⟨S64, .i32⟩
  | 97 => ⟨S_, .i32⟩
  | 98 => ⟨S64, .i32⟩
  | 99 => ⟨S64, .i32⟩
  | 100 => ⟨S64, .i32⟩
  | 101 => ⟨S64, .i32⟩
  | 102 => ⟨S64, .i32⟩
  | 103 => ⟨S_, .i32⟩
  | 104 => ⟨S64, .i32⟩
  | 105 => ⟨S64, .i32⟩
  | 106 => ⟨S_, .i32⟩
  | 107 => ⟨S64, .i32⟩
  | 108 => ⟨S64, .i32⟩
  | 109 => ⟨S64, .i32⟩
  | 110 => ⟨S64, .i32⟩
  | 111 => ⟨S64, .i32⟩
  | 112 => ⟨S_, .i32⟩
  | 113 => ⟨S64, .i32⟩
  | 114 => ⟨S64, .i32⟩
  | 115 => ⟨S_, .i32⟩
  | 116 => ⟨S64, .i32⟩
  | 117 => ⟨S64, .i32⟩
  | 118 => ⟨S64, .i32⟩
  | 119 => ⟨S64, .i32⟩
  | 120 => ⟨S64, .i32⟩
  | 121 => ⟨S64, .i32⟩
  | 122 => ⟨S64, .i32⟩
  | 123 => ⟨S64, .i32⟩
  | 124 => ⟨S_, .i32⟩
  | 125 => ⟨S64, .i32⟩
  | 126 => ⟨S64, .i32⟩
  | 127 => ⟨S64, .i32⟩
  | _ => ⟨S64x1x128x4000, .f32⟩

abbrev hbmTy0_7 (i : Nat) : BufTy := match i % 128 with
  | 0 => ⟨S_, .i32⟩
  | 1 => ⟨S64, .i32⟩
  | 2 => ⟨S64, .i32⟩
  | 3 => ⟨S_, .i32⟩
  | 4 => ⟨S64, .i32⟩
  | 5 => ⟨S64, .i32⟩
  | 6 => ⟨S64, .i32⟩
  | 7 => ⟨S64, .i32⟩
  | 8 => ⟨S64, .i32⟩
  | 9 => ⟨S_, .i32⟩
  | 10 => ⟨S64, .i32⟩
  | 11 => ⟨S64, .i32⟩
  | 12 => ⟨S_, .i32⟩
  | 13 => ⟨S64, .i32⟩
  | 14 => ⟨S64, .i32⟩
  | 15 => ⟨S64, .i32⟩
  | 16 => ⟨S64, .i32⟩
  | 17 => ⟨S64, .i32⟩
  | 18 => ⟨S_, .i32⟩
  | 19 => ⟨S64, .i32⟩
  | 20 => ⟨S64, .i32⟩
  | 21 => ⟨S_, .i32⟩
  | 22 => ⟨S64, .i32⟩
  | 23 => ⟨S64, .i32⟩
  | 24 => ⟨S64, .i32⟩
  | 25 => ⟨S64, .i32⟩
  | 26 => ⟨S64, .i32⟩
  | 27 => ⟨S_, .i32⟩
  | 28 => ⟨S64, .i32⟩
  | 29 => ⟨S64, .i32⟩
  | 30 => ⟨S_, .i32⟩
  | 31 => ⟨S64, .i32⟩
  | 32 => ⟨S64, .i32⟩
  | 33 => ⟨S64, .i32⟩
  | 34 => ⟨S64, .i32⟩
  | 35 => ⟨S64, .i32⟩
  | 36 => ⟨S64, .i32⟩
  | 37 => ⟨S64, .i32⟩
  | 38 => ⟨S64, .i32⟩
  | 39 => ⟨S_, .i32⟩
  | 40 => ⟨S64, .i32⟩
  | 41 => ⟨S64, .i32⟩
  | 42 => ⟨S64, .i32⟩
  | 43 => ⟨S_, .i32⟩
  | 44 => ⟨S64, .i32⟩
  | 45 => ⟨S64, .i32⟩
  | 46 => ⟨S_, .i32⟩
  | 47 => ⟨S64, .i32⟩
  | 48 => ⟨S64, .i32⟩
  | 49 => ⟨S64, .i32⟩
  | 50 => ⟨S64, .i32⟩
  | 51 => ⟨S64, .i32⟩
  | 52 => ⟨S_, .i32⟩
  | 53 => ⟨S64, .i32⟩
  | 54 => ⟨S64, .i32⟩
  | 55 => ⟨S_, .i32⟩
  | 56 => ⟨S64, .i32⟩
  | 57 => ⟨S64, .i32⟩
  | 58 => ⟨S64, .i32⟩
  | 59 => ⟨S64, .i32⟩
  | 60 => ⟨S64, .i32⟩
  | 61 => ⟨S_, .i32⟩
  | 62 => ⟨S64, .i32⟩
  | 63 => ⟨S64, .i32⟩
  | 64 => ⟨S_, .i32⟩
  | 65 => ⟨S64, .i32⟩
  | 66 => ⟨S64, .i32⟩
  | 67 => ⟨S64, .i32⟩
  | 68 => ⟨S64, .i32⟩
  | 69 => ⟨S64, .i32⟩
  | 70 => ⟨S_, .i32⟩
  | 71 => ⟨S64, .i32⟩
  | 72 => ⟨S64, .i32⟩
  | 73 => ⟨S_, .i32⟩
  | 74 => ⟨S64, .i32⟩
  | 75 => ⟨S64, .i32⟩
  | 76 => ⟨S64, .i32⟩
  | 77 => ⟨S64, .i32⟩
  | 78 => ⟨S64, .i32⟩
  | 79 => ⟨S64, .i32⟩
  | 80 => ⟨S64, .i32⟩
  | 81 => ⟨S64, .i32⟩
  | 82 => ⟨S_, .i32⟩
  | 83 => ⟨S64, .i32⟩
  | 84 => ⟨S64, .i32⟩
  | 85 => ⟨S64, .i32⟩
  | 86 => ⟨S1, .i32⟩
  | 87 => ⟨S1, .i32⟩
  | 88 => ⟨S1, .i1⟩
  | 89 => ⟨S_, .i32⟩
  | 90 => ⟨S1, .i32⟩
  | 91 => ⟨S1, .i32⟩
  | 92 => ⟨S1, .i1⟩
  | 93 => ⟨S1, .i1⟩
  | 94 => ⟨S1, .i1⟩
  | 95 => ⟨S_, .i32⟩
  | 96 => ⟨S1, .i32⟩
  | 97 => ⟨S1, .i32⟩
  | 98 => ⟨S1, .i32⟩
  | 99 => ⟨S_, .i32⟩
  | 100 => ⟨S1, .i32⟩
  | 101 => ⟨S1, .i32⟩
  | 102 => ⟨S1, .i32⟩
  | 103 => ⟨S1, .i32⟩
  | 104 => ⟨S64, .i32⟩
  | 105 => ⟨S64, .i32⟩
  | 106 => ⟨S64, .i32⟩
  | 107 => ⟨S64, .i32⟩
  | 108 => ⟨S64, .i32⟩
  | 109 => ⟨S64, .i32⟩
  | 110 => ⟨S64, .i32⟩
  | 111 => ⟨S64, .i32⟩
  | 112 => ⟨S64, .i32⟩
  | 113 => ⟨S64, .i32⟩
  | 114 => ⟨S64, .i32⟩
  | 115 => ⟨S64, .i32⟩
  | 116 => ⟨S_, .i32⟩
  | 117 => ⟨S_, .i32⟩
  | 118 => ⟨S_, .i32⟩
  | 119 => ⟨S_, .i32⟩
  | 120 => ⟨S1, .i32⟩
  | 121 => ⟨S_, .i32⟩
  | 122 => ⟨S_, .i32⟩
  | 123 => ⟨S_, .i32⟩
  | 124 => ⟨S1, .i32⟩
  | 125 => ⟨S2, .i32⟩
  | 126 => ⟨S_, .i32⟩
  | 127 => ⟨S_, .i32⟩
  | _ => ⟨S64x1x128x4000, .f32⟩

abbrev hbmTy0_8 (i : Nat) : BufTy := match i % 128 with
  | 0 => ⟨S_, .i32⟩
  | 1 => ⟨S1, .i32⟩
  | 2 => ⟨S_, .i32⟩
  | 3 => ⟨S_, .i32⟩
  | 4 => ⟨S1, .i32⟩
  | 5 => ⟨S2, .i32⟩
  | 6 => ⟨S1, .i32⟩
  | 7 => ⟨S_, .i32⟩
  | 8 => ⟨S1, .i32⟩
  | 9 => ⟨S_, .i32⟩
  | 10 => ⟨S1, .i32⟩
  | 11 => ⟨S1, .i32⟩
  | 12 => ⟨S_, .i32⟩
  | 13 => ⟨S_, .i32⟩
  | 14 => ⟨S_, .i32⟩
  | 15 => ⟨S1, .i32⟩
  | 16 => ⟨S1, .i32⟩
  | 17 => ⟨S1, .i32⟩
  | 18 => ⟨S1, .i32⟩
  | 19 => ⟨S1, .i32⟩
  | 20 => ⟨S_, .i32⟩
  | 21 => ⟨S1, .i32⟩
  | 22 => ⟨S1, .i32⟩
  | 23 => ⟨S_, .i32⟩
  | 24 => ⟨S1, .i32⟩
  | 25 => ⟨S1, .i32⟩
  | 26 => ⟨S1, .i32⟩
  | 27 => ⟨S1, .i32⟩
  | 28 => ⟨S1, .i32⟩
  | 29 => ⟨S_, .i32⟩
  | 30 => ⟨S1, .i32⟩
  | 31 => ⟨S1, .i32⟩
  | 32 => ⟨S_, .i32⟩
  | 33 => ⟨S1, .i32⟩
  | 34 => ⟨S1, .i32⟩
  | 35 => ⟨S1, .i32⟩
  | 36 => ⟨S1, .i32⟩
  | 37 => ⟨S1, .i32⟩
  | 38 => ⟨S_, .i32⟩
  | 39 => ⟨S1, .i32⟩
  | 40 => ⟨S1, .i32⟩
  | 41 => ⟨S_, .i32⟩
  | 42 => ⟨S1, .i32⟩
  | 43 => ⟨S1, .i32⟩
  | 44 => ⟨S1, .i32⟩
  | 45 => ⟨S1, .i32⟩
  | 46 => ⟨S1, .i32⟩
  | 47 => ⟨S_, .i32⟩
  | 48 => ⟨S1, .i32⟩
  | 49 => ⟨S1, .i32⟩
  | 50 => ⟨S_, .i32⟩
  | 51 => ⟨S1, .i32⟩
  | 52 => ⟨S1, .i32⟩
  | 53 => ⟨S1, .i32⟩
  | 54 => ⟨S1, .i32⟩
  | 55 => ⟨S1, .i32⟩
  | 56 => ⟨S1, .i32⟩
  | 57 => ⟨S1, .i32⟩
  | 58 => ⟨S1, .i32⟩
  | 59 => ⟨S_, .i32⟩
  | 60 => ⟨S1, .i32⟩
  | 61 => ⟨S1, .i32⟩
  | 62 => ⟨S1, .i32⟩
  | 63 => ⟨S_, .i32⟩
  | 64 => ⟨S1, .i32⟩
  | 65 => ⟨S1, .i32⟩
  | 66 => ⟨S_, .i32⟩
  | 67 => ⟨S1, .i32⟩
  | 68 => ⟨S1, .i32⟩
  | 69 => ⟨S1, .i32⟩
  | 70 => ⟨S1, .i32⟩
  | 71 => ⟨S1, .i32⟩
  | 72 => ⟨S_, .i32⟩
  | 73 => ⟨S1, .i32⟩
  | 74 => ⟨S1, .i32⟩
  | 75 => ⟨S_, .i32⟩
  | 76 => ⟨S1, .i32⟩
  | 77 => ⟨S1, .i32⟩
  | 78 => ⟨S1, .i32⟩
  | 79 => ⟨S1, .i32⟩
  | 80 => ⟨S1, .i32⟩
  | 81 => ⟨S_, .i32⟩
  | 82 => ⟨S1, .i32⟩
  | 83 => ⟨S1, .i32⟩
  | 84 => ⟨S_, .i32⟩
  | 85 => ⟨S1, .i32⟩
  | 86 => ⟨S1, .i32⟩
  | 87 => ⟨S1, .i32⟩
  | 88 => ⟨S1, .i32⟩
  | 89 => ⟨S1, .i32⟩
  | 90 => ⟨S_, .i32⟩
  | 91 => ⟨S1, .i32⟩
  | 92 => ⟨S1, .i32⟩
  | 93 => ⟨S_, .i32⟩
  | 94 => ⟨S1, .i32⟩
  | 95 => ⟨S1, .i32⟩
  | 96 => ⟨S1, .i32⟩
  | 97 => ⟨S1, .i32⟩
  | 98 => ⟨S1, .i32⟩
  | 99 => ⟨S1, .i32⟩
  | 100 => ⟨S1, .i32⟩
  | 101 => ⟨S1, .i32⟩
  | 102 => ⟨S_, .i32⟩
  | 103 => ⟨S1, .i32⟩
  | 104 => ⟨S1, .i32⟩
  | 105 => ⟨S1, .i32⟩
  | 106 => ⟨S_, .i32⟩
  | 107 => ⟨S1, .i32⟩
  | 108 => ⟨S1, .i32⟩
  | 109 => ⟨S_, .i32⟩
  | 110 => ⟨S1, .i32⟩
  | 111 => ⟨S1, .i32⟩
  | 112 => ⟨S1, .i32⟩
  | 113 => ⟨S1, .i32⟩
  | 114 => ⟨S1, .i32⟩
  | 115 => ⟨S_, .i32⟩
  | 116 => ⟨S1, .i32⟩
  | 117 => ⟨S1, .i32⟩
  | 118 => ⟨S_, .i32⟩
  | 119 => ⟨S1, .i32⟩
  | 120 => ⟨S1, .i32⟩
  | 121 => ⟨S1, .i32⟩
  | 122 => ⟨S1, .i32⟩
  | 123 => ⟨S1, .i32⟩
  | 124 => ⟨S_, .i32⟩
  | 125 => ⟨S1, .i32⟩
  | 126 => ⟨S1, .i32⟩
  | 127 => ⟨S_, .i32⟩
  | _ => ⟨S64x1x128x4000, .f32⟩

abbrev hbmTy0_9 (i : Nat) : BufTy := match i % 128 with
  | 0 => ⟨S1, .i32⟩
  | 1 => ⟨S1, .i32⟩
  | 2 => ⟨S1, .i32⟩
  | 3 => ⟨S1, .i32⟩
  | 4 => ⟨S1, .i32⟩
  | 5 => ⟨S_, .i32⟩
  | 6 => ⟨S1, .i32⟩
  | 7 => ⟨S1, .i32⟩
  | 8 => ⟨S_, .i32⟩
  | 9 => ⟨S1, .i32⟩
  | 10 => ⟨S1, .i32⟩
  | 11 => ⟨S1, .i32⟩
  | 12 => ⟨S1, .i32⟩
  | 13 => ⟨S1, .i32⟩
  | 14 => ⟨S1, .i32⟩
  | 15 => ⟨S1, .i32⟩
  | 16 => ⟨S1, .i32⟩
  | 17 => ⟨S_, .i32⟩
  | 18 => ⟨S1, .i32⟩
  | 19 => ⟨S1, .i32⟩
  | 20 => ⟨S1, .i32⟩
  | 21 => ⟨S_, .i32⟩
  | 22 => ⟨S1, .i32⟩
  | 23 => ⟨S1, .i32⟩
  | 24 => ⟨S_, .i32⟩
  | 25 => ⟨S1, .i32⟩
  | 26 => ⟨S1, .i32⟩
  | 27 => ⟨S1, .i32⟩
  | 28 => ⟨S1, .i32⟩
  | 29 => ⟨S1, .i32⟩
  | 30 => ⟨S_, .i32⟩
  | 31 => ⟨S1, .i32⟩
  | 32 => ⟨S1, .i32⟩
  | 33 => ⟨S_, .i32⟩
  | 34 => ⟨S1, .i32⟩
  | 35 => ⟨S1, .i32⟩
  | 36 => ⟨S1, .i32⟩
  | 37 => ⟨S1, .i32⟩
  | 38 => ⟨S1, .i32⟩
  | 39 => ⟨S_, .i32⟩
  | 40 => ⟨S1, .i32⟩
  | 41 => ⟨S1, .i32⟩
  | 42 => ⟨S_, .i32⟩
  | 43 => ⟨S1, .i32⟩
  | 44 => ⟨S1, .i32⟩
  | 45 => ⟨S1, .i32⟩
  | 46 => ⟨S1, .i32⟩
  | 47 => ⟨S1, .i32⟩
  | 48 => ⟨S_, .i32⟩
  | 49 => ⟨S1, .i32⟩
  | 50 => ⟨S1, .i32⟩
  | 51 => ⟨S_, .i32⟩
  | 52 => ⟨S1, .i32⟩
  | 53 => ⟨S1, .i32⟩
  | 54 => ⟨S1, .i32⟩
  | 55 => ⟨S1, .i32⟩
  | 56 => ⟨S1, .i32⟩
  | 57 => ⟨S1, .i32⟩
  | 58 => ⟨S1, .i32⟩
  | 59 => ⟨S1, .i32⟩
  | 60 => ⟨S_, .i32⟩
  | 61 => ⟨S1, .i32⟩
  | 62 => ⟨S1, .i32⟩
  | 63 => ⟨S1, .i32⟩
  | 64 => ⟨S_, .i32⟩
  | 65 => ⟨S1, .i32⟩
  | 66 => ⟨S1, .i32⟩
  | 67 => ⟨S_, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S_, .i32⟩
  | 77 => ⟨S1, .i32⟩
  | 78 => ⟨S1, .i32⟩
  | 79 => ⟨S1, .i32⟩
  | 80 => ⟨S1, .i32⟩
  | 81 => ⟨S1, .i32⟩
  | 82 => ⟨S_, .i32⟩
  | 83 => ⟨S1, .i32⟩
  | 84 => ⟨S1, .i32⟩
  | 85 => ⟨S_, .i32⟩
  | 86 => ⟨S1, .i32⟩
  | 87 => ⟨S1, .i32⟩
  | 88 => ⟨S1, .i32⟩
  | 89 => ⟨S1, .i32⟩
  | 90 => ⟨S1, .i32⟩
  | 91 => ⟨S_, .i32⟩
  | 92 => ⟨S1, .i32⟩
  | 93 => ⟨S1, .i32⟩
  | 94 => ⟨S_, .i32⟩
  | 95 => ⟨S1, .i32⟩
  | 96 => ⟨S1, .i32⟩
  | 97 => ⟨S1, .i32⟩
  | 98 => ⟨S1, .i32⟩
  | 99 => ⟨S1, .i32⟩
  | 100 => ⟨S1, .i32⟩
  | 101 => ⟨S1, .i32⟩
  | 102 => ⟨S1, .i32⟩
  | 103 => ⟨S_, .i32⟩
  | 104 => ⟨S1, .i32⟩
  | 105 => ⟨S1, .i32⟩
  | 106 => ⟨S2, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S1, .i32⟩
  | 126 => ⟨S1, .i32⟩
  | 127 => ⟨S1, .i32⟩
  | _ => ⟨S64x1x128x4000, .f32⟩

abbrev hbmTy0_10 (i : Nat) : BufTy := match i % 128 with
  | 0 => ⟨S_, .i32⟩
  | 1 => ⟨S1, .i32⟩
  | 2 => ⟨S_, .i32⟩
  | 3 => ⟨S2, .i64⟩
  | 4 => ⟨S_, .i64⟩
  | 5 => ⟨S2, .i64⟩
  | 6 => ⟨S2, .i64⟩
  | 7 => ⟨S_, .i64⟩
  | 8 => ⟨S2, .i64⟩
  | 9 => ⟨S2, .i64⟩
  | 10 => ⟨S2, .i32⟩
  | 11 => ⟨S2, .i32⟩
  | 12 => ⟨S_, .i32⟩
  | 13 => ⟨S_, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S64x1x128x4000, .f32⟩

abbrev hbmTy0_11 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S2x1, .i32⟩
  | 107 => ⟨S2x1, .i32⟩
  | 108 => ⟨S2x2, .i32⟩
  | 109 => ⟨S1x2, .i32⟩
  | 110 => ⟨S2, .i32⟩
  | 111 => ⟨S1x2, .i32⟩
  | 112 => ⟨S2, .i32⟩
  | 113 => ⟨S1, .i32⟩
  | 114 => ⟨S_, .i32⟩
  | 115 => ⟨S1, .i32⟩
  | 116 => ⟨S_, .i32⟩
  | 117 => ⟨S64, .i64⟩
  | 118 => ⟨S_, .i64⟩
  | 119 => ⟨S64, .i64⟩
  | 120 => ⟨S64, .i64⟩
  | 121 => ⟨S_, .i64⟩
  | 122 => ⟨S64, .i64⟩
  | 123 => ⟨S64, .i64⟩
  | 124 => ⟨S64, .i32⟩
  | 125 => ⟨S64, .i32⟩
  | 126 => ⟨S_, .i32⟩
  | 127 => ⟨S_, .i32⟩
  | _ => ⟨S64x1x128x4000, .f32⟩

abbrev hbmTy0_12 (i : Nat) : BufTy := match i % 128 with
  | 0 => ⟨S_, .i32⟩
  | 1 => ⟨S64, .i32⟩
  | 2 => ⟨S64, .i32⟩
  | 3 => ⟨S64, .i32⟩
  | 4 => ⟨S64, .i32⟩
  | 5 => ⟨S64, .i32⟩
  | 6 => ⟨S_, .i32⟩
  | 7 => ⟨S64, .i32⟩
  | 8 => ⟨S64, .i32⟩
  | 9 => ⟨S_, .i32⟩
  | 10 => ⟨S64, .i32⟩
  | 11 => ⟨S64, .i32⟩
  | 12 => ⟨S64, .i32⟩
  | 13 => ⟨S64, .i32⟩
  | 14 => ⟨S64, .i32⟩
  | 15 => ⟨S_, .i32⟩
  | 16 => ⟨S64, .i32⟩
  | 17 => ⟨S64, .i32⟩
  | 18 => ⟨S_, .i32⟩
  | 19 => ⟨S64, .i32⟩
  | 20 => ⟨S64, .i32⟩
  | 21 => ⟨S64, .i32⟩
  | 22 => ⟨S64, .i32⟩
  | 23 => ⟨S64, .i32⟩
  | 24 => ⟨S_, .i32⟩
  | 25 => ⟨S64, .i32⟩
  | 26 => ⟨S64, .i32⟩
  | 27 => ⟨S_, .i32⟩
  | 28 => ⟨S64, .i32⟩
  | 29 => ⟨S64, .i32⟩
  | 30 => ⟨S64, .i32⟩
  | 31 => ⟨S64, .i32⟩
  | 32 => ⟨S64, .i32⟩
  | 33 => ⟨S_, .i32⟩
  | 34 => ⟨S64, .i32⟩
  | 35 => ⟨S64, .i32⟩
  | 36 => ⟨S_, .i32⟩
  | 37 => ⟨S64, .i32⟩
  | 38 => ⟨S64, .i32⟩
  | 39 => ⟨S64, .i32⟩
  | 40 => ⟨S64, .i32⟩
  | 41 => ⟨S64, .i32⟩
  | 42 => ⟨S64, .i32⟩
  | 43 => ⟨S64, .i32⟩
  | 44 => ⟨S64, .i32⟩
  | 45 => ⟨S_, .i32⟩
  | 46 => ⟨S64, .i32⟩
  | 47 => ⟨S64, .i32⟩
  | 48 => ⟨S64, .i32⟩
  | 49 => ⟨S_, .i32⟩
  | 50 => ⟨S64, .i32⟩
  | 51 => ⟨S64, .i32⟩
  | 52 => ⟨S_, .i32⟩
  | 53 => ⟨S64, .i32⟩
  | 54 => ⟨S64, .i32⟩
  | 55 => ⟨S64, .i32⟩
  | 56 => ⟨S64, .i32⟩
  | 57 => ⟨S64, .i32⟩
  | 58 => ⟨S_, .i32⟩
  | 59 => ⟨S64, .i32⟩
  | 60 => ⟨S64, .i32⟩
  | 61 => ⟨S_, .i32⟩
  | 62 => ⟨S64, .i32⟩
  | 63 => ⟨S64, .i32⟩
  | 64 => ⟨S64, .i32⟩
  | 65 => ⟨S64, .i32⟩
  | 66 => ⟨S64, .i32⟩
  | 67 => ⟨S_, .i32⟩
  | 68 => ⟨S64, .i32⟩
  | 69 => ⟨S64, .i32⟩
  | 70 => ⟨S_, .i32⟩
  | 71 => ⟨S64, .i32⟩
  | 72 => ⟨S64, .i32⟩
  | 73 => ⟨S64, .i32⟩
  | 74 => ⟨S64, .i32⟩
  | 75 => ⟨S64, .i32⟩
  | 76 => ⟨S_, .i32⟩
  | 77 => ⟨S64, .i32⟩
  | 78 => ⟨S64, .i32⟩
  | 79 => ⟨S_, .i32⟩
  | 80 => ⟨S64, .i32⟩
  | 81 => ⟨S64, .i32⟩
  | 82 => ⟨S64, .i32⟩
  | 83 => ⟨S64, .i32⟩
  | 84 => ⟨S64, .i32⟩
  | 85 => ⟨S64, .i32⟩
  | 86 => ⟨S64, .i32⟩
  | 87 => ⟨S64, .i32⟩
  | 88 => ⟨S_, .i32⟩
  | 89 => ⟨S64, .i32⟩
  | 90 => ⟨S64, .i32⟩
  | 91 => ⟨S64, .i32⟩
  | 92 => ⟨S_, .i32⟩
  | 93 => ⟨S64, .i32⟩
  | 94 => ⟨S64, .i32⟩
  | 95 => ⟨S_, .i32⟩
  | 96 => ⟨S64, .i32⟩
  | 97 => ⟨S64, .i32⟩
  | 98 => ⟨S64, .i32⟩
  | 99 => ⟨S64, .i32⟩
  | 100 => ⟨S64, .i32⟩
  | 101 => ⟨S_, .i32⟩
  | 102 => ⟨S64, .i32⟩
  | 103 => ⟨S64, .i32⟩
  | 104 => ⟨S_, .i32⟩
  | 105 => ⟨S64, .i32⟩
  | 106 => ⟨S64, .i32⟩
  | 107 => ⟨S64, .i32⟩
  | 108 => ⟨S64, .i32⟩
  | 109 => ⟨S64, .i32⟩
  | 110 => ⟨S_, .i32⟩
  | 111 => ⟨S64, .i32⟩
  | 112 => ⟨S64, .i32⟩
  | 113 => ⟨S_, .i32⟩
  | 114 => ⟨S64, .i32⟩
  | 115 => ⟨S64, .i32⟩
  | 116 => ⟨S64, .i32⟩
  | 117 => ⟨S64, .i32⟩
  | 118 => ⟨S64, .i32⟩
  | 119 => ⟨S_, .i32⟩
  | 120 => ⟨S64, .i32⟩
  | 121 => ⟨S64, .i32⟩
  | 122 => ⟨S_, .i32⟩
  | 123 => ⟨S64, .i32⟩
  | 124 => ⟨S64, .i32⟩
  | 125 => ⟨S64, .i32⟩
  | 126 => ⟨S64, .i32⟩
  | 127 => ⟨S64, .i32⟩
  | _ => ⟨S64x1x128x4000, .f32⟩

abbrev hbmTy0_13 (i : Nat) : BufTy := match i % 128 with
  | 0 => ⟨S64, .i32⟩
  | 1 => ⟨S64, .i32⟩
  | 2 => ⟨S64, .i32⟩
  | 3 => ⟨S_, .i32⟩
  | 4 => ⟨S64, .i32⟩
  | 5 => ⟨S64, .i32⟩
  | 6 => ⟨S64, .i32⟩
  | 7 => ⟨S_, .i32⟩
  | 8 => ⟨S64, .i32⟩
  | 9 => ⟨S64, .i32⟩
  | 10 => ⟨S_, .i32⟩
  | 11 => ⟨S64, .i32⟩
  | 12 => ⟨S64, .i32⟩
  | 13 => ⟨S64, .i32⟩
  | 14 => ⟨S64, .i32⟩
  | 15 => ⟨S64, .i32⟩
  | 16 => ⟨S_, .i32⟩
  | 17 => ⟨S64, .i32⟩
  | 18 => ⟨S64, .i32⟩
  | 19 => ⟨S_, .i32⟩
  | 20 => ⟨S64, .i32⟩
  | 21 => ⟨S64, .i32⟩
  | 22 => ⟨S64, .i32⟩
  | 23 => ⟨S64, .i32⟩
  | 24 => ⟨S64, .i32⟩
  | 25 => ⟨S_, .i32⟩
  | 26 => ⟨S64, .i32⟩
  | 27 => ⟨S64, .i32⟩
  | 28 => ⟨S_, .i32⟩
  | 29 => ⟨S64, .i32⟩
  | 30 => ⟨S64, .i32⟩
  | 31 => ⟨S64, .i32⟩
  | 32 => ⟨S64, .i32⟩
  | 33 => ⟨S64, .i32⟩
  | 34 => ⟨S_, .i32⟩
  | 35 => ⟨S64, .i32⟩
  | 36 => ⟨S64, .i32⟩
  | 37 => ⟨S_, .i32⟩
  | 38 => ⟨S64, .i32⟩
  | 39 => ⟨S64, .i32⟩
  | 40 => ⟨S64, .i32⟩
  | 41 => ⟨S64, .i32⟩
  | 42 => ⟨S64, .i32⟩
  | 43 => ⟨S64, .i32⟩
  | 44 => ⟨S64, .i32⟩
  | 45 => ⟨S64, .i32⟩
  | 46 => ⟨S_, .i32⟩
  | 47 => ⟨S64, .i32⟩
  | 48 => ⟨S64, .i32⟩
  | 49 => ⟨S64, .i32⟩
  | 50 => ⟨S_, .i32⟩
  | 51 => ⟨S64, .i32⟩
  | 52 => ⟨S64, .i32⟩
  | 53 => ⟨S_, .i32⟩
  | 54 => ⟨S64, .i32⟩
  | 55 => ⟨S64, .i32⟩
  | 56 => ⟨S64, .i32⟩
  | 57 => ⟨S64, .i32⟩
  | 58 => ⟨S64, .i32⟩
  | 59 => ⟨S_, .i32⟩
  | 60 => ⟨S64, .i32⟩
  | 61 => ⟨S64, .i32⟩
  | 62 => ⟨S_, .i32⟩
  | 63 => ⟨S64, .i32⟩
  | 64 => ⟨S64, .i32⟩
  | 65 => ⟨S64, .i32⟩
  | 66 => ⟨S64, .i32⟩
  | 67 => ⟨S64, .i32⟩
  | 68 => ⟨S_, .i32⟩
  | 69 => ⟨S64, .i32⟩
  | 70 => ⟨S64, .i32⟩
  | 71 => ⟨S_, .i32⟩
  | 72 => ⟨S64, .i32⟩
  | 73 => ⟨S64, .i32⟩
  | 74 => ⟨S64, .i32⟩
  | 75 => ⟨S64, .i32⟩
  | 76 => ⟨S64, .i32⟩
  | 77 => ⟨S_, .i32⟩
  | 78 => ⟨S64, .i32⟩
  | 79 => ⟨S64, .i32⟩
  | 80 => ⟨S_, .i32⟩
  | 81 => ⟨S64, .i32⟩
  | 82 => ⟨S64, .i32⟩
  | 83 => ⟨S64, .i32⟩
  | 84 => ⟨S64, .i32⟩
  | 85 => ⟨S64, .i32⟩
  | 86 => ⟨S64, .i32⟩
  | 87 => ⟨S64, .i32⟩
  | 88 => ⟨S64, .i32⟩
  | 89 => ⟨S_, .i32⟩
  | 90 => ⟨S64, .i32⟩
  | 91 => ⟨S64, .i32⟩
  | 92 => ⟨S64, .i32⟩
  | 93 => ⟨S1, .i32⟩
  | 94 => ⟨S_, .i32⟩
  | 95 => ⟨S1, .i32⟩
  | 96 => ⟨S_, .i32⟩
  | 97 => ⟨S64, .i64⟩
  | 98 => ⟨S_, .i64⟩
  | 99 => ⟨S64, .i64⟩
  | 100 => ⟨S64, .i64⟩
  | 101 => ⟨S_, .i64⟩
  | 102 => ⟨S64, .i64⟩
  | 103 => ⟨S64, .i64⟩
  | 104 => ⟨S64, .i32⟩
  | 105 => ⟨S64, .i32⟩
  | 106 => ⟨S_, .i32⟩
  | 107 => ⟨S_, .i32⟩
  | 108 => ⟨S_, .i32⟩
  | 109 => ⟨S64, .i32⟩
  | 110 => ⟨S64, .i32⟩
  | 111 => ⟨S64, .i32⟩
  | 112 => ⟨S64, .i32⟩
  | 113 => ⟨S64, .i32⟩
  | 114 => ⟨S_, .i32⟩
  | 115 => ⟨S64, .i32⟩
  | 116 => ⟨S64, .i32⟩
  | 117 => ⟨S_, .i32⟩
  | 118 => ⟨S64, .i32⟩
  | 119 => ⟨S64, .i32⟩
  | 120 => ⟨S64, .i32⟩
  | 121 => ⟨S64, .i32⟩
  | 122 => ⟨S64, .i32⟩
  | 123 => ⟨S_, .i32⟩
  | 124 => ⟨S64, .i32⟩
  | 125 => ⟨S64, .i32⟩
  | 126 => ⟨S_, .i32⟩
  | 127 => ⟨S64, .i32⟩
  | _ => ⟨S64x1x128x4000, .f32⟩

abbrev hbmTy0_14 (i : Nat) : BufTy := match i % 128 with
  | 0 => ⟨S64, .i32⟩
  | 1 => ⟨S64, .i32⟩
  | 2 => ⟨S64, .i32⟩
  | 3 => ⟨S64, .i32⟩
  | 4 => ⟨S_, .i32⟩
  | 5 => ⟨S64, .i32⟩
  | 6 => ⟨S64, .i32⟩
  | 7 => ⟨S_, .i32⟩
  | 8 => ⟨S64, .i32⟩
  | 9 => ⟨S64, .i32⟩
  | 10 => ⟨S64, .i32⟩
  | 11 => ⟨S64, .i32⟩
  | 12 => ⟨S64, .i32⟩
  | 13 => ⟨S_, .i32⟩
  | 14 => ⟨S64, .i32⟩
  | 15 => ⟨S64, .i32⟩
  | 16 => ⟨S_, .i32⟩
  | 17 => ⟨S64, .i32⟩
  | 18 => ⟨S64, .i32⟩
  | 19 => ⟨S64, .i32⟩
  | 20 => ⟨S64, .i32⟩
  | 21 => ⟨S64, .i32⟩
  | 22 => ⟨S64, .i32⟩
  | 23 => ⟨S64, .i32⟩
  | 24 => ⟨S64, .i32⟩
  | 25 => ⟨S_, .i32⟩
  | 26 => ⟨S64, .i32⟩
  | 27 => ⟨S64, .i32⟩
  | 28 => ⟨S64, .i32⟩
  | 29 => ⟨S_, .i32⟩
  | 30 => ⟨S64, .i32⟩
  | 31 => ⟨S64, .i32⟩
  | 32 => ⟨S_, .i32⟩
  | 33 => ⟨S64, .i32⟩
  | 34 => ⟨S64, .i32⟩
  | 35 => ⟨S64, .i32⟩
  | 36 => ⟨S64, .i32⟩
  | 37 => ⟨S64, .i32⟩
  | 38 => ⟨S_, .i32⟩
  | 39 => ⟨S64, .i32⟩
  | 40 => ⟨S64, .i32⟩
  | 41 => ⟨S_, .i32⟩
  | 42 => ⟨S64, .i32⟩
  | 43 => ⟨S64, .i32⟩
  | 44 => ⟨S64, .i32⟩
  | 45 => ⟨S64, .i32⟩
  | 46 => ⟨S64, .i32⟩
  | 47 => ⟨S_, .i32⟩
  | 48 => ⟨S64, .i32⟩
  | 49 => ⟨S64, .i32⟩
  | 50 => ⟨S_, .i32⟩
  | 51 => ⟨S64, .i32⟩
  | 52 => ⟨S64, .i32⟩
  | 53 => ⟨S64, .i32⟩
  | 54 => ⟨S64, .i32⟩
  | 55 => ⟨S64, .i32⟩
  | 56 => ⟨S_, .i32⟩
  | 57 => ⟨S64, .i32⟩
  | 58 => ⟨S64, .i32⟩
  | 59 => ⟨S_, .i32⟩
  | 60 => ⟨S64, .i32⟩
  | 61 => ⟨S64, .i32⟩
  | 62 => ⟨S64, .i32⟩
  | 63 => ⟨S64, .i32⟩
  | 64 => ⟨S64, .i32⟩
  | 65 => ⟨S64, .i32⟩
  | 66 => ⟨S64, .i32⟩
  | 67 => ⟨S64, .i32⟩
  | 68 => ⟨S_, .i32⟩
  | 69 => ⟨S64, .i32⟩
  | 70 => ⟨S64, .i32⟩
  | 71 => ⟨S64, .i32⟩
  | 72 => ⟨S_, .i32⟩
  | 73 => ⟨S64, .i32⟩
  | 74 => ⟨S64, .i32⟩
  | 75 => ⟨S_, .i32⟩
  | 76 => ⟨S64, .i32⟩
  | 77 => ⟨S64, .i32⟩
  | 78 => ⟨S64, .i32⟩
  | 79 => ⟨S64, .i32⟩
  | 80 => ⟨S64, .i32⟩
  | 81 => ⟨S_, .i32⟩
  | 82 => ⟨S64, .i32⟩
  | 83 => ⟨S64, .i32⟩
  | 84 => ⟨S_, .i32⟩
  | 85 => ⟨S64, .i32⟩
  | 86 => ⟨S64, .i32⟩
  | 87 => ⟨S64, .i32⟩
  | 88 => ⟨S64, .i32⟩
  | 89 => ⟨S64, .i32⟩
  | 90 => ⟨S_, .i32⟩
  | 91 => ⟨S64, .i32⟩
  | 92 => ⟨S64, .i32⟩
  | 93 => ⟨S_, .i32⟩
  | 94 => ⟨S64, .i32⟩
  | 95 => ⟨S64, .i32⟩
  | 96 => ⟨S64, .i32⟩
  | 97 => ⟨S64, .i32⟩
  | 98 => ⟨S64, .i32⟩
  | 99 => ⟨S_, .i32⟩
  | 100 => ⟨S64, .i32⟩
  | 101 => ⟨S64, .i32⟩
  | 102 => ⟨S_, .i32⟩
  | 103 => ⟨S64, .i32⟩
  | 104 => ⟨S64, .i32⟩
  | 105 => ⟨S64, .i32⟩
  | 106 => ⟨S64, .i32⟩
  | 107 => ⟨S64, .i32⟩
  | 108 => ⟨S64, .i32⟩
  | 109 => ⟨S64, .i32⟩
  | 110 => ⟨S64, .i32⟩
  | 111 => ⟨S_, .i32⟩
  | 112 => ⟨S64, .i32⟩
  | 113 => ⟨S64, .i32⟩
  | 114 => ⟨S64, .i32⟩
  | 115 => ⟨S_, .i32⟩
  | 116 => ⟨S64, .i32⟩
  | 117 => ⟨S64, .i32⟩
  | 118 => ⟨S_, .i32⟩
  | 119 => ⟨S64, .i32⟩
  | 120 => ⟨S64, .i32⟩
  | 121 => ⟨S64, .i32⟩
  | 122 => ⟨S64, .i32⟩
  | 123 => ⟨S64, .i32⟩
  | 124 => ⟨S_, .i32⟩
  | 125 => ⟨S64, .i32⟩
  | 126 => ⟨S64, .i32⟩
  | 127 => ⟨S_, .i32⟩
  | _ => ⟨S64x1x128x4000, .f32⟩

abbrev hbmTy0_15 (i : Nat) : BufTy := match i % 128 with
  | 0 => ⟨S64, .i32⟩
  | 1 => ⟨S64, .i32⟩
  | 2 => ⟨S64, .i32⟩
  | 3 => ⟨S64, .i32⟩
  | 4 => ⟨S64, .i32⟩
  | 5 => ⟨S_, .i32⟩
  | 6 => ⟨S64, .i32⟩
  | 7 => ⟨S64, .i32⟩
  | 8 => ⟨S_, .i32⟩
  | 9 => ⟨S64, .i32⟩
  | 10 => ⟨S64, .i32⟩
  | 11 => ⟨S64, .i32⟩
  | 12 => ⟨S64, .i32⟩
  | 13 => ⟨S64, .i32⟩
  | 14 => ⟨S_, .i32⟩
  | 15 => ⟨S64, .i32⟩
  | 16 => ⟨S64, .i32⟩
  | 17 => ⟨S_, .i32⟩
  | 18 => ⟨S64, .i32⟩
  | 19 => ⟨S64, .i32⟩
  | 20 => ⟨S64, .i32⟩
  | 21 => ⟨S64, .i32⟩
  | 22 => ⟨S64, .i32⟩
  | 23 => ⟨S64, .i32⟩
  | 24 => ⟨S64, .i32⟩
  | 25 => ⟨S64, .i32⟩
  | 26 => ⟨S_, .i32⟩
  | 27 => ⟨S64, .i32⟩
  | 28 => ⟨S64, .i32⟩
  | 29 => ⟨S64, .i32⟩
  | 30 => ⟨S_, .i32⟩
  | 31 => ⟨S64, .i32⟩
  | 32 => ⟨S64, .i32⟩
  | 33 => ⟨S_, .i32⟩
  | 34 => ⟨S64, .i32⟩
  | 35 => ⟨S64, .i32⟩
  | 36 => ⟨S64, .i32⟩
  | 37 => ⟨S64, .i32⟩
  | 38 => ⟨S64, .i32⟩
  | 39 => ⟨S_, .i32⟩
  | 40 => ⟨S64, .i32⟩
  | 41 => ⟨S64, .i32⟩
  | 42 => ⟨S_, .i32⟩
  | 43 => ⟨S64, .i32⟩
  | 44 => ⟨S64, .i32⟩
  | 45 => ⟨S64, .i32⟩
  | 46 => ⟨S64, .i32⟩
  | 47 => ⟨S64, .i32⟩
  | 48 => ⟨S_, .i32⟩
  | 49 => ⟨S64, .i32⟩
  | 50 => ⟨S64, .i32⟩
  | 51 => ⟨S_, .i32⟩
  | 52 => ⟨S64, .i32⟩
  | 53 => ⟨S64, .i32⟩
  | 54 => ⟨S64, .i32⟩
  | 55 => ⟨S64, .i32⟩
  | 56 => ⟨S64, .i32⟩
  | 57 => ⟨S_, .i32⟩
  | 58 => ⟨S64, .i32⟩
  | 59 => ⟨S64, .i32⟩
  | 60 => ⟨S_, .i32⟩
  | 61 => ⟨S64, .i32⟩
  | 62 => ⟨S64, .i32⟩
  | 63 => ⟨S64, .i32⟩
  | 64 => ⟨S64, .i32⟩
  | 65 => ⟨S64, .i32⟩
  | 66 => ⟨S64, .i32⟩
  | 67 => ⟨S64, .i32⟩
  | 68 => ⟨S64, .i32⟩
  | 69 => ⟨S_, .i32⟩
  | 70 => ⟨S64, .i32⟩
  | 71 => ⟨S64, .i32⟩
  | 72 => ⟨S64, .i32⟩
  | 73 => ⟨S1, .i32⟩
  | 74 => ⟨S1, .i32⟩
  | 75 => ⟨S1, .i1⟩
  | 76 => ⟨S_, .i32⟩
  | 77 => ⟨S1, .i32⟩
  | 78 => ⟨S1, .i32⟩
  | 79 => ⟨S1, .i1⟩
  | 80 => ⟨S1, .i1⟩
  | 81 => ⟨S1, .i1⟩
  | 82 => ⟨S_, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S1, .i32⟩
  | 90 => ⟨S1, .i32⟩
  | 91 => ⟨S64, .i32⟩
  | 92 => ⟨S64, .i32⟩
  | 93 => ⟨S64, .i32⟩
  | 94 => ⟨S64, .i32⟩
  | 95 => ⟨S64, .i32⟩
  | 96 => ⟨S64, .i32⟩
  | 97 => ⟨S64, .i32⟩
  | 98 => ⟨S64, .i32⟩
  | 99 => ⟨S64, .i32⟩
  | 100 => ⟨S64, .i32⟩
  | 101 => ⟨S64, .i32⟩
  | 102 => ⟨S64, .i32⟩
  | 103 => ⟨S64x1, .i32⟩
  | 104 => ⟨S64x1, .i32⟩
  | 105 => ⟨S64x2, .i32⟩
  | 106 => ⟨S64x2x1, .i32⟩
  | 107 => ⟨S64x2x16, .i32⟩
  | 108 => ⟨S64x128x4000, .f32⟩
  | 109 => ⟨S64x128x4000, .f32⟩
  | 110 => ⟨S64x1x128x4000, .f32⟩
  | _ => ⟨S64x1x128x4000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | _ => ⟨S64x1x128x4000, .f32⟩

abbrev bufTy : (tb : Table) → Fin (nBuf tb) → BufTy
  | .hbm, ⟨i, _⟩ => hbmTy i
  | .local .scVector .vmem, ⟨0, _⟩ => ⟨S2x16, .i32⟩
  | .local .scVector .vmem, ⟨1, _⟩ => ⟨S8x4000, .f32⟩
  | _, _ => ⟨S64x1x128x4000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_call0_v0 : Ref sig .tc := ⟨.hbm, 25, rfl⟩
abbrev main_call0_call0_c : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_c_0 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_c_1 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_call0_v12 : Ref sig .tc := ⟨.hbm, 40, rfl⟩
abbrev main_call0_call0_v13 : Ref sig .tc := ⟨.hbm, 41, rfl⟩
abbrev main_call0_call0_c_2 : Ref sig .tc := ⟨.hbm, 42, rfl⟩
abbrev main_call0_call0_v14 : Ref sig .tc := ⟨.hbm, 43, rfl⟩
abbrev main_call0_call0_v15 : Ref sig .tc := ⟨.hbm, 44, rfl⟩
abbrev main_call0_call0_c_3 : Ref sig .tc := ⟨.hbm, 45, rfl⟩
abbrev main_call0_call0_v16 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_c_4 : Ref sig .tc := ⟨.hbm, 51, rfl⟩
abbrev main_call0_call0_v21 : Ref sig .tc := ⟨.hbm, 52, rfl⟩
abbrev main_call0_call0_v22 : Ref sig .tc := ⟨.hbm, 53, rfl⟩
abbrev main_call0_call0_c_5 : Ref sig .tc := ⟨.hbm, 54, rfl⟩
abbrev main_call0_call0_v23 : Ref sig .tc := ⟨.hbm, 55, rfl⟩
abbrev main_call0_call0_v24 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_v27 : Ref sig .tc := ⟨.hbm, 59, rfl⟩
abbrev main_call0_call0_c_6 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_c_7 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_v32 : Ref sig .tc := ⟨.hbm, 66, rfl⟩
abbrev main_call0_call0_v33 : Ref sig .tc := ⟨.hbm, 67, rfl⟩
abbrev main_call0_call0_v34 : Ref sig .tc := ⟨.hbm, 68, rfl⟩
abbrev main_call0_call0_v35 : Ref sig .tc := ⟨.hbm, 69, rfl⟩
abbrev main_call0_call0_v36 : Ref sig .tc := ⟨.hbm, 70, rfl⟩
abbrev main_call0_call0_v37 : Ref sig .tc := ⟨.hbm, 71, rfl⟩
abbrev main_call0_call0_c_8 : Ref sig .tc := ⟨.hbm, 72, rfl⟩
abbrev main_call0_call0_v38 : Ref sig .tc := ⟨.hbm, 73, rfl⟩
abbrev main_call0_call0_v39 : Ref sig .tc := ⟨.hbm, 74, rfl⟩
abbrev main_call0_call0_v40 : Ref sig .tc := ⟨.hbm, 75, rfl⟩
abbrev main_call0_call0_c_9 : Ref sig .tc := ⟨.hbm, 76, rfl⟩
abbrev main_call0_call0_v41 : Ref sig .tc := ⟨.hbm, 77, rfl⟩
abbrev main_call0_call0_v42 : Ref sig .tc := ⟨.hbm, 78, rfl⟩
abbrev main_call0_call0_c_10 : Ref sig .tc := ⟨.hbm, 79, rfl⟩
abbrev main_call0_call0_v43 : Ref sig .tc := ⟨.hbm, 80, rfl⟩
abbrev main_call0_call0_v44 : Ref sig .tc := ⟨.hbm, 81, rfl⟩
abbrev main_call0_call0_v45 : Ref sig .tc := ⟨.hbm, 82, rfl⟩
abbrev main_call0_call0_v46 : Ref sig .tc := ⟨.hbm, 83, rfl⟩
abbrev main_call0_call0_v47 : Ref sig .tc := ⟨.hbm, 84, rfl⟩
abbrev main_call0_call0_c_11 : Ref sig .tc := ⟨.hbm, 85, rfl⟩
abbrev main_call0_call0_v48 : Ref sig .tc := ⟨.hbm, 86, rfl⟩
abbrev main_call0_call0_v49 : Ref sig .tc := ⟨.hbm, 87, rfl⟩
abbrev main_call0_call0_c_12 : Ref sig .tc := ⟨.hbm, 88, rfl⟩
abbrev main_call0_call0_v50 : Ref sig .tc := ⟨.hbm, 89, rfl⟩
abbrev main_call0_call0_v51 : Ref sig .tc := ⟨.hbm, 90, rfl⟩
abbrev main_call0_call0_v52 : Ref sig .tc := ⟨.hbm, 91, rfl⟩
abbrev main_call0_call0_v53 : Ref sig .tc := ⟨.hbm, 92, rfl⟩
abbrev main_call0_call0_v54 : Ref sig .tc := ⟨.hbm, 93, rfl⟩
abbrev main_call0_call0_c_13 : Ref sig .tc := ⟨.hbm, 94, rfl⟩
abbrev main_call0_call0_v55 : Ref sig .tc := ⟨.hbm, 95, rfl⟩
abbrev main_call0_call0_v56 : Ref sig .tc := ⟨.hbm, 96, rfl⟩
abbrev main_call0_call0_c_14 : Ref sig .tc := ⟨.hbm, 97, rfl⟩
abbrev main_call0_call0_v57 : Ref sig .tc := ⟨.hbm, 98, rfl⟩
abbrev main_call0_call0_v58 : Ref sig .tc := ⟨.hbm, 99, rfl⟩
abbrev main_call0_call0_v59 : Ref sig .tc := ⟨.hbm, 100, rfl⟩
abbrev main_call0_call0_v60 : Ref sig .tc := ⟨.hbm, 101, rfl⟩
abbrev main_call0_call0_v61 : Ref sig .tc := ⟨.hbm, 102, rfl⟩
abbrev main_call0_call0_c_15 : Ref sig .tc := ⟨.hbm, 103, rfl⟩
abbrev main_call0_call0_v62 : Ref sig .tc := ⟨.hbm, 104, rfl⟩
abbrev main_call0_call0_v63 : Ref sig .tc := ⟨.hbm, 105, rfl⟩
abbrev main_call0_call0_c_16 : Ref sig .tc := ⟨.hbm, 106, rfl⟩
abbrev main_call0_call0_v64 : Ref sig .tc := ⟨.hbm, 107, rfl⟩
abbrev main_call0_call0_v65 : Ref sig .tc := ⟨.hbm, 108, rfl⟩
abbrev main_call0_call0_v66 : Ref sig .tc := ⟨.hbm, 109, rfl⟩
abbrev main_call0_call0_v67 : Ref sig .tc := ⟨.hbm, 110, rfl⟩
abbrev main_call0_call0_v68 : Ref sig .tc := ⟨.hbm, 111, rfl⟩
abbrev main_call0_call0_v69 : Ref sig .tc := ⟨.hbm, 112, rfl⟩
abbrev main_call0_call0_v70 : Ref sig .tc := ⟨.hbm, 113, rfl⟩
abbrev main_call0_call0_v71 : Ref sig .tc := ⟨.hbm, 114, rfl⟩
abbrev main_call0_call0_c_17 : Ref sig .tc := ⟨.hbm, 115, rfl⟩
abbrev main_call0_call0_v72 : Ref sig .tc := ⟨.hbm, 116, rfl⟩
abbrev main_call0_call0_v73 : Ref sig .tc := ⟨.hbm, 117, rfl⟩
abbrev main_call0_call0_v74 : Ref sig .tc := ⟨.hbm, 118, rfl⟩
abbrev main_call0_call0_c_18 : Ref sig .tc := ⟨.hbm, 119, rfl⟩
abbrev main_call0_call0_v75 : Ref sig .tc := ⟨.hbm, 120, rfl⟩
abbrev main_call0_call0_v76 : Ref sig .tc := ⟨.hbm, 121, rfl⟩
abbrev main_call0_call0_c_19 : Ref sig .tc := ⟨.hbm, 122, rfl⟩
abbrev main_call0_call0_v77 : Ref sig .tc := ⟨.hbm, 123, rfl⟩
abbrev main_call0_call0_v78 : Ref sig .tc := ⟨.hbm, 124, rfl⟩
abbrev main_call0_call0_v79 : Ref sig .tc := ⟨.hbm, 125, rfl⟩
abbrev main_call0_call0_v80 : Ref sig .tc := ⟨.hbm, 126, rfl⟩
abbrev main_call0_call0_v81 : Ref sig .tc := ⟨.hbm, 127, rfl⟩
abbrev main_call0_call0_c_20 : Ref sig .tc := ⟨.hbm, 128, rfl⟩
abbrev main_call0_call0_v82 : Ref sig .tc := ⟨.hbm, 129, rfl⟩
abbrev main_call0_call0_v83 : Ref sig .tc := ⟨.hbm, 130, rfl⟩
abbrev main_call0_call0_c_21 : Ref sig .tc := ⟨.hbm, 131, rfl⟩
abbrev main_call0_call0_v84 : Ref sig .tc := ⟨.hbm, 132, rfl⟩
abbrev main_call0_call0_v85 : Ref sig .tc := ⟨.hbm, 133, rfl⟩
abbrev main_call0_call0_v86 : Ref sig .tc := ⟨.hbm, 134, rfl⟩
abbrev main_call0_call0_v87 : Ref sig .tc := ⟨.hbm, 135, rfl⟩
abbrev main_call0_call0_v88 : Ref sig .tc := ⟨.hbm, 136, rfl⟩
abbrev main_call0_call0_c_22 : Ref sig .tc := ⟨.hbm, 137, rfl⟩
abbrev main_call0_call0_v89 : Ref sig .tc := ⟨.hbm, 138, rfl⟩
abbrev main_call0_call0_v90 : Ref sig .tc := ⟨.hbm, 139, rfl⟩
abbrev main_call0_call0_c_23 : Ref sig .tc := ⟨.hbm, 140, rfl⟩
abbrev main_call0_call0_v91 : Ref sig .tc := ⟨.hbm, 141, rfl⟩
abbrev main_call0_call0_v92 : Ref sig .tc := ⟨.hbm, 142, rfl⟩
abbrev main_call0_call0_v93 : Ref sig .tc := ⟨.hbm, 143, rfl⟩
abbrev main_call0_call0_v94 : Ref sig .tc := ⟨.hbm, 144, rfl⟩
abbrev main_call0_call0_v95 : Ref sig .tc := ⟨.hbm, 145, rfl⟩
abbrev main_call0_call0_c_24 : Ref sig .tc := ⟨.hbm, 146, rfl⟩
abbrev main_call0_call0_v96 : Ref sig .tc := ⟨.hbm, 147, rfl⟩
abbrev main_call0_call0_v97 : Ref sig .tc := ⟨.hbm, 148, rfl⟩
abbrev main_call0_call0_c_25 : Ref sig .tc := ⟨.hbm, 149, rfl⟩
abbrev main_call0_call0_v98 : Ref sig .tc := ⟨.hbm, 150, rfl⟩
abbrev main_call0_call0_v99 : Ref sig .tc := ⟨.hbm, 151, rfl⟩
abbrev main_call0_call0_v100 : Ref sig .tc := ⟨.hbm, 152, rfl⟩
abbrev main_call0_call0_v101 : Ref sig .tc := ⟨.hbm, 153, rfl⟩
abbrev main_call0_call0_v102 : Ref sig .tc := ⟨.hbm, 154, rfl⟩
abbrev main_call0_call0_v103 : Ref sig .tc := ⟨.hbm, 155, rfl⟩
abbrev main_call0_call0_v104 : Ref sig .tc := ⟨.hbm, 156, rfl⟩
abbrev main_call0_call0_v105 : Ref sig .tc := ⟨.hbm, 157, rfl⟩
abbrev main_call0_call0_c_26 : Ref sig .tc := ⟨.hbm, 158, rfl⟩
abbrev main_call0_call0_v106 : Ref sig .tc := ⟨.hbm, 159, rfl⟩
abbrev main_call0_call0_v107 : Ref sig .tc := ⟨.hbm, 160, rfl⟩
abbrev main_call0_call0_v108 : Ref sig .tc := ⟨.hbm, 161, rfl⟩
abbrev main_call0_call0_c_27 : Ref sig .tc := ⟨.hbm, 162, rfl⟩
abbrev main_call0_call0_v109 : Ref sig .tc := ⟨.hbm, 163, rfl⟩
abbrev main_call0_call0_v110 : Ref sig .tc := ⟨.hbm, 164, rfl⟩
abbrev main_call0_call0_c_28 : Ref sig .tc := ⟨.hbm, 165, rfl⟩
abbrev main_call0_call0_v111 : Ref sig .tc := ⟨.hbm, 166, rfl⟩
abbrev main_call0_call0_v112 : Ref sig .tc := ⟨.hbm, 167, rfl⟩
abbrev main_call0_call0_v113 : Ref sig .tc := ⟨.hbm, 168, rfl⟩
abbrev main_call0_call0_v114 : Ref sig .tc := ⟨.hbm, 169, rfl⟩
abbrev main_call0_call0_v115 : Ref sig .tc := ⟨.hbm, 170, rfl⟩
abbrev main_call0_call0_c_29 : Ref sig .tc := ⟨.hbm, 171, rfl⟩
abbrev main_call0_call0_v116 : Ref sig .tc := ⟨.hbm, 172, rfl⟩
abbrev main_call0_call0_v117 : Ref sig .tc := ⟨.hbm, 173, rfl⟩
abbrev main_call0_call0_c_30 : Ref sig .tc := ⟨.hbm, 174, rfl⟩
abbrev main_call0_call0_v118 : Ref sig .tc := ⟨.hbm, 175, rfl⟩
abbrev main_call0_call0_v119 : Ref sig .tc := ⟨.hbm, 176, rfl⟩
abbrev main_call0_call0_v120 : Ref sig .tc := ⟨.hbm, 177, rfl⟩
abbrev main_call0_call0_v121 : Ref sig .tc := ⟨.hbm, 178, rfl⟩
abbrev main_call0_call0_v122 : Ref sig .tc := ⟨.hbm, 179, rfl⟩
abbrev main_call0_call0_c_31 : Ref sig .tc := ⟨.hbm, 180, rfl⟩
abbrev main_call0_call0_v123 : Ref sig .tc := ⟨.hbm, 181, rfl⟩
abbrev main_call0_call0_v124 : Ref sig .tc := ⟨.hbm, 182, rfl⟩
abbrev main_call0_call0_c_32 : Ref sig .tc := ⟨.hbm, 183, rfl⟩
abbrev main_call0_call0_v125 : Ref sig .tc := ⟨.hbm, 184, rfl⟩
abbrev main_call0_call0_v126 : Ref sig .tc := ⟨.hbm, 185, rfl⟩
abbrev main_call0_call0_v127 : Ref sig .tc := ⟨.hbm, 186, rfl⟩
abbrev main_call0_call0_v128 : Ref sig .tc := ⟨.hbm, 187, rfl⟩
abbrev main_call0_call0_v129 : Ref sig .tc := ⟨.hbm, 188, rfl⟩
abbrev main_call0_call0_c_33 : Ref sig .tc := ⟨.hbm, 189, rfl⟩
abbrev main_call0_call0_v130 : Ref sig .tc := ⟨.hbm, 190, rfl⟩
abbrev main_call0_call0_v131 : Ref sig .tc := ⟨.hbm, 191, rfl⟩
abbrev main_call0_call0_c_34 : Ref sig .tc := ⟨.hbm, 192, rfl⟩
abbrev main_call0_call0_v132 : Ref sig .tc := ⟨.hbm, 193, rfl⟩
abbrev main_call0_call0_v133 : Ref sig .tc := ⟨.hbm, 194, rfl⟩
abbrev main_call0_call0_v134 : Ref sig .tc := ⟨.hbm, 195, rfl⟩
abbrev main_call0_call0_v135 : Ref sig .tc := ⟨.hbm, 196, rfl⟩
abbrev main_call0_call0_v136 : Ref sig .tc := ⟨.hbm, 197, rfl⟩
abbrev main_call0_call0_v137 : Ref sig .tc := ⟨.hbm, 198, rfl⟩
abbrev main_call0_call0_v138 : Ref sig .tc := ⟨.hbm, 199, rfl⟩
abbrev main_call0_call0_v139 : Ref sig .tc := ⟨.hbm, 200, rfl⟩
abbrev main_call0_call0_c_35 : Ref sig .tc := ⟨.hbm, 201, rfl⟩
abbrev main_call0_call0_v140 : Ref sig .tc := ⟨.hbm, 202, rfl⟩
abbrev main_call0_call0_v141 : Ref sig .tc := ⟨.hbm, 203, rfl⟩
abbrev main_call0_call0_v142 : Ref sig .tc := ⟨.hbm, 204, rfl⟩
abbrev main_call0_call0_c_36 : Ref sig .tc := ⟨.hbm, 205, rfl⟩
abbrev main_call0_call0_v143 : Ref sig .tc := ⟨.hbm, 206, rfl⟩
abbrev main_call0_call0_v144 : Ref sig .tc := ⟨.hbm, 207, rfl⟩
abbrev main_call0_call0_c_37 : Ref sig .tc := ⟨.hbm, 208, rfl⟩
abbrev main_call0_call0_v145 : Ref sig .tc := ⟨.hbm, 209, rfl⟩
abbrev main_call0_call0_v146 : Ref sig .tc := ⟨.hbm, 210, rfl⟩
abbrev main_call0_call0_v147 : Ref sig .tc := ⟨.hbm, 211, rfl⟩
abbrev main_call0_call0_v148 : Ref sig .tc := ⟨.hbm, 212, rfl⟩
abbrev main_call0_call0_v149 : Ref sig .tc := ⟨.hbm, 213, rfl⟩
abbrev main_call0_call0_c_38 : Ref sig .tc := ⟨.hbm, 214, rfl⟩
abbrev main_call0_call0_v150 : Ref sig .tc := ⟨.hbm, 215, rfl⟩
abbrev main_call0_call0_v151 : Ref sig .tc := ⟨.hbm, 216, rfl⟩
abbrev main_call0_call0_c_39 : Ref sig .tc := ⟨.hbm, 217, rfl⟩
abbrev main_call0_call0_v152 : Ref sig .tc := ⟨.hbm, 218, rfl⟩
abbrev main_call0_call0_v153 : Ref sig .tc := ⟨.hbm, 219, rfl⟩
abbrev main_call0_call0_v154 : Ref sig .tc := ⟨.hbm, 220, rfl⟩
abbrev main_call0_call0_v155 : Ref sig .tc := ⟨.hbm, 221, rfl⟩
abbrev main_call0_call0_v156 : Ref sig .tc := ⟨.hbm, 222, rfl⟩
abbrev main_call0_call0_c_40 : Ref sig .tc := ⟨.hbm, 223, rfl⟩
abbrev main_call0_call0_v157 : Ref sig .tc := ⟨.hbm, 224, rfl⟩
abbrev main_call0_call0_v158 : Ref sig .tc := ⟨.hbm, 225, rfl⟩
abbrev main_call0_call0_c_41 : Ref sig .tc := ⟨.hbm, 226, rfl⟩
abbrev main_call0_call0_v159 : Ref sig .tc := ⟨.hbm, 227, rfl⟩
abbrev main_call0_call0_v160 : Ref sig .tc := ⟨.hbm, 228, rfl⟩
abbrev main_call0_call0_v161 : Ref sig .tc := ⟨.hbm, 229, rfl⟩
abbrev main_call0_call0_v162 : Ref sig .tc := ⟨.hbm, 230, rfl⟩
abbrev main_call0_call0_v163 : Ref sig .tc := ⟨.hbm, 231, rfl⟩
abbrev main_call0_call0_c_42 : Ref sig .tc := ⟨.hbm, 232, rfl⟩
abbrev main_call0_call0_v164 : Ref sig .tc := ⟨.hbm, 233, rfl⟩
abbrev main_call0_call0_v165 : Ref sig .tc := ⟨.hbm, 234, rfl⟩
abbrev main_call0_call0_c_43 : Ref sig .tc := ⟨.hbm, 235, rfl⟩
abbrev main_call0_call0_v166 : Ref sig .tc := ⟨.hbm, 236, rfl⟩
abbrev main_call0_call0_v167 : Ref sig .tc := ⟨.hbm, 237, rfl⟩
abbrev main_call0_call0_v168 : Ref sig .tc := ⟨.hbm, 238, rfl⟩
abbrev main_call0_call0_v169 : Ref sig .tc := ⟨.hbm, 239, rfl⟩
abbrev main_call0_call0_v170 : Ref sig .tc := ⟨.hbm, 240, rfl⟩
abbrev main_call0_v11_0 : Ref sig .tc := ⟨.hbm, 241, rfl⟩
abbrev main_call0_call0_v172 : Ref sig .tc := ⟨.hbm, 242, rfl⟩
abbrev main_call0_call0_v173 : Ref sig .tc := ⟨.hbm, 243, rfl⟩
abbrev main_call0_call0_c_44 : Ref sig .tc := ⟨.hbm, 244, rfl⟩
abbrev main_call0_call0_v174 : Ref sig .tc := ⟨.hbm, 245, rfl⟩
abbrev main_call0_v11_1 : Ref sig .tc := ⟨.hbm, 246, rfl⟩
abbrev main_v7 : Ref sig .tc := ⟨.hbm, 247, rfl⟩
abbrev main_c_3 : Ref sig .tc := ⟨.hbm, 248, rfl⟩
abbrev main_c_4 : Ref sig .tc := ⟨.hbm, 249, rfl⟩
abbrev main_call1_c : Ref sig .tc := ⟨.hbm, 250, rfl⟩
abbrev main_call1_c_0 : Ref sig .tc := ⟨.hbm, 251, rfl⟩
abbrev main_call1_c_1 : Ref sig .tc := ⟨.hbm, 252, rfl⟩
abbrev main_call1_call0_v0 : Ref sig .tc := ⟨.hbm, 253, rfl⟩
abbrev main_call1_v0 : Ref sig .tc := ⟨.hbm, 254, rfl⟩
abbrev main_call1_v1 : Ref sig .tc := ⟨.hbm, 255, rfl⟩
abbrev main_call1_c_2 : Ref sig .tc := ⟨.hbm, 256, rfl⟩
abbrev main_call1_c_3 : Ref sig .tc := ⟨.hbm, 257, rfl⟩
abbrev main_call1_call1_v0 : Ref sig .tc := ⟨.hbm, 258, rfl⟩
abbrev main_call1_v2 : Ref sig .tc := ⟨.hbm, 259, rfl⟩
abbrev main_call1_v3 : Ref sig .tc := ⟨.hbm, 260, rfl⟩
abbrev main_call1_c_4 : Ref sig .tc := ⟨.hbm, 261, rfl⟩
abbrev main_call1_c_5 : Ref sig .tc := ⟨.hbm, 262, rfl⟩
abbrev main_call1_call2_v0 : Ref sig .tc := ⟨.hbm, 263, rfl⟩
abbrev main_call1_v4 : Ref sig .tc := ⟨.hbm, 264, rfl⟩
abbrev main_call1_v5 : Ref sig .tc := ⟨.hbm, 265, rfl⟩
abbrev main_call1_v6 : Ref sig .tc := ⟨.hbm, 266, rfl⟩
abbrev main_call1_v7 : Ref sig .tc := ⟨.hbm, 267, rfl⟩
abbrev main_call1_call3_v0 : Ref sig .tc := ⟨.hbm, 268, rfl⟩
abbrev main_call1_call3_v1 : Ref sig .tc := ⟨.hbm, 269, rfl⟩
abbrev main_call1_call3_v2 : Ref sig .tc := ⟨.hbm, 270, rfl⟩
abbrev main_call1_call3_v3 : Ref sig .tc := ⟨.hbm, 271, rfl⟩
abbrev main_call1_call3_v4 : Ref sig .tc := ⟨.hbm, 272, rfl⟩
abbrev main_call1_call3_c : Ref sig .tc := ⟨.hbm, 273, rfl⟩
abbrev main_call1_call3_v5 : Ref sig .tc := ⟨.hbm, 274, rfl⟩
abbrev main_call1_call3_v6 : Ref sig .tc := ⟨.hbm, 275, rfl⟩
abbrev main_call1_call3_c_0 : Ref sig .tc := ⟨.hbm, 276, rfl⟩
abbrev main_call1_call3_v7 : Ref sig .tc := ⟨.hbm, 277, rfl⟩
abbrev main_call1_call3_v8 : Ref sig .tc := ⟨.hbm, 278, rfl⟩
abbrev main_call1_call3_v9 : Ref sig .tc := ⟨.hbm, 279, rfl⟩
abbrev main_call1_call3_v10 : Ref sig .tc := ⟨.hbm, 280, rfl⟩
abbrev main_call1_call3_call0_v0 : Ref sig .tc := ⟨.hbm, 281, rfl⟩
abbrev main_call1_call3_call0_c : Ref sig .tc := ⟨.hbm, 282, rfl⟩
abbrev main_call1_call3_call0_v1 : Ref sig .tc := ⟨.hbm, 283, rfl⟩
abbrev main_call1_call3_call0_v2 : Ref sig .tc := ⟨.hbm, 284, rfl⟩
abbrev main_call1_call3_call0_v3 : Ref sig .tc := ⟨.hbm, 285, rfl⟩
abbrev main_call1_call3_call0_v4 : Ref sig .tc := ⟨.hbm, 286, rfl⟩
abbrev main_call1_call3_call0_v5 : Ref sig .tc := ⟨.hbm, 287, rfl⟩
abbrev main_call1_call3_call0_v6 : Ref sig .tc := ⟨.hbm, 288, rfl⟩
abbrev main_call1_call3_call0_c_0 : Ref sig .tc := ⟨.hbm, 289, rfl⟩
abbrev main_call1_call3_call0_v7 : Ref sig .tc := ⟨.hbm, 290, rfl⟩
abbrev main_call1_call3_call0_v8 : Ref sig .tc := ⟨.hbm, 291, rfl⟩
abbrev main_call1_call3_call0_c_1 : Ref sig .tc := ⟨.hbm, 292, rfl⟩
abbrev main_call1_call3_call0_v9 : Ref sig .tc := ⟨.hbm, 293, rfl⟩
abbrev main_call1_call3_call0_v10 : Ref sig .tc := ⟨.hbm, 294, rfl⟩
abbrev main_call1_call3_call0_v11 : Ref sig .tc := ⟨.hbm, 295, rfl⟩
abbrev main_call1_call3_call0_v12 : Ref sig .tc := ⟨.hbm, 296, rfl⟩
abbrev main_call1_call3_call0_v13 : Ref sig .tc := ⟨.hbm, 297, rfl⟩
abbrev main_call1_call3_call0_c_2 : Ref sig .tc := ⟨.hbm, 298, rfl⟩
abbrev main_call1_call3_call0_v14 : Ref sig .tc := ⟨.hbm, 299, rfl⟩
abbrev main_call1_call3_call0_v15 : Ref sig .tc := ⟨.hbm, 300, rfl⟩
abbrev main_call1_call3_call0_c_3 : Ref sig .tc := ⟨.hbm, 301, rfl⟩
abbrev main_call1_call3_call0_v16 : Ref sig .tc := ⟨.hbm, 302, rfl⟩
abbrev main_call1_call3_call0_v17 : Ref sig .tc := ⟨.hbm, 303, rfl⟩
abbrev main_call1_call3_call0_v18 : Ref sig .tc := ⟨.hbm, 304, rfl⟩
abbrev main_call1_call3_call0_v19 : Ref sig .tc := ⟨.hbm, 305, rfl⟩
abbrev main_call1_call3_call0_v20 : Ref sig .tc := ⟨.hbm, 306, rfl⟩
abbrev main_call1_call3_call0_c_4 : Ref sig .tc := ⟨.hbm, 307, rfl⟩
abbrev main_call1_call3_call0_v21 : Ref sig .tc := ⟨.hbm, 308, rfl⟩
abbrev main_call1_call3_call0_v22 : Ref sig .tc := ⟨.hbm, 309, rfl⟩
abbrev main_call1_call3_call0_c_5 : Ref sig .tc := ⟨.hbm, 310, rfl⟩
abbrev main_call1_call3_call0_v23 : Ref sig .tc := ⟨.hbm, 311, rfl⟩
abbrev main_call1_call3_call0_v24 : Ref sig .tc := ⟨.hbm, 312, rfl⟩
abbrev main_call1_call3_call0_v25 : Ref sig .tc := ⟨.hbm, 313, rfl⟩
abbrev main_call1_call3_call0_v26 : Ref sig .tc := ⟨.hbm, 314, rfl⟩
abbrev main_call1_call3_call0_v27 : Ref sig .tc := ⟨.hbm, 315, rfl⟩
abbrev main_call1_call3_call0_c_6 : Ref sig .tc := ⟨.hbm, 316, rfl⟩
abbrev main_call1_call3_call0_v28 : Ref sig .tc := ⟨.hbm, 317, rfl⟩
abbrev main_call1_call3_call0_v29 : Ref sig .tc := ⟨.hbm, 318, rfl⟩
abbrev main_call1_call3_call0_c_7 : Ref sig .tc := ⟨.hbm, 319, rfl⟩
abbrev main_call1_call3_call0_v30 : Ref sig .tc := ⟨.hbm, 320, rfl⟩
abbrev main_call1_call3_call0_v31 : Ref sig .tc := ⟨.hbm, 321, rfl⟩
abbrev main_call1_call3_call0_v32 : Ref sig .tc := ⟨.hbm, 322, rfl⟩
abbrev main_call1_call3_call0_v33 : Ref sig .tc := ⟨.hbm, 323, rfl⟩
abbrev main_call1_call3_call0_v34 : Ref sig .tc := ⟨.hbm, 324, rfl⟩
abbrev main_call1_call3_call0_v35 : Ref sig .tc := ⟨.hbm, 325, rfl⟩
abbrev main_call1_call3_call0_v36 : Ref sig .tc := ⟨.hbm, 326, rfl⟩
abbrev main_call1_call3_call0_v37 : Ref sig .tc := ⟨.hbm, 327, rfl⟩
abbrev main_call1_call3_call0_c_8 : Ref sig .tc := ⟨.hbm, 328, rfl⟩
abbrev main_call1_call3_call0_v38 : Ref sig .tc := ⟨.hbm, 329, rfl⟩
abbrev main_call1_call3_call0_v39 : Ref sig .tc := ⟨.hbm, 330, rfl⟩
abbrev main_call1_call3_call0_v40 : Ref sig .tc := ⟨.hbm, 331, rfl⟩
abbrev main_call1_call3_call0_c_9 : Ref sig .tc := ⟨.hbm, 332, rfl⟩
abbrev main_call1_call3_call0_v41 : Ref sig .tc := ⟨.hbm, 333, rfl⟩
abbrev main_call1_call3_call0_v42 : Ref sig .tc := ⟨.hbm, 334, rfl⟩
abbrev main_call1_call3_call0_c_10 : Ref sig .tc := ⟨.hbm, 335, rfl⟩
abbrev main_call1_call3_call0_v43 : Ref sig .tc := ⟨.hbm, 336, rfl⟩
abbrev main_call1_call3_call0_v44 : Ref sig .tc := ⟨.hbm, 337, rfl⟩
abbrev main_call1_call3_call0_v45 : Ref sig .tc := ⟨.hbm, 338, rfl⟩
abbrev main_call1_call3_call0_v46 : Ref sig .tc := ⟨.hbm, 339, rfl⟩
abbrev main_call1_call3_call0_v47 : Ref sig .tc := ⟨.hbm, 340, rfl⟩
abbrev main_call1_call3_call0_c_11 : Ref sig .tc := ⟨.hbm, 341, rfl⟩
abbrev main_call1_call3_call0_v48 : Ref sig .tc := ⟨.hbm, 342, rfl⟩
abbrev main_call1_call3_call0_v49 : Ref sig .tc := ⟨.hbm, 343, rfl⟩
abbrev main_call1_call3_call0_c_12 : Ref sig .tc := ⟨.hbm, 344, rfl⟩
abbrev main_call1_call3_call0_v50 : Ref sig .tc := ⟨.hbm, 345, rfl⟩
abbrev main_call1_call3_call0_v51 : Ref sig .tc := ⟨.hbm, 346, rfl⟩
abbrev main_call1_call3_call0_v52 : Ref sig .tc := ⟨.hbm, 347, rfl⟩
abbrev main_call1_call3_call0_v53 : Ref sig .tc := ⟨.hbm, 348, rfl⟩
abbrev main_call1_call3_call0_v54 : Ref sig .tc := ⟨.hbm, 349, rfl⟩
abbrev main_call1_call3_call0_c_13 : Ref sig .tc := ⟨.hbm, 350, rfl⟩
abbrev main_call1_call3_call0_v55 : Ref sig .tc := ⟨.hbm, 351, rfl⟩
abbrev main_call1_call3_call0_v56 : Ref sig .tc := ⟨.hbm, 352, rfl⟩
abbrev main_call1_call3_call0_c_14 : Ref sig .tc := ⟨.hbm, 353, rfl⟩
abbrev main_call1_call3_call0_v57 : Ref sig .tc := ⟨.hbm, 354, rfl⟩
abbrev main_call1_call3_call0_v58 : Ref sig .tc := ⟨.hbm, 355, rfl⟩
abbrev main_call1_call3_call0_v59 : Ref sig .tc := ⟨.hbm, 356, rfl⟩
abbrev main_call1_call3_call0_v60 : Ref sig .tc := ⟨.hbm, 357, rfl⟩
abbrev main_call1_call3_call0_v61 : Ref sig .tc := ⟨.hbm, 358, rfl⟩
abbrev main_call1_call3_call0_c_15 : Ref sig .tc := ⟨.hbm, 359, rfl⟩
abbrev main_call1_call3_call0_v62 : Ref sig .tc := ⟨.hbm, 360, rfl⟩
abbrev main_call1_call3_call0_v63 : Ref sig .tc := ⟨.hbm, 361, rfl⟩
abbrev main_call1_call3_call0_c_16 : Ref sig .tc := ⟨.hbm, 362, rfl⟩
abbrev main_call1_call3_call0_v64 : Ref sig .tc := ⟨.hbm, 363, rfl⟩
abbrev main_call1_call3_call0_v65 : Ref sig .tc := ⟨.hbm, 364, rfl⟩
abbrev main_call1_call3_call0_v66 : Ref sig .tc := ⟨.hbm, 365, rfl⟩
abbrev main_call1_call3_call0_v67 : Ref sig .tc := ⟨.hbm, 366, rfl⟩
abbrev main_call1_call3_call0_v68 : Ref sig .tc := ⟨.hbm, 367, rfl⟩
abbrev main_call1_call3_call0_v69 : Ref sig .tc := ⟨.hbm, 368, rfl⟩
abbrev main_call1_call3_call0_v70 : Ref sig .tc := ⟨.hbm, 369, rfl⟩
abbrev main_call1_call3_call0_v71 : Ref sig .tc := ⟨.hbm, 370, rfl⟩
abbrev main_call1_call3_call0_c_17 : Ref sig .tc := ⟨.hbm, 371, rfl⟩
abbrev main_call1_call3_call0_v72 : Ref sig .tc := ⟨.hbm, 372, rfl⟩
abbrev main_call1_call3_call0_v73 : Ref sig .tc := ⟨.hbm, 373, rfl⟩
abbrev main_call1_call3_call0_v74 : Ref sig .tc := ⟨.hbm, 374, rfl⟩
abbrev main_call1_call3_call0_c_18 : Ref sig .tc := ⟨.hbm, 375, rfl⟩
abbrev main_call1_call3_call0_v75 : Ref sig .tc := ⟨.hbm, 376, rfl⟩
abbrev main_call1_call3_call0_v76 : Ref sig .tc := ⟨.hbm, 377, rfl⟩
abbrev main_call1_call3_call0_c_19 : Ref sig .tc := ⟨.hbm, 378, rfl⟩
abbrev main_call1_call3_call0_v77 : Ref sig .tc := ⟨.hbm, 379, rfl⟩
abbrev main_call1_call3_call0_v78 : Ref sig .tc := ⟨.hbm, 380, rfl⟩
abbrev main_call1_call3_call0_v79 : Ref sig .tc := ⟨.hbm, 381, rfl⟩
abbrev main_call1_call3_call0_v80 : Ref sig .tc := ⟨.hbm, 382, rfl⟩
abbrev main_call1_call3_call0_v81 : Ref sig .tc := ⟨.hbm, 383, rfl⟩
abbrev main_call1_call3_call0_c_20 : Ref sig .tc := ⟨.hbm, 384, rfl⟩
abbrev main_call1_call3_call0_v82 : Ref sig .tc := ⟨.hbm, 385, rfl⟩
abbrev main_call1_call3_call0_v83 : Ref sig .tc := ⟨.hbm, 386, rfl⟩
abbrev main_call1_call3_call0_c_21 : Ref sig .tc := ⟨.hbm, 387, rfl⟩
abbrev main_call1_call3_call0_v84 : Ref sig .tc := ⟨.hbm, 388, rfl⟩
abbrev main_call1_call3_call0_v85 : Ref sig .tc := ⟨.hbm, 389, rfl⟩
abbrev main_call1_call3_call0_v86 : Ref sig .tc := ⟨.hbm, 390, rfl⟩
abbrev main_call1_call3_call0_v87 : Ref sig .tc := ⟨.hbm, 391, rfl⟩
abbrev main_call1_call3_call0_v88 : Ref sig .tc := ⟨.hbm, 392, rfl⟩
abbrev main_call1_call3_call0_c_22 : Ref sig .tc := ⟨.hbm, 393, rfl⟩
abbrev main_call1_call3_call0_v89 : Ref sig .tc := ⟨.hbm, 394, rfl⟩
abbrev main_call1_call3_call0_v90 : Ref sig .tc := ⟨.hbm, 395, rfl⟩
abbrev main_call1_call3_call0_c_23 : Ref sig .tc := ⟨.hbm, 396, rfl⟩
abbrev main_call1_call3_call0_v91 : Ref sig .tc := ⟨.hbm, 397, rfl⟩
abbrev main_call1_call3_call0_v92 : Ref sig .tc := ⟨.hbm, 398, rfl⟩
abbrev main_call1_call3_call0_v93 : Ref sig .tc := ⟨.hbm, 399, rfl⟩
abbrev main_call1_call3_call0_v94 : Ref sig .tc := ⟨.hbm, 400, rfl⟩
abbrev main_call1_call3_call0_v95 : Ref sig .tc := ⟨.hbm, 401, rfl⟩
abbrev main_call1_call3_call0_c_24 : Ref sig .tc := ⟨.hbm, 402, rfl⟩
abbrev main_call1_call3_call0_v96 : Ref sig .tc := ⟨.hbm, 403, rfl⟩
abbrev main_call1_call3_call0_v97 : Ref sig .tc := ⟨.hbm, 404, rfl⟩
abbrev main_call1_call3_call0_c_25 : Ref sig .tc := ⟨.hbm, 405, rfl⟩
abbrev main_call1_call3_call0_v98 : Ref sig .tc := ⟨.hbm, 406, rfl⟩
abbrev main_call1_call3_call0_v99 : Ref sig .tc := ⟨.hbm, 407, rfl⟩
abbrev main_call1_call3_call0_v100 : Ref sig .tc := ⟨.hbm, 408, rfl⟩
abbrev main_call1_call3_call0_v101 : Ref sig .tc := ⟨.hbm, 409, rfl⟩
abbrev main_call1_call3_call0_v102 : Ref sig .tc := ⟨.hbm, 410, rfl⟩
abbrev main_call1_call3_call0_v103 : Ref sig .tc := ⟨.hbm, 411, rfl⟩
abbrev main_call1_call3_call0_v104 : Ref sig .tc := ⟨.hbm, 412, rfl⟩
abbrev main_call1_call3_call0_v105 : Ref sig .tc := ⟨.hbm, 413, rfl⟩
abbrev main_call1_call3_call0_c_26 : Ref sig .tc := ⟨.hbm, 414, rfl⟩
abbrev main_call1_call3_call0_v106 : Ref sig .tc := ⟨.hbm, 415, rfl⟩
abbrev main_call1_call3_call0_v107 : Ref sig .tc := ⟨.hbm, 416, rfl⟩
abbrev main_call1_call3_call0_v108 : Ref sig .tc := ⟨.hbm, 417, rfl⟩
abbrev main_call1_call3_call0_c_27 : Ref sig .tc := ⟨.hbm, 418, rfl⟩
abbrev main_call1_call3_call0_v109 : Ref sig .tc := ⟨.hbm, 419, rfl⟩
abbrev main_call1_call3_call0_v110 : Ref sig .tc := ⟨.hbm, 420, rfl⟩
abbrev main_call1_call3_call0_c_28 : Ref sig .tc := ⟨.hbm, 421, rfl⟩
abbrev main_call1_call3_call0_v111 : Ref sig .tc := ⟨.hbm, 422, rfl⟩
abbrev main_call1_call3_call0_v112 : Ref sig .tc := ⟨.hbm, 423, rfl⟩
abbrev main_call1_call3_call0_v113 : Ref sig .tc := ⟨.hbm, 424, rfl⟩
abbrev main_call1_call3_call0_v114 : Ref sig .tc := ⟨.hbm, 425, rfl⟩
abbrev main_call1_call3_call0_v115 : Ref sig .tc := ⟨.hbm, 426, rfl⟩
abbrev main_call1_call3_call0_c_29 : Ref sig .tc := ⟨.hbm, 427, rfl⟩
abbrev main_call1_call3_call0_v116 : Ref sig .tc := ⟨.hbm, 428, rfl⟩
abbrev main_call1_call3_call0_v117 : Ref sig .tc := ⟨.hbm, 429, rfl⟩
abbrev main_call1_call3_call0_c_30 : Ref sig .tc := ⟨.hbm, 430, rfl⟩
abbrev main_call1_call3_call0_v118 : Ref sig .tc := ⟨.hbm, 431, rfl⟩
abbrev main_call1_call3_call0_v119 : Ref sig .tc := ⟨.hbm, 432, rfl⟩
abbrev main_call1_call3_call0_v120 : Ref sig .tc := ⟨.hbm, 433, rfl⟩
abbrev main_call1_call3_call0_v121 : Ref sig .tc := ⟨.hbm, 434, rfl⟩
abbrev main_call1_call3_call0_v122 : Ref sig .tc := ⟨.hbm, 435, rfl⟩
abbrev main_call1_call3_call0_c_31 : Ref sig .tc := ⟨.hbm, 436, rfl⟩
abbrev main_call1_call3_call0_v123 : Ref sig .tc := ⟨.hbm, 437, rfl⟩
abbrev main_call1_call3_call0_v124 : Ref sig .tc := ⟨.hbm, 438, rfl⟩
abbrev main_call1_call3_call0_c_32 : Ref sig .tc := ⟨.hbm, 439, rfl⟩
abbrev main_call1_call3_call0_v125 : Ref sig .tc := ⟨.hbm, 440, rfl⟩
abbrev main_call1_call3_call0_v126 : Ref sig .tc := ⟨.hbm, 441, rfl⟩
abbrev main_call1_call3_call0_v127 : Ref sig .tc := ⟨.hbm, 442, rfl⟩
abbrev main_call1_call3_call0_v128 : Ref sig .tc := ⟨.hbm, 443, rfl⟩
abbrev main_call1_call3_call0_v129 : Ref sig .tc := ⟨.hbm, 444, rfl⟩
abbrev main_call1_call3_call0_c_33 : Ref sig .tc := ⟨.hbm, 445, rfl⟩
abbrev main_call1_call3_call0_v130 : Ref sig .tc := ⟨.hbm, 446, rfl⟩
abbrev main_call1_call3_call0_v131 : Ref sig .tc := ⟨.hbm, 447, rfl⟩
abbrev main_call1_call3_call0_c_34 : Ref sig .tc := ⟨.hbm, 448, rfl⟩
abbrev main_call1_call3_call0_v132 : Ref sig .tc := ⟨.hbm, 449, rfl⟩
abbrev main_call1_call3_call0_v133 : Ref sig .tc := ⟨.hbm, 450, rfl⟩
abbrev main_call1_call3_call0_v134 : Ref sig .tc := ⟨.hbm, 451, rfl⟩
abbrev main_call1_call3_call0_v135 : Ref sig .tc := ⟨.hbm, 452, rfl⟩
abbrev main_call1_call3_call0_v136 : Ref sig .tc := ⟨.hbm, 453, rfl⟩
abbrev main_call1_call3_call0_v137 : Ref sig .tc := ⟨.hbm, 454, rfl⟩
abbrev main_call1_call3_call0_v138 : Ref sig .tc := ⟨.hbm, 455, rfl⟩
abbrev main_call1_call3_call0_v139 : Ref sig .tc := ⟨.hbm, 456, rfl⟩
abbrev main_call1_call3_call0_c_35 : Ref sig .tc := ⟨.hbm, 457, rfl⟩
abbrev main_call1_call3_call0_v140 : Ref sig .tc := ⟨.hbm, 458, rfl⟩
abbrev main_call1_call3_call0_v141 : Ref sig .tc := ⟨.hbm, 459, rfl⟩
abbrev main_call1_call3_call0_v142 : Ref sig .tc := ⟨.hbm, 460, rfl⟩
abbrev main_call1_call3_call0_c_36 : Ref sig .tc := ⟨.hbm, 461, rfl⟩
abbrev main_call1_call3_call0_v143 : Ref sig .tc := ⟨.hbm, 462, rfl⟩
abbrev main_call1_call3_call0_v144 : Ref sig .tc := ⟨.hbm, 463, rfl⟩
abbrev main_call1_call3_call0_c_37 : Ref sig .tc := ⟨.hbm, 464, rfl⟩
abbrev main_call1_call3_call0_v145 : Ref sig .tc := ⟨.hbm, 465, rfl⟩
abbrev main_call1_call3_call0_v146 : Ref sig .tc := ⟨.hbm, 466, rfl⟩
abbrev main_call1_call3_call0_v147 : Ref sig .tc := ⟨.hbm, 467, rfl⟩
abbrev main_call1_call3_call0_v148 : Ref sig .tc := ⟨.hbm, 468, rfl⟩
abbrev main_call1_call3_call0_v149 : Ref sig .tc := ⟨.hbm, 469, rfl⟩
abbrev main_call1_call3_call0_c_38 : Ref sig .tc := ⟨.hbm, 470, rfl⟩
abbrev main_call1_call3_call0_v150 : Ref sig .tc := ⟨.hbm, 471, rfl⟩
abbrev main_call1_call3_call0_v151 : Ref sig .tc := ⟨.hbm, 472, rfl⟩
abbrev main_call1_call3_call0_c_39 : Ref sig .tc := ⟨.hbm, 473, rfl⟩
abbrev main_call1_call3_call0_v152 : Ref sig .tc := ⟨.hbm, 474, rfl⟩
abbrev main_call1_call3_call0_v153 : Ref sig .tc := ⟨.hbm, 475, rfl⟩
abbrev main_call1_call3_call0_v154 : Ref sig .tc := ⟨.hbm, 476, rfl⟩
abbrev main_call1_call3_call0_v155 : Ref sig .tc := ⟨.hbm, 477, rfl⟩
abbrev main_call1_call3_call0_v156 : Ref sig .tc := ⟨.hbm, 478, rfl⟩
abbrev main_call1_call3_call0_c_40 : Ref sig .tc := ⟨.hbm, 479, rfl⟩
abbrev main_call1_call3_call0_v157 : Ref sig .tc := ⟨.hbm, 480, rfl⟩
abbrev main_call1_call3_call0_v158 : Ref sig .tc := ⟨.hbm, 481, rfl⟩
abbrev main_call1_call3_call0_c_41 : Ref sig .tc := ⟨.hbm, 482, rfl⟩
abbrev main_call1_call3_call0_v159 : Ref sig .tc := ⟨.hbm, 483, rfl⟩
abbrev main_call1_call3_call0_v160 : Ref sig .tc := ⟨.hbm, 484, rfl⟩
abbrev main_call1_call3_call0_v161 : Ref sig .tc := ⟨.hbm, 485, rfl⟩
abbrev main_call1_call3_call0_v162 : Ref sig .tc := ⟨.hbm, 486, rfl⟩
abbrev main_call1_call3_call0_v163 : Ref sig .tc := ⟨.hbm, 487, rfl⟩
abbrev main_call1_call3_call0_c_42 : Ref sig .tc := ⟨.hbm, 488, rfl⟩
abbrev main_call1_call3_call0_v164 : Ref sig .tc := ⟨.hbm, 489, rfl⟩
abbrev main_call1_call3_call0_v165 : Ref sig .tc := ⟨.hbm, 490, rfl⟩
abbrev main_call1_call3_call0_c_43 : Ref sig .tc := ⟨.hbm, 491, rfl⟩
abbrev main_call1_call3_call0_v166 : Ref sig .tc := ⟨.hbm, 492, rfl⟩
abbrev main_call1_call3_call0_v167 : Ref sig .tc := ⟨.hbm, 493, rfl⟩
abbrev main_call1_call3_call0_v168 : Ref sig .tc := ⟨.hbm, 494, rfl⟩
abbrev main_call1_call3_call0_v169 : Ref sig .tc := ⟨.hbm, 495, rfl⟩
abbrev main_call1_call3_call0_v170 : Ref sig .tc := ⟨.hbm, 496, rfl⟩
abbrev main_call1_call3_v11_0 : Ref sig .tc := ⟨.hbm, 497, rfl⟩
abbrev main_call1_call3_call0_v172 : Ref sig .tc := ⟨.hbm, 498, rfl⟩
abbrev main_call1_call3_call0_v173 : Ref sig .tc := ⟨.hbm, 499, rfl⟩
abbrev main_call1_call3_call0_c_44 : Ref sig .tc := ⟨.hbm, 500, rfl⟩
abbrev main_call1_call3_call0_v174 : Ref sig .tc := ⟨.hbm, 501, rfl⟩
abbrev main_call1_call3_v11_1 : Ref sig .tc := ⟨.hbm, 502, rfl⟩
abbrev main_call1_call3_v12 : Ref sig .tc := ⟨.hbm, 503, rfl⟩
abbrev main_call1_call3_v13 : Ref sig .tc := ⟨.hbm, 504, rfl⟩
abbrev main_call1_v8 : Ref sig .tc := ⟨.hbm, 505, rfl⟩
abbrev main_call1_v9 : Ref sig .tc := ⟨.hbm, 506, rfl⟩
abbrev main_call1_v10 : Ref sig .tc := ⟨.hbm, 507, rfl⟩
abbrev main_call1_v11 : Ref sig .tc := ⟨.hbm, 508, rfl⟩
abbrev main_call1_v12 : Ref sig .tc := ⟨.hbm, 509, rfl⟩
abbrev main_call1_v13 : Ref sig .tc := ⟨.hbm, 510, rfl⟩
abbrev main_call1_v14 : Ref sig .tc := ⟨.hbm, 511, rfl⟩
abbrev main_call1_v15 : Ref sig .tc := ⟨.hbm, 512, rfl⟩
abbrev main_call1_v16 : Ref sig .tc := ⟨.hbm, 513, rfl⟩
abbrev main_call1_v17 : Ref sig .tc := ⟨.hbm, 514, rfl⟩
abbrev main_call1_c_6 : Ref sig .tc := ⟨.hbm, 515, rfl⟩
abbrev main_call1_v18 : Ref sig .tc := ⟨.hbm, 516, rfl⟩
abbrev main_call1_v19 : Ref sig .tc := ⟨.hbm, 517, rfl⟩
abbrev main_call1_c_7 : Ref sig .tc := ⟨.hbm, 518, rfl⟩
abbrev main_call1_v20 : Ref sig .tc := ⟨.hbm, 519, rfl⟩
abbrev main_call1_v21 : Ref sig .tc := ⟨.hbm, 520, rfl⟩
abbrev main_call1_v22 : Ref sig .tc := ⟨.hbm, 521, rfl⟩
abbrev main_call1_v23 : Ref sig .tc := ⟨.hbm, 522, rfl⟩
abbrev main_call1_call4_v0 : Ref sig .tc := ⟨.hbm, 523, rfl⟩
abbrev main_call1_call4_c : Ref sig .tc := ⟨.hbm, 524, rfl⟩
abbrev main_call1_call4_v1 : Ref sig .tc := ⟨.hbm, 525, rfl⟩
abbrev main_call1_call4_v2 : Ref sig .tc := ⟨.hbm, 526, rfl⟩
abbrev main_call1_call4_v3 : Ref sig .tc := ⟨.hbm, 527, rfl⟩
abbrev main_call1_call4_v4 : Ref sig .tc := ⟨.hbm, 528, rfl⟩
abbrev main_call1_call4_v5 : Ref sig .tc := ⟨.hbm, 529, rfl⟩
abbrev main_call1_call4_v6 : Ref sig .tc := ⟨.hbm, 530, rfl⟩
abbrev main_call1_call4_c_0 : Ref sig .tc := ⟨.hbm, 531, rfl⟩
abbrev main_call1_call4_v7 : Ref sig .tc := ⟨.hbm, 532, rfl⟩
abbrev main_call1_call4_v8 : Ref sig .tc := ⟨.hbm, 533, rfl⟩
abbrev main_call1_call4_c_1 : Ref sig .tc := ⟨.hbm, 534, rfl⟩
abbrev main_call1_call4_v9 : Ref sig .tc := ⟨.hbm, 535, rfl⟩
abbrev main_call1_call4_v10 : Ref sig .tc := ⟨.hbm, 536, rfl⟩
abbrev main_call1_call4_v11 : Ref sig .tc := ⟨.hbm, 537, rfl⟩
abbrev main_call1_call4_v12 : Ref sig .tc := ⟨.hbm, 538, rfl⟩
abbrev main_call1_call4_v13 : Ref sig .tc := ⟨.hbm, 539, rfl⟩
abbrev main_call1_call4_c_2 : Ref sig .tc := ⟨.hbm, 540, rfl⟩
abbrev main_call1_call4_v14 : Ref sig .tc := ⟨.hbm, 541, rfl⟩
abbrev main_call1_call4_v15 : Ref sig .tc := ⟨.hbm, 542, rfl⟩
abbrev main_call1_call4_c_3 : Ref sig .tc := ⟨.hbm, 543, rfl⟩
abbrev main_call1_call4_v16 : Ref sig .tc := ⟨.hbm, 544, rfl⟩
abbrev main_call1_call4_v17 : Ref sig .tc := ⟨.hbm, 545, rfl⟩
abbrev main_call1_call4_v18 : Ref sig .tc := ⟨.hbm, 546, rfl⟩
abbrev main_call1_call4_v19 : Ref sig .tc := ⟨.hbm, 547, rfl⟩
abbrev main_call1_call4_v20 : Ref sig .tc := ⟨.hbm, 548, rfl⟩
abbrev main_call1_call4_c_4 : Ref sig .tc := ⟨.hbm, 549, rfl⟩
abbrev main_call1_call4_v21 : Ref sig .tc := ⟨.hbm, 550, rfl⟩
abbrev main_call1_call4_v22 : Ref sig .tc := ⟨.hbm, 551, rfl⟩
abbrev main_call1_call4_c_5 : Ref sig .tc := ⟨.hbm, 552, rfl⟩
abbrev main_call1_call4_v23 : Ref sig .tc := ⟨.hbm, 553, rfl⟩
abbrev main_call1_call4_v24 : Ref sig .tc := ⟨.hbm, 554, rfl⟩
abbrev main_call1_call4_v25 : Ref sig .tc := ⟨.hbm, 555, rfl⟩
abbrev main_call1_call4_v26 : Ref sig .tc := ⟨.hbm, 556, rfl⟩
abbrev main_call1_call4_v27 : Ref sig .tc := ⟨.hbm, 557, rfl⟩
abbrev main_call1_call4_c_6 : Ref sig .tc := ⟨.hbm, 558, rfl⟩
abbrev main_call1_call4_v28 : Ref sig .tc := ⟨.hbm, 559, rfl⟩
abbrev main_call1_call4_v29 : Ref sig .tc := ⟨.hbm, 560, rfl⟩
abbrev main_call1_call4_c_7 : Ref sig .tc := ⟨.hbm, 561, rfl⟩
abbrev main_call1_call4_v30 : Ref sig .tc := ⟨.hbm, 562, rfl⟩
abbrev main_call1_call4_v31 : Ref sig .tc := ⟨.hbm, 563, rfl⟩
abbrev main_call1_call4_v32 : Ref sig .tc := ⟨.hbm, 564, rfl⟩
abbrev main_call1_call4_v33 : Ref sig .tc := ⟨.hbm, 565, rfl⟩
abbrev main_call1_call4_v34 : Ref sig .tc := ⟨.hbm, 566, rfl⟩
abbrev main_call1_call4_v35 : Ref sig .tc := ⟨.hbm, 567, rfl⟩
abbrev main_call1_call4_v36 : Ref sig .tc := ⟨.hbm, 568, rfl⟩
abbrev main_call1_call4_v37 : Ref sig .tc := ⟨.hbm, 569, rfl⟩
abbrev main_call1_call4_c_8 : Ref sig .tc := ⟨.hbm, 570, rfl⟩
abbrev main_call1_call4_v38 : Ref sig .tc := ⟨.hbm, 571, rfl⟩
abbrev main_call1_call4_v39 : Ref sig .tc := ⟨.hbm, 572, rfl⟩
abbrev main_call1_call4_v40 : Ref sig .tc := ⟨.hbm, 573, rfl⟩
abbrev main_call1_call4_c_9 : Ref sig .tc := ⟨.hbm, 574, rfl⟩
abbrev main_call1_call4_v41 : Ref sig .tc := ⟨.hbm, 575, rfl⟩
abbrev main_call1_call4_v42 : Ref sig .tc := ⟨.hbm, 576, rfl⟩
abbrev main_call1_call4_c_10 : Ref sig .tc := ⟨.hbm, 577, rfl⟩
abbrev main_call1_call4_v43 : Ref sig .tc := ⟨.hbm, 578, rfl⟩
abbrev main_call1_call4_v44 : Ref sig .tc := ⟨.hbm, 579, rfl⟩
abbrev main_call1_call4_v45 : Ref sig .tc := ⟨.hbm, 580, rfl⟩
abbrev main_call1_call4_v46 : Ref sig .tc := ⟨.hbm, 581, rfl⟩
abbrev main_call1_call4_v47 : Ref sig .tc := ⟨.hbm, 582, rfl⟩
abbrev main_call1_call4_c_11 : Ref sig .tc := ⟨.hbm, 583, rfl⟩
abbrev main_call1_call4_v48 : Ref sig .tc := ⟨.hbm, 584, rfl⟩
abbrev main_call1_call4_v49 : Ref sig .tc := ⟨.hbm, 585, rfl⟩
abbrev main_call1_call4_c_12 : Ref sig .tc := ⟨.hbm, 586, rfl⟩
abbrev main_call1_call4_v50 : Ref sig .tc := ⟨.hbm, 587, rfl⟩
abbrev main_call1_call4_v51 : Ref sig .tc := ⟨.hbm, 588, rfl⟩
abbrev main_call1_call4_v52 : Ref sig .tc := ⟨.hbm, 589, rfl⟩
abbrev main_call1_call4_v53 : Ref sig .tc := ⟨.hbm, 590, rfl⟩
abbrev main_call1_call4_v54 : Ref sig .tc := ⟨.hbm, 591, rfl⟩
abbrev main_call1_call4_c_13 : Ref sig .tc := ⟨.hbm, 592, rfl⟩
abbrev main_call1_call4_v55 : Ref sig .tc := ⟨.hbm, 593, rfl⟩
abbrev main_call1_call4_v56 : Ref sig .tc := ⟨.hbm, 594, rfl⟩
abbrev main_call1_call4_c_14 : Ref sig .tc := ⟨.hbm, 595, rfl⟩
abbrev main_call1_call4_v57 : Ref sig .tc := ⟨.hbm, 596, rfl⟩
abbrev main_call1_call4_v58 : Ref sig .tc := ⟨.hbm, 597, rfl⟩
abbrev main_call1_call4_v59 : Ref sig .tc := ⟨.hbm, 598, rfl⟩
abbrev main_call1_call4_v60 : Ref sig .tc := ⟨.hbm, 599, rfl⟩
abbrev main_call1_call4_v61 : Ref sig .tc := ⟨.hbm, 600, rfl⟩
abbrev main_call1_call4_c_15 : Ref sig .tc := ⟨.hbm, 601, rfl⟩
abbrev main_call1_call4_v62 : Ref sig .tc := ⟨.hbm, 602, rfl⟩
abbrev main_call1_call4_v63 : Ref sig .tc := ⟨.hbm, 603, rfl⟩
abbrev main_call1_call4_c_16 : Ref sig .tc := ⟨.hbm, 604, rfl⟩
abbrev main_call1_call4_v64 : Ref sig .tc := ⟨.hbm, 605, rfl⟩
abbrev main_call1_call4_v65 : Ref sig .tc := ⟨.hbm, 606, rfl⟩
abbrev main_call1_call4_v66 : Ref sig .tc := ⟨.hbm, 607, rfl⟩
abbrev main_call1_call4_v67 : Ref sig .tc := ⟨.hbm, 608, rfl⟩
abbrev main_call1_call4_v68 : Ref sig .tc := ⟨.hbm, 609, rfl⟩
abbrev main_call1_call4_v69 : Ref sig .tc := ⟨.hbm, 610, rfl⟩
abbrev main_call1_call4_v70 : Ref sig .tc := ⟨.hbm, 611, rfl⟩
abbrev main_call1_call4_v71 : Ref sig .tc := ⟨.hbm, 612, rfl⟩
abbrev main_call1_call4_c_17 : Ref sig .tc := ⟨.hbm, 613, rfl⟩
abbrev main_call1_call4_v72 : Ref sig .tc := ⟨.hbm, 614, rfl⟩
abbrev main_call1_call4_v73 : Ref sig .tc := ⟨.hbm, 615, rfl⟩
abbrev main_call1_call4_v74 : Ref sig .tc := ⟨.hbm, 616, rfl⟩
abbrev main_call1_call4_c_18 : Ref sig .tc := ⟨.hbm, 617, rfl⟩
abbrev main_call1_call4_v75 : Ref sig .tc := ⟨.hbm, 618, rfl⟩
abbrev main_call1_call4_v76 : Ref sig .tc := ⟨.hbm, 619, rfl⟩
abbrev main_call1_call4_c_19 : Ref sig .tc := ⟨.hbm, 620, rfl⟩
abbrev main_call1_call4_v77 : Ref sig .tc := ⟨.hbm, 621, rfl⟩
abbrev main_call1_call4_v78 : Ref sig .tc := ⟨.hbm, 622, rfl⟩
abbrev main_call1_call4_v79 : Ref sig .tc := ⟨.hbm, 623, rfl⟩
abbrev main_call1_call4_v80 : Ref sig .tc := ⟨.hbm, 624, rfl⟩
abbrev main_call1_call4_v81 : Ref sig .tc := ⟨.hbm, 625, rfl⟩
abbrev main_call1_call4_c_20 : Ref sig .tc := ⟨.hbm, 626, rfl⟩
abbrev main_call1_call4_v82 : Ref sig .tc := ⟨.hbm, 627, rfl⟩
abbrev main_call1_call4_v83 : Ref sig .tc := ⟨.hbm, 628, rfl⟩
abbrev main_call1_call4_c_21 : Ref sig .tc := ⟨.hbm, 629, rfl⟩
abbrev main_call1_call4_v84 : Ref sig .tc := ⟨.hbm, 630, rfl⟩
abbrev main_call1_call4_v85 : Ref sig .tc := ⟨.hbm, 631, rfl⟩
abbrev main_call1_call4_v86 : Ref sig .tc := ⟨.hbm, 632, rfl⟩
abbrev main_call1_call4_v87 : Ref sig .tc := ⟨.hbm, 633, rfl⟩
abbrev main_call1_call4_v88 : Ref sig .tc := ⟨.hbm, 634, rfl⟩
abbrev main_call1_call4_c_22 : Ref sig .tc := ⟨.hbm, 635, rfl⟩
abbrev main_call1_call4_v89 : Ref sig .tc := ⟨.hbm, 636, rfl⟩
abbrev main_call1_call4_v90 : Ref sig .tc := ⟨.hbm, 637, rfl⟩
abbrev main_call1_call4_c_23 : Ref sig .tc := ⟨.hbm, 638, rfl⟩
abbrev main_call1_call4_v91 : Ref sig .tc := ⟨.hbm, 639, rfl⟩
abbrev main_call1_call4_v92 : Ref sig .tc := ⟨.hbm, 640, rfl⟩
abbrev main_call1_call4_v93 : Ref sig .tc := ⟨.hbm, 641, rfl⟩
abbrev main_call1_call4_v94 : Ref sig .tc := ⟨.hbm, 642, rfl⟩
abbrev main_call1_call4_v95 : Ref sig .tc := ⟨.hbm, 643, rfl⟩
abbrev main_call1_call4_c_24 : Ref sig .tc := ⟨.hbm, 644, rfl⟩
abbrev main_call1_call4_v96 : Ref sig .tc := ⟨.hbm, 645, rfl⟩
abbrev main_call1_call4_v97 : Ref sig .tc := ⟨.hbm, 646, rfl⟩
abbrev main_call1_call4_c_25 : Ref sig .tc := ⟨.hbm, 647, rfl⟩
abbrev main_call1_call4_v98 : Ref sig .tc := ⟨.hbm, 648, rfl⟩
abbrev main_call1_call4_v99 : Ref sig .tc := ⟨.hbm, 649, rfl⟩
abbrev main_call1_call4_v100 : Ref sig .tc := ⟨.hbm, 650, rfl⟩
abbrev main_call1_call4_v101 : Ref sig .tc := ⟨.hbm, 651, rfl⟩
abbrev main_call1_call4_v102 : Ref sig .tc := ⟨.hbm, 652, rfl⟩
abbrev main_call1_call4_v103 : Ref sig .tc := ⟨.hbm, 653, rfl⟩
abbrev main_call1_call4_v104 : Ref sig .tc := ⟨.hbm, 654, rfl⟩
abbrev main_call1_call4_v105 : Ref sig .tc := ⟨.hbm, 655, rfl⟩
abbrev main_call1_call4_c_26 : Ref sig .tc := ⟨.hbm, 656, rfl⟩
abbrev main_call1_call4_v106 : Ref sig .tc := ⟨.hbm, 657, rfl⟩
abbrev main_call1_call4_v107 : Ref sig .tc := ⟨.hbm, 658, rfl⟩
abbrev main_call1_call4_v108 : Ref sig .tc := ⟨.hbm, 659, rfl⟩
abbrev main_call1_call4_c_27 : Ref sig .tc := ⟨.hbm, 660, rfl⟩
abbrev main_call1_call4_v109 : Ref sig .tc := ⟨.hbm, 661, rfl⟩
abbrev main_call1_call4_v110 : Ref sig .tc := ⟨.hbm, 662, rfl⟩
abbrev main_call1_call4_c_28 : Ref sig .tc := ⟨.hbm, 663, rfl⟩
abbrev main_call1_call4_v111 : Ref sig .tc := ⟨.hbm, 664, rfl⟩
abbrev main_call1_call4_v112 : Ref sig .tc := ⟨.hbm, 665, rfl⟩
abbrev main_call1_call4_v113 : Ref sig .tc := ⟨.hbm, 666, rfl⟩
abbrev main_call1_call4_v114 : Ref sig .tc := ⟨.hbm, 667, rfl⟩
abbrev main_call1_call4_v115 : Ref sig .tc := ⟨.hbm, 668, rfl⟩
abbrev main_call1_call4_c_29 : Ref sig .tc := ⟨.hbm, 669, rfl⟩
abbrev main_call1_call4_v116 : Ref sig .tc := ⟨.hbm, 670, rfl⟩
abbrev main_call1_call4_v117 : Ref sig .tc := ⟨.hbm, 671, rfl⟩
abbrev main_call1_call4_c_30 : Ref sig .tc := ⟨.hbm, 672, rfl⟩
abbrev main_call1_call4_v118 : Ref sig .tc := ⟨.hbm, 673, rfl⟩
abbrev main_call1_call4_v119 : Ref sig .tc := ⟨.hbm, 674, rfl⟩
abbrev main_call1_call4_v120 : Ref sig .tc := ⟨.hbm, 675, rfl⟩
abbrev main_call1_call4_v121 : Ref sig .tc := ⟨.hbm, 676, rfl⟩
abbrev main_call1_call4_v122 : Ref sig .tc := ⟨.hbm, 677, rfl⟩
abbrev main_call1_call4_c_31 : Ref sig .tc := ⟨.hbm, 678, rfl⟩
abbrev main_call1_call4_v123 : Ref sig .tc := ⟨.hbm, 679, rfl⟩
abbrev main_call1_call4_v124 : Ref sig .tc := ⟨.hbm, 680, rfl⟩
abbrev main_call1_call4_c_32 : Ref sig .tc := ⟨.hbm, 681, rfl⟩
abbrev main_call1_call4_v125 : Ref sig .tc := ⟨.hbm, 682, rfl⟩
abbrev main_call1_call4_v126 : Ref sig .tc := ⟨.hbm, 683, rfl⟩
abbrev main_call1_call4_v127 : Ref sig .tc := ⟨.hbm, 684, rfl⟩
abbrev main_call1_call4_v128 : Ref sig .tc := ⟨.hbm, 685, rfl⟩
abbrev main_call1_call4_v129 : Ref sig .tc := ⟨.hbm, 686, rfl⟩
abbrev main_call1_call4_c_33 : Ref sig .tc := ⟨.hbm, 687, rfl⟩
abbrev main_call1_call4_v130 : Ref sig .tc := ⟨.hbm, 688, rfl⟩
abbrev main_call1_call4_v131 : Ref sig .tc := ⟨.hbm, 689, rfl⟩
abbrev main_call1_call4_c_34 : Ref sig .tc := ⟨.hbm, 690, rfl⟩
abbrev main_call1_call4_v132 : Ref sig .tc := ⟨.hbm, 691, rfl⟩
abbrev main_call1_call4_v133 : Ref sig .tc := ⟨.hbm, 692, rfl⟩
abbrev main_call1_call4_v134 : Ref sig .tc := ⟨.hbm, 693, rfl⟩
abbrev main_call1_call4_v135 : Ref sig .tc := ⟨.hbm, 694, rfl⟩
abbrev main_call1_call4_v136 : Ref sig .tc := ⟨.hbm, 695, rfl⟩
abbrev main_call1_call4_v137 : Ref sig .tc := ⟨.hbm, 696, rfl⟩
abbrev main_call1_call4_v138 : Ref sig .tc := ⟨.hbm, 697, rfl⟩
abbrev main_call1_call4_v139 : Ref sig .tc := ⟨.hbm, 698, rfl⟩
abbrev main_call1_call4_c_35 : Ref sig .tc := ⟨.hbm, 699, rfl⟩
abbrev main_call1_call4_v140 : Ref sig .tc := ⟨.hbm, 700, rfl⟩
abbrev main_call1_call4_v141 : Ref sig .tc := ⟨.hbm, 701, rfl⟩
abbrev main_call1_call4_v142 : Ref sig .tc := ⟨.hbm, 702, rfl⟩
abbrev main_call1_call4_c_36 : Ref sig .tc := ⟨.hbm, 703, rfl⟩
abbrev main_call1_call4_v143 : Ref sig .tc := ⟨.hbm, 704, rfl⟩
abbrev main_call1_call4_v144 : Ref sig .tc := ⟨.hbm, 705, rfl⟩
abbrev main_call1_call4_c_37 : Ref sig .tc := ⟨.hbm, 706, rfl⟩
abbrev main_call1_call4_v145 : Ref sig .tc := ⟨.hbm, 707, rfl⟩
abbrev main_call1_call4_v146 : Ref sig .tc := ⟨.hbm, 708, rfl⟩
abbrev main_call1_call4_v147 : Ref sig .tc := ⟨.hbm, 709, rfl⟩
abbrev main_call1_call4_v148 : Ref sig .tc := ⟨.hbm, 710, rfl⟩
abbrev main_call1_call4_v149 : Ref sig .tc := ⟨.hbm, 711, rfl⟩
abbrev main_call1_call4_c_38 : Ref sig .tc := ⟨.hbm, 712, rfl⟩
abbrev main_call1_call4_v150 : Ref sig .tc := ⟨.hbm, 713, rfl⟩
abbrev main_call1_call4_v151 : Ref sig .tc := ⟨.hbm, 714, rfl⟩
abbrev main_call1_call4_c_39 : Ref sig .tc := ⟨.hbm, 715, rfl⟩
abbrev main_call1_call4_v152 : Ref sig .tc := ⟨.hbm, 716, rfl⟩
abbrev main_call1_call4_v153 : Ref sig .tc := ⟨.hbm, 717, rfl⟩
abbrev main_call1_call4_v154 : Ref sig .tc := ⟨.hbm, 718, rfl⟩
abbrev main_call1_call4_v155 : Ref sig .tc := ⟨.hbm, 719, rfl⟩
abbrev main_call1_call4_v156 : Ref sig .tc := ⟨.hbm, 720, rfl⟩
abbrev main_call1_call4_c_40 : Ref sig .tc := ⟨.hbm, 721, rfl⟩
abbrev main_call1_call4_v157 : Ref sig .tc := ⟨.hbm, 722, rfl⟩
abbrev main_call1_call4_v158 : Ref sig .tc := ⟨.hbm, 723, rfl⟩
abbrev main_call1_call4_c_41 : Ref sig .tc := ⟨.hbm, 724, rfl⟩
abbrev main_call1_call4_v159 : Ref sig .tc := ⟨.hbm, 725, rfl⟩
abbrev main_call1_call4_v160 : Ref sig .tc := ⟨.hbm, 726, rfl⟩
abbrev main_call1_call4_v161 : Ref sig .tc := ⟨.hbm, 727, rfl⟩
abbrev main_call1_call4_v162 : Ref sig .tc := ⟨.hbm, 728, rfl⟩
abbrev main_call1_call4_v163 : Ref sig .tc := ⟨.hbm, 729, rfl⟩
abbrev main_call1_call4_c_42 : Ref sig .tc := ⟨.hbm, 730, rfl⟩
abbrev main_call1_call4_v164 : Ref sig .tc := ⟨.hbm, 731, rfl⟩
abbrev main_call1_call4_v165 : Ref sig .tc := ⟨.hbm, 732, rfl⟩
abbrev main_call1_call4_c_43 : Ref sig .tc := ⟨.hbm, 733, rfl⟩
abbrev main_call1_call4_v166 : Ref sig .tc := ⟨.hbm, 734, rfl⟩
abbrev main_call1_call4_v167 : Ref sig .tc := ⟨.hbm, 735, rfl⟩
abbrev main_call1_call4_v168 : Ref sig .tc := ⟨.hbm, 736, rfl⟩
abbrev main_call1_call4_v169 : Ref sig .tc := ⟨.hbm, 737, rfl⟩
abbrev main_call1_call4_v170 : Ref sig .tc := ⟨.hbm, 738, rfl⟩
abbrev main_call1_v24_0 : Ref sig .tc := ⟨.hbm, 739, rfl⟩
abbrev main_call1_call4_v172 : Ref sig .tc := ⟨.hbm, 740, rfl⟩
abbrev main_call1_call4_v173 : Ref sig .tc := ⟨.hbm, 741, rfl⟩
abbrev main_call1_call4_c_44 : Ref sig .tc := ⟨.hbm, 742, rfl⟩
abbrev main_call1_call4_v174 : Ref sig .tc := ⟨.hbm, 743, rfl⟩
abbrev main_call1_v24_1 : Ref sig .tc := ⟨.hbm, 744, rfl⟩
abbrev main_call1_v25 : Ref sig .tc := ⟨.hbm, 745, rfl⟩
abbrev main_call1_v26 : Ref sig .tc := ⟨.hbm, 746, rfl⟩
abbrev main_call1_v27 : Ref sig .tc := ⟨.hbm, 747, rfl⟩
abbrev main_call1_v28 : Ref sig .tc := ⟨.hbm, 748, rfl⟩
abbrev main_call1_v29 : Ref sig .tc := ⟨.hbm, 749, rfl⟩
abbrev main_call1_v30 : Ref sig .tc := ⟨.hbm, 750, rfl⟩
abbrev main_call1_c_8 : Ref sig .tc := ⟨.hbm, 751, rfl⟩
abbrev main_call1_v31 : Ref sig .tc := ⟨.hbm, 752, rfl⟩
abbrev main_call1_v32 : Ref sig .tc := ⟨.hbm, 753, rfl⟩
abbrev main_call1_c_9 : Ref sig .tc := ⟨.hbm, 754, rfl⟩
abbrev main_call1_v33 : Ref sig .tc := ⟨.hbm, 755, rfl⟩
abbrev main_call1_v34 : Ref sig .tc := ⟨.hbm, 756, rfl⟩
abbrev main_call1_v35 : Ref sig .tc := ⟨.hbm, 757, rfl⟩
abbrev main_call1_v36 : Ref sig .tc := ⟨.hbm, 758, rfl⟩
abbrev main_call1_call5_v0 : Ref sig .tc := ⟨.hbm, 759, rfl⟩
abbrev main_call1_call5_c : Ref sig .tc := ⟨.hbm, 760, rfl⟩
abbrev main_call1_call5_v1 : Ref sig .tc := ⟨.hbm, 761, rfl⟩
abbrev main_call1_call5_v2 : Ref sig .tc := ⟨.hbm, 762, rfl⟩
abbrev main_call1_call5_v3 : Ref sig .tc := ⟨.hbm, 763, rfl⟩
abbrev main_call1_call5_v4 : Ref sig .tc := ⟨.hbm, 764, rfl⟩
abbrev main_call1_call5_v5 : Ref sig .tc := ⟨.hbm, 765, rfl⟩
abbrev main_call1_call5_v6 : Ref sig .tc := ⟨.hbm, 766, rfl⟩
abbrev main_call1_call5_c_0 : Ref sig .tc := ⟨.hbm, 767, rfl⟩
abbrev main_call1_call5_v7 : Ref sig .tc := ⟨.hbm, 768, rfl⟩
abbrev main_call1_call5_v8 : Ref sig .tc := ⟨.hbm, 769, rfl⟩
abbrev main_call1_call5_c_1 : Ref sig .tc := ⟨.hbm, 770, rfl⟩
abbrev main_call1_call5_v9 : Ref sig .tc := ⟨.hbm, 771, rfl⟩
abbrev main_call1_call5_v10 : Ref sig .tc := ⟨.hbm, 772, rfl⟩
abbrev main_call1_call5_v11 : Ref sig .tc := ⟨.hbm, 773, rfl⟩
abbrev main_call1_call5_v12 : Ref sig .tc := ⟨.hbm, 774, rfl⟩
abbrev main_call1_call5_v13 : Ref sig .tc := ⟨.hbm, 775, rfl⟩
abbrev main_call1_call5_c_2 : Ref sig .tc := ⟨.hbm, 776, rfl⟩
abbrev main_call1_call5_v14 : Ref sig .tc := ⟨.hbm, 777, rfl⟩
abbrev main_call1_call5_v15 : Ref sig .tc := ⟨.hbm, 778, rfl⟩
abbrev main_call1_call5_c_3 : Ref sig .tc := ⟨.hbm, 779, rfl⟩
abbrev main_call1_call5_v16 : Ref sig .tc := ⟨.hbm, 780, rfl⟩
abbrev main_call1_call5_v17 : Ref sig .tc := ⟨.hbm, 781, rfl⟩
abbrev main_call1_call5_v18 : Ref sig .tc := ⟨.hbm, 782, rfl⟩
abbrev main_call1_call5_v19 : Ref sig .tc := ⟨.hbm, 783, rfl⟩
abbrev main_call1_call5_v20 : Ref sig .tc := ⟨.hbm, 784, rfl⟩
abbrev main_call1_call5_c_4 : Ref sig .tc := ⟨.hbm, 785, rfl⟩
abbrev main_call1_call5_v21 : Ref sig .tc := ⟨.hbm, 786, rfl⟩
abbrev main_call1_call5_v22 : Ref sig .tc := ⟨.hbm, 787, rfl⟩
abbrev main_call1_call5_c_5 : Ref sig .tc := ⟨.hbm, 788, rfl⟩
abbrev main_call1_call5_v23 : Ref sig .tc := ⟨.hbm, 789, rfl⟩
abbrev main_call1_call5_v24 : Ref sig .tc := ⟨.hbm, 790, rfl⟩
abbrev main_call1_call5_v25 : Ref sig .tc := ⟨.hbm, 791, rfl⟩
abbrev main_call1_call5_v26 : Ref sig .tc := ⟨.hbm, 792, rfl⟩
abbrev main_call1_call5_v27 : Ref sig .tc := ⟨.hbm, 793, rfl⟩
abbrev main_call1_call5_c_6 : Ref sig .tc := ⟨.hbm, 794, rfl⟩
abbrev main_call1_call5_v28 : Ref sig .tc := ⟨.hbm, 795, rfl⟩
abbrev main_call1_call5_v29 : Ref sig .tc := ⟨.hbm, 796, rfl⟩
abbrev main_call1_call5_c_7 : Ref sig .tc := ⟨.hbm, 797, rfl⟩
abbrev main_call1_call5_v30 : Ref sig .tc := ⟨.hbm, 798, rfl⟩
abbrev main_call1_call5_v31 : Ref sig .tc := ⟨.hbm, 799, rfl⟩
abbrev main_call1_call5_v32 : Ref sig .tc := ⟨.hbm, 800, rfl⟩
abbrev main_call1_call5_v33 : Ref sig .tc := ⟨.hbm, 801, rfl⟩
abbrev main_call1_call5_v34 : Ref sig .tc := ⟨.hbm, 802, rfl⟩
abbrev main_call1_call5_v35 : Ref sig .tc := ⟨.hbm, 803, rfl⟩
abbrev main_call1_call5_v36 : Ref sig .tc := ⟨.hbm, 804, rfl⟩
abbrev main_call1_call5_v37 : Ref sig .tc := ⟨.hbm, 805, rfl⟩
abbrev main_call1_call5_c_8 : Ref sig .tc := ⟨.hbm, 806, rfl⟩
abbrev main_call1_call5_v38 : Ref sig .tc := ⟨.hbm, 807, rfl⟩
abbrev main_call1_call5_v39 : Ref sig .tc := ⟨.hbm, 808, rfl⟩
abbrev main_call1_call5_v40 : Ref sig .tc := ⟨.hbm, 809, rfl⟩
abbrev main_call1_call5_c_9 : Ref sig .tc := ⟨.hbm, 810, rfl⟩
abbrev main_call1_call5_v41 : Ref sig .tc := ⟨.hbm, 811, rfl⟩
abbrev main_call1_call5_v42 : Ref sig .tc := ⟨.hbm, 812, rfl⟩
abbrev main_call1_call5_c_10 : Ref sig .tc := ⟨.hbm, 813, rfl⟩
abbrev main_call1_call5_v43 : Ref sig .tc := ⟨.hbm, 814, rfl⟩
abbrev main_call1_call5_v44 : Ref sig .tc := ⟨.hbm, 815, rfl⟩
abbrev main_call1_call5_v45 : Ref sig .tc := ⟨.hbm, 816, rfl⟩
abbrev main_call1_call5_v46 : Ref sig .tc := ⟨.hbm, 817, rfl⟩
abbrev main_call1_call5_v47 : Ref sig .tc := ⟨.hbm, 818, rfl⟩
abbrev main_call1_call5_c_11 : Ref sig .tc := ⟨.hbm, 819, rfl⟩
abbrev main_call1_call5_v48 : Ref sig .tc := ⟨.hbm, 820, rfl⟩
abbrev main_call1_call5_v49 : Ref sig .tc := ⟨.hbm, 821, rfl⟩
abbrev main_call1_call5_c_12 : Ref sig .tc := ⟨.hbm, 822, rfl⟩
abbrev main_call1_call5_v50 : Ref sig .tc := ⟨.hbm, 823, rfl⟩
abbrev main_call1_call5_v51 : Ref sig .tc := ⟨.hbm, 824, rfl⟩
abbrev main_call1_call5_v52 : Ref sig .tc := ⟨.hbm, 825, rfl⟩
abbrev main_call1_call5_v53 : Ref sig .tc := ⟨.hbm, 826, rfl⟩
abbrev main_call1_call5_v54 : Ref sig .tc := ⟨.hbm, 827, rfl⟩
abbrev main_call1_call5_c_13 : Ref sig .tc := ⟨.hbm, 828, rfl⟩
abbrev main_call1_call5_v55 : Ref sig .tc := ⟨.hbm, 829, rfl⟩
abbrev main_call1_call5_v56 : Ref sig .tc := ⟨.hbm, 830, rfl⟩
abbrev main_call1_call5_c_14 : Ref sig .tc := ⟨.hbm, 831, rfl⟩
abbrev main_call1_call5_v57 : Ref sig .tc := ⟨.hbm, 832, rfl⟩
abbrev main_call1_call5_v58 : Ref sig .tc := ⟨.hbm, 833, rfl⟩
abbrev main_call1_call5_v59 : Ref sig .tc := ⟨.hbm, 834, rfl⟩
abbrev main_call1_call5_v60 : Ref sig .tc := ⟨.hbm, 835, rfl⟩
abbrev main_call1_call5_v61 : Ref sig .tc := ⟨.hbm, 836, rfl⟩
abbrev main_call1_call5_c_15 : Ref sig .tc := ⟨.hbm, 837, rfl⟩
abbrev main_call1_call5_v62 : Ref sig .tc := ⟨.hbm, 838, rfl⟩
abbrev main_call1_call5_v63 : Ref sig .tc := ⟨.hbm, 839, rfl⟩
abbrev main_call1_call5_c_16 : Ref sig .tc := ⟨.hbm, 840, rfl⟩
abbrev main_call1_call5_v64 : Ref sig .tc := ⟨.hbm, 841, rfl⟩
abbrev main_call1_call5_v65 : Ref sig .tc := ⟨.hbm, 842, rfl⟩
abbrev main_call1_call5_v66 : Ref sig .tc := ⟨.hbm, 843, rfl⟩
abbrev main_call1_call5_v67 : Ref sig .tc := ⟨.hbm, 844, rfl⟩
abbrev main_call1_call5_v68 : Ref sig .tc := ⟨.hbm, 845, rfl⟩
abbrev main_call1_call5_v69 : Ref sig .tc := ⟨.hbm, 846, rfl⟩
abbrev main_call1_call5_v70 : Ref sig .tc := ⟨.hbm, 847, rfl⟩
abbrev main_call1_call5_v71 : Ref sig .tc := ⟨.hbm, 848, rfl⟩
abbrev main_call1_call5_c_17 : Ref sig .tc := ⟨.hbm, 849, rfl⟩
abbrev main_call1_call5_v72 : Ref sig .tc := ⟨.hbm, 850, rfl⟩
abbrev main_call1_call5_v73 : Ref sig .tc := ⟨.hbm, 851, rfl⟩
abbrev main_call1_call5_v74 : Ref sig .tc := ⟨.hbm, 852, rfl⟩
abbrev main_call1_call5_c_18 : Ref sig .tc := ⟨.hbm, 853, rfl⟩
abbrev main_call1_call5_v75 : Ref sig .tc := ⟨.hbm, 854, rfl⟩
abbrev main_call1_call5_v76 : Ref sig .tc := ⟨.hbm, 855, rfl⟩
abbrev main_call1_call5_c_19 : Ref sig .tc := ⟨.hbm, 856, rfl⟩
abbrev main_call1_call5_v77 : Ref sig .tc := ⟨.hbm, 857, rfl⟩
abbrev main_call1_call5_v78 : Ref sig .tc := ⟨.hbm, 858, rfl⟩
abbrev main_call1_call5_v79 : Ref sig .tc := ⟨.hbm, 859, rfl⟩
abbrev main_call1_call5_v80 : Ref sig .tc := ⟨.hbm, 860, rfl⟩
abbrev main_call1_call5_v81 : Ref sig .tc := ⟨.hbm, 861, rfl⟩
abbrev main_call1_call5_c_20 : Ref sig .tc := ⟨.hbm, 862, rfl⟩
abbrev main_call1_call5_v82 : Ref sig .tc := ⟨.hbm, 863, rfl⟩
abbrev main_call1_call5_v83 : Ref sig .tc := ⟨.hbm, 864, rfl⟩
abbrev main_call1_call5_c_21 : Ref sig .tc := ⟨.hbm, 865, rfl⟩
abbrev main_call1_call5_v84 : Ref sig .tc := ⟨.hbm, 866, rfl⟩
abbrev main_call1_call5_v85 : Ref sig .tc := ⟨.hbm, 867, rfl⟩
abbrev main_call1_call5_v86 : Ref sig .tc := ⟨.hbm, 868, rfl⟩
abbrev main_call1_call5_v87 : Ref sig .tc := ⟨.hbm, 869, rfl⟩
abbrev main_call1_call5_v88 : Ref sig .tc := ⟨.hbm, 870, rfl⟩
abbrev main_call1_call5_c_22 : Ref sig .tc := ⟨.hbm, 871, rfl⟩
abbrev main_call1_call5_v89 : Ref sig .tc := ⟨.hbm, 872, rfl⟩
abbrev main_call1_call5_v90 : Ref sig .tc := ⟨.hbm, 873, rfl⟩
abbrev main_call1_call5_c_23 : Ref sig .tc := ⟨.hbm, 874, rfl⟩
abbrev main_call1_call5_v91 : Ref sig .tc := ⟨.hbm, 875, rfl⟩
abbrev main_call1_call5_v92 : Ref sig .tc := ⟨.hbm, 876, rfl⟩
abbrev main_call1_call5_v93 : Ref sig .tc := ⟨.hbm, 877, rfl⟩
abbrev main_call1_call5_v94 : Ref sig .tc := ⟨.hbm, 878, rfl⟩
abbrev main_call1_call5_v95 : Ref sig .tc := ⟨.hbm, 879, rfl⟩
abbrev main_call1_call5_c_24 : Ref sig .tc := ⟨.hbm, 880, rfl⟩
abbrev main_call1_call5_v96 : Ref sig .tc := ⟨.hbm, 881, rfl⟩
abbrev main_call1_call5_v97 : Ref sig .tc := ⟨.hbm, 882, rfl⟩
abbrev main_call1_call5_c_25 : Ref sig .tc := ⟨.hbm, 883, rfl⟩
abbrev main_call1_call5_v98 : Ref sig .tc := ⟨.hbm, 884, rfl⟩
abbrev main_call1_call5_v99 : Ref sig .tc := ⟨.hbm, 885, rfl⟩
abbrev main_call1_call5_v100 : Ref sig .tc := ⟨.hbm, 886, rfl⟩
abbrev main_call1_call5_v101 : Ref sig .tc := ⟨.hbm, 887, rfl⟩
abbrev main_call1_call5_v102 : Ref sig .tc := ⟨.hbm, 888, rfl⟩
abbrev main_call1_call5_v103 : Ref sig .tc := ⟨.hbm, 889, rfl⟩
abbrev main_call1_call5_v104 : Ref sig .tc := ⟨.hbm, 890, rfl⟩
abbrev main_call1_call5_v105 : Ref sig .tc := ⟨.hbm, 891, rfl⟩
abbrev main_call1_call5_c_26 : Ref sig .tc := ⟨.hbm, 892, rfl⟩
abbrev main_call1_call5_v106 : Ref sig .tc := ⟨.hbm, 893, rfl⟩
abbrev main_call1_call5_v107 : Ref sig .tc := ⟨.hbm, 894, rfl⟩
abbrev main_call1_call5_v108 : Ref sig .tc := ⟨.hbm, 895, rfl⟩
abbrev main_call1_call5_c_27 : Ref sig .tc := ⟨.hbm, 896, rfl⟩
abbrev main_call1_call5_v109 : Ref sig .tc := ⟨.hbm, 897, rfl⟩
abbrev main_call1_call5_v110 : Ref sig .tc := ⟨.hbm, 898, rfl⟩
abbrev main_call1_call5_c_28 : Ref sig .tc := ⟨.hbm, 899, rfl⟩
abbrev main_call1_call5_v111 : Ref sig .tc := ⟨.hbm, 900, rfl⟩
abbrev main_call1_call5_v112 : Ref sig .tc := ⟨.hbm, 901, rfl⟩
abbrev main_call1_call5_v113 : Ref sig .tc := ⟨.hbm, 902, rfl⟩
abbrev main_call1_call5_v114 : Ref sig .tc := ⟨.hbm, 903, rfl⟩
abbrev main_call1_call5_v115 : Ref sig .tc := ⟨.hbm, 904, rfl⟩
abbrev main_call1_call5_c_29 : Ref sig .tc := ⟨.hbm, 905, rfl⟩
abbrev main_call1_call5_v116 : Ref sig .tc := ⟨.hbm, 906, rfl⟩
abbrev main_call1_call5_v117 : Ref sig .tc := ⟨.hbm, 907, rfl⟩
abbrev main_call1_call5_c_30 : Ref sig .tc := ⟨.hbm, 908, rfl⟩
abbrev main_call1_call5_v118 : Ref sig .tc := ⟨.hbm, 909, rfl⟩
abbrev main_call1_call5_v119 : Ref sig .tc := ⟨.hbm, 910, rfl⟩
abbrev main_call1_call5_v120 : Ref sig .tc := ⟨.hbm, 911, rfl⟩
abbrev main_call1_call5_v121 : Ref sig .tc := ⟨.hbm, 912, rfl⟩
abbrev main_call1_call5_v122 : Ref sig .tc := ⟨.hbm, 913, rfl⟩
abbrev main_call1_call5_c_31 : Ref sig .tc := ⟨.hbm, 914, rfl⟩
abbrev main_call1_call5_v123 : Ref sig .tc := ⟨.hbm, 915, rfl⟩
abbrev main_call1_call5_v124 : Ref sig .tc := ⟨.hbm, 916, rfl⟩
abbrev main_call1_call5_c_32 : Ref sig .tc := ⟨.hbm, 917, rfl⟩
abbrev main_call1_call5_v125 : Ref sig .tc := ⟨.hbm, 918, rfl⟩
abbrev main_call1_call5_v126 : Ref sig .tc := ⟨.hbm, 919, rfl⟩
abbrev main_call1_call5_v127 : Ref sig .tc := ⟨.hbm, 920, rfl⟩
abbrev main_call1_call5_v128 : Ref sig .tc := ⟨.hbm, 921, rfl⟩
abbrev main_call1_call5_v129 : Ref sig .tc := ⟨.hbm, 922, rfl⟩
abbrev main_call1_call5_c_33 : Ref sig .tc := ⟨.hbm, 923, rfl⟩
abbrev main_call1_call5_v130 : Ref sig .tc := ⟨.hbm, 924, rfl⟩
abbrev main_call1_call5_v131 : Ref sig .tc := ⟨.hbm, 925, rfl⟩
abbrev main_call1_call5_c_34 : Ref sig .tc := ⟨.hbm, 926, rfl⟩
abbrev main_call1_call5_v132 : Ref sig .tc := ⟨.hbm, 927, rfl⟩
abbrev main_call1_call5_v133 : Ref sig .tc := ⟨.hbm, 928, rfl⟩
abbrev main_call1_call5_v134 : Ref sig .tc := ⟨.hbm, 929, rfl⟩
abbrev main_call1_call5_v135 : Ref sig .tc := ⟨.hbm, 930, rfl⟩
abbrev main_call1_call5_v136 : Ref sig .tc := ⟨.hbm, 931, rfl⟩
abbrev main_call1_call5_v137 : Ref sig .tc := ⟨.hbm, 932, rfl⟩
abbrev main_call1_call5_v138 : Ref sig .tc := ⟨.hbm, 933, rfl⟩
abbrev main_call1_call5_v139 : Ref sig .tc := ⟨.hbm, 934, rfl⟩
abbrev main_call1_call5_c_35 : Ref sig .tc := ⟨.hbm, 935, rfl⟩
abbrev main_call1_call5_v140 : Ref sig .tc := ⟨.hbm, 936, rfl⟩
abbrev main_call1_call5_v141 : Ref sig .tc := ⟨.hbm, 937, rfl⟩
abbrev main_call1_call5_v142 : Ref sig .tc := ⟨.hbm, 938, rfl⟩
abbrev main_call1_call5_c_36 : Ref sig .tc := ⟨.hbm, 939, rfl⟩
abbrev main_call1_call5_v143 : Ref sig .tc := ⟨.hbm, 940, rfl⟩
abbrev main_call1_call5_v144 : Ref sig .tc := ⟨.hbm, 941, rfl⟩
abbrev main_call1_call5_c_37 : Ref sig .tc := ⟨.hbm, 942, rfl⟩
abbrev main_call1_call5_v145 : Ref sig .tc := ⟨.hbm, 943, rfl⟩
abbrev main_call1_call5_v146 : Ref sig .tc := ⟨.hbm, 944, rfl⟩
abbrev main_call1_call5_v147 : Ref sig .tc := ⟨.hbm, 945, rfl⟩
abbrev main_call1_call5_v148 : Ref sig .tc := ⟨.hbm, 946, rfl⟩
abbrev main_call1_call5_v149 : Ref sig .tc := ⟨.hbm, 947, rfl⟩
abbrev main_call1_call5_c_38 : Ref sig .tc := ⟨.hbm, 948, rfl⟩
abbrev main_call1_call5_v150 : Ref sig .tc := ⟨.hbm, 949, rfl⟩
abbrev main_call1_call5_v151 : Ref sig .tc := ⟨.hbm, 950, rfl⟩
abbrev main_call1_call5_c_39 : Ref sig .tc := ⟨.hbm, 951, rfl⟩
abbrev main_call1_call5_v152 : Ref sig .tc := ⟨.hbm, 952, rfl⟩
abbrev main_call1_call5_v153 : Ref sig .tc := ⟨.hbm, 953, rfl⟩
abbrev main_call1_call5_v154 : Ref sig .tc := ⟨.hbm, 954, rfl⟩
abbrev main_call1_call5_v155 : Ref sig .tc := ⟨.hbm, 955, rfl⟩
abbrev main_call1_call5_v156 : Ref sig .tc := ⟨.hbm, 956, rfl⟩
abbrev main_call1_call5_c_40 : Ref sig .tc := ⟨.hbm, 957, rfl⟩
abbrev main_call1_call5_v157 : Ref sig .tc := ⟨.hbm, 958, rfl⟩
abbrev main_call1_call5_v158 : Ref sig .tc := ⟨.hbm, 959, rfl⟩
abbrev main_call1_call5_c_41 : Ref sig .tc := ⟨.hbm, 960, rfl⟩
abbrev main_call1_call5_v159 : Ref sig .tc := ⟨.hbm, 961, rfl⟩
abbrev main_call1_call5_v160 : Ref sig .tc := ⟨.hbm, 962, rfl⟩
abbrev main_call1_call5_v161 : Ref sig .tc := ⟨.hbm, 963, rfl⟩
abbrev main_call1_call5_v162 : Ref sig .tc := ⟨.hbm, 964, rfl⟩
abbrev main_call1_call5_v163 : Ref sig .tc := ⟨.hbm, 965, rfl⟩
abbrev main_call1_call5_c_42 : Ref sig .tc := ⟨.hbm, 966, rfl⟩
abbrev main_call1_call5_v164 : Ref sig .tc := ⟨.hbm, 967, rfl⟩
abbrev main_call1_call5_v165 : Ref sig .tc := ⟨.hbm, 968, rfl⟩
abbrev main_call1_call5_c_43 : Ref sig .tc := ⟨.hbm, 969, rfl⟩
abbrev main_call1_call5_v166 : Ref sig .tc := ⟨.hbm, 970, rfl⟩
abbrev main_call1_call5_v167 : Ref sig .tc := ⟨.hbm, 971, rfl⟩
abbrev main_call1_call5_v168 : Ref sig .tc := ⟨.hbm, 972, rfl⟩
abbrev main_call1_call5_v169 : Ref sig .tc := ⟨.hbm, 973, rfl⟩
abbrev main_call1_call5_v170 : Ref sig .tc := ⟨.hbm, 974, rfl⟩
abbrev main_call1_v37_0 : Ref sig .tc := ⟨.hbm, 975, rfl⟩
abbrev main_call1_call5_v172 : Ref sig .tc := ⟨.hbm, 976, rfl⟩
abbrev main_call1_call5_v173 : Ref sig .tc := ⟨.hbm, 977, rfl⟩
abbrev main_call1_call5_c_44 : Ref sig .tc := ⟨.hbm, 978, rfl⟩
abbrev main_call1_call5_v174 : Ref sig .tc := ⟨.hbm, 979, rfl⟩
abbrev main_call1_v37_1 : Ref sig .tc := ⟨.hbm, 980, rfl⟩
abbrev main_call1_v38 : Ref sig .tc := ⟨.hbm, 981, rfl⟩
abbrev main_call1_v39 : Ref sig .tc := ⟨.hbm, 982, rfl⟩
abbrev main_call1_v40 : Ref sig .tc := ⟨.hbm, 983, rfl⟩
abbrev main_call1_v41 : Ref sig .tc := ⟨.hbm, 984, rfl⟩
abbrev main_call1_c_10 : Ref sig .tc := ⟨.hbm, 985, rfl⟩
abbrev main_call1_v42 : Ref sig .tc := ⟨.hbm, 986, rfl⟩
abbrev main_call1_v43 : Ref sig .tc := ⟨.hbm, 987, rfl⟩
abbrev main_call1_v44 : Ref sig .tc := ⟨.hbm, 988, rfl⟩
abbrev main_call1_v45 : Ref sig .tc := ⟨.hbm, 989, rfl⟩
abbrev main_call1_v46 : Ref sig .tc := ⟨.hbm, 990, rfl⟩
abbrev main_call1_c_11 : Ref sig .tc := ⟨.hbm, 991, rfl⟩
abbrev main_call1_v47 : Ref sig .tc := ⟨.hbm, 992, rfl⟩
abbrev main_call1_v48 : Ref sig .tc := ⟨.hbm, 993, rfl⟩
abbrev main_call1_v49 : Ref sig .tc := ⟨.hbm, 994, rfl⟩
abbrev main_call1_c_12 : Ref sig .tc := ⟨.hbm, 995, rfl⟩
abbrev main_call1_v50 : Ref sig .tc := ⟨.hbm, 996, rfl⟩
abbrev main_call1_v51 : Ref sig .tc := ⟨.hbm, 997, rfl⟩
abbrev main_call1_v52 : Ref sig .tc := ⟨.hbm, 998, rfl⟩
abbrev main_call1_v53 : Ref sig .tc := ⟨.hbm, 999, rfl⟩
abbrev main_call1_v54 : Ref sig .tc := ⟨.hbm, 1000, rfl⟩
abbrev main_call1_v55 : Ref sig .tc := ⟨.hbm, 1001, rfl⟩
abbrev main_call1_v56 : Ref sig .tc := ⟨.hbm, 1002, rfl⟩
abbrev main_call1_v57 : Ref sig .tc := ⟨.hbm, 1003, rfl⟩
abbrev main_call1_v58 : Ref sig .tc := ⟨.hbm, 1004, rfl⟩
abbrev main_call1_v59 : Ref sig .tc := ⟨.hbm, 1005, rfl⟩
abbrev main_call1_v60 : Ref sig .tc := ⟨.hbm, 1006, rfl⟩
abbrev main_call1_v61 : Ref sig .tc := ⟨.hbm, 1007, rfl⟩
abbrev main_call1_v62 : Ref sig .tc := ⟨.hbm, 1008, rfl⟩
abbrev main_call1_v63 : Ref sig .tc := ⟨.hbm, 1009, rfl⟩
abbrev main_call1_v64 : Ref sig .tc := ⟨.hbm, 1010, rfl⟩
abbrev main_v8 : Ref sig .tc := ⟨.hbm, 1011, rfl⟩
abbrev main_c_5 : Ref sig .tc := ⟨.hbm, 1012, rfl⟩
abbrev main_c_6 : Ref sig .tc := ⟨.hbm, 1013, rfl⟩
abbrev main_v9 : Ref sig .tc := ⟨.hbm, 1014, rfl⟩
abbrev main_v10 : Ref sig .tc := ⟨.hbm, 1015, rfl⟩
abbrev main_v11 : Ref sig .tc := ⟨.hbm, 1016, rfl⟩
abbrev main_c_7 : Ref sig .tc := ⟨.hbm, 1017, rfl⟩
abbrev main_v12 : Ref sig .tc := ⟨.hbm, 1018, rfl⟩
abbrev main_v13 : Ref sig .tc := ⟨.hbm, 1019, rfl⟩
abbrev main_v14 : Ref sig .tc := ⟨.hbm, 1020, rfl⟩
abbrev main_v15 : Ref sig .tc := ⟨.hbm, 1021, rfl⟩
abbrev main_c_8 : Ref sig .tc := ⟨.hbm, 1022, rfl⟩
abbrev main_call2_c : Ref sig .tc := ⟨.hbm, 1023, rfl⟩
abbrev main_call2_v0 : Ref sig .tc := ⟨.hbm, 1024, rfl⟩
abbrev main_call2_v1 : Ref sig .tc := ⟨.hbm, 1025, rfl⟩
abbrev main_call2_c_0 : Ref sig .tc := ⟨.hbm, 1026, rfl⟩
abbrev main_call2_v2 : Ref sig .tc := ⟨.hbm, 1027, rfl⟩
abbrev main_call2_v3 : Ref sig .tc := ⟨.hbm, 1028, rfl⟩
abbrev main_call2_v4 : Ref sig .tc := ⟨.hbm, 1029, rfl⟩
abbrev main_call2_v5 : Ref sig .tc := ⟨.hbm, 1030, rfl⟩
abbrev main_call2_v6 : Ref sig .tc := ⟨.hbm, 1031, rfl⟩
abbrev main_call2_v7 : Ref sig .tc := ⟨.hbm, 1032, rfl⟩
abbrev main_call2_v8 : Ref sig .tc := ⟨.hbm, 1033, rfl⟩
abbrev main_call2_v9 : Ref sig .tc := ⟨.hbm, 1034, rfl⟩
abbrev main_call2_v10 : Ref sig .tc := ⟨.hbm, 1035, rfl⟩
abbrev main_call2_call0_v0 : Ref sig .tc := ⟨.hbm, 1036, rfl⟩
abbrev main_call2_call0_c : Ref sig .tc := ⟨.hbm, 1037, rfl⟩
abbrev main_call2_call0_v1 : Ref sig .tc := ⟨.hbm, 1038, rfl⟩
abbrev main_call2_call0_v2 : Ref sig .tc := ⟨.hbm, 1039, rfl⟩
abbrev main_call2_call0_v3 : Ref sig .tc := ⟨.hbm, 1040, rfl⟩
abbrev main_call2_call0_v4 : Ref sig .tc := ⟨.hbm, 1041, rfl⟩
abbrev main_call2_call0_v5 : Ref sig .tc := ⟨.hbm, 1042, rfl⟩
abbrev main_call2_call0_v6 : Ref sig .tc := ⟨.hbm, 1043, rfl⟩
abbrev main_call2_call0_c_0 : Ref sig .tc := ⟨.hbm, 1044, rfl⟩
abbrev main_call2_call0_v7 : Ref sig .tc := ⟨.hbm, 1045, rfl⟩
abbrev main_call2_call0_v8 : Ref sig .tc := ⟨.hbm, 1046, rfl⟩
abbrev main_call2_call0_c_1 : Ref sig .tc := ⟨.hbm, 1047, rfl⟩
abbrev main_call2_call0_v9 : Ref sig .tc := ⟨.hbm, 1048, rfl⟩
abbrev main_call2_call0_v10 : Ref sig .tc := ⟨.hbm, 1049, rfl⟩
abbrev main_call2_call0_v11 : Ref sig .tc := ⟨.hbm, 1050, rfl⟩
abbrev main_call2_call0_v12 : Ref sig .tc := ⟨.hbm, 1051, rfl⟩
abbrev main_call2_call0_v13 : Ref sig .tc := ⟨.hbm, 1052, rfl⟩
abbrev main_call2_call0_c_2 : Ref sig .tc := ⟨.hbm, 1053, rfl⟩
abbrev main_call2_call0_v14 : Ref sig .tc := ⟨.hbm, 1054, rfl⟩
abbrev main_call2_call0_v15 : Ref sig .tc := ⟨.hbm, 1055, rfl⟩
abbrev main_call2_call0_c_3 : Ref sig .tc := ⟨.hbm, 1056, rfl⟩
abbrev main_call2_call0_v16 : Ref sig .tc := ⟨.hbm, 1057, rfl⟩
abbrev main_call2_call0_v17 : Ref sig .tc := ⟨.hbm, 1058, rfl⟩
abbrev main_call2_call0_v18 : Ref sig .tc := ⟨.hbm, 1059, rfl⟩
abbrev main_call2_call0_v19 : Ref sig .tc := ⟨.hbm, 1060, rfl⟩
abbrev main_call2_call0_v20 : Ref sig .tc := ⟨.hbm, 1061, rfl⟩
abbrev main_call2_call0_c_4 : Ref sig .tc := ⟨.hbm, 1062, rfl⟩
abbrev main_call2_call0_v21 : Ref sig .tc := ⟨.hbm, 1063, rfl⟩
abbrev main_call2_call0_v22 : Ref sig .tc := ⟨.hbm, 1064, rfl⟩
abbrev main_call2_call0_c_5 : Ref sig .tc := ⟨.hbm, 1065, rfl⟩
abbrev main_call2_call0_v23 : Ref sig .tc := ⟨.hbm, 1066, rfl⟩
abbrev main_call2_call0_v24 : Ref sig .tc := ⟨.hbm, 1067, rfl⟩
abbrev main_call2_call0_v25 : Ref sig .tc := ⟨.hbm, 1068, rfl⟩
abbrev main_call2_call0_v26 : Ref sig .tc := ⟨.hbm, 1069, rfl⟩
abbrev main_call2_call0_v27 : Ref sig .tc := ⟨.hbm, 1070, rfl⟩
abbrev main_call2_call0_c_6 : Ref sig .tc := ⟨.hbm, 1071, rfl⟩
abbrev main_call2_call0_v28 : Ref sig .tc := ⟨.hbm, 1072, rfl⟩
abbrev main_call2_call0_v29 : Ref sig .tc := ⟨.hbm, 1073, rfl⟩
abbrev main_call2_call0_c_7 : Ref sig .tc := ⟨.hbm, 1074, rfl⟩
abbrev main_call2_call0_v30 : Ref sig .tc := ⟨.hbm, 1075, rfl⟩
abbrev main_call2_call0_v31 : Ref sig .tc := ⟨.hbm, 1076, rfl⟩
abbrev main_call2_call0_v32 : Ref sig .tc := ⟨.hbm, 1077, rfl⟩
abbrev main_call2_call0_v33 : Ref sig .tc := ⟨.hbm, 1078, rfl⟩
abbrev main_call2_call0_v34 : Ref sig .tc := ⟨.hbm, 1079, rfl⟩
abbrev main_call2_call0_v35 : Ref sig .tc := ⟨.hbm, 1080, rfl⟩
abbrev main_call2_call0_v36 : Ref sig .tc := ⟨.hbm, 1081, rfl⟩
abbrev main_call2_call0_v37 : Ref sig .tc := ⟨.hbm, 1082, rfl⟩
abbrev main_call2_call0_c_8 : Ref sig .tc := ⟨.hbm, 1083, rfl⟩
abbrev main_call2_call0_v38 : Ref sig .tc := ⟨.hbm, 1084, rfl⟩
abbrev main_call2_call0_v39 : Ref sig .tc := ⟨.hbm, 1085, rfl⟩
abbrev main_call2_call0_v40 : Ref sig .tc := ⟨.hbm, 1086, rfl⟩
abbrev main_call2_call0_c_9 : Ref sig .tc := ⟨.hbm, 1087, rfl⟩
abbrev main_call2_call0_v41 : Ref sig .tc := ⟨.hbm, 1088, rfl⟩
abbrev main_call2_call0_v42 : Ref sig .tc := ⟨.hbm, 1089, rfl⟩
abbrev main_call2_call0_c_10 : Ref sig .tc := ⟨.hbm, 1090, rfl⟩
abbrev main_call2_call0_v43 : Ref sig .tc := ⟨.hbm, 1091, rfl⟩
abbrev main_call2_call0_v44 : Ref sig .tc := ⟨.hbm, 1092, rfl⟩
abbrev main_call2_call0_v45 : Ref sig .tc := ⟨.hbm, 1093, rfl⟩
abbrev main_call2_call0_v46 : Ref sig .tc := ⟨.hbm, 1094, rfl⟩
abbrev main_call2_call0_v47 : Ref sig .tc := ⟨.hbm, 1095, rfl⟩
abbrev main_call2_call0_c_11 : Ref sig .tc := ⟨.hbm, 1096, rfl⟩
abbrev main_call2_call0_v48 : Ref sig .tc := ⟨.hbm, 1097, rfl⟩
abbrev main_call2_call0_v49 : Ref sig .tc := ⟨.hbm, 1098, rfl⟩
abbrev main_call2_call0_c_12 : Ref sig .tc := ⟨.hbm, 1099, rfl⟩
abbrev main_call2_call0_v50 : Ref sig .tc := ⟨.hbm, 1100, rfl⟩
abbrev main_call2_call0_v51 : Ref sig .tc := ⟨.hbm, 1101, rfl⟩
abbrev main_call2_call0_v52 : Ref sig .tc := ⟨.hbm, 1102, rfl⟩
abbrev main_call2_call0_v53 : Ref sig .tc := ⟨.hbm, 1103, rfl⟩
abbrev main_call2_call0_v54 : Ref sig .tc := ⟨.hbm, 1104, rfl⟩
abbrev main_call2_call0_c_13 : Ref sig .tc := ⟨.hbm, 1105, rfl⟩
abbrev main_call2_call0_v55 : Ref sig .tc := ⟨.hbm, 1106, rfl⟩
abbrev main_call2_call0_v56 : Ref sig .tc := ⟨.hbm, 1107, rfl⟩
abbrev main_call2_call0_c_14 : Ref sig .tc := ⟨.hbm, 1108, rfl⟩
abbrev main_call2_call0_v57 : Ref sig .tc := ⟨.hbm, 1109, rfl⟩
abbrev main_call2_call0_v58 : Ref sig .tc := ⟨.hbm, 1110, rfl⟩
abbrev main_call2_call0_v59 : Ref sig .tc := ⟨.hbm, 1111, rfl⟩
abbrev main_call2_call0_v60 : Ref sig .tc := ⟨.hbm, 1112, rfl⟩
abbrev main_call2_call0_v61 : Ref sig .tc := ⟨.hbm, 1113, rfl⟩
abbrev main_call2_call0_c_15 : Ref sig .tc := ⟨.hbm, 1114, rfl⟩
abbrev main_call2_call0_v62 : Ref sig .tc := ⟨.hbm, 1115, rfl⟩
abbrev main_call2_call0_v63 : Ref sig .tc := ⟨.hbm, 1116, rfl⟩
abbrev main_call2_call0_c_16 : Ref sig .tc := ⟨.hbm, 1117, rfl⟩
abbrev main_call2_call0_v64 : Ref sig .tc := ⟨.hbm, 1118, rfl⟩
abbrev main_call2_call0_v65 : Ref sig .tc := ⟨.hbm, 1119, rfl⟩
abbrev main_call2_call0_v66 : Ref sig .tc := ⟨.hbm, 1120, rfl⟩
abbrev main_call2_call0_v67 : Ref sig .tc := ⟨.hbm, 1121, rfl⟩
abbrev main_call2_call0_v68 : Ref sig .tc := ⟨.hbm, 1122, rfl⟩
abbrev main_call2_call0_v69 : Ref sig .tc := ⟨.hbm, 1123, rfl⟩
abbrev main_call2_call0_v70 : Ref sig .tc := ⟨.hbm, 1124, rfl⟩
abbrev main_call2_call0_v71 : Ref sig .tc := ⟨.hbm, 1125, rfl⟩
abbrev main_call2_call0_c_17 : Ref sig .tc := ⟨.hbm, 1126, rfl⟩
abbrev main_call2_call0_v72 : Ref sig .tc := ⟨.hbm, 1127, rfl⟩
abbrev main_call2_call0_v73 : Ref sig .tc := ⟨.hbm, 1128, rfl⟩
abbrev main_call2_call0_v74 : Ref sig .tc := ⟨.hbm, 1129, rfl⟩
abbrev main_call2_call0_c_18 : Ref sig .tc := ⟨.hbm, 1130, rfl⟩
abbrev main_call2_call0_v75 : Ref sig .tc := ⟨.hbm, 1131, rfl⟩
abbrev main_call2_call0_v76 : Ref sig .tc := ⟨.hbm, 1132, rfl⟩
abbrev main_call2_call0_c_19 : Ref sig .tc := ⟨.hbm, 1133, rfl⟩
abbrev main_call2_call0_v77 : Ref sig .tc := ⟨.hbm, 1134, rfl⟩
abbrev main_call2_call0_v78 : Ref sig .tc := ⟨.hbm, 1135, rfl⟩
abbrev main_call2_call0_v79 : Ref sig .tc := ⟨.hbm, 1136, rfl⟩
abbrev main_call2_call0_v80 : Ref sig .tc := ⟨.hbm, 1137, rfl⟩
abbrev main_call2_call0_v81 : Ref sig .tc := ⟨.hbm, 1138, rfl⟩
abbrev main_call2_call0_c_20 : Ref sig .tc := ⟨.hbm, 1139, rfl⟩
abbrev main_call2_call0_v82 : Ref sig .tc := ⟨.hbm, 1140, rfl⟩
abbrev main_call2_call0_v83 : Ref sig .tc := ⟨.hbm, 1141, rfl⟩
abbrev main_call2_call0_c_21 : Ref sig .tc := ⟨.hbm, 1142, rfl⟩
abbrev main_call2_call0_v84 : Ref sig .tc := ⟨.hbm, 1143, rfl⟩
abbrev main_call2_call0_v85 : Ref sig .tc := ⟨.hbm, 1144, rfl⟩
abbrev main_call2_call0_v86 : Ref sig .tc := ⟨.hbm, 1145, rfl⟩
abbrev main_call2_call0_v87 : Ref sig .tc := ⟨.hbm, 1146, rfl⟩
abbrev main_call2_call0_v88 : Ref sig .tc := ⟨.hbm, 1147, rfl⟩
abbrev main_call2_call0_c_22 : Ref sig .tc := ⟨.hbm, 1148, rfl⟩
abbrev main_call2_call0_v89 : Ref sig .tc := ⟨.hbm, 1149, rfl⟩
abbrev main_call2_call0_v90 : Ref sig .tc := ⟨.hbm, 1150, rfl⟩
abbrev main_call2_call0_c_23 : Ref sig .tc := ⟨.hbm, 1151, rfl⟩
abbrev main_call2_call0_v91 : Ref sig .tc := ⟨.hbm, 1152, rfl⟩
abbrev main_call2_call0_v92 : Ref sig .tc := ⟨.hbm, 1153, rfl⟩
abbrev main_call2_call0_v93 : Ref sig .tc := ⟨.hbm, 1154, rfl⟩
abbrev main_call2_call0_v94 : Ref sig .tc := ⟨.hbm, 1155, rfl⟩
abbrev main_call2_call0_v95 : Ref sig .tc := ⟨.hbm, 1156, rfl⟩
abbrev main_call2_call0_c_24 : Ref sig .tc := ⟨.hbm, 1157, rfl⟩
abbrev main_call2_call0_v96 : Ref sig .tc := ⟨.hbm, 1158, rfl⟩
abbrev main_call2_call0_v97 : Ref sig .tc := ⟨.hbm, 1159, rfl⟩
abbrev main_call2_call0_c_25 : Ref sig .tc := ⟨.hbm, 1160, rfl⟩
abbrev main_call2_call0_v98 : Ref sig .tc := ⟨.hbm, 1161, rfl⟩
abbrev main_call2_call0_v99 : Ref sig .tc := ⟨.hbm, 1162, rfl⟩
abbrev main_call2_call0_v100 : Ref sig .tc := ⟨.hbm, 1163, rfl⟩
abbrev main_call2_call0_v101 : Ref sig .tc := ⟨.hbm, 1164, rfl⟩
abbrev main_call2_call0_v102 : Ref sig .tc := ⟨.hbm, 1165, rfl⟩
abbrev main_call2_call0_v103 : Ref sig .tc := ⟨.hbm, 1166, rfl⟩
abbrev main_call2_call0_v104 : Ref sig .tc := ⟨.hbm, 1167, rfl⟩
abbrev main_call2_call0_v105 : Ref sig .tc := ⟨.hbm, 1168, rfl⟩
abbrev main_call2_call0_c_26 : Ref sig .tc := ⟨.hbm, 1169, rfl⟩
abbrev main_call2_call0_v106 : Ref sig .tc := ⟨.hbm, 1170, rfl⟩
abbrev main_call2_call0_v107 : Ref sig .tc := ⟨.hbm, 1171, rfl⟩
abbrev main_call2_call0_v108 : Ref sig .tc := ⟨.hbm, 1172, rfl⟩
abbrev main_call2_call0_c_27 : Ref sig .tc := ⟨.hbm, 1173, rfl⟩
abbrev main_call2_call0_v109 : Ref sig .tc := ⟨.hbm, 1174, rfl⟩
abbrev main_call2_call0_v110 : Ref sig .tc := ⟨.hbm, 1175, rfl⟩
abbrev main_call2_call0_c_28 : Ref sig .tc := ⟨.hbm, 1176, rfl⟩
abbrev main_call2_call0_v111 : Ref sig .tc := ⟨.hbm, 1177, rfl⟩
abbrev main_call2_call0_v112 : Ref sig .tc := ⟨.hbm, 1178, rfl⟩
abbrev main_call2_call0_v113 : Ref sig .tc := ⟨.hbm, 1179, rfl⟩
abbrev main_call2_call0_v114 : Ref sig .tc := ⟨.hbm, 1180, rfl⟩
abbrev main_call2_call0_v115 : Ref sig .tc := ⟨.hbm, 1181, rfl⟩
abbrev main_call2_call0_c_29 : Ref sig .tc := ⟨.hbm, 1182, rfl⟩
abbrev main_call2_call0_v116 : Ref sig .tc := ⟨.hbm, 1183, rfl⟩
abbrev main_call2_call0_v117 : Ref sig .tc := ⟨.hbm, 1184, rfl⟩
abbrev main_call2_call0_c_30 : Ref sig .tc := ⟨.hbm, 1185, rfl⟩
abbrev main_call2_call0_v118 : Ref sig .tc := ⟨.hbm, 1186, rfl⟩
abbrev main_call2_call0_v119 : Ref sig .tc := ⟨.hbm, 1187, rfl⟩
abbrev main_call2_call0_v120 : Ref sig .tc := ⟨.hbm, 1188, rfl⟩
abbrev main_call2_call0_v121 : Ref sig .tc := ⟨.hbm, 1189, rfl⟩
abbrev main_call2_call0_v122 : Ref sig .tc := ⟨.hbm, 1190, rfl⟩
abbrev main_call2_call0_c_31 : Ref sig .tc := ⟨.hbm, 1191, rfl⟩
abbrev main_call2_call0_v123 : Ref sig .tc := ⟨.hbm, 1192, rfl⟩
abbrev main_call2_call0_v124 : Ref sig .tc := ⟨.hbm, 1193, rfl⟩
abbrev main_call2_call0_c_32 : Ref sig .tc := ⟨.hbm, 1194, rfl⟩
abbrev main_call2_call0_v125 : Ref sig .tc := ⟨.hbm, 1195, rfl⟩
abbrev main_call2_call0_v126 : Ref sig .tc := ⟨.hbm, 1196, rfl⟩
abbrev main_call2_call0_v127 : Ref sig .tc := ⟨.hbm, 1197, rfl⟩
abbrev main_call2_call0_v128 : Ref sig .tc := ⟨.hbm, 1198, rfl⟩
abbrev main_call2_call0_v129 : Ref sig .tc := ⟨.hbm, 1199, rfl⟩
abbrev main_call2_call0_c_33 : Ref sig .tc := ⟨.hbm, 1200, rfl⟩
abbrev main_call2_call0_v130 : Ref sig .tc := ⟨.hbm, 1201, rfl⟩
abbrev main_call2_call0_v131 : Ref sig .tc := ⟨.hbm, 1202, rfl⟩
abbrev main_call2_call0_c_34 : Ref sig .tc := ⟨.hbm, 1203, rfl⟩
abbrev main_call2_call0_v132 : Ref sig .tc := ⟨.hbm, 1204, rfl⟩
abbrev main_call2_call0_v133 : Ref sig .tc := ⟨.hbm, 1205, rfl⟩
abbrev main_call2_call0_v134 : Ref sig .tc := ⟨.hbm, 1206, rfl⟩
abbrev main_call2_call0_v135 : Ref sig .tc := ⟨.hbm, 1207, rfl⟩
abbrev main_call2_call0_v136 : Ref sig .tc := ⟨.hbm, 1208, rfl⟩
abbrev main_call2_call0_v137 : Ref sig .tc := ⟨.hbm, 1209, rfl⟩
abbrev main_call2_call0_v138 : Ref sig .tc := ⟨.hbm, 1210, rfl⟩
abbrev main_call2_call0_v139 : Ref sig .tc := ⟨.hbm, 1211, rfl⟩
abbrev main_call2_call0_c_35 : Ref sig .tc := ⟨.hbm, 1212, rfl⟩
abbrev main_call2_call0_v140 : Ref sig .tc := ⟨.hbm, 1213, rfl⟩
abbrev main_call2_call0_v141 : Ref sig .tc := ⟨.hbm, 1214, rfl⟩
abbrev main_call2_call0_v142 : Ref sig .tc := ⟨.hbm, 1215, rfl⟩
abbrev main_call2_call0_c_36 : Ref sig .tc := ⟨.hbm, 1216, rfl⟩
abbrev main_call2_call0_v143 : Ref sig .tc := ⟨.hbm, 1217, rfl⟩
abbrev main_call2_call0_v144 : Ref sig .tc := ⟨.hbm, 1218, rfl⟩
abbrev main_call2_call0_c_37 : Ref sig .tc := ⟨.hbm, 1219, rfl⟩
abbrev main_call2_call0_v145 : Ref sig .tc := ⟨.hbm, 1220, rfl⟩
abbrev main_call2_call0_v146 : Ref sig .tc := ⟨.hbm, 1221, rfl⟩
abbrev main_call2_call0_v147 : Ref sig .tc := ⟨.hbm, 1222, rfl⟩
abbrev main_call2_call0_v148 : Ref sig .tc := ⟨.hbm, 1223, rfl⟩
abbrev main_call2_call0_v149 : Ref sig .tc := ⟨.hbm, 1224, rfl⟩
abbrev main_call2_call0_c_38 : Ref sig .tc := ⟨.hbm, 1225, rfl⟩
abbrev main_call2_call0_v150 : Ref sig .tc := ⟨.hbm, 1226, rfl⟩
abbrev main_call2_call0_v151 : Ref sig .tc := ⟨.hbm, 1227, rfl⟩
abbrev main_call2_call0_c_39 : Ref sig .tc := ⟨.hbm, 1228, rfl⟩
abbrev main_call2_call0_v152 : Ref sig .tc := ⟨.hbm, 1229, rfl⟩
abbrev main_call2_call0_v153 : Ref sig .tc := ⟨.hbm, 1230, rfl⟩
abbrev main_call2_call0_v154 : Ref sig .tc := ⟨.hbm, 1231, rfl⟩
abbrev main_call2_call0_v155 : Ref sig .tc := ⟨.hbm, 1232, rfl⟩
abbrev main_call2_call0_v156 : Ref sig .tc := ⟨.hbm, 1233, rfl⟩
abbrev main_call2_call0_c_40 : Ref sig .tc := ⟨.hbm, 1234, rfl⟩
abbrev main_call2_call0_v157 : Ref sig .tc := ⟨.hbm, 1235, rfl⟩
abbrev main_call2_call0_v158 : Ref sig .tc := ⟨.hbm, 1236, rfl⟩
abbrev main_call2_call0_c_41 : Ref sig .tc := ⟨.hbm, 1237, rfl⟩
abbrev main_call2_call0_v159 : Ref sig .tc := ⟨.hbm, 1238, rfl⟩
abbrev main_call2_call0_v160 : Ref sig .tc := ⟨.hbm, 1239, rfl⟩
abbrev main_call2_call0_v161 : Ref sig .tc := ⟨.hbm, 1240, rfl⟩
abbrev main_call2_call0_v162 : Ref sig .tc := ⟨.hbm, 1241, rfl⟩
abbrev main_call2_call0_v163 : Ref sig .tc := ⟨.hbm, 1242, rfl⟩
abbrev main_call2_call0_c_42 : Ref sig .tc := ⟨.hbm, 1243, rfl⟩
abbrev main_call2_call0_v164 : Ref sig .tc := ⟨.hbm, 1244, rfl⟩
abbrev main_call2_call0_v165 : Ref sig .tc := ⟨.hbm, 1245, rfl⟩
abbrev main_call2_call0_c_43 : Ref sig .tc := ⟨.hbm, 1246, rfl⟩
abbrev main_call2_call0_v166 : Ref sig .tc := ⟨.hbm, 1247, rfl⟩
abbrev main_call2_call0_v167 : Ref sig .tc := ⟨.hbm, 1248, rfl⟩
abbrev main_call2_call0_v168 : Ref sig .tc := ⟨.hbm, 1249, rfl⟩
abbrev main_call2_call0_v169 : Ref sig .tc := ⟨.hbm, 1250, rfl⟩
abbrev main_call2_call0_v170 : Ref sig .tc := ⟨.hbm, 1251, rfl⟩
abbrev main_call2_v11_0 : Ref sig .tc := ⟨.hbm, 1252, rfl⟩
abbrev main_call2_call0_v172 : Ref sig .tc := ⟨.hbm, 1253, rfl⟩
abbrev main_call2_call0_v173 : Ref sig .tc := ⟨.hbm, 1254, rfl⟩
abbrev main_call2_call0_c_44 : Ref sig .tc := ⟨.hbm, 1255, rfl⟩
abbrev main_call2_call0_v174 : Ref sig .tc := ⟨.hbm, 1256, rfl⟩
abbrev main_call2_v11_1 : Ref sig .tc := ⟨.hbm, 1257, rfl⟩
abbrev main_v16 : Ref sig .tc := ⟨.hbm, 1258, rfl⟩
abbrev main_c_9 : Ref sig .tc := ⟨.hbm, 1259, rfl⟩
abbrev main_c_10 : Ref sig .tc := ⟨.hbm, 1260, rfl⟩
abbrev main_call3_c : Ref sig .tc := ⟨.hbm, 1261, rfl⟩
abbrev main_call3_c_0 : Ref sig .tc := ⟨.hbm, 1262, rfl⟩
abbrev main_call3_c_1 : Ref sig .tc := ⟨.hbm, 1263, rfl⟩
abbrev main_call3_call0_v0 : Ref sig .tc := ⟨.hbm, 1264, rfl⟩
abbrev main_call3_v0 : Ref sig .tc := ⟨.hbm, 1265, rfl⟩
abbrev main_call3_v1 : Ref sig .tc := ⟨.hbm, 1266, rfl⟩
abbrev main_call3_c_2 : Ref sig .tc := ⟨.hbm, 1267, rfl⟩
abbrev main_call3_c_3 : Ref sig .tc := ⟨.hbm, 1268, rfl⟩
abbrev main_call3_call1_v0 : Ref sig .tc := ⟨.hbm, 1269, rfl⟩
abbrev main_call3_v2 : Ref sig .tc := ⟨.hbm, 1270, rfl⟩
abbrev main_call3_v3 : Ref sig .tc := ⟨.hbm, 1271, rfl⟩
abbrev main_call3_c_4 : Ref sig .tc := ⟨.hbm, 1272, rfl⟩
abbrev main_call3_c_5 : Ref sig .tc := ⟨.hbm, 1273, rfl⟩
abbrev main_call3_call2_v0 : Ref sig .tc := ⟨.hbm, 1274, rfl⟩
abbrev main_call3_v4 : Ref sig .tc := ⟨.hbm, 1275, rfl⟩
abbrev main_call3_v5 : Ref sig .tc := ⟨.hbm, 1276, rfl⟩
abbrev main_call3_v6 : Ref sig .tc := ⟨.hbm, 1277, rfl⟩
abbrev main_call3_v7 : Ref sig .tc := ⟨.hbm, 1278, rfl⟩
abbrev main_call3_call3_v0 : Ref sig .tc := ⟨.hbm, 1279, rfl⟩
abbrev main_call3_call3_v1 : Ref sig .tc := ⟨.hbm, 1280, rfl⟩
abbrev main_call3_call3_v2 : Ref sig .tc := ⟨.hbm, 1281, rfl⟩
abbrev main_call3_call3_v3 : Ref sig .tc := ⟨.hbm, 1282, rfl⟩
abbrev main_call3_call3_v4 : Ref sig .tc := ⟨.hbm, 1283, rfl⟩
abbrev main_call3_call3_c : Ref sig .tc := ⟨.hbm, 1284, rfl⟩
abbrev main_call3_call3_v5 : Ref sig .tc := ⟨.hbm, 1285, rfl⟩
abbrev main_call3_call3_v6 : Ref sig .tc := ⟨.hbm, 1286, rfl⟩
abbrev main_call3_call3_c_0 : Ref sig .tc := ⟨.hbm, 1287, rfl⟩
abbrev main_call3_call3_v7 : Ref sig .tc := ⟨.hbm, 1288, rfl⟩
abbrev main_call3_call3_v8 : Ref sig .tc := ⟨.hbm, 1289, rfl⟩
abbrev main_call3_call3_v9 : Ref sig .tc := ⟨.hbm, 1290, rfl⟩
abbrev main_call3_call3_v10 : Ref sig .tc := ⟨.hbm, 1291, rfl⟩
abbrev main_call3_call3_call0_v0 : Ref sig .tc := ⟨.hbm, 1292, rfl⟩
abbrev main_call3_call3_call0_c : Ref sig .tc := ⟨.hbm, 1293, rfl⟩
abbrev main_call3_call3_call0_v1 : Ref sig .tc := ⟨.hbm, 1294, rfl⟩
abbrev main_call3_call3_call0_v2 : Ref sig .tc := ⟨.hbm, 1295, rfl⟩
abbrev main_call3_call3_call0_v3 : Ref sig .tc := ⟨.hbm, 1296, rfl⟩
abbrev main_call3_call3_call0_v4 : Ref sig .tc := ⟨.hbm, 1297, rfl⟩
abbrev main_call3_call3_call0_v5 : Ref sig .tc := ⟨.hbm, 1298, rfl⟩
abbrev main_call3_call3_call0_v6 : Ref sig .tc := ⟨.hbm, 1299, rfl⟩
abbrev main_call3_call3_call0_c_0 : Ref sig .tc := ⟨.hbm, 1300, rfl⟩
abbrev main_call3_call3_call0_v7 : Ref sig .tc := ⟨.hbm, 1301, rfl⟩
abbrev main_call3_call3_call0_v8 : Ref sig .tc := ⟨.hbm, 1302, rfl⟩
abbrev main_call3_call3_call0_c_1 : Ref sig .tc := ⟨.hbm, 1303, rfl⟩
abbrev main_call3_call3_call0_v9 : Ref sig .tc := ⟨.hbm, 1304, rfl⟩
abbrev main_call3_call3_call0_v10 : Ref sig .tc := ⟨.hbm, 1305, rfl⟩
abbrev main_call3_call3_call0_v11 : Ref sig .tc := ⟨.hbm, 1306, rfl⟩
abbrev main_call3_call3_call0_v12 : Ref sig .tc := ⟨.hbm, 1307, rfl⟩
abbrev main_call3_call3_call0_v13 : Ref sig .tc := ⟨.hbm, 1308, rfl⟩
abbrev main_call3_call3_call0_c_2 : Ref sig .tc := ⟨.hbm, 1309, rfl⟩
abbrev main_call3_call3_call0_v14 : Ref sig .tc := ⟨.hbm, 1310, rfl⟩
abbrev main_call3_call3_call0_v15 : Ref sig .tc := ⟨.hbm, 1311, rfl⟩
abbrev main_call3_call3_call0_c_3 : Ref sig .tc := ⟨.hbm, 1312, rfl⟩
abbrev main_call3_call3_call0_v16 : Ref sig .tc := ⟨.hbm, 1313, rfl⟩
abbrev main_call3_call3_call0_v17 : Ref sig .tc := ⟨.hbm, 1314, rfl⟩
abbrev main_call3_call3_call0_v18 : Ref sig .tc := ⟨.hbm, 1315, rfl⟩
abbrev main_call3_call3_call0_v19 : Ref sig .tc := ⟨.hbm, 1316, rfl⟩
abbrev main_call3_call3_call0_v20 : Ref sig .tc := ⟨.hbm, 1317, rfl⟩
abbrev main_call3_call3_call0_c_4 : Ref sig .tc := ⟨.hbm, 1318, rfl⟩
abbrev main_call3_call3_call0_v21 : Ref sig .tc := ⟨.hbm, 1319, rfl⟩
abbrev main_call3_call3_call0_v22 : Ref sig .tc := ⟨.hbm, 1320, rfl⟩
abbrev main_call3_call3_call0_c_5 : Ref sig .tc := ⟨.hbm, 1321, rfl⟩
abbrev main_call3_call3_call0_v23 : Ref sig .tc := ⟨.hbm, 1322, rfl⟩
abbrev main_call3_call3_call0_v24 : Ref sig .tc := ⟨.hbm, 1323, rfl⟩
abbrev main_call3_call3_call0_v25 : Ref sig .tc := ⟨.hbm, 1324, rfl⟩
abbrev main_call3_call3_call0_v26 : Ref sig .tc := ⟨.hbm, 1325, rfl⟩
abbrev main_call3_call3_call0_v27 : Ref sig .tc := ⟨.hbm, 1326, rfl⟩
abbrev main_call3_call3_call0_c_6 : Ref sig .tc := ⟨.hbm, 1327, rfl⟩
abbrev main_call3_call3_call0_v28 : Ref sig .tc := ⟨.hbm, 1328, rfl⟩
abbrev main_call3_call3_call0_v29 : Ref sig .tc := ⟨.hbm, 1329, rfl⟩
abbrev main_call3_call3_call0_c_7 : Ref sig .tc := ⟨.hbm, 1330, rfl⟩
abbrev main_call3_call3_call0_v30 : Ref sig .tc := ⟨.hbm, 1331, rfl⟩
abbrev main_call3_call3_call0_v31 : Ref sig .tc := ⟨.hbm, 1332, rfl⟩
abbrev main_call3_call3_call0_v32 : Ref sig .tc := ⟨.hbm, 1333, rfl⟩
abbrev main_call3_call3_call0_v33 : Ref sig .tc := ⟨.hbm, 1334, rfl⟩
abbrev main_call3_call3_call0_v34 : Ref sig .tc := ⟨.hbm, 1335, rfl⟩
abbrev main_call3_call3_call0_v35 : Ref sig .tc := ⟨.hbm, 1336, rfl⟩
abbrev main_call3_call3_call0_v36 : Ref sig .tc := ⟨.hbm, 1337, rfl⟩
abbrev main_call3_call3_call0_v37 : Ref sig .tc := ⟨.hbm, 1338, rfl⟩
abbrev main_call3_call3_call0_c_8 : Ref sig .tc := ⟨.hbm, 1339, rfl⟩
abbrev main_call3_call3_call0_v38 : Ref sig .tc := ⟨.hbm, 1340, rfl⟩
abbrev main_call3_call3_call0_v39 : Ref sig .tc := ⟨.hbm, 1341, rfl⟩
abbrev main_call3_call3_call0_v40 : Ref sig .tc := ⟨.hbm, 1342, rfl⟩
abbrev main_call3_call3_call0_c_9 : Ref sig .tc := ⟨.hbm, 1343, rfl⟩
abbrev main_call3_call3_call0_v41 : Ref sig .tc := ⟨.hbm, 1344, rfl⟩
abbrev main_call3_call3_call0_v42 : Ref sig .tc := ⟨.hbm, 1345, rfl⟩
abbrev main_call3_call3_call0_c_10 : Ref sig .tc := ⟨.hbm, 1346, rfl⟩
abbrev main_call3_call3_call0_v43 : Ref sig .tc := ⟨.hbm, 1347, rfl⟩
abbrev main_call3_call3_call0_v44 : Ref sig .tc := ⟨.hbm, 1348, rfl⟩
abbrev main_call3_call3_call0_v45 : Ref sig .tc := ⟨.hbm, 1349, rfl⟩
abbrev main_call3_call3_call0_v46 : Ref sig .tc := ⟨.hbm, 1350, rfl⟩
abbrev main_call3_call3_call0_v47 : Ref sig .tc := ⟨.hbm, 1351, rfl⟩
abbrev main_call3_call3_call0_c_11 : Ref sig .tc := ⟨.hbm, 1352, rfl⟩
abbrev main_call3_call3_call0_v48 : Ref sig .tc := ⟨.hbm, 1353, rfl⟩
abbrev main_call3_call3_call0_v49 : Ref sig .tc := ⟨.hbm, 1354, rfl⟩
abbrev main_call3_call3_call0_c_12 : Ref sig .tc := ⟨.hbm, 1355, rfl⟩
abbrev main_call3_call3_call0_v50 : Ref sig .tc := ⟨.hbm, 1356, rfl⟩
abbrev main_call3_call3_call0_v51 : Ref sig .tc := ⟨.hbm, 1357, rfl⟩
abbrev main_call3_call3_call0_v52 : Ref sig .tc := ⟨.hbm, 1358, rfl⟩
abbrev main_call3_call3_call0_v53 : Ref sig .tc := ⟨.hbm, 1359, rfl⟩
abbrev main_call3_call3_call0_v54 : Ref sig .tc := ⟨.hbm, 1360, rfl⟩
abbrev main_call3_call3_call0_c_13 : Ref sig .tc := ⟨.hbm, 1361, rfl⟩
abbrev main_call3_call3_call0_v55 : Ref sig .tc := ⟨.hbm, 1362, rfl⟩
abbrev main_call3_call3_call0_v56 : Ref sig .tc := ⟨.hbm, 1363, rfl⟩
abbrev main_call3_call3_call0_c_14 : Ref sig .tc := ⟨.hbm, 1364, rfl⟩
abbrev main_call3_call3_call0_v57 : Ref sig .tc := ⟨.hbm, 1365, rfl⟩
abbrev main_call3_call3_call0_v58 : Ref sig .tc := ⟨.hbm, 1366, rfl⟩
abbrev main_call3_call3_call0_v59 : Ref sig .tc := ⟨.hbm, 1367, rfl⟩
abbrev main_call3_call3_call0_v60 : Ref sig .tc := ⟨.hbm, 1368, rfl⟩
abbrev main_call3_call3_call0_v61 : Ref sig .tc := ⟨.hbm, 1369, rfl⟩
abbrev main_call3_call3_call0_c_15 : Ref sig .tc := ⟨.hbm, 1370, rfl⟩
abbrev main_call3_call3_call0_v62 : Ref sig .tc := ⟨.hbm, 1371, rfl⟩
abbrev main_call3_call3_call0_v63 : Ref sig .tc := ⟨.hbm, 1372, rfl⟩
abbrev main_call3_call3_call0_c_16 : Ref sig .tc := ⟨.hbm, 1373, rfl⟩
abbrev main_call3_call3_call0_v64 : Ref sig .tc := ⟨.hbm, 1374, rfl⟩
abbrev main_call3_call3_call0_v65 : Ref sig .tc := ⟨.hbm, 1375, rfl⟩
abbrev main_call3_call3_call0_v66 : Ref sig .tc := ⟨.hbm, 1376, rfl⟩
abbrev main_call3_call3_call0_v67 : Ref sig .tc := ⟨.hbm, 1377, rfl⟩
abbrev main_call3_call3_call0_v68 : Ref sig .tc := ⟨.hbm, 1378, rfl⟩
abbrev main_call3_call3_call0_v69 : Ref sig .tc := ⟨.hbm, 1379, rfl⟩
abbrev main_call3_call3_call0_v70 : Ref sig .tc := ⟨.hbm, 1380, rfl⟩
abbrev main_call3_call3_call0_v71 : Ref sig .tc := ⟨.hbm, 1381, rfl⟩
abbrev main_call3_call3_call0_c_17 : Ref sig .tc := ⟨.hbm, 1382, rfl⟩
abbrev main_call3_call3_call0_v72 : Ref sig .tc := ⟨.hbm, 1383, rfl⟩
abbrev main_call3_call3_call0_v73 : Ref sig .tc := ⟨.hbm, 1384, rfl⟩
abbrev main_call3_call3_call0_v74 : Ref sig .tc := ⟨.hbm, 1385, rfl⟩
abbrev main_call3_call3_call0_c_18 : Ref sig .tc := ⟨.hbm, 1386, rfl⟩
abbrev main_call3_call3_call0_v75 : Ref sig .tc := ⟨.hbm, 1387, rfl⟩
abbrev main_call3_call3_call0_v76 : Ref sig .tc := ⟨.hbm, 1388, rfl⟩
abbrev main_call3_call3_call0_c_19 : Ref sig .tc := ⟨.hbm, 1389, rfl⟩
abbrev main_call3_call3_call0_v77 : Ref sig .tc := ⟨.hbm, 1390, rfl⟩
abbrev main_call3_call3_call0_v78 : Ref sig .tc := ⟨.hbm, 1391, rfl⟩
abbrev main_call3_call3_call0_v79 : Ref sig .tc := ⟨.hbm, 1392, rfl⟩
abbrev main_call3_call3_call0_v80 : Ref sig .tc := ⟨.hbm, 1393, rfl⟩
abbrev main_call3_call3_call0_v81 : Ref sig .tc := ⟨.hbm, 1394, rfl⟩
abbrev main_call3_call3_call0_c_20 : Ref sig .tc := ⟨.hbm, 1395, rfl⟩
abbrev main_call3_call3_call0_v82 : Ref sig .tc := ⟨.hbm, 1396, rfl⟩
abbrev main_call3_call3_call0_v83 : Ref sig .tc := ⟨.hbm, 1397, rfl⟩
abbrev main_call3_call3_call0_c_21 : Ref sig .tc := ⟨.hbm, 1398, rfl⟩
abbrev main_call3_call3_call0_v84 : Ref sig .tc := ⟨.hbm, 1399, rfl⟩
abbrev main_call3_call3_call0_v85 : Ref sig .tc := ⟨.hbm, 1400, rfl⟩
abbrev main_call3_call3_call0_v86 : Ref sig .tc := ⟨.hbm, 1401, rfl⟩
abbrev main_call3_call3_call0_v87 : Ref sig .tc := ⟨.hbm, 1402, rfl⟩
abbrev main_call3_call3_call0_v88 : Ref sig .tc := ⟨.hbm, 1403, rfl⟩
abbrev main_call3_call3_call0_c_22 : Ref sig .tc := ⟨.hbm, 1404, rfl⟩
abbrev main_call3_call3_call0_v89 : Ref sig .tc := ⟨.hbm, 1405, rfl⟩
abbrev main_call3_call3_call0_v90 : Ref sig .tc := ⟨.hbm, 1406, rfl⟩
abbrev main_call3_call3_call0_c_23 : Ref sig .tc := ⟨.hbm, 1407, rfl⟩
abbrev main_call3_call3_call0_v91 : Ref sig .tc := ⟨.hbm, 1408, rfl⟩
abbrev main_call3_call3_call0_v92 : Ref sig .tc := ⟨.hbm, 1409, rfl⟩
abbrev main_call3_call3_call0_v93 : Ref sig .tc := ⟨.hbm, 1410, rfl⟩
abbrev main_call3_call3_call0_v94 : Ref sig .tc := ⟨.hbm, 1411, rfl⟩
abbrev main_call3_call3_call0_v95 : Ref sig .tc := ⟨.hbm, 1412, rfl⟩
abbrev main_call3_call3_call0_c_24 : Ref sig .tc := ⟨.hbm, 1413, rfl⟩
abbrev main_call3_call3_call0_v96 : Ref sig .tc := ⟨.hbm, 1414, rfl⟩
abbrev main_call3_call3_call0_v97 : Ref sig .tc := ⟨.hbm, 1415, rfl⟩
abbrev main_call3_call3_call0_c_25 : Ref sig .tc := ⟨.hbm, 1416, rfl⟩
abbrev main_call3_call3_call0_v98 : Ref sig .tc := ⟨.hbm, 1417, rfl⟩
abbrev main_call3_call3_call0_v99 : Ref sig .tc := ⟨.hbm, 1418, rfl⟩
abbrev main_call3_call3_call0_v100 : Ref sig .tc := ⟨.hbm, 1419, rfl⟩
abbrev main_call3_call3_call0_v101 : Ref sig .tc := ⟨.hbm, 1420, rfl⟩
abbrev main_call3_call3_call0_v102 : Ref sig .tc := ⟨.hbm, 1421, rfl⟩
abbrev main_call3_call3_call0_v103 : Ref sig .tc := ⟨.hbm, 1422, rfl⟩
abbrev main_call3_call3_call0_v104 : Ref sig .tc := ⟨.hbm, 1423, rfl⟩
abbrev main_call3_call3_call0_v105 : Ref sig .tc := ⟨.hbm, 1424, rfl⟩
abbrev main_call3_call3_call0_c_26 : Ref sig .tc := ⟨.hbm, 1425, rfl⟩
abbrev main_call3_call3_call0_v106 : Ref sig .tc := ⟨.hbm, 1426, rfl⟩
abbrev main_call3_call3_call0_v107 : Ref sig .tc := ⟨.hbm, 1427, rfl⟩
abbrev main_call3_call3_call0_v108 : Ref sig .tc := ⟨.hbm, 1428, rfl⟩
abbrev main_call3_call3_call0_c_27 : Ref sig .tc := ⟨.hbm, 1429, rfl⟩
abbrev main_call3_call3_call0_v109 : Ref sig .tc := ⟨.hbm, 1430, rfl⟩
abbrev main_call3_call3_call0_v110 : Ref sig .tc := ⟨.hbm, 1431, rfl⟩
abbrev main_call3_call3_call0_c_28 : Ref sig .tc := ⟨.hbm, 1432, rfl⟩
abbrev main_call3_call3_call0_v111 : Ref sig .tc := ⟨.hbm, 1433, rfl⟩
abbrev main_call3_call3_call0_v112 : Ref sig .tc := ⟨.hbm, 1434, rfl⟩
abbrev main_call3_call3_call0_v113 : Ref sig .tc := ⟨.hbm, 1435, rfl⟩
abbrev main_call3_call3_call0_v114 : Ref sig .tc := ⟨.hbm, 1436, rfl⟩
abbrev main_call3_call3_call0_v115 : Ref sig .tc := ⟨.hbm, 1437, rfl⟩
abbrev main_call3_call3_call0_c_29 : Ref sig .tc := ⟨.hbm, 1438, rfl⟩
abbrev main_call3_call3_call0_v116 : Ref sig .tc := ⟨.hbm, 1439, rfl⟩
abbrev main_call3_call3_call0_v117 : Ref sig .tc := ⟨.hbm, 1440, rfl⟩
abbrev main_call3_call3_call0_c_30 : Ref sig .tc := ⟨.hbm, 1441, rfl⟩
abbrev main_call3_call3_call0_v118 : Ref sig .tc := ⟨.hbm, 1442, rfl⟩
abbrev main_call3_call3_call0_v119 : Ref sig .tc := ⟨.hbm, 1443, rfl⟩
abbrev main_call3_call3_call0_v120 : Ref sig .tc := ⟨.hbm, 1444, rfl⟩
abbrev main_call3_call3_call0_v121 : Ref sig .tc := ⟨.hbm, 1445, rfl⟩
abbrev main_call3_call3_call0_v122 : Ref sig .tc := ⟨.hbm, 1446, rfl⟩
abbrev main_call3_call3_call0_c_31 : Ref sig .tc := ⟨.hbm, 1447, rfl⟩
abbrev main_call3_call3_call0_v123 : Ref sig .tc := ⟨.hbm, 1448, rfl⟩
abbrev main_call3_call3_call0_v124 : Ref sig .tc := ⟨.hbm, 1449, rfl⟩
abbrev main_call3_call3_call0_c_32 : Ref sig .tc := ⟨.hbm, 1450, rfl⟩
abbrev main_call3_call3_call0_v125 : Ref sig .tc := ⟨.hbm, 1451, rfl⟩
abbrev main_call3_call3_call0_v126 : Ref sig .tc := ⟨.hbm, 1452, rfl⟩
abbrev main_call3_call3_call0_v127 : Ref sig .tc := ⟨.hbm, 1453, rfl⟩
abbrev main_call3_call3_call0_v128 : Ref sig .tc := ⟨.hbm, 1454, rfl⟩
abbrev main_call3_call3_call0_v129 : Ref sig .tc := ⟨.hbm, 1455, rfl⟩
abbrev main_call3_call3_call0_c_33 : Ref sig .tc := ⟨.hbm, 1456, rfl⟩
abbrev main_call3_call3_call0_v130 : Ref sig .tc := ⟨.hbm, 1457, rfl⟩
abbrev main_call3_call3_call0_v131 : Ref sig .tc := ⟨.hbm, 1458, rfl⟩
abbrev main_call3_call3_call0_c_34 : Ref sig .tc := ⟨.hbm, 1459, rfl⟩
abbrev main_call3_call3_call0_v132 : Ref sig .tc := ⟨.hbm, 1460, rfl⟩
abbrev main_call3_call3_call0_v133 : Ref sig .tc := ⟨.hbm, 1461, rfl⟩
abbrev main_call3_call3_call0_v134 : Ref sig .tc := ⟨.hbm, 1462, rfl⟩
abbrev main_call3_call3_call0_v135 : Ref sig .tc := ⟨.hbm, 1463, rfl⟩
abbrev main_call3_call3_call0_v136 : Ref sig .tc := ⟨.hbm, 1464, rfl⟩
abbrev main_call3_call3_call0_v137 : Ref sig .tc := ⟨.hbm, 1465, rfl⟩
abbrev main_call3_call3_call0_v138 : Ref sig .tc := ⟨.hbm, 1466, rfl⟩
abbrev main_call3_call3_call0_v139 : Ref sig .tc := ⟨.hbm, 1467, rfl⟩
abbrev main_call3_call3_call0_c_35 : Ref sig .tc := ⟨.hbm, 1468, rfl⟩
abbrev main_call3_call3_call0_v140 : Ref sig .tc := ⟨.hbm, 1469, rfl⟩
abbrev main_call3_call3_call0_v141 : Ref sig .tc := ⟨.hbm, 1470, rfl⟩
abbrev main_call3_call3_call0_v142 : Ref sig .tc := ⟨.hbm, 1471, rfl⟩
abbrev main_call3_call3_call0_c_36 : Ref sig .tc := ⟨.hbm, 1472, rfl⟩
abbrev main_call3_call3_call0_v143 : Ref sig .tc := ⟨.hbm, 1473, rfl⟩
abbrev main_call3_call3_call0_v144 : Ref sig .tc := ⟨.hbm, 1474, rfl⟩
abbrev main_call3_call3_call0_c_37 : Ref sig .tc := ⟨.hbm, 1475, rfl⟩
abbrev main_call3_call3_call0_v145 : Ref sig .tc := ⟨.hbm, 1476, rfl⟩
abbrev main_call3_call3_call0_v146 : Ref sig .tc := ⟨.hbm, 1477, rfl⟩
abbrev main_call3_call3_call0_v147 : Ref sig .tc := ⟨.hbm, 1478, rfl⟩
abbrev main_call3_call3_call0_v148 : Ref sig .tc := ⟨.hbm, 1479, rfl⟩
abbrev main_call3_call3_call0_v149 : Ref sig .tc := ⟨.hbm, 1480, rfl⟩
abbrev main_call3_call3_call0_c_38 : Ref sig .tc := ⟨.hbm, 1481, rfl⟩
abbrev main_call3_call3_call0_v150 : Ref sig .tc := ⟨.hbm, 1482, rfl⟩
abbrev main_call3_call3_call0_v151 : Ref sig .tc := ⟨.hbm, 1483, rfl⟩
abbrev main_call3_call3_call0_c_39 : Ref sig .tc := ⟨.hbm, 1484, rfl⟩
abbrev main_call3_call3_call0_v152 : Ref sig .tc := ⟨.hbm, 1485, rfl⟩
abbrev main_call3_call3_call0_v153 : Ref sig .tc := ⟨.hbm, 1486, rfl⟩
abbrev main_call3_call3_call0_v154 : Ref sig .tc := ⟨.hbm, 1487, rfl⟩
abbrev main_call3_call3_call0_v155 : Ref sig .tc := ⟨.hbm, 1488, rfl⟩
abbrev main_call3_call3_call0_v156 : Ref sig .tc := ⟨.hbm, 1489, rfl⟩
abbrev main_call3_call3_call0_c_40 : Ref sig .tc := ⟨.hbm, 1490, rfl⟩
abbrev main_call3_call3_call0_v157 : Ref sig .tc := ⟨.hbm, 1491, rfl⟩
abbrev main_call3_call3_call0_v158 : Ref sig .tc := ⟨.hbm, 1492, rfl⟩
abbrev main_call3_call3_call0_c_41 : Ref sig .tc := ⟨.hbm, 1493, rfl⟩
abbrev main_call3_call3_call0_v159 : Ref sig .tc := ⟨.hbm, 1494, rfl⟩
abbrev main_call3_call3_call0_v160 : Ref sig .tc := ⟨.hbm, 1495, rfl⟩
abbrev main_call3_call3_call0_v161 : Ref sig .tc := ⟨.hbm, 1496, rfl⟩
abbrev main_call3_call3_call0_v162 : Ref sig .tc := ⟨.hbm, 1497, rfl⟩
abbrev main_call3_call3_call0_v163 : Ref sig .tc := ⟨.hbm, 1498, rfl⟩
abbrev main_call3_call3_call0_c_42 : Ref sig .tc := ⟨.hbm, 1499, rfl⟩
abbrev main_call3_call3_call0_v164 : Ref sig .tc := ⟨.hbm, 1500, rfl⟩
abbrev main_call3_call3_call0_v165 : Ref sig .tc := ⟨.hbm, 1501, rfl⟩
abbrev main_call3_call3_call0_c_43 : Ref sig .tc := ⟨.hbm, 1502, rfl⟩
abbrev main_call3_call3_call0_v166 : Ref sig .tc := ⟨.hbm, 1503, rfl⟩
abbrev main_call3_call3_call0_v167 : Ref sig .tc := ⟨.hbm, 1504, rfl⟩
abbrev main_call3_call3_call0_v168 : Ref sig .tc := ⟨.hbm, 1505, rfl⟩
abbrev main_call3_call3_call0_v169 : Ref sig .tc := ⟨.hbm, 1506, rfl⟩
abbrev main_call3_call3_call0_v170 : Ref sig .tc := ⟨.hbm, 1507, rfl⟩
abbrev main_call3_call3_v11_0 : Ref sig .tc := ⟨.hbm, 1508, rfl⟩
abbrev main_call3_call3_call0_v172 : Ref sig .tc := ⟨.hbm, 1509, rfl⟩
abbrev main_call3_call3_call0_v173 : Ref sig .tc := ⟨.hbm, 1510, rfl⟩
abbrev main_call3_call3_call0_c_44 : Ref sig .tc := ⟨.hbm, 1511, rfl⟩
abbrev main_call3_call3_call0_v174 : Ref sig .tc := ⟨.hbm, 1512, rfl⟩
abbrev main_call3_call3_v11_1 : Ref sig .tc := ⟨.hbm, 1513, rfl⟩
abbrev main_call3_call3_v12 : Ref sig .tc := ⟨.hbm, 1514, rfl⟩
abbrev main_call3_call3_v13 : Ref sig .tc := ⟨.hbm, 1515, rfl⟩
abbrev main_call3_v8 : Ref sig .tc := ⟨.hbm, 1516, rfl⟩
abbrev main_call3_v9 : Ref sig .tc := ⟨.hbm, 1517, rfl⟩
abbrev main_call3_v10 : Ref sig .tc := ⟨.hbm, 1518, rfl⟩
abbrev main_call3_v11 : Ref sig .tc := ⟨.hbm, 1519, rfl⟩
abbrev main_call3_v12 : Ref sig .tc := ⟨.hbm, 1520, rfl⟩
abbrev main_call3_v13 : Ref sig .tc := ⟨.hbm, 1521, rfl⟩
abbrev main_call3_v14 : Ref sig .tc := ⟨.hbm, 1522, rfl⟩
abbrev main_call3_v15 : Ref sig .tc := ⟨.hbm, 1523, rfl⟩
abbrev main_call3_v16 : Ref sig .tc := ⟨.hbm, 1524, rfl⟩
abbrev main_call3_v17 : Ref sig .tc := ⟨.hbm, 1525, rfl⟩
abbrev main_call3_c_6 : Ref sig .tc := ⟨.hbm, 1526, rfl⟩
abbrev main_call3_v18 : Ref sig .tc := ⟨.hbm, 1527, rfl⟩
abbrev main_call3_v19 : Ref sig .tc := ⟨.hbm, 1528, rfl⟩
abbrev main_call3_c_7 : Ref sig .tc := ⟨.hbm, 1529, rfl⟩
abbrev main_call3_v20 : Ref sig .tc := ⟨.hbm, 1530, rfl⟩
abbrev main_call3_v21 : Ref sig .tc := ⟨.hbm, 1531, rfl⟩
abbrev main_call3_v22 : Ref sig .tc := ⟨.hbm, 1532, rfl⟩
abbrev main_call3_v23 : Ref sig .tc := ⟨.hbm, 1533, rfl⟩
abbrev main_call3_call4_v0 : Ref sig .tc := ⟨.hbm, 1534, rfl⟩
abbrev main_call3_call4_c : Ref sig .tc := ⟨.hbm, 1535, rfl⟩
abbrev main_call3_call4_v1 : Ref sig .tc := ⟨.hbm, 1536, rfl⟩
abbrev main_call3_call4_v2 : Ref sig .tc := ⟨.hbm, 1537, rfl⟩
abbrev main_call3_call4_v3 : Ref sig .tc := ⟨.hbm, 1538, rfl⟩
abbrev main_call3_call4_v4 : Ref sig .tc := ⟨.hbm, 1539, rfl⟩
abbrev main_call3_call4_v5 : Ref sig .tc := ⟨.hbm, 1540, rfl⟩
abbrev main_call3_call4_v6 : Ref sig .tc := ⟨.hbm, 1541, rfl⟩
abbrev main_call3_call4_c_0 : Ref sig .tc := ⟨.hbm, 1542, rfl⟩
abbrev main_call3_call4_v7 : Ref sig .tc := ⟨.hbm, 1543, rfl⟩
abbrev main_call3_call4_v8 : Ref sig .tc := ⟨.hbm, 1544, rfl⟩
abbrev main_call3_call4_c_1 : Ref sig .tc := ⟨.hbm, 1545, rfl⟩
abbrev main_call3_call4_v9 : Ref sig .tc := ⟨.hbm, 1546, rfl⟩
abbrev main_call3_call4_v10 : Ref sig .tc := ⟨.hbm, 1547, rfl⟩
abbrev main_call3_call4_v11 : Ref sig .tc := ⟨.hbm, 1548, rfl⟩
abbrev main_call3_call4_v12 : Ref sig .tc := ⟨.hbm, 1549, rfl⟩
abbrev main_call3_call4_v13 : Ref sig .tc := ⟨.hbm, 1550, rfl⟩
abbrev main_call3_call4_c_2 : Ref sig .tc := ⟨.hbm, 1551, rfl⟩
abbrev main_call3_call4_v14 : Ref sig .tc := ⟨.hbm, 1552, rfl⟩
abbrev main_call3_call4_v15 : Ref sig .tc := ⟨.hbm, 1553, rfl⟩
abbrev main_call3_call4_c_3 : Ref sig .tc := ⟨.hbm, 1554, rfl⟩
abbrev main_call3_call4_v16 : Ref sig .tc := ⟨.hbm, 1555, rfl⟩
abbrev main_call3_call4_v17 : Ref sig .tc := ⟨.hbm, 1556, rfl⟩
abbrev main_call3_call4_v18 : Ref sig .tc := ⟨.hbm, 1557, rfl⟩
abbrev main_call3_call4_v19 : Ref sig .tc := ⟨.hbm, 1558, rfl⟩
abbrev main_call3_call4_v20 : Ref sig .tc := ⟨.hbm, 1559, rfl⟩
abbrev main_call3_call4_c_4 : Ref sig .tc := ⟨.hbm, 1560, rfl⟩
abbrev main_call3_call4_v21 : Ref sig .tc := ⟨.hbm, 1561, rfl⟩
abbrev main_call3_call4_v22 : Ref sig .tc := ⟨.hbm, 1562, rfl⟩
abbrev main_call3_call4_c_5 : Ref sig .tc := ⟨.hbm, 1563, rfl⟩
abbrev main_call3_call4_v23 : Ref sig .tc := ⟨.hbm, 1564, rfl⟩
abbrev main_call3_call4_v24 : Ref sig .tc := ⟨.hbm, 1565, rfl⟩
abbrev main_call3_call4_v25 : Ref sig .tc := ⟨.hbm, 1566, rfl⟩
abbrev main_call3_call4_v26 : Ref sig .tc := ⟨.hbm, 1567, rfl⟩
abbrev main_call3_call4_v27 : Ref sig .tc := ⟨.hbm, 1568, rfl⟩
abbrev main_call3_call4_c_6 : Ref sig .tc := ⟨.hbm, 1569, rfl⟩
abbrev main_call3_call4_v28 : Ref sig .tc := ⟨.hbm, 1570, rfl⟩
abbrev main_call3_call4_v29 : Ref sig .tc := ⟨.hbm, 1571, rfl⟩
abbrev main_call3_call4_c_7 : Ref sig .tc := ⟨.hbm, 1572, rfl⟩
abbrev main_call3_call4_v30 : Ref sig .tc := ⟨.hbm, 1573, rfl⟩
abbrev main_call3_call4_v31 : Ref sig .tc := ⟨.hbm, 1574, rfl⟩
abbrev main_call3_call4_v32 : Ref sig .tc := ⟨.hbm, 1575, rfl⟩
abbrev main_call3_call4_v33 : Ref sig .tc := ⟨.hbm, 1576, rfl⟩
abbrev main_call3_call4_v34 : Ref sig .tc := ⟨.hbm, 1577, rfl⟩
abbrev main_call3_call4_v35 : Ref sig .tc := ⟨.hbm, 1578, rfl⟩
abbrev main_call3_call4_v36 : Ref sig .tc := ⟨.hbm, 1579, rfl⟩
abbrev main_call3_call4_v37 : Ref sig .tc := ⟨.hbm, 1580, rfl⟩
abbrev main_call3_call4_c_8 : Ref sig .tc := ⟨.hbm, 1581, rfl⟩
abbrev main_call3_call4_v38 : Ref sig .tc := ⟨.hbm, 1582, rfl⟩
abbrev main_call3_call4_v39 : Ref sig .tc := ⟨.hbm, 1583, rfl⟩
abbrev main_call3_call4_v40 : Ref sig .tc := ⟨.hbm, 1584, rfl⟩
abbrev main_call3_call4_c_9 : Ref sig .tc := ⟨.hbm, 1585, rfl⟩
abbrev main_call3_call4_v41 : Ref sig .tc := ⟨.hbm, 1586, rfl⟩
abbrev main_call3_call4_v42 : Ref sig .tc := ⟨.hbm, 1587, rfl⟩
abbrev main_call3_call4_c_10 : Ref sig .tc := ⟨.hbm, 1588, rfl⟩
abbrev main_call3_call4_v43 : Ref sig .tc := ⟨.hbm, 1589, rfl⟩
abbrev main_call3_call4_v44 : Ref sig .tc := ⟨.hbm, 1590, rfl⟩
abbrev main_call3_call4_v45 : Ref sig .tc := ⟨.hbm, 1591, rfl⟩
abbrev main_call3_call4_v46 : Ref sig .tc := ⟨.hbm, 1592, rfl⟩
abbrev main_call3_call4_v47 : Ref sig .tc := ⟨.hbm, 1593, rfl⟩
abbrev main_call3_call4_c_11 : Ref sig .tc := ⟨.hbm, 1594, rfl⟩
abbrev main_call3_call4_v48 : Ref sig .tc := ⟨.hbm, 1595, rfl⟩
abbrev main_call3_call4_v49 : Ref sig .tc := ⟨.hbm, 1596, rfl⟩
abbrev main_call3_call4_c_12 : Ref sig .tc := ⟨.hbm, 1597, rfl⟩
abbrev main_call3_call4_v50 : Ref sig .tc := ⟨.hbm, 1598, rfl⟩
abbrev main_call3_call4_v51 : Ref sig .tc := ⟨.hbm, 1599, rfl⟩
abbrev main_call3_call4_v52 : Ref sig .tc := ⟨.hbm, 1600, rfl⟩
abbrev main_call3_call4_v53 : Ref sig .tc := ⟨.hbm, 1601, rfl⟩
abbrev main_call3_call4_v54 : Ref sig .tc := ⟨.hbm, 1602, rfl⟩
abbrev main_call3_call4_c_13 : Ref sig .tc := ⟨.hbm, 1603, rfl⟩
abbrev main_call3_call4_v55 : Ref sig .tc := ⟨.hbm, 1604, rfl⟩
abbrev main_call3_call4_v56 : Ref sig .tc := ⟨.hbm, 1605, rfl⟩
abbrev main_call3_call4_c_14 : Ref sig .tc := ⟨.hbm, 1606, rfl⟩
abbrev main_call3_call4_v57 : Ref sig .tc := ⟨.hbm, 1607, rfl⟩
abbrev main_call3_call4_v58 : Ref sig .tc := ⟨.hbm, 1608, rfl⟩
abbrev main_call3_call4_v59 : Ref sig .tc := ⟨.hbm, 1609, rfl⟩
abbrev main_call3_call4_v60 : Ref sig .tc := ⟨.hbm, 1610, rfl⟩
abbrev main_call3_call4_v61 : Ref sig .tc := ⟨.hbm, 1611, rfl⟩
abbrev main_call3_call4_c_15 : Ref sig .tc := ⟨.hbm, 1612, rfl⟩
abbrev main_call3_call4_v62 : Ref sig .tc := ⟨.hbm, 1613, rfl⟩
abbrev main_call3_call4_v63 : Ref sig .tc := ⟨.hbm, 1614, rfl⟩
abbrev main_call3_call4_c_16 : Ref sig .tc := ⟨.hbm, 1615, rfl⟩
abbrev main_call3_call4_v64 : Ref sig .tc := ⟨.hbm, 1616, rfl⟩
abbrev main_call3_call4_v65 : Ref sig .tc := ⟨.hbm, 1617, rfl⟩
abbrev main_call3_call4_v66 : Ref sig .tc := ⟨.hbm, 1618, rfl⟩
abbrev main_call3_call4_v67 : Ref sig .tc := ⟨.hbm, 1619, rfl⟩
abbrev main_call3_call4_v68 : Ref sig .tc := ⟨.hbm, 1620, rfl⟩
abbrev main_call3_call4_v69 : Ref sig .tc := ⟨.hbm, 1621, rfl⟩
abbrev main_call3_call4_v70 : Ref sig .tc := ⟨.hbm, 1622, rfl⟩
abbrev main_call3_call4_v71 : Ref sig .tc := ⟨.hbm, 1623, rfl⟩
abbrev main_call3_call4_c_17 : Ref sig .tc := ⟨.hbm, 1624, rfl⟩
abbrev main_call3_call4_v72 : Ref sig .tc := ⟨.hbm, 1625, rfl⟩
abbrev main_call3_call4_v73 : Ref sig .tc := ⟨.hbm, 1626, rfl⟩
abbrev main_call3_call4_v74 : Ref sig .tc := ⟨.hbm, 1627, rfl⟩
abbrev main_call3_call4_c_18 : Ref sig .tc := ⟨.hbm, 1628, rfl⟩
abbrev main_call3_call4_v75 : Ref sig .tc := ⟨.hbm, 1629, rfl⟩
abbrev main_call3_call4_v76 : Ref sig .tc := ⟨.hbm, 1630, rfl⟩
abbrev main_call3_call4_c_19 : Ref sig .tc := ⟨.hbm, 1631, rfl⟩
abbrev main_call3_call4_v77 : Ref sig .tc := ⟨.hbm, 1632, rfl⟩
abbrev main_call3_call4_v78 : Ref sig .tc := ⟨.hbm, 1633, rfl⟩
abbrev main_call3_call4_v79 : Ref sig .tc := ⟨.hbm, 1634, rfl⟩
abbrev main_call3_call4_v80 : Ref sig .tc := ⟨.hbm, 1635, rfl⟩
abbrev main_call3_call4_v81 : Ref sig .tc := ⟨.hbm, 1636, rfl⟩
abbrev main_call3_call4_c_20 : Ref sig .tc := ⟨.hbm, 1637, rfl⟩
abbrev main_call3_call4_v82 : Ref sig .tc := ⟨.hbm, 1638, rfl⟩
abbrev main_call3_call4_v83 : Ref sig .tc := ⟨.hbm, 1639, rfl⟩
abbrev main_call3_call4_c_21 : Ref sig .tc := ⟨.hbm, 1640, rfl⟩
abbrev main_call3_call4_v84 : Ref sig .tc := ⟨.hbm, 1641, rfl⟩
abbrev main_call3_call4_v85 : Ref sig .tc := ⟨.hbm, 1642, rfl⟩
abbrev main_call3_call4_v86 : Ref sig .tc := ⟨.hbm, 1643, rfl⟩
abbrev main_call3_call4_v87 : Ref sig .tc := ⟨.hbm, 1644, rfl⟩
abbrev main_call3_call4_v88 : Ref sig .tc := ⟨.hbm, 1645, rfl⟩
abbrev main_call3_call4_c_22 : Ref sig .tc := ⟨.hbm, 1646, rfl⟩
abbrev main_call3_call4_v89 : Ref sig .tc := ⟨.hbm, 1647, rfl⟩
abbrev main_call3_call4_v90 : Ref sig .tc := ⟨.hbm, 1648, rfl⟩
abbrev main_call3_call4_c_23 : Ref sig .tc := ⟨.hbm, 1649, rfl⟩
abbrev main_call3_call4_v91 : Ref sig .tc := ⟨.hbm, 1650, rfl⟩
abbrev main_call3_call4_v92 : Ref sig .tc := ⟨.hbm, 1651, rfl⟩
abbrev main_call3_call4_v93 : Ref sig .tc := ⟨.hbm, 1652, rfl⟩
abbrev main_call3_call4_v94 : Ref sig .tc := ⟨.hbm, 1653, rfl⟩
abbrev main_call3_call4_v95 : Ref sig .tc := ⟨.hbm, 1654, rfl⟩
abbrev main_call3_call4_c_24 : Ref sig .tc := ⟨.hbm, 1655, rfl⟩
abbrev main_call3_call4_v96 : Ref sig .tc := ⟨.hbm, 1656, rfl⟩
abbrev main_call3_call4_v97 : Ref sig .tc := ⟨.hbm, 1657, rfl⟩
abbrev main_call3_call4_c_25 : Ref sig .tc := ⟨.hbm, 1658, rfl⟩
abbrev main_call3_call4_v98 : Ref sig .tc := ⟨.hbm, 1659, rfl⟩
abbrev main_call3_call4_v99 : Ref sig .tc := ⟨.hbm, 1660, rfl⟩
abbrev main_call3_call4_v100 : Ref sig .tc := ⟨.hbm, 1661, rfl⟩
abbrev main_call3_call4_v101 : Ref sig .tc := ⟨.hbm, 1662, rfl⟩
abbrev main_call3_call4_v102 : Ref sig .tc := ⟨.hbm, 1663, rfl⟩
abbrev main_call3_call4_v103 : Ref sig .tc := ⟨.hbm, 1664, rfl⟩
abbrev main_call3_call4_v104 : Ref sig .tc := ⟨.hbm, 1665, rfl⟩
abbrev main_call3_call4_v105 : Ref sig .tc := ⟨.hbm, 1666, rfl⟩
abbrev main_call3_call4_c_26 : Ref sig .tc := ⟨.hbm, 1667, rfl⟩
abbrev main_call3_call4_v106 : Ref sig .tc := ⟨.hbm, 1668, rfl⟩
abbrev main_call3_call4_v107 : Ref sig .tc := ⟨.hbm, 1669, rfl⟩
abbrev main_call3_call4_v108 : Ref sig .tc := ⟨.hbm, 1670, rfl⟩
abbrev main_call3_call4_c_27 : Ref sig .tc := ⟨.hbm, 1671, rfl⟩
abbrev main_call3_call4_v109 : Ref sig .tc := ⟨.hbm, 1672, rfl⟩
abbrev main_call3_call4_v110 : Ref sig .tc := ⟨.hbm, 1673, rfl⟩
abbrev main_call3_call4_c_28 : Ref sig .tc := ⟨.hbm, 1674, rfl⟩
abbrev main_call3_call4_v111 : Ref sig .tc := ⟨.hbm, 1675, rfl⟩
abbrev main_call3_call4_v112 : Ref sig .tc := ⟨.hbm, 1676, rfl⟩
abbrev main_call3_call4_v113 : Ref sig .tc := ⟨.hbm, 1677, rfl⟩
abbrev main_call3_call4_v114 : Ref sig .tc := ⟨.hbm, 1678, rfl⟩
abbrev main_call3_call4_v115 : Ref sig .tc := ⟨.hbm, 1679, rfl⟩
abbrev main_call3_call4_c_29 : Ref sig .tc := ⟨.hbm, 1680, rfl⟩
abbrev main_call3_call4_v116 : Ref sig .tc := ⟨.hbm, 1681, rfl⟩
abbrev main_call3_call4_v117 : Ref sig .tc := ⟨.hbm, 1682, rfl⟩
abbrev main_call3_call4_c_30 : Ref sig .tc := ⟨.hbm, 1683, rfl⟩
abbrev main_call3_call4_v118 : Ref sig .tc := ⟨.hbm, 1684, rfl⟩
abbrev main_call3_call4_v119 : Ref sig .tc := ⟨.hbm, 1685, rfl⟩
abbrev main_call3_call4_v120 : Ref sig .tc := ⟨.hbm, 1686, rfl⟩
abbrev main_call3_call4_v121 : Ref sig .tc := ⟨.hbm, 1687, rfl⟩
abbrev main_call3_call4_v122 : Ref sig .tc := ⟨.hbm, 1688, rfl⟩
abbrev main_call3_call4_c_31 : Ref sig .tc := ⟨.hbm, 1689, rfl⟩
abbrev main_call3_call4_v123 : Ref sig .tc := ⟨.hbm, 1690, rfl⟩
abbrev main_call3_call4_v124 : Ref sig .tc := ⟨.hbm, 1691, rfl⟩
abbrev main_call3_call4_c_32 : Ref sig .tc := ⟨.hbm, 1692, rfl⟩
abbrev main_call3_call4_v125 : Ref sig .tc := ⟨.hbm, 1693, rfl⟩
abbrev main_call3_call4_v126 : Ref sig .tc := ⟨.hbm, 1694, rfl⟩
abbrev main_call3_call4_v127 : Ref sig .tc := ⟨.hbm, 1695, rfl⟩
abbrev main_call3_call4_v128 : Ref sig .tc := ⟨.hbm, 1696, rfl⟩
abbrev main_call3_call4_v129 : Ref sig .tc := ⟨.hbm, 1697, rfl⟩
abbrev main_call3_call4_c_33 : Ref sig .tc := ⟨.hbm, 1698, rfl⟩
abbrev main_call3_call4_v130 : Ref sig .tc := ⟨.hbm, 1699, rfl⟩
abbrev main_call3_call4_v131 : Ref sig .tc := ⟨.hbm, 1700, rfl⟩
abbrev main_call3_call4_c_34 : Ref sig .tc := ⟨.hbm, 1701, rfl⟩
abbrev main_call3_call4_v132 : Ref sig .tc := ⟨.hbm, 1702, rfl⟩
abbrev main_call3_call4_v133 : Ref sig .tc := ⟨.hbm, 1703, rfl⟩
abbrev main_call3_call4_v134 : Ref sig .tc := ⟨.hbm, 1704, rfl⟩
abbrev main_call3_call4_v135 : Ref sig .tc := ⟨.hbm, 1705, rfl⟩
abbrev main_call3_call4_v136 : Ref sig .tc := ⟨.hbm, 1706, rfl⟩
abbrev main_call3_call4_v137 : Ref sig .tc := ⟨.hbm, 1707, rfl⟩
abbrev main_call3_call4_v138 : Ref sig .tc := ⟨.hbm, 1708, rfl⟩
abbrev main_call3_call4_v139 : Ref sig .tc := ⟨.hbm, 1709, rfl⟩
abbrev main_call3_call4_c_35 : Ref sig .tc := ⟨.hbm, 1710, rfl⟩
abbrev main_call3_call4_v140 : Ref sig .tc := ⟨.hbm, 1711, rfl⟩
abbrev main_call3_call4_v141 : Ref sig .tc := ⟨.hbm, 1712, rfl⟩
abbrev main_call3_call4_v142 : Ref sig .tc := ⟨.hbm, 1713, rfl⟩
abbrev main_call3_call4_c_36 : Ref sig .tc := ⟨.hbm, 1714, rfl⟩
abbrev main_call3_call4_v143 : Ref sig .tc := ⟨.hbm, 1715, rfl⟩
abbrev main_call3_call4_v144 : Ref sig .tc := ⟨.hbm, 1716, rfl⟩
abbrev main_call3_call4_c_37 : Ref sig .tc := ⟨.hbm, 1717, rfl⟩
abbrev main_call3_call4_v145 : Ref sig .tc := ⟨.hbm, 1718, rfl⟩
abbrev main_call3_call4_v146 : Ref sig .tc := ⟨.hbm, 1719, rfl⟩
abbrev main_call3_call4_v147 : Ref sig .tc := ⟨.hbm, 1720, rfl⟩
abbrev main_call3_call4_v148 : Ref sig .tc := ⟨.hbm, 1721, rfl⟩
abbrev main_call3_call4_v149 : Ref sig .tc := ⟨.hbm, 1722, rfl⟩
abbrev main_call3_call4_c_38 : Ref sig .tc := ⟨.hbm, 1723, rfl⟩
abbrev main_call3_call4_v150 : Ref sig .tc := ⟨.hbm, 1724, rfl⟩
abbrev main_call3_call4_v151 : Ref sig .tc := ⟨.hbm, 1725, rfl⟩
abbrev main_call3_call4_c_39 : Ref sig .tc := ⟨.hbm, 1726, rfl⟩
abbrev main_call3_call4_v152 : Ref sig .tc := ⟨.hbm, 1727, rfl⟩
abbrev main_call3_call4_v153 : Ref sig .tc := ⟨.hbm, 1728, rfl⟩
abbrev main_call3_call4_v154 : Ref sig .tc := ⟨.hbm, 1729, rfl⟩
abbrev main_call3_call4_v155 : Ref sig .tc := ⟨.hbm, 1730, rfl⟩
abbrev main_call3_call4_v156 : Ref sig .tc := ⟨.hbm, 1731, rfl⟩
abbrev main_call3_call4_c_40 : Ref sig .tc := ⟨.hbm, 1732, rfl⟩
abbrev main_call3_call4_v157 : Ref sig .tc := ⟨.hbm, 1733, rfl⟩
abbrev main_call3_call4_v158 : Ref sig .tc := ⟨.hbm, 1734, rfl⟩
abbrev main_call3_call4_c_41 : Ref sig .tc := ⟨.hbm, 1735, rfl⟩
abbrev main_call3_call4_v159 : Ref sig .tc := ⟨.hbm, 1736, rfl⟩
abbrev main_call3_call4_v160 : Ref sig .tc := ⟨.hbm, 1737, rfl⟩
abbrev main_call3_call4_v161 : Ref sig .tc := ⟨.hbm, 1738, rfl⟩
abbrev main_call3_call4_v162 : Ref sig .tc := ⟨.hbm, 1739, rfl⟩
abbrev main_call3_call4_v163 : Ref sig .tc := ⟨.hbm, 1740, rfl⟩
abbrev main_call3_call4_c_42 : Ref sig .tc := ⟨.hbm, 1741, rfl⟩
abbrev main_call3_call4_v164 : Ref sig .tc := ⟨.hbm, 1742, rfl⟩
abbrev main_call3_call4_v165 : Ref sig .tc := ⟨.hbm, 1743, rfl⟩
abbrev main_call3_call4_c_43 : Ref sig .tc := ⟨.hbm, 1744, rfl⟩
abbrev main_call3_call4_v166 : Ref sig .tc := ⟨.hbm, 1745, rfl⟩
abbrev main_call3_call4_v167 : Ref sig .tc := ⟨.hbm, 1746, rfl⟩
abbrev main_call3_call4_v168 : Ref sig .tc := ⟨.hbm, 1747, rfl⟩
abbrev main_call3_call4_v169 : Ref sig .tc := ⟨.hbm, 1748, rfl⟩
abbrev main_call3_call4_v170 : Ref sig .tc := ⟨.hbm, 1749, rfl⟩
abbrev main_call3_v24_0 : Ref sig .tc := ⟨.hbm, 1750, rfl⟩
abbrev main_call3_call4_v172 : Ref sig .tc := ⟨.hbm, 1751, rfl⟩
abbrev main_call3_call4_v173 : Ref sig .tc := ⟨.hbm, 1752, rfl⟩
abbrev main_call3_call4_c_44 : Ref sig .tc := ⟨.hbm, 1753, rfl⟩
abbrev main_call3_call4_v174 : Ref sig .tc := ⟨.hbm, 1754, rfl⟩
abbrev main_call3_v24_1 : Ref sig .tc := ⟨.hbm, 1755, rfl⟩
abbrev main_call3_v25 : Ref sig .tc := ⟨.hbm, 1756, rfl⟩
abbrev main_call3_v26 : Ref sig .tc := ⟨.hbm, 1757, rfl⟩
abbrev main_call3_v27 : Ref sig .tc := ⟨.hbm, 1758, rfl⟩
abbrev main_call3_v28 : Ref sig .tc := ⟨.hbm, 1759, rfl⟩
abbrev main_call3_v29 : Ref sig .tc := ⟨.hbm, 1760, rfl⟩
abbrev main_call3_v30 : Ref sig .tc := ⟨.hbm, 1761, rfl⟩
abbrev main_call3_c_8 : Ref sig .tc := ⟨.hbm, 1762, rfl⟩
abbrev main_call3_v31 : Ref sig .tc := ⟨.hbm, 1763, rfl⟩
abbrev main_call3_v32 : Ref sig .tc := ⟨.hbm, 1764, rfl⟩
abbrev main_call3_c_9 : Ref sig .tc := ⟨.hbm, 1765, rfl⟩
abbrev main_call3_v33 : Ref sig .tc := ⟨.hbm, 1766, rfl⟩
abbrev main_call3_v34 : Ref sig .tc := ⟨.hbm, 1767, rfl⟩
abbrev main_call3_v35 : Ref sig .tc := ⟨.hbm, 1768, rfl⟩
abbrev main_call3_v36 : Ref sig .tc := ⟨.hbm, 1769, rfl⟩
abbrev main_call3_call5_v0 : Ref sig .tc := ⟨.hbm, 1770, rfl⟩
abbrev main_call3_call5_c : Ref sig .tc := ⟨.hbm, 1771, rfl⟩
abbrev main_call3_call5_v1 : Ref sig .tc := ⟨.hbm, 1772, rfl⟩
abbrev main_call3_call5_v2 : Ref sig .tc := ⟨.hbm, 1773, rfl⟩
abbrev main_call3_call5_v3 : Ref sig .tc := ⟨.hbm, 1774, rfl⟩
abbrev main_call3_call5_v4 : Ref sig .tc := ⟨.hbm, 1775, rfl⟩
abbrev main_call3_call5_v5 : Ref sig .tc := ⟨.hbm, 1776, rfl⟩
abbrev main_call3_call5_v6 : Ref sig .tc := ⟨.hbm, 1777, rfl⟩
abbrev main_call3_call5_c_0 : Ref sig .tc := ⟨.hbm, 1778, rfl⟩
abbrev main_call3_call5_v7 : Ref sig .tc := ⟨.hbm, 1779, rfl⟩
abbrev main_call3_call5_v8 : Ref sig .tc := ⟨.hbm, 1780, rfl⟩
abbrev main_call3_call5_c_1 : Ref sig .tc := ⟨.hbm, 1781, rfl⟩
abbrev main_call3_call5_v9 : Ref sig .tc := ⟨.hbm, 1782, rfl⟩
abbrev main_call3_call5_v10 : Ref sig .tc := ⟨.hbm, 1783, rfl⟩
abbrev main_call3_call5_v11 : Ref sig .tc := ⟨.hbm, 1784, rfl⟩
abbrev main_call3_call5_v12 : Ref sig .tc := ⟨.hbm, 1785, rfl⟩
abbrev main_call3_call5_v13 : Ref sig .tc := ⟨.hbm, 1786, rfl⟩
abbrev main_call3_call5_c_2 : Ref sig .tc := ⟨.hbm, 1787, rfl⟩
abbrev main_call3_call5_v14 : Ref sig .tc := ⟨.hbm, 1788, rfl⟩
abbrev main_call3_call5_v15 : Ref sig .tc := ⟨.hbm, 1789, rfl⟩
abbrev main_call3_call5_c_3 : Ref sig .tc := ⟨.hbm, 1790, rfl⟩
abbrev main_call3_call5_v16 : Ref sig .tc := ⟨.hbm, 1791, rfl⟩
abbrev main_call3_call5_v17 : Ref sig .tc := ⟨.hbm, 1792, rfl⟩
abbrev main_call3_call5_v18 : Ref sig .tc := ⟨.hbm, 1793, rfl⟩
abbrev main_call3_call5_v19 : Ref sig .tc := ⟨.hbm, 1794, rfl⟩
abbrev main_call3_call5_v20 : Ref sig .tc := ⟨.hbm, 1795, rfl⟩
abbrev main_call3_call5_c_4 : Ref sig .tc := ⟨.hbm, 1796, rfl⟩
abbrev main_call3_call5_v21 : Ref sig .tc := ⟨.hbm, 1797, rfl⟩
abbrev main_call3_call5_v22 : Ref sig .tc := ⟨.hbm, 1798, rfl⟩
abbrev main_call3_call5_c_5 : Ref sig .tc := ⟨.hbm, 1799, rfl⟩
abbrev main_call3_call5_v23 : Ref sig .tc := ⟨.hbm, 1800, rfl⟩
abbrev main_call3_call5_v24 : Ref sig .tc := ⟨.hbm, 1801, rfl⟩
abbrev main_call3_call5_v25 : Ref sig .tc := ⟨.hbm, 1802, rfl⟩
abbrev main_call3_call5_v26 : Ref sig .tc := ⟨.hbm, 1803, rfl⟩
abbrev main_call3_call5_v27 : Ref sig .tc := ⟨.hbm, 1804, rfl⟩
abbrev main_call3_call5_c_6 : Ref sig .tc := ⟨.hbm, 1805, rfl⟩
abbrev main_call3_call5_v28 : Ref sig .tc := ⟨.hbm, 1806, rfl⟩
abbrev main_call3_call5_v29 : Ref sig .tc := ⟨.hbm, 1807, rfl⟩
abbrev main_call3_call5_c_7 : Ref sig .tc := ⟨.hbm, 1808, rfl⟩
abbrev main_call3_call5_v30 : Ref sig .tc := ⟨.hbm, 1809, rfl⟩
abbrev main_call3_call5_v31 : Ref sig .tc := ⟨.hbm, 1810, rfl⟩
abbrev main_call3_call5_v32 : Ref sig .tc := ⟨.hbm, 1811, rfl⟩
abbrev main_call3_call5_v33 : Ref sig .tc := ⟨.hbm, 1812, rfl⟩
abbrev main_call3_call5_v34 : Ref sig .tc := ⟨.hbm, 1813, rfl⟩
abbrev main_call3_call5_v35 : Ref sig .tc := ⟨.hbm, 1814, rfl⟩
abbrev main_call3_call5_v36 : Ref sig .tc := ⟨.hbm, 1815, rfl⟩
abbrev main_call3_call5_v37 : Ref sig .tc := ⟨.hbm, 1816, rfl⟩
abbrev main_call3_call5_c_8 : Ref sig .tc := ⟨.hbm, 1817, rfl⟩
abbrev main_call3_call5_v38 : Ref sig .tc := ⟨.hbm, 1818, rfl⟩
abbrev main_call3_call5_v39 : Ref sig .tc := ⟨.hbm, 1819, rfl⟩
abbrev main_call3_call5_v40 : Ref sig .tc := ⟨.hbm, 1820, rfl⟩
abbrev main_call3_call5_c_9 : Ref sig .tc := ⟨.hbm, 1821, rfl⟩
abbrev main_call3_call5_v41 : Ref sig .tc := ⟨.hbm, 1822, rfl⟩
abbrev main_call3_call5_v42 : Ref sig .tc := ⟨.hbm, 1823, rfl⟩
abbrev main_call3_call5_c_10 : Ref sig .tc := ⟨.hbm, 1824, rfl⟩
abbrev main_call3_call5_v43 : Ref sig .tc := ⟨.hbm, 1825, rfl⟩
abbrev main_call3_call5_v44 : Ref sig .tc := ⟨.hbm, 1826, rfl⟩
abbrev main_call3_call5_v45 : Ref sig .tc := ⟨.hbm, 1827, rfl⟩
abbrev main_call3_call5_v46 : Ref sig .tc := ⟨.hbm, 1828, rfl⟩
abbrev main_call3_call5_v47 : Ref sig .tc := ⟨.hbm, 1829, rfl⟩
abbrev main_call3_call5_c_11 : Ref sig .tc := ⟨.hbm, 1830, rfl⟩
abbrev main_call3_call5_v48 : Ref sig .tc := ⟨.hbm, 1831, rfl⟩
abbrev main_call3_call5_v49 : Ref sig .tc := ⟨.hbm, 1832, rfl⟩
abbrev main_call3_call5_c_12 : Ref sig .tc := ⟨.hbm, 1833, rfl⟩
abbrev main_call3_call5_v50 : Ref sig .tc := ⟨.hbm, 1834, rfl⟩
abbrev main_call3_call5_v51 : Ref sig .tc := ⟨.hbm, 1835, rfl⟩
abbrev main_call3_call5_v52 : Ref sig .tc := ⟨.hbm, 1836, rfl⟩
abbrev main_call3_call5_v53 : Ref sig .tc := ⟨.hbm, 1837, rfl⟩
abbrev main_call3_call5_v54 : Ref sig .tc := ⟨.hbm, 1838, rfl⟩
abbrev main_call3_call5_c_13 : Ref sig .tc := ⟨.hbm, 1839, rfl⟩
abbrev main_call3_call5_v55 : Ref sig .tc := ⟨.hbm, 1840, rfl⟩
abbrev main_call3_call5_v56 : Ref sig .tc := ⟨.hbm, 1841, rfl⟩
abbrev main_call3_call5_c_14 : Ref sig .tc := ⟨.hbm, 1842, rfl⟩
abbrev main_call3_call5_v57 : Ref sig .tc := ⟨.hbm, 1843, rfl⟩
abbrev main_call3_call5_v58 : Ref sig .tc := ⟨.hbm, 1844, rfl⟩
abbrev main_call3_call5_v59 : Ref sig .tc := ⟨.hbm, 1845, rfl⟩
abbrev main_call3_call5_v60 : Ref sig .tc := ⟨.hbm, 1846, rfl⟩
abbrev main_call3_call5_v61 : Ref sig .tc := ⟨.hbm, 1847, rfl⟩
abbrev main_call3_call5_c_15 : Ref sig .tc := ⟨.hbm, 1848, rfl⟩
abbrev main_call3_call5_v62 : Ref sig .tc := ⟨.hbm, 1849, rfl⟩
abbrev main_call3_call5_v63 : Ref sig .tc := ⟨.hbm, 1850, rfl⟩
abbrev main_call3_call5_c_16 : Ref sig .tc := ⟨.hbm, 1851, rfl⟩
abbrev main_call3_call5_v64 : Ref sig .tc := ⟨.hbm, 1852, rfl⟩
abbrev main_call3_call5_v65 : Ref sig .tc := ⟨.hbm, 1853, rfl⟩
abbrev main_call3_call5_v66 : Ref sig .tc := ⟨.hbm, 1854, rfl⟩
abbrev main_call3_call5_v67 : Ref sig .tc := ⟨.hbm, 1855, rfl⟩
abbrev main_call3_call5_v68 : Ref sig .tc := ⟨.hbm, 1856, rfl⟩
abbrev main_call3_call5_v69 : Ref sig .tc := ⟨.hbm, 1857, rfl⟩
abbrev main_call3_call5_v70 : Ref sig .tc := ⟨.hbm, 1858, rfl⟩
abbrev main_call3_call5_v71 : Ref sig .tc := ⟨.hbm, 1859, rfl⟩
abbrev main_call3_call5_c_17 : Ref sig .tc := ⟨.hbm, 1860, rfl⟩
abbrev main_call3_call5_v72 : Ref sig .tc := ⟨.hbm, 1861, rfl⟩
abbrev main_call3_call5_v73 : Ref sig .tc := ⟨.hbm, 1862, rfl⟩
abbrev main_call3_call5_v74 : Ref sig .tc := ⟨.hbm, 1863, rfl⟩
abbrev main_call3_call5_c_18 : Ref sig .tc := ⟨.hbm, 1864, rfl⟩
abbrev main_call3_call5_v75 : Ref sig .tc := ⟨.hbm, 1865, rfl⟩
abbrev main_call3_call5_v76 : Ref sig .tc := ⟨.hbm, 1866, rfl⟩
abbrev main_call3_call5_c_19 : Ref sig .tc := ⟨.hbm, 1867, rfl⟩
abbrev main_call3_call5_v77 : Ref sig .tc := ⟨.hbm, 1868, rfl⟩
abbrev main_call3_call5_v78 : Ref sig .tc := ⟨.hbm, 1869, rfl⟩
abbrev main_call3_call5_v79 : Ref sig .tc := ⟨.hbm, 1870, rfl⟩
abbrev main_call3_call5_v80 : Ref sig .tc := ⟨.hbm, 1871, rfl⟩
abbrev main_call3_call5_v81 : Ref sig .tc := ⟨.hbm, 1872, rfl⟩
abbrev main_call3_call5_c_20 : Ref sig .tc := ⟨.hbm, 1873, rfl⟩
abbrev main_call3_call5_v82 : Ref sig .tc := ⟨.hbm, 1874, rfl⟩
abbrev main_call3_call5_v83 : Ref sig .tc := ⟨.hbm, 1875, rfl⟩
abbrev main_call3_call5_c_21 : Ref sig .tc := ⟨.hbm, 1876, rfl⟩
abbrev main_call3_call5_v84 : Ref sig .tc := ⟨.hbm, 1877, rfl⟩
abbrev main_call3_call5_v85 : Ref sig .tc := ⟨.hbm, 1878, rfl⟩
abbrev main_call3_call5_v86 : Ref sig .tc := ⟨.hbm, 1879, rfl⟩
abbrev main_call3_call5_v87 : Ref sig .tc := ⟨.hbm, 1880, rfl⟩
abbrev main_call3_call5_v88 : Ref sig .tc := ⟨.hbm, 1881, rfl⟩
abbrev main_call3_call5_c_22 : Ref sig .tc := ⟨.hbm, 1882, rfl⟩
abbrev main_call3_call5_v89 : Ref sig .tc := ⟨.hbm, 1883, rfl⟩
abbrev main_call3_call5_v90 : Ref sig .tc := ⟨.hbm, 1884, rfl⟩
abbrev main_call3_call5_c_23 : Ref sig .tc := ⟨.hbm, 1885, rfl⟩
abbrev main_call3_call5_v91 : Ref sig .tc := ⟨.hbm, 1886, rfl⟩
abbrev main_call3_call5_v92 : Ref sig .tc := ⟨.hbm, 1887, rfl⟩
abbrev main_call3_call5_v93 : Ref sig .tc := ⟨.hbm, 1888, rfl⟩
abbrev main_call3_call5_v94 : Ref sig .tc := ⟨.hbm, 1889, rfl⟩
abbrev main_call3_call5_v95 : Ref sig .tc := ⟨.hbm, 1890, rfl⟩
abbrev main_call3_call5_c_24 : Ref sig .tc := ⟨.hbm, 1891, rfl⟩
abbrev main_call3_call5_v96 : Ref sig .tc := ⟨.hbm, 1892, rfl⟩
abbrev main_call3_call5_v97 : Ref sig .tc := ⟨.hbm, 1893, rfl⟩
abbrev main_call3_call5_c_25 : Ref sig .tc := ⟨.hbm, 1894, rfl⟩
abbrev main_call3_call5_v98 : Ref sig .tc := ⟨.hbm, 1895, rfl⟩
abbrev main_call3_call5_v99 : Ref sig .tc := ⟨.hbm, 1896, rfl⟩
abbrev main_call3_call5_v100 : Ref sig .tc := ⟨.hbm, 1897, rfl⟩
abbrev main_call3_call5_v101 : Ref sig .tc := ⟨.hbm, 1898, rfl⟩
abbrev main_call3_call5_v102 : Ref sig .tc := ⟨.hbm, 1899, rfl⟩
abbrev main_call3_call5_v103 : Ref sig .tc := ⟨.hbm, 1900, rfl⟩
abbrev main_call3_call5_v104 : Ref sig .tc := ⟨.hbm, 1901, rfl⟩
abbrev main_call3_call5_v105 : Ref sig .tc := ⟨.hbm, 1902, rfl⟩
abbrev main_call3_call5_c_26 : Ref sig .tc := ⟨.hbm, 1903, rfl⟩
abbrev main_call3_call5_v106 : Ref sig .tc := ⟨.hbm, 1904, rfl⟩
abbrev main_call3_call5_v107 : Ref sig .tc := ⟨.hbm, 1905, rfl⟩
abbrev main_call3_call5_v108 : Ref sig .tc := ⟨.hbm, 1906, rfl⟩
abbrev main_call3_call5_c_27 : Ref sig .tc := ⟨.hbm, 1907, rfl⟩
abbrev main_call3_call5_v109 : Ref sig .tc := ⟨.hbm, 1908, rfl⟩
abbrev main_call3_call5_v110 : Ref sig .tc := ⟨.hbm, 1909, rfl⟩
abbrev main_call3_call5_c_28 : Ref sig .tc := ⟨.hbm, 1910, rfl⟩
abbrev main_call3_call5_v111 : Ref sig .tc := ⟨.hbm, 1911, rfl⟩
abbrev main_call3_call5_v112 : Ref sig .tc := ⟨.hbm, 1912, rfl⟩
abbrev main_call3_call5_v113 : Ref sig .tc := ⟨.hbm, 1913, rfl⟩
abbrev main_call3_call5_v114 : Ref sig .tc := ⟨.hbm, 1914, rfl⟩
abbrev main_call3_call5_v115 : Ref sig .tc := ⟨.hbm, 1915, rfl⟩
abbrev main_call3_call5_c_29 : Ref sig .tc := ⟨.hbm, 1916, rfl⟩
abbrev main_call3_call5_v116 : Ref sig .tc := ⟨.hbm, 1917, rfl⟩
abbrev main_call3_call5_v117 : Ref sig .tc := ⟨.hbm, 1918, rfl⟩
abbrev main_call3_call5_c_30 : Ref sig .tc := ⟨.hbm, 1919, rfl⟩
abbrev main_call3_call5_v118 : Ref sig .tc := ⟨.hbm, 1920, rfl⟩
abbrev main_call3_call5_v119 : Ref sig .tc := ⟨.hbm, 1921, rfl⟩
abbrev main_call3_call5_v120 : Ref sig .tc := ⟨.hbm, 1922, rfl⟩
abbrev main_call3_call5_v121 : Ref sig .tc := ⟨.hbm, 1923, rfl⟩
abbrev main_call3_call5_v122 : Ref sig .tc := ⟨.hbm, 1924, rfl⟩
abbrev main_call3_call5_c_31 : Ref sig .tc := ⟨.hbm, 1925, rfl⟩
abbrev main_call3_call5_v123 : Ref sig .tc := ⟨.hbm, 1926, rfl⟩
abbrev main_call3_call5_v124 : Ref sig .tc := ⟨.hbm, 1927, rfl⟩
abbrev main_call3_call5_c_32 : Ref sig .tc := ⟨.hbm, 1928, rfl⟩
abbrev main_call3_call5_v125 : Ref sig .tc := ⟨.hbm, 1929, rfl⟩
abbrev main_call3_call5_v126 : Ref sig .tc := ⟨.hbm, 1930, rfl⟩
abbrev main_call3_call5_v127 : Ref sig .tc := ⟨.hbm, 1931, rfl⟩
abbrev main_call3_call5_v128 : Ref sig .tc := ⟨.hbm, 1932, rfl⟩
abbrev main_call3_call5_v129 : Ref sig .tc := ⟨.hbm, 1933, rfl⟩
abbrev main_call3_call5_c_33 : Ref sig .tc := ⟨.hbm, 1934, rfl⟩
abbrev main_call3_call5_v130 : Ref sig .tc := ⟨.hbm, 1935, rfl⟩
abbrev main_call3_call5_v131 : Ref sig .tc := ⟨.hbm, 1936, rfl⟩
abbrev main_call3_call5_c_34 : Ref sig .tc := ⟨.hbm, 1937, rfl⟩
abbrev main_call3_call5_v132 : Ref sig .tc := ⟨.hbm, 1938, rfl⟩
abbrev main_call3_call5_v133 : Ref sig .tc := ⟨.hbm, 1939, rfl⟩
abbrev main_call3_call5_v134 : Ref sig .tc := ⟨.hbm, 1940, rfl⟩
abbrev main_call3_call5_v135 : Ref sig .tc := ⟨.hbm, 1941, rfl⟩
abbrev main_call3_call5_v136 : Ref sig .tc := ⟨.hbm, 1942, rfl⟩
abbrev main_call3_call5_v137 : Ref sig .tc := ⟨.hbm, 1943, rfl⟩
abbrev main_call3_call5_v138 : Ref sig .tc := ⟨.hbm, 1944, rfl⟩
abbrev main_call3_call5_v139 : Ref sig .tc := ⟨.hbm, 1945, rfl⟩
abbrev main_call3_call5_c_35 : Ref sig .tc := ⟨.hbm, 1946, rfl⟩
abbrev main_call3_call5_v140 : Ref sig .tc := ⟨.hbm, 1947, rfl⟩
abbrev main_call3_call5_v141 : Ref sig .tc := ⟨.hbm, 1948, rfl⟩
abbrev main_call3_call5_v142 : Ref sig .tc := ⟨.hbm, 1949, rfl⟩
abbrev main_call3_call5_c_36 : Ref sig .tc := ⟨.hbm, 1950, rfl⟩
abbrev main_call3_call5_v143 : Ref sig .tc := ⟨.hbm, 1951, rfl⟩
abbrev main_call3_call5_v144 : Ref sig .tc := ⟨.hbm, 1952, rfl⟩
abbrev main_call3_call5_c_37 : Ref sig .tc := ⟨.hbm, 1953, rfl⟩
abbrev main_call3_call5_v145 : Ref sig .tc := ⟨.hbm, 1954, rfl⟩
abbrev main_call3_call5_v146 : Ref sig .tc := ⟨.hbm, 1955, rfl⟩
abbrev main_call3_call5_v147 : Ref sig .tc := ⟨.hbm, 1956, rfl⟩
abbrev main_call3_call5_v148 : Ref sig .tc := ⟨.hbm, 1957, rfl⟩
abbrev main_call3_call5_v149 : Ref sig .tc := ⟨.hbm, 1958, rfl⟩
abbrev main_call3_call5_c_38 : Ref sig .tc := ⟨.hbm, 1959, rfl⟩
abbrev main_call3_call5_v150 : Ref sig .tc := ⟨.hbm, 1960, rfl⟩
abbrev main_call3_call5_v151 : Ref sig .tc := ⟨.hbm, 1961, rfl⟩
abbrev main_call3_call5_c_39 : Ref sig .tc := ⟨.hbm, 1962, rfl⟩
abbrev main_call3_call5_v152 : Ref sig .tc := ⟨.hbm, 1963, rfl⟩
abbrev main_call3_call5_v153 : Ref sig .tc := ⟨.hbm, 1964, rfl⟩
abbrev main_call3_call5_v154 : Ref sig .tc := ⟨.hbm, 1965, rfl⟩
abbrev main_call3_call5_v155 : Ref sig .tc := ⟨.hbm, 1966, rfl⟩
abbrev main_call3_call5_v156 : Ref sig .tc := ⟨.hbm, 1967, rfl⟩
abbrev main_call3_call5_c_40 : Ref sig .tc := ⟨.hbm, 1968, rfl⟩
abbrev main_call3_call5_v157 : Ref sig .tc := ⟨.hbm, 1969, rfl⟩
abbrev main_call3_call5_v158 : Ref sig .tc := ⟨.hbm, 1970, rfl⟩
abbrev main_call3_call5_c_41 : Ref sig .tc := ⟨.hbm, 1971, rfl⟩
abbrev main_call3_call5_v159 : Ref sig .tc := ⟨.hbm, 1972, rfl⟩
abbrev main_call3_call5_v160 : Ref sig .tc := ⟨.hbm, 1973, rfl⟩
abbrev main_call3_call5_v161 : Ref sig .tc := ⟨.hbm, 1974, rfl⟩
abbrev main_call3_call5_v162 : Ref sig .tc := ⟨.hbm, 1975, rfl⟩
abbrev main_call3_call5_v163 : Ref sig .tc := ⟨.hbm, 1976, rfl⟩
abbrev main_call3_call5_c_42 : Ref sig .tc := ⟨.hbm, 1977, rfl⟩
abbrev main_call3_call5_v164 : Ref sig .tc := ⟨.hbm, 1978, rfl⟩
abbrev main_call3_call5_v165 : Ref sig .tc := ⟨.hbm, 1979, rfl⟩
abbrev main_call3_call5_c_43 : Ref sig .tc := ⟨.hbm, 1980, rfl⟩
abbrev main_call3_call5_v166 : Ref sig .tc := ⟨.hbm, 1981, rfl⟩
abbrev main_call3_call5_v167 : Ref sig .tc := ⟨.hbm, 1982, rfl⟩
abbrev main_call3_call5_v168 : Ref sig .tc := ⟨.hbm, 1983, rfl⟩
abbrev main_call3_call5_v169 : Ref sig .tc := ⟨.hbm, 1984, rfl⟩
abbrev main_call3_call5_v170 : Ref sig .tc := ⟨.hbm, 1985, rfl⟩
abbrev main_call3_v37_0 : Ref sig .tc := ⟨.hbm, 1986, rfl⟩
abbrev main_call3_call5_v172 : Ref sig .tc := ⟨.hbm, 1987, rfl⟩
abbrev main_call3_call5_v173 : Ref sig .tc := ⟨.hbm, 1988, rfl⟩
abbrev main_call3_call5_c_44 : Ref sig .tc := ⟨.hbm, 1989, rfl⟩
abbrev main_call3_call5_v174 : Ref sig .tc := ⟨.hbm, 1990, rfl⟩
abbrev main_call3_v37_1 : Ref sig .tc := ⟨.hbm, 1991, rfl⟩
abbrev main_call3_v38 : Ref sig .tc := ⟨.hbm, 1992, rfl⟩
abbrev main_call3_v39 : Ref sig .tc := ⟨.hbm, 1993, rfl⟩
abbrev main_call3_v40 : Ref sig .tc := ⟨.hbm, 1994, rfl⟩
abbrev main_call3_v41 : Ref sig .tc := ⟨.hbm, 1995, rfl⟩
abbrev main_call3_c_10 : Ref sig .tc := ⟨.hbm, 1996, rfl⟩
abbrev main_call3_v42 : Ref sig .tc := ⟨.hbm, 1997, rfl⟩
abbrev main_call3_v43 : Ref sig .tc := ⟨.hbm, 1998, rfl⟩
abbrev main_call3_v44 : Ref sig .tc := ⟨.hbm, 1999, rfl⟩
abbrev main_call3_v45 : Ref sig .tc := ⟨.hbm, 2000, rfl⟩
abbrev main_call3_v46 : Ref sig .tc := ⟨.hbm, 2001, rfl⟩
abbrev main_call3_c_11 : Ref sig .tc := ⟨.hbm, 2002, rfl⟩
abbrev main_call3_v47 : Ref sig .tc := ⟨.hbm, 2003, rfl⟩
abbrev main_call3_v48 : Ref sig .tc := ⟨.hbm, 2004, rfl⟩
abbrev main_call3_v49 : Ref sig .tc := ⟨.hbm, 2005, rfl⟩
abbrev main_call3_c_12 : Ref sig .tc := ⟨.hbm, 2006, rfl⟩
abbrev main_call3_v50 : Ref sig .tc := ⟨.hbm, 2007, rfl⟩
abbrev main_call3_v51 : Ref sig .tc := ⟨.hbm, 2008, rfl⟩
abbrev main_call3_v52 : Ref sig .tc := ⟨.hbm, 2009, rfl⟩
abbrev main_call3_v53 : Ref sig .tc := ⟨.hbm, 2010, rfl⟩
abbrev main_call3_v54 : Ref sig .tc := ⟨.hbm, 2011, rfl⟩
abbrev main_call3_v55 : Ref sig .tc := ⟨.hbm, 2012, rfl⟩
abbrev main_call3_v56 : Ref sig .tc := ⟨.hbm, 2013, rfl⟩
abbrev main_call3_v57 : Ref sig .tc := ⟨.hbm, 2014, rfl⟩
abbrev main_call3_v58 : Ref sig .tc := ⟨.hbm, 2015, rfl⟩
abbrev main_call3_v59 : Ref sig .tc := ⟨.hbm, 2016, rfl⟩
abbrev main_call3_v60 : Ref sig .tc := ⟨.hbm, 2017, rfl⟩
abbrev main_call3_v61 : Ref sig .tc := ⟨.hbm, 2018, rfl⟩
abbrev main_call3_v62 : Ref sig .tc := ⟨.hbm, 2019, rfl⟩
abbrev main_call3_v63 : Ref sig .tc := ⟨.hbm, 2020, rfl⟩
abbrev main_call3_v64 : Ref sig .tc := ⟨.hbm, 2021, rfl⟩
abbrev main_v17 : Ref sig .tc := ⟨.hbm, 2022, rfl⟩
abbrev main_v18 : Ref sig .tc := ⟨.hbm, 2023, rfl⟩
abbrev main_v19 : Ref sig .tc := ⟨.hbm, 2024, rfl⟩
abbrev main_v20 : Ref sig .tc := ⟨.hbm, 2025, rfl⟩
abbrev main_v21 : Ref sig .tc := ⟨.hbm, 2026, rfl⟩
abbrev main_v22 : Ref sig .tc := ⟨.hbm, 2027, rfl⟩
abbrev main_v23 : Ref sig .tc := ⟨.hbm, 2028, rfl⟩
abbrev main_v24 : Ref sig .tc := ⟨.hbm, 2029, rfl⟩
abbrev main_v25 : Ref sig .tc := ⟨.hbm, 2030, rfl⟩
abbrev main_v23_scv : Ref sig .scVector := ⟨.hbm, 2028, rfl⟩
abbrev main_v22_scv : Ref sig .scVector := ⟨.hbm, 2027, rfl⟩
abbrev main_v24_scv : Ref sig .scVector := ⟨.hbm, 2029, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c2_i32_1 : BitVec 32 := 2#32
  let v4 : BitVec 32 := Scalar.addi c0_i32_0 c2_i32_1
  let c1_i32 : BitVec 32 := 1#32
  ⟨c0_i32_0, v4, c1_i32⟩
def k0_off1 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v6 : BitVec 32 := Scalar.muli v1 c2_i32_3
  let c0_i32_0 : BitVec 32 := 0#32
  let c1_i32 : BitVec 32 := 1#32
  let arg7 : BitVec 32 := Scf.iv c0_i32_0 c1_i32 k0_t1
  let v7 : BitVec 32 := Scalar.addi v6 arg7
  let c0_i32_14_r0 : BitVec 32 := 0#32
  let c0_i32_15_r0 : BitVec 32 := 0#32
  ![v7.toNat, 0, 0]
@[reducible] def k0_t2_loop : Scf.Loop 32 :=
  let c0_i32_10 : BitVec 32 := 0#32
  let c16_i32 : BitVec 32 := 16#32
  let v22 : BitVec 32 := Scalar.addi c0_i32_10 c16_i32
  let c1_i32_11 : BitVec 32 := 1#32
  ⟨c0_i32_10, v22, c1_i32_11⟩
def k0_off2 (i : grid0.Coords) (k0_t1 : Fin k0_t1_loop.trips) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v6 : BitVec 32 := Scalar.muli v1 c2_i32_3
  let c0_i32_0 : BitVec 32 := 0#32
  let c1_i32 : BitVec 32 := 1#32
  let arg7 : BitVec 32 := Scf.iv c0_i32_0 c1_i32 k0_t1
  let v7 : BitVec 32 := Scalar.addi v6 arg7
  let c0_i32_10 : BitVec 32 := 0#32
  let c1_i32_11 : BitVec 32 := 1#32
  let arg9 : BitVec 32 := Scf.iv c0_i32_10 c1_i32_11 k0_t2
  let c8_i32 : BitVec 32 := 8#32
  let v24 : BitVec 32 := Scalar.muli arg9 c8_i32
  let c0_i32_123_r1 : BitVec 32 := 0#32
  ![v7.toNat, v24.toNat, 0]
@[reducible] def k0_t3_loop (v15 : BitVec 32) : Scf.Loop 32 :=
  let c4_i32 : BitVec 32 := 4#32
  let v18 : BitVec 32 := Scalar.shrui v15 c4_i32
  let c1_i32_14 : BitVec 32 := 1#32
  let v25 : BitVec 32 := Scalar.addi v18 c1_i32_14
  let c400_i32 : BitVec 32 := 400#32
  let v19 : BitVec 32 := Scalar.addi v15 c400_i32
  let c1_i32_7 : BitVec 32 := 1#32
  let v20 : BitVec 32 := Scalar.subi v19 c1_i32_7
  let c4_i32_8 : BitVec 32 := 4#32
  let v21 : BitVec 32 := Scalar.shrui v20 c4_i32_8
  let v26 : BitVec 32 := Scalar.subi v21 v25
  let c1_i32_16 : BitVec 32 := 1#32
  let v28 : BitVec 32 := Scalar.divsi v26 c1_i32_16
  let v29 : BitVec 32 := Scalar.muli v28 c1_i32_16
  let v30 : BitVec 32 := Scalar.addi v25 v29
  let c1_i32_17 : BitVec 32 := 1#32
  ⟨v25, v30, c1_i32_17⟩

def k0_off3 (v15 : BitVec 32) (k0_t3 : Fin (k0_t3_loop v15).trips) : Fin 2 → Nat :=
  let c0_i32_124 : BitVec 32 := 0#32
  let v314 : Index := Scalar.indexCast c0_i32_124
  let c4_i32 : BitVec 32 := 4#32
  let v18 : BitVec 32 := Scalar.shrui v15 c4_i32
  let c1_i32_14 : BitVec 32 := 1#32
  let v25 : BitVec 32 := Scalar.addi v18 c1_i32_14
  let c1_i32_17 : BitVec 32 := 1#32
  let arg11 : BitVec 32 := Scf.iv v25 c1_i32_17 k0_t3
  let c16_i32_123 : BitVec 32 := 16#32
  let v313 : BitVec 32 := Scalar.muli arg11 c16_i32_123
  let v315 : Index := Scalar.indexCast v313
  ![0, v315.toNat]
def k0_off4 (v15 : BitVec 32) (k0_t3 : Fin (k0_t3_loop v15).trips) : Fin 2 → Nat :=
  let c1_i32_126 : BitVec 32 := 1#32
  let v320 : Index := Scalar.indexCast c1_i32_126
  let c4_i32 : BitVec 32 := 4#32
  let v18 : BitVec 32 := Scalar.shrui v15 c4_i32
  let c1_i32_14 : BitVec 32 := 1#32
  let v25 : BitVec 32 := Scalar.addi v18 c1_i32_14
  let c1_i32_17 : BitVec 32 := 1#32
  let arg11 : BitVec 32 := Scf.iv v25 c1_i32_17 k0_t3
  let c16_i32_125 : BitVec 32 := 16#32
  let v319 : BitVec 32 := Scalar.muli arg11 c16_i32_125
  let v321 : Index := Scalar.indexCast v319
  ![1, v321.toNat]
def k0_off5 (v15 : BitVec 32) (k0_t3 : Fin (k0_t3_loop v15).trips) : Fin 2 → Nat :=
  let c2_i32_128 : BitVec 32 := 2#32
  let v326 : Index := Scalar.indexCast c2_i32_128
  let c4_i32 : BitVec 32 := 4#32
  let v18 : BitVec 32 := Scalar.shrui v15 c4_i32
  let c1_i32_14 : BitVec 32 := 1#32
  let v25 : BitVec 32 := Scalar.addi v18 c1_i32_14
  let c1_i32_17 : BitVec 32 := 1#32
  let arg11 : BitVec 32 := Scf.iv v25 c1_i32_17 k0_t3
  let c16_i32_127 : BitVec 32 := 16#32
  let v325 : BitVec 32 := Scalar.muli arg11 c16_i32_127
  let v327 : Index := Scalar.indexCast v325
  ![2, v327.toNat]
def k0_off6 (v15 : BitVec 32) (k0_t3 : Fin (k0_t3_loop v15).trips) : Fin 2 → Nat :=
  let c3_i32_130 : BitVec 32 := 3#32
  let v332 : Index := Scalar.indexCast c3_i32_130
  let c4_i32 : BitVec 32 := 4#32
  let v18 : BitVec 32 := Scalar.shrui v15 c4_i32
  let c1_i32_14 : BitVec 32 := 1#32
  let v25 : BitVec 32 := Scalar.addi v18 c1_i32_14
  let c1_i32_17 : BitVec 32 := 1#32
  let arg11 : BitVec 32 := Scf.iv v25 c1_i32_17 k0_t3
  let c16_i32_129 : BitVec 32 := 16#32
  let v331 : BitVec 32 := Scalar.muli arg11 c16_i32_129
  let v333 : Index := Scalar.indexCast v331
  ![3, v333.toNat]
def k0_off7 (v15 : BitVec 32) (k0_t3 : Fin (k0_t3_loop v15).trips) : Fin 2 → Nat :=
  let c4_i32_132 : BitVec 32 := 4#32
  let v338 : Index := Scalar.indexCast c4_i32_132
  let c4_i32 : BitVec 32 := 4#32
  let v18 : BitVec 32 := Scalar.shrui v15 c4_i32
  let c1_i32_14 : BitVec 32 := 1#32
  let v25 : BitVec 32 := Scalar.addi v18 c1_i32_14
  let c1_i32_17 : BitVec 32 := 1#32
  let arg11 : BitVec 32 := Scf.iv v25 c1_i32_17 k0_t3
  let c16_i32_131 : BitVec 32 := 16#32
  let v337 : BitVec 32 := Scalar.muli arg11 c16_i32_131
  let v339 : Index := Scalar.indexCast v337
  ![4, v339.toNat]
def k0_off8 (v15 : BitVec 32) (k0_t3 : Fin (k0_t3_loop v15).trips) : Fin 2 → Nat :=
  let c5_i32_134 : BitVec 32 := 5#32
  let v344 : Index := Scalar.indexCast c5_i32_134
  let c4_i32 : BitVec 32 := 4#32
  let v18 : BitVec 32 := Scalar.shrui v15 c4_i32
  let c1_i32_14 : BitVec 32 := 1#32
  let v25 : BitVec 32 := Scalar.addi v18 c1_i32_14
  let c1_i32_17 : BitVec 32 := 1#32
  let arg11 : BitVec 32 := Scf.iv v25 c1_i32_17 k0_t3
  let c16_i32_133 : BitVec 32 := 16#32
  let v343 : BitVec 32 := Scalar.muli arg11 c16_i32_133
  let v345 : Index := Scalar.indexCast v343
  ![5, v345.toNat]
def k0_off9 (v15 : BitVec 32) (k0_t3 : Fin (k0_t3_loop v15).trips) : Fin 2 → Nat :=
  let c6_i32_136 : BitVec 32 := 6#32
  let v350 : Index := Scalar.indexCast c6_i32_136
  let c4_i32 : BitVec 32 := 4#32
  let v18 : BitVec 32 := Scalar.shrui v15 c4_i32
  let c1_i32_14 : BitVec 32 := 1#32
  let v25 : BitVec 32 := Scalar.addi v18 c1_i32_14
  let c1_i32_17 : BitVec 32 := 1#32
  let arg11 : BitVec 32 := Scf.iv v25 c1_i32_17 k0_t3
  let c16_i32_135 : BitVec 32 := 16#32
  let v349 : BitVec 32 := Scalar.muli arg11 c16_i32_135
  let v351 : Index := Scalar.indexCast v349
  ![6, v351.toNat]
def k0_off10 (v15 : BitVec 32) (k0_t3 : Fin (k0_t3_loop v15).trips) : Fin 2 → Nat :=
  let c7_i32_138 : BitVec 32 := 7#32
  let v356 : Index := Scalar.indexCast c7_i32_138
  let c4_i32 : BitVec 32 := 4#32
  let v18 : BitVec 32 := Scalar.shrui v15 c4_i32
  let c1_i32_14 : BitVec 32 := 1#32
  let v25 : BitVec 32 := Scalar.addi v18 c1_i32_14
  let c1_i32_17 : BitVec 32 := 1#32
  let arg11 : BitVec 32 := Scf.iv v25 c1_i32_17 k0_t3
  let c16_i32_137 : BitVec 32 := 16#32
  let v355 : BitVec 32 := Scalar.muli arg11 c16_i32_137
  let v357 : Index := Scalar.indexCast v355
  ![7, v357.toNat]
@[reducible] def k0_t4_loop (v15 : BitVec 32) : Scf.Loop 32 :=
  let c4_i32 : BitVec 32 := 4#32
  let v18 : BitVec 32 := Scalar.shrui v15 c4_i32
  let c1_i32_14 : BitVec 32 := 1#32
  let v25 : BitVec 32 := Scalar.addi v18 c1_i32_14
  let c400_i32 : BitVec 32 := 400#32
  let v19 : BitVec 32 := Scalar.addi v15 c400_i32
  let c1_i32_7 : BitVec 32 := 1#32
  let v20 : BitVec 32 := Scalar.subi v19 c1_i32_7
  let c4_i32_8 : BitVec 32 := 4#32
  let v21 : BitVec 32 := Scalar.shrui v20 c4_i32_8
  let v26 : BitVec 32 := Scalar.subi v21 v25
  let c1_i32_16 : BitVec 32 := 1#32
  let v28 : BitVec 32 := Scalar.divsi v26 c1_i32_16
  let v29 : BitVec 32 := Scalar.muli v28 c1_i32_16
  let v30 : BitVec 32 := Scalar.addi v25 v29
  let v27 : BitVec 32 := Scalar.addi v25 v26
  let c1_i32_18 : BitVec 32 := 1#32
  ⟨v30, v27, c1_i32_18⟩
def k0_off11 (v15 : BitVec 32) (k0_t4 : Fin (k0_t4_loop v15).trips) : Fin 2 → Nat :=
  let c0_i32_124 : BitVec 32 := 0#32
  let v314 : Index := Scalar.indexCast c0_i32_124
  let c4_i32 : BitVec 32 := 4#32
  let v18 : BitVec 32 := Scalar.shrui v15 c4_i32
  let c1_i32_14 : BitVec 32 := 1#32
  let v25 : BitVec 32 := Scalar.addi v18 c1_i32_14
  let c400_i32 : BitVec 32 := 400#32
  let v19 : BitVec 32 := Scalar.addi v15 c400_i32
  let c1_i32_7 : BitVec 32 := 1#32
  let v20 : BitVec 32 := Scalar.subi v19 c1_i32_7
  let c4_i32_8 : BitVec 32 := 4#32
  let v21 : BitVec 32 := Scalar.shrui v20 c4_i32_8
  let v26 : BitVec 32 := Scalar.subi v21 v25
  let c1_i32_16 : BitVec 32 := 1#32
  let v28 : BitVec 32 := Scalar.divsi v26 c1_i32_16
  let v29 : BitVec 32 := Scalar.muli v28 c1_i32_16
  let v30 : BitVec 32 := Scalar.addi v25 v29
  let c1_i32_18 : BitVec 32 := 1#32
  let arg11 : BitVec 32 := Scf.iv v30 c1_i32_18 k0_t4
  let c16_i32_123 : BitVec 32 := 16#32
  let v313 : BitVec 32 := Scalar.muli arg11 c16_i32_123
  let v315 : Index := Scalar.indexCast v313
  ![0, v315.toNat]
def k0_off12 (v15 : BitVec 32) (k0_t4 : Fin (k0_t4_loop v15).trips) : Fin 2 → Nat :=
  let c1_i32_126 : BitVec 32 := 1#32
  let v320 : Index := Scalar.indexCast c1_i32_126
  let c4_i32 : BitVec 32 := 4#32
  let v18 : BitVec 32 := Scalar.shrui v15 c4_i32
  let c1_i32_14 : BitVec 32 := 1#32
  let v25 : BitVec 32 := Scalar.addi v18 c1_i32_14
  let c400_i32 : BitVec 32 := 400#32
  let v19 : BitVec 32 := Scalar.addi v15 c400_i32
  let c1_i32_7 : BitVec 32 := 1#32
  let v20 : BitVec 32 := Scalar.subi v19 c1_i32_7
  let c4_i32_8 : BitVec 32 := 4#32
  let v21 : BitVec 32 := Scalar.shrui v20 c4_i32_8
  let v26 : BitVec 32 := Scalar.subi v21 v25
  let c1_i32_16 : BitVec 32 := 1#32
  let v28 : BitVec 32 := Scalar.divsi v26 c1_i32_16
  let v29 : BitVec 32 := Scalar.muli v28 c1_i32_16
  let v30 : BitVec 32 := Scalar.addi v25 v29
  let c1_i32_18 : BitVec 32 := 1#32
  let arg11 : BitVec 32 := Scf.iv v30 c1_i32_18 k0_t4
  let c16_i32_125 : BitVec 32 := 16#32
  let v319 : BitVec 32 := Scalar.muli arg11 c16_i32_125
  let v321 : Index := Scalar.indexCast v319
  ![1, v321.toNat]
def k0_off13 (v15 : BitVec 32) (k0_t4 : Fin (k0_t4_loop v15).trips) : Fin 2 → Nat :=
  let c2_i32_128 : BitVec 32 := 2#32
  let v326 : Index := Scalar.indexCast c2_i32_128
  let c4_i32 : BitVec 32 := 4#32
  let v18 : BitVec 32 := Scalar.shrui v15 c4_i32
  let c1_i32_14 : BitVec 32 := 1#32
  let v25 : BitVec 32 := Scalar.addi v18 c1_i32_14
  let c400_i32 : BitVec 32 := 400#32
  let v19 : BitVec 32 := Scalar.addi v15 c400_i32
  let c1_i32_7 : BitVec 32 := 1#32
  let v20 : BitVec 32 := Scalar.subi v19 c1_i32_7
  let c4_i32_8 : BitVec 32 := 4#32
  let v21 : BitVec 32 := Scalar.shrui v20 c4_i32_8
  let v26 : BitVec 32 := Scalar.subi v21 v25
  let c1_i32_16 : BitVec 32 := 1#32
  let v28 : BitVec 32 := Scalar.divsi v26 c1_i32_16
  let v29 : BitVec 32 := Scalar.muli v28 c1_i32_16
  let v30 : BitVec 32 := Scalar.addi v25 v29
  let c1_i32_18 : BitVec 32 := 1#32
  let arg11 : BitVec 32 := Scf.iv v30 c1_i32_18 k0_t4
  let c16_i32_127 : BitVec 32 := 16#32
  let v325 : BitVec 32 := Scalar.muli arg11 c16_i32_127
  let v327 : Index := Scalar.indexCast v325
  ![2, v327.toNat]
def k0_off14 (v15 : BitVec 32) (k0_t4 : Fin (k0_t4_loop v15).trips) : Fin 2 → Nat :=
  let c3_i32_130 : BitVec 32 := 3#32
  let v332 : Index := Scalar.indexCast c3_i32_130
  let c4_i32 : BitVec 32 := 4#32
  let v18 : BitVec 32 := Scalar.shrui v15 c4_i32
  let c1_i32_14 : BitVec 32 := 1#32
  let v25 : BitVec 32 := Scalar.addi v18 c1_i32_14
  let c400_i32 : BitVec 32 := 400#32
  let v19 : BitVec 32 := Scalar.addi v15 c400_i32
  let c1_i32_7 : BitVec 32 := 1#32
  let v20 : BitVec 32 := Scalar.subi v19 c1_i32_7
  let c4_i32_8 : BitVec 32 := 4#32
  let v21 : BitVec 32 := Scalar.shrui v20 c4_i32_8
  let v26 : BitVec 32 := Scalar.subi v21 v25
  let c1_i32_16 : BitVec 32 := 1#32
  let v28 : BitVec 32 := Scalar.divsi v26 c1_i32_16
  let v29 : BitVec 32 := Scalar.muli v28 c1_i32_16
  let v30 : BitVec 32 := Scalar.addi v25 v29
  let c1_i32_18 : BitVec 32 := 1#32
  let arg11 : BitVec 32 := Scf.iv v30 c1_i32_18 k0_t4
  let c16_i32_129 : BitVec 32 := 16#32
  let v331 : BitVec 32 := Scalar.muli arg11 c16_i32_129
  let v333 : Index := Scalar.indexCast v331
  ![3, v333.toNat]
def k0_off15 (v15 : BitVec 32) (k0_t4 : Fin (k0_t4_loop v15).trips) : Fin 2 → Nat :=
  let c4_i32_132 : BitVec 32 := 4#32
  let v338 : Index := Scalar.indexCast c4_i32_132
  let c4_i32 : BitVec 32 := 4#32
  let v18 : BitVec 32 := Scalar.shrui v15 c4_i32
  let c1_i32_14 : BitVec 32 := 1#32
  let v25 : BitVec 32 := Scalar.addi v18 c1_i32_14
  let c400_i32 : BitVec 32 := 400#32
  let v19 : BitVec 32 := Scalar.addi v15 c400_i32
  let c1_i32_7 : BitVec 32 := 1#32
  let v20 : BitVec 32 := Scalar.subi v19 c1_i32_7
  let c4_i32_8 : BitVec 32 := 4#32
  let v21 : BitVec 32 := Scalar.shrui v20 c4_i32_8
  let v26 : BitVec 32 := Scalar.subi v21 v25
  let c1_i32_16 : BitVec 32 := 1#32
  let v28 : BitVec 32 := Scalar.divsi v26 c1_i32_16
  let v29 : BitVec 32 := Scalar.muli v28 c1_i32_16
  let v30 : BitVec 32 := Scalar.addi v25 v29
  let c1_i32_18 : BitVec 32 := 1#32
  let arg11 : BitVec 32 := Scf.iv v30 c1_i32_18 k0_t4
  let c16_i32_131 : BitVec 32 := 16#32
  let v337 : BitVec 32 := Scalar.muli arg11 c16_i32_131
  let v339 : Index := Scalar.indexCast v337
  ![4, v339.toNat]
def k0_off16 (v15 : BitVec 32) (k0_t4 : Fin (k0_t4_loop v15).trips) : Fin 2 → Nat :=
  let c5_i32_134 : BitVec 32 := 5#32
  let v344 : Index := Scalar.indexCast c5_i32_134
  let c4_i32 : BitVec 32 := 4#32
  let v18 : BitVec 32 := Scalar.shrui v15 c4_i32
  let c1_i32_14 : BitVec 32 := 1#32
  let v25 : BitVec 32 := Scalar.addi v18 c1_i32_14
  let c400_i32 : BitVec 32 := 400#32
  let v19 : BitVec 32 := Scalar.addi v15 c400_i32
  let c1_i32_7 : BitVec 32 := 1#32
  let v20 : BitVec 32 := Scalar.subi v19 c1_i32_7
  let c4_i32_8 : BitVec 32 := 4#32
  let v21 : BitVec 32 := Scalar.shrui v20 c4_i32_8
  let v26 : BitVec 32 := Scalar.subi v21 v25
  let c1_i32_16 : BitVec 32 := 1#32
  let v28 : BitVec 32 := Scalar.divsi v26 c1_i32_16
  let v29 : BitVec 32 := Scalar.muli v28 c1_i32_16
  let v30 : BitVec 32 := Scalar.addi v25 v29
  let c1_i32_18 : BitVec 32 := 1#32
  let arg11 : BitVec 32 := Scf.iv v30 c1_i32_18 k0_t4
  let c16_i32_133 : BitVec 32 := 16#32
  let v343 : BitVec 32 := Scalar.muli arg11 c16_i32_133
  let v345 : Index := Scalar.indexCast v343
  ![5, v345.toNat]
def k0_off17 (v15 : BitVec 32) (k0_t4 : Fin (k0_t4_loop v15).trips) : Fin 2 → Nat :=
  let c6_i32_136 : BitVec 32 := 6#32
  let v350 : Index := Scalar.indexCast c6_i32_136
  let c4_i32 : BitVec 32 := 4#32
  let v18 : BitVec 32 := Scalar.shrui v15 c4_i32
  let c1_i32_14 : BitVec 32 := 1#32
  let v25 : BitVec 32 := Scalar.addi v18 c1_i32_14
  let c400_i32 : BitVec 32 := 400#32
  let v19 : BitVec 32 := Scalar.addi v15 c400_i32
  let c1_i32_7 : BitVec 32 := 1#32
  let v20 : BitVec 32 := Scalar.subi v19 c1_i32_7
  let c4_i32_8 : BitVec 32 := 4#32
  let v21 : BitVec 32 := Scalar.shrui v20 c4_i32_8
  let v26 : BitVec 32 := Scalar.subi v21 v25
  let c1_i32_16 : BitVec 32 := 1#32
  let v28 : BitVec 32 := Scalar.divsi v26 c1_i32_16
  let v29 : BitVec 32 := Scalar.muli v28 c1_i32_16
  let v30 : BitVec 32 := Scalar.addi v25 v29
  let c1_i32_18 : BitVec 32 := 1#32
  let arg11 : BitVec 32 := Scf.iv v30 c1_i32_18 k0_t4
  let c16_i32_135 : BitVec 32 := 16#32
  let v349 : BitVec 32 := Scalar.muli arg11 c16_i32_135
  let v351 : Index := Scalar.indexCast v349
  ![6, v351.toNat]
def k0_off18 (v15 : BitVec 32) (k0_t4 : Fin (k0_t4_loop v15).trips) : Fin 2 → Nat :=
  let c7_i32_138 : BitVec 32 := 7#32
  let v356 : Index := Scalar.indexCast c7_i32_138
  let c4_i32 : BitVec 32 := 4#32
  let v18 : BitVec 32 := Scalar.shrui v15 c4_i32
  let c1_i32_14 : BitVec 32 := 1#32
  let v25 : BitVec 32 := Scalar.addi v18 c1_i32_14
  let c400_i32 : BitVec 32 := 400#32
  let v19 : BitVec 32 := Scalar.addi v15 c400_i32
  let c1_i32_7 : BitVec 32 := 1#32
  let v20 : BitVec 32 := Scalar.subi v19 c1_i32_7
  let c4_i32_8 : BitVec 32 := 4#32
  let v21 : BitVec 32 := Scalar.shrui v20 c4_i32_8
  let v26 : BitVec 32 := Scalar.subi v21 v25
  let c1_i32_16 : BitVec 32 := 1#32
  let v28 : BitVec 32 := Scalar.divsi v26 c1_i32_16
  let v29 : BitVec 32 := Scalar.muli v28 c1_i32_16
  let v30 : BitVec 32 := Scalar.addi v25 v29
  let c1_i32_18 : BitVec 32 := 1#32
  let arg11 : BitVec 32 := Scf.iv v30 c1_i32_18 k0_t4
  let c16_i32_137 : BitVec 32 := 16#32
  let v355 : BitVec 32 := Scalar.muli arg11 c16_i32_137
  let v357 : Index := Scalar.indexCast v355
  ![7, v357.toNat]
def k0_off19 (v15 : BitVec 32) : Fin 2 → Nat :=
  let c0_i32_22 : BitVec 32 := 0#32
  let v42 : Index := Scalar.indexCast c0_i32_22
  let c4_i32 : BitVec 32 := 4#32
  let v18 : BitVec 32 := Scalar.shrui v15 c4_i32
  let c16_i32_21 : BitVec 32 := 16#32
  let v41 : BitVec 32 := Scalar.muli v18 c16_i32_21
  let v43 : Index := Scalar.indexCast v41
  ![0, v43.toNat]
def k0_off20 (v15 : BitVec 32) : Fin 2 → Nat :=
  let c1_i32_27 : BitVec 32 := 1#32
  let v55 : Index := Scalar.indexCast c1_i32_27
  let c4_i32 : BitVec 32 := 4#32
  let v18 : BitVec 32 := Scalar.shrui v15 c4_i32
  let c16_i32_26 : BitVec 32 := 16#32
  let v54 : BitVec 32 := Scalar.muli v18 c16_i32_26
  let v56 : Index := Scalar.indexCast v54
  ![1, v56.toNat]
def k0_off21 (v15 : BitVec 32) : Fin 2 → Nat :=
  let c2_i32_32 : BitVec 32 := 2#32
  let v68 : Index := Scalar.indexCast c2_i32_32
  let c4_i32 : BitVec 32 := 4#32
  let v18 : BitVec 32 := Scalar.shrui v15 c4_i32
  let c16_i32_31 : BitVec 32 := 16#32
  let v67 : BitVec 32 := Scalar.muli v18 c16_i32_31
  let v69 : Index := Scalar.indexCast v67
  ![2, v69.toNat]
def k0_off22 (v15 : BitVec 32) : Fin 2 → Nat :=
  let c3_i32 : BitVec 32 := 3#32
  let v81 : Index := Scalar.indexCast c3_i32
  let c4_i32 : BitVec 32 := 4#32
  let v18 : BitVec 32 := Scalar.shrui v15 c4_i32
  let c16_i32_36 : BitVec 32 := 16#32
  let v80 : BitVec 32 := Scalar.muli v18 c16_i32_36
  let v82 : Index := Scalar.indexCast v80
  ![3, v82.toNat]
def k0_off23 (v15 : BitVec 32) : Fin 2 → Nat :=
  let c4_i32_41 : BitVec 32 := 4#32
  let v94 : Index := Scalar.indexCast c4_i32_41
  let c4_i32 : BitVec 32 := 4#32
  let v18 : BitVec 32 := Scalar.shrui v15 c4_i32
  let c16_i32_40 : BitVec 32 := 16#32
  let v93 : BitVec 32 := Scalar.muli v18 c16_i32_40
  let v95 : Index := Scalar.indexCast v93
  ![4, v95.toNat]
def k0_off24 (v15 : BitVec 32) : Fin 2 → Nat :=
  let c5_i32 : BitVec 32 := 5#32
  let v107 : Index := Scalar.indexCast c5_i32
  let c4_i32 : BitVec 32 := 4#32
  let v18 : BitVec 32 := Scalar.shrui v15 c4_i32
  let c16_i32_45 : BitVec 32 := 16#32
  let v106 : BitVec 32 := Scalar.muli v18 c16_i32_45
  let v108 : Index := Scalar.indexCast v106
  ![5, v108.toNat]
def k0_off25 (v15 : BitVec 32) : Fin 2 → Nat :=
  let c6_i32 : BitVec 32 := 6#32
  let v120 : Index := Scalar.indexCast c6_i32
  let c4_i32 : BitVec 32 := 4#32
  let v18 : BitVec 32 := Scalar.shrui v15 c4_i32
  let c16_i32_49 : BitVec 32 := 16#32
  let v119 : BitVec 32 := Scalar.muli v18 c16_i32_49
  let v121 : Index := Scalar.indexCast v119
  ![6, v121.toNat]
def k0_off26 (v15 : BitVec 32) : Fin 2 → Nat :=
  let c7_i32 : BitVec 32 := 7#32
  let v133 : Index := Scalar.indexCast c7_i32
  let c4_i32 : BitVec 32 := 4#32
  let v18 : BitVec 32 := Scalar.shrui v15 c4_i32
  let c16_i32_53 : BitVec 32 := 16#32
  let v132 : BitVec 32 := Scalar.muli v18 c16_i32_53
  let v134 : Index := Scalar.indexCast v132
  ![7, v134.toNat]
def k0_off27 (v15 : BitVec 32) : Fin 2 → Nat :=
  let c0_i32_60 : BitVec 32 := 0#32
  let v154 : Index := Scalar.indexCast c0_i32_60
  let c400_i32 : BitVec 32 := 400#32
  let v19 : BitVec 32 := Scalar.addi v15 c400_i32
  let c1_i32_7 : BitVec 32 := 1#32
  let v20 : BitVec 32 := Scalar.subi v19 c1_i32_7
  let c4_i32_8 : BitVec 32 := 4#32
  let v21 : BitVec 32 := Scalar.shrui v20 c4_i32_8
  let c16_i32_59 : BitVec 32 := 16#32
  let v153 : BitVec 32 := Scalar.muli v21 c16_i32_59
  let v155 : Index := Scalar.indexCast v153
  ![0, v155.toNat]
def k0_off28 (v15 : BitVec 32) : Fin 2 → Nat :=
  let c1_i32_65 : BitVec 32 := 1#32
  let v167 : Index := Scalar.indexCast c1_i32_65
  let c400_i32 : BitVec 32 := 400#32
  let v19 : BitVec 32 := Scalar.addi v15 c400_i32
  let c1_i32_7 : BitVec 32 := 1#32
  let v20 : BitVec 32 := Scalar.subi v19 c1_i32_7
  let c4_i32_8 : BitVec 32 := 4#32
  let v21 : BitVec 32 := Scalar.shrui v20 c4_i32_8
  let c16_i32_64 : BitVec 32 := 16#32
  let v166 : BitVec 32 := Scalar.muli v21 c16_i32_64
  let v168 : Index := Scalar.indexCast v166
  ![1, v168.toNat]
def k0_off29 (v15 : BitVec 32) : Fin 2 → Nat :=
  let c2_i32_70 : BitVec 32 := 2#32
  let v180 : Index := Scalar.indexCast c2_i32_70
  let c400_i32 : BitVec 32 := 400#32
  let v19 : BitVec 32 := Scalar.addi v15 c400_i32
  let c1_i32_7 : BitVec 32 := 1#32
  let v20 : BitVec 32 := Scalar.subi v19 c1_i32_7
  let c4_i32_8 : BitVec 32 := 4#32
  let v21 : BitVec 32 := Scalar.shrui v20 c4_i32_8
  let c16_i32_69 : BitVec 32 := 16#32
  let v179 : BitVec 32 := Scalar.muli v21 c16_i32_69
  let v181 : Index := Scalar.indexCast v179
  ![2, v181.toNat]
def k0_off30 (v15 : BitVec 32) : Fin 2 → Nat :=
  let c3_i32_75 : BitVec 32 := 3#32
  let v193 : Index := Scalar.indexCast c3_i32_75
  let c400_i32 : BitVec 32 := 400#32
  let v19 : BitVec 32 := Scalar.addi v15 c400_i32
  let c1_i32_7 : BitVec 32 := 1#32
  let v20 : BitVec 32 := Scalar.subi v19 c1_i32_7
  let c4_i32_8 : BitVec 32 := 4#32
  let v21 : BitVec 32 := Scalar.shrui v20 c4_i32_8
  let c16_i32_74 : BitVec 32 := 16#32
  let v192 : BitVec 32 := Scalar.muli v21 c16_i32_74
  let v194 : Index := Scalar.indexCast v192
  ![3, v194.toNat]
def k0_off31 (v15 : BitVec 32) : Fin 2 → Nat :=
  let c4_i32_80 : BitVec 32 := 4#32
  let v206 : Index := Scalar.indexCast c4_i32_80
  let c400_i32 : BitVec 32 := 400#32
  let v19 : BitVec 32 := Scalar.addi v15 c400_i32
  let c1_i32_7 : BitVec 32 := 1#32
  let v20 : BitVec 32 := Scalar.subi v19 c1_i32_7
  let c4_i32_8 : BitVec 32 := 4#32
  let v21 : BitVec 32 := Scalar.shrui v20 c4_i32_8
  let c16_i32_79 : BitVec 32 := 16#32
  let v205 : BitVec 32 := Scalar.muli v21 c16_i32_79
  let v207 : Index := Scalar.indexCast v205
  ![4, v207.toNat]
def k0_off32 (v15 : BitVec 32) : Fin 2 → Nat :=
  let c5_i32_85 : BitVec 32 := 5#32
  let v219 : Index := Scalar.indexCast c5_i32_85
  let c400_i32 : BitVec 32 := 400#32
  let v19 : BitVec 32 := Scalar.addi v15 c400_i32
  let c1_i32_7 : BitVec 32 := 1#32
  let v20 : BitVec 32 := Scalar.subi v19 c1_i32_7
  let c4_i32_8 : BitVec 32 := 4#32
  let v21 : BitVec 32 := Scalar.shrui v20 c4_i32_8
  let c16_i32_84 : BitVec 32 := 16#32
  let v218 : BitVec 32 := Scalar.muli v21 c16_i32_84
  let v220 : Index := Scalar.indexCast v218
  ![5, v220.toNat]
def k0_off33 (v15 : BitVec 32) : Fin 2 → Nat :=
  let c6_i32_90 : BitVec 32 := 6#32
  let v232 : Index := Scalar.indexCast c6_i32_90
  let c400_i32 : BitVec 32 := 400#32
  let v19 : BitVec 32 := Scalar.addi v15 c400_i32
  let c1_i32_7 : BitVec 32 := 1#32
  let v20 : BitVec 32 := Scalar.subi v19 c1_i32_7
  let c4_i32_8 : BitVec 32 := 4#32
  let v21 : BitVec 32 := Scalar.shrui v20 c4_i32_8
  let c16_i32_89 : BitVec 32 := 16#32
  let v231 : BitVec 32 := Scalar.muli v21 c16_i32_89
  let v233 : Index := Scalar.indexCast v231
  ![6, v233.toNat]
def k0_off34 (v15 : BitVec 32) : Fin 2 → Nat :=
  let c7_i32_95 : BitVec 32 := 7#32
  let v245 : Index := Scalar.indexCast c7_i32_95
  let c400_i32 : BitVec 32 := 400#32
  let v19 : BitVec 32 := Scalar.addi v15 c400_i32
  let c1_i32_7 : BitVec 32 := 1#32
  let v20 : BitVec 32 := Scalar.subi v19 c1_i32_7
  let c4_i32_8 : BitVec 32 := 4#32
  let v21 : BitVec 32 := Scalar.shrui v20 c4_i32_8
  let c16_i32_94 : BitVec 32 := 16#32
  let v244 : BitVec 32 := Scalar.muli v21 c16_i32_94
  let v246 : Index := Scalar.indexCast v244
  ![7, v246.toNat]

def k0_chk1_0 (v15 : BitVec 32) : Prop :=
  ((k0_t3_loop v15).OK) ∧
  (∀ k0_t3 : Fin (k0_t3_loop v15).trips, ∀ a, (k0_off3 v15 k0_t3) a + S1x16.size a ≤ S8x4000.size a) ∧
  (∀ k0_t3 : Fin (k0_t3_loop v15).trips, ∀ a, (k0_off4 v15 k0_t3) a + S1x16.size a ≤ S8x4000.size a) ∧
  (∀ k0_t3 : Fin (k0_t3_loop v15).trips, ∀ a, (k0_off5 v15 k0_t3) a + S1x16.size a ≤ S8x4000.size a) ∧
  (∀ k0_t3 : Fin (k0_t3_loop v15).trips, ∀ a, (k0_off6 v15 k0_t3) a + S1x16.size a ≤ S8x4000.size a) ∧
  (∀ k0_t3 : Fin (k0_t3_loop v15).trips, ∀ a, (k0_off7 v15 k0_t3) a + S1x16.size a ≤ S8x4000.size a) ∧
  (∀ k0_t3 : Fin (k0_t3_loop v15).trips, ∀ a, (k0_off8 v15 k0_t3) a + S1x16.size a ≤ S8x4000.size a) ∧
  (∀ k0_t3 : Fin (k0_t3_loop v15).trips, ∀ a, (k0_off9 v15 k0_t3) a + S1x16.size a ≤ S8x4000.size a) ∧
  (∀ k0_t3 : Fin (k0_t3_loop v15).trips, ∀ a, (k0_off10 v15 k0_t3) a + S1x16.size a ≤ S8x4000.size a) ∧
  ((k0_t4_loop v15).OK) ∧
  (∀ k0_t4 : Fin (k0_t4_loop v15).trips, ∀ a, (k0_off11 v15 k0_t4) a + S1x16.size a ≤ S8x4000.size a) ∧
  (∀ k0_t4 : Fin (k0_t4_loop v15).trips, ∀ a, (k0_off12 v15 k0_t4) a + S1x16.size a ≤ S8x4000.size a) ∧
  (∀ k0_t4 : Fin (k0_t4_loop v15).trips, ∀ a, (k0_off13 v15 k0_t4) a + S1x16.size a ≤ S8x4000.size a) ∧
  (∀ k0_t4 : Fin (k0_t4_loop v15).trips, ∀ a, (k0_off14 v15 k0_t4) a + S1x16.size a ≤ S8x4000.size a) ∧
  (∀ k0_t4 : Fin (k0_t4_loop v15).trips, ∀ a, (k0_off15 v15 k0_t4) a + S1x16.size a ≤ S8x4000.size a) ∧
  (∀ k0_t4 : Fin (k0_t4_loop v15).trips, ∀ a, (k0_off16 v15 k0_t4) a + S1x16.size a ≤ S8x4000.size a) ∧
  (∀ k0_t4 : Fin (k0_t4_loop v15).trips, ∀ a, (k0_off17 v15 k0_t4) a + S1x16.size a ≤ S8x4000.size a) ∧
  (∀ k0_t4 : Fin (k0_t4_loop v15).trips, ∀ a, (k0_off18 v15 k0_t4) a + S1x16.size a ≤ S8x4000.size a) ∧
  (∀ a, (k0_off19 v15) a + S1x16.size a ≤ S8x4000.size a) ∧
  (∀ a, (k0_off20 v15) a + S1x16.size a ≤ S8x4000.size a) ∧
  (∀ a, (k0_off21 v15) a + S1x16.size a ≤ S8x4000.size a) ∧
  (∀ a, (k0_off22 v15) a + S1x16.size a ≤ S8x4000.size a) ∧
  (∀ a, (k0_off23 v15) a + S1x16.size a ≤ S8x4000.size a) ∧
  (∀ a, (k0_off24 v15) a + S1x16.size a ≤ S8x4000.size a) ∧
  (∀ a, (k0_off25 v15) a + S1x16.size a ≤ S8x4000.size a) ∧
  (∀ a, (k0_off26 v15) a + S1x16.size a ≤ S8x4000.size a) ∧
  (∀ a, (k0_off27 v15) a + S1x16.size a ≤ S8x4000.size a) ∧
  (∀ a, (k0_off28 v15) a + S1x16.size a ≤ S8x4000.size a) ∧
  (∀ a, (k0_off29 v15) a + S1x16.size a ≤ S8x4000.size a) ∧
  (∀ a, (k0_off30 v15) a + S1x16.size a ≤ S8x4000.size a) ∧
  (∀ a, (k0_off31 v15) a + S1x16.size a ≤ S8x4000.size a) ∧
  (∀ a, (k0_off32 v15) a + S1x16.size a ≤ S8x4000.size a)
def k0_chk1_1 (v15 : BitVec 32) : Prop :=
  (∀ a, (k0_off33 v15) a + S1x16.size a ≤ S8x4000.size a) ∧
  (∀ a, (k0_off34 v15) a + S1x16.size a ≤ S8x4000.size a)
def k0_chk1 (v15 : BitVec 32) : Prop :=
  k0_chk1_0 v15 ∧
  k0_chk1_1 v15
theorem k0_t3_ok : ∀ (v15 : BitVec 32) (k0_hw1 : k0_chk1 v15), (k0_t3_loop v15).OK := fun v15 k0_hw1 => k0_hw1.1.1
theorem k0_off3_inb : ∀ (v15 : BitVec 32) (k0_hw1 : k0_chk1 v15) (k0_t3 : Fin (k0_t3_loop v15).trips), ∀ a, (k0_off3 v15 k0_t3) a + S1x16.size a ≤ S8x4000.size a := fun v15 k0_hw1 k0_t3 => k0_hw1.1.2.1 k0_t3
theorem k0_off4_inb : ∀ (v15 : BitVec 32) (k0_hw1 : k0_chk1 v15) (k0_t3 : Fin (k0_t3_loop v15).trips), ∀ a, (k0_off4 v15 k0_t3) a + S1x16.size a ≤ S8x4000.size a := fun v15 k0_hw1 k0_t3 => k0_hw1.1.2.2.1 k0_t3
theorem k0_off5_inb : ∀ (v15 : BitVec 32) (k0_hw1 : k0_chk1 v15) (k0_t3 : Fin (k0_t3_loop v15).trips), ∀ a, (k0_off5 v15 k0_t3) a + S1x16.size a ≤ S8x4000.size a := fun v15 k0_hw1 k0_t3 => k0_hw1.1.2.2.2.1 k0_t3
theorem k0_off6_inb : ∀ (v15 : BitVec 32) (k0_hw1 : k0_chk1 v15) (k0_t3 : Fin (k0_t3_loop v15).trips), ∀ a, (k0_off6 v15 k0_t3) a + S1x16.size a ≤ S8x4000.size a := fun v15 k0_hw1 k0_t3 => k0_hw1.1.2.2.2.2.1 k0_t3
theorem k0_off7_inb : ∀ (v15 : BitVec 32) (k0_hw1 : k0_chk1 v15) (k0_t3 : Fin (k0_t3_loop v15).trips), ∀ a, (k0_off7 v15 k0_t3) a + S1x16.size a ≤ S8x4000.size a := fun v15 k0_hw1 k0_t3 => k0_hw1.1.2.2.2.2.2.1 k0_t3
theorem k0_off8_inb : ∀ (v15 : BitVec 32) (k0_hw1 : k0_chk1 v15) (k0_t3 : Fin (k0_t3_loop v15).trips), ∀ a, (k0_off8 v15 k0_t3) a + S1x16.size a ≤ S8x4000.size a := fun v15 k0_hw1 k0_t3 => k0_hw1.1.2.2.2.2.2.2.1 k0_t3
theorem k0_off9_inb : ∀ (v15 : BitVec 32) (k0_hw1 : k0_chk1 v15) (k0_t3 : Fin (k0_t3_loop v15).trips), ∀ a, (k0_off9 v15 k0_t3) a + S1x16.size a ≤ S8x4000.size a := fun v15 k0_hw1 k0_t3 => k0_hw1.1.2.2.2.2.2.2.2.1 k0_t3
theorem k0_off10_inb : ∀ (v15 : BitVec 32) (k0_hw1 : k0_chk1 v15) (k0_t3 : Fin (k0_t3_loop v15).trips), ∀ a, (k0_off10 v15 k0_t3) a + S1x16.size a ≤ S8x4000.size a := fun v15 k0_hw1 k0_t3 => k0_hw1.1.2.2.2.2.2.2.2.2.1 k0_t3
theorem k0_t4_ok : ∀ (v15 : BitVec 32) (k0_hw1 : k0_chk1 v15), (k0_t4_loop v15).OK := fun v15 k0_hw1 => k0_hw1.1.2.2.2.2.2.2.2.2.2.1
theorem k0_off11_inb : ∀ (v15 : BitVec 32) (k0_hw1 : k0_chk1 v15) (k0_t4 : Fin (k0_t4_loop v15).trips), ∀ a, (k0_off11 v15 k0_t4) a + S1x16.size a ≤ S8x4000.size a := fun v15 k0_hw1 k0_t4 => k0_hw1.1.2.2.2.2.2.2.2.2.2.2.1 k0_t4
theorem k0_off12_inb : ∀ (v15 : BitVec 32) (k0_hw1 : k0_chk1 v15) (k0_t4 : Fin (k0_t4_loop v15).trips), ∀ a, (k0_off12 v15 k0_t4) a + S1x16.size a ≤ S8x4000.size a := fun v15 k0_hw1 k0_t4 => k0_hw1.1.2.2.2.2.2.2.2.2.2.2.2.1 k0_t4
theorem k0_off13_inb : ∀ (v15 : BitVec 32) (k0_hw1 : k0_chk1 v15) (k0_t4 : Fin (k0_t4_loop v15).trips), ∀ a, (k0_off13 v15 k0_t4) a + S1x16.size a ≤ S8x4000.size a := fun v15 k0_hw1 k0_t4 => k0_hw1.1.2.2.2.2.2.2.2.2.2.2.2.2.1 k0_t4
theorem k0_off14_inb : ∀ (v15 : BitVec 32) (k0_hw1 : k0_chk1 v15) (k0_t4 : Fin (k0_t4_loop v15).trips), ∀ a, (k0_off14 v15 k0_t4) a + S1x16.size a ≤ S8x4000.size a := fun v15 k0_hw1 k0_t4 => k0_hw1.1.2.2.2.2.2.2.2.2.2.2.2.2.2.1 k0_t4
theorem k0_off15_inb : ∀ (v15 : BitVec 32) (k0_hw1 : k0_chk1 v15) (k0_t4 : Fin (k0_t4_loop v15).trips), ∀ a, (k0_off15 v15 k0_t4) a + S1x16.size a ≤ S8x4000.size a := fun v15 k0_hw1 k0_t4 => k0_hw1.1.2.2.2.2.2.2.2.2.2.2.2.2.2.2.1 k0_t4
theorem k0_off16_inb : ∀ (v15 : BitVec 32) (k0_hw1 : k0_chk1 v15) (k0_t4 : Fin (k0_t4_loop v15).trips), ∀ a, (k0_off16 v15 k0_t4) a + S1x16.size a ≤ S8x4000.size a := fun v15 k0_hw1 k0_t4 => k0_hw1.1.2.2.2.2.2.2.2.2.2.2.2.2.2.2.2.1 k0_t4
theorem k0_off17_inb : ∀ (v15 : BitVec 32) (k0_hw1 : k0_chk1 v15) (k0_t4 : Fin (k0_t4_loop v15).trips), ∀ a, (k0_off17 v15 k0_t4) a + S1x16.size a ≤ S8x4000.size a := fun v15 k0_hw1 k0_t4 => k0_hw1.1.2.2.2.2.2.2.2.2.2.2.2.2.2.2.2.2.1 k0_t4
theorem k0_off18_inb : ∀ (v15 : BitVec 32) (k0_hw1 : k0_chk1 v15) (k0_t4 : Fin (k0_t4_loop v15).trips), ∀ a, (k0_off18 v15 k0_t4) a + S1x16.size a ≤ S8x4000.size a := fun v15 k0_hw1 k0_t4 => k0_hw1.1.2.2.2.2.2.2.2.2.2.2.2.2.2.2.2.2.2.1 k0_t4
theorem k0_off19_inb : ∀ (v15 : BitVec 32) (k0_hw1 : k0_chk1 v15), ∀ a, (k0_off19 v15) a + S1x16.size a ≤ S8x4000.size a := fun v15 k0_hw1 => k0_hw1.1.2.2.2.2.2.2.2.2.2.2.2.2.2.2.2.2.2.2.1
theorem k0_off20_inb : ∀ (v15 : BitVec 32) (k0_hw1 : k0_chk1 v15), ∀ a, (k0_off20 v15) a + S1x16.size a ≤ S8x4000.size a := fun v15 k0_hw1 => k0_hw1.1.2.2.2.2.2.2.2.2.2.2.2.2.2.2.2.2.2.2.2.1
theorem k0_off21_inb : ∀ (v15 : BitVec 32) (k0_hw1 : k0_chk1 v15), ∀ a, (k0_off21 v15) a + S1x16.size a ≤ S8x4000.size a := fun v15 k0_hw1 => k0_hw1.1.2.2.2.2.2.2.2.2.2.2.2.2.2.2.2.2.2.2.2.2.1
theorem k0_off22_inb : ∀ (v15 : BitVec 32) (k0_hw1 : k0_chk1 v15), ∀ a, (k0_off22 v15) a + S1x16.size a ≤ S8x4000.size a := fun v15 k0_hw1 => k0_hw1.1.2.2.2.2.2.2.2.2.2.2.2.2.2.2.2.2.2.2.2.2.2.1
theorem k0_off23_inb : ∀ (v15 : BitVec 32) (k0_hw1 : k0_chk1 v15), ∀ a, (k0_off23 v15) a + S1x16.size a ≤ S8x4000.size a := fun v15 k0_hw1 => k0_hw1.1.2.2.2.2.2.2.2.2.2.2.2.2.2.2.2.2.2.2.2.2.2.2.1
theorem k0_off24_inb : ∀ (v15 : BitVec 32) (k0_hw1 : k0_chk1 v15), ∀ a, (k0_off24 v15) a + S1x16.size a ≤ S8x4000.size a := fun v15 k0_hw1 => k0_hw1.1.2.2.2.2.2.2.2.2.2.2.2.2.2.2.2.2.2.2.2.2.2.2.2.1
theorem k0_off25_inb : ∀ (v15 : BitVec 32) (k0_hw1 : k0_chk1 v15), ∀ a, (k0_off25 v15) a + S1x16.size a ≤ S8x4000.size a := fun v15 k0_hw1 => k0_hw1.1.2.2.2.2.2.2.2.2.2.2.2.2.2.2.2.2.2.2.2.2.2.2.2.2.1
theorem k0_off26_inb : ∀ (v15 : BitVec 32) (k0_hw1 : k0_chk1 v15), ∀ a, (k0_off26 v15) a + S1x16.size a ≤ S8x4000.size a := fun v15 k0_hw1 => k0_hw1.1.2.2.2.2.2.2.2.2.2.2.2.2.2.2.2.2.2.2.2.2.2.2.2.2.2.1
theorem k0_off27_inb : ∀ (v15 : BitVec 32) (k0_hw1 : k0_chk1 v15), ∀ a, (k0_off27 v15) a + S1x16.size a ≤ S8x4000.size a := fun v15 k0_hw1 => k0_hw1.1.2.2.2.2.2.2.2.2.2.2.2.2.2.2.2.2.2.2.2.2.2.2.2.2.2.2.1
theorem k0_off28_inb : ∀ (v15 : BitVec 32) (k0_hw1 : k0_chk1 v15), ∀ a, (k0_off28 v15) a + S1x16.size a ≤ S8x4000.size a := fun v15 k0_hw1 => k0_hw1.1.2.2.2.2.2.2.2.2.2.2.2.2.2.2.2.2.2.2.2.2.2.2.2.2.2.2.2.1
theorem k0_off29_inb : ∀ (v15 : BitVec 32) (k0_hw1 : k0_chk1 v15), ∀ a, (k0_off29 v15) a + S1x16.size a ≤ S8x4000.size a := fun v15 k0_hw1 => k0_hw1.1.2.2.2.2.2.2.2.2.2.2.2.2.2.2.2.2.2.2.2.2.2.2.2.2.2.2.2.2.1
theorem k0_off30_inb : ∀ (v15 : BitVec 32) (k0_hw1 : k0_chk1 v15), ∀ a, (k0_off30 v15) a + S1x16.size a ≤ S8x4000.size a := fun v15 k0_hw1 => k0_hw1.1.2.2.2.2.2.2.2.2.2.2.2.2.2.2.2.2.2.2.2.2.2.2.2.2.2.2.2.2.2.1
theorem k0_off31_inb : ∀ (v15 : BitVec 32) (k0_hw1 : k0_chk1 v15), ∀ a, (k0_off31 v15) a + S1x16.size a ≤ S8x4000.size a := fun v15 k0_hw1 => k0_hw1.1.2.2.2.2.2.2.2.2.2.2.2.2.2.2.2.2.2.2.2.2.2.2.2.2.2.2.2.2.2.2.1
theorem k0_off32_inb : ∀ (v15 : BitVec 32) (k0_hw1 : k0_chk1 v15), ∀ a, (k0_off32 v15) a + S1x16.size a ≤ S8x4000.size a := fun v15 k0_hw1 => k0_hw1.1.2.2.2.2.2.2.2.2.2.2.2.2.2.2.2.2.2.2.2.2.2.2.2.2.2.2.2.2.2.2.2
theorem k0_off33_inb : ∀ (v15 : BitVec 32) (k0_hw1 : k0_chk1 v15), ∀ a, (k0_off33 v15) a + S1x16.size a ≤ S8x4000.size a := fun v15 k0_hw1 => k0_hw1.2.1
theorem k0_off34_inb : ∀ (v15 : BitVec 32) (k0_hw1 : k0_chk1 v15), ∀ a, (k0_off34 v15) a + S1x16.size a ≤ S8x4000.size a := fun v15 k0_hw1 => k0_hw1.2.2

@[reducible] def k0_t5_loop : Scf.Loop 32 :=
  let c0_i32_124 : BitVec 32 := 0#32
  let c250_i32 : BitVec 32 := 250#32
  let v313 : BitVec 32 := Scalar.addi c0_i32_124 c250_i32
  let c1_i32_125 : BitVec 32 := 1#32
  ⟨c0_i32_124, v313, c1_i32_125⟩
def k0_off35 (k0_t5 : Fin k0_t5_loop.trips) : Fin 2 → Nat :=
  let c0_i32_128 : BitVec 32 := 0#32
  let v316 : Index := Scalar.indexCast c0_i32_128
  let c0_i32_124 : BitVec 32 := 0#32
  let c1_i32_125 : BitVec 32 := 1#32
  let arg11 : BitVec 32 := Scf.iv c0_i32_124 c1_i32_125 k0_t5
  let c16_i32_127 : BitVec 32 := 16#32
  let v315 : BitVec 32 := Scalar.muli arg11 c16_i32_127
  let v317 : Index := Scalar.indexCast v315
  ![0, v317.toNat]
@[reducible] def k0_t6_loop : Scf.Loop 32 :=
  let c0_i32_124 : BitVec 32 := 0#32
  let c250_i32 : BitVec 32 := 250#32
  let v313 : BitVec 32 := Scalar.addi c0_i32_124 c250_i32
  let c1_i32_125 : BitVec 32 := 1#32
  ⟨c0_i32_124, v313, c1_i32_125⟩
def k0_off36 (k0_t6 : Fin k0_t6_loop.trips) : Fin 2 → Nat :=
  let c1_i32_128 : BitVec 32 := 1#32
  let v316 : Index := Scalar.indexCast c1_i32_128
  let c0_i32_124 : BitVec 32 := 0#32
  let c1_i32_125 : BitVec 32 := 1#32
  let arg11 : BitVec 32 := Scf.iv c0_i32_124 c1_i32_125 k0_t6
  let c16_i32_127 : BitVec 32 := 16#32
  let v315 : BitVec 32 := Scalar.muli arg11 c16_i32_127
  let v317 : Index := Scalar.indexCast v315
  ![1, v317.toNat]
@[reducible] def k0_t7_loop : Scf.Loop 32 :=
  let c0_i32_124 : BitVec 32 := 0#32
  let c250_i32 : BitVec 32 := 250#32
  let v313 : BitVec 32 := Scalar.addi c0_i32_124 c250_i32
  let c1_i32_125 : BitVec 32 := 1#32
  ⟨c0_i32_124, v313, c1_i32_125⟩
def k0_off37 (k0_t7 : Fin k0_t7_loop.trips) : Fin 2 → Nat :=
  let c2_i32_128 : BitVec 32 := 2#32
  let v316 : Index := Scalar.indexCast c2_i32_128
  let c0_i32_124 : BitVec 32 := 0#32
  let c1_i32_125 : BitVec 32 := 1#32
  let arg11 : BitVec 32 := Scf.iv c0_i32_124 c1_i32_125 k0_t7
  let c16_i32_127 : BitVec 32 := 16#32
  let v315 : BitVec 32 := Scalar.muli arg11 c16_i32_127
  let v317 : Index := Scalar.indexCast v315
  ![2, v317.toNat]
@[reducible] def k0_t8_loop : Scf.Loop 32 :=
  let c0_i32_124 : BitVec 32 := 0#32
  let c250_i32 : BitVec 32 := 250#32
  let v313 : BitVec 32 := Scalar.addi c0_i32_124 c250_i32
  let c1_i32_125 : BitVec 32 := 1#32
  ⟨c0_i32_124, v313, c1_i32_125⟩
def k0_off38 (k0_t8 : Fin k0_t8_loop.trips) : Fin 2 → Nat :=
  let c3_i32_128 : BitVec 32 := 3#32
  let v316 : Index := Scalar.indexCast c3_i32_128
  let c0_i32_124 : BitVec 32 := 0#32
  let c1_i32_125 : BitVec 32 := 1#32
  let arg11 : BitVec 32 := Scf.iv c0_i32_124 c1_i32_125 k0_t8
  let c16_i32_127 : BitVec 32 := 16#32
  let v315 : BitVec 32 := Scalar.muli arg11 c16_i32_127
  let v317 : Index := Scalar.indexCast v315
  ![3, v317.toNat]
@[reducible] def k0_t9_loop : Scf.Loop 32 :=
  let c0_i32_124 : BitVec 32 := 0#32
  let c250_i32 : BitVec 32 := 250#32
  let v313 : BitVec 32 := Scalar.addi c0_i32_124 c250_i32
  let c1_i32_125 : BitVec 32 := 1#32
  ⟨c0_i32_124, v313, c1_i32_125⟩
def k0_off39 (k0_t9 : Fin k0_t9_loop.trips) : Fin 2 → Nat :=
  let c4_i32_128 : BitVec 32 := 4#32
  let v316 : Index := Scalar.indexCast c4_i32_128
  let c0_i32_124 : BitVec 32 := 0#32
  let c1_i32_125 : BitVec 32 := 1#32
  let arg11 : BitVec 32 := Scf.iv c0_i32_124 c1_i32_125 k0_t9
  let c16_i32_127 : BitVec 32 := 16#32
  let v315 : BitVec 32 := Scalar.muli arg11 c16_i32_127
  let v317 : Index := Scalar.indexCast v315
  ![4, v317.toNat]
@[reducible] def k0_t10_loop : Scf.Loop 32 :=
  let c0_i32_124 : BitVec 32 := 0#32
  let c250_i32 : BitVec 32 := 250#32
  let v313 : BitVec 32 := Scalar.addi c0_i32_124 c250_i32
  let c1_i32_125 : BitVec 32 := 1#32
  ⟨c0_i32_124, v313, c1_i32_125⟩
def k0_off40 (k0_t10 : Fin k0_t10_loop.trips) : Fin 2 → Nat :=
  let c5_i32_128 : BitVec 32 := 5#32
  let v316 : Index := Scalar.indexCast c5_i32_128
  let c0_i32_124 : BitVec 32 := 0#32
  let c1_i32_125 : BitVec 32 := 1#32
  let arg11 : BitVec 32 := Scf.iv c0_i32_124 c1_i32_125 k0_t10
  let c16_i32_127 : BitVec 32 := 16#32
  let v315 : BitVec 32 := Scalar.muli arg11 c16_i32_127
  let v317 : Index := Scalar.indexCast v315
  ![5, v317.toNat]
@[reducible] def k0_t11_loop : Scf.Loop 32 :=
  let c0_i32_124 : BitVec 32 := 0#32
  let c250_i32 : BitVec 32 := 250#32
  let v313 : BitVec 32 := Scalar.addi c0_i32_124 c250_i32
  let c1_i32_125 : BitVec 32 := 1#32
  ⟨c0_i32_124, v313, c1_i32_125⟩
def k0_off41 (k0_t11 : Fin k0_t11_loop.trips) : Fin 2 → Nat :=
  let c6_i32_128 : BitVec 32 := 6#32
  let v316 : Index := Scalar.indexCast c6_i32_128
  let c0_i32_124 : BitVec 32 := 0#32
  let c1_i32_125 : BitVec 32 := 1#32
  let arg11 : BitVec 32 := Scf.iv c0_i32_124 c1_i32_125 k0_t11
  let c16_i32_127 : BitVec 32 := 16#32
  let v315 : BitVec 32 := Scalar.muli arg11 c16_i32_127
  let v317 : Index := Scalar.indexCast v315
  ![6, v317.toNat]
@[reducible] def k0_t12_loop : Scf.Loop 32 :=
  let c0_i32_124 : BitVec 32 := 0#32
  let c250_i32 : BitVec 32 := 250#32
  let v313 : BitVec 32 := Scalar.addi c0_i32_124 c250_i32
  let c1_i32_125 : BitVec 32 := 1#32
  ⟨c0_i32_124, v313, c1_i32_125⟩
def k0_off42 (k0_t12 : Fin k0_t12_loop.trips) : Fin 2 → Nat :=
  let c7_i32_128 : BitVec 32 := 7#32
  let v316 : Index := Scalar.indexCast c7_i32_128
  let c0_i32_124 : BitVec 32 := 0#32
  let c1_i32_125 : BitVec 32 := 1#32
  let arg11 : BitVec 32 := Scf.iv c0_i32_124 c1_i32_125 k0_t12
  let c16_i32_127 : BitVec 32 := 16#32
  let v315 : BitVec 32 := Scalar.muli arg11 c16_i32_127
  let v317 : Index := Scalar.indexCast v315
  ![7, v317.toNat]
def k0_off43 (i : grid0.Coords) (k0_t1 : Fin k0_t1_loop.trips) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v6 : BitVec 32 := Scalar.muli v1 c2_i32_3
  let c0_i32_0 : BitVec 32 := 0#32
  let c1_i32 : BitVec 32 := 1#32
  let arg7 : BitVec 32 := Scf.iv c0_i32_0 c1_i32 k0_t1
  let v7 : BitVec 32 := Scalar.addi v6 arg7
  let c0_i32_10 : BitVec 32 := 0#32
  let c1_i32_11 : BitVec 32 := 1#32
  let arg9 : BitVec 32 := Scf.iv c0_i32_10 c1_i32_11 k0_t2
  let c8_i32 : BitVec 32 := 8#32
  let v24 : BitVec 32 := Scalar.muli arg9 c8_i32
  let c0_i32_123_r2 : BitVec 32 := 0#32
  ![v7.toNat, v24.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x1x128x4000 : Shape := ⟨4, ![64, 1, 128, 4000]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S64 : Shape := ⟨1, ![64]⟩
abbrev S4000 : Shape := ⟨1, ![4000]⟩
abbrev S1x4000 : Shape := ⟨2, ![1, 4000]⟩
abbrev S64x1 : Shape := ⟨2, ![64, 1]⟩
abbrev S64x4000 : Shape := ⟨2, ![64, 4000]⟩
abbrev S64x1x1x4000 : Shape := ⟨4, ![64, 1, 1, 4000]⟩
abbrev S128 : Shape := ⟨1, ![128]⟩
abbrev S1x128 : Shape := ⟨2, ![1, 128]⟩
abbrev S64x128 : Shape := ⟨2, ![64, 128]⟩
abbrev S64x1x128x1 : Shape := ⟨4, ![64, 1, 128, 1]⟩

abbrev nBuf : Space → Nat
  | .hbm => 2061
  | .vmem => 0
  | .smem => 0
  | _ => 0

abbrev hbmTy0_0 (i : Nat) : BufTy := match i % 128 with
  | 0 => ⟨S64x1x128x4000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .i32⟩
  | 12 => ⟨S_, .i32⟩
  | 13 => ⟨S_, .i32⟩
  | 14 => ⟨S1, .i32⟩
  | 15 => ⟨S_, .i32⟩
  | 16 => ⟨S_, .i32⟩
  | 17 => ⟨S1, .i32⟩
  | 18 => ⟨S2, .i32⟩
  | 19 => ⟨S1, .i32⟩
  | 20 => ⟨S_, .i32⟩
  | 21 => ⟨S1, .i32⟩
  | 22 => ⟨S_, .i32⟩
  | 23 => ⟨S1, .i32⟩
  | 24 => ⟨S1, .i32⟩
  | 25 => ⟨S_, .i32⟩
  | 26 => ⟨S_, .i32⟩
  | 27 => ⟨S_, .i32⟩
  | 28 => ⟨S1, .i32⟩
  | 29 => ⟨S1, .i32⟩
  | 30 => ⟨S1, .i32⟩
  | 31 => ⟨S1, .i32⟩
  | 32 => ⟨S1, .i32⟩
  | 33 => ⟨S_, .i32⟩
  | 34 => ⟨S1, .i32⟩
  | 35 => ⟨S1, .i32⟩
  | 36 => ⟨S_, .i32⟩
  | 37 => ⟨S1, .i32⟩
  | 38 => ⟨S1, .i32⟩
  | 39 => ⟨S1, .i32⟩
  | 40 => ⟨S1, .i32⟩
  | 41 => ⟨S1, .i32⟩
  | 42 => ⟨S_, .i32⟩
  | 43 => ⟨S1, .i32⟩
  | 44 => ⟨S1, .i32⟩
  | 45 => ⟨S_, .i32⟩
  | 46 => ⟨S1, .i32⟩
  | 47 => ⟨S1, .i32⟩
  | 48 => ⟨S1, .i32⟩
  | 49 => ⟨S1, .i32⟩
  | 50 => ⟨S1, .i32⟩
  | 51 => ⟨S_, .i32⟩
  | 52 => ⟨S1, .i32⟩
  | 53 => ⟨S1, .i32⟩
  | 54 => ⟨S_, .i32⟩
  | 55 => ⟨S1, .i32⟩
  | 56 => ⟨S1, .i32⟩
  | 57 => ⟨S1, .i32⟩
  | 58 => ⟨S1, .i32⟩
  | 59 => ⟨S1, .i32⟩
  | 60 => ⟨S_, .i32⟩
  | 61 => ⟨S1, .i32⟩
  | 62 => ⟨S1, .i32⟩
  | 63 => ⟨S_, .i32⟩
  | 64 => ⟨S1, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S_, .i32⟩
  | 73 => ⟨S1, .i32⟩
  | 74 => ⟨S1, .i32⟩
  | 75 => ⟨S1, .i32⟩
  | 76 => ⟨S_, .i32⟩
  | 77 => ⟨S1, .i32⟩
  | 78 => ⟨S1, .i32⟩
  | 79 => ⟨S_, .i32⟩
  | 80 => ⟨S1, .i32⟩
  | 81 => ⟨S1, .i32⟩
  | 82 => ⟨S1, .i32⟩
  | 83 => ⟨S1, .i32⟩
  | 84 => ⟨S1, .i32⟩
  | 85 => ⟨S_, .i32⟩
  | 86 => ⟨S1, .i32⟩
  | 87 => ⟨S1, .i32⟩
  | 88 => ⟨S_, .i32⟩
  | 89 => ⟨S1, .i32⟩
  | 90 => ⟨S1, .i32⟩
  | 91 => ⟨S1, .i32⟩
  | 92 => ⟨S1, .i32⟩
  | 93 => ⟨S1, .i32⟩
  | 94 => ⟨S_, .i32⟩
  | 95 => ⟨S1, .i32⟩
  | 96 => ⟨S1, .i32⟩
  | 97 => ⟨S_, .i32⟩
  | 98 => ⟨S1, .i32⟩
  | 99 => ⟨S1, .i32⟩
  | 100 => ⟨S1, .i32⟩
  | 101 => ⟨S1, .i32⟩
  | 102 => ⟨S1, .i32⟩
  | 103 => ⟨S_, .i32⟩
  | 104 => ⟨S1, .i32⟩
  | 105 => ⟨S1, .i32⟩
  | 106 => ⟨S_, .i32⟩
  | 107 => ⟨S1, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S_, .i32⟩
  | 116 => ⟨S1, .i32⟩
  | 117 => ⟨S1, .i32⟩
  | 118 => ⟨S1, .i32⟩
  | 119 => ⟨S_, .i32⟩
  | 120 => ⟨S1, .i32⟩
  | 121 => ⟨S1, .i32⟩
  | 122 => ⟨S_, .i32⟩
  | 123 => ⟨S1, .i32⟩
  | 124 => ⟨S1, .i32⟩
  | 125 => ⟨S1, .i32⟩
  | 126 => ⟨S1, .i32⟩
  | 127 => ⟨S1, .i32⟩
  | _ => ⟨S64x1x128x4000, .f32⟩

abbrev hbmTy0_1 (i : Nat) : BufTy := match i % 128 with
  | 0 => ⟨S_, .i32⟩
  | 1 => ⟨S1, .i32⟩
  | 2 => ⟨S1, .i32⟩
  | 3 => ⟨S_, .i32⟩
  | 4 => ⟨S1, .i32⟩
  | 5 => ⟨S1, .i32⟩
  | 6 => ⟨S1, .i32⟩
  | 7 => ⟨S1, .i32⟩
  | 8 => ⟨S1, .i32⟩
  | 9 => ⟨S_, .i32⟩
  | 10 => ⟨S1, .i32⟩
  | 11 => ⟨S1, .i32⟩
  | 12 => ⟨S_, .i32⟩
  | 13 => ⟨S1, .i32⟩
  | 14 => ⟨S1, .i32⟩
  | 15 => ⟨S1, .i32⟩
  | 16 => ⟨S1, .i32⟩
  | 17 => ⟨S1, .i32⟩
  | 18 => ⟨S_, .i32⟩
  | 19 => ⟨S1, .i32⟩
  | 20 => ⟨S1, .i32⟩
  | 21 => ⟨S_, .i32⟩
  | 22 => ⟨S1, .i32⟩
  | 23 => ⟨S1, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S_, .i32⟩
  | 31 => ⟨S1, .i32⟩
  | 32 => ⟨S1, .i32⟩
  | 33 => ⟨S1, .i32⟩
  | 34 => ⟨S_, .i32⟩
  | 35 => ⟨S1, .i32⟩
  | 36 => ⟨S1, .i32⟩
  | 37 => ⟨S_, .i32⟩
  | 38 => ⟨S1, .i32⟩
  | 39 => ⟨S1, .i32⟩
  | 40 => ⟨S1, .i32⟩
  | 41 => ⟨S1, .i32⟩
  | 42 => ⟨S1, .i32⟩
  | 43 => ⟨S_, .i32⟩
  | 44 => ⟨S1, .i32⟩
  | 45 => ⟨S1, .i32⟩
  | 46 => ⟨S_, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S_, .i32⟩
  | 56 => ⟨S1, .i32⟩
  | 57 => ⟨S1, .i32⟩
  | 58 => ⟨S1, .i32⟩
  | 59 => ⟨S1, .i32⟩
  | 60 => ⟨S1, .i32⟩
  | 61 => ⟨S_, .i32⟩
  | 62 => ⟨S1, .i32⟩
  | 63 => ⟨S1, .i32⟩
  | 64 => ⟨S_, .i32⟩
  | 65 => ⟨S1, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S1, .i32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S_, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S_, .i32⟩
  | 99 => ⟨S1, .i32⟩
  | 100 => ⟨S1, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S2, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i1⟩
  | _ => ⟨S64x1x128x4000, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S1, .i32⟩
  | 11 => ⟨S1, .i32⟩
  | 12 => ⟨S1, .i32⟩
  | 13 => ⟨S_, .i32⟩
  | 14 => ⟨S1, .i32⟩
  | 15 => ⟨S_, .i32⟩
  | 16 => ⟨S2, .i64⟩
  | 17 => ⟨S_, .i64⟩
  | 18 => ⟨S2, .i64⟩
  | 19 => ⟨S2, .i64⟩
  | 20 => ⟨S_, .i64⟩
  | 21 => ⟨S2, .i64⟩
  | 22 => ⟨S2, .i64⟩
  | 23 => ⟨S2, .i32⟩
  | 24 => ⟨S2, .i32⟩
  | 25 => ⟨S_, .i32⟩
  | 26 => ⟨S_, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S64x1x128x4000, .f32⟩

abbrev hbmTy0_3 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S_, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S2x1, .i32⟩
  | 120 => ⟨S2x1, .i32⟩
  | 121 => ⟨S2x2, .i32⟩
  | 122 => ⟨S1x2, .i32⟩
  | 123 => ⟨S2, .i32⟩
  | 124 => ⟨S1x2, .i32⟩
  | 125 => ⟨S2, .i32⟩
  | 126 => ⟨S1, .i32⟩
  | 127 => ⟨S_, .i32⟩
  | _ => ⟨S64x1x128x4000, .f32⟩

abbrev hbmTy0_4 (i : Nat) : BufTy := match i % 128 with
  | 0 => ⟨S1, .i32⟩
  | 1 => ⟨S_, .i32⟩
  | 2 => ⟨S64, .i64⟩
  | 3 => ⟨S_, .i64⟩
  | 4 => ⟨S64, .i64⟩
  | 5 => ⟨S64, .i64⟩
  | 6 => ⟨S_, .i64⟩
  | 7 => ⟨S64, .i64⟩
  | 8 => ⟨S64, .i64⟩
  | 9 => ⟨S64, .i32⟩
  | 10 => ⟨S64, .i32⟩
  | 11 => ⟨S_, .i32⟩
  | 12 => ⟨S_, .i32⟩
  | 13 => ⟨S_, .i32⟩
  | 14 => ⟨S64, .i32⟩
  | 15 => ⟨S64, .i32⟩
  | 16 => ⟨S64, .i32⟩
  | 17 => ⟨S64, .i32⟩
  | 18 => ⟨S64, .i32⟩
  | 19 => ⟨S_, .i32⟩
  | 20 => ⟨S64, .i32⟩
  | 21 => ⟨S64, .i32⟩
  | 22 => ⟨S_, .i32⟩
  | 23 => ⟨S64, .i32⟩
  | 24 => ⟨S64, .i32⟩
  | 25 => ⟨S64, .i32⟩
  | 26 => ⟨S64, .i32⟩
  | 27 => ⟨S64, .i32⟩
  | 28 => ⟨S_, .i32⟩
  | 29 => ⟨S64, .i32⟩
  | 30 => ⟨S64, .i32⟩
  | 31 => ⟨S_, .i32⟩
  | 32 => ⟨S64, .i32⟩
  | 33 => ⟨S64, .i32⟩
  | 34 => ⟨S64, .i32⟩
  | 35 => ⟨S64, .i32⟩
  | 36 => ⟨S64, .i32⟩
  | 37 => ⟨S_, .i32⟩
  | 38 => ⟨S64, .i32⟩
  | 39 => ⟨S64, .i32⟩
  | 40 => ⟨S_, .i32⟩
  | 41 => ⟨S64, .i32⟩
  | 42 => ⟨S64, .i32⟩
  | 43 => ⟨S64, .i32⟩
  | 44 => ⟨S64, .i32⟩
  | 45 => ⟨S64, .i32⟩
  | 46 => ⟨S_, .i32⟩
  | 47 => ⟨S64, .i32⟩
  | 48 => ⟨S64, .i32⟩
  | 49 => ⟨S_, .i32⟩
  | 50 => ⟨S64, .i32⟩
  | 51 => ⟨S64, .i32⟩
  | 52 => ⟨S64, .i32⟩
  | 53 => ⟨S64, .i32⟩
  | 54 => ⟨S64, .i32⟩
  | 55 => ⟨S64, .i32⟩
  | 56 => ⟨S64, .i32⟩
  | 57 => ⟨S64, .i32⟩
  | 58 => ⟨S_, .i32⟩
  | 59 => ⟨S64, .i32⟩
  | 60 => ⟨S64, .i32⟩
  | 61 => ⟨S64, .i32⟩
  | 62 => ⟨S_, .i32⟩
  | 63 => ⟨S64, .i32⟩
  | 64 => ⟨S64, .i32⟩
  | 65 => ⟨S_, .i32⟩
  | 66 => ⟨S64, .i32⟩
  | 67 => ⟨S64, .i32⟩
  | 68 => ⟨S64, .i32⟩
  | 69 => ⟨S64, .i32⟩
  | 70 => ⟨S64, .i32⟩
  | 71 => ⟨S_, .i32⟩
  | 72 => ⟨S64, .i32⟩
  | 73 => ⟨S64, .i32⟩
  | 74 => ⟨S_, .i32⟩
  | 75 => ⟨S64, .i32⟩
  | 76 => ⟨S64, .i32⟩
  | 77 => ⟨S64, .i32⟩
  | 78 => ⟨S64, .i32⟩
  | 79 => ⟨S64, .i32⟩
  | 80 => ⟨S_, .i32⟩
  | 81 => ⟨S64, .i32⟩
  | 82 => ⟨S64, .i32⟩
  | 83 => ⟨S_, .i32⟩
  | 84 => ⟨S64, .i32⟩
  | 85 => ⟨S64, .i32⟩
  | 86 => ⟨S64, .i32⟩
  | 87 => ⟨S64, .i32⟩
  | 88 => ⟨S64, .i32⟩
  | 89 => ⟨S_, .i32⟩
  | 90 => ⟨S64, .i32⟩
  | 91 => ⟨S64, .i32⟩
  | 92 => ⟨S_, .i32⟩
  | 93 => ⟨S64, .i32⟩
  | 94 => ⟨S64, .i32⟩
  | 95 => ⟨S64, .i32⟩
  | 96 => ⟨S64, .i32⟩
  | 97 => ⟨S64, .i32⟩
  | 98 => ⟨S64, .i32⟩
  | 99 => ⟨S64, .i32⟩
  | 100 => ⟨S64, .i32⟩
  | 101 => ⟨S_, .i32⟩
  | 102 => ⟨S64, .i32⟩
  | 103 => ⟨S64, .i32⟩
  | 104 => ⟨S64, .i32⟩
  | 105 => ⟨S_, .i32⟩
  | 106 => ⟨S64, .i32⟩
  | 107 => ⟨S64, .i32⟩
  | 108 => ⟨S_, .i32⟩
  | 109 => ⟨S64, .i32⟩
  | 110 => ⟨S64, .i32⟩
  | 111 => ⟨S64, .i32⟩
  | 112 => ⟨S64, .i32⟩
  | 113 => ⟨S64, .i32⟩
  | 114 => ⟨S_, .i32⟩
  | 115 => ⟨S64, .i32⟩
  | 116 => ⟨S64, .i32⟩
  | 117 => ⟨S_, .i32⟩
  | 118 => ⟨S64, .i32⟩
  | 119 => ⟨S64, .i32⟩
  | 120 => ⟨S64, .i32⟩
  | 121 => ⟨S64, .i32⟩
  | 122 => ⟨S64, .i32⟩
  | 123 => ⟨S_, .i32⟩
  | 124 => ⟨S64, .i32⟩
  | 125 => ⟨S64, .i32⟩
  | 126 => ⟨S_, .i32⟩
  | 127 => ⟨S64, .i32⟩
  | _ => ⟨S64x1x128x4000, .f32⟩

abbrev hbmTy0_5 (i : Nat) : BufTy := match i % 128 with
  | 0 => ⟨S64, .i32⟩
  | 1 => ⟨S64, .i32⟩
  | 2 => ⟨S64, .i32⟩
  | 3 => ⟨S64, .i32⟩
  | 4 => ⟨S_, .i32⟩
  | 5 => ⟨S64, .i32⟩
  | 6 => ⟨S64, .i32⟩
  | 7 => ⟨S_, .i32⟩
  | 8 => ⟨S64, .i32⟩
  | 9 => ⟨S64, .i32⟩
  | 10 => ⟨S64, .i32⟩
  | 11 => ⟨S64, .i32⟩
  | 12 => ⟨S64, .i32⟩
  | 13 => ⟨S64, .i32⟩
  | 14 => ⟨S64, .i32⟩
  | 15 => ⟨S64, .i32⟩
  | 16 => ⟨S_, .i32⟩
  | 17 => ⟨S64, .i32⟩
  | 18 => ⟨S64, .i32⟩
  | 19 => ⟨S64, .i32⟩
  | 20 => ⟨S_, .i32⟩
  | 21 => ⟨S64, .i32⟩
  | 22 => ⟨S64, .i32⟩
  | 23 => ⟨S_, .i32⟩
  | 24 => ⟨S64, .i32⟩
  | 25 => ⟨S64, .i32⟩
  | 26 => ⟨S64, .i32⟩
  | 27 => ⟨S64, .i32⟩
  | 28 => ⟨S64, .i32⟩
  | 29 => ⟨S_, .i32⟩
  | 30 => ⟨S64, .i32⟩
  | 31 => ⟨S64, .i32⟩
  | 32 => ⟨S_, .i32⟩
  | 33 => ⟨S64, .i32⟩
  | 34 => ⟨S64, .i32⟩
  | 35 => ⟨S64, .i32⟩
  | 36 => ⟨S64, .i32⟩
  | 37 => ⟨S64, .i32⟩
  | 38 => ⟨S_, .i32⟩
  | 39 => ⟨S64, .i32⟩
  | 40 => ⟨S64, .i32⟩
  | 41 => ⟨S_, .i32⟩
  | 42 => ⟨S64, .i32⟩
  | 43 => ⟨S64, .i32⟩
  | 44 => ⟨S64, .i32⟩
  | 45 => ⟨S64, .i32⟩
  | 46 => ⟨S64, .i32⟩
  | 47 => ⟨S_, .i32⟩
  | 48 => ⟨S64, .i32⟩
  | 49 => ⟨S64, .i32⟩
  | 50 => ⟨S_, .i32⟩
  | 51 => ⟨S64, .i32⟩
  | 52 => ⟨S64, .i32⟩
  | 53 => ⟨S64, .i32⟩
  | 54 => ⟨S64, .i32⟩
  | 55 => ⟨S64, .i32⟩
  | 56 => ⟨S64, .i32⟩
  | 57 => ⟨S64, .i32⟩
  | 58 => ⟨S64, .i32⟩
  | 59 => ⟨S_, .i32⟩
  | 60 => ⟨S64, .i32⟩
  | 61 => ⟨S64, .i32⟩
  | 62 => ⟨S64, .i32⟩
  | 63 => ⟨S_, .i32⟩
  | 64 => ⟨S64, .i32⟩
  | 65 => ⟨S64, .i32⟩
  | 66 => ⟨S_, .i32⟩
  | 67 => ⟨S64, .i32⟩
  | 68 => ⟨S64, .i32⟩
  | 69 => ⟨S64, .i32⟩
  | 70 => ⟨S64, .i32⟩
  | 71 => ⟨S64, .i32⟩
  | 72 => ⟨S_, .i32⟩
  | 73 => ⟨S64, .i32⟩
  | 74 => ⟨S64, .i32⟩
  | 75 => ⟨S_, .i32⟩
  | 76 => ⟨S64, .i32⟩
  | 77 => ⟨S64, .i32⟩
  | 78 => ⟨S64, .i32⟩
  | 79 => ⟨S64, .i32⟩
  | 80 => ⟨S64, .i32⟩
  | 81 => ⟨S_, .i32⟩
  | 82 => ⟨S64, .i32⟩
  | 83 => ⟨S64, .i32⟩
  | 84 => ⟨S_, .i32⟩
  | 85 => ⟨S64, .i32⟩
  | 86 => ⟨S64, .i32⟩
  | 87 => ⟨S64, .i32⟩
  | 88 => ⟨S64, .i32⟩
  | 89 => ⟨S64, .i32⟩
  | 90 => ⟨S_, .i32⟩
  | 91 => ⟨S64, .i32⟩
  | 92 => ⟨S64, .i32⟩
  | 93 => ⟨S_, .i32⟩
  | 94 => ⟨S64, .i32⟩
  | 95 => ⟨S64, .i32⟩
  | 96 => ⟨S64, .i32⟩
  | 97 => ⟨S64, .i32⟩
  | 98 => ⟨S64, .i32⟩
  | 99 => ⟨S64, .i32⟩
  | 100 => ⟨S64, .i32⟩
  | 101 => ⟨S64, .i32⟩
  | 102 => ⟨S_, .i32⟩
  | 103 => ⟨S64, .i32⟩
  | 104 => ⟨S64, .i32⟩
  | 105 => ⟨S64, .i32⟩
  | 106 => ⟨S1, .i32⟩
  | 107 => ⟨S_, .i32⟩
  | 108 => ⟨S1, .i32⟩
  | 109 => ⟨S_, .i32⟩
  | 110 => ⟨S64, .i64⟩
  | 111 => ⟨S_, .i64⟩
  | 112 => ⟨S64, .i64⟩
  | 113 => ⟨S64, .i64⟩
  | 114 => ⟨S_, .i64⟩
  | 115 => ⟨S64, .i64⟩
  | 116 => ⟨S64, .i64⟩
  | 117 => ⟨S64, .i32⟩
  | 118 => ⟨S64, .i32⟩
  | 119 => ⟨S_, .i32⟩
  | 120 => ⟨S_, .i32⟩
  | 121 => ⟨S_, .i32⟩
  | 122 => ⟨S64, .i32⟩
  | 123 => ⟨S64, .i32⟩
  | 124 => ⟨S64, .i32⟩
  | 125 => ⟨S64, .i32⟩
  | 126 => ⟨S64, .i32⟩
  | 127 => ⟨S_, .i32⟩
  | _ => ⟨S64x1x128x4000, .f32⟩

abbrev hbmTy0_6 (i : Nat) : BufTy := match i % 128 with
  | 0 => ⟨S64, .i32⟩
  | 1 => ⟨S64, .i32⟩
  | 2 => ⟨S_, .i32⟩
  | 3 => ⟨S64, .i32⟩
  | 4 => ⟨S64, .i32⟩
  | 5 => ⟨S64, .i32⟩
  | 6 => ⟨S64, .i32⟩
  | 7 => ⟨S64, .i32⟩
  | 8 => ⟨S_, .i32⟩
  | 9 => ⟨S64, .i32⟩
  | 10 => ⟨S64, .i32⟩
  | 11 => ⟨S_, .i32⟩
  | 12 => ⟨S64, .i32⟩
  | 13 => ⟨S64, .i32⟩
  | 14 => ⟨S64, .i32⟩
  | 15 => ⟨S64, .i32⟩
  | 16 => ⟨S64, .i32⟩
  | 17 => ⟨S_, .i32⟩
  | 18 => ⟨S64, .i32⟩
  | 19 => ⟨S64, .i32⟩
  | 20 => ⟨S_, .i32⟩
  | 21 => ⟨S64, .i32⟩
  | 22 => ⟨S64, .i32⟩
  | 23 => ⟨S64, .i32⟩
  | 24 => ⟨S64, .i32⟩
  | 25 => ⟨S64, .i32⟩
  | 26 => ⟨S_, .i32⟩
  | 27 => ⟨S64, .i32⟩
  | 28 => ⟨S64, .i32⟩
  | 29 => ⟨S_, .i32⟩
  | 30 => ⟨S64, .i32⟩
  | 31 => ⟨S64, .i32⟩
  | 32 => ⟨S64, .i32⟩
  | 33 => ⟨S64, .i32⟩
  | 34 => ⟨S64, .i32⟩
  | 35 => ⟨S64, .i32⟩
  | 36 => ⟨S64, .i32⟩
  | 37 => ⟨S64, .i32⟩
  | 38 => ⟨S_, .i32⟩
  | 39 => ⟨S64, .i32⟩
  | 40 => ⟨S64, .i32⟩
  | 41 => ⟨S64, .i32⟩
  | 42 => ⟨S_, .i32⟩
  | 43 => ⟨S64, .i32⟩
  | 44 => ⟨S64, .i32⟩
  | 45 => ⟨S_, .i32⟩
  | 46 => ⟨S64, .i32⟩
  | 47 => ⟨S64, .i32⟩
  | 48 => ⟨S64, .i32⟩
  | 49 => ⟨S64, .i32⟩
  | 50 => ⟨S64, .i32⟩
  | 51 => ⟨S_, .i32⟩
  | 52 => ⟨S64, .i32⟩
  | 53 => ⟨S64, .i32⟩
  | 54 => ⟨S_, .i32⟩
  | 55 => ⟨S64, .i32⟩
  | 56 => ⟨S64, .i32⟩
  | 57 => ⟨S64, .i32⟩
  | 58 => ⟨S64, .i32⟩
  | 59 => ⟨S64, .i32⟩
  | 60 => ⟨S_, .i32⟩
  | 61 => ⟨S64, .i32⟩
  | 62 => ⟨S64, .i32⟩
  | 63 => ⟨S_, .i32⟩
  | 64 => ⟨S64, .i32⟩
  | 65 => ⟨S64, .i32⟩
  | 66 => ⟨S64, .i32⟩
  | 67 => ⟨S64, .i32⟩
  | 68 => ⟨S64, .i32⟩
  | 69 => ⟨S_, .i32⟩
  | 70 => ⟨S64, .i32⟩
  | 71 => ⟨S64, .i32⟩
  | 72 => ⟨S_, .i32⟩
  | 73 => ⟨S64, .i32⟩
  | 74 => ⟨S64, .i32⟩
  | 75 => ⟨S64, .i32⟩
  | 76 => ⟨S64, .i32⟩
  | 77 => ⟨S64, .i32⟩
  | 78 => ⟨S64, .i32⟩
  | 79 => ⟨S64, .i32⟩
  | 80 => ⟨S64, .i32⟩
  | 81 => ⟨S_, .i32⟩
  | 82 => ⟨S64, .i32⟩
  | 83 => ⟨S64, .i32⟩
  | 84 => ⟨S64, .i32⟩
  | 85 => ⟨S_, .i32⟩
  | 86 => ⟨S64, .i32⟩
  | 87 => ⟨S64, .i32⟩
  | 88 => ⟨S_, .i32⟩
  | 89 => ⟨S64, .i32⟩
  | 90 => ⟨S64, .i32⟩
  | 91 => ⟨S64, .i32⟩
  | 92 => ⟨S64, .i32⟩
  | 93 => ⟨S64, .i32⟩
  | 94 => ⟨S_, .i32⟩
  | 95 => ⟨S64, .i32⟩
  | 96 => ⟨S64, .i32⟩
  | 97 => ⟨S_, .i32⟩
  | 98 => ⟨S64, .i32⟩
  | 99 => ⟨S64, .i32⟩
  | 100 => ⟨S64, .i32⟩
  | 101 => ⟨S64, .i32⟩
  | 102 => ⟨S64, .i32⟩
  | 103 => ⟨S_, .i32⟩
  | 104 => ⟨S64, .i32⟩
  | 105 => ⟨S64, .i32⟩
  | 106 => ⟨S_, .i32⟩
  | 107 => ⟨S64, .i32⟩
  | 108 => ⟨S64, .i32⟩
  | 109 => ⟨S64, .i32⟩
  | 110 => ⟨S64, .i32⟩
  | 111 => ⟨S64, .i32⟩
  | 112 => ⟨S_, .i32⟩
  | 113 => ⟨S64, .i32⟩
  | 114 => ⟨S64, .i32⟩
  | 115 => ⟨S_, .i32⟩
  | 116 => ⟨S64, .i32⟩
  | 117 => ⟨S64, .i32⟩
  | 118 => ⟨S64, .i32⟩
  | 119 => ⟨S64, .i32⟩
  | 120 => ⟨S64, .i32⟩
  | 121 => ⟨S64, .i32⟩
  | 122 => ⟨S64, .i32⟩
  | 123 => ⟨S64, .i32⟩
  | 124 => ⟨S_, .i32⟩
  | 125 => ⟨S64, .i32⟩
  | 126 => ⟨S64, .i32⟩
  | 127 => ⟨S64, .i32⟩
  | _ => ⟨S64x1x128x4000, .f32⟩

abbrev hbmTy0_7 (i : Nat) : BufTy := match i % 128 with
  | 0 => ⟨S_, .i32⟩
  | 1 => ⟨S64, .i32⟩
  | 2 => ⟨S64, .i32⟩
  | 3 => ⟨S_, .i32⟩
  | 4 => ⟨S64, .i32⟩
  | 5 => ⟨S64, .i32⟩
  | 6 => ⟨S64, .i32⟩
  | 7 => ⟨S64, .i32⟩
  | 8 => ⟨S64, .i32⟩
  | 9 => ⟨S_, .i32⟩
  | 10 => ⟨S64, .i32⟩
  | 11 => ⟨S64, .i32⟩
  | 12 => ⟨S_, .i32⟩
  | 13 => ⟨S64, .i32⟩
  | 14 => ⟨S64, .i32⟩
  | 15 => ⟨S64, .i32⟩
  | 16 => ⟨S64, .i32⟩
  | 17 => ⟨S64, .i32⟩
  | 18 => ⟨S_, .i32⟩
  | 19 => ⟨S64, .i32⟩
  | 20 => ⟨S64, .i32⟩
  | 21 => ⟨S_, .i32⟩
  | 22 => ⟨S64, .i32⟩
  | 23 => ⟨S64, .i32⟩
  | 24 => ⟨S64, .i32⟩
  | 25 => ⟨S64, .i32⟩
  | 26 => ⟨S64, .i32⟩
  | 27 => ⟨S_, .i32⟩
  | 28 => ⟨S64, .i32⟩
  | 29 => ⟨S64, .i32⟩
  | 30 => ⟨S_, .i32⟩
  | 31 => ⟨S64, .i32⟩
  | 32 => ⟨S64, .i32⟩
  | 33 => ⟨S64, .i32⟩
  | 34 => ⟨S64, .i32⟩
  | 35 => ⟨S64, .i32⟩
  | 36 => ⟨S64, .i32⟩
  | 37 => ⟨S64, .i32⟩
  | 38 => ⟨S64, .i32⟩
  | 39 => ⟨S_, .i32⟩
  | 40 => ⟨S64, .i32⟩
  | 41 => ⟨S64, .i32⟩
  | 42 => ⟨S64, .i32⟩
  | 43 => ⟨S_, .i32⟩
  | 44 => ⟨S64, .i32⟩
  | 45 => ⟨S64, .i32⟩
  | 46 => ⟨S_, .i32⟩
  | 47 => ⟨S64, .i32⟩
  | 48 => ⟨S64, .i32⟩
  | 49 => ⟨S64, .i32⟩
  | 50 => ⟨S64, .i32⟩
  | 51 => ⟨S64, .i32⟩
  | 52 => ⟨S_, .i32⟩
  | 53 => ⟨S64, .i32⟩
  | 54 => ⟨S64, .i32⟩
  | 55 => ⟨S_, .i32⟩
  | 56 => ⟨S64, .i32⟩
  | 57 => ⟨S64, .i32⟩
  | 58 => ⟨S64, .i32⟩
  | 59 => ⟨S64, .i32⟩
  | 60 => ⟨S64, .i32⟩
  | 61 => ⟨S_, .i32⟩
  | 62 => ⟨S64, .i32⟩
  | 63 => ⟨S64, .i32⟩
  | 64 => ⟨S_, .i32⟩
  | 65 => ⟨S64, .i32⟩
  | 66 => ⟨S64, .i32⟩
  | 67 => ⟨S64, .i32⟩
  | 68 => ⟨S64, .i32⟩
  | 69 => ⟨S64, .i32⟩
  | 70 => ⟨S_, .i32⟩
  | 71 => ⟨S64, .i32⟩
  | 72 => ⟨S64, .i32⟩
  | 73 => ⟨S_, .i32⟩
  | 74 => ⟨S64, .i32⟩
  | 75 => ⟨S64, .i32⟩
  | 76 => ⟨S64, .i32⟩
  | 77 => ⟨S64, .i32⟩
  | 78 => ⟨S64, .i32⟩
  | 79 => ⟨S64, .i32⟩
  | 80 => ⟨S64, .i32⟩
  | 81 => ⟨S64, .i32⟩
  | 82 => ⟨S_, .i32⟩
  | 83 => ⟨S64, .i32⟩
  | 84 => ⟨S64, .i32⟩
  | 85 => ⟨S64, .i32⟩
  | 86 => ⟨S1, .i32⟩
  | 87 => ⟨S1, .i32⟩
  | 88 => ⟨S1, .i1⟩
  | 89 => ⟨S_, .i32⟩
  | 90 => ⟨S1, .i32⟩
  | 91 => ⟨S1, .i32⟩
  | 92 => ⟨S1, .i1⟩
  | 93 => ⟨S1, .i1⟩
  | 94 => ⟨S1, .i1⟩
  | 95 => ⟨S_, .i32⟩
  | 96 => ⟨S1, .i32⟩
  | 97 => ⟨S1, .i32⟩
  | 98 => ⟨S1, .i32⟩
  | 99 => ⟨S_, .i32⟩
  | 100 => ⟨S1, .i32⟩
  | 101 => ⟨S1, .i32⟩
  | 102 => ⟨S1, .i32⟩
  | 103 => ⟨S1, .i32⟩
  | 104 => ⟨S64, .i32⟩
  | 105 => ⟨S64, .i32⟩
  | 106 => ⟨S64, .i32⟩
  | 107 => ⟨S64, .i32⟩
  | 108 => ⟨S64, .i32⟩
  | 109 => ⟨S64, .i32⟩
  | 110 => ⟨S64, .i32⟩
  | 111 => ⟨S64, .i32⟩
  | 112 => ⟨S64, .i32⟩
  | 113 => ⟨S64, .i32⟩
  | 114 => ⟨S64, .i32⟩
  | 115 => ⟨S64, .i32⟩
  | 116 => ⟨S4000, .i32⟩
  | 117 => ⟨S1x4000, .i32⟩
  | 118 => ⟨S64x1, .i32⟩
  | 119 => ⟨S64x4000, .i32⟩
  | 120 => ⟨S64x4000, .i32⟩
  | 121 => ⟨S64x4000, .i1⟩
  | 122 => ⟨S_, .i32⟩
  | 123 => ⟨S64, .i32⟩
  | 124 => ⟨S64, .i32⟩
  | 125 => ⟨S64x1, .i32⟩
  | 126 => ⟨S64x4000, .i32⟩
  | 127 => ⟨S64x4000, .i32⟩
  | _ => ⟨S64x1x128x4000, .f32⟩

abbrev hbmTy0_8 (i : Nat) : BufTy := match i % 128 with
  | 0 => ⟨S64x4000, .i1⟩
  | 1 => ⟨S64x4000, .i1⟩
  | 2 => ⟨S64x1x1x4000, .i1⟩
  | 3 => ⟨S_, .f32⟩
  | 4 => ⟨S64x1x128x4000, .i1⟩
  | 5 => ⟨S64x1x128x4000, .f32⟩
  | 6 => ⟨S64x1x128x4000, .f32⟩
  | 7 => ⟨S_, .i32⟩
  | 8 => ⟨S_, .i32⟩
  | 9 => ⟨S_, .i32⟩
  | 10 => ⟨S_, .i32⟩
  | 11 => ⟨S1, .i32⟩
  | 12 => ⟨S_, .i32⟩
  | 13 => ⟨S_, .i32⟩
  | 14 => ⟨S_, .i32⟩
  | 15 => ⟨S1, .i32⟩
  | 16 => ⟨S2, .i32⟩
  | 17 => ⟨S_, .i32⟩
  | 18 => ⟨S_, .i32⟩
  | 19 => ⟨S_, .i32⟩
  | 20 => ⟨S1, .i32⟩
  | 21 => ⟨S_, .i32⟩
  | 22 => ⟨S_, .i32⟩
  | 23 => ⟨S1, .i32⟩
  | 24 => ⟨S2, .i32⟩
  | 25 => ⟨S1, .i32⟩
  | 26 => ⟨S_, .i32⟩
  | 27 => ⟨S1, .i32⟩
  | 28 => ⟨S_, .i32⟩
  | 29 => ⟨S1, .i32⟩
  | 30 => ⟨S1, .i32⟩
  | 31 => ⟨S_, .i32⟩
  | 32 => ⟨S_, .i32⟩
  | 33 => ⟨S_, .i32⟩
  | 34 => ⟨S1, .i32⟩
  | 35 => ⟨S1, .i32⟩
  | 36 => ⟨S1, .i32⟩
  | 37 => ⟨S1, .i32⟩
  | 38 => ⟨S1, .i32⟩
  | 39 => ⟨S_, .i32⟩
  | 40 => ⟨S1, .i32⟩
  | 41 => ⟨S1, .i32⟩
  | 42 => ⟨S_, .i32⟩
  | 43 => ⟨S1, .i32⟩
  | 44 => ⟨S1, .i32⟩
  | 45 => ⟨S1, .i32⟩
  | 46 => ⟨S1, .i32⟩
  | 47 => ⟨S1, .i32⟩
  | 48 => ⟨S_, .i32⟩
  | 49 => ⟨S1, .i32⟩
  | 50 => ⟨S1, .i32⟩
  | 51 => ⟨S_, .i32⟩
  | 52 => ⟨S1, .i32⟩
  | 53 => ⟨S1, .i32⟩
  | 54 => ⟨S1, .i32⟩
  | 55 => ⟨S1, .i32⟩
  | 56 => ⟨S1, .i32⟩
  | 57 => ⟨S_, .i32⟩
  | 58 => ⟨S1, .i32⟩
  | 59 => ⟨S1, .i32⟩
  | 60 => ⟨S_, .i32⟩
  | 61 => ⟨S1, .i32⟩
  | 62 => ⟨S1, .i32⟩
  | 63 => ⟨S1, .i32⟩
  | 64 => ⟨S1, .i32⟩
  | 65 => ⟨S1, .i32⟩
  | 66 => ⟨S_, .i32⟩
  | 67 => ⟨S1, .i32⟩
  | 68 => ⟨S1, .i32⟩
  | 69 => ⟨S_, .i32⟩
  | 70 => ⟨S1, .i32⟩
  | 71 => ⟨S1, .i32⟩
  | 72 => ⟨S1, .i32⟩
  | 73 => ⟨S1, .i32⟩
  | 74 => ⟨S1, .i32⟩
  | 75 => ⟨S1, .i32⟩
  | 76 => ⟨S1, .i32⟩
  | 77 => ⟨S1, .i32⟩
  | 78 => ⟨S_, .i32⟩
  | 79 => ⟨S1, .i32⟩
  | 80 => ⟨S1, .i32⟩
  | 81 => ⟨S1, .i32⟩
  | 82 => ⟨S_, .i32⟩
  | 83 => ⟨S1, .i32⟩
  | 84 => ⟨S1, .i32⟩
  | 85 => ⟨S_, .i32⟩
  | 86 => ⟨S1, .i32⟩
  | 87 => ⟨S1, .i32⟩
  | 88 => ⟨S1, .i32⟩
  | 89 => ⟨S1, .i32⟩
  | 90 => ⟨S1, .i32⟩
  | 91 => ⟨S_, .i32⟩
  | 92 => ⟨S1, .i32⟩
  | 93 => ⟨S1, .i32⟩
  | 94 => ⟨S_, .i32⟩
  | 95 => ⟨S1, .i32⟩
  | 96 => ⟨S1, .i32⟩
  | 97 => ⟨S1, .i32⟩
  | 98 => ⟨S1, .i32⟩
  | 99 => ⟨S1, .i32⟩
  | 100 => ⟨S_, .i32⟩
  | 101 => ⟨S1, .i32⟩
  | 102 => ⟨S1, .i32⟩
  | 103 => ⟨S_, .i32⟩
  | 104 => ⟨S1, .i32⟩
  | 105 => ⟨S1, .i32⟩
  | 106 => ⟨S1, .i32⟩
  | 107 => ⟨S1, .i32⟩
  | 108 => ⟨S1, .i32⟩
  | 109 => ⟨S_, .i32⟩
  | 110 => ⟨S1, .i32⟩
  | 111 => ⟨S1, .i32⟩
  | 112 => ⟨S_, .i32⟩
  | 113 => ⟨S1, .i32⟩
  | 114 => ⟨S1, .i32⟩
  | 115 => ⟨S1, .i32⟩
  | 116 => ⟨S1, .i32⟩
  | 117 => ⟨S1, .i32⟩
  | 118 => ⟨S1, .i32⟩
  | 119 => ⟨S1, .i32⟩
  | 120 => ⟨S1, .i32⟩
  | 121 => ⟨S_, .i32⟩
  | 122 => ⟨S1, .i32⟩
  | 123 => ⟨S1, .i32⟩
  | 124 => ⟨S1, .i32⟩
  | 125 => ⟨S_, .i32⟩
  | 126 => ⟨S1, .i32⟩
  | 127 => ⟨S1, .i32⟩
  | _ => ⟨S64x1x128x4000, .f32⟩

abbrev hbmTy0_9 (i : Nat) : BufTy := match i % 128 with
  | 0 => ⟨S_, .i32⟩
  | 1 => ⟨S1, .i32⟩
  | 2 => ⟨S1, .i32⟩
  | 3 => ⟨S1, .i32⟩
  | 4 => ⟨S1, .i32⟩
  | 5 => ⟨S1, .i32⟩
  | 6 => ⟨S_, .i32⟩
  | 7 => ⟨S1, .i32⟩
  | 8 => ⟨S1, .i32⟩
  | 9 => ⟨S_, .i32⟩
  | 10 => ⟨S1, .i32⟩
  | 11 => ⟨S1, .i32⟩
  | 12 => ⟨S1, .i32⟩
  | 13 => ⟨S1, .i32⟩
  | 14 => ⟨S1, .i32⟩
  | 15 => ⟨S_, .i32⟩
  | 16 => ⟨S1, .i32⟩
  | 17 => ⟨S1, .i32⟩
  | 18 => ⟨S_, .i32⟩
  | 19 => ⟨S1, .i32⟩
  | 20 => ⟨S1, .i32⟩
  | 21 => ⟨S1, .i32⟩
  | 22 => ⟨S1, .i32⟩
  | 23 => ⟨S1, .i32⟩
  | 24 => ⟨S_, .i32⟩
  | 25 => ⟨S1, .i32⟩
  | 26 => ⟨S1, .i32⟩
  | 27 => ⟨S_, .i32⟩
  | 28 => ⟨S1, .i32⟩
  | 29 => ⟨S1, .i32⟩
  | 30 => ⟨S1, .i32⟩
  | 31 => ⟨S1, .i32⟩
  | 32 => ⟨S1, .i32⟩
  | 33 => ⟨S1, .i32⟩
  | 34 => ⟨S1, .i32⟩
  | 35 => ⟨S1, .i32⟩
  | 36 => ⟨S_, .i32⟩
  | 37 => ⟨S1, .i32⟩
  | 38 => ⟨S1, .i32⟩
  | 39 => ⟨S1, .i32⟩
  | 40 => ⟨S_, .i32⟩
  | 41 => ⟨S1, .i32⟩
  | 42 => ⟨S1, .i32⟩
  | 43 => ⟨S_, .i32⟩
  | 44 => ⟨S1, .i32⟩
  | 45 => ⟨S1, .i32⟩
  | 46 => ⟨S1, .i32⟩
  | 47 => ⟨S1, .i32⟩
  | 48 => ⟨S1, .i32⟩
  | 49 => ⟨S_, .i32⟩
  | 50 => ⟨S1, .i32⟩
  | 51 => ⟨S1, .i32⟩
  | 52 => ⟨S_, .i32⟩
  | 53 => ⟨S1, .i32⟩
  | 54 => ⟨S1, .i32⟩
  | 55 => ⟨S1, .i32⟩
  | 56 => ⟨S1, .i32⟩
  | 57 => ⟨S1, .i32⟩
  | 58 => ⟨S_, .i32⟩
  | 59 => ⟨S1, .i32⟩
  | 60 => ⟨S1, .i32⟩
  | 61 => ⟨S_, .i32⟩
  | 62 => ⟨S1, .i32⟩
  | 63 => ⟨S1, .i32⟩
  | 64 => ⟨S1, .i32⟩
  | 65 => ⟨S1, .i32⟩
  | 66 => ⟨S1, .i32⟩
  | 67 => ⟨S_, .i32⟩
  | 68 => ⟨S1, .i32⟩
  | 69 => ⟨S1, .i32⟩
  | 70 => ⟨S_, .i32⟩
  | 71 => ⟨S1, .i32⟩
  | 72 => ⟨S1, .i32⟩
  | 73 => ⟨S1, .i32⟩
  | 74 => ⟨S1, .i32⟩
  | 75 => ⟨S1, .i32⟩
  | 76 => ⟨S1, .i32⟩
  | 77 => ⟨S1, .i32⟩
  | 78 => ⟨S1, .i32⟩
  | 79 => ⟨S_, .i32⟩
  | 80 => ⟨S1, .i32⟩
  | 81 => ⟨S1, .i32⟩
  | 82 => ⟨S1, .i32⟩
  | 83 => ⟨S_, .i32⟩
  | 84 => ⟨S1, .i32⟩
  | 85 => ⟨S1, .i32⟩
  | 86 => ⟨S_, .i32⟩
  | 87 => ⟨S1, .i32⟩
  | 88 => ⟨S1, .i32⟩
  | 89 => ⟨S1, .i32⟩
  | 90 => ⟨S1, .i32⟩
  | 91 => ⟨S1, .i32⟩
  | 92 => ⟨S_, .i32⟩
  | 93 => ⟨S1, .i32⟩
  | 94 => ⟨S1, .i32⟩
  | 95 => ⟨S_, .i32⟩
  | 96 => ⟨S1, .i32⟩
  | 97 => ⟨S1, .i32⟩
  | 98 => ⟨S1, .i32⟩
  | 99 => ⟨S1, .i32⟩
  | 100 => ⟨S1, .i32⟩
  | 101 => ⟨S_, .i32⟩
  | 102 => ⟨S1, .i32⟩
  | 103 => ⟨S1, .i32⟩
  | 104 => ⟨S_, .i32⟩
  | 105 => ⟨S1, .i32⟩
  | 106 => ⟨S1, .i32⟩
  | 107 => ⟨S1, .i32⟩
  | 108 => ⟨S1, .i32⟩
  | 109 => ⟨S1, .i32⟩
  | 110 => ⟨S_, .i32⟩
  | 111 => ⟨S1, .i32⟩
  | 112 => ⟨S1, .i32⟩
  | 113 => ⟨S_, .i32⟩
  | 114 => ⟨S1, .i32⟩
  | 115 => ⟨S1, .i32⟩
  | 116 => ⟨S1, .i32⟩
  | 117 => ⟨S1, .i32⟩
  | 118 => ⟨S1, .i32⟩
  | 119 => ⟨S1, .i32⟩
  | 120 => ⟨S1, .i32⟩
  | 121 => ⟨S1, .i32⟩
  | 122 => ⟨S_, .i32⟩
  | 123 => ⟨S1, .i32⟩
  | 124 => ⟨S1, .i32⟩
  | 125 => ⟨S2, .i32⟩
  | 126 => ⟨S_, .i32⟩
  | 127 => ⟨S_, .i32⟩
  | _ => ⟨S64x1x128x4000, .f32⟩

abbrev hbmTy0_10 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S1, .i32⟩
  | 17 => ⟨S1, .i32⟩
  | 18 => ⟨S1, .i32⟩
  | 19 => ⟨S_, .i32⟩
  | 20 => ⟨S1, .i32⟩
  | 21 => ⟨S_, .i32⟩
  | 22 => ⟨S2, .i64⟩
  | 23 => ⟨S_, .i64⟩
  | 24 => ⟨S2, .i64⟩
  | 25 => ⟨S2, .i64⟩
  | 26 => ⟨S_, .i64⟩
  | 27 => ⟨S2, .i64⟩
  | 28 => ⟨S2, .i64⟩
  | 29 => ⟨S2, .i32⟩
  | 30 => ⟨S2, .i32⟩
  | 31 => ⟨S_, .i32⟩
  | 32 => ⟨S_, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S64x1x128x4000, .f32⟩

abbrev hbmTy0_11 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S2x1, .i32⟩
  | 126 => ⟨S2x1, .i32⟩
  | 127 => ⟨S2x2, .i32⟩
  | _ => ⟨S64x1x128x4000, .f32⟩

abbrev hbmTy0_12 (i : Nat) : BufTy := match i % 128 with
  | 0 => ⟨S1x2, .i32⟩
  | 1 => ⟨S2, .i32⟩
  | 2 => ⟨S1x2, .i32⟩
  | 3 => ⟨S2, .i32⟩
  | 4 => ⟨S1, .i32⟩
  | 5 => ⟨S_, .i32⟩
  | 6 => ⟨S1, .i32⟩
  | 7 => ⟨S_, .i32⟩
  | 8 => ⟨S64, .i64⟩
  | 9 => ⟨S_, .i64⟩
  | 10 => ⟨S64, .i64⟩
  | 11 => ⟨S64, .i64⟩
  | 12 => ⟨S_, .i64⟩
  | 13 => ⟨S64, .i64⟩
  | 14 => ⟨S64, .i64⟩
  | 15 => ⟨S64, .i32⟩
  | 16 => ⟨S64, .i32⟩
  | 17 => ⟨S_, .i32⟩
  | 18 => ⟨S_, .i32⟩
  | 19 => ⟨S_, .i32⟩
  | 20 => ⟨S64, .i32⟩
  | 21 => ⟨S64, .i32⟩
  | 22 => ⟨S64, .i32⟩
  | 23 => ⟨S64, .i32⟩
  | 24 => ⟨S64, .i32⟩
  | 25 => ⟨S_, .i32⟩
  | 26 => ⟨S64, .i32⟩
  | 27 => ⟨S64, .i32⟩
  | 28 => ⟨S_, .i32⟩
  | 29 => ⟨S64, .i32⟩
  | 30 => ⟨S64, .i32⟩
  | 31 => ⟨S64, .i32⟩
  | 32 => ⟨S64, .i32⟩
  | 33 => ⟨S64, .i32⟩
  | 34 => ⟨S_, .i32⟩
  | 35 => ⟨S64, .i32⟩
  | 36 => ⟨S64, .i32⟩
  | 37 => ⟨S_, .i32⟩
  | 38 => ⟨S64, .i32⟩
  | 39 => ⟨S64, .i32⟩
  | 40 => ⟨S64, .i32⟩
  | 41 => ⟨S64, .i32⟩
  | 42 => ⟨S64, .i32⟩
  | 43 => ⟨S_, .i32⟩
  | 44 => ⟨S64, .i32⟩
  | 45 => ⟨S64, .i32⟩
  | 46 => ⟨S_, .i32⟩
  | 47 => ⟨S64, .i32⟩
  | 48 => ⟨S64, .i32⟩
  | 49 => ⟨S64, .i32⟩
  | 50 => ⟨S64, .i32⟩
  | 51 => ⟨S64, .i32⟩
  | 52 => ⟨S_, .i32⟩
  | 53 => ⟨S64, .i32⟩
  | 54 => ⟨S64, .i32⟩
  | 55 => ⟨S_, .i32⟩
  | 56 => ⟨S64, .i32⟩
  | 57 => ⟨S64, .i32⟩
  | 58 => ⟨S64, .i32⟩
  | 59 => ⟨S64, .i32⟩
  | 60 => ⟨S64, .i32⟩
  | 61 => ⟨S64, .i32⟩
  | 62 => ⟨S64, .i32⟩
  | 63 => ⟨S64, .i32⟩
  | 64 => ⟨S_, .i32⟩
  | 65 => ⟨S64, .i32⟩
  | 66 => ⟨S64, .i32⟩
  | 67 => ⟨S64, .i32⟩
  | 68 => ⟨S_, .i32⟩
  | 69 => ⟨S64, .i32⟩
  | 70 => ⟨S64, .i32⟩
  | 71 => ⟨S_, .i32⟩
  | 72 => ⟨S64, .i32⟩
  | 73 => ⟨S64, .i32⟩
  | 74 => ⟨S64, .i32⟩
  | 75 => ⟨S64, .i32⟩
  | 76 => ⟨S64, .i32⟩
  | 77 => ⟨S_, .i32⟩
  | 78 => ⟨S64, .i32⟩
  | 79 => ⟨S64, .i32⟩
  | 80 => ⟨S_, .i32⟩
  | 81 => ⟨S64, .i32⟩
  | 82 => ⟨S64, .i32⟩
  | 83 => ⟨S64, .i32⟩
  | 84 => ⟨S64, .i32⟩
  | 85 => ⟨S64, .i32⟩
  | 86 => ⟨S_, .i32⟩
  | 87 => ⟨S64, .i32⟩
  | 88 => ⟨S64, .i32⟩
  | 89 => ⟨S_, .i32⟩
  | 90 => ⟨S64, .i32⟩
  | 91 => ⟨S64, .i32⟩
  | 92 => ⟨S64, .i32⟩
  | 93 => ⟨S64, .i32⟩
  | 94 => ⟨S64, .i32⟩
  | 95 => ⟨S_, .i32⟩
  | 96 => ⟨S64, .i32⟩
  | 97 => ⟨S64, .i32⟩
  | 98 => ⟨S_, .i32⟩
  | 99 => ⟨S64, .i32⟩
  | 100 => ⟨S64, .i32⟩
  | 101 => ⟨S64, .i32⟩
  | 102 => ⟨S64, .i32⟩
  | 103 => ⟨S64, .i32⟩
  | 104 => ⟨S64, .i32⟩
  | 105 => ⟨S64, .i32⟩
  | 106 => ⟨S64, .i32⟩
  | 107 => ⟨S_, .i32⟩
  | 108 => ⟨S64, .i32⟩
  | 109 => ⟨S64, .i32⟩
  | 110 => ⟨S64, .i32⟩
  | 111 => ⟨S_, .i32⟩
  | 112 => ⟨S64, .i32⟩
  | 113 => ⟨S64, .i32⟩
  | 114 => ⟨S_, .i32⟩
  | 115 => ⟨S64, .i32⟩
  | 116 => ⟨S64, .i32⟩
  | 117 => ⟨S64, .i32⟩
  | 118 => ⟨S64, .i32⟩
  | 119 => ⟨S64, .i32⟩
  | 120 => ⟨S_, .i32⟩
  | 121 => ⟨S64, .i32⟩
  | 122 => ⟨S64, .i32⟩
  | 123 => ⟨S_, .i32⟩
  | 124 => ⟨S64, .i32⟩
  | 125 => ⟨S64, .i32⟩
  | 126 => ⟨S64, .i32⟩
  | 127 => ⟨S64, .i32⟩
  | _ => ⟨S64x1x128x4000, .f32⟩

abbrev hbmTy0_13 (i : Nat) : BufTy := match i % 128 with
  | 0 => ⟨S64, .i32⟩
  | 1 => ⟨S_, .i32⟩
  | 2 => ⟨S64, .i32⟩
  | 3 => ⟨S64, .i32⟩
  | 4 => ⟨S_, .i32⟩
  | 5 => ⟨S64, .i32⟩
  | 6 => ⟨S64, .i32⟩
  | 7 => ⟨S64, .i32⟩
  | 8 => ⟨S64, .i32⟩
  | 9 => ⟨S64, .i32⟩
  | 10 => ⟨S_, .i32⟩
  | 11 => ⟨S64, .i32⟩
  | 12 => ⟨S64, .i32⟩
  | 13 => ⟨S_, .i32⟩
  | 14 => ⟨S64, .i32⟩
  | 15 => ⟨S64, .i32⟩
  | 16 => ⟨S64, .i32⟩
  | 17 => ⟨S64, .i32⟩
  | 18 => ⟨S64, .i32⟩
  | 19 => ⟨S64, .i32⟩
  | 20 => ⟨S64, .i32⟩
  | 21 => ⟨S64, .i32⟩
  | 22 => ⟨S_, .i32⟩
  | 23 => ⟨S64, .i32⟩
  | 24 => ⟨S64, .i32⟩
  | 25 => ⟨S64, .i32⟩
  | 26 => ⟨S_, .i32⟩
  | 27 => ⟨S64, .i32⟩
  | 28 => ⟨S64, .i32⟩
  | 29 => ⟨S_, .i32⟩
  | 30 => ⟨S64, .i32⟩
  | 31 => ⟨S64, .i32⟩
  | 32 => ⟨S64, .i32⟩
  | 33 => ⟨S64, .i32⟩
  | 34 => ⟨S64, .i32⟩
  | 35 => ⟨S_, .i32⟩
  | 36 => ⟨S64, .i32⟩
  | 37 => ⟨S64, .i32⟩
  | 38 => ⟨S_, .i32⟩
  | 39 => ⟨S64, .i32⟩
  | 40 => ⟨S64, .i32⟩
  | 41 => ⟨S64, .i32⟩
  | 42 => ⟨S64, .i32⟩
  | 43 => ⟨S64, .i32⟩
  | 44 => ⟨S_, .i32⟩
  | 45 => ⟨S64, .i32⟩
  | 46 => ⟨S64, .i32⟩
  | 47 => ⟨S_, .i32⟩
  | 48 => ⟨S64, .i32⟩
  | 49 => ⟨S64, .i32⟩
  | 50 => ⟨S64, .i32⟩
  | 51 => ⟨S64, .i32⟩
  | 52 => ⟨S64, .i32⟩
  | 53 => ⟨S_, .i32⟩
  | 54 => ⟨S64, .i32⟩
  | 55 => ⟨S64, .i32⟩
  | 56 => ⟨S_, .i32⟩
  | 57 => ⟨S64, .i32⟩
  | 58 => ⟨S64, .i32⟩
  | 59 => ⟨S64, .i32⟩
  | 60 => ⟨S64, .i32⟩
  | 61 => ⟨S64, .i32⟩
  | 62 => ⟨S64, .i32⟩
  | 63 => ⟨S64, .i32⟩
  | 64 => ⟨S64, .i32⟩
  | 65 => ⟨S_, .i32⟩
  | 66 => ⟨S64, .i32⟩
  | 67 => ⟨S64, .i32⟩
  | 68 => ⟨S64, .i32⟩
  | 69 => ⟨S_, .i32⟩
  | 70 => ⟨S64, .i32⟩
  | 71 => ⟨S64, .i32⟩
  | 72 => ⟨S_, .i32⟩
  | 73 => ⟨S64, .i32⟩
  | 74 => ⟨S64, .i32⟩
  | 75 => ⟨S64, .i32⟩
  | 76 => ⟨S64, .i32⟩
  | 77 => ⟨S64, .i32⟩
  | 78 => ⟨S_, .i32⟩
  | 79 => ⟨S64, .i32⟩
  | 80 => ⟨S64, .i32⟩
  | 81 => ⟨S_, .i32⟩
  | 82 => ⟨S64, .i32⟩
  | 83 => ⟨S64, .i32⟩
  | 84 => ⟨S64, .i32⟩
  | 85 => ⟨S64, .i32⟩
  | 86 => ⟨S64, .i32⟩
  | 87 => ⟨S_, .i32⟩
  | 88 => ⟨S64, .i32⟩
  | 89 => ⟨S64, .i32⟩
  | 90 => ⟨S_, .i32⟩
  | 91 => ⟨S64, .i32⟩
  | 92 => ⟨S64, .i32⟩
  | 93 => ⟨S64, .i32⟩
  | 94 => ⟨S64, .i32⟩
  | 95 => ⟨S64, .i32⟩
  | 96 => ⟨S_, .i32⟩
  | 97 => ⟨S64, .i32⟩
  | 98 => ⟨S64, .i32⟩
  | 99 => ⟨S_, .i32⟩
  | 100 => ⟨S64, .i32⟩
  | 101 => ⟨S64, .i32⟩
  | 102 => ⟨S64, .i32⟩
  | 103 => ⟨S64, .i32⟩
  | 104 => ⟨S64, .i32⟩
  | 105 => ⟨S64, .i32⟩
  | 106 => ⟨S64, .i32⟩
  | 107 => ⟨S64, .i32⟩
  | 108 => ⟨S_, .i32⟩
  | 109 => ⟨S64, .i32⟩
  | 110 => ⟨S64, .i32⟩
  | 111 => ⟨S64, .i32⟩
  | 112 => ⟨S1, .i32⟩
  | 113 => ⟨S_, .i32⟩
  | 114 => ⟨S1, .i32⟩
  | 115 => ⟨S_, .i32⟩
  | 116 => ⟨S64, .i64⟩
  | 117 => ⟨S_, .i64⟩
  | 118 => ⟨S64, .i64⟩
  | 119 => ⟨S64, .i64⟩
  | 120 => ⟨S_, .i64⟩
  | 121 => ⟨S64, .i64⟩
  | 122 => ⟨S64, .i64⟩
  | 123 => ⟨S64, .i32⟩
  | 124 => ⟨S64, .i32⟩
  | 125 => ⟨S_, .i32⟩
  | 126 => ⟨S_, .i32⟩
  | 127 => ⟨S_, .i32⟩
  | _ => ⟨S64x1x128x4000, .f32⟩

abbrev hbmTy0_14 (i : Nat) : BufTy := match i % 128 with
  | 0 => ⟨S64, .i32⟩
  | 1 => ⟨S64, .i32⟩
  | 2 => ⟨S64, .i32⟩
  | 3 => ⟨S64, .i32⟩
  | 4 => ⟨S64, .i32⟩
  | 5 => ⟨S_, .i32⟩
  | 6 => ⟨S64, .i32⟩
  | 7 => ⟨S64, .i32⟩
  | 8 => ⟨S_, .i32⟩
  | 9 => ⟨S64, .i32⟩
  | 10 => ⟨S64, .i32⟩
  | 11 => ⟨S64, .i32⟩
  | 12 => ⟨S64, .i32⟩
  | 13 => ⟨S64, .i32⟩
  | 14 => ⟨S_, .i32⟩
  | 15 => ⟨S64, .i32⟩
  | 16 => ⟨S64, .i32⟩
  | 17 => ⟨S_, .i32⟩
  | 18 => ⟨S64, .i32⟩
  | 19 => ⟨S64, .i32⟩
  | 20 => ⟨S64, .i32⟩
  | 21 => ⟨S64, .i32⟩
  | 22 => ⟨S64, .i32⟩
  | 23 => ⟨S_, .i32⟩
  | 24 => ⟨S64, .i32⟩
  | 25 => ⟨S64, .i32⟩
  | 26 => ⟨S_, .i32⟩
  | 27 => ⟨S64, .i32⟩
  | 28 => ⟨S64, .i32⟩
  | 29 => ⟨S64, .i32⟩
  | 30 => ⟨S64, .i32⟩
  | 31 => ⟨S64, .i32⟩
  | 32 => ⟨S_, .i32⟩
  | 33 => ⟨S64, .i32⟩
  | 34 => ⟨S64, .i32⟩
  | 35 => ⟨S_, .i32⟩
  | 36 => ⟨S64, .i32⟩
  | 37 => ⟨S64, .i32⟩
  | 38 => ⟨S64, .i32⟩
  | 39 => ⟨S64, .i32⟩
  | 40 => ⟨S64, .i32⟩
  | 41 => ⟨S64, .i32⟩
  | 42 => ⟨S64, .i32⟩
  | 43 => ⟨S64, .i32⟩
  | 44 => ⟨S_, .i32⟩
  | 45 => ⟨S64, .i32⟩
  | 46 => ⟨S64, .i32⟩
  | 47 => ⟨S64, .i32⟩
  | 48 => ⟨S_, .i32⟩
  | 49 => ⟨S64, .i32⟩
  | 50 => ⟨S64, .i32⟩
  | 51 => ⟨S_, .i32⟩
  | 52 => ⟨S64, .i32⟩
  | 53 => ⟨S64, .i32⟩
  | 54 => ⟨S64, .i32⟩
  | 55 => ⟨S64, .i32⟩
  | 56 => ⟨S64, .i32⟩
  | 57 => ⟨S_, .i32⟩
  | 58 => ⟨S64, .i32⟩
  | 59 => ⟨S64, .i32⟩
  | 60 => ⟨S_, .i32⟩
  | 61 => ⟨S64, .i32⟩
  | 62 => ⟨S64, .i32⟩
  | 63 => ⟨S64, .i32⟩
  | 64 => ⟨S64, .i32⟩
  | 65 => ⟨S64, .i32⟩
  | 66 => ⟨S_, .i32⟩
  | 67 => ⟨S64, .i32⟩
  | 68 => ⟨S64, .i32⟩
  | 69 => ⟨S_, .i32⟩
  | 70 => ⟨S64, .i32⟩
  | 71 => ⟨S64, .i32⟩
  | 72 => ⟨S64, .i32⟩
  | 73 => ⟨S64, .i32⟩
  | 74 => ⟨S64, .i32⟩
  | 75 => ⟨S_, .i32⟩
  | 76 => ⟨S64, .i32⟩
  | 77 => ⟨S64, .i32⟩
  | 78 => ⟨S_, .i32⟩
  | 79 => ⟨S64, .i32⟩
  | 80 => ⟨S64, .i32⟩
  | 81 => ⟨S64, .i32⟩
  | 82 => ⟨S64, .i32⟩
  | 83 => ⟨S64, .i32⟩
  | 84 => ⟨S64, .i32⟩
  | 85 => ⟨S64, .i32⟩
  | 86 => ⟨S64, .i32⟩
  | 87 => ⟨S_, .i32⟩
  | 88 => ⟨S64, .i32⟩
  | 89 => ⟨S64, .i32⟩
  | 90 => ⟨S64, .i32⟩
  | 91 => ⟨S_, .i32⟩
  | 92 => ⟨S64, .i32⟩
  | 93 => ⟨S64, .i32⟩
  | 94 => ⟨S_, .i32⟩
  | 95 => ⟨S64, .i32⟩
  | 96 => ⟨S64, .i32⟩
  | 97 => ⟨S64, .i32⟩
  | 98 => ⟨S64, .i32⟩
  | 99 => ⟨S64, .i32⟩
  | 100 => ⟨S_, .i32⟩
  | 101 => ⟨S64, .i32⟩
  | 102 => ⟨S64, .i32⟩
  | 103 => ⟨S_, .i32⟩
  | 104 => ⟨S64, .i32⟩
  | 105 => ⟨S64, .i32⟩
  | 106 => ⟨S64, .i32⟩
  | 107 => ⟨S64, .i32⟩
  | 108 => ⟨S64, .i32⟩
  | 109 => ⟨S_, .i32⟩
  | 110 => ⟨S64, .i32⟩
  | 111 => ⟨S64, .i32⟩
  | 112 => ⟨S_, .i32⟩
  | 113 => ⟨S64, .i32⟩
  | 114 => ⟨S64, .i32⟩
  | 115 => ⟨S64, .i32⟩
  | 116 => ⟨S64, .i32⟩
  | 117 => ⟨S64, .i32⟩
  | 118 => ⟨S_, .i32⟩
  | 119 => ⟨S64, .i32⟩
  | 120 => ⟨S64, .i32⟩
  | 121 => ⟨S_, .i32⟩
  | 122 => ⟨S64, .i32⟩
  | 123 => ⟨S64, .i32⟩
  | 124 => ⟨S64, .i32⟩
  | 125 => ⟨S64, .i32⟩
  | 126 => ⟨S64, .i32⟩
  | 127 => ⟨S64, .i32⟩
  | _ => ⟨S64x1x128x4000, .f32⟩

abbrev hbmTy0_15 (i : Nat) : BufTy := match i % 128 with
  | 0 => ⟨S64, .i32⟩
  | 1 => ⟨S64, .i32⟩
  | 2 => ⟨S_, .i32⟩
  | 3 => ⟨S64, .i32⟩
  | 4 => ⟨S64, .i32⟩
  | 5 => ⟨S64, .i32⟩
  | 6 => ⟨S_, .i32⟩
  | 7 => ⟨S64, .i32⟩
  | 8 => ⟨S64, .i32⟩
  | 9 => ⟨S_, .i32⟩
  | 10 => ⟨S64, .i32⟩
  | 11 => ⟨S64, .i32⟩
  | 12 => ⟨S64, .i32⟩
  | 13 => ⟨S64, .i32⟩
  | 14 => ⟨S64, .i32⟩
  | 15 => ⟨S_, .i32⟩
  | 16 => ⟨S64, .i32⟩
  | 17 => ⟨S64, .i32⟩
  | 18 => ⟨S_, .i32⟩
  | 19 => ⟨S64, .i32⟩
  | 20 => ⟨S64, .i32⟩
  | 21 => ⟨S64, .i32⟩
  | 22 => ⟨S64, .i32⟩
  | 23 => ⟨S64, .i32⟩
  | 24 => ⟨S_, .i32⟩
  | 25 => ⟨S64, .i32⟩
  | 26 => ⟨S64, .i32⟩
  | 27 => ⟨S_, .i32⟩
  | 28 => ⟨S64, .i32⟩
  | 29 => ⟨S64, .i32⟩
  | 30 => ⟨S64, .i32⟩
  | 31 => ⟨S64, .i32⟩
  | 32 => ⟨S64, .i32⟩
  | 33 => ⟨S_, .i32⟩
  | 34 => ⟨S64, .i32⟩
  | 35 => ⟨S64, .i32⟩
  | 36 => ⟨S_, .i32⟩
  | 37 => ⟨S64, .i32⟩
  | 38 => ⟨S64, .i32⟩
  | 39 => ⟨S64, .i32⟩
  | 40 => ⟨S64, .i32⟩
  | 41 => ⟨S64, .i32⟩
  | 42 => ⟨S64, .i32⟩
  | 43 => ⟨S64, .i32⟩
  | 44 => ⟨S64, .i32⟩
  | 45 => ⟨S_, .i32⟩
  | 46 => ⟨S64, .i32⟩
  | 47 => ⟨S64, .i32⟩
  | 48 => ⟨S64, .i32⟩
  | 49 => ⟨S_, .i32⟩
  | 50 => ⟨S64, .i32⟩
  | 51 => ⟨S64, .i32⟩
  | 52 => ⟨S_, .i32⟩
  | 53 => ⟨S64, .i32⟩
  | 54 => ⟨S64, .i32⟩
  | 55 => ⟨S64, .i32⟩
  | 56 => ⟨S64, .i32⟩
  | 57 => ⟨S64, .i32⟩
  | 58 => ⟨S_, .i32⟩
  | 59 => ⟨S64, .i32⟩
  | 60 => ⟨S64, .i32⟩
  | 61 => ⟨S_, .i32⟩
  | 62 => ⟨S64, .i32⟩
  | 63 => ⟨S64, .i32⟩
  | 64 => ⟨S64, .i32⟩
  | 65 => ⟨S64, .i32⟩
  | 66 => ⟨S64, .i32⟩
  | 67 => ⟨S_, .i32⟩
  | 68 => ⟨S64, .i32⟩
  | 69 => ⟨S64, .i32⟩
  | 70 => ⟨S_, .i32⟩
  | 71 => ⟨S64, .i32⟩
  | 72 => ⟨S64, .i32⟩
  | 73 => ⟨S64, .i32⟩
  | 74 => ⟨S64, .i32⟩
  | 75 => ⟨S64, .i32⟩
  | 76 => ⟨S_, .i32⟩
  | 77 => ⟨S64, .i32⟩
  | 78 => ⟨S64, .i32⟩
  | 79 => ⟨S_, .i32⟩
  | 80 => ⟨S64, .i32⟩
  | 81 => ⟨S64, .i32⟩
  | 82 => ⟨S64, .i32⟩
  | 83 => ⟨S64, .i32⟩
  | 84 => ⟨S64, .i32⟩
  | 85 => ⟨S64, .i32⟩
  | 86 => ⟨S64, .i32⟩
  | 87 => ⟨S64, .i32⟩
  | 88 => ⟨S_, .i32⟩
  | 89 => ⟨S64, .i32⟩
  | 90 => ⟨S64, .i32⟩
  | 91 => ⟨S64, .i32⟩
  | 92 => ⟨S1, .i32⟩
  | 93 => ⟨S1, .i32⟩
  | 94 => ⟨S1, .i1⟩
  | 95 => ⟨S_, .i32⟩
  | 96 => ⟨S1, .i32⟩
  | 97 => ⟨S1, .i32⟩
  | 98 => ⟨S1, .i1⟩
  | 99 => ⟨S1, .i1⟩
  | 100 => ⟨S1, .i1⟩
  | 101 => ⟨S_, .i32⟩
  | 102 => ⟨S1, .i32⟩
  | 103 => ⟨S1, .i32⟩
  | 104 => ⟨S1, .i32⟩
  | 105 => ⟨S_, .i32⟩
  | 106 => ⟨S1, .i32⟩
  | 107 => ⟨S1, .i32⟩
  | 108 => ⟨S1, .i32⟩
  | 109 => ⟨S1, .i32⟩
  | 110 => ⟨S64, .i32⟩
  | 111 => ⟨S64, .i32⟩
  | 112 => ⟨S64, .i32⟩
  | 113 => ⟨S64, .i32⟩
  | 114 => ⟨S64, .i32⟩
  | 115 => ⟨S64, .i32⟩
  | 116 => ⟨S64, .i32⟩
  | 117 => ⟨S64, .i32⟩
  | 118 => ⟨S64, .i32⟩
  | 119 => ⟨S64, .i32⟩
  | 120 => ⟨S64, .i32⟩
  | 121 => ⟨S64, .i32⟩
  | 122 => ⟨S128, .i32⟩
  | 123 => ⟨S1x128, .i32⟩
  | 124 => ⟨S64x1, .i32⟩
  | 125 => ⟨S64x128, .i32⟩
  | 126 => ⟨S64x128, .i32⟩
  | 127 => ⟨S64x128, .i1⟩
  | _ => ⟨S64x1x128x4000, .f32⟩

abbrev hbmTy0_16 (i : Nat) : BufTy := match i % 128 with
  | 0 => ⟨S_, .i32⟩
  | 1 => ⟨S64, .i32⟩
  | 2 => ⟨S64, .i32⟩
  | 3 => ⟨S64x1, .i32⟩
  | 4 => ⟨S64x128, .i32⟩
  | 5 => ⟨S64x128, .i32⟩
  | 6 => ⟨S64x128, .i1⟩
  | 7 => ⟨S64x128, .i1⟩
  | 8 => ⟨S64x1x128x1, .i1⟩
  | 9 => ⟨S_, .f32⟩
  | 10 => ⟨S64x1x128x4000, .i1⟩
  | 11 => ⟨S64x1x128x4000, .f32⟩
  | 12 => ⟨S64x1x128x4000, .f32⟩
  | _ => ⟨S64x1x128x4000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | _ => ⟨S64x1x128x4000, .f32⟩

abbrev bufTy : (tb : Table) → Fin (tcTables nBuf tb) → BufTy
  | .hbm, ⟨i, _⟩ => hbmTy i
  | _, _ => ⟨S64x1x128x4000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_call0_v0 : Ref sig .tc := ⟨.hbm, 25, rfl⟩
abbrev main_call0_call0_c : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_c_0 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_c_1 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_call0_v12 : Ref sig .tc := ⟨.hbm, 40, rfl⟩
abbrev main_call0_call0_v13 : Ref sig .tc := ⟨.hbm, 41, rfl⟩
abbrev main_call0_call0_c_2 : Ref sig .tc := ⟨.hbm, 42, rfl⟩
abbrev main_call0_call0_v14 : Ref sig .tc := ⟨.hbm, 43, rfl⟩
abbrev main_call0_call0_v15 : Ref sig .tc := ⟨.hbm, 44, rfl⟩
abbrev main_call0_call0_c_3 : Ref sig .tc := ⟨.hbm, 45, rfl⟩
abbrev main_call0_call0_v16 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_c_4 : Ref sig .tc := ⟨.hbm, 51, rfl⟩
abbrev main_call0_call0_v21 : Ref sig .tc := ⟨.hbm, 52, rfl⟩
abbrev main_call0_call0_v22 : Ref sig .tc := ⟨.hbm, 53, rfl⟩
abbrev main_call0_call0_c_5 : Ref sig .tc := ⟨.hbm, 54, rfl⟩
abbrev main_call0_call0_v23 : Ref sig .tc := ⟨.hbm, 55, rfl⟩
abbrev main_call0_call0_v24 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_v27 : Ref sig .tc := ⟨.hbm, 59, rfl⟩
abbrev main_call0_call0_c_6 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_c_7 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_v32 : Ref sig .tc := ⟨.hbm, 66, rfl⟩
abbrev main_call0_call0_v33 : Ref sig .tc := ⟨.hbm, 67, rfl⟩
abbrev main_call0_call0_v34 : Ref sig .tc := ⟨.hbm, 68, rfl⟩
abbrev main_call0_call0_v35 : Ref sig .tc := ⟨.hbm, 69, rfl⟩
abbrev main_call0_call0_v36 : Ref sig .tc := ⟨.hbm, 70, rfl⟩
abbrev main_call0_call0_v37 : Ref sig .tc := ⟨.hbm, 71, rfl⟩
abbrev main_call0_call0_c_8 : Ref sig .tc := ⟨.hbm, 72, rfl⟩
abbrev main_call0_call0_v38 : Ref sig .tc := ⟨.hbm, 73, rfl⟩
abbrev main_call0_call0_v39 : Ref sig .tc := ⟨.hbm, 74, rfl⟩
abbrev main_call0_call0_v40 : Ref sig .tc := ⟨.hbm, 75, rfl⟩
abbrev main_call0_call0_c_9 : Ref sig .tc := ⟨.hbm, 76, rfl⟩
abbrev main_call0_call0_v41 : Ref sig .tc := ⟨.hbm, 77, rfl⟩
abbrev main_call0_call0_v42 : Ref sig .tc := ⟨.hbm, 78, rfl⟩
abbrev main_call0_call0_c_10 : Ref sig .tc := ⟨.hbm, 79, rfl⟩
abbrev main_call0_call0_v43 : Ref sig .tc := ⟨.hbm, 80, rfl⟩
abbrev main_call0_call0_v44 : Ref sig .tc := ⟨.hbm, 81, rfl⟩
abbrev main_call0_call0_v45 : Ref sig .tc := ⟨.hbm, 82, rfl⟩
abbrev main_call0_call0_v46 : Ref sig .tc := ⟨.hbm, 83, rfl⟩
abbrev main_call0_call0_v47 : Ref sig .tc := ⟨.hbm, 84, rfl⟩
abbrev main_call0_call0_c_11 : Ref sig .tc := ⟨.hbm, 85, rfl⟩
abbrev main_call0_call0_v48 : Ref sig .tc := ⟨.hbm, 86, rfl⟩
abbrev main_call0_call0_v49 : Ref sig .tc := ⟨.hbm, 87, rfl⟩
abbrev main_call0_call0_c_12 : Ref sig .tc := ⟨.hbm, 88, rfl⟩
abbrev main_call0_call0_v50 : Ref sig .tc := ⟨.hbm, 89, rfl⟩
abbrev main_call0_call0_v51 : Ref sig .tc := ⟨.hbm, 90, rfl⟩
abbrev main_call0_call0_v52 : Ref sig .tc := ⟨.hbm, 91, rfl⟩
abbrev main_call0_call0_v53 : Ref sig .tc := ⟨.hbm, 92, rfl⟩
abbrev main_call0_call0_v54 : Ref sig .tc := ⟨.hbm, 93, rfl⟩
abbrev main_call0_call0_c_13 : Ref sig .tc := ⟨.hbm, 94, rfl⟩
abbrev main_call0_call0_v55 : Ref sig .tc := ⟨.hbm, 95, rfl⟩
abbrev main_call0_call0_v56 : Ref sig .tc := ⟨.hbm, 96, rfl⟩
abbrev main_call0_call0_c_14 : Ref sig .tc := ⟨.hbm, 97, rfl⟩
abbrev main_call0_call0_v57 : Ref sig .tc := ⟨.hbm, 98, rfl⟩
abbrev main_call0_call0_v58 : Ref sig .tc := ⟨.hbm, 99, rfl⟩
abbrev main_call0_call0_v59 : Ref sig .tc := ⟨.hbm, 100, rfl⟩
abbrev main_call0_call0_v60 : Ref sig .tc := ⟨.hbm, 101, rfl⟩
abbrev main_call0_call0_v61 : Ref sig .tc := ⟨.hbm, 102, rfl⟩
abbrev main_call0_call0_c_15 : Ref sig .tc := ⟨.hbm, 103, rfl⟩
abbrev main_call0_call0_v62 : Ref sig .tc := ⟨.hbm, 104, rfl⟩
abbrev main_call0_call0_v63 : Ref sig .tc := ⟨.hbm, 105, rfl⟩
abbrev main_call0_call0_c_16 : Ref sig .tc := ⟨.hbm, 106, rfl⟩
abbrev main_call0_call0_v64 : Ref sig .tc := ⟨.hbm, 107, rfl⟩
abbrev main_call0_call0_v65 : Ref sig .tc := ⟨.hbm, 108, rfl⟩
abbrev main_call0_call0_v66 : Ref sig .tc := ⟨.hbm, 109, rfl⟩
abbrev main_call0_call0_v67 : Ref sig .tc := ⟨.hbm, 110, rfl⟩
abbrev main_call0_call0_v68 : Ref sig .tc := ⟨.hbm, 111, rfl⟩
abbrev main_call0_call0_v69 : Ref sig .tc := ⟨.hbm, 112, rfl⟩
abbrev main_call0_call0_v70 : Ref sig .tc := ⟨.hbm, 113, rfl⟩
abbrev main_call0_call0_v71 : Ref sig .tc := ⟨.hbm, 114, rfl⟩
abbrev main_call0_call0_c_17 : Ref sig .tc := ⟨.hbm, 115, rfl⟩
abbrev main_call0_call0_v72 : Ref sig .tc := ⟨.hbm, 116, rfl⟩
abbrev main_call0_call0_v73 : Ref sig .tc := ⟨.hbm, 117, rfl⟩
abbrev main_call0_call0_v74 : Ref sig .tc := ⟨.hbm, 118, rfl⟩
abbrev main_call0_call0_c_18 : Ref sig .tc := ⟨.hbm, 119, rfl⟩
abbrev main_call0_call0_v75 : Ref sig .tc := ⟨.hbm, 120, rfl⟩
abbrev main_call0_call0_v76 : Ref sig .tc := ⟨.hbm, 121, rfl⟩
abbrev main_call0_call0_c_19 : Ref sig .tc := ⟨.hbm, 122, rfl⟩
abbrev main_call0_call0_v77 : Ref sig .tc := ⟨.hbm, 123, rfl⟩
abbrev main_call0_call0_v78 : Ref sig .tc := ⟨.hbm, 124, rfl⟩
abbrev main_call0_call0_v79 : Ref sig .tc := ⟨.hbm, 125, rfl⟩
abbrev main_call0_call0_v80 : Ref sig .tc := ⟨.hbm, 126, rfl⟩
abbrev main_call0_call0_v81 : Ref sig .tc := ⟨.hbm, 127, rfl⟩
abbrev main_call0_call0_c_20 : Ref sig .tc := ⟨.hbm, 128, rfl⟩
abbrev main_call0_call0_v82 : Ref sig .tc := ⟨.hbm, 129, rfl⟩
abbrev main_call0_call0_v83 : Ref sig .tc := ⟨.hbm, 130, rfl⟩
abbrev main_call0_call0_c_21 : Ref sig .tc := ⟨.hbm, 131, rfl⟩
abbrev main_call0_call0_v84 : Ref sig .tc := ⟨.hbm, 132, rfl⟩
abbrev main_call0_call0_v85 : Ref sig .tc := ⟨.hbm, 133, rfl⟩
abbrev main_call0_call0_v86 : Ref sig .tc := ⟨.hbm, 134, rfl⟩
abbrev main_call0_call0_v87 : Ref sig .tc := ⟨.hbm, 135, rfl⟩
abbrev main_call0_call0_v88 : Ref sig .tc := ⟨.hbm, 136, rfl⟩
abbrev main_call0_call0_c_22 : Ref sig .tc := ⟨.hbm, 137, rfl⟩
abbrev main_call0_call0_v89 : Ref sig .tc := ⟨.hbm, 138, rfl⟩
abbrev main_call0_call0_v90 : Ref sig .tc := ⟨.hbm, 139, rfl⟩
abbrev main_call0_call0_c_23 : Ref sig .tc := ⟨.hbm, 140, rfl⟩
abbrev main_call0_call0_v91 : Ref sig .tc := ⟨.hbm, 141, rfl⟩
abbrev main_call0_call0_v92 : Ref sig .tc := ⟨.hbm, 142, rfl⟩
abbrev main_call0_call0_v93 : Ref sig .tc := ⟨.hbm, 143, rfl⟩
abbrev main_call0_call0_v94 : Ref sig .tc := ⟨.hbm, 144, rfl⟩
abbrev main_call0_call0_v95 : Ref sig .tc := ⟨.hbm, 145, rfl⟩
abbrev main_call0_call0_c_24 : Ref sig .tc := ⟨.hbm, 146, rfl⟩
abbrev main_call0_call0_v96 : Ref sig .tc := ⟨.hbm, 147, rfl⟩
abbrev main_call0_call0_v97 : Ref sig .tc := ⟨.hbm, 148, rfl⟩
abbrev main_call0_call0_c_25 : Ref sig .tc := ⟨.hbm, 149, rfl⟩
abbrev main_call0_call0_v98 : Ref sig .tc := ⟨.hbm, 150, rfl⟩
abbrev main_call0_call0_v99 : Ref sig .tc := ⟨.hbm, 151, rfl⟩
abbrev main_call0_call0_v100 : Ref sig .tc := ⟨.hbm, 152, rfl⟩
abbrev main_call0_call0_v101 : Ref sig .tc := ⟨.hbm, 153, rfl⟩
abbrev main_call0_call0_v102 : Ref sig .tc := ⟨.hbm, 154, rfl⟩
abbrev main_call0_call0_v103 : Ref sig .tc := ⟨.hbm, 155, rfl⟩
abbrev main_call0_call0_v104 : Ref sig .tc := ⟨.hbm, 156, rfl⟩
abbrev main_call0_call0_v105 : Ref sig .tc := ⟨.hbm, 157, rfl⟩
abbrev main_call0_call0_c_26 : Ref sig .tc := ⟨.hbm, 158, rfl⟩
abbrev main_call0_call0_v106 : Ref sig .tc := ⟨.hbm, 159, rfl⟩
abbrev main_call0_call0_v107 : Ref sig .tc := ⟨.hbm, 160, rfl⟩
abbrev main_call0_call0_v108 : Ref sig .tc := ⟨.hbm, 161, rfl⟩
abbrev main_call0_call0_c_27 : Ref sig .tc := ⟨.hbm, 162, rfl⟩
abbrev main_call0_call0_v109 : Ref sig .tc := ⟨.hbm, 163, rfl⟩
abbrev main_call0_call0_v110 : Ref sig .tc := ⟨.hbm, 164, rfl⟩
abbrev main_call0_call0_c_28 : Ref sig .tc := ⟨.hbm, 165, rfl⟩
abbrev main_call0_call0_v111 : Ref sig .tc := ⟨.hbm, 166, rfl⟩
abbrev main_call0_call0_v112 : Ref sig .tc := ⟨.hbm, 167, rfl⟩
abbrev main_call0_call0_v113 : Ref sig .tc := ⟨.hbm, 168, rfl⟩
abbrev main_call0_call0_v114 : Ref sig .tc := ⟨.hbm, 169, rfl⟩
abbrev main_call0_call0_v115 : Ref sig .tc := ⟨.hbm, 170, rfl⟩
abbrev main_call0_call0_c_29 : Ref sig .tc := ⟨.hbm, 171, rfl⟩
abbrev main_call0_call0_v116 : Ref sig .tc := ⟨.hbm, 172, rfl⟩
abbrev main_call0_call0_v117 : Ref sig .tc := ⟨.hbm, 173, rfl⟩
abbrev main_call0_call0_c_30 : Ref sig .tc := ⟨.hbm, 174, rfl⟩
abbrev main_call0_call0_v118 : Ref sig .tc := ⟨.hbm, 175, rfl⟩
abbrev main_call0_call0_v119 : Ref sig .tc := ⟨.hbm, 176, rfl⟩
abbrev main_call0_call0_v120 : Ref sig .tc := ⟨.hbm, 177, rfl⟩
abbrev main_call0_call0_v121 : Ref sig .tc := ⟨.hbm, 178, rfl⟩
abbrev main_call0_call0_v122 : Ref sig .tc := ⟨.hbm, 179, rfl⟩
abbrev main_call0_call0_c_31 : Ref sig .tc := ⟨.hbm, 180, rfl⟩
abbrev main_call0_call0_v123 : Ref sig .tc := ⟨.hbm, 181, rfl⟩
abbrev main_call0_call0_v124 : Ref sig .tc := ⟨.hbm, 182, rfl⟩
abbrev main_call0_call0_c_32 : Ref sig .tc := ⟨.hbm, 183, rfl⟩
abbrev main_call0_call0_v125 : Ref sig .tc := ⟨.hbm, 184, rfl⟩
abbrev main_call0_call0_v126 : Ref sig .tc := ⟨.hbm, 185, rfl⟩
abbrev main_call0_call0_v127 : Ref sig .tc := ⟨.hbm, 186, rfl⟩
abbrev main_call0_call0_v128 : Ref sig .tc := ⟨.hbm, 187, rfl⟩
abbrev main_call0_call0_v129 : Ref sig .tc := ⟨.hbm, 188, rfl⟩
abbrev main_call0_call0_c_33 : Ref sig .tc := ⟨.hbm, 189, rfl⟩
abbrev main_call0_call0_v130 : Ref sig .tc := ⟨.hbm, 190, rfl⟩
abbrev main_call0_call0_v131 : Ref sig .tc := ⟨.hbm, 191, rfl⟩
abbrev main_call0_call0_c_34 : Ref sig .tc := ⟨.hbm, 192, rfl⟩
abbrev main_call0_call0_v132 : Ref sig .tc := ⟨.hbm, 193, rfl⟩
abbrev main_call0_call0_v133 : Ref sig .tc := ⟨.hbm, 194, rfl⟩
abbrev main_call0_call0_v134 : Ref sig .tc := ⟨.hbm, 195, rfl⟩
abbrev main_call0_call0_v135 : Ref sig .tc := ⟨.hbm, 196, rfl⟩
abbrev main_call0_call0_v136 : Ref sig .tc := ⟨.hbm, 197, rfl⟩
abbrev main_call0_call0_v137 : Ref sig .tc := ⟨.hbm, 198, rfl⟩
abbrev main_call0_call0_v138 : Ref sig .tc := ⟨.hbm, 199, rfl⟩
abbrev main_call0_call0_v139 : Ref sig .tc := ⟨.hbm, 200, rfl⟩
abbrev main_call0_call0_c_35 : Ref sig .tc := ⟨.hbm, 201, rfl⟩
abbrev main_call0_call0_v140 : Ref sig .tc := ⟨.hbm, 202, rfl⟩
abbrev main_call0_call0_v141 : Ref sig .tc := ⟨.hbm, 203, rfl⟩
abbrev main_call0_call0_v142 : Ref sig .tc := ⟨.hbm, 204, rfl⟩
abbrev main_call0_call0_c_36 : Ref sig .tc := ⟨.hbm, 205, rfl⟩
abbrev main_call0_call0_v143 : Ref sig .tc := ⟨.hbm, 206, rfl⟩
abbrev main_call0_call0_v144 : Ref sig .tc := ⟨.hbm, 207, rfl⟩
abbrev main_call0_call0_c_37 : Ref sig .tc := ⟨.hbm, 208, rfl⟩
abbrev main_call0_call0_v145 : Ref sig .tc := ⟨.hbm, 209, rfl⟩
abbrev main_call0_call0_v146 : Ref sig .tc := ⟨.hbm, 210, rfl⟩
abbrev main_call0_call0_v147 : Ref sig .tc := ⟨.hbm, 211, rfl⟩
abbrev main_call0_call0_v148 : Ref sig .tc := ⟨.hbm, 212, rfl⟩
abbrev main_call0_call0_v149 : Ref sig .tc := ⟨.hbm, 213, rfl⟩
abbrev main_call0_call0_c_38 : Ref sig .tc := ⟨.hbm, 214, rfl⟩
abbrev main_call0_call0_v150 : Ref sig .tc := ⟨.hbm, 215, rfl⟩
abbrev main_call0_call0_v151 : Ref sig .tc := ⟨.hbm, 216, rfl⟩
abbrev main_call0_call0_c_39 : Ref sig .tc := ⟨.hbm, 217, rfl⟩
abbrev main_call0_call0_v152 : Ref sig .tc := ⟨.hbm, 218, rfl⟩
abbrev main_call0_call0_v153 : Ref sig .tc := ⟨.hbm, 219, rfl⟩
abbrev main_call0_call0_v154 : Ref sig .tc := ⟨.hbm, 220, rfl⟩
abbrev main_call0_call0_v155 : Ref sig .tc := ⟨.hbm, 221, rfl⟩
abbrev main_call0_call0_v156 : Ref sig .tc := ⟨.hbm, 222, rfl⟩
abbrev main_call0_call0_c_40 : Ref sig .tc := ⟨.hbm, 223, rfl⟩
abbrev main_call0_call0_v157 : Ref sig .tc := ⟨.hbm, 224, rfl⟩
abbrev main_call0_call0_v158 : Ref sig .tc := ⟨.hbm, 225, rfl⟩
abbrev main_call0_call0_c_41 : Ref sig .tc := ⟨.hbm, 226, rfl⟩
abbrev main_call0_call0_v159 : Ref sig .tc := ⟨.hbm, 227, rfl⟩
abbrev main_call0_call0_v160 : Ref sig .tc := ⟨.hbm, 228, rfl⟩
abbrev main_call0_call0_v161 : Ref sig .tc := ⟨.hbm, 229, rfl⟩
abbrev main_call0_call0_v162 : Ref sig .tc := ⟨.hbm, 230, rfl⟩
abbrev main_call0_call0_v163 : Ref sig .tc := ⟨.hbm, 231, rfl⟩
abbrev main_call0_call0_c_42 : Ref sig .tc := ⟨.hbm, 232, rfl⟩
abbrev main_call0_call0_v164 : Ref sig .tc := ⟨.hbm, 233, rfl⟩
abbrev main_call0_call0_v165 : Ref sig .tc := ⟨.hbm, 234, rfl⟩
abbrev main_call0_call0_c_43 : Ref sig .tc := ⟨.hbm, 235, rfl⟩
abbrev main_call0_call0_v166 : Ref sig .tc := ⟨.hbm, 236, rfl⟩
abbrev main_call0_call0_v167 : Ref sig .tc := ⟨.hbm, 237, rfl⟩
abbrev main_call0_call0_v168 : Ref sig .tc := ⟨.hbm, 238, rfl⟩
abbrev main_call0_call0_v169 : Ref sig .tc := ⟨.hbm, 239, rfl⟩
abbrev main_call0_call0_v170 : Ref sig .tc := ⟨.hbm, 240, rfl⟩
abbrev main_call0_v11_0 : Ref sig .tc := ⟨.hbm, 241, rfl⟩
abbrev main_call0_call0_v172 : Ref sig .tc := ⟨.hbm, 242, rfl⟩
abbrev main_call0_call0_v173 : Ref sig .tc := ⟨.hbm, 243, rfl⟩
abbrev main_call0_call0_c_44 : Ref sig .tc := ⟨.hbm, 244, rfl⟩
abbrev main_call0_call0_v174 : Ref sig .tc := ⟨.hbm, 245, rfl⟩
abbrev main_call0_v11_1 : Ref sig .tc := ⟨.hbm, 246, rfl⟩
abbrev main_v7 : Ref sig .tc := ⟨.hbm, 247, rfl⟩
abbrev main_c_3 : Ref sig .tc := ⟨.hbm, 248, rfl⟩
abbrev main_c_4 : Ref sig .tc := ⟨.hbm, 249, rfl⟩
abbrev main_call1_c : Ref sig .tc := ⟨.hbm, 250, rfl⟩
abbrev main_call1_c_0 : Ref sig .tc := ⟨.hbm, 251, rfl⟩
abbrev main_call1_c_1 : Ref sig .tc := ⟨.hbm, 252, rfl⟩
abbrev main_call1_call0_v0 : Ref sig .tc := ⟨.hbm, 253, rfl⟩
abbrev main_call1_v0 : Ref sig .tc := ⟨.hbm, 254, rfl⟩
abbrev main_call1_v1 : Ref sig .tc := ⟨.hbm, 255, rfl⟩
abbrev main_call1_c_2 : Ref sig .tc := ⟨.hbm, 256, rfl⟩
abbrev main_call1_c_3 : Ref sig .tc := ⟨.hbm, 257, rfl⟩
abbrev main_call1_call1_v0 : Ref sig .tc := ⟨.hbm, 258, rfl⟩
abbrev main_call1_v2 : Ref sig .tc := ⟨.hbm, 259, rfl⟩
abbrev main_call1_v3 : Ref sig .tc := ⟨.hbm, 260, rfl⟩
abbrev main_call1_c_4 : Ref sig .tc := ⟨.hbm, 261, rfl⟩
abbrev main_call1_c_5 : Ref sig .tc := ⟨.hbm, 262, rfl⟩
abbrev main_call1_call2_v0 : Ref sig .tc := ⟨.hbm, 263, rfl⟩
abbrev main_call1_v4 : Ref sig .tc := ⟨.hbm, 264, rfl⟩
abbrev main_call1_v5 : Ref sig .tc := ⟨.hbm, 265, rfl⟩
abbrev main_call1_v6 : Ref sig .tc := ⟨.hbm, 266, rfl⟩
abbrev main_call1_v7 : Ref sig .tc := ⟨.hbm, 267, rfl⟩
abbrev main_call1_call3_v0 : Ref sig .tc := ⟨.hbm, 268, rfl⟩
abbrev main_call1_call3_v1 : Ref sig .tc := ⟨.hbm, 269, rfl⟩
abbrev main_call1_call3_v2 : Ref sig .tc := ⟨.hbm, 270, rfl⟩
abbrev main_call1_call3_v3 : Ref sig .tc := ⟨.hbm, 271, rfl⟩
abbrev main_call1_call3_v4 : Ref sig .tc := ⟨.hbm, 272, rfl⟩
abbrev main_call1_call3_c : Ref sig .tc := ⟨.hbm, 273, rfl⟩
abbrev main_call1_call3_v5 : Ref sig .tc := ⟨.hbm, 274, rfl⟩
abbrev main_call1_call3_v6 : Ref sig .tc := ⟨.hbm, 275, rfl⟩
abbrev main_call1_call3_c_0 : Ref sig .tc := ⟨.hbm, 276, rfl⟩
abbrev main_call1_call3_v7 : Ref sig .tc := ⟨.hbm, 277, rfl⟩
abbrev main_call1_call3_v8 : Ref sig .tc := ⟨.hbm, 278, rfl⟩
abbrev main_call1_call3_v9 : Ref sig .tc := ⟨.hbm, 279, rfl⟩
abbrev main_call1_call3_v10 : Ref sig .tc := ⟨.hbm, 280, rfl⟩
abbrev main_call1_call3_call0_v0 : Ref sig .tc := ⟨.hbm, 281, rfl⟩
abbrev main_call1_call3_call0_c : Ref sig .tc := ⟨.hbm, 282, rfl⟩
abbrev main_call1_call3_call0_v1 : Ref sig .tc := ⟨.hbm, 283, rfl⟩
abbrev main_call1_call3_call0_v2 : Ref sig .tc := ⟨.hbm, 284, rfl⟩
abbrev main_call1_call3_call0_v3 : Ref sig .tc := ⟨.hbm, 285, rfl⟩
abbrev main_call1_call3_call0_v4 : Ref sig .tc := ⟨.hbm, 286, rfl⟩
abbrev main_call1_call3_call0_v5 : Ref sig .tc := ⟨.hbm, 287, rfl⟩
abbrev main_call1_call3_call0_v6 : Ref sig .tc := ⟨.hbm, 288, rfl⟩
abbrev main_call1_call3_call0_c_0 : Ref sig .tc := ⟨.hbm, 289, rfl⟩
abbrev main_call1_call3_call0_v7 : Ref sig .tc := ⟨.hbm, 290, rfl⟩
abbrev main_call1_call3_call0_v8 : Ref sig .tc := ⟨.hbm, 291, rfl⟩
abbrev main_call1_call3_call0_c_1 : Ref sig .tc := ⟨.hbm, 292, rfl⟩
abbrev main_call1_call3_call0_v9 : Ref sig .tc := ⟨.hbm, 293, rfl⟩
abbrev main_call1_call3_call0_v10 : Ref sig .tc := ⟨.hbm, 294, rfl⟩
abbrev main_call1_call3_call0_v11 : Ref sig .tc := ⟨.hbm, 295, rfl⟩
abbrev main_call1_call3_call0_v12 : Ref sig .tc := ⟨.hbm, 296, rfl⟩
abbrev main_call1_call3_call0_v13 : Ref sig .tc := ⟨.hbm, 297, rfl⟩
abbrev main_call1_call3_call0_c_2 : Ref sig .tc := ⟨.hbm, 298, rfl⟩
abbrev main_call1_call3_call0_v14 : Ref sig .tc := ⟨.hbm, 299, rfl⟩
abbrev main_call1_call3_call0_v15 : Ref sig .tc := ⟨.hbm, 300, rfl⟩
abbrev main_call1_call3_call0_c_3 : Ref sig .tc := ⟨.hbm, 301, rfl⟩
abbrev main_call1_call3_call0_v16 : Ref sig .tc := ⟨.hbm, 302, rfl⟩
abbrev main_call1_call3_call0_v17 : Ref sig .tc := ⟨.hbm, 303, rfl⟩
abbrev main_call1_call3_call0_v18 : Ref sig .tc := ⟨.hbm, 304, rfl⟩
abbrev main_call1_call3_call0_v19 : Ref sig .tc := ⟨.hbm, 305, rfl⟩
abbrev main_call1_call3_call0_v20 : Ref sig .tc := ⟨.hbm, 306, rfl⟩
abbrev main_call1_call3_call0_c_4 : Ref sig .tc := ⟨.hbm, 307, rfl⟩
abbrev main_call1_call3_call0_v21 : Ref sig .tc := ⟨.hbm, 308, rfl⟩
abbrev main_call1_call3_call0_v22 : Ref sig .tc := ⟨.hbm, 309, rfl⟩
abbrev main_call1_call3_call0_c_5 : Ref sig .tc := ⟨.hbm, 310, rfl⟩
abbrev main_call1_call3_call0_v23 : Ref sig .tc := ⟨.hbm, 311, rfl⟩
abbrev main_call1_call3_call0_v24 : Ref sig .tc := ⟨.hbm, 312, rfl⟩
abbrev main_call1_call3_call0_v25 : Ref sig .tc := ⟨.hbm, 313, rfl⟩
abbrev main_call1_call3_call0_v26 : Ref sig .tc := ⟨.hbm, 314, rfl⟩
abbrev main_call1_call3_call0_v27 : Ref sig .tc := ⟨.hbm, 315, rfl⟩
abbrev main_call1_call3_call0_c_6 : Ref sig .tc := ⟨.hbm, 316, rfl⟩
abbrev main_call1_call3_call0_v28 : Ref sig .tc := ⟨.hbm, 317, rfl⟩
abbrev main_call1_call3_call0_v29 : Ref sig .tc := ⟨.hbm, 318, rfl⟩
abbrev main_call1_call3_call0_c_7 : Ref sig .tc := ⟨.hbm, 319, rfl⟩
abbrev main_call1_call3_call0_v30 : Ref sig .tc := ⟨.hbm, 320, rfl⟩
abbrev main_call1_call3_call0_v31 : Ref sig .tc := ⟨.hbm, 321, rfl⟩
abbrev main_call1_call3_call0_v32 : Ref sig .tc := ⟨.hbm, 322, rfl⟩
abbrev main_call1_call3_call0_v33 : Ref sig .tc := ⟨.hbm, 323, rfl⟩
abbrev main_call1_call3_call0_v34 : Ref sig .tc := ⟨.hbm, 324, rfl⟩
abbrev main_call1_call3_call0_v35 : Ref sig .tc := ⟨.hbm, 325, rfl⟩
abbrev main_call1_call3_call0_v36 : Ref sig .tc := ⟨.hbm, 326, rfl⟩
abbrev main_call1_call3_call0_v37 : Ref sig .tc := ⟨.hbm, 327, rfl⟩
abbrev main_call1_call3_call0_c_8 : Ref sig .tc := ⟨.hbm, 328, rfl⟩
abbrev main_call1_call3_call0_v38 : Ref sig .tc := ⟨.hbm, 329, rfl⟩
abbrev main_call1_call3_call0_v39 : Ref sig .tc := ⟨.hbm, 330, rfl⟩
abbrev main_call1_call3_call0_v40 : Ref sig .tc := ⟨.hbm, 331, rfl⟩
abbrev main_call1_call3_call0_c_9 : Ref sig .tc := ⟨.hbm, 332, rfl⟩
abbrev main_call1_call3_call0_v41 : Ref sig .tc := ⟨.hbm, 333, rfl⟩
abbrev main_call1_call3_call0_v42 : Ref sig .tc := ⟨.hbm, 334, rfl⟩
abbrev main_call1_call3_call0_c_10 : Ref sig .tc := ⟨.hbm, 335, rfl⟩
abbrev main_call1_call3_call0_v43 : Ref sig .tc := ⟨.hbm, 336, rfl⟩
abbrev main_call1_call3_call0_v44 : Ref sig .tc := ⟨.hbm, 337, rfl⟩
abbrev main_call1_call3_call0_v45 : Ref sig .tc := ⟨.hbm, 338, rfl⟩
abbrev main_call1_call3_call0_v46 : Ref sig .tc := ⟨.hbm, 339, rfl⟩
abbrev main_call1_call3_call0_v47 : Ref sig .tc := ⟨.hbm, 340, rfl⟩
abbrev main_call1_call3_call0_c_11 : Ref sig .tc := ⟨.hbm, 341, rfl⟩
abbrev main_call1_call3_call0_v48 : Ref sig .tc := ⟨.hbm, 342, rfl⟩
abbrev main_call1_call3_call0_v49 : Ref sig .tc := ⟨.hbm, 343, rfl⟩
abbrev main_call1_call3_call0_c_12 : Ref sig .tc := ⟨.hbm, 344, rfl⟩
abbrev main_call1_call3_call0_v50 : Ref sig .tc := ⟨.hbm, 345, rfl⟩
abbrev main_call1_call3_call0_v51 : Ref sig .tc := ⟨.hbm, 346, rfl⟩
abbrev main_call1_call3_call0_v52 : Ref sig .tc := ⟨.hbm, 347, rfl⟩
abbrev main_call1_call3_call0_v53 : Ref sig .tc := ⟨.hbm, 348, rfl⟩
abbrev main_call1_call3_call0_v54 : Ref sig .tc := ⟨.hbm, 349, rfl⟩
abbrev main_call1_call3_call0_c_13 : Ref sig .tc := ⟨.hbm, 350, rfl⟩
abbrev main_call1_call3_call0_v55 : Ref sig .tc := ⟨.hbm, 351, rfl⟩
abbrev main_call1_call3_call0_v56 : Ref sig .tc := ⟨.hbm, 352, rfl⟩
abbrev main_call1_call3_call0_c_14 : Ref sig .tc := ⟨.hbm, 353, rfl⟩
abbrev main_call1_call3_call0_v57 : Ref sig .tc := ⟨.hbm, 354, rfl⟩
abbrev main_call1_call3_call0_v58 : Ref sig .tc := ⟨.hbm, 355, rfl⟩
abbrev main_call1_call3_call0_v59 : Ref sig .tc := ⟨.hbm, 356, rfl⟩
abbrev main_call1_call3_call0_v60 : Ref sig .tc := ⟨.hbm, 357, rfl⟩
abbrev main_call1_call3_call0_v61 : Ref sig .tc := ⟨.hbm, 358, rfl⟩
abbrev main_call1_call3_call0_c_15 : Ref sig .tc := ⟨.hbm, 359, rfl⟩
abbrev main_call1_call3_call0_v62 : Ref sig .tc := ⟨.hbm, 360, rfl⟩
abbrev main_call1_call3_call0_v63 : Ref sig .tc := ⟨.hbm, 361, rfl⟩
abbrev main_call1_call3_call0_c_16 : Ref sig .tc := ⟨.hbm, 362, rfl⟩
abbrev main_call1_call3_call0_v64 : Ref sig .tc := ⟨.hbm, 363, rfl⟩
abbrev main_call1_call3_call0_v65 : Ref sig .tc := ⟨.hbm, 364, rfl⟩
abbrev main_call1_call3_call0_v66 : Ref sig .tc := ⟨.hbm, 365, rfl⟩
abbrev main_call1_call3_call0_v67 : Ref sig .tc := ⟨.hbm, 366, rfl⟩
abbrev main_call1_call3_call0_v68 : Ref sig .tc := ⟨.hbm, 367, rfl⟩
abbrev main_call1_call3_call0_v69 : Ref sig .tc := ⟨.hbm, 368, rfl⟩
abbrev main_call1_call3_call0_v70 : Ref sig .tc := ⟨.hbm, 369, rfl⟩
abbrev main_call1_call3_call0_v71 : Ref sig .tc := ⟨.hbm, 370, rfl⟩
abbrev main_call1_call3_call0_c_17 : Ref sig .tc := ⟨.hbm, 371, rfl⟩
abbrev main_call1_call3_call0_v72 : Ref sig .tc := ⟨.hbm, 372, rfl⟩
abbrev main_call1_call3_call0_v73 : Ref sig .tc := ⟨.hbm, 373, rfl⟩
abbrev main_call1_call3_call0_v74 : Ref sig .tc := ⟨.hbm, 374, rfl⟩
abbrev main_call1_call3_call0_c_18 : Ref sig .tc := ⟨.hbm, 375, rfl⟩
abbrev main_call1_call3_call0_v75 : Ref sig .tc := ⟨.hbm, 376, rfl⟩
abbrev main_call1_call3_call0_v76 : Ref sig .tc := ⟨.hbm, 377, rfl⟩
abbrev main_call1_call3_call0_c_19 : Ref sig .tc := ⟨.hbm, 378, rfl⟩
abbrev main_call1_call3_call0_v77 : Ref sig .tc := ⟨.hbm, 379, rfl⟩
abbrev main_call1_call3_call0_v78 : Ref sig .tc := ⟨.hbm, 380, rfl⟩
abbrev main_call1_call3_call0_v79 : Ref sig .tc := ⟨.hbm, 381, rfl⟩
abbrev main_call1_call3_call0_v80 : Ref sig .tc := ⟨.hbm, 382, rfl⟩
abbrev main_call1_call3_call0_v81 : Ref sig .tc := ⟨.hbm, 383, rfl⟩
abbrev main_call1_call3_call0_c_20 : Ref sig .tc := ⟨.hbm, 384, rfl⟩
abbrev main_call1_call3_call0_v82 : Ref sig .tc := ⟨.hbm, 385, rfl⟩
abbrev main_call1_call3_call0_v83 : Ref sig .tc := ⟨.hbm, 386, rfl⟩
abbrev main_call1_call3_call0_c_21 : Ref sig .tc := ⟨.hbm, 387, rfl⟩
abbrev main_call1_call3_call0_v84 : Ref sig .tc := ⟨.hbm, 388, rfl⟩
abbrev main_call1_call3_call0_v85 : Ref sig .tc := ⟨.hbm, 389, rfl⟩
abbrev main_call1_call3_call0_v86 : Ref sig .tc := ⟨.hbm, 390, rfl⟩
abbrev main_call1_call3_call0_v87 : Ref sig .tc := ⟨.hbm, 391, rfl⟩
abbrev main_call1_call3_call0_v88 : Ref sig .tc := ⟨.hbm, 392, rfl⟩
abbrev main_call1_call3_call0_c_22 : Ref sig .tc := ⟨.hbm, 393, rfl⟩
abbrev main_call1_call3_call0_v89 : Ref sig .tc := ⟨.hbm, 394, rfl⟩
abbrev main_call1_call3_call0_v90 : Ref sig .tc := ⟨.hbm, 395, rfl⟩
abbrev main_call1_call3_call0_c_23 : Ref sig .tc := ⟨.hbm, 396, rfl⟩
abbrev main_call1_call3_call0_v91 : Ref sig .tc := ⟨.hbm, 397, rfl⟩
abbrev main_call1_call3_call0_v92 : Ref sig .tc := ⟨.hbm, 398, rfl⟩
abbrev main_call1_call3_call0_v93 : Ref sig .tc := ⟨.hbm, 399, rfl⟩
abbrev main_call1_call3_call0_v94 : Ref sig .tc := ⟨.hbm, 400, rfl⟩
abbrev main_call1_call3_call0_v95 : Ref sig .tc := ⟨.hbm, 401, rfl⟩
abbrev main_call1_call3_call0_c_24 : Ref sig .tc := ⟨.hbm, 402, rfl⟩
abbrev main_call1_call3_call0_v96 : Ref sig .tc := ⟨.hbm, 403, rfl⟩
abbrev main_call1_call3_call0_v97 : Ref sig .tc := ⟨.hbm, 404, rfl⟩
abbrev main_call1_call3_call0_c_25 : Ref sig .tc := ⟨.hbm, 405, rfl⟩
abbrev main_call1_call3_call0_v98 : Ref sig .tc := ⟨.hbm, 406, rfl⟩
abbrev main_call1_call3_call0_v99 : Ref sig .tc := ⟨.hbm, 407, rfl⟩
abbrev main_call1_call3_call0_v100 : Ref sig .tc := ⟨.hbm, 408, rfl⟩
abbrev main_call1_call3_call0_v101 : Ref sig .tc := ⟨.hbm, 409, rfl⟩
abbrev main_call1_call3_call0_v102 : Ref sig .tc := ⟨.hbm, 410, rfl⟩
abbrev main_call1_call3_call0_v103 : Ref sig .tc := ⟨.hbm, 411, rfl⟩
abbrev main_call1_call3_call0_v104 : Ref sig .tc := ⟨.hbm, 412, rfl⟩
abbrev main_call1_call3_call0_v105 : Ref sig .tc := ⟨.hbm, 413, rfl⟩
abbrev main_call1_call3_call0_c_26 : Ref sig .tc := ⟨.hbm, 414, rfl⟩
abbrev main_call1_call3_call0_v106 : Ref sig .tc := ⟨.hbm, 415, rfl⟩
abbrev main_call1_call3_call0_v107 : Ref sig .tc := ⟨.hbm, 416, rfl⟩
abbrev main_call1_call3_call0_v108 : Ref sig .tc := ⟨.hbm, 417, rfl⟩
abbrev main_call1_call3_call0_c_27 : Ref sig .tc := ⟨.hbm, 418, rfl⟩
abbrev main_call1_call3_call0_v109 : Ref sig .tc := ⟨.hbm, 419, rfl⟩
abbrev main_call1_call3_call0_v110 : Ref sig .tc := ⟨.hbm, 420, rfl⟩
abbrev main_call1_call3_call0_c_28 : Ref sig .tc := ⟨.hbm, 421, rfl⟩
abbrev main_call1_call3_call0_v111 : Ref sig .tc := ⟨.hbm, 422, rfl⟩
abbrev main_call1_call3_call0_v112 : Ref sig .tc := ⟨.hbm, 423, rfl⟩
abbrev main_call1_call3_call0_v113 : Ref sig .tc := ⟨.hbm, 424, rfl⟩
abbrev main_call1_call3_call0_v114 : Ref sig .tc := ⟨.hbm, 425, rfl⟩
abbrev main_call1_call3_call0_v115 : Ref sig .tc := ⟨.hbm, 426, rfl⟩
abbrev main_call1_call3_call0_c_29 : Ref sig .tc := ⟨.hbm, 427, rfl⟩
abbrev main_call1_call3_call0_v116 : Ref sig .tc := ⟨.hbm, 428, rfl⟩
abbrev main_call1_call3_call0_v117 : Ref sig .tc := ⟨.hbm, 429, rfl⟩
abbrev main_call1_call3_call0_c_30 : Ref sig .tc := ⟨.hbm, 430, rfl⟩
abbrev main_call1_call3_call0_v118 : Ref sig .tc := ⟨.hbm, 431, rfl⟩
abbrev main_call1_call3_call0_v119 : Ref sig .tc := ⟨.hbm, 432, rfl⟩
abbrev main_call1_call3_call0_v120 : Ref sig .tc := ⟨.hbm, 433, rfl⟩
abbrev main_call1_call3_call0_v121 : Ref sig .tc := ⟨.hbm, 434, rfl⟩
abbrev main_call1_call3_call0_v122 : Ref sig .tc := ⟨.hbm, 435, rfl⟩
abbrev main_call1_call3_call0_c_31 : Ref sig .tc := ⟨.hbm, 436, rfl⟩
abbrev main_call1_call3_call0_v123 : Ref sig .tc := ⟨.hbm, 437, rfl⟩
abbrev main_call1_call3_call0_v124 : Ref sig .tc := ⟨.hbm, 438, rfl⟩
abbrev main_call1_call3_call0_c_32 : Ref sig .tc := ⟨.hbm, 439, rfl⟩
abbrev main_call1_call3_call0_v125 : Ref sig .tc := ⟨.hbm, 440, rfl⟩
abbrev main_call1_call3_call0_v126 : Ref sig .tc := ⟨.hbm, 441, rfl⟩
abbrev main_call1_call3_call0_v127 : Ref sig .tc := ⟨.hbm, 442, rfl⟩
abbrev main_call1_call3_call0_v128 : Ref sig .tc := ⟨.hbm, 443, rfl⟩
abbrev main_call1_call3_call0_v129 : Ref sig .tc := ⟨.hbm, 444, rfl⟩
abbrev main_call1_call3_call0_c_33 : Ref sig .tc := ⟨.hbm, 445, rfl⟩
abbrev main_call1_call3_call0_v130 : Ref sig .tc := ⟨.hbm, 446, rfl⟩
abbrev main_call1_call3_call0_v131 : Ref sig .tc := ⟨.hbm, 447, rfl⟩
abbrev main_call1_call3_call0_c_34 : Ref sig .tc := ⟨.hbm, 448, rfl⟩
abbrev main_call1_call3_call0_v132 : Ref sig .tc := ⟨.hbm, 449, rfl⟩
abbrev main_call1_call3_call0_v133 : Ref sig .tc := ⟨.hbm, 450, rfl⟩
abbrev main_call1_call3_call0_v134 : Ref sig .tc := ⟨.hbm, 451, rfl⟩
abbrev main_call1_call3_call0_v135 : Ref sig .tc := ⟨.hbm, 452, rfl⟩
abbrev main_call1_call3_call0_v136 : Ref sig .tc := ⟨.hbm, 453, rfl⟩
abbrev main_call1_call3_call0_v137 : Ref sig .tc := ⟨.hbm, 454, rfl⟩
abbrev main_call1_call3_call0_v138 : Ref sig .tc := ⟨.hbm, 455, rfl⟩
abbrev main_call1_call3_call0_v139 : Ref sig .tc := ⟨.hbm, 456, rfl⟩
abbrev main_call1_call3_call0_c_35 : Ref sig .tc := ⟨.hbm, 457, rfl⟩
abbrev main_call1_call3_call0_v140 : Ref sig .tc := ⟨.hbm, 458, rfl⟩
abbrev main_call1_call3_call0_v141 : Ref sig .tc := ⟨.hbm, 459, rfl⟩
abbrev main_call1_call3_call0_v142 : Ref sig .tc := ⟨.hbm, 460, rfl⟩
abbrev main_call1_call3_call0_c_36 : Ref sig .tc := ⟨.hbm, 461, rfl⟩
abbrev main_call1_call3_call0_v143 : Ref sig .tc := ⟨.hbm, 462, rfl⟩
abbrev main_call1_call3_call0_v144 : Ref sig .tc := ⟨.hbm, 463, rfl⟩
abbrev main_call1_call3_call0_c_37 : Ref sig .tc := ⟨.hbm, 464, rfl⟩
abbrev main_call1_call3_call0_v145 : Ref sig .tc := ⟨.hbm, 465, rfl⟩
abbrev main_call1_call3_call0_v146 : Ref sig .tc := ⟨.hbm, 466, rfl⟩
abbrev main_call1_call3_call0_v147 : Ref sig .tc := ⟨.hbm, 467, rfl⟩
abbrev main_call1_call3_call0_v148 : Ref sig .tc := ⟨.hbm, 468, rfl⟩
abbrev main_call1_call3_call0_v149 : Ref sig .tc := ⟨.hbm, 469, rfl⟩
abbrev main_call1_call3_call0_c_38 : Ref sig .tc := ⟨.hbm, 470, rfl⟩
abbrev main_call1_call3_call0_v150 : Ref sig .tc := ⟨.hbm, 471, rfl⟩
abbrev main_call1_call3_call0_v151 : Ref sig .tc := ⟨.hbm, 472, rfl⟩
abbrev main_call1_call3_call0_c_39 : Ref sig .tc := ⟨.hbm, 473, rfl⟩
abbrev main_call1_call3_call0_v152 : Ref sig .tc := ⟨.hbm, 474, rfl⟩
abbrev main_call1_call3_call0_v153 : Ref sig .tc := ⟨.hbm, 475, rfl⟩
abbrev main_call1_call3_call0_v154 : Ref sig .tc := ⟨.hbm, 476, rfl⟩
abbrev main_call1_call3_call0_v155 : Ref sig .tc := ⟨.hbm, 477, rfl⟩
abbrev main_call1_call3_call0_v156 : Ref sig .tc := ⟨.hbm, 478, rfl⟩
abbrev main_call1_call3_call0_c_40 : Ref sig .tc := ⟨.hbm, 479, rfl⟩
abbrev main_call1_call3_call0_v157 : Ref sig .tc := ⟨.hbm, 480, rfl⟩
abbrev main_call1_call3_call0_v158 : Ref sig .tc := ⟨.hbm, 481, rfl⟩
abbrev main_call1_call3_call0_c_41 : Ref sig .tc := ⟨.hbm, 482, rfl⟩
abbrev main_call1_call3_call0_v159 : Ref sig .tc := ⟨.hbm, 483, rfl⟩
abbrev main_call1_call3_call0_v160 : Ref sig .tc := ⟨.hbm, 484, rfl⟩
abbrev main_call1_call3_call0_v161 : Ref sig .tc := ⟨.hbm, 485, rfl⟩
abbrev main_call1_call3_call0_v162 : Ref sig .tc := ⟨.hbm, 486, rfl⟩
abbrev main_call1_call3_call0_v163 : Ref sig .tc := ⟨.hbm, 487, rfl⟩
abbrev main_call1_call3_call0_c_42 : Ref sig .tc := ⟨.hbm, 488, rfl⟩
abbrev main_call1_call3_call0_v164 : Ref sig .tc := ⟨.hbm, 489, rfl⟩
abbrev main_call1_call3_call0_v165 : Ref sig .tc := ⟨.hbm, 490, rfl⟩
abbrev main_call1_call3_call0_c_43 : Ref sig .tc := ⟨.hbm, 491, rfl⟩
abbrev main_call1_call3_call0_v166 : Ref sig .tc := ⟨.hbm, 492, rfl⟩
abbrev main_call1_call3_call0_v167 : Ref sig .tc := ⟨.hbm, 493, rfl⟩
abbrev main_call1_call3_call0_v168 : Ref sig .tc := ⟨.hbm, 494, rfl⟩
abbrev main_call1_call3_call0_v169 : Ref sig .tc := ⟨.hbm, 495, rfl⟩
abbrev main_call1_call3_call0_v170 : Ref sig .tc := ⟨.hbm, 496, rfl⟩
abbrev main_call1_call3_v11_0 : Ref sig .tc := ⟨.hbm, 497, rfl⟩
abbrev main_call1_call3_call0_v172 : Ref sig .tc := ⟨.hbm, 498, rfl⟩
abbrev main_call1_call3_call0_v173 : Ref sig .tc := ⟨.hbm, 499, rfl⟩
abbrev main_call1_call3_call0_c_44 : Ref sig .tc := ⟨.hbm, 500, rfl⟩
abbrev main_call1_call3_call0_v174 : Ref sig .tc := ⟨.hbm, 501, rfl⟩
abbrev main_call1_call3_v11_1 : Ref sig .tc := ⟨.hbm, 502, rfl⟩
abbrev main_call1_call3_v12 : Ref sig .tc := ⟨.hbm, 503, rfl⟩
abbrev main_call1_call3_v13 : Ref sig .tc := ⟨.hbm, 504, rfl⟩
abbrev main_call1_v8 : Ref sig .tc := ⟨.hbm, 505, rfl⟩
abbrev main_call1_v9 : Ref sig .tc := ⟨.hbm, 506, rfl⟩
abbrev main_call1_v10 : Ref sig .tc := ⟨.hbm, 507, rfl⟩
abbrev main_call1_v11 : Ref sig .tc := ⟨.hbm, 508, rfl⟩
abbrev main_call1_v12 : Ref sig .tc := ⟨.hbm, 509, rfl⟩
abbrev main_call1_v13 : Ref sig .tc := ⟨.hbm, 510, rfl⟩
abbrev main_call1_v14 : Ref sig .tc := ⟨.hbm, 511, rfl⟩
abbrev main_call1_v15 : Ref sig .tc := ⟨.hbm, 512, rfl⟩
abbrev main_call1_v16 : Ref sig .tc := ⟨.hbm, 513, rfl⟩
abbrev main_call1_v17 : Ref sig .tc := ⟨.hbm, 514, rfl⟩
abbrev main_call1_c_6 : Ref sig .tc := ⟨.hbm, 515, rfl⟩
abbrev main_call1_v18 : Ref sig .tc := ⟨.hbm, 516, rfl⟩
abbrev main_call1_v19 : Ref sig .tc := ⟨.hbm, 517, rfl⟩
abbrev main_call1_c_7 : Ref sig .tc := ⟨.hbm, 518, rfl⟩
abbrev main_call1_v20 : Ref sig .tc := ⟨.hbm, 519, rfl⟩
abbrev main_call1_v21 : Ref sig .tc := ⟨.hbm, 520, rfl⟩
abbrev main_call1_v22 : Ref sig .tc := ⟨.hbm, 521, rfl⟩
abbrev main_call1_v23 : Ref sig .tc := ⟨.hbm, 522, rfl⟩
abbrev main_call1_call4_v0 : Ref sig .tc := ⟨.hbm, 523, rfl⟩
abbrev main_call1_call4_c : Ref sig .tc := ⟨.hbm, 524, rfl⟩
abbrev main_call1_call4_v1 : Ref sig .tc := ⟨.hbm, 525, rfl⟩
abbrev main_call1_call4_v2 : Ref sig .tc := ⟨.hbm, 526, rfl⟩
abbrev main_call1_call4_v3 : Ref sig .tc := ⟨.hbm, 527, rfl⟩
abbrev main_call1_call4_v4 : Ref sig .tc := ⟨.hbm, 528, rfl⟩
abbrev main_call1_call4_v5 : Ref sig .tc := ⟨.hbm, 529, rfl⟩
abbrev main_call1_call4_v6 : Ref sig .tc := ⟨.hbm, 530, rfl⟩
abbrev main_call1_call4_c_0 : Ref sig .tc := ⟨.hbm, 531, rfl⟩
abbrev main_call1_call4_v7 : Ref sig .tc := ⟨.hbm, 532, rfl⟩
abbrev main_call1_call4_v8 : Ref sig .tc := ⟨.hbm, 533, rfl⟩
abbrev main_call1_call4_c_1 : Ref sig .tc := ⟨.hbm, 534, rfl⟩
abbrev main_call1_call4_v9 : Ref sig .tc := ⟨.hbm, 535, rfl⟩
abbrev main_call1_call4_v10 : Ref sig .tc := ⟨.hbm, 536, rfl⟩
abbrev main_call1_call4_v11 : Ref sig .tc := ⟨.hbm, 537, rfl⟩
abbrev main_call1_call4_v12 : Ref sig .tc := ⟨.hbm, 538, rfl⟩
abbrev main_call1_call4_v13 : Ref sig .tc := ⟨.hbm, 539, rfl⟩
abbrev main_call1_call4_c_2 : Ref sig .tc := ⟨.hbm, 540, rfl⟩
abbrev main_call1_call4_v14 : Ref sig .tc := ⟨.hbm, 541, rfl⟩
abbrev main_call1_call4_v15 : Ref sig .tc := ⟨.hbm, 542, rfl⟩
abbrev main_call1_call4_c_3 : Ref sig .tc := ⟨.hbm, 543, rfl⟩
abbrev main_call1_call4_v16 : Ref sig .tc := ⟨.hbm, 544, rfl⟩
abbrev main_call1_call4_v17 : Ref sig .tc := ⟨.hbm, 545, rfl⟩
abbrev main_call1_call4_v18 : Ref sig .tc := ⟨.hbm, 546, rfl⟩
abbrev main_call1_call4_v19 : Ref sig .tc := ⟨.hbm, 547, rfl⟩
abbrev main_call1_call4_v20 : Ref sig .tc := ⟨.hbm, 548, rfl⟩
abbrev main_call1_call4_c_4 : Ref sig .tc := ⟨.hbm, 549, rfl⟩
abbrev main_call1_call4_v21 : Ref sig .tc := ⟨.hbm, 550, rfl⟩
abbrev main_call1_call4_v22 : Ref sig .tc := ⟨.hbm, 551, rfl⟩
abbrev main_call1_call4_c_5 : Ref sig .tc := ⟨.hbm, 552, rfl⟩
abbrev main_call1_call4_v23 : Ref sig .tc := ⟨.hbm, 553, rfl⟩
abbrev main_call1_call4_v24 : Ref sig .tc := ⟨.hbm, 554, rfl⟩
abbrev main_call1_call4_v25 : Ref sig .tc := ⟨.hbm, 555, rfl⟩
abbrev main_call1_call4_v26 : Ref sig .tc := ⟨.hbm, 556, rfl⟩
abbrev main_call1_call4_v27 : Ref sig .tc := ⟨.hbm, 557, rfl⟩
abbrev main_call1_call4_c_6 : Ref sig .tc := ⟨.hbm, 558, rfl⟩
abbrev main_call1_call4_v28 : Ref sig .tc := ⟨.hbm, 559, rfl⟩
abbrev main_call1_call4_v29 : Ref sig .tc := ⟨.hbm, 560, rfl⟩
abbrev main_call1_call4_c_7 : Ref sig .tc := ⟨.hbm, 561, rfl⟩
abbrev main_call1_call4_v30 : Ref sig .tc := ⟨.hbm, 562, rfl⟩
abbrev main_call1_call4_v31 : Ref sig .tc := ⟨.hbm, 563, rfl⟩
abbrev main_call1_call4_v32 : Ref sig .tc := ⟨.hbm, 564, rfl⟩
abbrev main_call1_call4_v33 : Ref sig .tc := ⟨.hbm, 565, rfl⟩
abbrev main_call1_call4_v34 : Ref sig .tc := ⟨.hbm, 566, rfl⟩
abbrev main_call1_call4_v35 : Ref sig .tc := ⟨.hbm, 567, rfl⟩
abbrev main_call1_call4_v36 : Ref sig .tc := ⟨.hbm, 568, rfl⟩
abbrev main_call1_call4_v37 : Ref sig .tc := ⟨.hbm, 569, rfl⟩
abbrev main_call1_call4_c_8 : Ref sig .tc := ⟨.hbm, 570, rfl⟩
abbrev main_call1_call4_v38 : Ref sig .tc := ⟨.hbm, 571, rfl⟩
abbrev main_call1_call4_v39 : Ref sig .tc := ⟨.hbm, 572, rfl⟩
abbrev main_call1_call4_v40 : Ref sig .tc := ⟨.hbm, 573, rfl⟩
abbrev main_call1_call4_c_9 : Ref sig .tc := ⟨.hbm, 574, rfl⟩
abbrev main_call1_call4_v41 : Ref sig .tc := ⟨.hbm, 575, rfl⟩
abbrev main_call1_call4_v42 : Ref sig .tc := ⟨.hbm, 576, rfl⟩
abbrev main_call1_call4_c_10 : Ref sig .tc := ⟨.hbm, 577, rfl⟩
abbrev main_call1_call4_v43 : Ref sig .tc := ⟨.hbm, 578, rfl⟩
abbrev main_call1_call4_v44 : Ref sig .tc := ⟨.hbm, 579, rfl⟩
abbrev main_call1_call4_v45 : Ref sig .tc := ⟨.hbm, 580, rfl⟩
abbrev main_call1_call4_v46 : Ref sig .tc := ⟨.hbm, 581, rfl⟩
abbrev main_call1_call4_v47 : Ref sig .tc := ⟨.hbm, 582, rfl⟩
abbrev main_call1_call4_c_11 : Ref sig .tc := ⟨.hbm, 583, rfl⟩
abbrev main_call1_call4_v48 : Ref sig .tc := ⟨.hbm, 584, rfl⟩
abbrev main_call1_call4_v49 : Ref sig .tc := ⟨.hbm, 585, rfl⟩
abbrev main_call1_call4_c_12 : Ref sig .tc := ⟨.hbm, 586, rfl⟩
abbrev main_call1_call4_v50 : Ref sig .tc := ⟨.hbm, 587, rfl⟩
abbrev main_call1_call4_v51 : Ref sig .tc := ⟨.hbm, 588, rfl⟩
abbrev main_call1_call4_v52 : Ref sig .tc := ⟨.hbm, 589, rfl⟩
abbrev main_call1_call4_v53 : Ref sig .tc := ⟨.hbm, 590, rfl⟩
abbrev main_call1_call4_v54 : Ref sig .tc := ⟨.hbm, 591, rfl⟩
abbrev main_call1_call4_c_13 : Ref sig .tc := ⟨.hbm, 592, rfl⟩
abbrev main_call1_call4_v55 : Ref sig .tc := ⟨.hbm, 593, rfl⟩
abbrev main_call1_call4_v56 : Ref sig .tc := ⟨.hbm, 594, rfl⟩
abbrev main_call1_call4_c_14 : Ref sig .tc := ⟨.hbm, 595, rfl⟩
abbrev main_call1_call4_v57 : Ref sig .tc := ⟨.hbm, 596, rfl⟩
abbrev main_call1_call4_v58 : Ref sig .tc := ⟨.hbm, 597, rfl⟩
abbrev main_call1_call4_v59 : Ref sig .tc := ⟨.hbm, 598, rfl⟩
abbrev main_call1_call4_v60 : Ref sig .tc := ⟨.hbm, 599, rfl⟩
abbrev main_call1_call4_v61 : Ref sig .tc := ⟨.hbm, 600, rfl⟩
abbrev main_call1_call4_c_15 : Ref sig .tc := ⟨.hbm, 601, rfl⟩
abbrev main_call1_call4_v62 : Ref sig .tc := ⟨.hbm, 602, rfl⟩
abbrev main_call1_call4_v63 : Ref sig .tc := ⟨.hbm, 603, rfl⟩
abbrev main_call1_call4_c_16 : Ref sig .tc := ⟨.hbm, 604, rfl⟩
abbrev main_call1_call4_v64 : Ref sig .tc := ⟨.hbm, 605, rfl⟩
abbrev main_call1_call4_v65 : Ref sig .tc := ⟨.hbm, 606, rfl⟩
abbrev main_call1_call4_v66 : Ref sig .tc := ⟨.hbm, 607, rfl⟩
abbrev main_call1_call4_v67 : Ref sig .tc := ⟨.hbm, 608, rfl⟩
abbrev main_call1_call4_v68 : Ref sig .tc := ⟨.hbm, 609, rfl⟩
abbrev main_call1_call4_v69 : Ref sig .tc := ⟨.hbm, 610, rfl⟩
abbrev main_call1_call4_v70 : Ref sig .tc := ⟨.hbm, 611, rfl⟩
abbrev main_call1_call4_v71 : Ref sig .tc := ⟨.hbm, 612, rfl⟩
abbrev main_call1_call4_c_17 : Ref sig .tc := ⟨.hbm, 613, rfl⟩
abbrev main_call1_call4_v72 : Ref sig .tc := ⟨.hbm, 614, rfl⟩
abbrev main_call1_call4_v73 : Ref sig .tc := ⟨.hbm, 615, rfl⟩
abbrev main_call1_call4_v74 : Ref sig .tc := ⟨.hbm, 616, rfl⟩
abbrev main_call1_call4_c_18 : Ref sig .tc := ⟨.hbm, 617, rfl⟩
abbrev main_call1_call4_v75 : Ref sig .tc := ⟨.hbm, 618, rfl⟩
abbrev main_call1_call4_v76 : Ref sig .tc := ⟨.hbm, 619, rfl⟩
abbrev main_call1_call4_c_19 : Ref sig .tc := ⟨.hbm, 620, rfl⟩
abbrev main_call1_call4_v77 : Ref sig .tc := ⟨.hbm, 621, rfl⟩
abbrev main_call1_call4_v78 : Ref sig .tc := ⟨.hbm, 622, rfl⟩
abbrev main_call1_call4_v79 : Ref sig .tc := ⟨.hbm, 623, rfl⟩
abbrev main_call1_call4_v80 : Ref sig .tc := ⟨.hbm, 624, rfl⟩
abbrev main_call1_call4_v81 : Ref sig .tc := ⟨.hbm, 625, rfl⟩
abbrev main_call1_call4_c_20 : Ref sig .tc := ⟨.hbm, 626, rfl⟩
abbrev main_call1_call4_v82 : Ref sig .tc := ⟨.hbm, 627, rfl⟩
abbrev main_call1_call4_v83 : Ref sig .tc := ⟨.hbm, 628, rfl⟩
abbrev main_call1_call4_c_21 : Ref sig .tc := ⟨.hbm, 629, rfl⟩
abbrev main_call1_call4_v84 : Ref sig .tc := ⟨.hbm, 630, rfl⟩
abbrev main_call1_call4_v85 : Ref sig .tc := ⟨.hbm, 631, rfl⟩
abbrev main_call1_call4_v86 : Ref sig .tc := ⟨.hbm, 632, rfl⟩
abbrev main_call1_call4_v87 : Ref sig .tc := ⟨.hbm, 633, rfl⟩
abbrev main_call1_call4_v88 : Ref sig .tc := ⟨.hbm, 634, rfl⟩
abbrev main_call1_call4_c_22 : Ref sig .tc := ⟨.hbm, 635, rfl⟩
abbrev main_call1_call4_v89 : Ref sig .tc := ⟨.hbm, 636, rfl⟩
abbrev main_call1_call4_v90 : Ref sig .tc := ⟨.hbm, 637, rfl⟩
abbrev main_call1_call4_c_23 : Ref sig .tc := ⟨.hbm, 638, rfl⟩
abbrev main_call1_call4_v91 : Ref sig .tc := ⟨.hbm, 639, rfl⟩
abbrev main_call1_call4_v92 : Ref sig .tc := ⟨.hbm, 640, rfl⟩
abbrev main_call1_call4_v93 : Ref sig .tc := ⟨.hbm, 641, rfl⟩
abbrev main_call1_call4_v94 : Ref sig .tc := ⟨.hbm, 642, rfl⟩
abbrev main_call1_call4_v95 : Ref sig .tc := ⟨.hbm, 643, rfl⟩
abbrev main_call1_call4_c_24 : Ref sig .tc := ⟨.hbm, 644, rfl⟩
abbrev main_call1_call4_v96 : Ref sig .tc := ⟨.hbm, 645, rfl⟩
abbrev main_call1_call4_v97 : Ref sig .tc := ⟨.hbm, 646, rfl⟩
abbrev main_call1_call4_c_25 : Ref sig .tc := ⟨.hbm, 647, rfl⟩
abbrev main_call1_call4_v98 : Ref sig .tc := ⟨.hbm, 648, rfl⟩
abbrev main_call1_call4_v99 : Ref sig .tc := ⟨.hbm, 649, rfl⟩
abbrev main_call1_call4_v100 : Ref sig .tc := ⟨.hbm, 650, rfl⟩
abbrev main_call1_call4_v101 : Ref sig .tc := ⟨.hbm, 651, rfl⟩
abbrev main_call1_call4_v102 : Ref sig .tc := ⟨.hbm, 652, rfl⟩
abbrev main_call1_call4_v103 : Ref sig .tc := ⟨.hbm, 653, rfl⟩
abbrev main_call1_call4_v104 : Ref sig .tc := ⟨.hbm, 654, rfl⟩
abbrev main_call1_call4_v105 : Ref sig .tc := ⟨.hbm, 655, rfl⟩
abbrev main_call1_call4_c_26 : Ref sig .tc := ⟨.hbm, 656, rfl⟩
abbrev main_call1_call4_v106 : Ref sig .tc := ⟨.hbm, 657, rfl⟩
abbrev main_call1_call4_v107 : Ref sig .tc := ⟨.hbm, 658, rfl⟩
abbrev main_call1_call4_v108 : Ref sig .tc := ⟨.hbm, 659, rfl⟩
abbrev main_call1_call4_c_27 : Ref sig .tc := ⟨.hbm, 660, rfl⟩
abbrev main_call1_call4_v109 : Ref sig .tc := ⟨.hbm, 661, rfl⟩
abbrev main_call1_call4_v110 : Ref sig .tc := ⟨.hbm, 662, rfl⟩
abbrev main_call1_call4_c_28 : Ref sig .tc := ⟨.hbm, 663, rfl⟩
abbrev main_call1_call4_v111 : Ref sig .tc := ⟨.hbm, 664, rfl⟩
abbrev main_call1_call4_v112 : Ref sig .tc := ⟨.hbm, 665, rfl⟩
abbrev main_call1_call4_v113 : Ref sig .tc := ⟨.hbm, 666, rfl⟩
abbrev main_call1_call4_v114 : Ref sig .tc := ⟨.hbm, 667, rfl⟩
abbrev main_call1_call4_v115 : Ref sig .tc := ⟨.hbm, 668, rfl⟩
abbrev main_call1_call4_c_29 : Ref sig .tc := ⟨.hbm, 669, rfl⟩
abbrev main_call1_call4_v116 : Ref sig .tc := ⟨.hbm, 670, rfl⟩
abbrev main_call1_call4_v117 : Ref sig .tc := ⟨.hbm, 671, rfl⟩
abbrev main_call1_call4_c_30 : Ref sig .tc := ⟨.hbm, 672, rfl⟩
abbrev main_call1_call4_v118 : Ref sig .tc := ⟨.hbm, 673, rfl⟩
abbrev main_call1_call4_v119 : Ref sig .tc := ⟨.hbm, 674, rfl⟩
abbrev main_call1_call4_v120 : Ref sig .tc := ⟨.hbm, 675, rfl⟩
abbrev main_call1_call4_v121 : Ref sig .tc := ⟨.hbm, 676, rfl⟩
abbrev main_call1_call4_v122 : Ref sig .tc := ⟨.hbm, 677, rfl⟩
abbrev main_call1_call4_c_31 : Ref sig .tc := ⟨.hbm, 678, rfl⟩
abbrev main_call1_call4_v123 : Ref sig .tc := ⟨.hbm, 679, rfl⟩
abbrev main_call1_call4_v124 : Ref sig .tc := ⟨.hbm, 680, rfl⟩
abbrev main_call1_call4_c_32 : Ref sig .tc := ⟨.hbm, 681, rfl⟩
abbrev main_call1_call4_v125 : Ref sig .tc := ⟨.hbm, 682, rfl⟩
abbrev main_call1_call4_v126 : Ref sig .tc := ⟨.hbm, 683, rfl⟩
abbrev main_call1_call4_v127 : Ref sig .tc := ⟨.hbm, 684, rfl⟩
abbrev main_call1_call4_v128 : Ref sig .tc := ⟨.hbm, 685, rfl⟩
abbrev main_call1_call4_v129 : Ref sig .tc := ⟨.hbm, 686, rfl⟩
abbrev main_call1_call4_c_33 : Ref sig .tc := ⟨.hbm, 687, rfl⟩
abbrev main_call1_call4_v130 : Ref sig .tc := ⟨.hbm, 688, rfl⟩
abbrev main_call1_call4_v131 : Ref sig .tc := ⟨.hbm, 689, rfl⟩
abbrev main_call1_call4_c_34 : Ref sig .tc := ⟨.hbm, 690, rfl⟩
abbrev main_call1_call4_v132 : Ref sig .tc := ⟨.hbm, 691, rfl⟩
abbrev main_call1_call4_v133 : Ref sig .tc := ⟨.hbm, 692, rfl⟩
abbrev main_call1_call4_v134 : Ref sig .tc := ⟨.hbm, 693, rfl⟩
abbrev main_call1_call4_v135 : Ref sig .tc := ⟨.hbm, 694, rfl⟩
abbrev main_call1_call4_v136 : Ref sig .tc := ⟨.hbm, 695, rfl⟩
abbrev main_call1_call4_v137 : Ref sig .tc := ⟨.hbm, 696, rfl⟩
abbrev main_call1_call4_v138 : Ref sig .tc := ⟨.hbm, 697, rfl⟩
abbrev main_call1_call4_v139 : Ref sig .tc := ⟨.hbm, 698, rfl⟩
abbrev main_call1_call4_c_35 : Ref sig .tc := ⟨.hbm, 699, rfl⟩
abbrev main_call1_call4_v140 : Ref sig .tc := ⟨.hbm, 700, rfl⟩
abbrev main_call1_call4_v141 : Ref sig .tc := ⟨.hbm, 701, rfl⟩
abbrev main_call1_call4_v142 : Ref sig .tc := ⟨.hbm, 702, rfl⟩
abbrev main_call1_call4_c_36 : Ref sig .tc := ⟨.hbm, 703, rfl⟩
abbrev main_call1_call4_v143 : Ref sig .tc := ⟨.hbm, 704, rfl⟩
abbrev main_call1_call4_v144 : Ref sig .tc := ⟨.hbm, 705, rfl⟩
abbrev main_call1_call4_c_37 : Ref sig .tc := ⟨.hbm, 706, rfl⟩
abbrev main_call1_call4_v145 : Ref sig .tc := ⟨.hbm, 707, rfl⟩
abbrev main_call1_call4_v146 : Ref sig .tc := ⟨.hbm, 708, rfl⟩
abbrev main_call1_call4_v147 : Ref sig .tc := ⟨.hbm, 709, rfl⟩
abbrev main_call1_call4_v148 : Ref sig .tc := ⟨.hbm, 710, rfl⟩
abbrev main_call1_call4_v149 : Ref sig .tc := ⟨.hbm, 711, rfl⟩
abbrev main_call1_call4_c_38 : Ref sig .tc := ⟨.hbm, 712, rfl⟩
abbrev main_call1_call4_v150 : Ref sig .tc := ⟨.hbm, 713, rfl⟩
abbrev main_call1_call4_v151 : Ref sig .tc := ⟨.hbm, 714, rfl⟩
abbrev main_call1_call4_c_39 : Ref sig .tc := ⟨.hbm, 715, rfl⟩
abbrev main_call1_call4_v152 : Ref sig .tc := ⟨.hbm, 716, rfl⟩
abbrev main_call1_call4_v153 : Ref sig .tc := ⟨.hbm, 717, rfl⟩
abbrev main_call1_call4_v154 : Ref sig .tc := ⟨.hbm, 718, rfl⟩
abbrev main_call1_call4_v155 : Ref sig .tc := ⟨.hbm, 719, rfl⟩
abbrev main_call1_call4_v156 : Ref sig .tc := ⟨.hbm, 720, rfl⟩
abbrev main_call1_call4_c_40 : Ref sig .tc := ⟨.hbm, 721, rfl⟩
abbrev main_call1_call4_v157 : Ref sig .tc := ⟨.hbm, 722, rfl⟩
abbrev main_call1_call4_v158 : Ref sig .tc := ⟨.hbm, 723, rfl⟩
abbrev main_call1_call4_c_41 : Ref sig .tc := ⟨.hbm, 724, rfl⟩
abbrev main_call1_call4_v159 : Ref sig .tc := ⟨.hbm, 725, rfl⟩
abbrev main_call1_call4_v160 : Ref sig .tc := ⟨.hbm, 726, rfl⟩
abbrev main_call1_call4_v161 : Ref sig .tc := ⟨.hbm, 727, rfl⟩
abbrev main_call1_call4_v162 : Ref sig .tc := ⟨.hbm, 728, rfl⟩
abbrev main_call1_call4_v163 : Ref sig .tc := ⟨.hbm, 729, rfl⟩
abbrev main_call1_call4_c_42 : Ref sig .tc := ⟨.hbm, 730, rfl⟩
abbrev main_call1_call4_v164 : Ref sig .tc := ⟨.hbm, 731, rfl⟩
abbrev main_call1_call4_v165 : Ref sig .tc := ⟨.hbm, 732, rfl⟩
abbrev main_call1_call4_c_43 : Ref sig .tc := ⟨.hbm, 733, rfl⟩
abbrev main_call1_call4_v166 : Ref sig .tc := ⟨.hbm, 734, rfl⟩
abbrev main_call1_call4_v167 : Ref sig .tc := ⟨.hbm, 735, rfl⟩
abbrev main_call1_call4_v168 : Ref sig .tc := ⟨.hbm, 736, rfl⟩
abbrev main_call1_call4_v169 : Ref sig .tc := ⟨.hbm, 737, rfl⟩
abbrev main_call1_call4_v170 : Ref sig .tc := ⟨.hbm, 738, rfl⟩
abbrev main_call1_v24_0 : Ref sig .tc := ⟨.hbm, 739, rfl⟩
abbrev main_call1_call4_v172 : Ref sig .tc := ⟨.hbm, 740, rfl⟩
abbrev main_call1_call4_v173 : Ref sig .tc := ⟨.hbm, 741, rfl⟩
abbrev main_call1_call4_c_44 : Ref sig .tc := ⟨.hbm, 742, rfl⟩
abbrev main_call1_call4_v174 : Ref sig .tc := ⟨.hbm, 743, rfl⟩
abbrev main_call1_v24_1 : Ref sig .tc := ⟨.hbm, 744, rfl⟩
abbrev main_call1_v25 : Ref sig .tc := ⟨.hbm, 745, rfl⟩
abbrev main_call1_v26 : Ref sig .tc := ⟨.hbm, 746, rfl⟩
abbrev main_call1_v27 : Ref sig .tc := ⟨.hbm, 747, rfl⟩
abbrev main_call1_v28 : Ref sig .tc := ⟨.hbm, 748, rfl⟩
abbrev main_call1_v29 : Ref sig .tc := ⟨.hbm, 749, rfl⟩
abbrev main_call1_v30 : Ref sig .tc := ⟨.hbm, 750, rfl⟩
abbrev main_call1_c_8 : Ref sig .tc := ⟨.hbm, 751, rfl⟩
abbrev main_call1_v31 : Ref sig .tc := ⟨.hbm, 752, rfl⟩
abbrev main_call1_v32 : Ref sig .tc := ⟨.hbm, 753, rfl⟩
abbrev main_call1_c_9 : Ref sig .tc := ⟨.hbm, 754, rfl⟩
abbrev main_call1_v33 : Ref sig .tc := ⟨.hbm, 755, rfl⟩
abbrev main_call1_v34 : Ref sig .tc := ⟨.hbm, 756, rfl⟩
abbrev main_call1_v35 : Ref sig .tc := ⟨.hbm, 757, rfl⟩
abbrev main_call1_v36 : Ref sig .tc := ⟨.hbm, 758, rfl⟩
abbrev main_call1_call5_v0 : Ref sig .tc := ⟨.hbm, 759, rfl⟩
abbrev main_call1_call5_c : Ref sig .tc := ⟨.hbm, 760, rfl⟩
abbrev main_call1_call5_v1 : Ref sig .tc := ⟨.hbm, 761, rfl⟩
abbrev main_call1_call5_v2 : Ref sig .tc := ⟨.hbm, 762, rfl⟩
abbrev main_call1_call5_v3 : Ref sig .tc := ⟨.hbm, 763, rfl⟩
abbrev main_call1_call5_v4 : Ref sig .tc := ⟨.hbm, 764, rfl⟩
abbrev main_call1_call5_v5 : Ref sig .tc := ⟨.hbm, 765, rfl⟩
abbrev main_call1_call5_v6 : Ref sig .tc := ⟨.hbm, 766, rfl⟩
abbrev main_call1_call5_c_0 : Ref sig .tc := ⟨.hbm, 767, rfl⟩
abbrev main_call1_call5_v7 : Ref sig .tc := ⟨.hbm, 768, rfl⟩
abbrev main_call1_call5_v8 : Ref sig .tc := ⟨.hbm, 769, rfl⟩
abbrev main_call1_call5_c_1 : Ref sig .tc := ⟨.hbm, 770, rfl⟩
abbrev main_call1_call5_v9 : Ref sig .tc := ⟨.hbm, 771, rfl⟩
abbrev main_call1_call5_v10 : Ref sig .tc := ⟨.hbm, 772, rfl⟩
abbrev main_call1_call5_v11 : Ref sig .tc := ⟨.hbm, 773, rfl⟩
abbrev main_call1_call5_v12 : Ref sig .tc := ⟨.hbm, 774, rfl⟩
abbrev main_call1_call5_v13 : Ref sig .tc := ⟨.hbm, 775, rfl⟩
abbrev main_call1_call5_c_2 : Ref sig .tc := ⟨.hbm, 776, rfl⟩
abbrev main_call1_call5_v14 : Ref sig .tc := ⟨.hbm, 777, rfl⟩
abbrev main_call1_call5_v15 : Ref sig .tc := ⟨.hbm, 778, rfl⟩
abbrev main_call1_call5_c_3 : Ref sig .tc := ⟨.hbm, 779, rfl⟩
abbrev main_call1_call5_v16 : Ref sig .tc := ⟨.hbm, 780, rfl⟩
abbrev main_call1_call5_v17 : Ref sig .tc := ⟨.hbm, 781, rfl⟩
abbrev main_call1_call5_v18 : Ref sig .tc := ⟨.hbm, 782, rfl⟩
abbrev main_call1_call5_v19 : Ref sig .tc := ⟨.hbm, 783, rfl⟩
abbrev main_call1_call5_v20 : Ref sig .tc := ⟨.hbm, 784, rfl⟩
abbrev main_call1_call5_c_4 : Ref sig .tc := ⟨.hbm, 785, rfl⟩
abbrev main_call1_call5_v21 : Ref sig .tc := ⟨.hbm, 786, rfl⟩
abbrev main_call1_call5_v22 : Ref sig .tc := ⟨.hbm, 787, rfl⟩
abbrev main_call1_call5_c_5 : Ref sig .tc := ⟨.hbm, 788, rfl⟩
abbrev main_call1_call5_v23 : Ref sig .tc := ⟨.hbm, 789, rfl⟩
abbrev main_call1_call5_v24 : Ref sig .tc := ⟨.hbm, 790, rfl⟩
abbrev main_call1_call5_v25 : Ref sig .tc := ⟨.hbm, 791, rfl⟩
abbrev main_call1_call5_v26 : Ref sig .tc := ⟨.hbm, 792, rfl⟩
abbrev main_call1_call5_v27 : Ref sig .tc := ⟨.hbm, 793, rfl⟩
abbrev main_call1_call5_c_6 : Ref sig .tc := ⟨.hbm, 794, rfl⟩
abbrev main_call1_call5_v28 : Ref sig .tc := ⟨.hbm, 795, rfl⟩
abbrev main_call1_call5_v29 : Ref sig .tc := ⟨.hbm, 796, rfl⟩
abbrev main_call1_call5_c_7 : Ref sig .tc := ⟨.hbm, 797, rfl⟩
abbrev main_call1_call5_v30 : Ref sig .tc := ⟨.hbm, 798, rfl⟩
abbrev main_call1_call5_v31 : Ref sig .tc := ⟨.hbm, 799, rfl⟩
abbrev main_call1_call5_v32 : Ref sig .tc := ⟨.hbm, 800, rfl⟩
abbrev main_call1_call5_v33 : Ref sig .tc := ⟨.hbm, 801, rfl⟩
abbrev main_call1_call5_v34 : Ref sig .tc := ⟨.hbm, 802, rfl⟩
abbrev main_call1_call5_v35 : Ref sig .tc := ⟨.hbm, 803, rfl⟩
abbrev main_call1_call5_v36 : Ref sig .tc := ⟨.hbm, 804, rfl⟩
abbrev main_call1_call5_v37 : Ref sig .tc := ⟨.hbm, 805, rfl⟩
abbrev main_call1_call5_c_8 : Ref sig .tc := ⟨.hbm, 806, rfl⟩
abbrev main_call1_call5_v38 : Ref sig .tc := ⟨.hbm, 807, rfl⟩
abbrev main_call1_call5_v39 : Ref sig .tc := ⟨.hbm, 808, rfl⟩
abbrev main_call1_call5_v40 : Ref sig .tc := ⟨.hbm, 809, rfl⟩
abbrev main_call1_call5_c_9 : Ref sig .tc := ⟨.hbm, 810, rfl⟩
abbrev main_call1_call5_v41 : Ref sig .tc := ⟨.hbm, 811, rfl⟩
abbrev main_call1_call5_v42 : Ref sig .tc := ⟨.hbm, 812, rfl⟩
abbrev main_call1_call5_c_10 : Ref sig .tc := ⟨.hbm, 813, rfl⟩
abbrev main_call1_call5_v43 : Ref sig .tc := ⟨.hbm, 814, rfl⟩
abbrev main_call1_call5_v44 : Ref sig .tc := ⟨.hbm, 815, rfl⟩
abbrev main_call1_call5_v45 : Ref sig .tc := ⟨.hbm, 816, rfl⟩
abbrev main_call1_call5_v46 : Ref sig .tc := ⟨.hbm, 817, rfl⟩
abbrev main_call1_call5_v47 : Ref sig .tc := ⟨.hbm, 818, rfl⟩
abbrev main_call1_call5_c_11 : Ref sig .tc := ⟨.hbm, 819, rfl⟩
abbrev main_call1_call5_v48 : Ref sig .tc := ⟨.hbm, 820, rfl⟩
abbrev main_call1_call5_v49 : Ref sig .tc := ⟨.hbm, 821, rfl⟩
abbrev main_call1_call5_c_12 : Ref sig .tc := ⟨.hbm, 822, rfl⟩
abbrev main_call1_call5_v50 : Ref sig .tc := ⟨.hbm, 823, rfl⟩
abbrev main_call1_call5_v51 : Ref sig .tc := ⟨.hbm, 824, rfl⟩
abbrev main_call1_call5_v52 : Ref sig .tc := ⟨.hbm, 825, rfl⟩
abbrev main_call1_call5_v53 : Ref sig .tc := ⟨.hbm, 826, rfl⟩
abbrev main_call1_call5_v54 : Ref sig .tc := ⟨.hbm, 827, rfl⟩
abbrev main_call1_call5_c_13 : Ref sig .tc := ⟨.hbm, 828, rfl⟩
abbrev main_call1_call5_v55 : Ref sig .tc := ⟨.hbm, 829, rfl⟩
abbrev main_call1_call5_v56 : Ref sig .tc := ⟨.hbm, 830, rfl⟩
abbrev main_call1_call5_c_14 : Ref sig .tc := ⟨.hbm, 831, rfl⟩
abbrev main_call1_call5_v57 : Ref sig .tc := ⟨.hbm, 832, rfl⟩
abbrev main_call1_call5_v58 : Ref sig .tc := ⟨.hbm, 833, rfl⟩
abbrev main_call1_call5_v59 : Ref sig .tc := ⟨.hbm, 834, rfl⟩
abbrev main_call1_call5_v60 : Ref sig .tc := ⟨.hbm, 835, rfl⟩
abbrev main_call1_call5_v61 : Ref sig .tc := ⟨.hbm, 836, rfl⟩
abbrev main_call1_call5_c_15 : Ref sig .tc := ⟨.hbm, 837, rfl⟩
abbrev main_call1_call5_v62 : Ref sig .tc := ⟨.hbm, 838, rfl⟩
abbrev main_call1_call5_v63 : Ref sig .tc := ⟨.hbm, 839, rfl⟩
abbrev main_call1_call5_c_16 : Ref sig .tc := ⟨.hbm, 840, rfl⟩
abbrev main_call1_call5_v64 : Ref sig .tc := ⟨.hbm, 841, rfl⟩
abbrev main_call1_call5_v65 : Ref sig .tc := ⟨.hbm, 842, rfl⟩
abbrev main_call1_call5_v66 : Ref sig .tc := ⟨.hbm, 843, rfl⟩
abbrev main_call1_call5_v67 : Ref sig .tc := ⟨.hbm, 844, rfl⟩
abbrev main_call1_call5_v68 : Ref sig .tc := ⟨.hbm, 845, rfl⟩
abbrev main_call1_call5_v69 : Ref sig .tc := ⟨.hbm, 846, rfl⟩
abbrev main_call1_call5_v70 : Ref sig .tc := ⟨.hbm, 847, rfl⟩
abbrev main_call1_call5_v71 : Ref sig .tc := ⟨.hbm, 848, rfl⟩
abbrev main_call1_call5_c_17 : Ref sig .tc := ⟨.hbm, 849, rfl⟩
abbrev main_call1_call5_v72 : Ref sig .tc := ⟨.hbm, 850, rfl⟩
abbrev main_call1_call5_v73 : Ref sig .tc := ⟨.hbm, 851, rfl⟩
abbrev main_call1_call5_v74 : Ref sig .tc := ⟨.hbm, 852, rfl⟩
abbrev main_call1_call5_c_18 : Ref sig .tc := ⟨.hbm, 853, rfl⟩
abbrev main_call1_call5_v75 : Ref sig .tc := ⟨.hbm, 854, rfl⟩
abbrev main_call1_call5_v76 : Ref sig .tc := ⟨.hbm, 855, rfl⟩
abbrev main_call1_call5_c_19 : Ref sig .tc := ⟨.hbm, 856, rfl⟩
abbrev main_call1_call5_v77 : Ref sig .tc := ⟨.hbm, 857, rfl⟩
abbrev main_call1_call5_v78 : Ref sig .tc := ⟨.hbm, 858, rfl⟩
abbrev main_call1_call5_v79 : Ref sig .tc := ⟨.hbm, 859, rfl⟩
abbrev main_call1_call5_v80 : Ref sig .tc := ⟨.hbm, 860, rfl⟩
abbrev main_call1_call5_v81 : Ref sig .tc := ⟨.hbm, 861, rfl⟩
abbrev main_call1_call5_c_20 : Ref sig .tc := ⟨.hbm, 862, rfl⟩
abbrev main_call1_call5_v82 : Ref sig .tc := ⟨.hbm, 863, rfl⟩
abbrev main_call1_call5_v83 : Ref sig .tc := ⟨.hbm, 864, rfl⟩
abbrev main_call1_call5_c_21 : Ref sig .tc := ⟨.hbm, 865, rfl⟩
abbrev main_call1_call5_v84 : Ref sig .tc := ⟨.hbm, 866, rfl⟩
abbrev main_call1_call5_v85 : Ref sig .tc := ⟨.hbm, 867, rfl⟩
abbrev main_call1_call5_v86 : Ref sig .tc := ⟨.hbm, 868, rfl⟩
abbrev main_call1_call5_v87 : Ref sig .tc := ⟨.hbm, 869, rfl⟩
abbrev main_call1_call5_v88 : Ref sig .tc := ⟨.hbm, 870, rfl⟩
abbrev main_call1_call5_c_22 : Ref sig .tc := ⟨.hbm, 871, rfl⟩
abbrev main_call1_call5_v89 : Ref sig .tc := ⟨.hbm, 872, rfl⟩
abbrev main_call1_call5_v90 : Ref sig .tc := ⟨.hbm, 873, rfl⟩
abbrev main_call1_call5_c_23 : Ref sig .tc := ⟨.hbm, 874, rfl⟩
abbrev main_call1_call5_v91 : Ref sig .tc := ⟨.hbm, 875, rfl⟩
abbrev main_call1_call5_v92 : Ref sig .tc := ⟨.hbm, 876, rfl⟩
abbrev main_call1_call5_v93 : Ref sig .tc := ⟨.hbm, 877, rfl⟩
abbrev main_call1_call5_v94 : Ref sig .tc := ⟨.hbm, 878, rfl⟩
abbrev main_call1_call5_v95 : Ref sig .tc := ⟨.hbm, 879, rfl⟩
abbrev main_call1_call5_c_24 : Ref sig .tc := ⟨.hbm, 880, rfl⟩
abbrev main_call1_call5_v96 : Ref sig .tc := ⟨.hbm, 881, rfl⟩
abbrev main_call1_call5_v97 : Ref sig .tc := ⟨.hbm, 882, rfl⟩
abbrev main_call1_call5_c_25 : Ref sig .tc := ⟨.hbm, 883, rfl⟩
abbrev main_call1_call5_v98 : Ref sig .tc := ⟨.hbm, 884, rfl⟩
abbrev main_call1_call5_v99 : Ref sig .tc := ⟨.hbm, 885, rfl⟩
abbrev main_call1_call5_v100 : Ref sig .tc := ⟨.hbm, 886, rfl⟩
abbrev main_call1_call5_v101 : Ref sig .tc := ⟨.hbm, 887, rfl⟩
abbrev main_call1_call5_v102 : Ref sig .tc := ⟨.hbm, 888, rfl⟩
abbrev main_call1_call5_v103 : Ref sig .tc := ⟨.hbm, 889, rfl⟩
abbrev main_call1_call5_v104 : Ref sig .tc := ⟨.hbm, 890, rfl⟩
abbrev main_call1_call5_v105 : Ref sig .tc := ⟨.hbm, 891, rfl⟩
abbrev main_call1_call5_c_26 : Ref sig .tc := ⟨.hbm, 892, rfl⟩
abbrev main_call1_call5_v106 : Ref sig .tc := ⟨.hbm, 893, rfl⟩
abbrev main_call1_call5_v107 : Ref sig .tc := ⟨.hbm, 894, rfl⟩
abbrev main_call1_call5_v108 : Ref sig .tc := ⟨.hbm, 895, rfl⟩
abbrev main_call1_call5_c_27 : Ref sig .tc := ⟨.hbm, 896, rfl⟩
abbrev main_call1_call5_v109 : Ref sig .tc := ⟨.hbm, 897, rfl⟩
abbrev main_call1_call5_v110 : Ref sig .tc := ⟨.hbm, 898, rfl⟩
abbrev main_call1_call5_c_28 : Ref sig .tc := ⟨.hbm, 899, rfl⟩
abbrev main_call1_call5_v111 : Ref sig .tc := ⟨.hbm, 900, rfl⟩
abbrev main_call1_call5_v112 : Ref sig .tc := ⟨.hbm, 901, rfl⟩
abbrev main_call1_call5_v113 : Ref sig .tc := ⟨.hbm, 902, rfl⟩
abbrev main_call1_call5_v114 : Ref sig .tc := ⟨.hbm, 903, rfl⟩
abbrev main_call1_call5_v115 : Ref sig .tc := ⟨.hbm, 904, rfl⟩
abbrev main_call1_call5_c_29 : Ref sig .tc := ⟨.hbm, 905, rfl⟩
abbrev main_call1_call5_v116 : Ref sig .tc := ⟨.hbm, 906, rfl⟩
abbrev main_call1_call5_v117 : Ref sig .tc := ⟨.hbm, 907, rfl⟩
abbrev main_call1_call5_c_30 : Ref sig .tc := ⟨.hbm, 908, rfl⟩
abbrev main_call1_call5_v118 : Ref sig .tc := ⟨.hbm, 909, rfl⟩
abbrev main_call1_call5_v119 : Ref sig .tc := ⟨.hbm, 910, rfl⟩
abbrev main_call1_call5_v120 : Ref sig .tc := ⟨.hbm, 911, rfl⟩
abbrev main_call1_call5_v121 : Ref sig .tc := ⟨.hbm, 912, rfl⟩
abbrev main_call1_call5_v122 : Ref sig .tc := ⟨.hbm, 913, rfl⟩
abbrev main_call1_call5_c_31 : Ref sig .tc := ⟨.hbm, 914, rfl⟩
abbrev main_call1_call5_v123 : Ref sig .tc := ⟨.hbm, 915, rfl⟩
abbrev main_call1_call5_v124 : Ref sig .tc := ⟨.hbm, 916, rfl⟩
abbrev main_call1_call5_c_32 : Ref sig .tc := ⟨.hbm, 917, rfl⟩
abbrev main_call1_call5_v125 : Ref sig .tc := ⟨.hbm, 918, rfl⟩
abbrev main_call1_call5_v126 : Ref sig .tc := ⟨.hbm, 919, rfl⟩
abbrev main_call1_call5_v127 : Ref sig .tc := ⟨.hbm, 920, rfl⟩
abbrev main_call1_call5_v128 : Ref sig .tc := ⟨.hbm, 921, rfl⟩
abbrev main_call1_call5_v129 : Ref sig .tc := ⟨.hbm, 922, rfl⟩
abbrev main_call1_call5_c_33 : Ref sig .tc := ⟨.hbm, 923, rfl⟩
abbrev main_call1_call5_v130 : Ref sig .tc := ⟨.hbm, 924, rfl⟩
abbrev main_call1_call5_v131 : Ref sig .tc := ⟨.hbm, 925, rfl⟩
abbrev main_call1_call5_c_34 : Ref sig .tc := ⟨.hbm, 926, rfl⟩
abbrev main_call1_call5_v132 : Ref sig .tc := ⟨.hbm, 927, rfl⟩
abbrev main_call1_call5_v133 : Ref sig .tc := ⟨.hbm, 928, rfl⟩
abbrev main_call1_call5_v134 : Ref sig .tc := ⟨.hbm, 929, rfl⟩
abbrev main_call1_call5_v135 : Ref sig .tc := ⟨.hbm, 930, rfl⟩
abbrev main_call1_call5_v136 : Ref sig .tc := ⟨.hbm, 931, rfl⟩
abbrev main_call1_call5_v137 : Ref sig .tc := ⟨.hbm, 932, rfl⟩
abbrev main_call1_call5_v138 : Ref sig .tc := ⟨.hbm, 933, rfl⟩
abbrev main_call1_call5_v139 : Ref sig .tc := ⟨.hbm, 934, rfl⟩
abbrev main_call1_call5_c_35 : Ref sig .tc := ⟨.hbm, 935, rfl⟩
abbrev main_call1_call5_v140 : Ref sig .tc := ⟨.hbm, 936, rfl⟩
abbrev main_call1_call5_v141 : Ref sig .tc := ⟨.hbm, 937, rfl⟩
abbrev main_call1_call5_v142 : Ref sig .tc := ⟨.hbm, 938, rfl⟩
abbrev main_call1_call5_c_36 : Ref sig .tc := ⟨.hbm, 939, rfl⟩
abbrev main_call1_call5_v143 : Ref sig .tc := ⟨.hbm, 940, rfl⟩
abbrev main_call1_call5_v144 : Ref sig .tc := ⟨.hbm, 941, rfl⟩
abbrev main_call1_call5_c_37 : Ref sig .tc := ⟨.hbm, 942, rfl⟩
abbrev main_call1_call5_v145 : Ref sig .tc := ⟨.hbm, 943, rfl⟩
abbrev main_call1_call5_v146 : Ref sig .tc := ⟨.hbm, 944, rfl⟩
abbrev main_call1_call5_v147 : Ref sig .tc := ⟨.hbm, 945, rfl⟩
abbrev main_call1_call5_v148 : Ref sig .tc := ⟨.hbm, 946, rfl⟩
abbrev main_call1_call5_v149 : Ref sig .tc := ⟨.hbm, 947, rfl⟩
abbrev main_call1_call5_c_38 : Ref sig .tc := ⟨.hbm, 948, rfl⟩
abbrev main_call1_call5_v150 : Ref sig .tc := ⟨.hbm, 949, rfl⟩
abbrev main_call1_call5_v151 : Ref sig .tc := ⟨.hbm, 950, rfl⟩
abbrev main_call1_call5_c_39 : Ref sig .tc := ⟨.hbm, 951, rfl⟩
abbrev main_call1_call5_v152 : Ref sig .tc := ⟨.hbm, 952, rfl⟩
abbrev main_call1_call5_v153 : Ref sig .tc := ⟨.hbm, 953, rfl⟩
abbrev main_call1_call5_v154 : Ref sig .tc := ⟨.hbm, 954, rfl⟩
abbrev main_call1_call5_v155 : Ref sig .tc := ⟨.hbm, 955, rfl⟩
abbrev main_call1_call5_v156 : Ref sig .tc := ⟨.hbm, 956, rfl⟩
abbrev main_call1_call5_c_40 : Ref sig .tc := ⟨.hbm, 957, rfl⟩
abbrev main_call1_call5_v157 : Ref sig .tc := ⟨.hbm, 958, rfl⟩
abbrev main_call1_call5_v158 : Ref sig .tc := ⟨.hbm, 959, rfl⟩
abbrev main_call1_call5_c_41 : Ref sig .tc := ⟨.hbm, 960, rfl⟩
abbrev main_call1_call5_v159 : Ref sig .tc := ⟨.hbm, 961, rfl⟩
abbrev main_call1_call5_v160 : Ref sig .tc := ⟨.hbm, 962, rfl⟩
abbrev main_call1_call5_v161 : Ref sig .tc := ⟨.hbm, 963, rfl⟩
abbrev main_call1_call5_v162 : Ref sig .tc := ⟨.hbm, 964, rfl⟩
abbrev main_call1_call5_v163 : Ref sig .tc := ⟨.hbm, 965, rfl⟩
abbrev main_call1_call5_c_42 : Ref sig .tc := ⟨.hbm, 966, rfl⟩
abbrev main_call1_call5_v164 : Ref sig .tc := ⟨.hbm, 967, rfl⟩
abbrev main_call1_call5_v165 : Ref sig .tc := ⟨.hbm, 968, rfl⟩
abbrev main_call1_call5_c_43 : Ref sig .tc := ⟨.hbm, 969, rfl⟩
abbrev main_call1_call5_v166 : Ref sig .tc := ⟨.hbm, 970, rfl⟩
abbrev main_call1_call5_v167 : Ref sig .tc := ⟨.hbm, 971, rfl⟩
abbrev main_call1_call5_v168 : Ref sig .tc := ⟨.hbm, 972, rfl⟩
abbrev main_call1_call5_v169 : Ref sig .tc := ⟨.hbm, 973, rfl⟩
abbrev main_call1_call5_v170 : Ref sig .tc := ⟨.hbm, 974, rfl⟩
abbrev main_call1_v37_0 : Ref sig .tc := ⟨.hbm, 975, rfl⟩
abbrev main_call1_call5_v172 : Ref sig .tc := ⟨.hbm, 976, rfl⟩
abbrev main_call1_call5_v173 : Ref sig .tc := ⟨.hbm, 977, rfl⟩
abbrev main_call1_call5_c_44 : Ref sig .tc := ⟨.hbm, 978, rfl⟩
abbrev main_call1_call5_v174 : Ref sig .tc := ⟨.hbm, 979, rfl⟩
abbrev main_call1_v37_1 : Ref sig .tc := ⟨.hbm, 980, rfl⟩
abbrev main_call1_v38 : Ref sig .tc := ⟨.hbm, 981, rfl⟩
abbrev main_call1_v39 : Ref sig .tc := ⟨.hbm, 982, rfl⟩
abbrev main_call1_v40 : Ref sig .tc := ⟨.hbm, 983, rfl⟩
abbrev main_call1_v41 : Ref sig .tc := ⟨.hbm, 984, rfl⟩
abbrev main_call1_c_10 : Ref sig .tc := ⟨.hbm, 985, rfl⟩
abbrev main_call1_v42 : Ref sig .tc := ⟨.hbm, 986, rfl⟩
abbrev main_call1_v43 : Ref sig .tc := ⟨.hbm, 987, rfl⟩
abbrev main_call1_v44 : Ref sig .tc := ⟨.hbm, 988, rfl⟩
abbrev main_call1_v45 : Ref sig .tc := ⟨.hbm, 989, rfl⟩
abbrev main_call1_v46 : Ref sig .tc := ⟨.hbm, 990, rfl⟩
abbrev main_call1_c_11 : Ref sig .tc := ⟨.hbm, 991, rfl⟩
abbrev main_call1_v47 : Ref sig .tc := ⟨.hbm, 992, rfl⟩
abbrev main_call1_v48 : Ref sig .tc := ⟨.hbm, 993, rfl⟩
abbrev main_call1_v49 : Ref sig .tc := ⟨.hbm, 994, rfl⟩
abbrev main_call1_c_12 : Ref sig .tc := ⟨.hbm, 995, rfl⟩
abbrev main_call1_v50 : Ref sig .tc := ⟨.hbm, 996, rfl⟩
abbrev main_call1_v51 : Ref sig .tc := ⟨.hbm, 997, rfl⟩
abbrev main_call1_v52 : Ref sig .tc := ⟨.hbm, 998, rfl⟩
abbrev main_call1_v53 : Ref sig .tc := ⟨.hbm, 999, rfl⟩
abbrev main_call1_v54 : Ref sig .tc := ⟨.hbm, 1000, rfl⟩
abbrev main_call1_v55 : Ref sig .tc := ⟨.hbm, 1001, rfl⟩
abbrev main_call1_v56 : Ref sig .tc := ⟨.hbm, 1002, rfl⟩
abbrev main_call1_v57 : Ref sig .tc := ⟨.hbm, 1003, rfl⟩
abbrev main_call1_v58 : Ref sig .tc := ⟨.hbm, 1004, rfl⟩
abbrev main_call1_v59 : Ref sig .tc := ⟨.hbm, 1005, rfl⟩
abbrev main_call1_v60 : Ref sig .tc := ⟨.hbm, 1006, rfl⟩
abbrev main_call1_v61 : Ref sig .tc := ⟨.hbm, 1007, rfl⟩
abbrev main_call1_v62 : Ref sig .tc := ⟨.hbm, 1008, rfl⟩
abbrev main_call1_v63 : Ref sig .tc := ⟨.hbm, 1009, rfl⟩
abbrev main_call1_v64 : Ref sig .tc := ⟨.hbm, 1010, rfl⟩
abbrev main_v8 : Ref sig .tc := ⟨.hbm, 1011, rfl⟩
abbrev main_v9 : Ref sig .tc := ⟨.hbm, 1012, rfl⟩
abbrev main_v10 : Ref sig .tc := ⟨.hbm, 1013, rfl⟩
abbrev main_v11 : Ref sig .tc := ⟨.hbm, 1014, rfl⟩
abbrev main_v12 : Ref sig .tc := ⟨.hbm, 1015, rfl⟩
abbrev main_v13 : Ref sig .tc := ⟨.hbm, 1016, rfl⟩
abbrev main_v14 : Ref sig .tc := ⟨.hbm, 1017, rfl⟩
abbrev main_c_5 : Ref sig .tc := ⟨.hbm, 1018, rfl⟩
abbrev main_v15 : Ref sig .tc := ⟨.hbm, 1019, rfl⟩
abbrev main_v16 : Ref sig .tc := ⟨.hbm, 1020, rfl⟩
abbrev main_v17 : Ref sig .tc := ⟨.hbm, 1021, rfl⟩
abbrev main_v18 : Ref sig .tc := ⟨.hbm, 1022, rfl⟩
abbrev main_v19 : Ref sig .tc := ⟨.hbm, 1023, rfl⟩
abbrev main_v20 : Ref sig .tc := ⟨.hbm, 1024, rfl⟩
abbrev main_v21 : Ref sig .tc := ⟨.hbm, 1025, rfl⟩
abbrev main_v22 : Ref sig .tc := ⟨.hbm, 1026, rfl⟩
abbrev main_cst : Ref sig .tc := ⟨.hbm, 1027, rfl⟩
abbrev main_call2_v0 : Ref sig .tc := ⟨.hbm, 1028, rfl⟩
abbrev main_call2_v1 : Ref sig .tc := ⟨.hbm, 1029, rfl⟩
abbrev main_v23 : Ref sig .tc := ⟨.hbm, 1030, rfl⟩
abbrev main_c_6 : Ref sig .tc := ⟨.hbm, 1031, rfl⟩
abbrev main_c_7 : Ref sig .tc := ⟨.hbm, 1032, rfl⟩
abbrev main_v24 : Ref sig .tc := ⟨.hbm, 1033, rfl⟩
abbrev main_v25 : Ref sig .tc := ⟨.hbm, 1034, rfl⟩
abbrev main_v26 : Ref sig .tc := ⟨.hbm, 1035, rfl⟩
abbrev main_c_8 : Ref sig .tc := ⟨.hbm, 1036, rfl⟩
abbrev main_v27 : Ref sig .tc := ⟨.hbm, 1037, rfl⟩
abbrev main_v28 : Ref sig .tc := ⟨.hbm, 1038, rfl⟩
abbrev main_v29 : Ref sig .tc := ⟨.hbm, 1039, rfl⟩
abbrev main_v30 : Ref sig .tc := ⟨.hbm, 1040, rfl⟩
abbrev main_c_9 : Ref sig .tc := ⟨.hbm, 1041, rfl⟩
abbrev main_call3_c : Ref sig .tc := ⟨.hbm, 1042, rfl⟩
abbrev main_call3_v0 : Ref sig .tc := ⟨.hbm, 1043, rfl⟩
abbrev main_call3_v1 : Ref sig .tc := ⟨.hbm, 1044, rfl⟩
abbrev main_call3_c_0 : Ref sig .tc := ⟨.hbm, 1045, rfl⟩
abbrev main_call3_v2 : Ref sig .tc := ⟨.hbm, 1046, rfl⟩
abbrev main_call3_v3 : Ref sig .tc := ⟨.hbm, 1047, rfl⟩
abbrev main_call3_v4 : Ref sig .tc := ⟨.hbm, 1048, rfl⟩
abbrev main_call3_v5 : Ref sig .tc := ⟨.hbm, 1049, rfl⟩
abbrev main_call3_v6 : Ref sig .tc := ⟨.hbm, 1050, rfl⟩
abbrev main_call3_v7 : Ref sig .tc := ⟨.hbm, 1051, rfl⟩
abbrev main_call3_v8 : Ref sig .tc := ⟨.hbm, 1052, rfl⟩
abbrev main_call3_v9 : Ref sig .tc := ⟨.hbm, 1053, rfl⟩
abbrev main_call3_v10 : Ref sig .tc := ⟨.hbm, 1054, rfl⟩
abbrev main_call3_call0_v0 : Ref sig .tc := ⟨.hbm, 1055, rfl⟩
abbrev main_call3_call0_c : Ref sig .tc := ⟨.hbm, 1056, rfl⟩
abbrev main_call3_call0_v1 : Ref sig .tc := ⟨.hbm, 1057, rfl⟩
abbrev main_call3_call0_v2 : Ref sig .tc := ⟨.hbm, 1058, rfl⟩
abbrev main_call3_call0_v3 : Ref sig .tc := ⟨.hbm, 1059, rfl⟩
abbrev main_call3_call0_v4 : Ref sig .tc := ⟨.hbm, 1060, rfl⟩
abbrev main_call3_call0_v5 : Ref sig .tc := ⟨.hbm, 1061, rfl⟩
abbrev main_call3_call0_v6 : Ref sig .tc := ⟨.hbm, 1062, rfl⟩
abbrev main_call3_call0_c_0 : Ref sig .tc := ⟨.hbm, 1063, rfl⟩
abbrev main_call3_call0_v7 : Ref sig .tc := ⟨.hbm, 1064, rfl⟩
abbrev main_call3_call0_v8 : Ref sig .tc := ⟨.hbm, 1065, rfl⟩
abbrev main_call3_call0_c_1 : Ref sig .tc := ⟨.hbm, 1066, rfl⟩
abbrev main_call3_call0_v9 : Ref sig .tc := ⟨.hbm, 1067, rfl⟩
abbrev main_call3_call0_v10 : Ref sig .tc := ⟨.hbm, 1068, rfl⟩
abbrev main_call3_call0_v11 : Ref sig .tc := ⟨.hbm, 1069, rfl⟩
abbrev main_call3_call0_v12 : Ref sig .tc := ⟨.hbm, 1070, rfl⟩
abbrev main_call3_call0_v13 : Ref sig .tc := ⟨.hbm, 1071, rfl⟩
abbrev main_call3_call0_c_2 : Ref sig .tc := ⟨.hbm, 1072, rfl⟩
abbrev main_call3_call0_v14 : Ref sig .tc := ⟨.hbm, 1073, rfl⟩
abbrev main_call3_call0_v15 : Ref sig .tc := ⟨.hbm, 1074, rfl⟩
abbrev main_call3_call0_c_3 : Ref sig .tc := ⟨.hbm, 1075, rfl⟩
abbrev main_call3_call0_v16 : Ref sig .tc := ⟨.hbm, 1076, rfl⟩
abbrev main_call3_call0_v17 : Ref sig .tc := ⟨.hbm, 1077, rfl⟩
abbrev main_call3_call0_v18 : Ref sig .tc := ⟨.hbm, 1078, rfl⟩
abbrev main_call3_call0_v19 : Ref sig .tc := ⟨.hbm, 1079, rfl⟩
abbrev main_call3_call0_v20 : Ref sig .tc := ⟨.hbm, 1080, rfl⟩
abbrev main_call3_call0_c_4 : Ref sig .tc := ⟨.hbm, 1081, rfl⟩
abbrev main_call3_call0_v21 : Ref sig .tc := ⟨.hbm, 1082, rfl⟩
abbrev main_call3_call0_v22 : Ref sig .tc := ⟨.hbm, 1083, rfl⟩
abbrev main_call3_call0_c_5 : Ref sig .tc := ⟨.hbm, 1084, rfl⟩
abbrev main_call3_call0_v23 : Ref sig .tc := ⟨.hbm, 1085, rfl⟩
abbrev main_call3_call0_v24 : Ref sig .tc := ⟨.hbm, 1086, rfl⟩
abbrev main_call3_call0_v25 : Ref sig .tc := ⟨.hbm, 1087, rfl⟩
abbrev main_call3_call0_v26 : Ref sig .tc := ⟨.hbm, 1088, rfl⟩
abbrev main_call3_call0_v27 : Ref sig .tc := ⟨.hbm, 1089, rfl⟩
abbrev main_call3_call0_c_6 : Ref sig .tc := ⟨.hbm, 1090, rfl⟩
abbrev main_call3_call0_v28 : Ref sig .tc := ⟨.hbm, 1091, rfl⟩
abbrev main_call3_call0_v29 : Ref sig .tc := ⟨.hbm, 1092, rfl⟩
abbrev main_call3_call0_c_7 : Ref sig .tc := ⟨.hbm, 1093, rfl⟩
abbrev main_call3_call0_v30 : Ref sig .tc := ⟨.hbm, 1094, rfl⟩
abbrev main_call3_call0_v31 : Ref sig .tc := ⟨.hbm, 1095, rfl⟩
abbrev main_call3_call0_v32 : Ref sig .tc := ⟨.hbm, 1096, rfl⟩
abbrev main_call3_call0_v33 : Ref sig .tc := ⟨.hbm, 1097, rfl⟩
abbrev main_call3_call0_v34 : Ref sig .tc := ⟨.hbm, 1098, rfl⟩
abbrev main_call3_call0_v35 : Ref sig .tc := ⟨.hbm, 1099, rfl⟩
abbrev main_call3_call0_v36 : Ref sig .tc := ⟨.hbm, 1100, rfl⟩
abbrev main_call3_call0_v37 : Ref sig .tc := ⟨.hbm, 1101, rfl⟩
abbrev main_call3_call0_c_8 : Ref sig .tc := ⟨.hbm, 1102, rfl⟩
abbrev main_call3_call0_v38 : Ref sig .tc := ⟨.hbm, 1103, rfl⟩
abbrev main_call3_call0_v39 : Ref sig .tc := ⟨.hbm, 1104, rfl⟩
abbrev main_call3_call0_v40 : Ref sig .tc := ⟨.hbm, 1105, rfl⟩
abbrev main_call3_call0_c_9 : Ref sig .tc := ⟨.hbm, 1106, rfl⟩
abbrev main_call3_call0_v41 : Ref sig .tc := ⟨.hbm, 1107, rfl⟩
abbrev main_call3_call0_v42 : Ref sig .tc := ⟨.hbm, 1108, rfl⟩
abbrev main_call3_call0_c_10 : Ref sig .tc := ⟨.hbm, 1109, rfl⟩
abbrev main_call3_call0_v43 : Ref sig .tc := ⟨.hbm, 1110, rfl⟩
abbrev main_call3_call0_v44 : Ref sig .tc := ⟨.hbm, 1111, rfl⟩
abbrev main_call3_call0_v45 : Ref sig .tc := ⟨.hbm, 1112, rfl⟩
abbrev main_call3_call0_v46 : Ref sig .tc := ⟨.hbm, 1113, rfl⟩
abbrev main_call3_call0_v47 : Ref sig .tc := ⟨.hbm, 1114, rfl⟩
abbrev main_call3_call0_c_11 : Ref sig .tc := ⟨.hbm, 1115, rfl⟩
abbrev main_call3_call0_v48 : Ref sig .tc := ⟨.hbm, 1116, rfl⟩
abbrev main_call3_call0_v49 : Ref sig .tc := ⟨.hbm, 1117, rfl⟩
abbrev main_call3_call0_c_12 : Ref sig .tc := ⟨.hbm, 1118, rfl⟩
abbrev main_call3_call0_v50 : Ref sig .tc := ⟨.hbm, 1119, rfl⟩
abbrev main_call3_call0_v51 : Ref sig .tc := ⟨.hbm, 1120, rfl⟩
abbrev main_call3_call0_v52 : Ref sig .tc := ⟨.hbm, 1121, rfl⟩
abbrev main_call3_call0_v53 : Ref sig .tc := ⟨.hbm, 1122, rfl⟩
abbrev main_call3_call0_v54 : Ref sig .tc := ⟨.hbm, 1123, rfl⟩
abbrev main_call3_call0_c_13 : Ref sig .tc := ⟨.hbm, 1124, rfl⟩
abbrev main_call3_call0_v55 : Ref sig .tc := ⟨.hbm, 1125, rfl⟩
abbrev main_call3_call0_v56 : Ref sig .tc := ⟨.hbm, 1126, rfl⟩
abbrev main_call3_call0_c_14 : Ref sig .tc := ⟨.hbm, 1127, rfl⟩
abbrev main_call3_call0_v57 : Ref sig .tc := ⟨.hbm, 1128, rfl⟩
abbrev main_call3_call0_v58 : Ref sig .tc := ⟨.hbm, 1129, rfl⟩
abbrev main_call3_call0_v59 : Ref sig .tc := ⟨.hbm, 1130, rfl⟩
abbrev main_call3_call0_v60 : Ref sig .tc := ⟨.hbm, 1131, rfl⟩
abbrev main_call3_call0_v61 : Ref sig .tc := ⟨.hbm, 1132, rfl⟩
abbrev main_call3_call0_c_15 : Ref sig .tc := ⟨.hbm, 1133, rfl⟩
abbrev main_call3_call0_v62 : Ref sig .tc := ⟨.hbm, 1134, rfl⟩
abbrev main_call3_call0_v63 : Ref sig .tc := ⟨.hbm, 1135, rfl⟩
abbrev main_call3_call0_c_16 : Ref sig .tc := ⟨.hbm, 1136, rfl⟩
abbrev main_call3_call0_v64 : Ref sig .tc := ⟨.hbm, 1137, rfl⟩
abbrev main_call3_call0_v65 : Ref sig .tc := ⟨.hbm, 1138, rfl⟩
abbrev main_call3_call0_v66 : Ref sig .tc := ⟨.hbm, 1139, rfl⟩
abbrev main_call3_call0_v67 : Ref sig .tc := ⟨.hbm, 1140, rfl⟩
abbrev main_call3_call0_v68 : Ref sig .tc := ⟨.hbm, 1141, rfl⟩
abbrev main_call3_call0_v69 : Ref sig .tc := ⟨.hbm, 1142, rfl⟩
abbrev main_call3_call0_v70 : Ref sig .tc := ⟨.hbm, 1143, rfl⟩
abbrev main_call3_call0_v71 : Ref sig .tc := ⟨.hbm, 1144, rfl⟩
abbrev main_call3_call0_c_17 : Ref sig .tc := ⟨.hbm, 1145, rfl⟩
abbrev main_call3_call0_v72 : Ref sig .tc := ⟨.hbm, 1146, rfl⟩
abbrev main_call3_call0_v73 : Ref sig .tc := ⟨.hbm, 1147, rfl⟩
abbrev main_call3_call0_v74 : Ref sig .tc := ⟨.hbm, 1148, rfl⟩
abbrev main_call3_call0_c_18 : Ref sig .tc := ⟨.hbm, 1149, rfl⟩
abbrev main_call3_call0_v75 : Ref sig .tc := ⟨.hbm, 1150, rfl⟩
abbrev main_call3_call0_v76 : Ref sig .tc := ⟨.hbm, 1151, rfl⟩
abbrev main_call3_call0_c_19 : Ref sig .tc := ⟨.hbm, 1152, rfl⟩
abbrev main_call3_call0_v77 : Ref sig .tc := ⟨.hbm, 1153, rfl⟩
abbrev main_call3_call0_v78 : Ref sig .tc := ⟨.hbm, 1154, rfl⟩
abbrev main_call3_call0_v79 : Ref sig .tc := ⟨.hbm, 1155, rfl⟩
abbrev main_call3_call0_v80 : Ref sig .tc := ⟨.hbm, 1156, rfl⟩
abbrev main_call3_call0_v81 : Ref sig .tc := ⟨.hbm, 1157, rfl⟩
abbrev main_call3_call0_c_20 : Ref sig .tc := ⟨.hbm, 1158, rfl⟩
abbrev main_call3_call0_v82 : Ref sig .tc := ⟨.hbm, 1159, rfl⟩
abbrev main_call3_call0_v83 : Ref sig .tc := ⟨.hbm, 1160, rfl⟩
abbrev main_call3_call0_c_21 : Ref sig .tc := ⟨.hbm, 1161, rfl⟩
abbrev main_call3_call0_v84 : Ref sig .tc := ⟨.hbm, 1162, rfl⟩
abbrev main_call3_call0_v85 : Ref sig .tc := ⟨.hbm, 1163, rfl⟩
abbrev main_call3_call0_v86 : Ref sig .tc := ⟨.hbm, 1164, rfl⟩
abbrev main_call3_call0_v87 : Ref sig .tc := ⟨.hbm, 1165, rfl⟩
abbrev main_call3_call0_v88 : Ref sig .tc := ⟨.hbm, 1166, rfl⟩
abbrev main_call3_call0_c_22 : Ref sig .tc := ⟨.hbm, 1167, rfl⟩
abbrev main_call3_call0_v89 : Ref sig .tc := ⟨.hbm, 1168, rfl⟩
abbrev main_call3_call0_v90 : Ref sig .tc := ⟨.hbm, 1169, rfl⟩
abbrev main_call3_call0_c_23 : Ref sig .tc := ⟨.hbm, 1170, rfl⟩
abbrev main_call3_call0_v91 : Ref sig .tc := ⟨.hbm, 1171, rfl⟩
abbrev main_call3_call0_v92 : Ref sig .tc := ⟨.hbm, 1172, rfl⟩
abbrev main_call3_call0_v93 : Ref sig .tc := ⟨.hbm, 1173, rfl⟩
abbrev main_call3_call0_v94 : Ref sig .tc := ⟨.hbm, 1174, rfl⟩
abbrev main_call3_call0_v95 : Ref sig .tc := ⟨.hbm, 1175, rfl⟩
abbrev main_call3_call0_c_24 : Ref sig .tc := ⟨.hbm, 1176, rfl⟩
abbrev main_call3_call0_v96 : Ref sig .tc := ⟨.hbm, 1177, rfl⟩
abbrev main_call3_call0_v97 : Ref sig .tc := ⟨.hbm, 1178, rfl⟩
abbrev main_call3_call0_c_25 : Ref sig .tc := ⟨.hbm, 1179, rfl⟩
abbrev main_call3_call0_v98 : Ref sig .tc := ⟨.hbm, 1180, rfl⟩
abbrev main_call3_call0_v99 : Ref sig .tc := ⟨.hbm, 1181, rfl⟩
abbrev main_call3_call0_v100 : Ref sig .tc := ⟨.hbm, 1182, rfl⟩
abbrev main_call3_call0_v101 : Ref sig .tc := ⟨.hbm, 1183, rfl⟩
abbrev main_call3_call0_v102 : Ref sig .tc := ⟨.hbm, 1184, rfl⟩
abbrev main_call3_call0_v103 : Ref sig .tc := ⟨.hbm, 1185, rfl⟩
abbrev main_call3_call0_v104 : Ref sig .tc := ⟨.hbm, 1186, rfl⟩
abbrev main_call3_call0_v105 : Ref sig .tc := ⟨.hbm, 1187, rfl⟩
abbrev main_call3_call0_c_26 : Ref sig .tc := ⟨.hbm, 1188, rfl⟩
abbrev main_call3_call0_v106 : Ref sig .tc := ⟨.hbm, 1189, rfl⟩
abbrev main_call3_call0_v107 : Ref sig .tc := ⟨.hbm, 1190, rfl⟩
abbrev main_call3_call0_v108 : Ref sig .tc := ⟨.hbm, 1191, rfl⟩
abbrev main_call3_call0_c_27 : Ref sig .tc := ⟨.hbm, 1192, rfl⟩
abbrev main_call3_call0_v109 : Ref sig .tc := ⟨.hbm, 1193, rfl⟩
abbrev main_call3_call0_v110 : Ref sig .tc := ⟨.hbm, 1194, rfl⟩
abbrev main_call3_call0_c_28 : Ref sig .tc := ⟨.hbm, 1195, rfl⟩
abbrev main_call3_call0_v111 : Ref sig .tc := ⟨.hbm, 1196, rfl⟩
abbrev main_call3_call0_v112 : Ref sig .tc := ⟨.hbm, 1197, rfl⟩
abbrev main_call3_call0_v113 : Ref sig .tc := ⟨.hbm, 1198, rfl⟩
abbrev main_call3_call0_v114 : Ref sig .tc := ⟨.hbm, 1199, rfl⟩
abbrev main_call3_call0_v115 : Ref sig .tc := ⟨.hbm, 1200, rfl⟩
abbrev main_call3_call0_c_29 : Ref sig .tc := ⟨.hbm, 1201, rfl⟩
abbrev main_call3_call0_v116 : Ref sig .tc := ⟨.hbm, 1202, rfl⟩
abbrev main_call3_call0_v117 : Ref sig .tc := ⟨.hbm, 1203, rfl⟩
abbrev main_call3_call0_c_30 : Ref sig .tc := ⟨.hbm, 1204, rfl⟩
abbrev main_call3_call0_v118 : Ref sig .tc := ⟨.hbm, 1205, rfl⟩
abbrev main_call3_call0_v119 : Ref sig .tc := ⟨.hbm, 1206, rfl⟩
abbrev main_call3_call0_v120 : Ref sig .tc := ⟨.hbm, 1207, rfl⟩
abbrev main_call3_call0_v121 : Ref sig .tc := ⟨.hbm, 1208, rfl⟩
abbrev main_call3_call0_v122 : Ref sig .tc := ⟨.hbm, 1209, rfl⟩
abbrev main_call3_call0_c_31 : Ref sig .tc := ⟨.hbm, 1210, rfl⟩
abbrev main_call3_call0_v123 : Ref sig .tc := ⟨.hbm, 1211, rfl⟩
abbrev main_call3_call0_v124 : Ref sig .tc := ⟨.hbm, 1212, rfl⟩
abbrev main_call3_call0_c_32 : Ref sig .tc := ⟨.hbm, 1213, rfl⟩
abbrev main_call3_call0_v125 : Ref sig .tc := ⟨.hbm, 1214, rfl⟩
abbrev main_call3_call0_v126 : Ref sig .tc := ⟨.hbm, 1215, rfl⟩
abbrev main_call3_call0_v127 : Ref sig .tc := ⟨.hbm, 1216, rfl⟩
abbrev main_call3_call0_v128 : Ref sig .tc := ⟨.hbm, 1217, rfl⟩
abbrev main_call3_call0_v129 : Ref sig .tc := ⟨.hbm, 1218, rfl⟩
abbrev main_call3_call0_c_33 : Ref sig .tc := ⟨.hbm, 1219, rfl⟩
abbrev main_call3_call0_v130 : Ref sig .tc := ⟨.hbm, 1220, rfl⟩
abbrev main_call3_call0_v131 : Ref sig .tc := ⟨.hbm, 1221, rfl⟩
abbrev main_call3_call0_c_34 : Ref sig .tc := ⟨.hbm, 1222, rfl⟩
abbrev main_call3_call0_v132 : Ref sig .tc := ⟨.hbm, 1223, rfl⟩
abbrev main_call3_call0_v133 : Ref sig .tc := ⟨.hbm, 1224, rfl⟩
abbrev main_call3_call0_v134 : Ref sig .tc := ⟨.hbm, 1225, rfl⟩
abbrev main_call3_call0_v135 : Ref sig .tc := ⟨.hbm, 1226, rfl⟩
abbrev main_call3_call0_v136 : Ref sig .tc := ⟨.hbm, 1227, rfl⟩
abbrev main_call3_call0_v137 : Ref sig .tc := ⟨.hbm, 1228, rfl⟩
abbrev main_call3_call0_v138 : Ref sig .tc := ⟨.hbm, 1229, rfl⟩
abbrev main_call3_call0_v139 : Ref sig .tc := ⟨.hbm, 1230, rfl⟩
abbrev main_call3_call0_c_35 : Ref sig .tc := ⟨.hbm, 1231, rfl⟩
abbrev main_call3_call0_v140 : Ref sig .tc := ⟨.hbm, 1232, rfl⟩
abbrev main_call3_call0_v141 : Ref sig .tc := ⟨.hbm, 1233, rfl⟩
abbrev main_call3_call0_v142 : Ref sig .tc := ⟨.hbm, 1234, rfl⟩
abbrev main_call3_call0_c_36 : Ref sig .tc := ⟨.hbm, 1235, rfl⟩
abbrev main_call3_call0_v143 : Ref sig .tc := ⟨.hbm, 1236, rfl⟩
abbrev main_call3_call0_v144 : Ref sig .tc := ⟨.hbm, 1237, rfl⟩
abbrev main_call3_call0_c_37 : Ref sig .tc := ⟨.hbm, 1238, rfl⟩
abbrev main_call3_call0_v145 : Ref sig .tc := ⟨.hbm, 1239, rfl⟩
abbrev main_call3_call0_v146 : Ref sig .tc := ⟨.hbm, 1240, rfl⟩
abbrev main_call3_call0_v147 : Ref sig .tc := ⟨.hbm, 1241, rfl⟩
abbrev main_call3_call0_v148 : Ref sig .tc := ⟨.hbm, 1242, rfl⟩
abbrev main_call3_call0_v149 : Ref sig .tc := ⟨.hbm, 1243, rfl⟩
abbrev main_call3_call0_c_38 : Ref sig .tc := ⟨.hbm, 1244, rfl⟩
abbrev main_call3_call0_v150 : Ref sig .tc := ⟨.hbm, 1245, rfl⟩
abbrev main_call3_call0_v151 : Ref sig .tc := ⟨.hbm, 1246, rfl⟩
abbrev main_call3_call0_c_39 : Ref sig .tc := ⟨.hbm, 1247, rfl⟩
abbrev main_call3_call0_v152 : Ref sig .tc := ⟨.hbm, 1248, rfl⟩
abbrev main_call3_call0_v153 : Ref sig .tc := ⟨.hbm, 1249, rfl⟩
abbrev main_call3_call0_v154 : Ref sig .tc := ⟨.hbm, 1250, rfl⟩
abbrev main_call3_call0_v155 : Ref sig .tc := ⟨.hbm, 1251, rfl⟩
abbrev main_call3_call0_v156 : Ref sig .tc := ⟨.hbm, 1252, rfl⟩
abbrev main_call3_call0_c_40 : Ref sig .tc := ⟨.hbm, 1253, rfl⟩
abbrev main_call3_call0_v157 : Ref sig .tc := ⟨.hbm, 1254, rfl⟩
abbrev main_call3_call0_v158 : Ref sig .tc := ⟨.hbm, 1255, rfl⟩
abbrev main_call3_call0_c_41 : Ref sig .tc := ⟨.hbm, 1256, rfl⟩
abbrev main_call3_call0_v159 : Ref sig .tc := ⟨.hbm, 1257, rfl⟩
abbrev main_call3_call0_v160 : Ref sig .tc := ⟨.hbm, 1258, rfl⟩
abbrev main_call3_call0_v161 : Ref sig .tc := ⟨.hbm, 1259, rfl⟩
abbrev main_call3_call0_v162 : Ref sig .tc := ⟨.hbm, 1260, rfl⟩
abbrev main_call3_call0_v163 : Ref sig .tc := ⟨.hbm, 1261, rfl⟩
abbrev main_call3_call0_c_42 : Ref sig .tc := ⟨.hbm, 1262, rfl⟩
abbrev main_call3_call0_v164 : Ref sig .tc := ⟨.hbm, 1263, rfl⟩
abbrev main_call3_call0_v165 : Ref sig .tc := ⟨.hbm, 1264, rfl⟩
abbrev main_call3_call0_c_43 : Ref sig .tc := ⟨.hbm, 1265, rfl⟩
abbrev main_call3_call0_v166 : Ref sig .tc := ⟨.hbm, 1266, rfl⟩
abbrev main_call3_call0_v167 : Ref sig .tc := ⟨.hbm, 1267, rfl⟩
abbrev main_call3_call0_v168 : Ref sig .tc := ⟨.hbm, 1268, rfl⟩
abbrev main_call3_call0_v169 : Ref sig .tc := ⟨.hbm, 1269, rfl⟩
abbrev main_call3_call0_v170 : Ref sig .tc := ⟨.hbm, 1270, rfl⟩
abbrev main_call3_v11_0 : Ref sig .tc := ⟨.hbm, 1271, rfl⟩
abbrev main_call3_call0_v172 : Ref sig .tc := ⟨.hbm, 1272, rfl⟩
abbrev main_call3_call0_v173 : Ref sig .tc := ⟨.hbm, 1273, rfl⟩
abbrev main_call3_call0_c_44 : Ref sig .tc := ⟨.hbm, 1274, rfl⟩
abbrev main_call3_call0_v174 : Ref sig .tc := ⟨.hbm, 1275, rfl⟩
abbrev main_call3_v11_1 : Ref sig .tc := ⟨.hbm, 1276, rfl⟩
abbrev main_v31 : Ref sig .tc := ⟨.hbm, 1277, rfl⟩
abbrev main_c_10 : Ref sig .tc := ⟨.hbm, 1278, rfl⟩
abbrev main_c_11 : Ref sig .tc := ⟨.hbm, 1279, rfl⟩
abbrev main_call4_c : Ref sig .tc := ⟨.hbm, 1280, rfl⟩
abbrev main_call4_c_0 : Ref sig .tc := ⟨.hbm, 1281, rfl⟩
abbrev main_call4_c_1 : Ref sig .tc := ⟨.hbm, 1282, rfl⟩
abbrev main_call4_call0_v0 : Ref sig .tc := ⟨.hbm, 1283, rfl⟩
abbrev main_call4_v0 : Ref sig .tc := ⟨.hbm, 1284, rfl⟩
abbrev main_call4_v1 : Ref sig .tc := ⟨.hbm, 1285, rfl⟩
abbrev main_call4_c_2 : Ref sig .tc := ⟨.hbm, 1286, rfl⟩
abbrev main_call4_c_3 : Ref sig .tc := ⟨.hbm, 1287, rfl⟩
abbrev main_call4_call1_v0 : Ref sig .tc := ⟨.hbm, 1288, rfl⟩
abbrev main_call4_v2 : Ref sig .tc := ⟨.hbm, 1289, rfl⟩
abbrev main_call4_v3 : Ref sig .tc := ⟨.hbm, 1290, rfl⟩
abbrev main_call4_c_4 : Ref sig .tc := ⟨.hbm, 1291, rfl⟩
abbrev main_call4_c_5 : Ref sig .tc := ⟨.hbm, 1292, rfl⟩
abbrev main_call4_call2_v0 : Ref sig .tc := ⟨.hbm, 1293, rfl⟩
abbrev main_call4_v4 : Ref sig .tc := ⟨.hbm, 1294, rfl⟩
abbrev main_call4_v5 : Ref sig .tc := ⟨.hbm, 1295, rfl⟩
abbrev main_call4_v6 : Ref sig .tc := ⟨.hbm, 1296, rfl⟩
abbrev main_call4_v7 : Ref sig .tc := ⟨.hbm, 1297, rfl⟩
abbrev main_call4_call3_v0 : Ref sig .tc := ⟨.hbm, 1298, rfl⟩
abbrev main_call4_call3_v1 : Ref sig .tc := ⟨.hbm, 1299, rfl⟩
abbrev main_call4_call3_v2 : Ref sig .tc := ⟨.hbm, 1300, rfl⟩
abbrev main_call4_call3_v3 : Ref sig .tc := ⟨.hbm, 1301, rfl⟩
abbrev main_call4_call3_v4 : Ref sig .tc := ⟨.hbm, 1302, rfl⟩
abbrev main_call4_call3_c : Ref sig .tc := ⟨.hbm, 1303, rfl⟩
abbrev main_call4_call3_v5 : Ref sig .tc := ⟨.hbm, 1304, rfl⟩
abbrev main_call4_call3_v6 : Ref sig .tc := ⟨.hbm, 1305, rfl⟩
abbrev main_call4_call3_c_0 : Ref sig .tc := ⟨.hbm, 1306, rfl⟩
abbrev main_call4_call3_v7 : Ref sig .tc := ⟨.hbm, 1307, rfl⟩
abbrev main_call4_call3_v8 : Ref sig .tc := ⟨.hbm, 1308, rfl⟩
abbrev main_call4_call3_v9 : Ref sig .tc := ⟨.hbm, 1309, rfl⟩
abbrev main_call4_call3_v10 : Ref sig .tc := ⟨.hbm, 1310, rfl⟩
abbrev main_call4_call3_call0_v0 : Ref sig .tc := ⟨.hbm, 1311, rfl⟩
abbrev main_call4_call3_call0_c : Ref sig .tc := ⟨.hbm, 1312, rfl⟩
abbrev main_call4_call3_call0_v1 : Ref sig .tc := ⟨.hbm, 1313, rfl⟩
abbrev main_call4_call3_call0_v2 : Ref sig .tc := ⟨.hbm, 1314, rfl⟩
abbrev main_call4_call3_call0_v3 : Ref sig .tc := ⟨.hbm, 1315, rfl⟩
abbrev main_call4_call3_call0_v4 : Ref sig .tc := ⟨.hbm, 1316, rfl⟩
abbrev main_call4_call3_call0_v5 : Ref sig .tc := ⟨.hbm, 1317, rfl⟩
abbrev main_call4_call3_call0_v6 : Ref sig .tc := ⟨.hbm, 1318, rfl⟩
abbrev main_call4_call3_call0_c_0 : Ref sig .tc := ⟨.hbm, 1319, rfl⟩
abbrev main_call4_call3_call0_v7 : Ref sig .tc := ⟨.hbm, 1320, rfl⟩
abbrev main_call4_call3_call0_v8 : Ref sig .tc := ⟨.hbm, 1321, rfl⟩
abbrev main_call4_call3_call0_c_1 : Ref sig .tc := ⟨.hbm, 1322, rfl⟩
abbrev main_call4_call3_call0_v9 : Ref sig .tc := ⟨.hbm, 1323, rfl⟩
abbrev main_call4_call3_call0_v10 : Ref sig .tc := ⟨.hbm, 1324, rfl⟩
abbrev main_call4_call3_call0_v11 : Ref sig .tc := ⟨.hbm, 1325, rfl⟩
abbrev main_call4_call3_call0_v12 : Ref sig .tc := ⟨.hbm, 1326, rfl⟩
abbrev main_call4_call3_call0_v13 : Ref sig .tc := ⟨.hbm, 1327, rfl⟩
abbrev main_call4_call3_call0_c_2 : Ref sig .tc := ⟨.hbm, 1328, rfl⟩
abbrev main_call4_call3_call0_v14 : Ref sig .tc := ⟨.hbm, 1329, rfl⟩
abbrev main_call4_call3_call0_v15 : Ref sig .tc := ⟨.hbm, 1330, rfl⟩
abbrev main_call4_call3_call0_c_3 : Ref sig .tc := ⟨.hbm, 1331, rfl⟩
abbrev main_call4_call3_call0_v16 : Ref sig .tc := ⟨.hbm, 1332, rfl⟩
abbrev main_call4_call3_call0_v17 : Ref sig .tc := ⟨.hbm, 1333, rfl⟩
abbrev main_call4_call3_call0_v18 : Ref sig .tc := ⟨.hbm, 1334, rfl⟩
abbrev main_call4_call3_call0_v19 : Ref sig .tc := ⟨.hbm, 1335, rfl⟩
abbrev main_call4_call3_call0_v20 : Ref sig .tc := ⟨.hbm, 1336, rfl⟩
abbrev main_call4_call3_call0_c_4 : Ref sig .tc := ⟨.hbm, 1337, rfl⟩
abbrev main_call4_call3_call0_v21 : Ref sig .tc := ⟨.hbm, 1338, rfl⟩
abbrev main_call4_call3_call0_v22 : Ref sig .tc := ⟨.hbm, 1339, rfl⟩
abbrev main_call4_call3_call0_c_5 : Ref sig .tc := ⟨.hbm, 1340, rfl⟩
abbrev main_call4_call3_call0_v23 : Ref sig .tc := ⟨.hbm, 1341, rfl⟩
abbrev main_call4_call3_call0_v24 : Ref sig .tc := ⟨.hbm, 1342, rfl⟩
abbrev main_call4_call3_call0_v25 : Ref sig .tc := ⟨.hbm, 1343, rfl⟩
abbrev main_call4_call3_call0_v26 : Ref sig .tc := ⟨.hbm, 1344, rfl⟩
abbrev main_call4_call3_call0_v27 : Ref sig .tc := ⟨.hbm, 1345, rfl⟩
abbrev main_call4_call3_call0_c_6 : Ref sig .tc := ⟨.hbm, 1346, rfl⟩
abbrev main_call4_call3_call0_v28 : Ref sig .tc := ⟨.hbm, 1347, rfl⟩
abbrev main_call4_call3_call0_v29 : Ref sig .tc := ⟨.hbm, 1348, rfl⟩
abbrev main_call4_call3_call0_c_7 : Ref sig .tc := ⟨.hbm, 1349, rfl⟩
abbrev main_call4_call3_call0_v30 : Ref sig .tc := ⟨.hbm, 1350, rfl⟩
abbrev main_call4_call3_call0_v31 : Ref sig .tc := ⟨.hbm, 1351, rfl⟩
abbrev main_call4_call3_call0_v32 : Ref sig .tc := ⟨.hbm, 1352, rfl⟩
abbrev main_call4_call3_call0_v33 : Ref sig .tc := ⟨.hbm, 1353, rfl⟩
abbrev main_call4_call3_call0_v34 : Ref sig .tc := ⟨.hbm, 1354, rfl⟩
abbrev main_call4_call3_call0_v35 : Ref sig .tc := ⟨.hbm, 1355, rfl⟩
abbrev main_call4_call3_call0_v36 : Ref sig .tc := ⟨.hbm, 1356, rfl⟩
abbrev main_call4_call3_call0_v37 : Ref sig .tc := ⟨.hbm, 1357, rfl⟩
abbrev main_call4_call3_call0_c_8 : Ref sig .tc := ⟨.hbm, 1358, rfl⟩
abbrev main_call4_call3_call0_v38 : Ref sig .tc := ⟨.hbm, 1359, rfl⟩
abbrev main_call4_call3_call0_v39 : Ref sig .tc := ⟨.hbm, 1360, rfl⟩
abbrev main_call4_call3_call0_v40 : Ref sig .tc := ⟨.hbm, 1361, rfl⟩
abbrev main_call4_call3_call0_c_9 : Ref sig .tc := ⟨.hbm, 1362, rfl⟩
abbrev main_call4_call3_call0_v41 : Ref sig .tc := ⟨.hbm, 1363, rfl⟩
abbrev main_call4_call3_call0_v42 : Ref sig .tc := ⟨.hbm, 1364, rfl⟩
abbrev main_call4_call3_call0_c_10 : Ref sig .tc := ⟨.hbm, 1365, rfl⟩
abbrev main_call4_call3_call0_v43 : Ref sig .tc := ⟨.hbm, 1366, rfl⟩
abbrev main_call4_call3_call0_v44 : Ref sig .tc := ⟨.hbm, 1367, rfl⟩
abbrev main_call4_call3_call0_v45 : Ref sig .tc := ⟨.hbm, 1368, rfl⟩
abbrev main_call4_call3_call0_v46 : Ref sig .tc := ⟨.hbm, 1369, rfl⟩
abbrev main_call4_call3_call0_v47 : Ref sig .tc := ⟨.hbm, 1370, rfl⟩
abbrev main_call4_call3_call0_c_11 : Ref sig .tc := ⟨.hbm, 1371, rfl⟩
abbrev main_call4_call3_call0_v48 : Ref sig .tc := ⟨.hbm, 1372, rfl⟩
abbrev main_call4_call3_call0_v49 : Ref sig .tc := ⟨.hbm, 1373, rfl⟩
abbrev main_call4_call3_call0_c_12 : Ref sig .tc := ⟨.hbm, 1374, rfl⟩
abbrev main_call4_call3_call0_v50 : Ref sig .tc := ⟨.hbm, 1375, rfl⟩
abbrev main_call4_call3_call0_v51 : Ref sig .tc := ⟨.hbm, 1376, rfl⟩
abbrev main_call4_call3_call0_v52 : Ref sig .tc := ⟨.hbm, 1377, rfl⟩
abbrev main_call4_call3_call0_v53 : Ref sig .tc := ⟨.hbm, 1378, rfl⟩
abbrev main_call4_call3_call0_v54 : Ref sig .tc := ⟨.hbm, 1379, rfl⟩
abbrev main_call4_call3_call0_c_13 : Ref sig .tc := ⟨.hbm, 1380, rfl⟩
abbrev main_call4_call3_call0_v55 : Ref sig .tc := ⟨.hbm, 1381, rfl⟩
abbrev main_call4_call3_call0_v56 : Ref sig .tc := ⟨.hbm, 1382, rfl⟩
abbrev main_call4_call3_call0_c_14 : Ref sig .tc := ⟨.hbm, 1383, rfl⟩
abbrev main_call4_call3_call0_v57 : Ref sig .tc := ⟨.hbm, 1384, rfl⟩
abbrev main_call4_call3_call0_v58 : Ref sig .tc := ⟨.hbm, 1385, rfl⟩
abbrev main_call4_call3_call0_v59 : Ref sig .tc := ⟨.hbm, 1386, rfl⟩
abbrev main_call4_call3_call0_v60 : Ref sig .tc := ⟨.hbm, 1387, rfl⟩
abbrev main_call4_call3_call0_v61 : Ref sig .tc := ⟨.hbm, 1388, rfl⟩
abbrev main_call4_call3_call0_c_15 : Ref sig .tc := ⟨.hbm, 1389, rfl⟩
abbrev main_call4_call3_call0_v62 : Ref sig .tc := ⟨.hbm, 1390, rfl⟩
abbrev main_call4_call3_call0_v63 : Ref sig .tc := ⟨.hbm, 1391, rfl⟩
abbrev main_call4_call3_call0_c_16 : Ref sig .tc := ⟨.hbm, 1392, rfl⟩
abbrev main_call4_call3_call0_v64 : Ref sig .tc := ⟨.hbm, 1393, rfl⟩
abbrev main_call4_call3_call0_v65 : Ref sig .tc := ⟨.hbm, 1394, rfl⟩
abbrev main_call4_call3_call0_v66 : Ref sig .tc := ⟨.hbm, 1395, rfl⟩
abbrev main_call4_call3_call0_v67 : Ref sig .tc := ⟨.hbm, 1396, rfl⟩
abbrev main_call4_call3_call0_v68 : Ref sig .tc := ⟨.hbm, 1397, rfl⟩
abbrev main_call4_call3_call0_v69 : Ref sig .tc := ⟨.hbm, 1398, rfl⟩
abbrev main_call4_call3_call0_v70 : Ref sig .tc := ⟨.hbm, 1399, rfl⟩
abbrev main_call4_call3_call0_v71 : Ref sig .tc := ⟨.hbm, 1400, rfl⟩
abbrev main_call4_call3_call0_c_17 : Ref sig .tc := ⟨.hbm, 1401, rfl⟩
abbrev main_call4_call3_call0_v72 : Ref sig .tc := ⟨.hbm, 1402, rfl⟩
abbrev main_call4_call3_call0_v73 : Ref sig .tc := ⟨.hbm, 1403, rfl⟩
abbrev main_call4_call3_call0_v74 : Ref sig .tc := ⟨.hbm, 1404, rfl⟩
abbrev main_call4_call3_call0_c_18 : Ref sig .tc := ⟨.hbm, 1405, rfl⟩
abbrev main_call4_call3_call0_v75 : Ref sig .tc := ⟨.hbm, 1406, rfl⟩
abbrev main_call4_call3_call0_v76 : Ref sig .tc := ⟨.hbm, 1407, rfl⟩
abbrev main_call4_call3_call0_c_19 : Ref sig .tc := ⟨.hbm, 1408, rfl⟩
abbrev main_call4_call3_call0_v77 : Ref sig .tc := ⟨.hbm, 1409, rfl⟩
abbrev main_call4_call3_call0_v78 : Ref sig .tc := ⟨.hbm, 1410, rfl⟩
abbrev main_call4_call3_call0_v79 : Ref sig .tc := ⟨.hbm, 1411, rfl⟩
abbrev main_call4_call3_call0_v80 : Ref sig .tc := ⟨.hbm, 1412, rfl⟩
abbrev main_call4_call3_call0_v81 : Ref sig .tc := ⟨.hbm, 1413, rfl⟩
abbrev main_call4_call3_call0_c_20 : Ref sig .tc := ⟨.hbm, 1414, rfl⟩
abbrev main_call4_call3_call0_v82 : Ref sig .tc := ⟨.hbm, 1415, rfl⟩
abbrev main_call4_call3_call0_v83 : Ref sig .tc := ⟨.hbm, 1416, rfl⟩
abbrev main_call4_call3_call0_c_21 : Ref sig .tc := ⟨.hbm, 1417, rfl⟩
abbrev main_call4_call3_call0_v84 : Ref sig .tc := ⟨.hbm, 1418, rfl⟩
abbrev main_call4_call3_call0_v85 : Ref sig .tc := ⟨.hbm, 1419, rfl⟩
abbrev main_call4_call3_call0_v86 : Ref sig .tc := ⟨.hbm, 1420, rfl⟩
abbrev main_call4_call3_call0_v87 : Ref sig .tc := ⟨.hbm, 1421, rfl⟩
abbrev main_call4_call3_call0_v88 : Ref sig .tc := ⟨.hbm, 1422, rfl⟩
abbrev main_call4_call3_call0_c_22 : Ref sig .tc := ⟨.hbm, 1423, rfl⟩
abbrev main_call4_call3_call0_v89 : Ref sig .tc := ⟨.hbm, 1424, rfl⟩
abbrev main_call4_call3_call0_v90 : Ref sig .tc := ⟨.hbm, 1425, rfl⟩
abbrev main_call4_call3_call0_c_23 : Ref sig .tc := ⟨.hbm, 1426, rfl⟩
abbrev main_call4_call3_call0_v91 : Ref sig .tc := ⟨.hbm, 1427, rfl⟩
abbrev main_call4_call3_call0_v92 : Ref sig .tc := ⟨.hbm, 1428, rfl⟩
abbrev main_call4_call3_call0_v93 : Ref sig .tc := ⟨.hbm, 1429, rfl⟩
abbrev main_call4_call3_call0_v94 : Ref sig .tc := ⟨.hbm, 1430, rfl⟩
abbrev main_call4_call3_call0_v95 : Ref sig .tc := ⟨.hbm, 1431, rfl⟩
abbrev main_call4_call3_call0_c_24 : Ref sig .tc := ⟨.hbm, 1432, rfl⟩
abbrev main_call4_call3_call0_v96 : Ref sig .tc := ⟨.hbm, 1433, rfl⟩
abbrev main_call4_call3_call0_v97 : Ref sig .tc := ⟨.hbm, 1434, rfl⟩
abbrev main_call4_call3_call0_c_25 : Ref sig .tc := ⟨.hbm, 1435, rfl⟩
abbrev main_call4_call3_call0_v98 : Ref sig .tc := ⟨.hbm, 1436, rfl⟩
abbrev main_call4_call3_call0_v99 : Ref sig .tc := ⟨.hbm, 1437, rfl⟩
abbrev main_call4_call3_call0_v100 : Ref sig .tc := ⟨.hbm, 1438, rfl⟩
abbrev main_call4_call3_call0_v101 : Ref sig .tc := ⟨.hbm, 1439, rfl⟩
abbrev main_call4_call3_call0_v102 : Ref sig .tc := ⟨.hbm, 1440, rfl⟩
abbrev main_call4_call3_call0_v103 : Ref sig .tc := ⟨.hbm, 1441, rfl⟩
abbrev main_call4_call3_call0_v104 : Ref sig .tc := ⟨.hbm, 1442, rfl⟩
abbrev main_call4_call3_call0_v105 : Ref sig .tc := ⟨.hbm, 1443, rfl⟩
abbrev main_call4_call3_call0_c_26 : Ref sig .tc := ⟨.hbm, 1444, rfl⟩
abbrev main_call4_call3_call0_v106 : Ref sig .tc := ⟨.hbm, 1445, rfl⟩
abbrev main_call4_call3_call0_v107 : Ref sig .tc := ⟨.hbm, 1446, rfl⟩
abbrev main_call4_call3_call0_v108 : Ref sig .tc := ⟨.hbm, 1447, rfl⟩
abbrev main_call4_call3_call0_c_27 : Ref sig .tc := ⟨.hbm, 1448, rfl⟩
abbrev main_call4_call3_call0_v109 : Ref sig .tc := ⟨.hbm, 1449, rfl⟩
abbrev main_call4_call3_call0_v110 : Ref sig .tc := ⟨.hbm, 1450, rfl⟩
abbrev main_call4_call3_call0_c_28 : Ref sig .tc := ⟨.hbm, 1451, rfl⟩
abbrev main_call4_call3_call0_v111 : Ref sig .tc := ⟨.hbm, 1452, rfl⟩
abbrev main_call4_call3_call0_v112 : Ref sig .tc := ⟨.hbm, 1453, rfl⟩
abbrev main_call4_call3_call0_v113 : Ref sig .tc := ⟨.hbm, 1454, rfl⟩
abbrev main_call4_call3_call0_v114 : Ref sig .tc := ⟨.hbm, 1455, rfl⟩
abbrev main_call4_call3_call0_v115 : Ref sig .tc := ⟨.hbm, 1456, rfl⟩
abbrev main_call4_call3_call0_c_29 : Ref sig .tc := ⟨.hbm, 1457, rfl⟩
abbrev main_call4_call3_call0_v116 : Ref sig .tc := ⟨.hbm, 1458, rfl⟩
abbrev main_call4_call3_call0_v117 : Ref sig .tc := ⟨.hbm, 1459, rfl⟩
abbrev main_call4_call3_call0_c_30 : Ref sig .tc := ⟨.hbm, 1460, rfl⟩
abbrev main_call4_call3_call0_v118 : Ref sig .tc := ⟨.hbm, 1461, rfl⟩
abbrev main_call4_call3_call0_v119 : Ref sig .tc := ⟨.hbm, 1462, rfl⟩
abbrev main_call4_call3_call0_v120 : Ref sig .tc := ⟨.hbm, 1463, rfl⟩
abbrev main_call4_call3_call0_v121 : Ref sig .tc := ⟨.hbm, 1464, rfl⟩
abbrev main_call4_call3_call0_v122 : Ref sig .tc := ⟨.hbm, 1465, rfl⟩
abbrev main_call4_call3_call0_c_31 : Ref sig .tc := ⟨.hbm, 1466, rfl⟩
abbrev main_call4_call3_call0_v123 : Ref sig .tc := ⟨.hbm, 1467, rfl⟩
abbrev main_call4_call3_call0_v124 : Ref sig .tc := ⟨.hbm, 1468, rfl⟩
abbrev main_call4_call3_call0_c_32 : Ref sig .tc := ⟨.hbm, 1469, rfl⟩
abbrev main_call4_call3_call0_v125 : Ref sig .tc := ⟨.hbm, 1470, rfl⟩
abbrev main_call4_call3_call0_v126 : Ref sig .tc := ⟨.hbm, 1471, rfl⟩
abbrev main_call4_call3_call0_v127 : Ref sig .tc := ⟨.hbm, 1472, rfl⟩
abbrev main_call4_call3_call0_v128 : Ref sig .tc := ⟨.hbm, 1473, rfl⟩
abbrev main_call4_call3_call0_v129 : Ref sig .tc := ⟨.hbm, 1474, rfl⟩
abbrev main_call4_call3_call0_c_33 : Ref sig .tc := ⟨.hbm, 1475, rfl⟩
abbrev main_call4_call3_call0_v130 : Ref sig .tc := ⟨.hbm, 1476, rfl⟩
abbrev main_call4_call3_call0_v131 : Ref sig .tc := ⟨.hbm, 1477, rfl⟩
abbrev main_call4_call3_call0_c_34 : Ref sig .tc := ⟨.hbm, 1478, rfl⟩
abbrev main_call4_call3_call0_v132 : Ref sig .tc := ⟨.hbm, 1479, rfl⟩
abbrev main_call4_call3_call0_v133 : Ref sig .tc := ⟨.hbm, 1480, rfl⟩
abbrev main_call4_call3_call0_v134 : Ref sig .tc := ⟨.hbm, 1481, rfl⟩
abbrev main_call4_call3_call0_v135 : Ref sig .tc := ⟨.hbm, 1482, rfl⟩
abbrev main_call4_call3_call0_v136 : Ref sig .tc := ⟨.hbm, 1483, rfl⟩
abbrev main_call4_call3_call0_v137 : Ref sig .tc := ⟨.hbm, 1484, rfl⟩
abbrev main_call4_call3_call0_v138 : Ref sig .tc := ⟨.hbm, 1485, rfl⟩
abbrev main_call4_call3_call0_v139 : Ref sig .tc := ⟨.hbm, 1486, rfl⟩
abbrev main_call4_call3_call0_c_35 : Ref sig .tc := ⟨.hbm, 1487, rfl⟩
abbrev main_call4_call3_call0_v140 : Ref sig .tc := ⟨.hbm, 1488, rfl⟩
abbrev main_call4_call3_call0_v141 : Ref sig .tc := ⟨.hbm, 1489, rfl⟩
abbrev main_call4_call3_call0_v142 : Ref sig .tc := ⟨.hbm, 1490, rfl⟩
abbrev main_call4_call3_call0_c_36 : Ref sig .tc := ⟨.hbm, 1491, rfl⟩
abbrev main_call4_call3_call0_v143 : Ref sig .tc := ⟨.hbm, 1492, rfl⟩
abbrev main_call4_call3_call0_v144 : Ref sig .tc := ⟨.hbm, 1493, rfl⟩
abbrev main_call4_call3_call0_c_37 : Ref sig .tc := ⟨.hbm, 1494, rfl⟩
abbrev main_call4_call3_call0_v145 : Ref sig .tc := ⟨.hbm, 1495, rfl⟩
abbrev main_call4_call3_call0_v146 : Ref sig .tc := ⟨.hbm, 1496, rfl⟩
abbrev main_call4_call3_call0_v147 : Ref sig .tc := ⟨.hbm, 1497, rfl⟩
abbrev main_call4_call3_call0_v148 : Ref sig .tc := ⟨.hbm, 1498, rfl⟩
abbrev main_call4_call3_call0_v149 : Ref sig .tc := ⟨.hbm, 1499, rfl⟩
abbrev main_call4_call3_call0_c_38 : Ref sig .tc := ⟨.hbm, 1500, rfl⟩
abbrev main_call4_call3_call0_v150 : Ref sig .tc := ⟨.hbm, 1501, rfl⟩
abbrev main_call4_call3_call0_v151 : Ref sig .tc := ⟨.hbm, 1502, rfl⟩
abbrev main_call4_call3_call0_c_39 : Ref sig .tc := ⟨.hbm, 1503, rfl⟩
abbrev main_call4_call3_call0_v152 : Ref sig .tc := ⟨.hbm, 1504, rfl⟩
abbrev main_call4_call3_call0_v153 : Ref sig .tc := ⟨.hbm, 1505, rfl⟩
abbrev main_call4_call3_call0_v154 : Ref sig .tc := ⟨.hbm, 1506, rfl⟩
abbrev main_call4_call3_call0_v155 : Ref sig .tc := ⟨.hbm, 1507, rfl⟩
abbrev main_call4_call3_call0_v156 : Ref sig .tc := ⟨.hbm, 1508, rfl⟩
abbrev main_call4_call3_call0_c_40 : Ref sig .tc := ⟨.hbm, 1509, rfl⟩
abbrev main_call4_call3_call0_v157 : Ref sig .tc := ⟨.hbm, 1510, rfl⟩
abbrev main_call4_call3_call0_v158 : Ref sig .tc := ⟨.hbm, 1511, rfl⟩
abbrev main_call4_call3_call0_c_41 : Ref sig .tc := ⟨.hbm, 1512, rfl⟩
abbrev main_call4_call3_call0_v159 : Ref sig .tc := ⟨.hbm, 1513, rfl⟩
abbrev main_call4_call3_call0_v160 : Ref sig .tc := ⟨.hbm, 1514, rfl⟩
abbrev main_call4_call3_call0_v161 : Ref sig .tc := ⟨.hbm, 1515, rfl⟩
abbrev main_call4_call3_call0_v162 : Ref sig .tc := ⟨.hbm, 1516, rfl⟩
abbrev main_call4_call3_call0_v163 : Ref sig .tc := ⟨.hbm, 1517, rfl⟩
abbrev main_call4_call3_call0_c_42 : Ref sig .tc := ⟨.hbm, 1518, rfl⟩
abbrev main_call4_call3_call0_v164 : Ref sig .tc := ⟨.hbm, 1519, rfl⟩
abbrev main_call4_call3_call0_v165 : Ref sig .tc := ⟨.hbm, 1520, rfl⟩
abbrev main_call4_call3_call0_c_43 : Ref sig .tc := ⟨.hbm, 1521, rfl⟩
abbrev main_call4_call3_call0_v166 : Ref sig .tc := ⟨.hbm, 1522, rfl⟩
abbrev main_call4_call3_call0_v167 : Ref sig .tc := ⟨.hbm, 1523, rfl⟩
abbrev main_call4_call3_call0_v168 : Ref sig .tc := ⟨.hbm, 1524, rfl⟩
abbrev main_call4_call3_call0_v169 : Ref sig .tc := ⟨.hbm, 1525, rfl⟩
abbrev main_call4_call3_call0_v170 : Ref sig .tc := ⟨.hbm, 1526, rfl⟩
abbrev main_call4_call3_v11_0 : Ref sig .tc := ⟨.hbm, 1527, rfl⟩
abbrev main_call4_call3_call0_v172 : Ref sig .tc := ⟨.hbm, 1528, rfl⟩
abbrev main_call4_call3_call0_v173 : Ref sig .tc := ⟨.hbm, 1529, rfl⟩
abbrev main_call4_call3_call0_c_44 : Ref sig .tc := ⟨.hbm, 1530, rfl⟩
abbrev main_call4_call3_call0_v174 : Ref sig .tc := ⟨.hbm, 1531, rfl⟩
abbrev main_call4_call3_v11_1 : Ref sig .tc := ⟨.hbm, 1532, rfl⟩
abbrev main_call4_call3_v12 : Ref sig .tc := ⟨.hbm, 1533, rfl⟩
abbrev main_call4_call3_v13 : Ref sig .tc := ⟨.hbm, 1534, rfl⟩
abbrev main_call4_v8 : Ref sig .tc := ⟨.hbm, 1535, rfl⟩
abbrev main_call4_v9 : Ref sig .tc := ⟨.hbm, 1536, rfl⟩
abbrev main_call4_v10 : Ref sig .tc := ⟨.hbm, 1537, rfl⟩
abbrev main_call4_v11 : Ref sig .tc := ⟨.hbm, 1538, rfl⟩
abbrev main_call4_v12 : Ref sig .tc := ⟨.hbm, 1539, rfl⟩
abbrev main_call4_v13 : Ref sig .tc := ⟨.hbm, 1540, rfl⟩
abbrev main_call4_v14 : Ref sig .tc := ⟨.hbm, 1541, rfl⟩
abbrev main_call4_v15 : Ref sig .tc := ⟨.hbm, 1542, rfl⟩
abbrev main_call4_v16 : Ref sig .tc := ⟨.hbm, 1543, rfl⟩
abbrev main_call4_v17 : Ref sig .tc := ⟨.hbm, 1544, rfl⟩
abbrev main_call4_c_6 : Ref sig .tc := ⟨.hbm, 1545, rfl⟩
abbrev main_call4_v18 : Ref sig .tc := ⟨.hbm, 1546, rfl⟩
abbrev main_call4_v19 : Ref sig .tc := ⟨.hbm, 1547, rfl⟩
abbrev main_call4_c_7 : Ref sig .tc := ⟨.hbm, 1548, rfl⟩
abbrev main_call4_v20 : Ref sig .tc := ⟨.hbm, 1549, rfl⟩
abbrev main_call4_v21 : Ref sig .tc := ⟨.hbm, 1550, rfl⟩
abbrev main_call4_v22 : Ref sig .tc := ⟨.hbm, 1551, rfl⟩
abbrev main_call4_v23 : Ref sig .tc := ⟨.hbm, 1552, rfl⟩
abbrev main_call4_call4_v0 : Ref sig .tc := ⟨.hbm, 1553, rfl⟩
abbrev main_call4_call4_c : Ref sig .tc := ⟨.hbm, 1554, rfl⟩
abbrev main_call4_call4_v1 : Ref sig .tc := ⟨.hbm, 1555, rfl⟩
abbrev main_call4_call4_v2 : Ref sig .tc := ⟨.hbm, 1556, rfl⟩
abbrev main_call4_call4_v3 : Ref sig .tc := ⟨.hbm, 1557, rfl⟩
abbrev main_call4_call4_v4 : Ref sig .tc := ⟨.hbm, 1558, rfl⟩
abbrev main_call4_call4_v5 : Ref sig .tc := ⟨.hbm, 1559, rfl⟩
abbrev main_call4_call4_v6 : Ref sig .tc := ⟨.hbm, 1560, rfl⟩
abbrev main_call4_call4_c_0 : Ref sig .tc := ⟨.hbm, 1561, rfl⟩
abbrev main_call4_call4_v7 : Ref sig .tc := ⟨.hbm, 1562, rfl⟩
abbrev main_call4_call4_v8 : Ref sig .tc := ⟨.hbm, 1563, rfl⟩
abbrev main_call4_call4_c_1 : Ref sig .tc := ⟨.hbm, 1564, rfl⟩
abbrev main_call4_call4_v9 : Ref sig .tc := ⟨.hbm, 1565, rfl⟩
abbrev main_call4_call4_v10 : Ref sig .tc := ⟨.hbm, 1566, rfl⟩
abbrev main_call4_call4_v11 : Ref sig .tc := ⟨.hbm, 1567, rfl⟩
abbrev main_call4_call4_v12 : Ref sig .tc := ⟨.hbm, 1568, rfl⟩
abbrev main_call4_call4_v13 : Ref sig .tc := ⟨.hbm, 1569, rfl⟩
abbrev main_call4_call4_c_2 : Ref sig .tc := ⟨.hbm, 1570, rfl⟩
abbrev main_call4_call4_v14 : Ref sig .tc := ⟨.hbm, 1571, rfl⟩
abbrev main_call4_call4_v15 : Ref sig .tc := ⟨.hbm, 1572, rfl⟩
abbrev main_call4_call4_c_3 : Ref sig .tc := ⟨.hbm, 1573, rfl⟩
abbrev main_call4_call4_v16 : Ref sig .tc := ⟨.hbm, 1574, rfl⟩
abbrev main_call4_call4_v17 : Ref sig .tc := ⟨.hbm, 1575, rfl⟩
abbrev main_call4_call4_v18 : Ref sig .tc := ⟨.hbm, 1576, rfl⟩
abbrev main_call4_call4_v19 : Ref sig .tc := ⟨.hbm, 1577, rfl⟩
abbrev main_call4_call4_v20 : Ref sig .tc := ⟨.hbm, 1578, rfl⟩
abbrev main_call4_call4_c_4 : Ref sig .tc := ⟨.hbm, 1579, rfl⟩
abbrev main_call4_call4_v21 : Ref sig .tc := ⟨.hbm, 1580, rfl⟩
abbrev main_call4_call4_v22 : Ref sig .tc := ⟨.hbm, 1581, rfl⟩
abbrev main_call4_call4_c_5 : Ref sig .tc := ⟨.hbm, 1582, rfl⟩
abbrev main_call4_call4_v23 : Ref sig .tc := ⟨.hbm, 1583, rfl⟩
abbrev main_call4_call4_v24 : Ref sig .tc := ⟨.hbm, 1584, rfl⟩
abbrev main_call4_call4_v25 : Ref sig .tc := ⟨.hbm, 1585, rfl⟩
abbrev main_call4_call4_v26 : Ref sig .tc := ⟨.hbm, 1586, rfl⟩
abbrev main_call4_call4_v27 : Ref sig .tc := ⟨.hbm, 1587, rfl⟩
abbrev main_call4_call4_c_6 : Ref sig .tc := ⟨.hbm, 1588, rfl⟩
abbrev main_call4_call4_v28 : Ref sig .tc := ⟨.hbm, 1589, rfl⟩
abbrev main_call4_call4_v29 : Ref sig .tc := ⟨.hbm, 1590, rfl⟩
abbrev main_call4_call4_c_7 : Ref sig .tc := ⟨.hbm, 1591, rfl⟩
abbrev main_call4_call4_v30 : Ref sig .tc := ⟨.hbm, 1592, rfl⟩
abbrev main_call4_call4_v31 : Ref sig .tc := ⟨.hbm, 1593, rfl⟩
abbrev main_call4_call4_v32 : Ref sig .tc := ⟨.hbm, 1594, rfl⟩
abbrev main_call4_call4_v33 : Ref sig .tc := ⟨.hbm, 1595, rfl⟩
abbrev main_call4_call4_v34 : Ref sig .tc := ⟨.hbm, 1596, rfl⟩
abbrev main_call4_call4_v35 : Ref sig .tc := ⟨.hbm, 1597, rfl⟩
abbrev main_call4_call4_v36 : Ref sig .tc := ⟨.hbm, 1598, rfl⟩
abbrev main_call4_call4_v37 : Ref sig .tc := ⟨.hbm, 1599, rfl⟩
abbrev main_call4_call4_c_8 : Ref sig .tc := ⟨.hbm, 1600, rfl⟩
abbrev main_call4_call4_v38 : Ref sig .tc := ⟨.hbm, 1601, rfl⟩
abbrev main_call4_call4_v39 : Ref sig .tc := ⟨.hbm, 1602, rfl⟩
abbrev main_call4_call4_v40 : Ref sig .tc := ⟨.hbm, 1603, rfl⟩
abbrev main_call4_call4_c_9 : Ref sig .tc := ⟨.hbm, 1604, rfl⟩
abbrev main_call4_call4_v41 : Ref sig .tc := ⟨.hbm, 1605, rfl⟩
abbrev main_call4_call4_v42 : Ref sig .tc := ⟨.hbm, 1606, rfl⟩
abbrev main_call4_call4_c_10 : Ref sig .tc := ⟨.hbm, 1607, rfl⟩
abbrev main_call4_call4_v43 : Ref sig .tc := ⟨.hbm, 1608, rfl⟩
abbrev main_call4_call4_v44 : Ref sig .tc := ⟨.hbm, 1609, rfl⟩
abbrev main_call4_call4_v45 : Ref sig .tc := ⟨.hbm, 1610, rfl⟩
abbrev main_call4_call4_v46 : Ref sig .tc := ⟨.hbm, 1611, rfl⟩
abbrev main_call4_call4_v47 : Ref sig .tc := ⟨.hbm, 1612, rfl⟩
abbrev main_call4_call4_c_11 : Ref sig .tc := ⟨.hbm, 1613, rfl⟩
abbrev main_call4_call4_v48 : Ref sig .tc := ⟨.hbm, 1614, rfl⟩
abbrev main_call4_call4_v49 : Ref sig .tc := ⟨.hbm, 1615, rfl⟩
abbrev main_call4_call4_c_12 : Ref sig .tc := ⟨.hbm, 1616, rfl⟩
abbrev main_call4_call4_v50 : Ref sig .tc := ⟨.hbm, 1617, rfl⟩
abbrev main_call4_call4_v51 : Ref sig .tc := ⟨.hbm, 1618, rfl⟩
abbrev main_call4_call4_v52 : Ref sig .tc := ⟨.hbm, 1619, rfl⟩
abbrev main_call4_call4_v53 : Ref sig .tc := ⟨.hbm, 1620, rfl⟩
abbrev main_call4_call4_v54 : Ref sig .tc := ⟨.hbm, 1621, rfl⟩
abbrev main_call4_call4_c_13 : Ref sig .tc := ⟨.hbm, 1622, rfl⟩
abbrev main_call4_call4_v55 : Ref sig .tc := ⟨.hbm, 1623, rfl⟩
abbrev main_call4_call4_v56 : Ref sig .tc := ⟨.hbm, 1624, rfl⟩
abbrev main_call4_call4_c_14 : Ref sig .tc := ⟨.hbm, 1625, rfl⟩
abbrev main_call4_call4_v57 : Ref sig .tc := ⟨.hbm, 1626, rfl⟩
abbrev main_call4_call4_v58 : Ref sig .tc := ⟨.hbm, 1627, rfl⟩
abbrev main_call4_call4_v59 : Ref sig .tc := ⟨.hbm, 1628, rfl⟩
abbrev main_call4_call4_v60 : Ref sig .tc := ⟨.hbm, 1629, rfl⟩
abbrev main_call4_call4_v61 : Ref sig .tc := ⟨.hbm, 1630, rfl⟩
abbrev main_call4_call4_c_15 : Ref sig .tc := ⟨.hbm, 1631, rfl⟩
abbrev main_call4_call4_v62 : Ref sig .tc := ⟨.hbm, 1632, rfl⟩
abbrev main_call4_call4_v63 : Ref sig .tc := ⟨.hbm, 1633, rfl⟩
abbrev main_call4_call4_c_16 : Ref sig .tc := ⟨.hbm, 1634, rfl⟩
abbrev main_call4_call4_v64 : Ref sig .tc := ⟨.hbm, 1635, rfl⟩
abbrev main_call4_call4_v65 : Ref sig .tc := ⟨.hbm, 1636, rfl⟩
abbrev main_call4_call4_v66 : Ref sig .tc := ⟨.hbm, 1637, rfl⟩
abbrev main_call4_call4_v67 : Ref sig .tc := ⟨.hbm, 1638, rfl⟩
abbrev main_call4_call4_v68 : Ref sig .tc := ⟨.hbm, 1639, rfl⟩
abbrev main_call4_call4_v69 : Ref sig .tc := ⟨.hbm, 1640, rfl⟩
abbrev main_call4_call4_v70 : Ref sig .tc := ⟨.hbm, 1641, rfl⟩
abbrev main_call4_call4_v71 : Ref sig .tc := ⟨.hbm, 1642, rfl⟩
abbrev main_call4_call4_c_17 : Ref sig .tc := ⟨.hbm, 1643, rfl⟩
abbrev main_call4_call4_v72 : Ref sig .tc := ⟨.hbm, 1644, rfl⟩
abbrev main_call4_call4_v73 : Ref sig .tc := ⟨.hbm, 1645, rfl⟩
abbrev main_call4_call4_v74 : Ref sig .tc := ⟨.hbm, 1646, rfl⟩
abbrev main_call4_call4_c_18 : Ref sig .tc := ⟨.hbm, 1647, rfl⟩
abbrev main_call4_call4_v75 : Ref sig .tc := ⟨.hbm, 1648, rfl⟩
abbrev main_call4_call4_v76 : Ref sig .tc := ⟨.hbm, 1649, rfl⟩
abbrev main_call4_call4_c_19 : Ref sig .tc := ⟨.hbm, 1650, rfl⟩
abbrev main_call4_call4_v77 : Ref sig .tc := ⟨.hbm, 1651, rfl⟩
abbrev main_call4_call4_v78 : Ref sig .tc := ⟨.hbm, 1652, rfl⟩
abbrev main_call4_call4_v79 : Ref sig .tc := ⟨.hbm, 1653, rfl⟩
abbrev main_call4_call4_v80 : Ref sig .tc := ⟨.hbm, 1654, rfl⟩
abbrev main_call4_call4_v81 : Ref sig .tc := ⟨.hbm, 1655, rfl⟩
abbrev main_call4_call4_c_20 : Ref sig .tc := ⟨.hbm, 1656, rfl⟩
abbrev main_call4_call4_v82 : Ref sig .tc := ⟨.hbm, 1657, rfl⟩
abbrev main_call4_call4_v83 : Ref sig .tc := ⟨.hbm, 1658, rfl⟩
abbrev main_call4_call4_c_21 : Ref sig .tc := ⟨.hbm, 1659, rfl⟩
abbrev main_call4_call4_v84 : Ref sig .tc := ⟨.hbm, 1660, rfl⟩
abbrev main_call4_call4_v85 : Ref sig .tc := ⟨.hbm, 1661, rfl⟩
abbrev main_call4_call4_v86 : Ref sig .tc := ⟨.hbm, 1662, rfl⟩
abbrev main_call4_call4_v87 : Ref sig .tc := ⟨.hbm, 1663, rfl⟩
abbrev main_call4_call4_v88 : Ref sig .tc := ⟨.hbm, 1664, rfl⟩
abbrev main_call4_call4_c_22 : Ref sig .tc := ⟨.hbm, 1665, rfl⟩
abbrev main_call4_call4_v89 : Ref sig .tc := ⟨.hbm, 1666, rfl⟩
abbrev main_call4_call4_v90 : Ref sig .tc := ⟨.hbm, 1667, rfl⟩
abbrev main_call4_call4_c_23 : Ref sig .tc := ⟨.hbm, 1668, rfl⟩
abbrev main_call4_call4_v91 : Ref sig .tc := ⟨.hbm, 1669, rfl⟩
abbrev main_call4_call4_v92 : Ref sig .tc := ⟨.hbm, 1670, rfl⟩
abbrev main_call4_call4_v93 : Ref sig .tc := ⟨.hbm, 1671, rfl⟩
abbrev main_call4_call4_v94 : Ref sig .tc := ⟨.hbm, 1672, rfl⟩
abbrev main_call4_call4_v95 : Ref sig .tc := ⟨.hbm, 1673, rfl⟩
abbrev main_call4_call4_c_24 : Ref sig .tc := ⟨.hbm, 1674, rfl⟩
abbrev main_call4_call4_v96 : Ref sig .tc := ⟨.hbm, 1675, rfl⟩
abbrev main_call4_call4_v97 : Ref sig .tc := ⟨.hbm, 1676, rfl⟩
abbrev main_call4_call4_c_25 : Ref sig .tc := ⟨.hbm, 1677, rfl⟩
abbrev main_call4_call4_v98 : Ref sig .tc := ⟨.hbm, 1678, rfl⟩
abbrev main_call4_call4_v99 : Ref sig .tc := ⟨.hbm, 1679, rfl⟩
abbrev main_call4_call4_v100 : Ref sig .tc := ⟨.hbm, 1680, rfl⟩
abbrev main_call4_call4_v101 : Ref sig .tc := ⟨.hbm, 1681, rfl⟩
abbrev main_call4_call4_v102 : Ref sig .tc := ⟨.hbm, 1682, rfl⟩
abbrev main_call4_call4_v103 : Ref sig .tc := ⟨.hbm, 1683, rfl⟩
abbrev main_call4_call4_v104 : Ref sig .tc := ⟨.hbm, 1684, rfl⟩
abbrev main_call4_call4_v105 : Ref sig .tc := ⟨.hbm, 1685, rfl⟩
abbrev main_call4_call4_c_26 : Ref sig .tc := ⟨.hbm, 1686, rfl⟩
abbrev main_call4_call4_v106 : Ref sig .tc := ⟨.hbm, 1687, rfl⟩
abbrev main_call4_call4_v107 : Ref sig .tc := ⟨.hbm, 1688, rfl⟩
abbrev main_call4_call4_v108 : Ref sig .tc := ⟨.hbm, 1689, rfl⟩
abbrev main_call4_call4_c_27 : Ref sig .tc := ⟨.hbm, 1690, rfl⟩
abbrev main_call4_call4_v109 : Ref sig .tc := ⟨.hbm, 1691, rfl⟩
abbrev main_call4_call4_v110 : Ref sig .tc := ⟨.hbm, 1692, rfl⟩
abbrev main_call4_call4_c_28 : Ref sig .tc := ⟨.hbm, 1693, rfl⟩
abbrev main_call4_call4_v111 : Ref sig .tc := ⟨.hbm, 1694, rfl⟩
abbrev main_call4_call4_v112 : Ref sig .tc := ⟨.hbm, 1695, rfl⟩
abbrev main_call4_call4_v113 : Ref sig .tc := ⟨.hbm, 1696, rfl⟩
abbrev main_call4_call4_v114 : Ref sig .tc := ⟨.hbm, 1697, rfl⟩
abbrev main_call4_call4_v115 : Ref sig .tc := ⟨.hbm, 1698, rfl⟩
abbrev main_call4_call4_c_29 : Ref sig .tc := ⟨.hbm, 1699, rfl⟩
abbrev main_call4_call4_v116 : Ref sig .tc := ⟨.hbm, 1700, rfl⟩
abbrev main_call4_call4_v117 : Ref sig .tc := ⟨.hbm, 1701, rfl⟩
abbrev main_call4_call4_c_30 : Ref sig .tc := ⟨.hbm, 1702, rfl⟩
abbrev main_call4_call4_v118 : Ref sig .tc := ⟨.hbm, 1703, rfl⟩
abbrev main_call4_call4_v119 : Ref sig .tc := ⟨.hbm, 1704, rfl⟩
abbrev main_call4_call4_v120 : Ref sig .tc := ⟨.hbm, 1705, rfl⟩
abbrev main_call4_call4_v121 : Ref sig .tc := ⟨.hbm, 1706, rfl⟩
abbrev main_call4_call4_v122 : Ref sig .tc := ⟨.hbm, 1707, rfl⟩
abbrev main_call4_call4_c_31 : Ref sig .tc := ⟨.hbm, 1708, rfl⟩
abbrev main_call4_call4_v123 : Ref sig .tc := ⟨.hbm, 1709, rfl⟩
abbrev main_call4_call4_v124 : Ref sig .tc := ⟨.hbm, 1710, rfl⟩
abbrev main_call4_call4_c_32 : Ref sig .tc := ⟨.hbm, 1711, rfl⟩
abbrev main_call4_call4_v125 : Ref sig .tc := ⟨.hbm, 1712, rfl⟩
abbrev main_call4_call4_v126 : Ref sig .tc := ⟨.hbm, 1713, rfl⟩
abbrev main_call4_call4_v127 : Ref sig .tc := ⟨.hbm, 1714, rfl⟩
abbrev main_call4_call4_v128 : Ref sig .tc := ⟨.hbm, 1715, rfl⟩
abbrev main_call4_call4_v129 : Ref sig .tc := ⟨.hbm, 1716, rfl⟩
abbrev main_call4_call4_c_33 : Ref sig .tc := ⟨.hbm, 1717, rfl⟩
abbrev main_call4_call4_v130 : Ref sig .tc := ⟨.hbm, 1718, rfl⟩
abbrev main_call4_call4_v131 : Ref sig .tc := ⟨.hbm, 1719, rfl⟩
abbrev main_call4_call4_c_34 : Ref sig .tc := ⟨.hbm, 1720, rfl⟩
abbrev main_call4_call4_v132 : Ref sig .tc := ⟨.hbm, 1721, rfl⟩
abbrev main_call4_call4_v133 : Ref sig .tc := ⟨.hbm, 1722, rfl⟩
abbrev main_call4_call4_v134 : Ref sig .tc := ⟨.hbm, 1723, rfl⟩
abbrev main_call4_call4_v135 : Ref sig .tc := ⟨.hbm, 1724, rfl⟩
abbrev main_call4_call4_v136 : Ref sig .tc := ⟨.hbm, 1725, rfl⟩
abbrev main_call4_call4_v137 : Ref sig .tc := ⟨.hbm, 1726, rfl⟩
abbrev main_call4_call4_v138 : Ref sig .tc := ⟨.hbm, 1727, rfl⟩
abbrev main_call4_call4_v139 : Ref sig .tc := ⟨.hbm, 1728, rfl⟩
abbrev main_call4_call4_c_35 : Ref sig .tc := ⟨.hbm, 1729, rfl⟩
abbrev main_call4_call4_v140 : Ref sig .tc := ⟨.hbm, 1730, rfl⟩
abbrev main_call4_call4_v141 : Ref sig .tc := ⟨.hbm, 1731, rfl⟩
abbrev main_call4_call4_v142 : Ref sig .tc := ⟨.hbm, 1732, rfl⟩
abbrev main_call4_call4_c_36 : Ref sig .tc := ⟨.hbm, 1733, rfl⟩
abbrev main_call4_call4_v143 : Ref sig .tc := ⟨.hbm, 1734, rfl⟩
abbrev main_call4_call4_v144 : Ref sig .tc := ⟨.hbm, 1735, rfl⟩
abbrev main_call4_call4_c_37 : Ref sig .tc := ⟨.hbm, 1736, rfl⟩
abbrev main_call4_call4_v145 : Ref sig .tc := ⟨.hbm, 1737, rfl⟩
abbrev main_call4_call4_v146 : Ref sig .tc := ⟨.hbm, 1738, rfl⟩
abbrev main_call4_call4_v147 : Ref sig .tc := ⟨.hbm, 1739, rfl⟩
abbrev main_call4_call4_v148 : Ref sig .tc := ⟨.hbm, 1740, rfl⟩
abbrev main_call4_call4_v149 : Ref sig .tc := ⟨.hbm, 1741, rfl⟩
abbrev main_call4_call4_c_38 : Ref sig .tc := ⟨.hbm, 1742, rfl⟩
abbrev main_call4_call4_v150 : Ref sig .tc := ⟨.hbm, 1743, rfl⟩
abbrev main_call4_call4_v151 : Ref sig .tc := ⟨.hbm, 1744, rfl⟩
abbrev main_call4_call4_c_39 : Ref sig .tc := ⟨.hbm, 1745, rfl⟩
abbrev main_call4_call4_v152 : Ref sig .tc := ⟨.hbm, 1746, rfl⟩
abbrev main_call4_call4_v153 : Ref sig .tc := ⟨.hbm, 1747, rfl⟩
abbrev main_call4_call4_v154 : Ref sig .tc := ⟨.hbm, 1748, rfl⟩
abbrev main_call4_call4_v155 : Ref sig .tc := ⟨.hbm, 1749, rfl⟩
abbrev main_call4_call4_v156 : Ref sig .tc := ⟨.hbm, 1750, rfl⟩
abbrev main_call4_call4_c_40 : Ref sig .tc := ⟨.hbm, 1751, rfl⟩
abbrev main_call4_call4_v157 : Ref sig .tc := ⟨.hbm, 1752, rfl⟩
abbrev main_call4_call4_v158 : Ref sig .tc := ⟨.hbm, 1753, rfl⟩
abbrev main_call4_call4_c_41 : Ref sig .tc := ⟨.hbm, 1754, rfl⟩
abbrev main_call4_call4_v159 : Ref sig .tc := ⟨.hbm, 1755, rfl⟩
abbrev main_call4_call4_v160 : Ref sig .tc := ⟨.hbm, 1756, rfl⟩
abbrev main_call4_call4_v161 : Ref sig .tc := ⟨.hbm, 1757, rfl⟩
abbrev main_call4_call4_v162 : Ref sig .tc := ⟨.hbm, 1758, rfl⟩
abbrev main_call4_call4_v163 : Ref sig .tc := ⟨.hbm, 1759, rfl⟩
abbrev main_call4_call4_c_42 : Ref sig .tc := ⟨.hbm, 1760, rfl⟩
abbrev main_call4_call4_v164 : Ref sig .tc := ⟨.hbm, 1761, rfl⟩
abbrev main_call4_call4_v165 : Ref sig .tc := ⟨.hbm, 1762, rfl⟩
abbrev main_call4_call4_c_43 : Ref sig .tc := ⟨.hbm, 1763, rfl⟩
abbrev main_call4_call4_v166 : Ref sig .tc := ⟨.hbm, 1764, rfl⟩
abbrev main_call4_call4_v167 : Ref sig .tc := ⟨.hbm, 1765, rfl⟩
abbrev main_call4_call4_v168 : Ref sig .tc := ⟨.hbm, 1766, rfl⟩
abbrev main_call4_call4_v169 : Ref sig .tc := ⟨.hbm, 1767, rfl⟩
abbrev main_call4_call4_v170 : Ref sig .tc := ⟨.hbm, 1768, rfl⟩
abbrev main_call4_v24_0 : Ref sig .tc := ⟨.hbm, 1769, rfl⟩
abbrev main_call4_call4_v172 : Ref sig .tc := ⟨.hbm, 1770, rfl⟩
abbrev main_call4_call4_v173 : Ref sig .tc := ⟨.hbm, 1771, rfl⟩
abbrev main_call4_call4_c_44 : Ref sig .tc := ⟨.hbm, 1772, rfl⟩
abbrev main_call4_call4_v174 : Ref sig .tc := ⟨.hbm, 1773, rfl⟩
abbrev main_call4_v24_1 : Ref sig .tc := ⟨.hbm, 1774, rfl⟩
abbrev main_call4_v25 : Ref sig .tc := ⟨.hbm, 1775, rfl⟩
abbrev main_call4_v26 : Ref sig .tc := ⟨.hbm, 1776, rfl⟩
abbrev main_call4_v27 : Ref sig .tc := ⟨.hbm, 1777, rfl⟩
abbrev main_call4_v28 : Ref sig .tc := ⟨.hbm, 1778, rfl⟩
abbrev main_call4_v29 : Ref sig .tc := ⟨.hbm, 1779, rfl⟩
abbrev main_call4_v30 : Ref sig .tc := ⟨.hbm, 1780, rfl⟩
abbrev main_call4_c_8 : Ref sig .tc := ⟨.hbm, 1781, rfl⟩
abbrev main_call4_v31 : Ref sig .tc := ⟨.hbm, 1782, rfl⟩
abbrev main_call4_v32 : Ref sig .tc := ⟨.hbm, 1783, rfl⟩
abbrev main_call4_c_9 : Ref sig .tc := ⟨.hbm, 1784, rfl⟩
abbrev main_call4_v33 : Ref sig .tc := ⟨.hbm, 1785, rfl⟩
abbrev main_call4_v34 : Ref sig .tc := ⟨.hbm, 1786, rfl⟩
abbrev main_call4_v35 : Ref sig .tc := ⟨.hbm, 1787, rfl⟩
abbrev main_call4_v36 : Ref sig .tc := ⟨.hbm, 1788, rfl⟩
abbrev main_call4_call5_v0 : Ref sig .tc := ⟨.hbm, 1789, rfl⟩
abbrev main_call4_call5_c : Ref sig .tc := ⟨.hbm, 1790, rfl⟩
abbrev main_call4_call5_v1 : Ref sig .tc := ⟨.hbm, 1791, rfl⟩
abbrev main_call4_call5_v2 : Ref sig .tc := ⟨.hbm, 1792, rfl⟩
abbrev main_call4_call5_v3 : Ref sig .tc := ⟨.hbm, 1793, rfl⟩
abbrev main_call4_call5_v4 : Ref sig .tc := ⟨.hbm, 1794, rfl⟩
abbrev main_call4_call5_v5 : Ref sig .tc := ⟨.hbm, 1795, rfl⟩
abbrev main_call4_call5_v6 : Ref sig .tc := ⟨.hbm, 1796, rfl⟩
abbrev main_call4_call5_c_0 : Ref sig .tc := ⟨.hbm, 1797, rfl⟩
abbrev main_call4_call5_v7 : Ref sig .tc := ⟨.hbm, 1798, rfl⟩
abbrev main_call4_call5_v8 : Ref sig .tc := ⟨.hbm, 1799, rfl⟩
abbrev main_call4_call5_c_1 : Ref sig .tc := ⟨.hbm, 1800, rfl⟩
abbrev main_call4_call5_v9 : Ref sig .tc := ⟨.hbm, 1801, rfl⟩
abbrev main_call4_call5_v10 : Ref sig .tc := ⟨.hbm, 1802, rfl⟩
abbrev main_call4_call5_v11 : Ref sig .tc := ⟨.hbm, 1803, rfl⟩
abbrev main_call4_call5_v12 : Ref sig .tc := ⟨.hbm, 1804, rfl⟩
abbrev main_call4_call5_v13 : Ref sig .tc := ⟨.hbm, 1805, rfl⟩
abbrev main_call4_call5_c_2 : Ref sig .tc := ⟨.hbm, 1806, rfl⟩
abbrev main_call4_call5_v14 : Ref sig .tc := ⟨.hbm, 1807, rfl⟩
abbrev main_call4_call5_v15 : Ref sig .tc := ⟨.hbm, 1808, rfl⟩
abbrev main_call4_call5_c_3 : Ref sig .tc := ⟨.hbm, 1809, rfl⟩
abbrev main_call4_call5_v16 : Ref sig .tc := ⟨.hbm, 1810, rfl⟩
abbrev main_call4_call5_v17 : Ref sig .tc := ⟨.hbm, 1811, rfl⟩
abbrev main_call4_call5_v18 : Ref sig .tc := ⟨.hbm, 1812, rfl⟩
abbrev main_call4_call5_v19 : Ref sig .tc := ⟨.hbm, 1813, rfl⟩
abbrev main_call4_call5_v20 : Ref sig .tc := ⟨.hbm, 1814, rfl⟩
abbrev main_call4_call5_c_4 : Ref sig .tc := ⟨.hbm, 1815, rfl⟩
abbrev main_call4_call5_v21 : Ref sig .tc := ⟨.hbm, 1816, rfl⟩
abbrev main_call4_call5_v22 : Ref sig .tc := ⟨.hbm, 1817, rfl⟩
abbrev main_call4_call5_c_5 : Ref sig .tc := ⟨.hbm, 1818, rfl⟩
abbrev main_call4_call5_v23 : Ref sig .tc := ⟨.hbm, 1819, rfl⟩
abbrev main_call4_call5_v24 : Ref sig .tc := ⟨.hbm, 1820, rfl⟩
abbrev main_call4_call5_v25 : Ref sig .tc := ⟨.hbm, 1821, rfl⟩
abbrev main_call4_call5_v26 : Ref sig .tc := ⟨.hbm, 1822, rfl⟩
abbrev main_call4_call5_v27 : Ref sig .tc := ⟨.hbm, 1823, rfl⟩
abbrev main_call4_call5_c_6 : Ref sig .tc := ⟨.hbm, 1824, rfl⟩
abbrev main_call4_call5_v28 : Ref sig .tc := ⟨.hbm, 1825, rfl⟩
abbrev main_call4_call5_v29 : Ref sig .tc := ⟨.hbm, 1826, rfl⟩
abbrev main_call4_call5_c_7 : Ref sig .tc := ⟨.hbm, 1827, rfl⟩
abbrev main_call4_call5_v30 : Ref sig .tc := ⟨.hbm, 1828, rfl⟩
abbrev main_call4_call5_v31 : Ref sig .tc := ⟨.hbm, 1829, rfl⟩
abbrev main_call4_call5_v32 : Ref sig .tc := ⟨.hbm, 1830, rfl⟩
abbrev main_call4_call5_v33 : Ref sig .tc := ⟨.hbm, 1831, rfl⟩
abbrev main_call4_call5_v34 : Ref sig .tc := ⟨.hbm, 1832, rfl⟩
abbrev main_call4_call5_v35 : Ref sig .tc := ⟨.hbm, 1833, rfl⟩
abbrev main_call4_call5_v36 : Ref sig .tc := ⟨.hbm, 1834, rfl⟩
abbrev main_call4_call5_v37 : Ref sig .tc := ⟨.hbm, 1835, rfl⟩
abbrev main_call4_call5_c_8 : Ref sig .tc := ⟨.hbm, 1836, rfl⟩
abbrev main_call4_call5_v38 : Ref sig .tc := ⟨.hbm, 1837, rfl⟩
abbrev main_call4_call5_v39 : Ref sig .tc := ⟨.hbm, 1838, rfl⟩
abbrev main_call4_call5_v40 : Ref sig .tc := ⟨.hbm, 1839, rfl⟩
abbrev main_call4_call5_c_9 : Ref sig .tc := ⟨.hbm, 1840, rfl⟩
abbrev main_call4_call5_v41 : Ref sig .tc := ⟨.hbm, 1841, rfl⟩
abbrev main_call4_call5_v42 : Ref sig .tc := ⟨.hbm, 1842, rfl⟩
abbrev main_call4_call5_c_10 : Ref sig .tc := ⟨.hbm, 1843, rfl⟩
abbrev main_call4_call5_v43 : Ref sig .tc := ⟨.hbm, 1844, rfl⟩
abbrev main_call4_call5_v44 : Ref sig .tc := ⟨.hbm, 1845, rfl⟩
abbrev main_call4_call5_v45 : Ref sig .tc := ⟨.hbm, 1846, rfl⟩
abbrev main_call4_call5_v46 : Ref sig .tc := ⟨.hbm, 1847, rfl⟩
abbrev main_call4_call5_v47 : Ref sig .tc := ⟨.hbm, 1848, rfl⟩
abbrev main_call4_call5_c_11 : Ref sig .tc := ⟨.hbm, 1849, rfl⟩
abbrev main_call4_call5_v48 : Ref sig .tc := ⟨.hbm, 1850, rfl⟩
abbrev main_call4_call5_v49 : Ref sig .tc := ⟨.hbm, 1851, rfl⟩
abbrev main_call4_call5_c_12 : Ref sig .tc := ⟨.hbm, 1852, rfl⟩
abbrev main_call4_call5_v50 : Ref sig .tc := ⟨.hbm, 1853, rfl⟩
abbrev main_call4_call5_v51 : Ref sig .tc := ⟨.hbm, 1854, rfl⟩
abbrev main_call4_call5_v52 : Ref sig .tc := ⟨.hbm, 1855, rfl⟩
abbrev main_call4_call5_v53 : Ref sig .tc := ⟨.hbm, 1856, rfl⟩
abbrev main_call4_call5_v54 : Ref sig .tc := ⟨.hbm, 1857, rfl⟩
abbrev main_call4_call5_c_13 : Ref sig .tc := ⟨.hbm, 1858, rfl⟩
abbrev main_call4_call5_v55 : Ref sig .tc := ⟨.hbm, 1859, rfl⟩
abbrev main_call4_call5_v56 : Ref sig .tc := ⟨.hbm, 1860, rfl⟩
abbrev main_call4_call5_c_14 : Ref sig .tc := ⟨.hbm, 1861, rfl⟩
abbrev main_call4_call5_v57 : Ref sig .tc := ⟨.hbm, 1862, rfl⟩
abbrev main_call4_call5_v58 : Ref sig .tc := ⟨.hbm, 1863, rfl⟩
abbrev main_call4_call5_v59 : Ref sig .tc := ⟨.hbm, 1864, rfl⟩
abbrev main_call4_call5_v60 : Ref sig .tc := ⟨.hbm, 1865, rfl⟩
abbrev main_call4_call5_v61 : Ref sig .tc := ⟨.hbm, 1866, rfl⟩
abbrev main_call4_call5_c_15 : Ref sig .tc := ⟨.hbm, 1867, rfl⟩
abbrev main_call4_call5_v62 : Ref sig .tc := ⟨.hbm, 1868, rfl⟩
abbrev main_call4_call5_v63 : Ref sig .tc := ⟨.hbm, 1869, rfl⟩
abbrev main_call4_call5_c_16 : Ref sig .tc := ⟨.hbm, 1870, rfl⟩
abbrev main_call4_call5_v64 : Ref sig .tc := ⟨.hbm, 1871, rfl⟩
abbrev main_call4_call5_v65 : Ref sig .tc := ⟨.hbm, 1872, rfl⟩
abbrev main_call4_call5_v66 : Ref sig .tc := ⟨.hbm, 1873, rfl⟩
abbrev main_call4_call5_v67 : Ref sig .tc := ⟨.hbm, 1874, rfl⟩
abbrev main_call4_call5_v68 : Ref sig .tc := ⟨.hbm, 1875, rfl⟩
abbrev main_call4_call5_v69 : Ref sig .tc := ⟨.hbm, 1876, rfl⟩
abbrev main_call4_call5_v70 : Ref sig .tc := ⟨.hbm, 1877, rfl⟩
abbrev main_call4_call5_v71 : Ref sig .tc := ⟨.hbm, 1878, rfl⟩
abbrev main_call4_call5_c_17 : Ref sig .tc := ⟨.hbm, 1879, rfl⟩
abbrev main_call4_call5_v72 : Ref sig .tc := ⟨.hbm, 1880, rfl⟩
abbrev main_call4_call5_v73 : Ref sig .tc := ⟨.hbm, 1881, rfl⟩
abbrev main_call4_call5_v74 : Ref sig .tc := ⟨.hbm, 1882, rfl⟩
abbrev main_call4_call5_c_18 : Ref sig .tc := ⟨.hbm, 1883, rfl⟩
abbrev main_call4_call5_v75 : Ref sig .tc := ⟨.hbm, 1884, rfl⟩
abbrev main_call4_call5_v76 : Ref sig .tc := ⟨.hbm, 1885, rfl⟩
abbrev main_call4_call5_c_19 : Ref sig .tc := ⟨.hbm, 1886, rfl⟩
abbrev main_call4_call5_v77 : Ref sig .tc := ⟨.hbm, 1887, rfl⟩
abbrev main_call4_call5_v78 : Ref sig .tc := ⟨.hbm, 1888, rfl⟩
abbrev main_call4_call5_v79 : Ref sig .tc := ⟨.hbm, 1889, rfl⟩
abbrev main_call4_call5_v80 : Ref sig .tc := ⟨.hbm, 1890, rfl⟩
abbrev main_call4_call5_v81 : Ref sig .tc := ⟨.hbm, 1891, rfl⟩
abbrev main_call4_call5_c_20 : Ref sig .tc := ⟨.hbm, 1892, rfl⟩
abbrev main_call4_call5_v82 : Ref sig .tc := ⟨.hbm, 1893, rfl⟩
abbrev main_call4_call5_v83 : Ref sig .tc := ⟨.hbm, 1894, rfl⟩
abbrev main_call4_call5_c_21 : Ref sig .tc := ⟨.hbm, 1895, rfl⟩
abbrev main_call4_call5_v84 : Ref sig .tc := ⟨.hbm, 1896, rfl⟩
abbrev main_call4_call5_v85 : Ref sig .tc := ⟨.hbm, 1897, rfl⟩
abbrev main_call4_call5_v86 : Ref sig .tc := ⟨.hbm, 1898, rfl⟩
abbrev main_call4_call5_v87 : Ref sig .tc := ⟨.hbm, 1899, rfl⟩
abbrev main_call4_call5_v88 : Ref sig .tc := ⟨.hbm, 1900, rfl⟩
abbrev main_call4_call5_c_22 : Ref sig .tc := ⟨.hbm, 1901, rfl⟩
abbrev main_call4_call5_v89 : Ref sig .tc := ⟨.hbm, 1902, rfl⟩
abbrev main_call4_call5_v90 : Ref sig .tc := ⟨.hbm, 1903, rfl⟩
abbrev main_call4_call5_c_23 : Ref sig .tc := ⟨.hbm, 1904, rfl⟩
abbrev main_call4_call5_v91 : Ref sig .tc := ⟨.hbm, 1905, rfl⟩
abbrev main_call4_call5_v92 : Ref sig .tc := ⟨.hbm, 1906, rfl⟩
abbrev main_call4_call5_v93 : Ref sig .tc := ⟨.hbm, 1907, rfl⟩
abbrev main_call4_call5_v94 : Ref sig .tc := ⟨.hbm, 1908, rfl⟩
abbrev main_call4_call5_v95 : Ref sig .tc := ⟨.hbm, 1909, rfl⟩
abbrev main_call4_call5_c_24 : Ref sig .tc := ⟨.hbm, 1910, rfl⟩
abbrev main_call4_call5_v96 : Ref sig .tc := ⟨.hbm, 1911, rfl⟩
abbrev main_call4_call5_v97 : Ref sig .tc := ⟨.hbm, 1912, rfl⟩
abbrev main_call4_call5_c_25 : Ref sig .tc := ⟨.hbm, 1913, rfl⟩
abbrev main_call4_call5_v98 : Ref sig .tc := ⟨.hbm, 1914, rfl⟩
abbrev main_call4_call5_v99 : Ref sig .tc := ⟨.hbm, 1915, rfl⟩
abbrev main_call4_call5_v100 : Ref sig .tc := ⟨.hbm, 1916, rfl⟩
abbrev main_call4_call5_v101 : Ref sig .tc := ⟨.hbm, 1917, rfl⟩
abbrev main_call4_call5_v102 : Ref sig .tc := ⟨.hbm, 1918, rfl⟩
abbrev main_call4_call5_v103 : Ref sig .tc := ⟨.hbm, 1919, rfl⟩
abbrev main_call4_call5_v104 : Ref sig .tc := ⟨.hbm, 1920, rfl⟩
abbrev main_call4_call5_v105 : Ref sig .tc := ⟨.hbm, 1921, rfl⟩
abbrev main_call4_call5_c_26 : Ref sig .tc := ⟨.hbm, 1922, rfl⟩
abbrev main_call4_call5_v106 : Ref sig .tc := ⟨.hbm, 1923, rfl⟩
abbrev main_call4_call5_v107 : Ref sig .tc := ⟨.hbm, 1924, rfl⟩
abbrev main_call4_call5_v108 : Ref sig .tc := ⟨.hbm, 1925, rfl⟩
abbrev main_call4_call5_c_27 : Ref sig .tc := ⟨.hbm, 1926, rfl⟩
abbrev main_call4_call5_v109 : Ref sig .tc := ⟨.hbm, 1927, rfl⟩
abbrev main_call4_call5_v110 : Ref sig .tc := ⟨.hbm, 1928, rfl⟩
abbrev main_call4_call5_c_28 : Ref sig .tc := ⟨.hbm, 1929, rfl⟩
abbrev main_call4_call5_v111 : Ref sig .tc := ⟨.hbm, 1930, rfl⟩
abbrev main_call4_call5_v112 : Ref sig .tc := ⟨.hbm, 1931, rfl⟩
abbrev main_call4_call5_v113 : Ref sig .tc := ⟨.hbm, 1932, rfl⟩
abbrev main_call4_call5_v114 : Ref sig .tc := ⟨.hbm, 1933, rfl⟩
abbrev main_call4_call5_v115 : Ref sig .tc := ⟨.hbm, 1934, rfl⟩
abbrev main_call4_call5_c_29 : Ref sig .tc := ⟨.hbm, 1935, rfl⟩
abbrev main_call4_call5_v116 : Ref sig .tc := ⟨.hbm, 1936, rfl⟩
abbrev main_call4_call5_v117 : Ref sig .tc := ⟨.hbm, 1937, rfl⟩
abbrev main_call4_call5_c_30 : Ref sig .tc := ⟨.hbm, 1938, rfl⟩
abbrev main_call4_call5_v118 : Ref sig .tc := ⟨.hbm, 1939, rfl⟩
abbrev main_call4_call5_v119 : Ref sig .tc := ⟨.hbm, 1940, rfl⟩
abbrev main_call4_call5_v120 : Ref sig .tc := ⟨.hbm, 1941, rfl⟩
abbrev main_call4_call5_v121 : Ref sig .tc := ⟨.hbm, 1942, rfl⟩
abbrev main_call4_call5_v122 : Ref sig .tc := ⟨.hbm, 1943, rfl⟩
abbrev main_call4_call5_c_31 : Ref sig .tc := ⟨.hbm, 1944, rfl⟩
abbrev main_call4_call5_v123 : Ref sig .tc := ⟨.hbm, 1945, rfl⟩
abbrev main_call4_call5_v124 : Ref sig .tc := ⟨.hbm, 1946, rfl⟩
abbrev main_call4_call5_c_32 : Ref sig .tc := ⟨.hbm, 1947, rfl⟩
abbrev main_call4_call5_v125 : Ref sig .tc := ⟨.hbm, 1948, rfl⟩
abbrev main_call4_call5_v126 : Ref sig .tc := ⟨.hbm, 1949, rfl⟩
abbrev main_call4_call5_v127 : Ref sig .tc := ⟨.hbm, 1950, rfl⟩
abbrev main_call4_call5_v128 : Ref sig .tc := ⟨.hbm, 1951, rfl⟩
abbrev main_call4_call5_v129 : Ref sig .tc := ⟨.hbm, 1952, rfl⟩
abbrev main_call4_call5_c_33 : Ref sig .tc := ⟨.hbm, 1953, rfl⟩
abbrev main_call4_call5_v130 : Ref sig .tc := ⟨.hbm, 1954, rfl⟩
abbrev main_call4_call5_v131 : Ref sig .tc := ⟨.hbm, 1955, rfl⟩
abbrev main_call4_call5_c_34 : Ref sig .tc := ⟨.hbm, 1956, rfl⟩
abbrev main_call4_call5_v132 : Ref sig .tc := ⟨.hbm, 1957, rfl⟩
abbrev main_call4_call5_v133 : Ref sig .tc := ⟨.hbm, 1958, rfl⟩
abbrev main_call4_call5_v134 : Ref sig .tc := ⟨.hbm, 1959, rfl⟩
abbrev main_call4_call5_v135 : Ref sig .tc := ⟨.hbm, 1960, rfl⟩
abbrev main_call4_call5_v136 : Ref sig .tc := ⟨.hbm, 1961, rfl⟩
abbrev main_call4_call5_v137 : Ref sig .tc := ⟨.hbm, 1962, rfl⟩
abbrev main_call4_call5_v138 : Ref sig .tc := ⟨.hbm, 1963, rfl⟩
abbrev main_call4_call5_v139 : Ref sig .tc := ⟨.hbm, 1964, rfl⟩
abbrev main_call4_call5_c_35 : Ref sig .tc := ⟨.hbm, 1965, rfl⟩
abbrev main_call4_call5_v140 : Ref sig .tc := ⟨.hbm, 1966, rfl⟩
abbrev main_call4_call5_v141 : Ref sig .tc := ⟨.hbm, 1967, rfl⟩
abbrev main_call4_call5_v142 : Ref sig .tc := ⟨.hbm, 1968, rfl⟩
abbrev main_call4_call5_c_36 : Ref sig .tc := ⟨.hbm, 1969, rfl⟩
abbrev main_call4_call5_v143 : Ref sig .tc := ⟨.hbm, 1970, rfl⟩
abbrev main_call4_call5_v144 : Ref sig .tc := ⟨.hbm, 1971, rfl⟩
abbrev main_call4_call5_c_37 : Ref sig .tc := ⟨.hbm, 1972, rfl⟩
abbrev main_call4_call5_v145 : Ref sig .tc := ⟨.hbm, 1973, rfl⟩
abbrev main_call4_call5_v146 : Ref sig .tc := ⟨.hbm, 1974, rfl⟩
abbrev main_call4_call5_v147 : Ref sig .tc := ⟨.hbm, 1975, rfl⟩
abbrev main_call4_call5_v148 : Ref sig .tc := ⟨.hbm, 1976, rfl⟩
abbrev main_call4_call5_v149 : Ref sig .tc := ⟨.hbm, 1977, rfl⟩
abbrev main_call4_call5_c_38 : Ref sig .tc := ⟨.hbm, 1978, rfl⟩
abbrev main_call4_call5_v150 : Ref sig .tc := ⟨.hbm, 1979, rfl⟩
abbrev main_call4_call5_v151 : Ref sig .tc := ⟨.hbm, 1980, rfl⟩
abbrev main_call4_call5_c_39 : Ref sig .tc := ⟨.hbm, 1981, rfl⟩
abbrev main_call4_call5_v152 : Ref sig .tc := ⟨.hbm, 1982, rfl⟩
abbrev main_call4_call5_v153 : Ref sig .tc := ⟨.hbm, 1983, rfl⟩
abbrev main_call4_call5_v154 : Ref sig .tc := ⟨.hbm, 1984, rfl⟩
abbrev main_call4_call5_v155 : Ref sig .tc := ⟨.hbm, 1985, rfl⟩
abbrev main_call4_call5_v156 : Ref sig .tc := ⟨.hbm, 1986, rfl⟩
abbrev main_call4_call5_c_40 : Ref sig .tc := ⟨.hbm, 1987, rfl⟩
abbrev main_call4_call5_v157 : Ref sig .tc := ⟨.hbm, 1988, rfl⟩
abbrev main_call4_call5_v158 : Ref sig .tc := ⟨.hbm, 1989, rfl⟩
abbrev main_call4_call5_c_41 : Ref sig .tc := ⟨.hbm, 1990, rfl⟩
abbrev main_call4_call5_v159 : Ref sig .tc := ⟨.hbm, 1991, rfl⟩
abbrev main_call4_call5_v160 : Ref sig .tc := ⟨.hbm, 1992, rfl⟩
abbrev main_call4_call5_v161 : Ref sig .tc := ⟨.hbm, 1993, rfl⟩
abbrev main_call4_call5_v162 : Ref sig .tc := ⟨.hbm, 1994, rfl⟩
abbrev main_call4_call5_v163 : Ref sig .tc := ⟨.hbm, 1995, rfl⟩
abbrev main_call4_call5_c_42 : Ref sig .tc := ⟨.hbm, 1996, rfl⟩
abbrev main_call4_call5_v164 : Ref sig .tc := ⟨.hbm, 1997, rfl⟩
abbrev main_call4_call5_v165 : Ref sig .tc := ⟨.hbm, 1998, rfl⟩
abbrev main_call4_call5_c_43 : Ref sig .tc := ⟨.hbm, 1999, rfl⟩
abbrev main_call4_call5_v166 : Ref sig .tc := ⟨.hbm, 2000, rfl⟩
abbrev main_call4_call5_v167 : Ref sig .tc := ⟨.hbm, 2001, rfl⟩
abbrev main_call4_call5_v168 : Ref sig .tc := ⟨.hbm, 2002, rfl⟩
abbrev main_call4_call5_v169 : Ref sig .tc := ⟨.hbm, 2003, rfl⟩
abbrev main_call4_call5_v170 : Ref sig .tc := ⟨.hbm, 2004, rfl⟩
abbrev main_call4_v37_0 : Ref sig .tc := ⟨.hbm, 2005, rfl⟩
abbrev main_call4_call5_v172 : Ref sig .tc := ⟨.hbm, 2006, rfl⟩
abbrev main_call4_call5_v173 : Ref sig .tc := ⟨.hbm, 2007, rfl⟩
abbrev main_call4_call5_c_44 : Ref sig .tc := ⟨.hbm, 2008, rfl⟩
abbrev main_call4_call5_v174 : Ref sig .tc := ⟨.hbm, 2009, rfl⟩
abbrev main_call4_v37_1 : Ref sig .tc := ⟨.hbm, 2010, rfl⟩
abbrev main_call4_v38 : Ref sig .tc := ⟨.hbm, 2011, rfl⟩
abbrev main_call4_v39 : Ref sig .tc := ⟨.hbm, 2012, rfl⟩
abbrev main_call4_v40 : Ref sig .tc := ⟨.hbm, 2013, rfl⟩
abbrev main_call4_v41 : Ref sig .tc := ⟨.hbm, 2014, rfl⟩
abbrev main_call4_c_10 : Ref sig .tc := ⟨.hbm, 2015, rfl⟩
abbrev main_call4_v42 : Ref sig .tc := ⟨.hbm, 2016, rfl⟩
abbrev main_call4_v43 : Ref sig .tc := ⟨.hbm, 2017, rfl⟩
abbrev main_call4_v44 : Ref sig .tc := ⟨.hbm, 2018, rfl⟩
abbrev main_call4_v45 : Ref sig .tc := ⟨.hbm, 2019, rfl⟩
abbrev main_call4_v46 : Ref sig .tc := ⟨.hbm, 2020, rfl⟩
abbrev main_call4_c_11 : Ref sig .tc := ⟨.hbm, 2021, rfl⟩
abbrev main_call4_v47 : Ref sig .tc := ⟨.hbm, 2022, rfl⟩
abbrev main_call4_v48 : Ref sig .tc := ⟨.hbm, 2023, rfl⟩
abbrev main_call4_v49 : Ref sig .tc := ⟨.hbm, 2024, rfl⟩
abbrev main_call4_c_12 : Ref sig .tc := ⟨.hbm, 2025, rfl⟩
abbrev main_call4_v50 : Ref sig .tc := ⟨.hbm, 2026, rfl⟩
abbrev main_call4_v51 : Ref sig .tc := ⟨.hbm, 2027, rfl⟩
abbrev main_call4_v52 : Ref sig .tc := ⟨.hbm, 2028, rfl⟩
abbrev main_call4_v53 : Ref sig .tc := ⟨.hbm, 2029, rfl⟩
abbrev main_call4_v54 : Ref sig .tc := ⟨.hbm, 2030, rfl⟩
abbrev main_call4_v55 : Ref sig .tc := ⟨.hbm, 2031, rfl⟩
abbrev main_call4_v56 : Ref sig .tc := ⟨.hbm, 2032, rfl⟩
abbrev main_call4_v57 : Ref sig .tc := ⟨.hbm, 2033, rfl⟩
abbrev main_call4_v58 : Ref sig .tc := ⟨.hbm, 2034, rfl⟩
abbrev main_call4_v59 : Ref sig .tc := ⟨.hbm, 2035, rfl⟩
abbrev main_call4_v60 : Ref sig .tc := ⟨.hbm, 2036, rfl⟩
abbrev main_call4_v61 : Ref sig .tc := ⟨.hbm, 2037, rfl⟩
abbrev main_call4_v62 : Ref sig .tc := ⟨.hbm, 2038, rfl⟩
abbrev main_call4_v63 : Ref sig .tc := ⟨.hbm, 2039, rfl⟩
abbrev main_call4_v64 : Ref sig .tc := ⟨.hbm, 2040, rfl⟩
abbrev main_v32 : Ref sig .tc := ⟨.hbm, 2041, rfl⟩
abbrev main_v33 : Ref sig .tc := ⟨.hbm, 2042, rfl⟩
abbrev main_v34 : Ref sig .tc := ⟨.hbm, 2043, rfl⟩
abbrev main_v35 : Ref sig .tc := ⟨.hbm, 2044, rfl⟩
abbrev main_v36 : Ref sig .tc := ⟨.hbm, 2045, rfl⟩
abbrev main_v37 : Ref sig .tc := ⟨.hbm, 2046, rfl⟩
abbrev main_v38 : Ref sig .tc := ⟨.hbm, 2047, rfl⟩
abbrev main_c_12 : Ref sig .tc := ⟨.hbm, 2048, rfl⟩
abbrev main_v39 : Ref sig .tc := ⟨.hbm, 2049, rfl⟩
abbrev main_v40 : Ref sig .tc := ⟨.hbm, 2050, rfl⟩
abbrev main_v41 : Ref sig .tc := ⟨.hbm, 2051, rfl⟩
abbrev main_v42 : Ref sig .tc := ⟨.hbm, 2052, rfl⟩
abbrev main_v43 : Ref sig .tc := ⟨.hbm, 2053, rfl⟩
abbrev main_v44 : Ref sig .tc := ⟨.hbm, 2054, rfl⟩
abbrev main_v45 : Ref sig .tc := ⟨.hbm, 2055, rfl⟩
abbrev main_v46 : Ref sig .tc := ⟨.hbm, 2056, rfl⟩
abbrev main_cst_13 : Ref sig .tc := ⟨.hbm, 2057, rfl⟩
abbrev main_call5_v0 : Ref sig .tc := ⟨.hbm, 2058, rfl⟩
abbrev main_call5_v1 : Ref sig .tc := ⟨.hbm, 2059, rfl⟩
abbrev main_v47 : Ref sig .tc := ⟨.hbm, 2060, rfl⟩

abbrev nD : Nat := 1
abbrev τ : Topo := Topo.v7x

variable {F : FTy → Type} [FloatOps F]
-- ==== Proof.Setup.lean ====
/-
  The names the kernel's proof shares: the launch as the SparseCore launch theorem reads it, the resource algebra, the
  buffers of a tile, and the rules of one sixteen-lane load and one sixteen-lane store of the chunk buffer, stated over the
  buffer's contents as a function of its indices.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.WritesUnit
public import Idealize.ShloMosaic.Lib.Pipeline.Value
public import proofs.«01_k».proof.Proof.Gen.KernelIdeal
public import proofs.«01_k».proof.Proof.Gen.KernelIdeal.Skeleton

@[expose] public section

noncomputable section

namespace Cert.Proof.Mask

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The launch -/

abbrev ΛP : Labels := Pipeline.Sig Λ₀ (Fin 0) fun p => (pcfgs (F := F) p).Adm
abbrev K : SparseCore.Cfg τ sig (ΛP (F := F)) 1 := sc (F := F)
/-- The launch has sixteen tiles on each SparseCore. -/
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The SparseCore and the tile of grid coordinates `L`. -/
abbrev cV (L : grid0.Coords) : Fin τ.nSC := (L 0).castLE hcore0
abbrev jV (L : grid0.Coords) : Fin τ.nSub := (L 1).castLE hsub0
/-- The thread of the tile at grid coordinates `L`. -/
abbrev thr (d : Dev nD) (L : grid0.Coords) : Thread nD τ := V d (cV L) (jV L)

abbrev xV : Memref sig .scVector .hbm S64x128x4000 .f32 := Memref.whole main_v23_scv
abbrev tV : Memref sig .scVector .hbm S64x2x16 .i32 := Memref.whole main_v22_scv
abbrev oV : Memref sig .scVector .hbm S64x128x4000 .f32 := Memref.whole main_v24_scv
abbrev sT : Memref sig .scVector .vmem S2x16 .i32 := Memref.whole cc0_scratch0
abbrev sB : Memref sig .scVector .vmem S8x4000 .f32 := Memref.whole cc0_scratch1

/-- The chunk buffer of the tile, whole, at contents `f`. -/
abbrev bufPts (d : Dev nD) (L : grid0.Coords) (f : S8x4000.Idx → Elt F .f32) : sProp 𝕄 :=
  (sB.view.loc (thr d L) ↦{fullShare} f)

/-! ## Zeroing part of the chunk

Every store of the kernel's body writes zeros over some of the elements of the chunk and leaves the others, so the contents
of the chunk are at every point of the body those that were copied in, zeroed where a predicate on row and column holds. -/

/-- The float zero the kernel stores. -/
abbrev zero : Elt F .f32 := Scalar.ofBits .f32 0x00000000#32

open Classical in
/-- `f` with the elements whose row and column satisfy `P` zeroed. -/
def zap (f : S8x4000.Idx → Elt F .f32) (P : ℕ → ℕ → Prop) : S8x4000.Idx → Elt F .f32 :=
  fun j => if P (j 0).val (j 1).val then zero else f j

/-- Zeroing depends only on which places are zeroed. -/
theorem zap_congr (f : S8x4000.Idx → Elt F .f32) {P Q : ℕ → ℕ → Prop} (h : ∀ r t, r < 8 → t < 4000 → (P r t ↔ Q r t)) :
    zap f P = zap f Q := by
  funext j
  classical exact if_congr (h _ _ (j 0).isLt (j 1).isLt) rfl rfl

/-- Zeroing twice zeroes either set of places. -/
theorem zap_zap (f : S8x4000.Idx → Elt F .f32) (P Q : ℕ → ℕ → Prop) : zap (zap f P) Q = zap f fun r t => Q r t ∨ P r t := by
  funext j
  unfold zap
  by_cases hq : Q (j 0).val (j 1).val
  · rw [if_pos hq, if_pos (Or.inl hq)]
  · rw [if_neg hq]
    by_cases hp : P (j 0).val (j 1).val
    · rw [if_pos hp, if_pos (Or.inr hp)]
    · rw [if_neg hp, if_neg (by rintro (h | h) <;> contradiction)]

/-- Zeroing no place changes nothing. -/
theorem zap_false (f : S8x4000.Idx → Elt F .f32) {P : ℕ → ℕ → Prop} (h : ∀ r t, r < 8 → t < 4000 → ¬ P r t) : zap f P = f := by
  funext j
  exact if_neg (h _ _ (j 0).isLt (j 1).isLt)

/-- Row `r`, the sixteen columns from `c`. -/
def inWin (r c : ℕ) : ℕ → ℕ → Prop := fun r' t => r' = r ∧ c ≤ t ∧ t < c + 16

/-- The contents after one more store of sixteen lanes which zeroes the lanes satisfying `P` and keeps the others: the
contents before it, zeroed there. -/
theorem writes_zap (f : S8x4000.Idx → Elt F .f32) {off : Fin 2 → ℕ} {r c : ℕ} (h : off = ![r, c])
    (inb : ∀ a, off a + S1x16.size a ≤ S8x4000.size a) (w : S1x16.Idx → Elt F .f32)
    (L : List (View.Piece (Elt F) S8x4000 .f32)) (P : ℕ → Prop)
    (hP : ∀ (y : S1x16.Idx), P (y 1).val → w y = zero)
    (hN : ∀ (y : S1x16.Idx), ¬ P (y 1).val → w y = (sB.view.writes (Elt F) f L : S8x4000.Idx → Elt F .f32) ((Rect.unit (s := S8x4000) off S1x16.size inb).emb y)) :
    sB.view.writes (Elt F) f (⟨Rect.unit (s := S8x4000) off S1x16.size inb, w⟩ :: L)
      = zap (sB.view.writes (Elt F) f L) fun r' t => inWin r c r' t ∧ P (t - c) := by
  funext j
  have hr : ∀ g : S8x4000.Idx → Elt F .f32, sB.view.read (Elt F) g = g := fun g => View.read_whole _ _
  have e := View.read_writes_cons_unit sB.view f inb w L j h
  rw [hr, hr] at e
  refine e.trans ?_
  unfold zap inWin
  by_cases hm : ∀ a, (![r, c] : Fin 2 → ℕ) a ≤ (j a).val ∧ (j a).val < (![r, c] : Fin 2 → ℕ) a + S1x16.size a
  · rw [dif_pos hm]
    have h0 : r ≤ (j 0).val ∧ (j 0).val < r + 1 := hm 0
    have h1 : c ≤ (j 1).val ∧ (j 1).val < c + 16 := hm 1
    by_cases hp : P ((j 1).val - c)
    · rw [if_pos ⟨⟨by omega, h1⟩, hp⟩]
      exact hP _ hp
    · rw [if_neg fun hh => hp hh.2, hN _ hp]
      congr 1
      subst h
      funext a
      refine Fin.ext ?_
      show (![r, c] : Fin 2 → ℕ) a + 1 * ((j a).val - (![r, c] : Fin 2 → ℕ) a) = (j a).val
      have := hm a
      omega
  · rw [dif_neg hm, if_neg]
    rintro ⟨⟨h0, h1⟩, -⟩
    exact hm fun
      | 0 => show r ≤ (j 0).val ∧ (j 0).val < r + 1 by omega
      | 1 => h1

/-- A store of sixteen zeros. -/
theorem writes_zero (f : S8x4000.Idx → Elt F .f32) {off size : Fin 2 → ℕ} {r c : ℕ} (h : off = ![r, c]) (hs : size = S1x16.size)
    (inb : ∀ a, off a + size a ≤ S8x4000.size a) (w : (Rect.unit (s := S8x4000) off size inb).shape.Idx → Elt F .f32)
    (L : List (View.Piece (Elt F) S8x4000 .f32)) (hw : ∀ y, w y = zero) :
    sB.view.writes (Elt F) f (⟨Rect.unit (s := S8x4000) off size inb, w⟩ :: L) = zap (sB.view.writes (Elt F) f L) (inWin r c) := by
  subst hs
  refine (writes_zap f h inb w L (fun _ => True) (fun y _ => hw y) (fun y hy => absurd trivial hy)).trans ?_
  exact zap_congr _ fun _ _ _ _ => and_iff_left trivial

/-- The lane of a window's element. -/
def lane (y : S1x16.Idx) : S16.Idx := fun | 0 => ⟨(y 1).val, (y 1).isLt⟩

/-- What a masked store of sixteen lanes writes: zero where the mask is set, elsewhere the lane loaded from there. -/
def selPay (m : IVec S16 1) (v : Vec F S1x16 .f32) : FVec F S1x16 .f32 :=
  shapeCast S1x16 (select m (broadcast S16 zero) (shapeCast S16 v shapeCasts_S1x16_S16)) shapeCasts_S16_S1x16

/-- A masked store over the lanes just loaded: the contents, zeroed at the lanes of the mask. -/
theorem writes_sel (f : S8x4000.Idx → Elt F .f32) {off : Fin 2 → ℕ} {r c : ℕ} (h : off = ![r, c])
    (inb : ∀ a, off a + S1x16.size a ≤ S8x4000.size a) (w : S1x16.Idx → Elt F .f32) (m : IVec S16 1) (P : ℕ → Prop)
    (hm : ∀ l : S16.Idx, m l = 1#1 ↔ P (c + (l 0).val))
    (hw : w = selPay m (sB.view.readAt (Elt F) (Rect.unit (s := S8x4000) off S1x16.size inb).toLoadRect f)) :
    sB.view.writes (Elt F) f [⟨Rect.unit (s := S8x4000) off S1x16.size inb, w⟩]
      = zap f fun r' t => inWin r c r' t ∧ P t := by
  have hl (y : S1x16.Idx) : w y = if m (lane y) = 1#1 then zero else f ((Rect.unit (s := S8x4000) off S1x16.size inb).emb y) := by
    subst hw
    unfold selPay
    have el : (fun a : Fin 1 => y a.succ) = lane y := funext fun
      | 0 => rfl
    refine (shapeCast_addUnit_apply ![16] _ shapeCasts_S16_S1x16 y).trans ?_
    refine (congrArg (select m (broadcast S16 zero) (shapeCast S16 (sB.view.readAt (Elt F) (Rect.unit (s := S8x4000) off S1x16.size inb).toLoadRect f) shapeCasts_S1x16_S16)) el).trans ?_
    show (if m (lane y) = 1#1 then zero else shapeCast S16 _ shapeCasts_S1x16_S16 (lane y)) = _
    by_cases hc : m (lane y) = 1#1
    · rw [if_pos hc, if_pos hc]
    · rw [if_neg hc, if_neg hc]
      refine (shapeCast_dropUnit_apply ![16] _ shapeCasts_S1x16_S16 (lane y)).trans ?_
      show f ((Rect.unit (s := S8x4000) off S1x16.size inb).emb _) = f ((Rect.unit (s := S8x4000) off S1x16.size inb).emb y)
      congr 2
      funext a
      match a with
      | 0 => exact Fin.ext (by have : (y 0).val < 1 := (y 0).isLt; show 0 = (y 0).val; omega)
      | 1 => rfl
  rw [writes_zap f h inb w [] (fun l => P (c + l)) (fun y hy => by rw [hl y, if_pos ((hm _).mpr hy)])
    (fun y hy => by rw [hl y, if_neg fun hh => hy ((hm (lane y)).mp hh)]; rfl)]
  exact zap_congr _ fun r' t _ _ => and_congr_right fun hw => by rw [Nat.add_sub_cancel' hw.2.1]

end Cert.Proof.Mask

end
-- ==== Proof.Words.lean ====
/-
  The words the kernel computes from the first masked column `v15`, as natural numbers: the block of sixteen columns that
  holds the first masked column, the block that holds the last, the trips of the loop over the blocks between, and the
  offsets of every access that depends on them. From these, the side condition the kernel assumes of `v15`.
-/
module

public import proofs.«01_k».proof.Defs
public import proofs.«01_k».proof.Proof.Gen.KernelIdeal
public import Idealize.ShloMosaic.Lib.WordCmp

@[expose] public section

noncomputable section

namespace Cert.Proof.Mask

open Cert.KernelIdeal Cert.KernelIdeal.Gen
open Idealize.ShloMosaic

/-- A word with a small value is the word of that value. -/
theorem word_eq {x : BitVec 32} {n : ℕ} (h : x.toNat = n) : x = BitVec.ofNat 32 n :=
  BitVec.eq_of_toNat_eq (by rw [BitVec.toNat_ofNat, h, Nat.mod_eq_of_lt]; rw [← h]; exact x.isLt)

/-- A small number is its word's value. -/
theorem toNat_small {n : ℕ} (h : n < 2 ^ 32) : (BitVec.ofNat 32 n).toNat = n := by
  rw [BitVec.toNat_ofNat, Nat.mod_eq_of_lt h]

/-- The same, the word read with a sign. -/
theorem toInt_small {n : ℕ} (h : n < 2 ^ 31) : (BitVec.ofNat 32 n).toInt = (n : ℤ) := by
  rw [BitVec.toInt_eq_toNat_of_lt (by rw [toNat_small (by omega)]; omega), toNat_small (by omega)]

/-- The block of sixteen columns holding column `x`. -/
theorem shr_toNat (x : BitVec 32) : (Scalar.shrui x 4#32).toNat = x.toNat / 16 := by
  have h : Scalar.shrui x 4#32 = x >>> (4#32) := rfl
  rw [h]
  show (x >>> (4 : ℕ)).toNat = _
  rw [BitVec.toNat_ushiftRight, Nat.shiftRight_eq_div_pow]

/-- A quotient by one. -/
theorem div_one (x : BitVec 32) (h : x.toNat < 2 ^ 31) : Scalar.divsi x 1#32 = x := by
  have hc : ¬ IntOp.SDivCorner x 1#32 := by
    unfold IntOp.SDivCorner
    simp
  show (if IntOp.SDivCorner x 1#32 then _ else x.sdiv 1#32) = x
  rw [if_neg hc]
  apply BitVec.eq_of_toNat_eq
  rw [BitVec.sdiv_eq]
  have hm : x.msb = false := by
    rw [BitVec.msb_eq_decide]
    simp; omega
  rw [hm]
  simp

/-- Membership of a word in the `w` words from `lo`, as the kernel tests it. -/
theorem within_iff {x lo w : BitVec 32} (hx : x.toNat < 2 ^ 31) (hlo : lo.toNat + w.toNat < 2 ^ 31) :
    IntOp.andi (IntOp.cmpi .sge x lo) (IntOp.cmpi .slt x (IntOp.addi lo w)) = 1#1
      ↔ lo.toNat ≤ x.toNat ∧ x.toNat < lo.toNat + w.toNat := by
  have ha : (IntOp.addi lo w).toNat = lo.toNat + w.toNat := by
    show (lo + w).toNat = _
    rw [BitVec.toNat_add, Nat.mod_eq_of_lt (by omega)]
  have t {y : BitVec 32} (hy : y.toNat < 2 ^ 31) : y.toInt = (y.toNat : ℤ) := BitVec.toInt_eq_toNat_of_lt (by omega)
  rw [WordCmp.cmpi_sge_eq, WordCmp.cmpi_slt_eq, t hx, t (show lo.toNat < 2 ^ 31 by omega), t (show (IntOp.addi lo w).toNat < 2 ^ 31 by omega), ha,
    WordCmp.andi_ofBool, WordCmp.ofBool_eq_one_iff, Bool.and_eq_true, decide_eq_true_iff, decide_eq_true_iff]
  omega

/-- The test of a conditional on a one-bit word. -/
theorem cond_iff (b : BitVec 1) : Scalar.cmpi .ne (Scalar.extui b) 0#32 = 1#1 ↔ b = 1#1 := by
  revert b
  decide

/-- The first row of chunk `k`. -/
theorem row0_toNat {k : ℕ} (hk : k < 16) : (Scalar.muli (Scf.iv 0#32 1#32 k) 8#32).toNat = 8 * k := by
  show ((0#32 + BitVec.ofNat 32 k * 1#32) * 8#32).toNat = _
  rw [BitVec.mul_one, BitVec.zero_add, BitVec.toNat_mul, toNat_small (by omega), show (8#32).toNat = 8 from rfl, Nat.mod_eq_of_lt (by omega)]
  omega

/-- Row `r` of chunk `k` is one of the twelve rows from `f0`, as the kernel tests it. -/
theorem row_iff {k r : ℕ} (hk : k < 16) (hr : r < 8) {v24 v17 rw' : BitVec 32} (h24 : v24.toNat = 8 * k) (h17 : v17.toNat ≤ 116)
    (hrw : rw'.toNat = r) :
    Scalar.cmpi .ne (Scalar.extui (Scalar.andi (Scalar.cmpi .sge (Scalar.addi v24 rw') v17)
        (Scalar.cmpi .slt (Scalar.addi v24 rw') (Scalar.addi v17 12#32)))) 0#32 = 1#1
      ↔ v17.toNat ≤ 8 * k + r ∧ 8 * k + r < v17.toNat + 12 := by
  have hx : (Scalar.addi v24 rw').toNat = 8 * k + r := by
    show (v24 + rw').toNat = _
    rw [BitVec.toNat_add, h24, hrw, Nat.mod_eq_of_lt (by omega)]
  have h := within_iff (x := Scalar.addi v24 rw') (lo := v17) (w := 12#32) (by omega) (by show _ + 12 < _; omega)
  rw [hx] at h
  exact (cond_iff _).trans h

/-- A window of sixteen lanes lies in the chunk when its row and its last column do. -/
theorem inb_of {off : Fin 2 → ℕ} {r c : ℕ} (h : off = ![r, c]) (hr : r < 8) (hc : c + 16 ≤ 4000) (a : Fin 2) :
    off a + S1x16.size a ≤ S8x4000.size a := by
  subst h
  match a with
  | 0 => show r + 1 ≤ 8; omega
  | 1 => show c + 16 ≤ 4000; omega

section

variable {v15 : BitVec 32} (hn : v15.toNat ≤ 3600)
include hn

/-- The block of sixteen where the band begins. -/
theorem v18_eq : Scalar.shrui v15 4#32 = BitVec.ofNat 32 (v15.toNat / 16) := word_eq (shr_toNat v15)

/-- The band's last column. -/
theorem v20_toNat : (Scalar.subi (Scalar.addi v15 400#32) 1#32).toNat = v15.toNat + 399 := by
  show (v15 + 400#32 - 1#32).toNat = _
  rw [BitVec.toNat_sub, BitVec.toNat_add]
  simp
  omega

/-- The block where the band ends. -/
theorem v21_eq : Scalar.shrui (Scalar.subi (Scalar.addi v15 400#32) 1#32) 4#32 = BitVec.ofNat 32 ((v15.toNat + 399) / 16) :=
  word_eq (by rw [shr_toNat, v20_toNat hn])

/-- The first block wholly in the band. -/
theorem v25_eq : Scalar.addi (Scalar.shrui v15 4#32) 1#32 = BitVec.ofNat 32 (v15.toNat / 16 + 1) := by
  rw [v18_eq hn]
  exact word_eq (by show (BitVec.ofNat 32 _ + 1#32).toNat = _; rw [BitVec.toNat_add]; simp; omega)

/-- How many blocks lie wholly in the band. -/
theorem v26_eq : Scalar.subi (BitVec.ofNat 32 ((v15.toNat + 399) / 16)) (BitVec.ofNat 32 (v15.toNat / 16 + 1))
    = BitVec.ofNat 32 ((v15.toNat + 399) / 16 - (v15.toNat / 16 + 1)) :=
  word_eq (by show (BitVec.ofNat 32 _ - BitVec.ofNat 32 _).toNat = _; rw [BitVec.toNat_sub]; simp; omega)

/-- Dividing and multiplying by one changes nothing. -/
theorem v29_eq : Scalar.muli (Scalar.divsi (BitVec.ofNat 32 ((v15.toNat + 399) / 16 - (v15.toNat / 16 + 1))) 1#32) 1#32
    = BitVec.ofNat 32 ((v15.toNat + 399) / 16 - (v15.toNat / 16 + 1)) := by
  rw [div_one _ (by rw [toNat_small (by omega)]; omega)]
  show _ * 1#32 = _
  exact BitVec.mul_one _

/-- The blocks wholly in the band end where the band's last block begins. -/
theorem v30_eq : Scalar.addi (BitVec.ofNat 32 (v15.toNat / 16 + 1)) (BitVec.ofNat 32 ((v15.toNat + 399) / 16 - (v15.toNat / 16 + 1)))
    = BitVec.ofNat 32 ((v15.toNat + 399) / 16) :=
  word_eq (by show (BitVec.ofNat 32 _ + BitVec.ofNat 32 _).toNat = _; rw [BitVec.toNat_add]; simp; omega)

/-- The loop over the blocks strictly between the first and the last. -/
theorem t3_loop_eq : k0_t3_loop v15 = ⟨BitVec.ofNat 32 (v15.toNat / 16 + 1), BitVec.ofNat 32 ((v15.toNat + 399) / 16), 1#32⟩ := by
  unfold k0_t3_loop
  simp only [v25_eq hn, v21_eq hn, v26_eq hn, v29_eq hn, v30_eq hn]

/-- The remainder loop begins where it ends. -/
theorem t4_loop_eq : k0_t4_loop v15 = ⟨BitVec.ofNat 32 ((v15.toNat + 399) / 16), BitVec.ofNat 32 ((v15.toNat + 399) / 16), 1#32⟩ := by
  unfold k0_t4_loop
  simp only [v25_eq hn, v21_eq hn, v26_eq hn, v29_eq hn, v30_eq hn]

/-- The trips of the loop over whole blocks. -/
theorem t3_trips : (k0_t3_loop v15).trips = (v15.toNat + 399) / 16 - (v15.toNat / 16 + 1) := by
  rw [t3_loop_eq hn]
  show Scf.trips _ _ _ = _
  unfold Scf.trips
  rw [toInt_small (by omega), toInt_small (by omega), show (1#32).toInt = 1 by decide]
  omega

/-- The remainder loop makes no trip. -/
theorem t4_trips : (k0_t4_loop v15).trips = 0 := by
  rw [t4_loop_eq hn]
  show Scf.trips _ _ _ = _
  unfold Scf.trips
  show ((_ - _ + (1#32).toInt - 1) / (1#32).toInt).toNat = 0
  rw [show (1#32).toInt = 1 by decide, sub_self]
  rfl

/-- The loop over whole blocks is well formed. -/
theorem t3_ok : (k0_t3_loop v15).OK := by
  have h := t3_trips hn
  rw [t3_loop_eq hn] at h ⊢
  refine ⟨show 0 < (1#32).toInt by decide, ?_⟩
  show BitVec.toInt (BitVec.ofNat 32 _) + (Scf.trips _ _ _ : ℕ) * BitVec.toInt (1#32) < _
  rw [show Scf.trips _ _ _ = _ from h, toInt_small (by omega), show (1#32).toInt = 1 by decide]
  omega

/-- The remainder loop is well formed. -/
theorem t4_ok : (k0_t4_loop v15).OK := by
  have h := t4_trips hn
  rw [t4_loop_eq hn] at h ⊢
  refine ⟨show 0 < (1#32).toInt by decide, ?_⟩
  show BitVec.toInt (BitVec.ofNat 32 _) + (Scf.trips _ _ _ : ℕ) * BitVec.toInt (1#32) < _
  rw [show Scf.trips _ _ _ = _ from h, toInt_small (by omega), show (1#32).toInt = 1 by decide]
  omega

/-- The first column of the block zeroed at trip `k`. -/
theorem colMid {k : ℕ} (hk : k < (k0_t3_loop v15).trips) :
    (Scalar.indexCast (Scalar.muli (Scf.iv (Scalar.addi (Scalar.shrui v15 4#32) 1#32) 1#32 k) 16#32)).toNat = 16 * (v15.toNat / 16 + 1 + k) := by
  rw [t3_trips hn] at hk
  rw [v25_eq hn]
  show ((BitVec.ofNat 32 _ + BitVec.ofNat 32 k * 1#32) * 16#32).toNat = _
  rw [BitVec.mul_one, ← BitVec.ofNat_add, BitVec.toNat_mul, toNat_small (by omega), show (16#32).toNat = 16 from rfl, Nat.mod_eq_of_lt (by omega)]
  omega

/-- The first column of the first block. -/
theorem colLo : (Scalar.indexCast (Scalar.muli (Scalar.shrui v15 4#32) 16#32)).toNat = 16 * (v15.toNat / 16) := by
  show (Scalar.shrui v15 4#32 * 16#32).toNat = _
  rw [BitVec.toNat_mul, shr_toNat, show (16#32).toNat = 16 from rfl, Nat.mod_eq_of_lt (by omega)]
  omega

/-- The first column of the last block. -/
theorem colHi : (Scalar.indexCast (Scalar.muli (Scalar.shrui (Scalar.subi (Scalar.addi v15 400#32) 1#32) 4#32) 16#32)).toNat
    = 16 * ((v15.toNat + 399) / 16) := by
  show (Scalar.shrui (Scalar.subi (Scalar.addi v15 400#32) 1#32) 4#32 * 16#32).toNat = _
  rw [BitVec.toNat_mul, shr_toNat, v20_toNat hn, show (16#32).toNat = 16 from rfl, Nat.mod_eq_of_lt (by omega)]
  omega

/-- Column `16·q + l` is one of the four hundred from `v15`, as the kernel's mask tests it lane by lane. -/
theorem mask_iff {q : ℕ} (v : BitVec 32) (hq : v.toNat = q) (hv : q * 16 + 16 ≤ 4000) (v3 v10 : IVec S16 32) (h10 : ∀ l, v10 l = v15)
    (h3 : ∀ l, v3 l = BitVec.ofNat 32 (l 0).val) (l : S16.Idx) :
    andi (cmpi .sge (addi (broadcast S16 (Scalar.muli v 16#32)) v3) v10)
        (cmpi .slt (addi (broadcast S16 (Scalar.muli v 16#32)) v3) (addi v10 (broadcast S16 400#32))) l = 1#1
      ↔ v15.toNat ≤ 16 * q + (l 0).val ∧ 16 * q + (l 0).val < v15.toNat + 400 := by
  subst hq
  have hl : (l 0).val < 16 := (l 0).isLt
  have hx : (IntOp.addi (Scalar.muli v 16#32) (v3 l)).toNat = 16 * v.toNat + (l 0).val := by
    rw [h3]
    show (v * 16#32 + BitVec.ofNat 32 (l 0).val).toNat = _
    rw [BitVec.toNat_add, BitVec.toNat_mul, BitVec.toNat_ofNat, BitVec.toNat_ofNat, show 16 % 2 ^ 32 = 16 from rfl, Nat.mod_eq_of_lt (a := (l 0).val) (by omega), Nat.mod_eq_of_lt (a := v.toNat * 16) (by omega),
      Nat.mod_eq_of_lt (by omega)]
    omega
  show IntOp.andi (IntOp.cmpi .sge (IntOp.addi (Scalar.muli v 16#32) (v3 l)) (v10 l))
    (IntOp.cmpi .slt (IntOp.addi (Scalar.muli v 16#32) (v3 l)) (IntOp.addi (v10 l) 400#32)) = 1#1 ↔ _
  rw [h10, within_iff (by omega) (by show _ + 400 < _; omega), hx]
  rfl

variable (k : Fin (k0_t3_loop v15).trips)

/-- Where a whole block of row 0 is written. -/
theorem off3_eq : k0_off3 v15 k = ![0, 16 * (v15.toNat / 16 + 1 + k)] := congrArg (fun c => ![0, c]) (colMid hn k.isLt)
/-- Where a whole block of row 1 is written. -/
theorem off4_eq : k0_off4 v15 k = ![1, 16 * (v15.toNat / 16 + 1 + k)] := congrArg (fun c => ![1, c]) (colMid hn k.isLt)
/-- Where a whole block of row 2 is written. -/
theorem off5_eq : k0_off5 v15 k = ![2, 16 * (v15.toNat / 16 + 1 + k)] := congrArg (fun c => ![2, c]) (colMid hn k.isLt)
/-- Where a whole block of row 3 is written. -/
theorem off6_eq : k0_off6 v15 k = ![3, 16 * (v15.toNat / 16 + 1 + k)] := congrArg (fun c => ![3, c]) (colMid hn k.isLt)
/-- Where a whole block of row 4 is written. -/
theorem off7_eq : k0_off7 v15 k = ![4, 16 * (v15.toNat / 16 + 1 + k)] := congrArg (fun c => ![4, c]) (colMid hn k.isLt)
/-- Where a whole block of row 5 is written. -/
theorem off8_eq : k0_off8 v15 k = ![5, 16 * (v15.toNat / 16 + 1 + k)] := congrArg (fun c => ![5, c]) (colMid hn k.isLt)
/-- Where a whole block of row 6 is written. -/
theorem off9_eq : k0_off9 v15 k = ![6, 16 * (v15.toNat / 16 + 1 + k)] := congrArg (fun c => ![6, c]) (colMid hn k.isLt)
/-- Where a whole block of row 7 is written. -/
theorem off10_eq : k0_off10 v15 k = ![7, 16 * (v15.toNat / 16 + 1 + k)] := congrArg (fun c => ![7, c]) (colMid hn k.isLt)

omit k
/-- Where the band's first block of row 0 is written. -/
theorem off19_eq : k0_off19 v15 = ![0, 16 * (v15.toNat / 16)] := congrArg (fun c => ![0, c]) (colLo hn)
/-- Where the band's first block of row 1 is written. -/
theorem off20_eq : k0_off20 v15 = ![1, 16 * (v15.toNat / 16)] := congrArg (fun c => ![1, c]) (colLo hn)
/-- Where the band's first block of row 2 is written. -/
theorem off21_eq : k0_off21 v15 = ![2, 16 * (v15.toNat / 16)] := congrArg (fun c => ![2, c]) (colLo hn)
/-- Where the band's first block of row 3 is written. -/
theorem off22_eq : k0_off22 v15 = ![3, 16 * (v15.toNat / 16)] := congrArg (fun c => ![3, c]) (colLo hn)
/-- Where the band's first block of row 4 is written. -/
theorem off23_eq : k0_off23 v15 = ![4, 16 * (v15.toNat / 16)] := congrArg (fun c => ![4, c]) (colLo hn)
/-- Where the band's first block of row 5 is written. -/
theorem off24_eq : k0_off24 v15 = ![5, 16 * (v15.toNat / 16)] := congrArg (fun c => ![5, c]) (colLo hn)
/-- Where the band's first block of row 6 is written. -/
theorem off25_eq : k0_off25 v15 = ![6, 16 * (v15.toNat / 16)] := congrArg (fun c => ![6, c]) (colLo hn)
/-- Where the band's first block of row 7 is written. -/
theorem off26_eq : k0_off26 v15 = ![7, 16 * (v15.toNat / 16)] := congrArg (fun c => ![7, c]) (colLo hn)
/-- Where the band's last block of row 0 is written. -/
theorem off27_eq : k0_off27 v15 = ![0, 16 * ((v15.toNat + 399) / 16)] := congrArg (fun c => ![0, c]) (colHi hn)
/-- Where the band's last block of row 1 is written. -/
theorem off28_eq : k0_off28 v15 = ![1, 16 * ((v15.toNat + 399) / 16)] := congrArg (fun c => ![1, c]) (colHi hn)
/-- Where the band's last block of row 2 is written. -/
theorem off29_eq : k0_off29 v15 = ![2, 16 * ((v15.toNat + 399) / 16)] := congrArg (fun c => ![2, c]) (colHi hn)
/-- Where the band's last block of row 3 is written. -/
theorem off30_eq : k0_off30 v15 = ![3, 16 * ((v15.toNat + 399) / 16)] := congrArg (fun c => ![3, c]) (colHi hn)
/-- Where the band's last block of row 4 is written. -/
theorem off31_eq : k0_off31 v15 = ![4, 16 * ((v15.toNat + 399) / 16)] := congrArg (fun c => ![4, c]) (colHi hn)
/-- Where the band's last block of row 5 is written. -/
theorem off32_eq : k0_off32 v15 = ![5, 16 * ((v15.toNat + 399) / 16)] := congrArg (fun c => ![5, c]) (colHi hn)
/-- Where the band's last block of row 6 is written. -/
theorem off33_eq : k0_off33 v15 = ![6, 16 * ((v15.toNat + 399) / 16)] := congrArg (fun c => ![6, c]) (colHi hn)
/-- Where the band's last block of row 7 is written. -/
theorem off34_eq : k0_off34 v15 = ![7, 16 * ((v15.toNat + 399) / 16)] := congrArg (fun c => ![7, c]) (colHi hn)

/-- The side condition the kernel assumes of its first masked column holds of every column up to 3600. -/
theorem chk1_of : k0_chk1 v15 := by
  have hm (k : Fin (k0_t3_loop v15).trips) : 16 * (v15.toNat / 16 + 1 + k.val) + 16 ≤ 4000 := by
    have := lt_of_lt_of_eq k.isLt (t3_trips hn)
    omega
  have hlo : 16 * (v15.toNat / 16) + 16 ≤ 4000 := by omega
  have hhi : 16 * ((v15.toNat + 399) / 16) + 16 ≤ 4000 := by omega
  have h4 (k : Fin (k0_t4_loop v15).trips) : False := by
    exact Nat.not_lt_zero _ (lt_of_lt_of_eq k.isLt (t4_trips hn))
  rw [k0_chk1.eq_1, k0_chk1_0.eq_1, k0_chk1_1.eq_1]
  exact ⟨⟨t3_ok hn,
    fun k => inb_of (off3_eq hn k) (by decide) (hm k), fun k => inb_of (off4_eq hn k) (by decide) (hm k),
    fun k => inb_of (off5_eq hn k) (by decide) (hm k), fun k => inb_of (off6_eq hn k) (by decide) (hm k),
    fun k => inb_of (off7_eq hn k) (by decide) (hm k), fun k => inb_of (off8_eq hn k) (by decide) (hm k),
    fun k => inb_of (off9_eq hn k) (by decide) (hm k), fun k => inb_of (off10_eq hn k) (by decide) (hm k),
    t4_ok hn, fun k => (h4 k).elim, fun k => (h4 k).elim, fun k => (h4 k).elim, fun k => (h4 k).elim,
    fun k => (h4 k).elim, fun k => (h4 k).elim, fun k => (h4 k).elim, fun k => (h4 k).elim,
    inb_of (off19_eq hn) (by decide) hlo, inb_of (off20_eq hn) (by decide) hlo,
    inb_of (off21_eq hn) (by decide) hlo, inb_of (off22_eq hn) (by decide) hlo,
    inb_of (off23_eq hn) (by decide) hlo, inb_of (off24_eq hn) (by decide) hlo,
    inb_of (off25_eq hn) (by decide) hlo, inb_of (off26_eq hn) (by decide) hlo,
    inb_of (off27_eq hn) (by decide) hhi, inb_of (off28_eq hn) (by decide) hhi,
    inb_of (off29_eq hn) (by decide) hhi, inb_of (off30_eq hn) (by decide) hhi,
    inb_of (off31_eq hn) (by decide) hhi, inb_of (off32_eq hn) (by decide) hhi⟩,
    inb_of (off33_eq hn) (by decide) hhi, inb_of (off34_eq hn) (by decide) hhi⟩

end

end Cert.Proof.Mask

end
-- ==== Proof.Chunk.lean ====
/-
  One chunk of eight rows: the edge windows, the rows, and the whole chunk, with the value left in the chunk buffer.
-/
module

public import proofs.«01_k».proof.Proof.Setup
public import proofs.«01_k».proof.Proof.Words
public import Idealize.ShloMosaic.Lib.Pipeline.Value

@[expose] public section

noncomputable section

namespace Cert.Proof.Mask

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- One trip of the loop over the windows wholly inside the columns: eight stores of zero, one a row. -/
theorem t3_trip (d : Dev nD) (L : grid0.Coords) (v3 : IVec S16 32) (k1 : Fin k0_t1_loop.trips) (v10 : IVec S16 32) (v15 : BitVec 32) (h : k0_chk1 v15)
    (hn : v15.toNat ≤ 3600)
    (v18 v21 : BitVec 32) (k2 : Fin k0_t2_loop.trips) (v25 : BitVec 32) (k : Fin (k0_t3_loop v15).trips) (acc : BitVec 32) (f : S8x4000.Idx → Elt F .f32) :
    bufPts d L f ⊢ wp frame (wpE (defs₀ (F := F)) 𝒱₀ (thr d L) none) Set.univ
      (k0_t3_body L xV (Memref.isWhole_whole _) tV (Memref.isWhole_whole _) oV (Memref.isWhole_whole _)
            sT (Memref.isWhole_whole _) sB (Memref.isWhole_whole _) cc0_scoped0 cc0_scoped1 cc0_scoped2 (k0_pay1 (F := F)) v3 k1 v10 v15 h v18 v21 0#32 1#32 k2 v25 k acc)
      fun _ => bufPts d L (zap f fun _ t => 16 * (v15.toNat / 16 + 1 + k) ≤ t ∧ t < 16 * (v15.toNat / 16 + 1 + k) + 16) := by
  unfold k0_t3_body
  simp only [k0_part1_eq_skeleton]
  unfold k0_part1_skel
  iintro Hb
  sl_exec
  rw [writes_zero _ (off10_eq hn k), writes_zero _ (off9_eq hn k), writes_zero _ (off8_eq hn k),
    writes_zero _ (off7_eq hn k), writes_zero _ (off6_eq hn k), writes_zero _ (off5_eq hn k),
    writes_zero _ (off4_eq hn k), writes_zero _ (off3_eq hn k), View.writes_nil]
  · simp only [zap_zap]
    sl_step
    rw [zap_congr f (Q := fun _ t => 16 * (v15.toNat / 16 + 1 + k) ≤ t ∧ t < 16 * (v15.toNat / 16 + 1 + k) + 16)
      (by intro r t hr ht; unfold inWin; omega)]
    iexact Hb
  all_goals first | rfl | exact fun _ => rfl

/-- The wp of a program of tile `L` on device `d`. -/
abbrev twp (d : Dev nD) (L : grid0.Coords) {α : Type} (p : Prog (TpuEff nD τ sig (Elt F) Λ₀ (.scVector (cV L) (jV L))) α) (Q : α → sProp 𝕄) : sProp 𝕄 :=
  wp frame (wpE (defs₀ (F := F)) 𝒱₀ (thr d L) none) Set.univ p Q

/-- An edge window of one row: sixteen lanes loaded, those under the mask zeroed, all stored back. -/
theorem edge_wp {α : Type} (d : Dev nD) (L : grid0.Coords) {off : Fin 2 → ℕ} {r c : ℕ} (h : off = ![r, c]) (inb)
    (m : IVec S16 1) (P : ℕ → Prop) (hm : ∀ l : S16.Idx, m l = 1#1 ↔ P (c + (l 0).val))
    (pay : Vec F S1x16 .f32 → FVec F S1x16 .f32) (hpay : ∀ v, pay v = selPay m v) (f : S8x4000.Idx → Elt F .f32)
    {hl hl' hs hs'} (kont : Prog (TpuEff nD τ sig (Elt F) Λ₀ (.scVector (cV L) (jV L))) α) (Q : α → sProp 𝕄) :
    bufPts d L f ∗ (bufPts d L (zap f fun r' t => inWin r c r' t ∧ P t) -∗ twp d L kont Q)
    ⊢ twp d L (Prog.lift (.load sB (Rect.unit (s := S8x4000) off S1x16.size inb).toLoadRect hl) >>= fun a =>
        Prog.lift (.load sB (Rect.unit (s := S8x4000) off S1x16.size inb).toLoadRect hl') >>= fun _ =>
        Prog.lift (.store sB (Rect.unit (s := S8x4000) off S1x16.size inb) (pay a) Finset.univ hs hs') >>= fun _ => kont) Q := by
  iintro ⟨Hb, Hk⟩
  unfold twp
  sl_exec
  rw [writes_sel f h inb _ m P hm (hpay _)]
  iapply Hk
  iexact Hb

/-- An edge window of row `r`, the rows before it done: `M` are the columns zeroed in every row before. -/
theorem edge_next {α : Type} (d : Dev nD) (L : grid0.Coords) {off : Fin 2 → ℕ} {r c : ℕ} (h : off = ![r, c]) (inb)
    (m : IVec S16 1) (P : ℕ → Prop) (hm : ∀ l : S16.Idx, m l = 1#1 ↔ P (c + (l 0).val))
    (pay : Vec F S1x16 .f32 → FVec F S1x16 .f32) (hpay : ∀ v, pay v = selPay m v) (M : ℕ → Prop) (f : S8x4000.Idx → Elt F .f32)
    {hl hl' hs hs'} (kont : Prog (TpuEff nD τ sig (Elt F) Λ₀ (.scVector (cV L) (jV L))) α) (Q : α → sProp 𝕄) :
    bufPts d L (zap f fun r' t => M t ∨ (r' < r ∧ (c ≤ t ∧ t < c + 16) ∧ P t))
      ∗ (bufPts d L (zap f fun r' t => M t ∨ (r' < r + 1 ∧ (c ≤ t ∧ t < c + 16) ∧ P t)) -∗ twp d L kont Q)
    ⊢ twp d L (Prog.lift (.load sB (Rect.unit (s := S8x4000) off S1x16.size inb).toLoadRect hl) >>= fun a =>
        Prog.lift (.load sB (Rect.unit (s := S8x4000) off S1x16.size inb).toLoadRect hl') >>= fun _ =>
        Prog.lift (.store sB (Rect.unit (s := S8x4000) off S1x16.size inb) (pay a) Finset.univ hs hs') >>= fun _ => kont) Q := by
  have e : zap f (fun r' t => M t ∨ (r' < r + 1 ∧ (c ≤ t ∧ t < c + 16) ∧ P t))
      = zap (zap f fun r' t => M t ∨ (r' < r ∧ (c ≤ t ∧ t < c + 16) ∧ P t)) fun r' t => inWin r c r' t ∧ P t := by
    rw [zap_zap]
    refine zap_congr f fun r' t _ _ => ?_
    unfold inWin
    rw [Nat.lt_succ_iff_lt_or_eq]
    tauto
  rw [e]
  exact edge_wp d L h inb m P hm pay hpay _ kont Q

/-- One trip of a row's loop: sixteen lanes of the row zeroed. -/
theorem row_trip (d : Dev nD) (L : grid0.Coords) {off : Fin 2 → ℕ} {r c : ℕ} (h : off = ![r, c]) (inb)
    (pay : FVec F S1x16 .f32) (hpay : ∀ y, pay y = zero) (f : S8x4000.Idx → Elt F .f32) {hl hs hs'} :
    bufPts d L f
    ⊢ twp d L (Prog.lift (.load sB (Rect.unit (s := S8x4000) off S1x16.size inb).toLoadRect hl) >>= fun _ =>
        Prog.lift (.store sB (Rect.unit (s := S8x4000) off S1x16.size inb) pay Finset.univ hs hs') >>= fun _ => pure 0#32)
      fun _ => bufPts d L (zap f (inWin r c)) := by
  iintro Hb
  unfold twp
  sl_exec
  rw [writes_zero _ h rfl _ _ _ hpay, View.writes_nil]
  sl_step
  iexact Hb

/-- A row's conditional: the whole row zeroed when it is one of the twelve. -/
theorem row_wp {α : Type} (d : Dev nD) (L : grid0.Coords) (c : BitVec 1) (R : Prop) (hc : c = 1#1 ↔ R) (r : ℕ) (lp : Scf.Loop 32)
    (hT : lp.trips = 250) (hok : lp.OK)
    (body : Fin lp.trips → BitVec 32 → Prog (TpuEff nD τ sig (Elt F) Λ₀ (.scVector (cV L) (jV L))) (BitVec 32))
    (hbody : ∀ k acc g, bufPts d L g ⊢ twp d L (body k acc) fun _ => bufPts d L (zap g (inWin r (16 * k.val))))
    (f : S8x4000.Idx → Elt F .f32) (kont : Prog (TpuEff nD τ sig (Elt F) Λ₀ (.scVector (cV L) (jV L))) α) (Q : α → sProp 𝕄) :
    bufPts d L f ∗ (bufPts d L (zap f fun r' _ => r' = r ∧ R) -∗ twp d L kont Q)
    ⊢ twp d L (if c = 1#1 then (Scf.Loop.for lp hok 0#32 body >>= fun _ => kont) else kont) Q := by
  by_cases h : R
  · rw [if_pos (hc.mpr h)]
    iintro ⟨Hb, Hk⟩
    unfold twp
    sl_for (fun k _ => bufPts d L (zap f fun r' t => r' = r ∧ t < 16 * k)) $$ [Hb]
    · intro k acc
      refine (hbody k acc _).trans (wp_mono _ _ _ fun _ => Entails.of_eq ?_)
      rw [zap_zap, zap_congr f]
      intro r' t _ _
      unfold inWin
      omega
    · rw [zap_false f (by intro r' t _ _; omega)]
      iexact Hb
    iintro %acc Hb
    iapply Hk
    rw [zap_congr f (Q := fun r' _ => r' = r ∧ R)]
    · iexact Hb
    · intro r' t _ ht
      have : t < 16 * lp.trips := by rw [hT]; omega
      exact and_congr_right fun _ => ⟨fun _ => h, fun _ => this⟩
  · rw [if_neg fun h' => h (hc.mp h')]
    iintro ⟨Hb, Hk⟩
    iapply Hk
    rw [zap_false f fun r' t _ _ hh => h hh.2]
    iexact Hb

/-- The first six rows' conditionals. -/
theorem part9_wp (d : Dev nD) (L : grid0.Coords) (k : ℕ) (hk : k < 16) (v17 v24 : BitVec 32) (h24 : v24.toNat = 8 * k)
    (h17 : v17.toNat ≤ 116) (f : S8x4000.Idx → Elt F .f32) :
    bufPts d L f
    ⊢ twp d L (k0_part9 L xV (Memref.isWhole_whole _) tV (Memref.isWhole_whole _) oV (Memref.isWhole_whole _)
          sT (Memref.isWhole_whole _) sB (Memref.isWhole_whole _) cc0_scoped0 cc0_scoped1 cc0_scoped2 (k0_pay1 (F := F)) v17 v24
          (Scalar.cmpi .sge (Scalar.addi v24 0#32) v17) (Scalar.cmpi .slt (Scalar.addi v24 0#32) (Scalar.addi v17 12#32)))
        fun _ => bufPts d L (zap f fun r _ => r < 6 ∧ v17.toNat ≤ 8 * k + r ∧ 8 * k + r < v17.toNat + 12) := by
  rw [k0_part9_eq_skeleton]
  unfold k0_part9_skel
  iintro Hb
  iapply (row_wp d L _ _ (row_iff hk (r := 0) (by omega) h24 h17 rfl) 0 k0_t5_loop rfl _ _
    (fun j _ g => row_trip d L (k0_off35_eq j) _ _ (fun _ => rfl) g))
  isplitl [Hb]
  · iexact Hb
  iintro Hb
  iapply (row_wp d L _ _ (row_iff hk (r := 1) (by omega) h24 h17 rfl) 1 k0_t6_loop rfl _ _
    (fun j _ g => row_trip d L (k0_off36_eq j) _ _ (fun _ => rfl) g))
  isplitl [Hb]
  · iexact Hb
  iintro Hb
  iapply (row_wp d L _ _ (row_iff hk (r := 2) (by omega) h24 h17 rfl) 2 k0_t7_loop rfl _ _
    (fun j _ g => row_trip d L (k0_off37_eq j) _ _ (fun _ => rfl) g))
  isplitl [Hb]
  · iexact Hb
  iintro Hb
  iapply (row_wp d L _ _ (row_iff hk (r := 3) (by omega) h24 h17 rfl) 3 k0_t8_loop rfl _ _
    (fun j _ g => row_trip d L (k0_off38_eq j) _ _ (fun _ => rfl) g))
  isplitl [Hb]
  · iexact Hb
  iintro Hb
  iapply (row_wp d L _ _ (row_iff hk (r := 4) (by omega) h24 h17 rfl) 4 k0_t9_loop rfl _ _
    (fun j _ g => row_trip d L (k0_off39_eq j) _ _ (fun _ => rfl) g))
  isplitl [Hb]
  · iexact Hb
  iintro Hb
  iapply (row_wp d L _ _ (row_iff hk (r := 5) (by omega) h24 h17 rfl) 5 k0_t10_loop rfl _ _
    (fun j _ g => row_trip d L (k0_off40_eq j) _ _ (fun _ => rfl) g))
  isplitl [Hb]
  · iexact Hb
  iintro Hb
  unfold twp
  sl_exec
  sl_step
  simp only [zap_zap]
  rw [zap_congr f (Q := fun r _ => r < 6 ∧ v17.toNat ≤ 8 * k + r ∧ 8 * k + r < v17.toNat + 12) (by intro r t hr ht; omega)]
  iexact Hb

/-- The window of the argument (`x`) and of the result (`o`) that a chunk covers. -/
abbrev xW (L : grid0.Coords) (k1 : Fin k0_t1_loop.trips) (k2 : Fin k0_t2_loop.trips) : Memref sig .scVector .hbm S8x4000 .f32 :=
  (xV.slice (Rect.unit (s := S64x128x4000) (k0_off2 L k1 k2) S1x8x4000.size (k0_off2_inb L k1 k2)) (fun _ => rfl)).squeeze S8x4000 squeezes_S1x8x4000_S8x4000

@[inherit_doc xW]
abbrev oW (L : grid0.Coords) (k1 : Fin k0_t1_loop.trips) (k2 : Fin k0_t2_loop.trips) : Memref sig .scVector .hbm S8x4000 .f32 :=
  (oV.slice (Rect.unit (s := S64x128x4000) (k0_off43 L k1 k2) S1x8x4000.size (k0_off43_inb L k1 k2)) (fun _ => rfl)).squeeze S8x4000 squeezes_S1x8x4000_S8x4000

/-- The chunk's window of the argument, held in full with contents `f`. -/
abbrev xwPts (d : Dev nD) (L : grid0.Coords) (k1 : Fin k0_t1_loop.trips) (k2 : Fin k0_t2_loop.trips) (f : S64x128x4000.Idx → Elt F .f32) : sProp 𝕄 :=
  ((xW L k1 k2).view.loc (thr d L) ↦[(xW L k1 k2).view.set]{fullShare} f)

/-- The chunk's window of the result, held in full with contents `f`. -/
abbrev owPts (d : Dev nD) (L : grid0.Coords) (k1 : Fin k0_t1_loop.trips) (k2 : Fin k0_t2_loop.trips) (f : S64x128x4000.Idx → Elt F .f32) : sProp 𝕄 :=
  ((oW L k1 k2).view.loc (thr d L) ↦[(oW L k1 k2).view.set]{fullShare} f)

/-- The leading unit axis of a chunk's window, put back. -/
theorem unsqueeze (y : S8x4000.Idx) (a : Fin 3) :
    (Shape.reshapeEquiv (squeezes_S1x8x4000_S8x4000).numel_eq y a).val = (![0, (y 0).val, (y 1).val] : Fin 3 → ℕ) a := by
  have e : Shape.reshapeEquiv (squeezes_S1x8x4000_S8x4000).numel_eq y = (Fin.cons ⟨0, Nat.one_pos⟩ y : S1x8x4000.Idx) := by
    have h := shapeCast_dropUnit_apply (α := S1x8x4000.Idx) ![8, 4000] id (squeezes_S1x8x4000_S8x4000).numel_eq y
    exact h
  rw [e]
  match a with
  | 0 => rfl
  | 1 => rfl
  | 2 => rfl

/-- The batch of trip `k1` of tile `L`. -/
abbrev batch (L : grid0.Coords) (k1 : Fin k0_t1_loop.trips) : ℕ := 4 * (L 1).val + 2 * (L 0).val + k1.val

/-- Where a chunk's element lies in the argument. -/
theorem xW_emb (L : grid0.Coords) (k1 : Fin k0_t1_loop.trips) (k2 : Fin k0_t2_loop.trips) (y : S8x4000.Idx) (a : Fin 3) :
    ((xW L k1 k2).view.emb y a).val = (![batch L k1, 8 * k2.val + (y 0).val, (y 1).val] : Fin 3 → ℕ) a := by
  show k0_off2 L k1 k2 a + 1 * (Shape.reshapeEquiv (squeezes_S1x8x4000_S8x4000).numel_eq y a).val = _
  rw [unsqueeze, k0_off2_eq]
  match a with
  | 0 => show _ + 1 * 0 = _; rfl
  | 1 => show 8 * k2.val + 1 * (y 0).val = _; rw [Nat.one_mul]; rfl
  | 2 => show 0 + 1 * (y 1).val = _; rw [Nat.one_mul, Nat.zero_add]; rfl

/-- Where a chunk's element lies in the result. -/
theorem oW_emb (L : grid0.Coords) (k1 : Fin k0_t1_loop.trips) (k2 : Fin k0_t2_loop.trips) (y : S8x4000.Idx) (a : Fin 3) :
    ((oW L k1 k2).view.emb y a).val = (![batch L k1, 8 * k2.val + (y 0).val, (y 1).val] : Fin 3 → ℕ) a := by
  show k0_off43 L k1 k2 a + 1 * (Shape.reshapeEquiv (squeezes_S1x8x4000_S8x4000).numel_eq y a).val = _
  rw [unsqueeze, k0_off43_eq]
  match a with
  | 0 => show _ + 1 * 0 = _; rfl
  | 1 => show 8 * k2.val + 1 * (y 0).val = _; rw [Nat.one_mul]; rfl
  | 2 => show 0 + 1 * (y 1).val = _; rw [Nat.one_mul, Nat.zero_add]; rfl

/-- The output's window lies where the argument's window lies. -/
theorem oW_emb_eq (L : grid0.Coords) (k1 : Fin k0_t1_loop.trips) (k2 : Fin k0_t2_loop.trips) (y : S8x4000.Idx) :
    (oW L k1 k2).view.emb y = (xW L k1 k2).view.emb y :=
  funext fun a => Fin.ext ((oW_emb L k1 k2 y a).trans (xW_emb L k1 k2 y a).symm)

/-- The masked array: zero at the four hundred columns from `t0` and at the twelve rows from `f0`, elsewhere `f`. -/
def masked (t0 f0 : ℕ) (f : S64x128x4000.Idx → Elt F .f32) : S64x128x4000.Idx → Elt F .f32 := fun j =>
  if (t0 ≤ (j 2).val ∧ (j 2).val < t0 + 400) ∨ (f0 ≤ (j 1).val ∧ (j 1).val < f0 + 12) then zero else f j

/-- A finished chunk, sent out to its window, is the masked array there. -/
theorem chunk_out (L : grid0.Coords) (k1 : Fin k0_t1_loop.trips) (k2 : Fin k0_t2_loop.trips) (t0 f0 : ℕ) (fx fo : S64x128x4000.Idx → Elt F .f32)
    (B : S8x4000.Idx → Elt F .f32)
    (hB : B = zap ((xW L k1 k2).view.read (Elt F) fx) fun r t => (t0 ≤ t ∧ t < t0 + 400) ∨ (f0 ≤ 8 * k2.val + r ∧ 8 * k2.val + r < f0 + 12))
    (j : S64x128x4000.Idx) (hj : j ∈ (oW L k1 k2).view.set) :
    (oW L k1 k2).view.writes (Elt F) fo [⟨Rect.whole S8x4000, B⟩] j = masked t0 f0 fx j := by
  obtain ⟨y, -, rfl⟩ := Finset.mem_map.mp hj
  subst hB
  refine ((cast_eq _ _).symm.trans (congrFun (View.read_writes_whole (oW L k1 k2).view fo _) y)).trans ?_
  unfold zap masked
  rw [show ((oW L k1 k2).view.emb y 1).val = 8 * k2.val + (y 0).val from oW_emb L k1 k2 y 1,
    show ((oW L k1 k2).view.emb y 2).val = (y 1).val from oW_emb L k1 k2 y 2, oW_emb_eq]
  split <;> rename_i h
  · rfl
  · exact (View.read_apply _ _).trans (cast_eq _ _)

/-- The mask of the low edge window. -/
theorem loMask {v15 : BitVec 32} (hn : v15.toNat ≤ 3600) (v3 v10 : IVec S16 32) (h10 : ∀ l, v10 l = v15)
    (h3 : ∀ l, v3 l = BitVec.ofNat 32 (l 0).val) (l : S16.Idx) :
    k0_pay23 v3 v10 (Scalar.shrui v15 4#32) l = 1#1 ↔
      v15.toNat ≤ 16 * (v15.toNat / 16) + (l 0).val ∧ 16 * (v15.toNat / 16) + (l 0).val < v15.toNat + 400 := by
  exact mask_iff hn (Scalar.shrui v15 4#32) (shr_toNat v15) (by omega) v3 v10 h10 h3 l

/-- The mask of the high edge window. -/
theorem hiMask {v15 : BitVec 32} (hn : v15.toNat ≤ 3600) (v3 v10 : IVec S16 32) (h10 : ∀ l, v10 l = v15)
    (h3 : ∀ l, v3 l = BitVec.ofNat 32 (l 0).val) (l : S16.Idx) :
    k0_pay33 v3 v10 (Scalar.shrui (Scalar.subi (Scalar.addi v15 400#32) 1#32) 4#32) l = 1#1 ↔
      v15.toNat ≤ 16 * ((v15.toNat + 399) / 16) + (l 0).val ∧ 16 * ((v15.toNat + 399) / 16) + (l 0).val < v15.toNat + 400 := by
  exact mask_iff hn (Scalar.shrui (Scalar.subi (Scalar.addi v15 400#32) 1#32) 4#32) (by rw [shr_toNat, v20_toNat hn]) (by omega) v3 v10 h10 h3 l

set_option maxHeartbeats 400000 in
/-- One chunk: the tile copies eight rows in, zeroes the masked columns and rows, and copies them out; the output's window then holds the target. -/
theorem t2_body (d : Dev nD) (L : grid0.Coords) (v3 : IVec S16 32) (h3 : ∀ l, v3 l = BitVec.ofNat 32 (l 0).val) (k1 : Fin k0_t1_loop.trips) (v9 : Vec F S1x16 .i32) (v15 : BitVec 32) (h : k0_chk1 v15)
    (h10 : ∀ l, k0_pay2 v9 l = v15) (hn : v15.toNat ≤ 3600)
    (v17 : BitVec 32) (h17 : v17.toNat ≤ 116) (k2 : Fin k0_t2_loop.trips) (acc : BitVec 32) (f : S8x4000.Idx → Elt F .f32) (fx fo : S64x128x4000.Idx → Elt F .f32)
    (O : CellTallies nD τ sig (HIx 1)) (W : Waits sig (HIx 1)) :
    xwPts d L k1 k2 fx ∗ owPts d L k1 k2 fo ∗ bufPts d L f ∗
      Transfers.MayWaits (thr d L) (default : HIx 1) O ∗
      semVal (thr d L, .dma cc0_scoped1.sem) 0 ∗ semVal (thr d L, .dma cc0_scoped2.sem) 0 ∗ owes (thr d L) O W
    ⊢ wp frame (wpE (defs₀ (F := F)) 𝒱₀ (thr d L) none) Set.univ
      (k0_t2_body L xV (Memref.isWhole_whole _) tV (Memref.isWhole_whole _) oV (Memref.isWhole_whole _)
            sT (Memref.isWhole_whole _) sB (Memref.isWhole_whole _) cc0_scoped0 cc0_scoped1 cc0_scoped2 v3 k1 v9 v15 h v17
             (Scalar.shrui v15 4#32) (Scalar.shrui (Scalar.subi (Scalar.addi v15 400#32) 1#32) 4#32) k2 acc)
      fun _ => iprop(xwPts d L k1 k2 fx ∗ owPts d L k1 k2 (masked v15.toNat v17.toNat fx) ∗ (∃ g, bufPts d L g)
        ∗ semVal (thr d L, .dma cc0_scoped1.sem) 0 ∗ semVal (thr d L, .dma cc0_scoped2.sem) 0
        ∗ ∃ W', ⌜∀ p ∈ W', p ∈ W ∨ p.2 = none⌝ ∗ owes (thr d L) O W') := by
  unfold k0_t2_body
  simp only [k0_part3_eq_skeleton, k0_part4_eq_skeleton, k0_part5_eq_skeleton, k0_part6_eq_skeleton, k0_part7_eq_skeleton, k0_part8_eq_skeleton]
  unfold k0_part3_skel k0_part4_skel k0_part5_skel k0_part6_skel k0_part7_skel k0_part8_skel
  iintro ⟨Hx, Ho, Hb, Hmw, Hs1, Hs2, HO⟩
  sl_exec
  simp only [Prog.bind_assoc, pure_bind]
  sl_for (fun k _ => bufPts d L (zap ((xW L k1 k2).view.read (Elt F) fx) fun _ t => 16 * (v15.toNat / 16 + 1) ≤ t ∧ t < 16 * (v15.toNat / 16 + 1 + k))) $$ [Hb]
  · intro k acc
    refine (t3_trip d L v3 k1 _ v15 h hn _ _ k2 _ k acc _).trans (wp_mono _ _ _ fun _ => Entails.of_eq ?_)
    rw [zap_zap, zap_congr]
    intro r t _ _
    omega
  · rw [zap_false _ (by intro r t _ _; omega)]
    unfold t2_body.sl.dma0
    rw [show View.write (Elt F) sB.view f ((xW L k1 k2).view.read (Elt F) fx) Finset.univ = (xW L k1 k2).view.read (Elt F) fx from
      View.write_whole_univ _ _ _]
    iexact Hb
  iintro %acc Hb
  sl_exec
  sl_for (fun k _ => bufPts d L (zap ((xW L k1 k2).view.read (Elt F) fx) fun _ t => 16 * (v15.toNat / 16 + 1) ≤ t ∧ t < 16 * ((v15.toNat + 399) / 16))) $$ [Hb]
  · intro k
    exact absurd (lt_of_lt_of_eq k.isLt (t4_trips hn)) (Nat.not_lt_zero _)
  · rw [show Scf.trips (k0_t3_loop v15).lb (k0_t3_loop v15).ub (k0_t3_loop v15).st = (v15.toNat + 399) / 16 - (v15.toNat / 16 + 1) from t3_trips hn,
      zap_congr]
    · iexact Hb
    · intro r t _ _
      omega
  iintro %acc Hb
  rw [zap_congr _ (Q := fun r' t => (16 * (v15.toNat / 16 + 1) ≤ t ∧ t < 16 * ((v15.toNat + 399) / 16))
    ∨ (r' < 0 ∧ (16 * (v15.toNat / 16) ≤ t ∧ t < 16 * (v15.toNat / 16) + 16) ∧ v15.toNat ≤ t ∧ t < v15.toNat + 400)) (by intro r t _ _; omega)]
  iapply (edge_next d L (off19_eq hn) _ _ (fun t => v15.toNat ≤ t ∧ t < v15.toNat + 400) (loMask hn v3 _ h10 h3) _ (fun _ => rfl)
    (fun t => 16 * (v15.toNat / 16 + 1) ≤ t ∧ t < 16 * ((v15.toNat + 399) / 16)) _)
  isplitl [Hb]
  · iexact Hb
  iintro Hb
  iapply (edge_next d L (off20_eq hn) _ _ (fun t => v15.toNat ≤ t ∧ t < v15.toNat + 400) (loMask hn v3 _ h10 h3) _ (fun _ => rfl)
    (fun t => 16 * (v15.toNat / 16 + 1) ≤ t ∧ t < 16 * ((v15.toNat + 399) / 16)) _)
  isplitl [Hb]
  · iexact Hb
  iintro Hb
  iapply (edge_next d L (off21_eq hn) _ _ (fun t => v15.toNat ≤ t ∧ t < v15.toNat + 400) (loMask hn v3 _ h10 h3) _ (fun _ => rfl)
    (fun t => 16 * (v15.toNat / 16 + 1) ≤ t ∧ t < 16 * ((v15.toNat + 399) / 16)) _)
  isplitl [Hb]
  · iexact Hb
  iintro Hb
  iapply (edge_next d L (off22_eq hn) _ _ (fun t => v15.toNat ≤ t ∧ t < v15.toNat + 400) (loMask hn v3 _ h10 h3) _ (fun _ => rfl)
    (fun t => 16 * (v15.toNat / 16 + 1) ≤ t ∧ t < 16 * ((v15.toNat + 399) / 16)) _)
  isplitl [Hb]
  · iexact Hb
  iintro Hb
  iapply (edge_next d L (off23_eq hn) _ _ (fun t => v15.toNat ≤ t ∧ t < v15.toNat + 400) (loMask hn v3 _ h10 h3) _ (fun _ => rfl)
    (fun t => 16 * (v15.toNat / 16 + 1) ≤ t ∧ t < 16 * ((v15.toNat + 399) / 16)) _)
  isplitl [Hb]
  · iexact Hb
  iintro Hb
  iapply (edge_next d L (off24_eq hn) _ _ (fun t => v15.toNat ≤ t ∧ t < v15.toNat + 400) (loMask hn v3 _ h10 h3) _ (fun _ => rfl)
    (fun t => 16 * (v15.toNat / 16 + 1) ≤ t ∧ t < 16 * ((v15.toNat + 399) / 16)) _)
  isplitl [Hb]
  · iexact Hb
  iintro Hb
  iapply (edge_next d L (off25_eq hn) _ _ (fun t => v15.toNat ≤ t ∧ t < v15.toNat + 400) (loMask hn v3 _ h10 h3) _ (fun _ => rfl)
    (fun t => 16 * (v15.toNat / 16 + 1) ≤ t ∧ t < 16 * ((v15.toNat + 399) / 16)) _)
  isplitl [Hb]
  · iexact Hb
  iintro Hb
  iapply (edge_next d L (off26_eq hn) _ _ (fun t => v15.toNat ≤ t ∧ t < v15.toNat + 400) (loMask hn v3 _ h10 h3) _ (fun _ => rfl)
    (fun t => 16 * (v15.toNat / 16 + 1) ≤ t ∧ t < 16 * ((v15.toNat + 399) / 16)) _)
  isplitl [Hb]
  · iexact Hb
  iintro Hb
  rw [zap_congr _ (Q := fun r' t => (v15.toNat ≤ t ∧ t < 16 * ((v15.toNat + 399) / 16))
    ∨ (r' < 0 ∧ (16 * ((v15.toNat + 399) / 16) ≤ t ∧ t < 16 * ((v15.toNat + 399) / 16) + 16) ∧ v15.toNat ≤ t ∧ t < v15.toNat + 400)) (by intro r t _ _; omega)]
  iapply (edge_next d L (off27_eq hn) _ _ (fun t => v15.toNat ≤ t ∧ t < v15.toNat + 400) (hiMask hn v3 _ h10 h3) _ (fun _ => rfl)
    (fun t => v15.toNat ≤ t ∧ t < 16 * ((v15.toNat + 399) / 16)) _)
  isplitl [Hb]
  · iexact Hb
  iintro Hb
  iapply (edge_next d L (off28_eq hn) _ _ (fun t => v15.toNat ≤ t ∧ t < v15.toNat + 400) (hiMask hn v3 _ h10 h3) _ (fun _ => rfl)
    (fun t => v15.toNat ≤ t ∧ t < 16 * ((v15.toNat + 399) / 16)) _)
  isplitl [Hb]
  · iexact Hb
  iintro Hb
  iapply (edge_next d L (off29_eq hn) _ _ (fun t => v15.toNat ≤ t ∧ t < v15.toNat + 400) (hiMask hn v3 _ h10 h3) _ (fun _ => rfl)
    (fun t => v15.toNat ≤ t ∧ t < 16 * ((v15.toNat + 399) / 16)) _)
  isplitl [Hb]
  · iexact Hb
  iintro Hb
  iapply (edge_next d L (off30_eq hn) _ _ (fun t => v15.toNat ≤ t ∧ t < v15.toNat + 400) (hiMask hn v3 _ h10 h3) _ (fun _ => rfl)
    (fun t => v15.toNat ≤ t ∧ t < 16 * ((v15.toNat + 399) / 16)) _)
  isplitl [Hb]
  · iexact Hb
  iintro Hb
  iapply (edge_next d L (off31_eq hn) _ _ (fun t => v15.toNat ≤ t ∧ t < v15.toNat + 400) (hiMask hn v3 _ h10 h3) _ (fun _ => rfl)
    (fun t => v15.toNat ≤ t ∧ t < 16 * ((v15.toNat + 399) / 16)) _)
  isplitl [Hb]
  · iexact Hb
  iintro Hb
  iapply (edge_next d L (off32_eq hn) _ _ (fun t => v15.toNat ≤ t ∧ t < v15.toNat + 400) (hiMask hn v3 _ h10 h3) _ (fun _ => rfl)
    (fun t => v15.toNat ≤ t ∧ t < 16 * ((v15.toNat + 399) / 16)) _)
  isplitl [Hb]
  · iexact Hb
  iintro Hb
  iapply (edge_next d L (off33_eq hn) _ _ (fun t => v15.toNat ≤ t ∧ t < v15.toNat + 400) (hiMask hn v3 _ h10 h3) _ (fun _ => rfl)
    (fun t => v15.toNat ≤ t ∧ t < 16 * ((v15.toNat + 399) / 16)) _)
  isplitl [Hb]
  · iexact Hb
  iintro Hb
  iapply (edge_next d L (off34_eq hn) _ _ (fun t => v15.toNat ≤ t ∧ t < v15.toNat + 400) (hiMask hn v3 _ h10 h3) _ (fun _ => rfl)
    (fun t => v15.toNat ≤ t ∧ t < 16 * ((v15.toNat + 399) / 16)) _)
  isplitl [Hb]
  · iexact Hb
  iintro Hb
  rw [zap_congr _ (Q := fun _ t => v15.toNat ≤ t ∧ t < v15.toNat + 400) (by intro r t _ _; omega)]
  rw [twp, wp_bind]
  iapply (wp_wand _ _ _) $$ [Hb]
  · iapply (part9_wp d L k2.val k2.isLt v17 _ (row0_toNat k2.isLt) h17 _)
    iexact Hb
  iintro %_ Hb
  iapply (row_wp d L _ _ (row_iff k2.isLt (r := 6) (by omega) (row0_toNat k2.isLt) h17 rfl) 6 k0_t11_loop rfl _ _
    (fun j _ g => row_trip d L (k0_off41_eq j) _ _ (fun _ => rfl) g))
  isplitl [Hb]
  · iexact Hb
  iintro Hb
  iapply (row_wp d L _ _ (row_iff k2.isLt (r := 7) (by omega) (row0_toNat k2.isLt) h17 rfl) 7 k0_t12_loop rfl _ _
    (fun j _ g => row_trip d L (k0_off42_eq j) _ _ (fun _ => rfl) g))
  isplitl [Hb]
  · iexact Hb
  iintro Hb
  simp only [zap_zap]
  rw [zap_congr _ (Q := fun r t => (v15.toNat ≤ t ∧ t < v15.toNat + 400) ∨ (v17.toNat ≤ 8 * k2.val + r ∧ 8 * k2.val + r < v17.toNat + 12))
    (by intro r t hr ht; omega)]
  unfold twp
  sl_exec
  sl_step
  isplitl [Hx]
  · iexact Hx
  isplitl [Ho]
  · iapply (Entails.of_eq (pointsTo_congr (chunk_out L k1 k2 v15.toNat v17.toNat fx fo _ rfl)))
    iexact Ho
  isplitl [Hb]
  · iexists _
    iexact Hb
  isplitl [Hs1]
  · iexact Hs1
  isplitl [Hs2]
  · iexact Hs2
  iexists _
  isplitr
  swap
  · iexact HO
  ipureintro
  intro p hp
  rcases Finset.mem_insert.mp hp with hp | hp
  · exact .inr (hp ▸ rfl)
  rcases Finset.mem_insert.mp hp with hp | hp
  · exact .inr (hp ▸ rfl)
  exact .inl hp

end Cert.Proof.Mask
end
-- ==== Proof.Tile.lean ====
/-
  One tile: the loop over its two batches, each the loop over its sixteen chunks.
-/
module

public import proofs.«01_k».proof.Proof.Chunk

@[expose] public section

noncomputable section

namespace Cert.Proof.Mask

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A batch's two rows of words: the first column and the first row of its masks, sixteen times each. -/
abbrev tW (L : grid0.Coords) (k1 : Fin k0_t1_loop.trips) : Memref sig .scVector .hbm S2x16 .i32 :=
  (tV.slice (Rect.unit (s := S64x2x16) (k0_off1 L k1) S1x2x16.size (k0_off1_inb L k1)) (fun _ => rfl)).squeeze S2x16 squeezes_S1x2x16_S2x16

/-- The batch's words, held in full with contents `f`. -/
abbrev twPts (d : Dev nD) (L : grid0.Coords) (k1 : Fin k0_t1_loop.trips) (f : S64x2x16.Idx → Elt F .i32) : sProp 𝕄 :=
  ((tW L k1).view.loc (thr d L) ↦[(tW L k1).view.set]{fullShare} f)

/-- The tile's copy of a batch's words. -/
abbrev wordPts (d : Dev nD) (L : grid0.Coords) (f : S2x16.Idx → Elt F .i32) : sProp 𝕄 :=
  (sT.view.loc (thr d L) ↦{fullShare} f)

/-- Word `r` (0 the first masked column, 1 the first masked row) of batch `b`. -/
def word (T : S64x2x16.Idx → BitVec 32) (b : Fin 64) (r : Fin 2) : BitVec 32 := T fun | 0 => b | 1 => r | 2 => (0 : Fin 16)

/-- The words as the kernel is handed them: equal across the lanes, and in range. -/
structure WordsOk (T : S64x2x16.Idx → BitVec 32) : Prop where
  lane : ∀ j : S64x2x16.Idx, T j = word T (j 0) (j 1)
  col : ∀ b, (word T b 0).toNat ≤ 3600
  row : ∀ b, (word T b 1).toNat ≤ 116

/-- The result: each batch masked at its own words. -/
def target (X : S64x128x4000.Idx → Elt F .f32) (T : S64x2x16.Idx → BitVec 32) : S64x128x4000.Idx → Elt F .f32 := fun j =>
  masked (word T (j 0) 0).toNat (word T (j 0) 1).toNat X j

/-- Where a pair of words' index goes when the batch's axis is put back. -/
theorem unsqueezeT (y : S2x16.Idx) (a : Fin 3) :
    (Shape.reshapeEquiv (squeezes_S1x2x16_S2x16).numel_eq y a).val = (![0, (y 0).val, (y 1).val] : Fin 3 → ℕ) a := by
  have e : Shape.reshapeEquiv (squeezes_S1x2x16_S2x16).numel_eq y = (Fin.cons ⟨0, Nat.one_pos⟩ y : S1x2x16.Idx) := by
    have h := shapeCast_dropUnit_apply (α := S1x2x16.Idx) ![2, 16] id (squeezes_S1x2x16_S2x16).numel_eq y
    exact h
  rw [e]
  match a with
  | 0 => rfl
  | 1 => rfl
  | 2 => rfl

/-- Where a batch's word lies. -/
theorem tW_emb (L : grid0.Coords) (k1 : Fin k0_t1_loop.trips) (y : S2x16.Idx) (a : Fin 3) :
    ((tW L k1).view.emb y a).val = (![batch L k1, (y 0).val, (y 1).val] : Fin 3 → ℕ) a := by
  show k0_off1 L k1 a + 1 * (Shape.reshapeEquiv (squeezes_S1x2x16_S2x16).numel_eq y a).val = _
  rw [unsqueezeT, k0_off1_eq]
  match a with
  | 0 => show _ + 1 * 0 = _; rfl
  | 1 => show 0 + 1 * (y 0).val = _; rw [Nat.one_mul, Nat.zero_add]; rfl
  | 2 => show 0 + 1 * (y 1).val = _; rw [Nat.one_mul, Nat.zero_add]; rfl

/-- A tile's batch is one of the 64. -/
theorem batch_lt (L : grid0.Coords) (k1 : Fin k0_t1_loop.trips) : batch L k1 < 64 := by
  have h0 : (L 0).val < 2 := (L 0).isLt
  have h1 : (L 1).val < 16 := (L 1).isLt
  have h2 : k1.val < 2 := k1.isLt
  unfold batch
  omega

/-- The batch as an index. -/
abbrev bat (L : grid0.Coords) (k1 : Fin k0_t1_loop.trips) : Fin 64 := ⟨batch L k1, batch_lt L k1⟩

/-- What the tile's copy of a batch's words holds once the batch's words are copied in. -/
theorem words_copied (L : grid0.Coords) (k1 : Fin k0_t1_loop.trips) (T : S64x2x16.Idx → BitVec 32) (hT : WordsOk T) (fT : S2x16.Idx → BitVec 32) (y : S2x16.Idx) :
    View.write (Elt F) sT.view fT ((tW L k1).view.read (Elt F) T) Finset.univ y = word T (bat L k1) (y 0) := by
  rw [show View.write (Elt F) sT.view fT ((tW L k1).view.read (Elt F) T) Finset.univ = (tW L k1).view.read (Elt F) T from
    View.write_whole_univ _ _ _]
  rw [View.read_apply, cast_eq, hT.lane]
  congr 1 <;> exact Fin.ext (tW_emb L k1 y _)

/-- The loaded rows of words, at a lane. -/
theorem load_row (g : S2x16.Idx → BitVec 32) (r : ℕ) (inb) (w : BitVec 32) (hg : ∀ y : S2x16.Idx, (y 0).val = r → g y = w) (y : S1x16.Idx) :
    View.readAt (Elt F) sT.view (Rect.unit (s := S2x16) ![r, 0] S1x16.size inb).toLoadRect g y = w := by
  show g _ = w
  apply hg
  show r + 1 * (y 0).val = r
  have : (y 0).val < 1 := (y 0).isLt
  omega

/-- Equal lanes broadcast to equal lanes. -/
theorem pay2_const (v : Vec F S1x16 .i32) (w : BitVec 32) (h : ∀ y, v y = w) (l : S16.Idx) : k0_pay2 v l = w := by
  show v _ = w
  exact h _

/-- A lane of equal lanes is their value. -/
theorem pay3_const (v : Vec F S1x16 .i32) (w : BitVec 32) (h : ∀ y, v y = w) : extractAt ![0] (k0_pay3 v) inpos_S1_p0 = w := by
  unfold k0_pay3
  exact pay2_const v w h _

/-- The same for the second word. -/
theorem pay4_const (v : Vec F S1x16 .i32) (w : BitVec 32) (h : ∀ y, v y = w) : extractAt ![0] (k0_pay4 v) inpos_S1_p0 = w := by
  unfold k0_pay4
  show v _ = w
  exact h _

/-- What the words and the copy of the chunk give, on the chunk's window of the output. -/
theorem target_window (L : grid0.Coords) (k1 : Fin k0_t1_loop.trips) (k2 : Fin k0_t2_loop.trips) (X : S64x128x4000.Idx → Elt F .f32) (T : S64x2x16.Idx → BitVec 32)
    (t0 f0 : ℕ) (ht : t0 = (word T (bat L k1) 0).toNat) (hf : f0 = (word T (bat L k1) 1).toNat) :
    ∀ j ∈ (oW L k1 k2).view.set, masked t0 f0 X j = target X T j := by
  intro j hj
  obtain ⟨y, -, rfl⟩ := Finset.mem_map.mp hj
  have e : (oW L k1 k2).view.emb y 0 = bat L k1 := Fin.ext (oW_emb L k1 k2 y 0)
  unfold target
  subst ht hf
  rw [← e]

/-- A chunk other than the present one is done after it exactly if it was done before. -/
theorem keep {n : ℕ} (k k2 : Fin n) (h : k2 ≠ k) {α : Type _} (A B : α) :
    (if k2.val < k.val then A else B) = (if k2.val < k.val + 1 then A else B) := by
  have hne : k2.val ≠ k.val := fun e => h (Fin.ext e)
  have : (k2.val < k.val + 1) ↔ (k2.val < k.val) := by omega
  simp only [this]

/-- One batch: the tile copies the two words in and does sixteen chunks; the output's windows then hold the target. -/
theorem t1_body (d : Dev nD) (L : grid0.Coords) (v3 : IVec S16 32) (h3 : ∀ l, v3 l = BitVec.ofNat 32 (l 0).val) (k1 : Fin k0_t1_loop.trips) (acc : BitVec 32)
    (X Y : S64x128x4000.Idx → Elt F .f32) (T : S64x2x16.Idx → BitVec 32) (hT : WordsOk T) (fT : S2x16.Idx → Elt F .i32) (fB : S8x4000.Idx → Elt F .f32)
    (O : CellTallies nD τ sig (HIx 1)) (W : Waits sig (HIx 1)) :
    twPts (F := F) d L k1 T ∗ (bigSep Finset.univ fun k2 => iprop(xwPts d L k1 k2 X ∗ owPts d L k1 k2 Y))
      ∗ wordPts d L fT ∗ bufPts d L fB ∗ Transfers.MayWaits (thr d L) (default : HIx 1) O
      ∗ semVal (thr d L, .dma cc0_scoped0.sem) 0 ∗ semVal (thr d L, .dma cc0_scoped1.sem) 0 ∗ semVal (thr d L, .dma cc0_scoped2.sem) 0
      ∗ owes (thr d L) O W
    ⊢ twp d L (k0_t1_body L xV (Memref.isWhole_whole _) tV (Memref.isWhole_whole _) oV (Memref.isWhole_whole _)
            sT (Memref.isWhole_whole _) sB (Memref.isWhole_whole _) cc0_scoped0 cc0_scoped1 cc0_scoped2 v3 k1 acc)
      fun _ => iprop(twPts (F := F) d L k1 T ∗ (bigSep Finset.univ fun k2 => iprop(xwPts d L k1 k2 X ∗ owPts d L k1 k2 (target X T)))
        ∗ (∃ f, wordPts d L f) ∗ (∃ f, bufPts d L f)
        ∗ semVal (thr d L, .dma cc0_scoped0.sem) 0 ∗ semVal (thr d L, .dma cc0_scoped1.sem) 0 ∗ semVal (thr d L, .dma cc0_scoped2.sem) 0
        ∗ ∃ W', ⌜∀ p ∈ W', p ∈ W ∨ p.2 = none⌝ ∗ owes (thr d L) O W') := by
  unfold twp k0_t1_body
  iintro ⟨Ht, HXY, Hw, Hb, #Hmw, Hs0, Hs1, Hs2, HO⟩
  sl_exec
  have hc := words_copied (F := F) L k1 T hT fT
  have h9 := load_row (F := F) (View.write (Elt F) sT.view fT (t1_body.sl.dma0 L k1 T) Finset.univ) 0 inb_S2x16_S1x16_0_0 (word T (bat L k1) 0)
    (fun y h => (hc y).trans (congrArg (word T _) (Fin.ext h)))
  have h12 := load_row (F := F) (View.write (Elt F) sT.view fT (t1_body.sl.dma0 L k1 T) Finset.univ) 1 inb_S2x16_S1x16_1_0 (word T (bat L k1) 1)
    (fun y h => (hc y).trans (congrArg (word T _) (Fin.ext h)))
  have h15 : t1_body.sl.v15 L k1 T fT = word T (bat L k1) 0 := by
    exact pay3_const (F := F) _ _ h9
  have hn : (t1_body.sl.v15 L k1 T fT).toNat ≤ 3600 := h15 ▸ hT.col _
  iapply (wp_assume _ _ _ _ (chk1_of hn))
  sl_exec
  sl_for (fun k _ => iprop((bigSep Finset.univ fun k2 : Fin k0_t2_loop.trips => iprop(xwPts d L k1 k2 X ∗ if k2.val < k then owPts d L k1 k2 (target X T) else owPts d L k1 k2 Y))
    ∗ (∃ g, bufPts d L g) ∗ Transfers.MayWaits (thr d L) (default : HIx 1) O ∗ semVal (thr d L, .dma cc0_scoped1.sem) 0 ∗ semVal (thr d L, .dma cc0_scoped2.sem) 0
    ∗ ∃ W', ⌜∀ p ∈ W', p ∈ W ∨ p.2 = none⌝ ∗ owes (thr d L) O W')) $$ [HXY Hb Hs1 Hs2 HO]
  · intro k acc
    iintro ⟨HXY, ⟨%g, Hb⟩, #Hmw, Hs1, Hs2, ⟨%W', %hW', HO⟩⟩
    ihave HXY := (Entails.of_eq (SparseCore.bigSep_erase' (Finset.mem_univ k))) $$ HXY
    icases HXY with ⟨⟨Hx, Ho⟩, Hrest⟩
    ihave Ho := (Entails.of_eq (if_neg (Nat.lt_irrefl k.val))) $$ Ho
    iapply (wp_wand _ _ _) $$ [Hx Ho Hb Hs1 Hs2 HO]
    · iapply (t2_body d L v3 h3 k1 _ _ (chk1_of hn) (fun l => (pay2_const (F := F) _ _ h9 l).trans h15.symm) hn _ (by exact (congrArg BitVec.toNat (pay4_const (F := F) _ _ h12)).trans_le (hT.row _)) k acc g X Y O W')
      isplitl [Hx]
      · iexact Hx
      isplitl [Ho]
      · iexact Ho
      isplitl [Hb]
      · iexact Hb
      isplitr
      · iexact Hmw
      isplitl [Hs1]
      · iexact Hs1
      isplitl [Hs2]
      · iexact Hs2
      iexact HO
    iintro %_ ⟨Hx, Ho, Hb, Hs1, Hs2, ⟨%W2, %hW2, HO⟩⟩
    isplitl [Hx Ho Hrest]
    · iapply (Entails.of_eq (SparseCore.bigSep_erase' (Finset.mem_univ k)).symm)
      isplitl [Hx Ho]
      · isplitl [Hx]
        · iexact Hx
        · iapply (Entails.of_eq (if_pos (Nat.lt_succ_self k.val)).symm)
          iapply (Entails.of_eq (pointsTo_congr (target_window L k1 k X T _ _ (congrArg BitVec.toNat h15) (congrArg BitVec.toNat (pay4_const (F := F) _ _ h12)))))
          iexact Ho
      · ihave Hrest := (Entails.of_eq (bigSep_congr fun k2 hk2 => congrArg (fun R => iprop(xwPts d L k1 k2 X ∗ R))
          (keep k k2 (Finset.mem_erase.mp hk2).1 (owPts d L k1 k2 (target X T)) (owPts d L k1 k2 Y)))) $$ Hrest
        iexact Hrest
    isplitl [Hb]
    · iexact Hb
    isplitr
    · iexact Hmw
    isplitl [Hs1]
    · iexact Hs1
    isplitl [Hs2]
    · iexact Hs2
    iexists W2
    isplitr
    · ipureintro
      intro p hp
      rcases hW2 p hp with h | h
      · exact hW' p h
      · exact .inr h
    iexact HO
  · isplitl [HXY]
    · iexact HXY
    isplitl [Hb]
    · iexists _
      iexact Hb
    isplitr
    · iexact Hmw
    isplitl [Hs1]
    · iexact Hs1
    isplitl [Hs2]
    · iexact Hs2
    iexists _
    isplitr
    swap
    · iexact HO
    ipureintro
    intro p hp
    rcases Finset.mem_insert.mp hp with hp | hp
    · exact .inr (hp ▸ rfl)
    exact .inl hp
  iintro %acc ⟨HXY, Hb, -, Hs1, Hs2, HO⟩
  sl_exec
  sl_step
  isplitl [Ht]
  · iexact Ht
  isplitl [HXY]
  · iapply (Entails.of_eq (bigSep_congr fun k2 _ => congrArg (fun R => iprop(xwPts d L k1 k2 X ∗ R))
      (if_pos (show k2.val < Scf.trips k0_t2_loop.lb k0_t2_loop.ub k0_t2_loop.st from k2.isLt))))
    iexact HXY
  isplitl [Hw]
  · iexists _
    iexact Hw
  isplitl [Hb]
  · iexact Hb
  isplitl [Hs0]
  · iexact Hs0
  isplitl [Hs1]
  · iexact Hs1
  isplitl [Hs2]
  · iexact Hs2
  iexact HO

/-! ## The tile -/

/-- What a tile holds of the three arrays: for each of its two batches the words, and for each chunk the chunk of `x`, at
    `X`, and of the output, at `Y`. -/
def tileRes (d : Dev nD) (L : grid0.Coords) (X : S64x128x4000.Idx → Elt F .f32) (T : S64x2x16.Idx → BitVec 32) (Y : S64x128x4000.Idx → Elt F .f32) : sProp 𝕄 :=
  bigSep Finset.univ fun k1 => iprop(twPts (F := F) d L k1 T ∗ bigSep Finset.univ fun k2 => iprop(xwPts d L k1 k2 X ∗ owPts d L k1 k2 Y))

abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)

/-- The three semaphores of the copies are among the tile's own. -/
theorem ownSems0_V (d : Dev nD) (L : grid0.Coords) :
    (ownSems0 (V d (cV L) (jV L)) : sProp 𝕄)
      = iprop(semVal (cell0 d (cV L) (jV L)) 0 ∗ semVal (cell1 d (cV L) (jV L)) 0 ∗ semVal (cell2 d (cV L) (jV L)) 0
          ∗ bigSep ((((ownCells (V d (cV L) (jV L))).erase (cell0 d (cV L) (jV L))).erase (cell1 d (cV L) (jV L))).erase (cell2 d (cV L) (jV L))) fun g => semVal g 0) := by
  unfold SparseCore.Cfg.ownSems0
  rw [SparseCore.bigSep_erase' ((mem_ownCells (g := cell0 d (cV L) (jV L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc0_scoped2.sem : SemLoc sig).isScoped .scVector = true; decide⟩⟩⟩)]

attribute [local irreducible] SparseCore.Cfg.ownRefs

/-- The scratch for the words is the tile's own. -/
theorem own_scratch0 (c : Fin τ.nSC) (j : Fin τ.nSub) : (Proc.scVector c j).devRef cc0_scratch0 ∈ ownRefs (.scVector c j) := by
  rw [mem_ownRefs, show ((Proc.scVector c j).devRef cc0_scratch0).owner = .proc (.scVector c j) from rfl]
  rfl
/-- The scratch for the rows is the tile's own. -/
theorem own_scratch1 (c : Fin τ.nSC) (j : Fin τ.nSub) : (Proc.scVector c j).devRef cc0_scratch1 ∈ ownRefs (.scVector c j) := by
  rw [mem_ownRefs, show ((Proc.scVector c j).devRef cc0_scratch1).owner = .proc (.scVector c j) from rfl]
  rfl

/-- The two scratches differ. -/
theorem scratch_ne (c : Fin τ.nSC) (j : Fin τ.nSub) : (Proc.scVector c j).devRef cc0_scratch1 ≠ (Proc.scVector c j).devRef cc0_scratch0 := by
  intro e
  have h := Proc.devRef_injective _ e
  exact absurd h (show (cc0_scratch1 : Ref sig .scVector) ≠ cc0_scratch0 by decide)
/-- The second is still the tile's own with the first taken out. -/
theorem own_scratch1' (c : Fin τ.nSC) (j : Fin τ.nSub) :
    (Proc.scVector c j).devRef cc0_scratch1 ∈ (ownRefs (.scVector c j)).erase ((Proc.scVector c j).devRef cc0_scratch0) := by
  rw [Finset.mem_erase]
  exact And.intro (scratch_ne c j) (own_scratch1 c j)

/-- The two scratch buffers are among the tile's own. -/
theorem ownBufs_V (d : Dev nD) (L : grid0.Coords) :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  rw [SparseCore.bigSep_erase' (own_scratch0 (cV L) (jV L)), SparseCore.bigSep_erase' (own_scratch1' (cV L) (jV L))]

/-- The lane numbers. -/
theorem lanes_apply (l : S16.Idx) : iota .scVector S16 32 [0] iota_S16_d0_w32_scVector l = BitVec.ofNat 32 (l 0).val := by
  rw [iota_single_apply]

/-- The task of one tile: both of its batches' chunks of the output hold the masked chunks of `x`. -/
theorem tile_body (hF : (K (F := F)).Facts) (d : Dev nD) (L : grid0.Coords)
    (X Y : S64x128x4000.Idx → Elt F .f32) (T : S64x2x16.Idx → BitVec 32) (hT : WordsOk T)
    (O : CellTallies nD τ sig (HIx 1)) (W : Waits sig (HIx 1)) (hO : ∀ g, O g none = 0) :
    iprop(levAts (K (F := F)).L (K (F := F)).lev ∗ emp ∗ tileRes d L X T Y
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L xV (Memref.isWhole_whole _) tV (Memref.isWhole_whole _) oV (Memref.isWhole_whole _)
            sT (Memref.isWhole_whole _) sB (Memref.isWhole_whole _) cc0_scoped0 cc0_scoped1 cc0_scoped2)
          fun _ => iprop(tileRes d L X T (target X T)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]
  unfold cc0__sc_body_skel tileRes
  rw [(K (F := F)).scopedBufs_V hF d (cV L) (jV L), SparseCore.Cfg.scopedSems0_V (Val := Elt F) d (cV L) (jV L), ownSems0_V, ownBufs_V]
  iintro ⟨#Hlv, -, HR, ⟨Hw, Hb, Hbufs⟩, ⟨Hs0, Hs1, Hs2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_exec
  sl_for (fun k _ => iprop((bigSep Finset.univ fun k1 : Fin k0_t1_loop.trips => iprop(twPts (F := F) d L k1 T
      ∗ if k1.val < k then (bigSep Finset.univ fun k2 => iprop(xwPts d L k1 k2 X ∗ owPts d L k1 k2 (target X T)))
        else (bigSep Finset.univ fun k2 => iprop(xwPts d L k1 k2 X ∗ owPts d L k1 k2 Y))))
    ∗ (∃ f, wordPts d L f) ∗ (∃ g, bufPts d L g) ∗ Transfers.MayWaits (thr d L) (default : HIx 1) O
    ∗ semVal (thr d L, .dma cc0_scoped0.sem) 0 ∗ semVal (thr d L, .dma cc0_scoped1.sem) 0 ∗ semVal (thr d L, .dma cc0_scoped2.sem) 0
    ∗ ∃ W', ⌜∀ p ∈ W', p ∈ W ∨ p.2 = none⌝ ∗ owes (thr d L) O W')) $$ [HR Hw Hb Hs0 Hs1 Hs2 HO Hmw]
  · intro k acc
    iintro ⟨HR, ⟨%f, Hw⟩, ⟨%g, Hb⟩, #Hmw, Hs0, Hs1, Hs2, ⟨%W', %hW', HO⟩⟩
    ihave HR := (Entails.of_eq (SparseCore.bigSep_erase' (Finset.mem_univ k))) $$ HR
    icases HR with ⟨⟨Ht, Ho⟩, Hrest⟩
    ihave Ho := (Entails.of_eq (if_neg (Nat.lt_irrefl k.val))) $$ Ho
    iapply (wp_wand _ _ _) $$ [Ht Ho Hw Hb Hs0 Hs1 Hs2 HO]
    · iapply (t1_body d L _ lanes_apply k acc X Y T hT f g O W')
      isplitl [Ht]
      · iexact Ht
      isplitl [Ho]
      · iexact Ho
      isplitl [Hw]
      · iexact Hw
      isplitl [Hb]
      · iexact Hb
      isplitr
      · iexact Hmw
      isplitl [Hs0]
      · iexact Hs0
      isplitl [Hs1]
      · iexact Hs1
      isplitl [Hs2]
      · iexact Hs2
      iexact HO
    iintro %_ ⟨Ht, Ho, Hw, Hb, Hs0, Hs1, Hs2, ⟨%W2, %hW2, HO⟩⟩
    isplitl [Ht Ho Hrest]
    · iapply (Entails.of_eq (SparseCore.bigSep_erase' (Finset.mem_univ k)).symm)
      isplitl [Ht Ho]
      · isplitl [Ht]
        · iexact Ht
        · iapply (Entails.of_eq (if_pos (Nat.lt_succ_self k.val)).symm)
          iexact Ho
      · ihave Hrest := (Entails.of_eq (bigSep_congr fun k1 hk1 => congrArg (fun R => iprop(twPts (F := F) d L k1 T ∗ R))
          (keep k k1 (Finset.mem_erase.mp hk1).1 (bigSep Finset.univ fun k2 => iprop(xwPts d L k1 k2 X ∗ owPts d L k1 k2 (target X T)))
            (bigSep Finset.univ fun k2 => iprop(xwPts d L k1 k2 X ∗ owPts d L k1 k2 Y))))) $$ Hrest
        iexact Hrest
    isplitl [Hw]
    · iexact Hw
    isplitl [Hb]
    · iexact Hb
    isplitr
    · iexact Hmw
    isplitl [Hs0]
    · iexact Hs0
    isplitl [Hs1]
    · iexact Hs1
    isplitl [Hs2]
    · iexact Hs2
    iexists W2
    isplitr
    · ipureintro
      intro p hp
      rcases hW2 p hp with h | h
      · exact hW' p h
      · exact .inr h
    iexact HO
  · isplitl [HR]
    · iexact HR
    isplitl [Hw]
    · iexact Hw
    isplitl [Hb]
    · iexact Hb
    isplitl [Hmw]
    · iexact Hmw
    isplitl [Hs0]
    · iexact Hs0
    isplitl [Hs1]
    · iexact Hs1
    isplitl [Hs2]
    · iexact Hs2
    iexists W
    isplitr
    · ipureintro
      exact fun p hp => .inl hp
    iexact HO
  iintro %acc ⟨HR, Hw, Hb, -, Hs0, Hs1, Hs2, HO⟩
  sl_exec
  sl_step
  isplitl [HR]
  · iapply (Entails.of_eq (bigSep_congr fun k1 _ => congrArg (fun R => iprop(twPts (F := F) d L k1 T ∗ R))
      (if_pos (show k1.val < Scf.trips k0_t1_loop.lb k0_t1_loop.ub k0_t1_loop.st from k1.isLt))))
    iexact HR
  isplitl [Hw Hb Hbufs]
  · isplitl [Hw]
    · iexact Hw
    isplitl [Hb]
    · iexact Hb
    iexact Hbufs
  isplitl [Hs0 Hs1 Hs2 Hsems]
  · isplitl [Hs0]
    · iexact Hs0
    isplitl [Hs1]
    · iexact Hs1
    isplitl [Hs2]
    · iexact Hs2
    iexact Hsems
  iexact HO

end Cert.Proof.Mask
end
-- ==== Proof.Windows.lean ====
/-
  The three arrays of a device, split into what each tile takes: its batches' words, its batches of the array and of the result.
-/
module

public import proofs.«01_k».proof.Proof.Tile

@[expose] public section

noncomputable section

namespace Cert.Proof.Mask

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The windows of the tiles cover the arrays -/

/-- A tile's coordinates in the grid. -/
def coords (c : Fin 2) (i : Fin 16) : grid0.Coords :=
  fun | 0 => c | 1 => i | ⟨_ + 2, h⟩ => absurd h (Nat.not_lt.2 (Nat.le_add_left _ _))

/-- An index lies in a chunk's window exactly if its batch and its group of eight rows are the window's. -/
theorem mem_chunk {e : S8x4000.Idx ↪ S64x128x4000.Idx} {b k : ℕ}
    (h : ∀ y a, (e y a).val = (![b, 8 * k + (y 0).val, (y 1).val] : Fin 3 → ℕ) a) (j : S64x128x4000.Idx) :
    j ∈ Finset.univ.map e ↔ (j 0).val = b ∧ (j 1).val / 8 = k := by
  constructor
  · intro hj
    obtain ⟨y, -, rfl⟩ := Finset.mem_map.mp hj
    have hy : (y 0).val < 8 := (y 0).isLt
    refine ⟨h y 0, ?_⟩
    rw [h y 1]
    show (8 * k + (y 0).val) / 8 = k
    omega
  · rintro ⟨h0, h1⟩
    refine Finset.mem_map.mpr ⟨(fun | 0 => ⟨(j 1).val % 8, Nat.mod_lt _ (by omega)⟩ | 1 => j 2 : S8x4000.Idx), Finset.mem_univ _, funext fun a => Fin.ext ?_⟩
    rw [h]
    match a with
    | 0 => exact h0.symm
    | 1 => show 8 * k + (j 1).val % 8 = (j 1).val; omega
    | 2 => rfl

/-- An index of the words lies in a batch's window exactly if its batch is the window's. -/
theorem mem_pair {e : S2x16.Idx ↪ S64x2x16.Idx} {b : ℕ}
    (h : ∀ y a, (e y a).val = (![b, (y 0).val, (y 1).val] : Fin 3 → ℕ) a) (j : S64x2x16.Idx) :
    j ∈ Finset.univ.map e ↔ (j 0).val = b := by
  constructor
  · intro hj
    obtain ⟨y, -, rfl⟩ := Finset.mem_map.mp hj
    exact h y 0
  · intro h0
    refine Finset.mem_map.mpr ⟨(fun | 0 => j 1 | 1 => j 2 : S2x16.Idx), Finset.mem_univ _, funext fun a => Fin.ext ?_⟩
    rw [h]
    match a with
    | 0 => exact h0.symm
    | 1 => rfl
    | 2 => rfl

/-- A tile's half: a tile and one of its two batches. -/
abbrev Half := Fin 2 × Fin 16 × Fin k0_t1_loop.trips
/-- A chunk: a half and one of its chunks. -/
abbrev Chk := Fin 2 × Fin 16 × Fin k0_t1_loop.trips × Fin k0_t2_loop.trips

/-- A tile does two batches. -/
theorem t1_two (k : Fin k0_t1_loop.trips) : k.val < 2 := lt_of_lt_of_eq k.isLt (by decide)
/-- A batch has sixteen chunks. -/
theorem t2_sixteen (k : Fin k0_t2_loop.trips) : k.val < 16 := lt_of_lt_of_eq k.isLt (by decide)

/-- Which batch a tile does. -/
theorem batch_coords (c : Fin 2) (i : Fin 16) (k : Fin k0_t1_loop.trips) : batch (coords c i) k = 4 * i.val + 2 * c.val + k.val := rfl

/-- Different halves do different batches. -/
theorem half_inj {p q : Half} (h : batch (coords p.1 p.2.1) p.2.2 = batch (coords q.1 q.2.1) q.2.2) : p = q := by
  obtain ⟨c, i, k⟩ := p
  obtain ⟨c', i', k'⟩ := q
  have hk := t1_two k
  have hk' := t1_two k'
  have e : 4 * i.val + 2 * c.val + k.val = 4 * i'.val + 2 * c'.val + k'.val := h
  obtain rfl : i = i' := Fin.ext (by omega)
  obtain rfl : c = c' := Fin.ext (by omega)
  obtain rfl : k = k' := Fin.ext (by omega)
  rfl

/-- Every batch is a tile's. -/
theorem half_of (b : ℕ) (hb : b < 64) : ∃ p : Half, batch (coords p.1 p.2.1) p.2.2 = b :=
  ⟨⟨⟨b / 2 % 2, Nat.mod_lt _ (by omega)⟩, ⟨b / 4, by omega⟩, ⟨b % 2, lt_of_lt_of_eq (Nat.mod_lt b (by omega)) (by decide)⟩⟩, by
    show 4 * (b / 4) + 2 * (b / 2 % 2) + b % 2 = b
    omega⟩

/-- Sets told apart by batch and chunk are disjoint and cover the array. -/
theorem chunks_tile {S : Chk → Finset S64x128x4000.Idx}
    (h : ∀ p j, j ∈ S p ↔ (j 0).val = batch (coords p.1 p.2.1) p.2.2.1 ∧ (j 1).val / 8 = p.2.2.2.val) :
    (∀ p ∈ Finset.univ, ∀ q ∈ Finset.univ, p ≠ q → Disjoint (S p) (S q)) ∧ Finset.univ.biUnion S = Finset.univ := by
  constructor
  · intro p _ q _ hpq
    refine Finset.disjoint_left.mpr fun j hp hq => hpq ?_
    obtain ⟨hp0, hp1⟩ := (h p j).mp hp
    obtain ⟨hq0, hq1⟩ := (h q j).mp hq
    obtain ⟨c, i, k, l⟩ := p
    obtain ⟨c', i', k', l'⟩ := q
    obtain ⟨rfl, rfl, rfl⟩ : c = c' ∧ i = i' ∧ k = k' := by simpa using half_inj (p := (c, i, k)) (q := (c', i', k')) (hp0.symm.trans hq0)
    obtain rfl : l = l' := Fin.ext (hp1.symm.trans hq1)
    rfl
  · refine Finset.eq_univ_of_forall fun j => ?_
    obtain ⟨⟨c, i, k⟩, hb⟩ := half_of (j 0).val (j 0).isLt
    have h1 : (j 1).val < 128 := (j 1).isLt
    exact Finset.mem_biUnion.mpr ⟨(c, i, k, ⟨(j 1).val / 8, lt_of_lt_of_eq (by omega : (j 1).val / 8 < 16) (by decide)⟩), Finset.mem_univ _,
      (h _ j).mpr ⟨hb.symm, rfl⟩⟩

/-- Sets told apart by batch alone likewise. -/
theorem halves_tile {S : Half → Finset S64x2x16.Idx} (h : ∀ p j, j ∈ S p ↔ (j 0).val = batch (coords p.1 p.2.1) p.2.2) :
    (∀ p ∈ Finset.univ, ∀ q ∈ Finset.univ, p ≠ q → Disjoint (S p) (S q)) ∧ Finset.univ.biUnion S = Finset.univ := by
  constructor
  · intro p _ q _ hpq
    exact Finset.disjoint_left.mpr fun j hp hq => hpq (half_inj (((h p j).mp hp).symm.trans ((h q j).mp hq)))
  · refine Finset.eq_univ_of_forall fun j => ?_
    obtain ⟨p, hb⟩ := half_of (j 0).val (j 0).isLt
    exact Finset.mem_biUnion.mpr ⟨p, Finset.mem_univ _, (h _ j).mpr hb.symm⟩

/-! ## The arrays, whole and in windows -/

/-- Where the array lies. -/
abbrev xLoc (d : Dev nD) : Loc nD τ sig := (SparseCore.T d).loc main_v23
/-- Where the words lie. -/
abbrev tLoc (d : Dev nD) : Loc nD τ sig := (SparseCore.T d).loc main_v22
/-- Where the output lies. -/
abbrev oLoc (d : Dev nD) : Loc nD τ sig := (SparseCore.T d).loc main_v24

/-- The array, held whole, is the chunks' windows of it. -/
theorem xPts_windows (d : Dev nD) (f : S64x128x4000.Idx → Elt F .f32) :
    (xLoc d ↦{fullShare} f : sProp 𝕄) = bigSep Finset.univ fun p : Chk => xwPts d (coords p.1 p.2.1) p.2.2.1 p.2.2.2 f := by
  obtain ⟨hd, hc⟩ := chunks_tile (S := fun p => (xW (coords p.1 p.2.1) p.2.2.1 p.2.2.2).view.set)
    fun p j => mem_chunk (xW_emb (coords p.1 p.2.1) p.2.2.1 p.2.2.2) j
  refine Eq.trans ?_ (pointsTo_biUnion Finset.univ (ℓ := xLoc d) _ hd)
  rw [hc]

/-- The output, held whole, is the chunks' windows of it. -/
theorem oPts_windows (d : Dev nD) (f : S64x128x4000.Idx → Elt F .f32) :
    (oLoc d ↦{fullShare} f : sProp 𝕄) = bigSep Finset.univ fun p : Chk => owPts d (coords p.1 p.2.1) p.2.2.1 p.2.2.2 f := by
  obtain ⟨hd, hc⟩ := chunks_tile (S := fun p => (oW (coords p.1 p.2.1) p.2.2.1 p.2.2.2).view.set)
    fun p j => mem_chunk (oW_emb (coords p.1 p.2.1) p.2.2.1 p.2.2.2) j
  refine Eq.trans ?_ (pointsTo_biUnion Finset.univ (ℓ := oLoc d) _ hd)
  rw [hc]

/-- The words, held whole, are the batches' windows of them. -/
theorem tPts_windows (d : Dev nD) (f : S64x2x16.Idx → Elt F .i32) :
    (tLoc d ↦{fullShare} f : sProp 𝕄) = bigSep Finset.univ fun p : Half => twPts (F := F) d (coords p.1 p.2.1) p.2.2 f := by
  obtain ⟨hd, hc⟩ := halves_tile (S := fun p => (tW (coords p.1 p.2.1) p.2.2).view.set) fun p j => mem_pair (tW_emb (coords p.1 p.2.1) p.2.2) j
  refine Eq.trans ?_ (pointsTo_biUnion Finset.univ (ℓ := tLoc d) _ hd)
  rw [hc]

/-- The three arrays whole are the tiles' shares of them. -/
theorem arrays_tiles (d : Dev nD) (X Y : S64x128x4000.Idx → Elt F .f32) (W : S64x2x16.Idx → BitVec 32) :
    (iprop((tLoc d ↦{fullShare} W) ∗ (xLoc d ↦{fullShare} X) ∗ oLoc d ↦{fullShare} Y) : sProp 𝕄)
      = bigSep Finset.univ fun c : Fin 2 => bigSep Finset.univ fun i : Fin 16 => tileRes d (coords c i) X W Y := by
  rw [tPts_windows, xPts_windows, oPts_windows, ← bigSep_sep']
  unfold tileRes
  simp only [bigSep_univ_prod, bigSep_sep']

end Cert.Proof.Mask
end
-- ==== Proof.Launch.lean ====
/-
  The launch: what the TensorCore hands the sequencers and these the tiles, and back, and the obligations of a tile and of a split.
-/
module

public import proofs.«01_k».proof.Proof.Windows

@[expose] public section

noncomputable section

namespace Cert.Proof.Mask

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (TRef)

variable {F : FTy → Type} [FloatOps F]

local notation "𝕄" => MT nD τ sig (HIx 1) (Elt F) ℕ UU ℕ

/-- The launch is well formed: its semaphores differ, none is scoped, and no table of a SparseCore's is shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false from fun _ _ _ => rfl,
    fun _ => rfl⟩

/-! ## What the launch carries -/

variable (X Y : Dev nD → S64x128x4000.Idx → Elt F .f32) (R : Dev nD → S64x2x16.Idx → BitVec 32)

/-- The launch has two SparseCores. -/
theorem nCore_zero : (K (F := F)).nCore 0 = 2 := rfl

/-- A tile's share may travel with a signal. -/
instance tileRes_storable (d : Dev nD) (L : grid0.Coords) (X Y : S64x128x4000.Idx → Elt F .f32) (W : S64x2x16.Idx → BitVec 32) :
    BI.Storable (upEmb : UEmb _ 𝕄) (tileRes (F := F) d L X W Y) := by
  unfold tileRes
  infer_instance

/-- A tile's share, at the start and at the end. -/
def goRes (d : Dev nD) (c : Fin 2) (i : Fin 16) : sProp 𝕄 := tileRes d (coords c i) (X d) (R d) (Y d)
/-- A tile's share at the end. -/
def tdRes (d : Dev nD) (c : Fin 2) (i : Fin 16) : sProp 𝕄 := tileRes d (coords c i) (X d) (R d) (target (X d) (R d))

/-- A SparseCore's share, at the start and at the end. -/
def stRes (d : Dev nD) (c : Fin 2) : sProp 𝕄 := bigSep Finset.univ fun i => goRes X Y R d c i
/-- A SparseCore's share at the end. -/
def dnRes (d : Dev nD) (c : Fin 2) : sProp 𝕄 := bigSep Finset.univ fun i => tdRes X R d c i

/-- So may its share at the start, -/
instance goRes_storable (d : Dev nD) (c : Fin 2) (i : Fin 16) : BI.Storable (upEmb : UEmb _ 𝕄) (goRes X Y R d c i) := tileRes_storable ..
/-- its share at the end, -/
instance tdRes_storable (d : Dev nD) (c : Fin 2) (i : Fin 16) : BI.Storable (upEmb : UEmb _ 𝕄) (tdRes X R d c i) := tileRes_storable ..
/-- a SparseCore's share at the start, -/
instance stRes_storable (d : Dev nD) (c : Fin 2) : BI.Storable (upEmb : UEmb _ 𝕄) (stRes X Y R d c) := by unfold stRes; infer_instance
/-- and a SparseCore's share at the end. -/
instance dnRes_storable (d : Dev nD) (c : Fin 2) : BI.Storable (upEmb : UEmb _ 𝕄) (dnRes X R d c) := by unfold dnRes; infer_instance

attribute [irreducible] goRes tdRes stRes dnRes

/-- Each SparseCore gets its tiles' shares, each tile its own, and all come back with the result masked. -/
def P : (K (F := F)).Pay (nD := nD) (Val := Elt F) (Name := ℕ) (U := UU) where
  st := fun q d c => match q with | 0 => stRes X Y R d (Fin.cast nCore_zero c)
  dn := fun q d c => match q with | 0 => dnRes X R d (Fin.cast nCore_zero c)
  go := fun q d c i => match q with | 0 => goRes X Y R d (Fin.cast nCore_zero c) (Fin.cast nSub_zero i)
  td := fun q d c i => match q with | 0 => tdRes X R d (Fin.cast nCore_zero c) (Fin.cast nSub_zero i)
  x := fun _ _ => iprop(emp)

/-- All that the launch carries may travel with its signals. -/
instance P_storable : (P (F := F) X Y R).IsStorable where
  st q d c := match q with
    | 0 => (inferInstance : BI.Storable (upEmb : UEmb _ 𝕄) (stRes X Y R d (Fin.cast nCore_zero c)))
  dn q d c := match q with
    | 0 => (inferInstance : BI.Storable (upEmb : UEmb _ 𝕄) (dnRes X R d (Fin.cast nCore_zero c)))
  go q d c i := match q with
    | 0 => (inferInstance : BI.Storable (upEmb : UEmb _ 𝕄) (goRes X Y R d (Fin.cast nCore_zero c) (Fin.cast nSub_zero i)))
  td q d c i := match q with
    | 0 => (inferInstance : BI.Storable (upEmb : UEmb _ 𝕄) (tdRes X R d (Fin.cast nCore_zero c) (Fin.cast nSub_zero i)))

/-! ## The tiles' obligation -/

/-- What a tile runs. -/
theorem defs₀_vector (c : Fin τ.nSC) (s : Fin τ.nSub) :
    defs₀ (F := F) (.scVector c s) 0 ()
      = SparseCore.onTile hcore0 hsub0 (fun c s => cc0__sc_body (coords c s)
          xV (Memref.isWhole_whole _) tV (Memref.isWhole_whole _) oV (Memref.isWhole_whole _)
          sT (Memref.isWhole_whole _) sB (Memref.isWhole_whole _) cc0_scoped0 cc0_scoped1 cc0_scoped2) ⟨⟩ c s := rfl

/-- A tile that waited only as it was allowed to waited only as the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile turns its share at the start into its share at the end. -/
theorem tileObl (hF : (K (F := F)).Facts) (hR : ∀ d, WordsOk (R d)) : (K (F := F)).TileObl (D (F := F)) 𝒱 (P X Y R) v₀ 0 := by
  intro d c i O W hO _ _
  simp only [show (P X Y R).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  show iprop(_ ∗ _ ∗ goRes X Y R d _ _ ∗ _) ⊢ wp _ _ _ _ fun _ => iprop(tdRes X R d _ _ ∗ _)
  unfold goRes tdRes
  exact (tile_body hF d (coords ⟨_, hci.1⟩ ⟨_, hci.2⟩) (X d) (Y d) (R d) (hR d) O W hO).trans (wp_mono frame _ _ fun _ => obl_post)

/-- A product over the launch's tiles is one over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's share splits into its tiles' shares, and theirs at the end join into its own. -/
theorem vecSplit : (K (F := F)).VecSplit' (P X Y R) 0 := by
  intro d c
  show stRes X Y R d (Fin.cast nCore_zero c) ⊢ |={Set.univ}=> iprop(
      (bigSep Finset.univ fun i : Fin ((K (F := F)).nSub 0) => goRes X Y R d (Fin.cast nCore_zero c) (Fin.cast nSub_zero i))
      ∗ ((bigSep Finset.univ fun i : Fin ((K (F := F)).nSub 0) => tdRes X R d (Fin.cast nCore_zero c) (Fin.cast nSub_zero i))
          -∗ dnRes X R d (Fin.cast nCore_zero c)))
  unfold stRes dnRes
  rw [bigSep_tasks (F := F) (fun i => goRes X Y R d (Fin.cast nCore_zero c) i), bigSep_tasks (F := F) (fun i => tdRes X R d (Fin.cast nCore_zero c) i)]
  iintro H; imodintro
  isplitl [H]; · iexact H
  iintro H; iexact H

/-! ## The launch element of the certificate's ghost state -/

/-- The ghost state at the launch. -/
def u₀ : UU := (initOf (K (F := F)).hsCells (K (F := F)).hsToks, 1)

/-- A product of nothing is nothing. -/
theorem bigSep_emp' {I : Type} (s : Finset I) : (bigSep s fun _ => iprop(emp)) = (iprop(emp) : sProp 𝕄) := bigSep_emp_const s

/-- The ghost state at the launch gives what the launch needs. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X Y R).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) X Y R).x q thr) = bigSep Finset.univ fun _ => iprop(emp) from
    bigSep_congr fun _ _ => bigSep_univ_of_subsingleton (0 : Fin 1), bigSep_emp']
  iempintro

/-- What a SparseCore gets: its tiles' shares, the output as it was. -/
theorem P_st (d : Dev nD) (c : Fin ((K (F := F)).nCore 0)) :
    (P X Y R).st 0 d c = bigSep Finset.univ fun i => tileRes d (coords (Fin.cast nCore_zero c) i) (X d) (R d) (Y d) := by
  show stRes X Y R d (Fin.cast nCore_zero c) = _
  unfold stRes goRes; rfl
/-- What a SparseCore returns: its tiles' shares, the output masked. -/
theorem P_dn (d : Dev nD) (c : Fin ((K (F := F)).nCore 0)) :
    (P X Y R).dn 0 d c = bigSep Finset.univ fun i => tileRes d (coords (Fin.cast nCore_zero c) i) (X d) (R d) (target (X d) (R d)) := by
  show dnRes X R d (Fin.cast nCore_zero c) = _
  unfold dnRes tdRes; rfl

/-- What the SparseCores get together: the three arrays whole. -/
theorem st0_eq (d : Dev nD) : (bigSep Finset.univ fun c : Fin ((K (F := F)).nCore 0) => (P X Y R).st 0 d c)
    = iprop((tLoc d ↦{fullShare} R d) ∗ (xLoc d ↦{fullShare} X d) ∗ oLoc d ↦{fullShare} Y d) := by
  rw [arrays_tiles]
  exact bigSep_congr fun c _ => by rw [P_st]; rfl
/-- What they return together: the three arrays whole, the output holding the target. -/
theorem dn0_eq (d : Dev nD) : (bigSep Finset.univ fun c : Fin ((K (F := F)).nCore 0) => (P X Y R).dn 0 d c)
    = iprop((tLoc d ↦{fullShare} R d) ∗ (xLoc d ↦{fullShare} X d) ∗ oLoc d ↦{fullShare} target (X d) (R d)) := by
  rw [arrays_tiles]
  exact bigSep_congr fun c _ => by rw [P_dn]; rfl

end Cert.Proof.Mask
end
-- ==== Proof.Line.lean ====
/-
  Straight lines of host operations in which every operation writes a new buffer, numbered after all buffers it reads:
  what such a line leaves (`Solo`), and two such lines of two programs with the same operations on buffers whose numbers
  differ by a constant (`Pair`), which leave the same contents in corresponding buffers.
-/
module

public import Idealize.ShloMosaic.Lib.Pipeline.Frame
public import Idealize.ShloMosaic.Lib.StableHlo.Run
public import Idealize.ShloMosaic.Lib.StableHlo.RunHlo

@[expose] public section

noncomputable section

namespace Cert.Proof.Mask

open Idealize.ShloMosaic Idealize.ShloMosaic.StableHlo Idealize.SL.Sem

section One

variable {nD : Nat} {τ : Topo} {sig : RefSig} {Val : EltTy → Type} {Λ : Labels}

/-- One operation alone is the list of it. -/
theorem IsSeq.last {op : HloOp τ sig Val} : IsSeq (nD := nD) (Λ := Λ) (hlo rfl op fun _ => .ret (⟨⟩ : PUnit)) [op] := rfl

/-- Two programs in order are their lists in order. -/
theorem IsSeq.append {p k : Prog (TpuEff nD τ sig Val Λ .tc) PUnit} {l l' : List (HloOp τ sig Val)} (h : IsSeq p l) (h' : IsSeq k l') :
    IsSeq (p >>= fun _ => k) (l ++ l') := by
  unfold IsSeq at h h' ⊢
  rw [h, h', seq_append]

/-- `p` runs the operations `x.1` in their order, then the program `x.2`. -/
def Pre {δ : Type} (p : δ → Prog (TpuEff nD τ sig Val Λ .tc) PUnit) (ops : List (HloOp τ sig Val)) (k : δ → Prog (TpuEff nD τ sig Val Λ .tc) PUnit) : Prop :=
  ∀ d, p d = (seq ops >>= fun _ => k d)

/-- A program begins with no operations. -/
theorem Pre.stop {δ : Type} {k : δ → Prog (TpuEff nD τ sig Val Λ .tc) PUnit} : Pre k [] k := fun _ => rfl

/-- A program that begins with an operation and then a list begins with the longer list. -/
theorem Pre.cons {δ : Type} {op : HloOp τ sig Val} {p k : δ → Prog (TpuEff nD τ sig Val Λ .tc) PUnit} {ops : List (HloOp τ sig Val)} (h : Pre p ops k) :
    Pre (fun d => (hlo rfl op fun _ => .ret (⟨⟩ : PUnit)) >>= fun _ => p d) (op :: ops) k := fun d =>
  (congrArg (fun q => (hlo rfl op fun _ => .ret (⟨⟩ : PUnit)) >>= fun _ => q) (h d)).trans rfl

/-- A program that begins with a call begins with the call's list. -/
theorem Pre.append {δ : Type} {q : Prog (TpuEff nD τ sig Val Λ .tc) PUnit} {p k : δ → Prog (TpuEff nD τ sig Val Λ .tc) PUnit}
    {l ops : List (HloOp τ sig Val)} (hq : IsSeq q l) (h : Pre p ops k) :
    Pre (fun d => q >>= fun _ => p d) (l ++ ops) k := fun d => by
  unfold IsSeq at hq
  refine (congrArg (fun r => q >>= fun _ => r) (h d)).trans ?_
  rw [hq, seq_append, Prog.bind_assoc]

/-- A program that begins with a list, and whose rest is a list, is the two lists in order. -/
theorem Pre.isSeq {δ : Type} {p k : δ → Prog (TpuEff nD τ sig Val Λ .tc) PUnit} {l m : List (HloOp τ sig Val)} (h : Pre p l k) (d : δ) (hk : IsSeq (k d) m) :
    IsSeq (p d) (l ++ m) := by
  unfold IsSeq at hk ⊢
  rw [h d, hk, seq_append]

/-- A buffer's number: one more than its place among the device's buffers, or 0 for a buffer that is not of the device's memory. -/
def num (r : Ref sig .tc) : ℕ := match r with
  | ⟨.hbm, i, _⟩ => i.val + 1
  | _ => 0

/-- A buffer's number, if at least one, names it. -/
theorem num_inj {a b : Ref sig .tc} (h0 : 1 ≤ num a) (h : num a = num b) : a = b := by
  obtain ⟨sa, ia, na⟩ := a
  obtain ⟨sb, ib, nb⟩ := b
  cases sa <;> cases sb <;> simp_all [num]
  exact Fin.ext h

/-- `W` satisfies the equation of `op`: what `op` writes is there what `op` makes of the rest. -/
def Eqn (W : Valuation τ sig Val) (op : HloOp τ sig Val) : Prop := ∀ b ∈ op.writes, W b = op.result W b

/-- `op` writes one buffer, of number `n`, from buffers of lower number. -/
structure Step (n : ℕ) (op : HloOp τ sig Val) (y : Ref sig .tc) : Prop where
  pos : 1 ≤ n
  num_y : num y = n
  writes : op.writes = {Proc.devRef .tc y}
  reads : ∀ V V' : Valuation τ sig Val, (∀ r : Ref sig .tc, 1 ≤ num r → num r < n → V (Proc.devRef .tc r) = V' (Proc.devRef .tc r)) →
    op.result V (Proc.devRef .tc y) = op.result V' (Proc.devRef .tc y)
  sub : op.bufs ⊆ tcRefs τ sig
  fresh : op.fresh = ∅

/-- A step leaves every other buffer alone. -/
theorem Step.keep {n : ℕ} {op : HloOp τ sig Val} {y : Ref sig .tc} (h : Step n op y) (V : Valuation τ sig Val) (r : Ref sig .tc) (hr : num r ≠ n) :
    op.result V (Proc.devRef .tc r) = V (Proc.devRef .tc r) :=
  result_of_writes_ne op V y r h.writes fun e => hr (e ▸ h.num_y)

/-- A line that writes the buffers of numbers from `lo` to below `hi`, each once, each from lower ones. -/
structure Solo (lo hi : ℕ) (ops : List (HloOp τ sig Val)) : Prop where
  le : lo ≤ hi
  keep : ∀ (V : Valuation τ sig Val) (r : Ref sig .tc), (num r < lo ∨ hi ≤ num r) → after ops V (Proc.devRef .tc r) = V (Proc.devRef .tc r)
  sound : ∀ V W : Valuation τ sig Val, (∀ r : Ref sig .tc, 1 ≤ num r → num r < hi → W (Proc.devRef .tc r) = after ops V (Proc.devRef .tc r)) →
    ∀ op ∈ ops, Eqn W op
  sub : ∀ op ∈ ops, op.bufs ⊆ tcRefs τ sig
  fresh : ∀ op ∈ ops, op.fresh = ∅

/-- No operations write nothing. -/
theorem Solo.nil (n : ℕ) : Solo n n ([] : List (HloOp τ sig Val)) where
  le := Nat.le_refl n
  keep _ _ _ := rfl
  sound _ _ _ _ h := by cases h
  sub _ h := by cases h
  fresh _ h := by cases h

/-- A step before a list that writes once each writes once each. -/
theorem Solo.cons {lo n hi : ℕ} {op : HloOp τ sig Val} {y : Ref sig .tc} {ops : List (HloOp τ sig Val)} (hs : Step n op y) (hlo : lo ≤ n)
    (ht : Solo (n + 1) hi ops) : Solo lo hi (op :: ops) where
  le := by have := ht.le; omega
  keep V r hr := by
    have := ht.le
    rw [after_cons, ht.keep _ r (by omega), hs.keep V r (by omega)]
  sound V W hW o ho := by
    have hle := ht.le
    rcases List.mem_cons.mp ho with rfl | ho
    · intro b hb
      rw [hs.writes, Finset.mem_singleton] at hb
      subst hb
      rw [hW y (hs.num_y ▸ hs.pos) (by rw [hs.num_y]; omega), after_cons, ht.keep _ y (.inl (by rw [hs.num_y]; omega))]
      refine hs.reads V W fun r h1 h2 => ?_
      rw [hW r h1 (by omega), after_cons, ht.keep _ r (.inl (by omega)), hs.keep V r (by omega)]
    · exact ht.sound (op.result V) W hW o ho
  sub o ho := by
    rcases List.mem_cons.mp ho with rfl | ho
    · exact hs.sub
    · exact ht.sub o ho
  fresh o ho := by
    rcases List.mem_cons.mp ho with rfl | ho
    · exact hs.fresh
    · exact ht.fresh o ho

/-- Two such lists over adjoining ranges join. -/
theorem Solo.append {lo mid hi : ℕ} {l l' : List (HloOp τ sig Val)} (h : Solo lo mid l) (h' : Solo mid hi l') : Solo lo hi (l ++ l') where
  le := Nat.le_trans h.le h'.le
  keep V r hr := by
    have := h.le
    have := h'.le
    rw [after_append, h'.keep _ r (by omega), h.keep V r (by omega)]
  sound V W hW o ho := by
    have := h'.le
    rw [after_append] at hW
    rcases List.mem_append.mp ho with ho | ho
    · refine h.sound V W (fun r h1 h2 => ?_) o ho
      rw [hW r h1 (by omega), h'.keep _ r (.inl h2)]
    · exact h'.sound (after l V) W hW o ho
  sub o ho := (List.mem_append.mp ho).elim (h.sub o) (h'.sub o)
  fresh o ho := (List.mem_append.mp ho).elim (h.fresh o) (h'.fresh o)

/-! ### The builders -/

/-- A constant is a step. -/
theorem Step.nullary (y : Ref sig .tc) (v : y.ty.Contents Val) (hy) (h : 1 ≤ num y) : Step (num y) (nullary (τ := τ) y v hy) y where
  pos := h
  num_y := rfl
  writes := rfl
  reads V V' _ := by rw [nullary_result, nullary_result]
  sub := nullary_bufs_sub y v hy
  fresh := rfl

/-- A unary operation is a step if its operand comes before its result. -/
theorem Step.unary (x y : Ref sig .tc) (f : x.ty.Contents Val → y.ty.Contents Val) (hx hy) (h0 : 1 ≤ num x) (h : num x < num y) :
    Step (num y) (unary (τ := τ) x y f hx hy) y where
  pos := by omega
  num_y := rfl
  writes := rfl
  reads V V' hV := by rw [unary_result, unary_result, hV x h0 h]
  sub := unary_bufs_sub x y f hx hy
  fresh := rfl

/-- A reshape is a step if its operand comes before its result. -/
theorem Step.reshape (x y : Ref sig .tc) (he hn hx hy) (h0 : 1 ≤ num x) (h : num x < num y) :
    Step (num y) (reshape (τ := τ) (Val := Val) x y he hn hx hy) y where
  pos := by omega
  num_y := rfl
  writes := rfl
  reads V V' hV := by rw [reshape_result, reshape_result, hV x h0 h]
  sub := reshape_bufs_sub x y he hn hx hy
  fresh := rfl

/-- A binary operation is a step if its operands come before its result. -/
theorem Step.binary (a b y : Ref sig .tc) (f : a.ty.Contents Val → b.ty.Contents Val → y.ty.Contents Val) (ha hb hy)
    (ha0 : 1 ≤ num a) (ha1 : num a < num y) (hb0 : 1 ≤ num b) (hb1 : num b < num y) :
    Step (num y) (binary (τ := τ) a b y f ha hb hy) y where
  pos := by omega
  num_y := rfl
  writes := rfl
  reads V V' hV := by rw [binary_result, binary_result, hV a ha0 ha1, hV b hb0 hb1]
  sub := binary_bufs_sub a b y f ha hb hy
  fresh := rfl

/-- A ternary operation is a step if its operands come before its result. -/
theorem Step.ternary (c a b y : Ref sig .tc) (f : c.ty.Contents Val → a.ty.Contents Val → b.ty.Contents Val → y.ty.Contents Val) (hc ha hb hy)
    (hc0 : 1 ≤ num c) (hc1 : num c < num y) (ha0 : 1 ≤ num a) (ha1 : num a < num y) (hb0 : 1 ≤ num b) (hb1 : num b < num y) :
    Step (num y) (ternary (τ := τ) c a b y f hc ha hb hy) y where
  pos := by omega
  num_y := rfl
  writes := rfl
  reads V V' hV := by rw [ternary_result, ternary_result, hV a ha0 ha1, hV b hb0 hb1, hV c hc0 hc1]
  sub := ternary_bufs_sub a b c y f hc ha hb hy
  fresh := rfl

end One

/-! ## Two lines -/

section Two

variable {τ τ' : Topo} {sig sig' : RefSig} {Val : EltTy → Type}

/-- Buffers of numbers from `base` to below `hi`, and those numbered `k` more in the other program, hold the same. -/
def Sim (k base hi : ℕ) (V : Valuation τ sig Val) (V' : Valuation τ' sig' Val) : Prop :=
  ∀ (a : Ref sig .tc) (b : Ref sig' .tc), base ≤ num a → num a < hi → num b = num a + k →
    HEq (V (Proc.devRef .tc a)) (V' (Proc.devRef .tc b))

/-- Two lists write matching buffers once each, and agreeing memories stay agreeing after them. -/
structure Pair (k base lo hi : ℕ) (ps : List (HloOp τ sig Val)) (qs : List (HloOp τ' sig' Val)) : Prop where
  fst : Solo lo hi ps
  snd : Solo (lo + k) (hi + k) qs
  sim : ∀ V V', Sim k base lo V V' → Sim k base hi (after ps V) (after qs V')

/-- Two empty lists agree. -/
theorem Pair.nil (k base n : ℕ) : Pair k base n n ([] : List (HloOp τ sig Val)) ([] : List (HloOp τ' sig' Val)) :=
  ⟨Solo.nil n, Solo.nil _, fun _ _ h => h⟩

/-- Two empty lists agree, the range being seen empty by computation. -/
theorem Pair.nil' {k base lo hi : ℕ} (h : Nat.beq lo hi = true) : Pair k base lo hi ([] : List (HloOp τ sig Val)) ([] : List (HloOp τ' sig' Val)) := by
  obtain rfl := Nat.eq_of_beq_eq_true h
  exact Pair.nil _ _ _

/-- Agreeing lists over adjoining ranges join. -/
theorem Pair.append {k base lo mid hi : ℕ} {l m : List (HloOp τ sig Val)} {l' m' : List (HloOp τ' sig' Val)}
    (h : Pair k base lo mid l l') (h' : Pair k base mid hi m m') : Pair k base lo hi (l ++ m) (l' ++ m') :=
  ⟨h.fst.append h'.fst, h.snd.append h'.snd, fun V V' hV => by rw [after_append, after_append]; exact h'.sim _ _ (h.sim V V' hV)⟩

/-- Agreeing operations before agreeing lists agree. -/
theorem Pair.cons {k base n hi : ℕ} {p : HloOp τ sig Val} {y : Ref sig .tc} {q : HloOp τ' sig' Val} {y' : Ref sig' .tc}
    {ps : List (HloOp τ sig Val)} {qs : List (HloOp τ' sig' Val)} (hp : Step n p y) (hq : Step (n + k) q y')
    (hv : ∀ V V', Sim k base n V V' → HEq (p.result V (Proc.devRef .tc y)) (q.result V' (Proc.devRef .tc y')))
    (ht : Pair k base (n + 1) hi ps qs) : Pair k base n hi (p :: ps) (q :: qs) where
  fst := ht.fst.cons hp (Nat.le_refl n)
  snd := Solo.cons hq (Nat.le_refl _) (by have := ht.snd; rwa [show n + 1 + k = n + k + 1 by omega] at this)
  sim V V' hV := by
    rw [after_cons, after_cons]
    refine ht.sim _ _ fun a b h1 h2 h3 => ?_
    by_cases e : num a = n
    · obtain rfl : y = a := num_inj (hp.num_y ▸ hp.pos) (hp.num_y.trans e.symm)
      obtain rfl : y' = b := num_inj (hq.num_y ▸ hq.pos) (hq.num_y.trans (by omega))
      exact hv V V' hV
    · rw [hp.keep V a e, hq.keep V' b (by omega)]
      exact hV a b h1 (by omega) h3

/-- The checks of one read of a step in both programs: the number in the first, and in the second. -/
def okRead (k base y x x' : ℕ) : Bool := Nat.ble 1 x && Nat.ble base x && Nat.blt x y && Nat.beq x' (x + k)
/-- The checks of the write. -/
def okWrite (k lo y y' : ℕ) : Bool := Nat.ble 1 y && Nat.beq y lo && Nat.beq y' (y + k)

/-- What the test of a read says. -/
theorem okRead_iff {k base y x x' : ℕ} : okRead k base y x x' = true ↔ 1 ≤ x ∧ base ≤ x ∧ x < y ∧ x' = x + k := by
  simp [okRead, and_assoc]
/-- What the test of a write says. -/
theorem okWrite_iff {k lo y y' : ℕ} : okWrite k lo y y' = true ↔ 1 ≤ y ∧ y = lo ∧ y' = y + k := by
  simp [okWrite, and_assoc]

/-- Equal values are equal after equal casts. -/
theorem heq_cast {α β γ : Type} {u : α} {v : β} (h : HEq u v) (e : α = γ) (e' : β = γ) : cast e u = cast e' v := by
  subst e e'; exact eq_of_heq h

/-- Equal typed values are equal in their buffers. -/
theorem heq_toBuf {T : BufTy} (y : TRef sig T) (y' : TRef sig' T) {v v' : T.Contents Val} (h : v = v') : HEq (y.toBuf v) (y'.toBuf v') := by
  subst h; exact (cast_heq _ _).trans (cast_heq _ _).symm

/-- In agreeing memories, matching typed buffers read equal. -/
theorem Sim.ofBuf {k base n : ℕ} {V : Valuation τ sig Val} {V' : Valuation τ' sig' Val} (h : Sim k base n V V') {T : BufTy} (x : TRef sig T) (x' : TRef sig' T)
    (hb : base ≤ num x.ref) (hn : num x.ref < n) (hk : num x'.ref = num x.ref + k) :
    x.ofBuf (V (Proc.devRef .tc x.ref)) = x'.ofBuf (V' (Proc.devRef .tc x'.ref)) :=
  heq_cast (h x.ref x'.ref hb hn hk) _ _

variable {k base lo hi : ℕ} {ps : List (HloOp τ sig Val)} {qs : List (HloOp τ' sig' Val)}

/-- Equal constants agree. -/
theorem Pair.nullary {Ty : BufTy} {y : TRef sig Ty} {y' : TRef sig' Ty} {v : Ty.Contents Val}
    (h : okWrite k lo (num y.ref) (num y'.ref) = true) (ht : Pair k base (num y.ref + 1) hi ps qs) :
    Pair k base lo hi (TRef.nullary y v :: ps) (TRef.nullary y' v :: qs) := by
  obtain ⟨h1, h2, h3⟩ := okWrite_iff.mp h
  subst h2
  refine Pair.cons (Step.nullary _ _ _ h1) (h3 ▸ Step.nullary _ _ _ (by omega)) (fun V V' hV => ?_) ht
  rw [nullary_result, nullary_result]
  exact heq_toBuf y y' rfl

/-- The same unary operation on matching buffers agrees. -/
theorem Pair.unary {Tx Ty : BufTy} {x : TRef sig Tx} {y : TRef sig Ty} {x' : TRef sig' Tx} {y' : TRef sig' Ty} {f : Tx.Contents Val → Ty.Contents Val}
    (h : (okWrite k lo (num y.ref) (num y'.ref) && okRead k base (num y.ref) (num x.ref) (num x'.ref)) = true) (ht : Pair k base (num y.ref + 1) hi ps qs) :
    Pair k base lo hi (TRef.unary x y f :: ps) (TRef.unary x' y' f :: qs) := by
  obtain ⟨h, hx⟩ := (Bool.and_eq_true _ _).mp h
  obtain ⟨h1, h2, h3⟩ := okWrite_iff.mp h
  obtain ⟨x1, x2, x3, x4⟩ := okRead_iff.mp hx
  subst h2
  refine Pair.cons (Step.unary _ _ _ _ _ x1 x3) (h3 ▸ Step.unary _ _ _ _ _ (by omega) (by omega)) (fun V V' hV => ?_) ht
  rw [unary_result, unary_result]
  exact heq_toBuf y y' (congrArg f (hV.ofBuf x x' x2 x3 x4))

/-- The same binary operation on matching buffers agrees. -/
theorem Pair.binary {Ta Tb Ty : BufTy} {a : TRef sig Ta} {b : TRef sig Tb} {y : TRef sig Ty} {a' : TRef sig' Ta} {b' : TRef sig' Tb} {y' : TRef sig' Ty}
    {f : Ta.Contents Val → Tb.Contents Val → Ty.Contents Val}
    (h : (okWrite k lo (num y.ref) (num y'.ref) && (okRead k base (num y.ref) (num a.ref) (num a'.ref) && okRead k base (num y.ref) (num b.ref) (num b'.ref))) = true)
    (ht : Pair k base (num y.ref + 1) hi ps qs) :
    Pair k base lo hi (TRef.binary a b y f :: ps) (TRef.binary a' b' y' f :: qs) := by
  obtain ⟨h, hx⟩ := (Bool.and_eq_true _ _).mp h
  obtain ⟨ha, hb⟩ := (Bool.and_eq_true _ _).mp hx
  obtain ⟨h1, h2, h3⟩ := okWrite_iff.mp h
  obtain ⟨a1, a2, a3, a4⟩ := okRead_iff.mp ha
  obtain ⟨b1, b2, b3, b4⟩ := okRead_iff.mp hb
  subst h2
  refine Pair.cons (Step.binary _ _ _ _ _ _ _ a1 a3 b1 b3) (h3 ▸ Step.binary _ _ _ _ _ _ _ (by omega) (by omega) (by omega) (by omega)) (fun V V' hV => ?_) ht
  rw [binary_result, binary_result]
  exact heq_toBuf y y' (congrArg₂ f (hV.ofBuf a a' a2 a3 a4) (hV.ofBuf b b' b2 b3 b4))

/-- The same ternary operation on matching buffers agrees. -/
theorem Pair.ternary {Tc Ta Tb Ty : BufTy} {c : TRef sig Tc} {a : TRef sig Ta} {b : TRef sig Tb} {y : TRef sig Ty}
    {c' : TRef sig' Tc} {a' : TRef sig' Ta} {b' : TRef sig' Tb} {y' : TRef sig' Ty}
    {f : Tc.Contents Val → Ta.Contents Val → Tb.Contents Val → Ty.Contents Val}
    (h : (okWrite k lo (num y.ref) (num y'.ref) && (okRead k base (num y.ref) (num c.ref) (num c'.ref)
      && (okRead k base (num y.ref) (num a.ref) (num a'.ref) && okRead k base (num y.ref) (num b.ref) (num b'.ref)))) = true)
    (ht : Pair k base (num y.ref + 1) hi ps qs) :
    Pair k base lo hi (TRef.ternary c a b y f :: ps) (TRef.ternary c' a' b' y' f :: qs) := by
  obtain ⟨h, hx⟩ := (Bool.and_eq_true _ _).mp h
  obtain ⟨hc, hx⟩ := (Bool.and_eq_true _ _).mp hx
  obtain ⟨ha, hb⟩ := (Bool.and_eq_true _ _).mp hx
  obtain ⟨h1, h2, h3⟩ := okWrite_iff.mp h
  obtain ⟨c1, c2, c3, c4⟩ := okRead_iff.mp hc
  obtain ⟨a1, a2, a3, a4⟩ := okRead_iff.mp ha
  obtain ⟨b1, b2, b3, b4⟩ := okRead_iff.mp hb
  subst h2
  refine Pair.cons (Step.ternary _ _ _ _ _ _ _ _ _ c1 c3 a1 a3 b1 b3)
    (h3 ▸ Step.ternary _ _ _ _ _ _ _ _ _ (by omega) (by omega) (by omega) (by omega) (by omega) (by omega)) (fun V V' hV => ?_) ht
  rw [ternary_result, ternary_result]
  refine heq_toBuf y y' ?_
  rw [hV.ofBuf c c' c2 c3 c4, hV.ofBuf a a' a2 a3 a4, hV.ofBuf b b' b2 b3 b4]

/-- Equal arrays reshape to equal arrays. -/
theorem heq_reshape {X X' Y Y' : BufTy} (hX : X = X') (hY : Y = Y') {u : X.Contents Val} {u' : X'.Contents Val} (hu : HEq u u')
    (he : X.elt = Y.elt) (he' : X'.elt = Y'.elt) (hn : X.shape.ShapeCasts Y.shape) (hn' : X'.shape.ShapeCasts Y'.shape) :
    HEq (fun i => he ▸ shapeCast Y.shape u hn i : Y.Contents Val) (fun i => he' ▸ shapeCast Y'.shape u' hn' i : Y'.Contents Val) := by
  subst hX hY
  obtain rfl := eq_of_heq hu
  rfl

/-- The same reshape on matching buffers agrees. -/
theorem Pair.reshape {Tx Ty : BufTy} {x : TRef sig Tx} {y : TRef sig Ty} {x' : TRef sig' Tx} {y' : TRef sig' Ty} {he : Tx.elt = Ty.elt} {hn : Tx.shape.ShapeCasts Ty.shape}
    (h : (okWrite k lo (num y.ref) (num y'.ref) && okRead k base (num y.ref) (num x.ref) (num x'.ref)) = true) (ht : Pair k base (num y.ref + 1) hi ps qs) :
    Pair k base lo hi (TRef.reshape x y he hn :: ps) (TRef.reshape x' y' he hn :: qs) := by
  obtain ⟨h, hx⟩ := (Bool.and_eq_true _ _).mp h
  obtain ⟨h1, h2, h3⟩ := okWrite_iff.mp h
  obtain ⟨x1, x2, x3, x4⟩ := okRead_iff.mp hx
  subst h2
  refine Pair.cons (Step.reshape _ _ _ _ _ _ x1 x3) (h3 ▸ Step.reshape _ _ _ _ _ _ (by omega) (by omega)) (fun V V' hV => ?_) ht
  rw [reshape_result, reshape_result]
  exact heq_reshape (x.ty_eq.trans x'.ty_eq.symm) (y.ty_eq.trans y'.ty_eq.symm) (hV x.ref x'.ref x2 x3 x4) _ _ _ _

/-- Equal constants agree, on untyped buffers. -/
theorem Pair.rawNullary {y : Ref sig .tc} {y' : Ref sig' .tc} {v : y.ty.Contents Val} {v' : y'.ty.Contents Val} {hy hy'} (hv : HEq v v')
    (h : okWrite k lo (num y) (num y') = true) (ht : Pair k base (num y + 1) hi ps qs) :
    Pair k base lo hi (StableHlo.nullary y v hy :: ps) (StableHlo.nullary y' v' hy' :: qs) := by
  obtain ⟨h1, h2, h3⟩ := okWrite_iff.mp h
  subst h2
  refine Pair.cons (Step.nullary _ _ _ h1) (h3 ▸ Step.nullary _ _ _ (by omega)) (fun V V' hV => ?_) ht
  rw [nullary_result, nullary_result]
  exact hv

/-- Equal functions of equal arguments are equal across types. -/
theorem heq_app {α β γ δ : Type} {f : α → β} {g : γ → δ} {a : α} {c : γ} (e : α = γ) (e' : β = δ) (h : HEq f g) (h' : HEq a c) : HEq (f a) (g c) := by
  subst e e'
  rw [eq_of_heq h, eq_of_heq h']

/-- Equal unary operations on matching untyped buffers agree. -/
theorem Pair.rawUnary {x y : Ref sig .tc} {x' y' : Ref sig' .tc} {f : x.ty.Contents Val → y.ty.Contents Val} {f' : x'.ty.Contents Val → y'.ty.Contents Val}
    {hx hy hx' hy'} (ex : x.ty = x'.ty) (ey : y.ty = y'.ty) (hf : HEq f f')
    (h : (okWrite k lo (num y) (num y') && okRead k base (num y) (num x) (num x')) = true) (ht : Pair k base (num y + 1) hi ps qs) :
    Pair k base lo hi (StableHlo.unary x y f hx hy :: ps) (StableHlo.unary x' y' f' hx' hy' :: qs) := by
  obtain ⟨h, hx⟩ := (Bool.and_eq_true _ _).mp h
  obtain ⟨h1, h2, h3⟩ := okWrite_iff.mp h
  obtain ⟨x1, x2, x3, x4⟩ := okRead_iff.mp hx
  subst h2
  refine Pair.cons (Step.unary _ _ _ _ _ x1 x3) (h3 ▸ Step.unary _ _ _ _ _ (by omega) (by omega)) (fun V V' hV => ?_) ht
  rw [unary_result, unary_result]
  exact heq_app (congrArg (BufTy.Contents Val) ex) (congrArg (BufTy.Contents Val) ey) hf (hV x x' x2 x3 x4)

/-- The same for two arguments. -/
theorem heq_app₂ {α β γ α' β' γ' : Type} {f : α → β → γ} {g : α' → β' → γ'} {a : α} {b : β} {a' : α'} {b' : β'} (ea : α = α') (eb : β = β') (ec : γ = γ')
    (h : HEq f g) (ha : HEq a a') (hb : HEq b b') : HEq (f a b) (g a' b') := by
  subst ea eb ec
  rw [eq_of_heq h, eq_of_heq ha, eq_of_heq hb]

/-- Equal binary operations on matching untyped buffers agree. -/
theorem Pair.rawBinary {a b y : Ref sig .tc} {a' b' y' : Ref sig' .tc} {f : a.ty.Contents Val → b.ty.Contents Val → y.ty.Contents Val}
    {f' : a'.ty.Contents Val → b'.ty.Contents Val → y'.ty.Contents Val} {ha hb hy ha' hb' hy'} (ea : a.ty = a'.ty) (eb : b.ty = b'.ty) (ey : y.ty = y'.ty) (hf : HEq f f')
    (h : (okWrite k lo (num y) (num y') && (okRead k base (num y) (num a) (num a') && okRead k base (num y) (num b) (num b'))) = true)
    (ht : Pair k base (num y + 1) hi ps qs) :
    Pair k base lo hi (StableHlo.binary a b y f ha hb hy :: ps) (StableHlo.binary a' b' y' f' ha' hb' hy' :: qs) := by
  obtain ⟨h, hx⟩ := (Bool.and_eq_true _ _).mp h
  obtain ⟨ha, hb⟩ := (Bool.and_eq_true _ _).mp hx
  obtain ⟨h1, h2, h3⟩ := okWrite_iff.mp h
  obtain ⟨a1, a2, a3, a4⟩ := okRead_iff.mp ha
  obtain ⟨b1, b2, b3, b4⟩ := okRead_iff.mp hb
  subst h2
  refine Pair.cons (Step.binary _ _ _ _ _ _ _ a1 a3 b1 b3) (h3 ▸ Step.binary _ _ _ _ _ _ _ (by omega) (by omega) (by omega) (by omega)) (fun V V' hV => ?_) ht
  rw [binary_result, binary_result]
  exact heq_app₂ (congrArg (BufTy.Contents Val) ea) (congrArg (BufTy.Contents Val) eb) (congrArg (BufTy.Contents Val) ey) hf (hV a a' a2 a3 a4) (hV b b' b2 b3 b4)

end Two

end Cert.Proof.Mask
end
-- ==== Proof.HostK.lean ====
/-
  The host operations of the kernel's program, function by function: each function's body is a straight line of operations, and its list is
  read off the program.
-/
module

public import proofs.«01_k».proof.Proof.Gen.KernelIdeal
public import proofs.«01_k».proof.Proof.Line

@[expose] public section

noncomputable section

namespace Cert.Proof.Mask.K

open Cert.KernelIdeal Cert.KernelIdeal.Gen
open Idealize.ShloMosaic Idealize.ShloMosaic.StableHlo Idealize.SL.Sem

variable {F : FTy → Type} [FloatOps F]

/-- The operations of the first printed copy of the twenty mixing rounds. -/
def tf (a0 a1 a2 a3 φ) : {ops : List (HloOp τ sig (Elt F)) // IsSeq (fn_threefry2x32.body a0 a1 a2 a3 φ) ops} := by
  apply Subtype.mk
  apply IsSeq.append (p := fn_threefry2x32.body_part0 a0 a1 a2 a3 φ)
  on_goal 2 => apply IsSeq.append (p := fn_threefry2x32.body_part1 a0 a1 a2 a3 φ)
  on_goal 3 => apply IsSeq.append (p := fn_threefry2x32.body_part2 a0 a1 a2 a3 φ)
  all_goals repeat (first | exact IsSeq.nil | exact IsSeq.last | apply IsSeq.cons)

/-- The operations of the second printed copy of the mixing rounds. -/
def tf1 (a0 a1 a2 a3 φ) : {ops : List (HloOp τ sig (Elt F)) // IsSeq (fn_threefry2x32_1.body a0 a1 a2 a3 φ) ops} := by
  apply Subtype.mk
  apply IsSeq.append (p := fn_threefry2x32_1.body_part0 a0 a1 a2 a3 φ)
  on_goal 2 => apply IsSeq.append (p := fn_threefry2x32_1.body_part1 a0 a1 a2 a3 φ)
  on_goal 3 => apply IsSeq.append (p := fn_threefry2x32_1.body_part2 a0 a1 a2 a3 φ)
  all_goals repeat (first | exact IsSeq.nil | exact IsSeq.last | apply IsSeq.cons)

/-- The operations of the third printed copy of the mixing rounds. -/
def tf2 (a0 a1 a2 a3 φ) : {ops : List (HloOp τ sig (Elt F)) // IsSeq (fn_threefry2x32_2.body a0 a1 a2 a3 φ) ops} := by
  apply Subtype.mk
  apply IsSeq.append (p := fn_threefry2x32_2.body_part0 a0 a1 a2 a3 φ)
  on_goal 2 => apply IsSeq.append (p := fn_threefry2x32_2.body_part1 a0 a1 a2 a3 φ)
  on_goal 3 => apply IsSeq.append (p := fn_threefry2x32_2.body_part2 a0 a1 a2 a3 φ)
  all_goals repeat (first | exact IsSeq.nil | exact IsSeq.last | apply IsSeq.cons)

/-- The operations of the first clip. -/
def clip (a0 a1 a2 φ) : {ops : List (HloOp τ sig (Elt F)) // IsSeq (fn_clip.body a0 a1 a2 φ) ops} := by
  apply Subtype.mk
  repeat (first | exact IsSeq.nil | exact IsSeq.last | apply IsSeq.cons)

/-- The operations of the second clip. -/
def clip0 (a0 a1 a2 φ) : {ops : List (HloOp τ sig (Elt F)) // IsSeq (fn_clip_0.body a0 a1 a2 φ) ops} := by
  apply Subtype.mk
  repeat (first | exact IsSeq.nil | exact IsSeq.last | apply IsSeq.cons)

/-- The operations that fold a number into a key. -/
def foldIn (a0 a1 φ) : {ops : List (HloOp τ sig (Elt F)) // IsSeq (fn_threefry_fold_in.body a0 a1 φ) ops} := by
  apply Subtype.mk
  repeat (first | exact IsSeq.nil | exact IsSeq.last | apply IsSeq.append (tf _ _ _ _ _).2 | apply IsSeq.cons)

/-- The operations that split a key in two. -/
def split (a0 φ) : {ops : List (HloOp τ sig (Elt F)) // IsSeq (fn_threefry_split.body a0 φ) ops} := by
  apply Subtype.mk
  repeat (first | exact IsSeq.nil | exact IsSeq.last | apply IsSeq.append (tf1 _ _ _ _ _).2 | apply IsSeq.cons)

/-- The operations that draw the integers. -/
def randint (a0 a1 a2 φ) : {ops : List (HloOp τ sig (Elt F)) // IsSeq (fn_randint.body a0 a1 a2 φ) ops} := by
  apply Subtype.mk
  apply IsSeq.append (p := fn_randint.body_part0 a0 a1 a2 φ)
  · iterate 3 apply IsSeq.cons
    apply IsSeq.append (clip _ _ _ _).2
    iterate 3 apply IsSeq.cons
    apply IsSeq.append (clip0 _ _ _ _).2
    iterate 3 apply IsSeq.cons
    apply IsSeq.append (clip0 _ _ _ _).2
    iterate 3 apply IsSeq.cons
    apply IsSeq.append (split _ _).2
    iterate 17 apply IsSeq.cons
    apply IsSeq.append (tf2 _ _ _ _ _).2
    iterate 14 apply IsSeq.cons
    apply IsSeq.append (tf2 _ _ _ _ _).2
    repeat (first | exact IsSeq.last | apply IsSeq.cons)
  · repeat (first | exact IsSeq.nil | apply IsSeq.cons)

/-- A program over the devices. -/
abbrev MainTy (F : FTy → Type) [FloatOps F] := Dev nD → Prog (TpuEff nD τ sig (Elt F) (SparseCore.Sig (Pipeline.Sig Λ₀ (Fin 0) fun p => (pcfgs (F := F) p).Adm) 1) .tc) PUnit

/-- The operations that draw the first columns, and the rest of the program. -/
def segA : {x : List (HloOp τ sig (Elt F)) × MainTy F // Pre main x.1 x.2} := by
  apply Subtype.mk (Prod.mk _ _)
  iterate 11 apply Pre.cons
  apply Pre.append (foldIn _ _ _).2
  iterate 2 apply Pre.cons
  apply Pre.append (randint _ _ _ _).2
  exact Pre.stop

/-- The operations that draw the first rows, and the rest. -/
def segB : {x : List (HloOp τ sig (Elt F)) × MainTy F // Pre segA.1.2 x.1 x.2} := by
  apply Subtype.mk (Prod.mk _ _)
  iterate 11 apply Pre.cons
  apply Pre.append (foldIn _ _ _).2
  iterate 2 apply Pre.cons
  apply Pre.append (randint _ _ _ _).2
  exact Pre.stop

/-- The operations that lay the drawn words and the array out for the kernel, and the rest. -/
def segC : {x : List (HloOp τ sig (Elt F)) × MainTy F // Pre segB.1.2 x.1 x.2} := by
  apply Subtype.mk (Prod.mk _ _)
  iterate 6 apply Pre.cons
  exact Pre.stop

/-- All host operations before the kernel. -/
def pre : List (HloOp τ sig (Elt F)) := segA.1.1 ++ (segB.1.1 ++ segC.1.1)

/-- The kernel's program is its host operations in order, then the launch and what follows. -/
theorem main_eq (d : Dev nD) : main (F := F) d = (seq pre >>= fun _ => segC.1.2 d) := by
  unfold pre
  rw [segA.2 d, segB.2 d, segC.2 d, seq_append, seq_append]
  simp only [Prog.bind_assoc]

/-- After the host operations come the launch and the reshape of the output, and nothing else. -/
theorem segC_rest (d : Dev nD) : (segC (F := F)).1.2 d = (do
    sc.run d 0
    hlo rfl (StableHlo.reshape main_v24 main_v25 (rfl : (.f32 : EltTy) = .f32) shapeCasts_S64x128x4000_S64x1x128x4000) (fun _ => .ret ⟨⟩)
    pure ⟨⟩) := rfl

end Cert.Proof.Mask.K
end
-- ==== Proof.HostR.lean ====
/-
  The host operations of the reference, function by function: each function's body is a straight line of operations, and its list is
  read off the program.
-/
module

public import proofs.«01_k».proof.Proof.Gen.ReferenceIdeal
public import proofs.«01_k».proof.Proof.Line

@[expose] public section

noncomputable section

namespace Cert.Proof.Mask.R

open Cert.ReferenceIdeal Cert.ReferenceIdeal.Gen
open Idealize.ShloMosaic Idealize.ShloMosaic.StableHlo Idealize.SL.Sem

variable {F : FTy → Type} [FloatOps F]

/-- The operations of the first printed copy of the twenty mixing rounds. -/
def tf (a0 a1 a2 a3 φ) : {ops : List (HloOp τ sig (Elt F)) // IsSeq (fn_threefry2x32.body a0 a1 a2 a3 φ) ops} := by
  apply Subtype.mk
  apply IsSeq.append (p := fn_threefry2x32.body_part0 a0 a1 a2 a3 φ)
  on_goal 2 => apply IsSeq.append (p := fn_threefry2x32.body_part1 a0 a1 a2 a3 φ)
  on_goal 3 => apply IsSeq.append (p := fn_threefry2x32.body_part2 a0 a1 a2 a3 φ)
  all_goals repeat (first | exact IsSeq.nil | exact IsSeq.last | apply IsSeq.cons)

/-- The operations of the second printed copy of the mixing rounds. -/
def tf1 (a0 a1 a2 a3 φ) : {ops : List (HloOp τ sig (Elt F)) // IsSeq (fn_threefry2x32_1.body a0 a1 a2 a3 φ) ops} := by
  apply Subtype.mk
  apply IsSeq.append (p := fn_threefry2x32_1.body_part0 a0 a1 a2 a3 φ)
  on_goal 2 => apply IsSeq.append (p := fn_threefry2x32_1.body_part1 a0 a1 a2 a3 φ)
  on_goal 3 => apply IsSeq.append (p := fn_threefry2x32_1.body_part2 a0 a1 a2 a3 φ)
  all_goals repeat (first | exact IsSeq.nil | exact IsSeq.last | apply IsSeq.cons)

/-- The operations of the third printed copy of the mixing rounds. -/
def tf2 (a0 a1 a2 a3 φ) : {ops : List (HloOp τ sig (Elt F)) // IsSeq (fn_threefry2x32_2.body a0 a1 a2 a3 φ) ops} := by
  apply Subtype.mk
  apply IsSeq.append (p := fn_threefry2x32_2.body_part0 a0 a1 a2 a3 φ)
  on_goal 2 => apply IsSeq.append (p := fn_threefry2x32_2.body_part1 a0 a1 a2 a3 φ)
  on_goal 3 => apply IsSeq.append (p := fn_threefry2x32_2.body_part2 a0 a1 a2 a3 φ)
  all_goals repeat (first | exact IsSeq.nil | exact IsSeq.last | apply IsSeq.cons)

/-- The operations of the first clip. -/
def clip (a0 a1 a2 φ) : {ops : List (HloOp τ sig (Elt F)) // IsSeq (fn_clip.body a0 a1 a2 φ) ops} := by
  apply Subtype.mk
  repeat (first | exact IsSeq.nil | exact IsSeq.last | apply IsSeq.cons)

/-- The operations of the second clip. -/
def clip0 (a0 a1 a2 φ) : {ops : List (HloOp τ sig (Elt F)) // IsSeq (fn_clip_0.body a0 a1 a2 φ) ops} := by
  apply Subtype.mk
  repeat (first | exact IsSeq.nil | exact IsSeq.last | apply IsSeq.cons)

/-- The operations that fold a number into a key. -/
def foldIn (a0 a1 φ) : {ops : List (HloOp τ sig (Elt F)) // IsSeq (fn_threefry_fold_in.body a0 a1 φ) ops} := by
  apply Subtype.mk
  repeat (first | exact IsSeq.nil | exact IsSeq.last | apply IsSeq.append (tf _ _ _ _ _).2 | apply IsSeq.cons)

/-- The operations that split a key in two. -/
def split (a0 φ) : {ops : List (HloOp τ sig (Elt F)) // IsSeq (fn_threefry_split.body a0 φ) ops} := by
  apply Subtype.mk
  repeat (first | exact IsSeq.nil | exact IsSeq.last | apply IsSeq.append (tf1 _ _ _ _ _).2 | apply IsSeq.cons)

/-- The operations that draw the integers. -/
def randint (a0 a1 a2 φ) : {ops : List (HloOp τ sig (Elt F)) // IsSeq (fn_randint.body a0 a1 a2 φ) ops} := by
  apply Subtype.mk
  apply IsSeq.append (p := fn_randint.body_part0 a0 a1 a2 φ)
  · iterate 3 apply IsSeq.cons
    apply IsSeq.append (clip _ _ _ _).2
    iterate 3 apply IsSeq.cons
    apply IsSeq.append (clip0 _ _ _ _).2
    iterate 3 apply IsSeq.cons
    apply IsSeq.append (clip0 _ _ _ _).2
    iterate 3 apply IsSeq.cons
    apply IsSeq.append (split _ _).2
    iterate 17 apply IsSeq.cons
    apply IsSeq.append (tf2 _ _ _ _ _).2
    iterate 14 apply IsSeq.cons
    apply IsSeq.append (tf2 _ _ _ _ _).2
    repeat (first | exact IsSeq.last | apply IsSeq.cons)
  · repeat (first | exact IsSeq.nil | apply IsSeq.cons)

/-- The operations of the first choice by a condition. -/
def where1 (a0 a1 a2 φ) : {ops : List (HloOp τ sig (Elt F)) // IsSeq (fn_where.body a0 a1 a2 φ) ops} := by
  apply Subtype.mk
  repeat (first | exact IsSeq.nil | exact IsSeq.last | apply IsSeq.cons)

/-- The operations of the second choice by a condition. -/
def where3 (a0 a1 a2 φ) : {ops : List (HloOp τ sig (Elt F)) // IsSeq (fn_where_3.body a0 a1 a2 φ) ops} := by
  apply Subtype.mk
  repeat (first | exact IsSeq.nil | exact IsSeq.last | apply IsSeq.cons)

/-- A program over the devices. -/
abbrev MainTy (F : FTy → Type) [FloatOps F] := Dev nD → Prog (TpuEff nD τ sig (Elt F) (Pipeline.Sig Λ₀ (Fin 0) fun p => (pcfgs (F := F) p).Adm) .tc) PUnit

/-- The operations that draw the first columns, and the rest of the program's first part. -/
def segA : {x : List (HloOp τ sig (Elt F)) × MainTy F // Pre main_part0 x.1 x.2} := by
  apply Subtype.mk (Prod.mk _ _)
  iterate 11 apply Pre.cons
  apply Pre.append (foldIn _ _ _).2
  iterate 2 apply Pre.cons
  apply Pre.append (randint _ _ _ _).2
  exact Pre.stop

/-- The operations that mask the columns, and the rest. -/
def segM : {x : List (HloOp τ sig (Elt F)) × MainTy F // Pre segA.1.2 x.1 x.2} := by
  apply Subtype.mk (Prod.mk _ _)
  iterate 16 apply Pre.cons
  apply Pre.append (where1 _ _ _ _).2
  exact Pre.stop

/-- The operations that draw the first rows, and the rest. -/
def segB : {x : List (HloOp τ sig (Elt F)) × MainTy F // Pre segM.1.2 x.1 x.2} := by
  apply Subtype.mk (Prod.mk _ _)
  iterate 11 apply Pre.cons
  apply Pre.append (foldIn _ _ _).2
  iterate 2 apply Pre.cons
  apply Pre.append (randint _ _ _ _).2
  exact Pre.stop

/-- The operations that mask the rows, of the program's first part. -/
def segN : {ops : List (HloOp τ sig (Elt F)) // ∀ d, IsSeq (segB.1.2 d) ops} := by
  apply Subtype.mk
  intro d
  repeat (first | exact IsSeq.nil | exact IsSeq.last | apply IsSeq.cons)

/-- The operations that mask the rows, of the program's second part. -/
def segO : {ops : List (HloOp τ sig (Elt F)) // ∀ d, IsSeq (main_part1 d) ops} := by
  apply Subtype.mk
  intro d
  repeat (first | exact IsSeq.nil | exact IsSeq.last | apply IsSeq.append (where3 _ _ _ _).2 | apply IsSeq.cons)

/-- All operations of the reference. -/
def all : List (HloOp τ sig (Elt F)) := (segA.1.1 ++ (segM.1.1 ++ (segB.1.1 ++ segN.1))) ++ segO.1

/-- The reference is its list of operations in order. -/
theorem main_eq (d : Dev nD) : IsSeq (main (F := F) d) all :=
  IsSeq.append (p := main_part0 d) (segA.2.isSeq d (segM.2.isSeq d (segB.2.isSeq d (segN.2 d)))) (segO.2 d)

end Cert.Proof.Mask.R
end
-- ==== Proof.PairA.lean ====
/-
  The operations that draw the first columns are the same in the two programs, on the same buffer numbers.
-/
module

public import proofs.«01_k».proof.Proof.HostK
public import proofs.«01_k».proof.Proof.HostR

@[expose] public section

noncomputable section

namespace Cert.Proof.Mask

open Idealize.ShloMosaic Idealize.ShloMosaic.StableHlo Idealize.SL.Sem

variable {F : FTy → Type} [FloatOps F]

set_option maxHeartbeats 20000000 in
set_option maxRecDepth 10000 in
/-- The first draw: the kernel and the reference do the same operations on matching buffers. -/
theorem pairA : Pair (Val := Elt F) 0 2 2 1013 K.segA.1.1 R.segA.1.1 := by
  repeat' first | exact Pair.nil _ _ _ | apply Pair.nullary rfl | apply Pair.unary rfl | apply Pair.binary rfl | apply Pair.ternary rfl | apply Pair.reshape rfl | refine Pair.rawNullary HEq.rfl rfl ?_ | refine Pair.rawUnary rfl rfl HEq.rfl rfl ?_ | refine Pair.rawBinary rfl rfl rfl HEq.rfl rfl ?_ | apply Pair.append

end Cert.Proof.Mask
end
-- ==== Proof.PairB.lean ====
/-
  The operations that draw the first rows are the same in the two programs, on buffer numbers nineteen apart.
-/
module

public import proofs.«01_k».proof.Proof.HostK
public import proofs.«01_k».proof.Proof.HostR

@[expose] public section

noncomputable section

namespace Cert.Proof.Mask

open Idealize.ShloMosaic Idealize.ShloMosaic.StableHlo Idealize.SL.Sem

variable {F : FTy → Type} [FloatOps F]

set_option maxHeartbeats 20000000 in
set_option maxRecDepth 10000 in
/-- The second draw: the kernel and the reference do the same operations on matching buffers. -/
theorem pairB : Pair (Val := Elt F) 19 1013 1013 2024 K.segB.1.1 R.segB.1.1 := by
  repeat' first | exact Pair.nil _ _ _ | apply Pair.nullary rfl | apply Pair.unary rfl | apply Pair.binary rfl | apply Pair.ternary rfl | apply Pair.reshape rfl | refine Pair.rawNullary HEq.rfl rfl ?_ | refine Pair.rawUnary rfl rfl HEq.rfl rfl ?_ | refine Pair.rawBinary rfl rfl rfl HEq.rfl rfl ?_ | apply Pair.append

end Cert.Proof.Mask
end
-- ==== Proof.Eqns.lean ====
/-
  What it says that a host operation's equation holds of a device's contents, operation by operation; and the bound of a
  drawn word, from the equations of the last operations of the draw.
-/
module

public import proofs.«01_k».proof.Proof.HostK

@[expose] public section

noncomputable section

namespace Cert.Proof.Mask

open Idealize.ShloMosaic Idealize.ShloMosaic.StableHlo Idealize.SL.Sem

section Gen
variable {τ : Topo} {sig : RefSig} {Val : EltTy → Type}

/-- What `W` holds at a typed reference. -/
def rd {T : BufTy} (W : Valuation τ sig Val) (x : TRef sig T) : T.Contents Val := x.ofBuf (W (Proc.devRef .tc x.ref))

/-- If a buffer holds a typed value's image, reading it back gives that value. -/
theorem ofBuf_eq_of {T : BufTy} (y : TRef sig T) {u : y.ref.ty.Contents Val} {v : T.Contents Val} (h : u = y.toBuf v) : y.ofBuf u = v := by
  subst h; exact y.ofBuf_toBuf v

variable (W : Valuation τ sig Val) {Ta Tb Tc Ty : BufTy} (a : TRef sig Ta) (b : TRef sig Tb) (c : TRef sig Tc) (y : TRef sig Ty)

/-- A constant's equation: its buffer holds the constant. -/
theorem eqn_nullary {v : Ty.Contents Val} (h : Eqn W (TRef.nullary y v)) : rd W y = v :=
  ofBuf_eq_of y ((h _ (Finset.mem_singleton_self _)).trans (nullary_result _ _ _ _))
/-- A unary operation's equation: its result is the function of its operand. -/
theorem eqn_unary {f : Ta.Contents Val → Ty.Contents Val} (h : Eqn W (TRef.unary a y f)) : rd W y = f (rd W a) :=
  ofBuf_eq_of y ((h _ (Finset.mem_singleton_self _)).trans (unary_result _ _ _ _ _ _))
/-- A binary operation's equation: its result is the function of its operands. -/
theorem eqn_binary {f : Ta.Contents Val → Tb.Contents Val → Ty.Contents Val} (h : Eqn W (TRef.binary a b y f)) : rd W y = f (rd W a) (rd W b) :=
  ofBuf_eq_of y ((h _ (Finset.mem_singleton_self _)).trans (binary_result _ _ _ _ _ _ _ _))
/-- A ternary operation's equation: its result is the function of its operands. -/
theorem eqn_ternary {f : Tc.Contents Val → Ta.Contents Val → Tb.Contents Val → Ty.Contents Val} (h : Eqn W (TRef.ternary c a b y f)) :
    rd W y = f (rd W c) (rd W a) (rd W b) :=
  ofBuf_eq_of y ((h _ (Finset.mem_singleton_self _)).trans (ternary_result _ _ _ _ _ _ _ _ _ _))

variable (x' a' b' y' : Ref sig .tc)

/-- A constant's equation, on untyped buffers. -/
theorem raw_nullary {v : y'.ty.Contents Val} {hy} (h : Eqn W (nullary y' v hy)) : W (Proc.devRef .tc y') = v :=
  (h _ (Finset.mem_singleton_self _)).trans (nullary_result _ _ _ _)
/-- A unary operation's equation, on untyped buffers. -/
theorem raw_unary {f : x'.ty.Contents Val → y'.ty.Contents Val} {hx hy} (h : Eqn W (unary x' y' f hx hy)) :
    W (Proc.devRef .tc y') = f (W (Proc.devRef .tc x')) :=
  (h _ (Finset.mem_singleton_self _)).trans (unary_result _ _ _ _ _ _)
/-- A binary operation's equation, on untyped buffers. -/
theorem raw_binary {f : a'.ty.Contents Val → b'.ty.Contents Val → y'.ty.Contents Val} {ha hb hy} (h : Eqn W (binary a' b' y' f ha hb hy)) :
    W (Proc.devRef .tc y') = f (W (Proc.devRef .tc a')) (W (Proc.devRef .tc b')) :=
  (h _ (Finset.mem_singleton_self _)).trans (binary_result _ _ _ _ _ _ _ _)
end Gen

open Cert.KernelIdeal Cert.KernelIdeal.Gen
variable {F : FTy → Type} [FloatOps F]

/-- Clipping a small word to the whole range leaves it. -/
theorem clip_eq (N : BitVec 32) (hN : N = 0#32 ∨ N = 3601#32 ∨ N = 117#32) : IntOp.minsi 2147483647#32 (IntOp.maxsi 2147483648#32 N) = N := by
  rcases hN with rfl | rfl | rfl <;> decide

/-- The span of a draw from zero to below `N` is `N`. -/
theorem span_eq (N : BitVec 32) (hN : N = 3601#32 ∨ N = 117#32) :
    Scalar.select (IntOp.andi (IntOp.cmpi .sgt N (IntOp.minsi 2147483647#32 (IntOp.maxsi 2147483648#32 2147483647#32))) (IntOp.cmpi .sgt N 0#32))
      (IntOp.addi (Scalar.select (IntOp.cmpi .sle N 0#32) 1#32 (IntOp.subi N 0#32)) 1#32)
      (Scalar.select (IntOp.cmpi .sle N 0#32) 1#32 (IntOp.subi N 0#32)) = N := by
  rcases hN with rfl | rfl <;> decide

/-- A word drawn below 3601 or 117 is below it. -/
theorem randint_range (a0 a1 a2 φ) (W : Valuation τ sig (Elt F)) (h : ∀ op ∈ (K.randint a0 a1 a2 φ).1, Eqn W op) (N : BitVec 32)
    (hN : N = 3601#32 ∨ N = 117#32) (h1 : rd W a1 = constantI S_ 32 0#32) (h2 : rd W a2 = constantI S_ 32 N) (i : S64.Idx) :
    (rd W φ.v65 i : BitVec 32).toNat < N.toNat := by
  unfold K.randint at h
  simp only [List.forall_mem_append, List.forall_mem_cons] at h
  obtain ⟨⟨ec, ec0, ec1, k0, e1, ec2, ec3, k1, e3, ec4, ec5, k2, e5, e6, e7, _, _, _, _, _, _, _, _, _, _, _, _, _, _, _, _, _, _, _, _, _, _, _, _, _, _, _, _, _, _, _, _, _, _, _, e39, e40, e41, ec10, e42, e43, e44, e45, e46, ec11, _⟩,
    e47, e48, e49, _, _, _, _, _, _, _, _, _, _, _, _, e61, e62, e63, e64, e65, _⟩ := h
  unfold K.clip at k0
  unfold K.clip0 at k1 k2
  simp only [List.forall_mem_cons] at k0 k1 k2
  obtain ⟨k00, k01, _⟩ := k0
  obtain ⟨k10, k11, _⟩ := k1
  obtain ⟨k20, k21, _⟩ := k2
  have v6 : rd W φ.v6 = constantI S1 32 0#32 := by
    rw [eqn_unary _ _ _ e6, eqn_unary _ _ _ e3, eqn_binary _ _ _ _ k11, eqn_binary _ _ _ _ k10, eqn_nullary _ _ ec2, eqn_nullary _ _ ec3, h1]
    exact funext fun _ => clip_eq _ (.inl rfl)
  have v7 : rd W φ.v7 = constantI S1 32 N := by
    rw [eqn_unary _ _ _ e7, eqn_unary _ _ _ e5, eqn_binary _ _ _ _ k21, eqn_binary _ _ _ _ k20, eqn_nullary _ _ ec4, eqn_nullary _ _ ec5, h2]
    exact funext fun _ => clip_eq N (.inr hN)
  have v49 : rd W φ.v49 = constantI S1 32 N := by
    rw [eqn_ternary _ _ _ _ _ e49, eqn_ternary _ _ _ _ _ e43, eqn_binary _ _ _ _ e48, eqn_binary _ _ _ _ e46, eqn_binary _ _ _ _ e44, eqn_unary _ _ _ e45,
      eqn_binary _ _ _ _ e1, eqn_ternary _ _ _ _ _ e43, eqn_unary _ _ _ e47, eqn_unary _ _ _ e42, eqn_binary _ _ _ _ e41, eqn_unary _ _ _ e40, eqn_binary _ _ _ _ e39,
      eqn_nullary _ _ ec10, eqn_nullary _ _ ec11, v6, v7, h2, eqn_binary _ _ _ _ k01, eqn_binary _ _ _ _ k00, eqn_nullary _ _ ec, eqn_nullary _ _ ec0, eqn_nullary _ _ ec1]
    exact funext fun _ => span_eq N hN
  have e : rd W φ.v65 i = 0#32 + Host.remui (rd W φ.v60) (constantI S64 32 N) i := by
    rw [eqn_binary _ _ _ _ e65, eqn_unary _ _ _ e64, eqn_unary _ _ _ e63, eqn_binary _ _ _ _ e62, eqn_unary _ _ _ e61, v49, v6]
    rfl
  rw [e]
  have hz : N ≠ 0 := by rcases hN with rfl | rfl <;> decide
  show (0#32 + (if N = 0 then _ else _ % N)).toNat < N.toNat
  rw [if_neg hz, BitVec.zero_add, BitVec.toNat_umod]
  exact Nat.mod_lt _ (by rcases hN with rfl | rfl <;> decide)

end Cert.Proof.Mask
end
-- ==== Proof.KVals.lean ====
/-
  What the kernel's host operations hand the kernel: the words, in range and equal across the lanes, and the array reshaped.
-/
module

public import proofs.«01_k».proof.Proof.PairA
public import proofs.«01_k».proof.Proof.PairB
public import proofs.«01_k».proof.Proof.Eqns
public import proofs.«01_k».proof.Proof.Tile

@[expose] public section

noncomputable section

namespace Cert.Proof.Mask

open Idealize.ShloMosaic Idealize.ShloMosaic.StableHlo Idealize.SL.Sem
open Cert.KernelIdeal Cert.KernelIdeal.Gen
variable {F : FTy → Type} [FloatOps F]

/-- The drawn first columns, and first rows. -/
def cols (W : Valuation τ sig (Elt F)) : S64.Idx → BitVec 32 := rd W (.of main_v8 : TRef sig ⟨S64, .i32⟩)
/-- The first masked row of each batch. -/
def rows (W : Valuation τ sig (Elt F)) : S64.Idx → BitVec 32 := rd W (.of main_v17 : TRef sig ⟨S64, .i32⟩)
/-- The words, and the array, as the kernel reads them. -/
def wordsOf (W : Valuation τ sig (Elt F)) : S64x2x16.Idx → BitVec 32 := rd W (.of main_v22 : TRef sig ⟨S64x2x16, .i32⟩)
/-- The array the kernel reads. -/
def arrayOf (W : Valuation τ sig (Elt F)) : S64x128x4000.Idx → Elt F .f32 := rd W (.of main_v23 : TRef sig ⟨S64x128x4000, .f32⟩)

/-- The drawn numbers are in range: a first column is below 3601, a first row below 117. -/
theorem ranges (W : Valuation τ sig (Elt F)) (h : ∀ op ∈ K.pre, Eqn W op) :
    (∀ i, (cols W i).toNat < 3601) ∧ (∀ i, (rows W i).toNat < 117) := by
  unfold K.pre K.segA K.segB at h
  simp only [List.forall_mem_append, List.forall_mem_cons] at h
  obtain ⟨⟨_, _, _, _, _, _, _, _, _, _, _, _, e3, e4, hA, _⟩, ⟨_, _, _, _, _, _, _, _, _, _, _, _, e9, e10, hB, _⟩, _⟩ := h
  exact ⟨fun i => randint_range _ _ _ _ W hA 3601#32 (.inl rfl) (raw_nullary W (main_c_3) e3) (raw_nullary W (main_c_4) e4) i,
    fun i => randint_range _ _ _ _ W hB 117#32 (.inr rfl) (raw_nullary W (main_c_9) e9) (raw_nullary W (main_c_10) e10) i⟩

/-- The index of a batch. -/
def ix (b : Fin 64) : S64.Idx := fun | 0 => b

/-- The words hold, in all sixteen lanes, a batch's first column and then its first row. -/
theorem words_eq (W : Valuation τ sig (Elt F)) (h : ∀ op ∈ K.pre, Eqn W op) (j : S64x2x16.Idx) :
    wordsOf W j = if (j 1).val = 0 then cols W (ix (j 0)) else rows W (ix (j 0)) := by
  unfold K.pre K.segC at h
  simp only [List.forall_mem_append, List.forall_mem_cons] at h
  obtain ⟨_, _, e18, e19, e20, e21, e22, _⟩ := h
  have e : wordsOf W = broadcastInDim S64x2x16 ![0, 1, 2] bcast_S64x2x1_S64x2x16_0_1_2 (broadcastInDim S64x2x1 ![0, 1] bcast_S64x2_S64x2x1_0_1
      (concatenate S64x2 1 [⟨S64x1, broadcastInDim S64x1 ![0] bcast_S64_S64x1_0 (cols W)⟩, ⟨S64x1, broadcastInDim S64x1 ![0] bcast_S64_S64x1_0 (rows W)⟩]
        concatenates_S64x1_S64x1_S64x2_d1)) := by
    refine (raw_unary W main_v21 main_v22 e22).trans (congrArg _ ?_)
    refine (raw_unary W main_v20 main_v21 e21).trans (congrArg _ ?_)
    refine (raw_binary W main_v18 main_v19 main_v20 e20).trans ?_
    rw [raw_unary W main_v8 main_v18 e18, raw_unary W main_v17 main_v19 e19]
    rfl
  rw [e]
  refine (broadcastInDim_apply _ _ _ j (fun | 0 => j 0 | 1 => j 1 | 2 => (0 : Fin 1) : S64x2x1.Idx) (by intro a; fin_cases a <;> rfl)).trans ?_
  refine (broadcastInDim_apply _ _ _ _ (fun | 0 => j 0 | 1 => j 1 : S64x2.Idx) (by intro a; fin_cases a <;> rfl)).trans ?_
  split <;> rename_i h0
  · refine (concatenate_pair_apply_left (t := S64x2) (s₁ := S64x1) (s₂ := S64x1) 1 (broadcastInDim S64x1 ![0] bcast_S64_S64x1_0 (cols W)) (broadcastInDim S64x1 ![0] bcast_S64_S64x1_0 (rows W)) _
      (fun | 0 => j 0 | 1 => j 1 : S64x2.Idx) rfl (fun | 0 => j 0 | 1 => (0 : Fin 1) : S64x1.Idx) (by intro a; fin_cases a; exacts [rfl, h0.symm])).trans ?_
    exact broadcastInDim_apply _ _ _ _ (ix (j 0)) (by intro a; fin_cases a; rfl)
  · have h1 : (j 1).val = 1 := by have : (j 1).val < 2 := (j 1).isLt; omega
    refine (concatenate_pair_apply_right (t := S64x2) (s₁ := S64x1) (s₂ := S64x1) 1 (broadcastInDim S64x1 ![0] bcast_S64_S64x1_0 (cols W)) (broadcastInDim S64x1 ![0] bcast_S64_S64x1_0 (rows W)) _
      (fun | 0 => j 0 | 1 => j 1 : S64x2.Idx) rfl rfl (fun | 0 => j 0 | 1 => (0 : Fin 1) : S64x1.Idx) (by intro a ha; fin_cases a; exacts [rfl, absurd rfl ha]) h1.symm).trans ?_
    exact broadcastInDim_apply _ _ _ _ (ix (j 0)) (by intro a; fin_cases a; rfl)

/-- The words are as the kernel needs them: equal lanes, and in range. -/
theorem words_ok (W : Valuation τ sig (Elt F)) (h : ∀ op ∈ K.pre, Eqn W op) :
    WordsOk (wordsOf W) ∧ (∀ b, word (wordsOf W) b 0 = cols W (ix b)) ∧ ∀ b, word (wordsOf W) b 1 = rows W (ix b) := by
  have e0 : ∀ b, word (wordsOf W) b 0 = cols W (ix b) := fun b => (words_eq W h _).trans (if_pos rfl)
  have e1 : ∀ b, word (wordsOf W) b 1 = rows W (ix b) := fun b => (words_eq W h _).trans (if_neg (show ¬((1 : Fin 2).val = 0) by decide))
  obtain ⟨hc, hr⟩ := ranges W h
  refine ⟨⟨fun j => (words_eq W h j).trans (words_eq W h (fun | 0 => j 0 | 1 => j 1 | 2 => (0 : Fin 16))).symm, fun b => ?_, fun b => ?_⟩, e0, e1⟩
  · rw [e0]; have := hc (ix b); omega
  · rw [e1]; have := hr (ix b); omega

/-- The array the kernel reads is the argument, reshaped. -/
theorem array_eq (W : Valuation τ sig (Elt F)) (h : ∀ op ∈ K.pre, Eqn W op) :
    arrayOf W = shapeCast S64x128x4000 (rd W (.of main_arg0 : TRef sig ⟨S64x1x128x4000, .f32⟩)) shapeCasts_S64x1x128x4000_S64x128x4000 := by
  unfold K.pre K.segC at h
  simp only [List.forall_mem_append, List.forall_mem_cons] at h
  obtain ⟨_, _, _, _, _, _, _, e23, _⟩ := h
  exact (e23 _ (Finset.mem_singleton_self _)).trans (reshape_result _ _ _ _ _ _ _)

end Cert.Proof.Mask
end
-- ==== Proof.KHost.lean ====
/-
  The kernel's host operations before the launch, as one line: each writes the next buffer, so every operation's equation
  holds of what the line leaves.
-/
module

public import proofs.«01_k».proof.Proof.KVals

@[expose] public section

set_option maxRecDepth 10000

noncomputable section

namespace Cert.Proof.Mask

open Idealize.ShloMosaic Idealize.ShloMosaic.StableHlo Idealize.SL.Sem
open Cert.KernelIdeal Cert.KernelIdeal.Gen
variable {F : FTy → Type} [FloatOps F]

/-- The six operations that lay out the words and the array write the six buffers before the kernel's result. -/
theorem soloC : Solo (Val := Elt F) 2024 2030 K.segC.1.1 := by
  unfold K.segC
  refine Solo.cons (Step.unary _ _ _ _ _ (by decide) (by decide)) (by decide) ?_
  refine Solo.cons (Step.unary _ _ _ _ _ (by decide) (by decide)) (by decide) ?_
  refine Solo.cons (Step.binary _ _ _ _ _ _ _ (by decide) (by decide) (by decide) (by decide)) (by decide) ?_
  refine Solo.cons (Step.unary _ _ _ _ _ (by decide) (by decide)) (by decide) ?_
  refine Solo.cons (Step.unary _ _ _ _ _ (by decide) (by decide)) (by decide) ?_
  refine Solo.cons (Step.reshape _ _ _ _ _ _ (by decide) (by decide)) (by decide) ?_
  exact Solo.nil _

/-- The whole line before the launch. -/
theorem soloPre : Solo (Val := Elt F) 2 2030 K.pre := pairA.fst.append (pairB.fst.append soloC)

/-- Its equations, of what it leaves. -/
theorem pre_eqns (V : Valuation τ sig (Elt F)) : ∀ op ∈ K.pre, Eqn (after K.pre V) op := soloPre.sound V _ fun _ _ _ => rfl

/-- The argument is as it was. -/
theorem pre_arg (V : Valuation τ sig (Elt F)) : after K.pre V (Proc.devRef .tc main_arg0) = V (Proc.devRef .tc main_arg0) :=
  soloPre.keep V main_arg0 (.inl (by decide))

/-- No buffer of the TensorCore's is scoped. -/
theorem unscoped (r : Ref sig .tc) : r.isScoped = false := by
  obtain ⟨sp, i, h⟩ := r
  cases sp <;> first | rfl | exact absurd h Bool.false_ne_true

end Cert.Proof.Mask
end
-- ==== Proof.Main.lean ====
/-
  The TensorCore's program: the host operations, the launch, and the reshape of the result, with what its buffers hold at the end.
-/
module

public import proofs.«01_k».proof.Proof.Launch
public import proofs.«01_k».proof.Proof.KHost

@[expose] public section

noncomputable section

namespace Cert.Proof.Mask

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (TRef)

variable {F : FTy → Type} [FloatOps F]

local notation "𝕄" => MT nD τ sig (HIx 1) (Elt F) ℕ UU ℕ

attribute [local irreducible] Pipeline.ucRefs

variable (m : (ℓ : Loc nD τ sig) → Buf (Elt F) ℓ) (ρ : Dev nD → PrngReg)

/-! ## What the kernel is given and what it leaves -/

/-- What device `d`'s buffers hold when the kernel is launched. -/
def atLaunch (d : Dev nD) : Valuation τ sig (Elt F) := StableHlo.after K.pre (StableHlo.launchContents m d)
/-- The array, the words and the result's buffer there. -/
def arr (d : Dev nD) : S64x128x4000.Idx → Elt F .f32 := arrayOf (atLaunch m d)
/-- The words at the launch. -/
def wrd (d : Dev nD) : S64x2x16.Idx → BitVec 32 := wordsOf (atLaunch m d)
/-- What the output's buffer holds at the launch. -/
def ini (d : Dev nD) : S64x128x4000.Idx → Elt F .f32 := atLaunch m d (Proc.devRef .tc main_v24)
/-- The array masked, with the result's unit axis put back. -/
def out (d : Dev nD) : S64x1x128x4000.Idx → Elt F .f32 :=
  shapeCast S64x1x128x4000 (target (arr m d) (wrd m d)) shapeCasts_S64x128x4000_S64x1x128x4000

/-- Where the argument lies. -/
abbrev aLoc (d : Dev nD) : Loc nD τ sig := (SparseCore.T d).loc main_arg0
/-- Where the result lies. -/
abbrev rLoc (d : Dev nD) : Loc nD τ sig := (SparseCore.T d).loc main_v25

/-- The words the launch hands the tiles are in range. -/
theorem wrd_ok (d : Dev nD) : WordsOk (wrd m d) := (words_ok (atLaunch m d) (pre_eqns _)).1

/-- The words are what their buffer holds. -/
theorem wordsOf_eq (W : Valuation τ sig (Elt F)) : wordsOf W = W (Proc.devRef .tc main_v22) := by unfold wordsOf rd; rfl
/-- The array is what its buffer holds. -/
theorem arrayOf_eq (W : Valuation τ sig (Elt F)) : arrayOf W = W (Proc.devRef .tc main_v23) := by unfold arrayOf rd; rfl
/-- The words at the launch are what their buffer holds then. -/
theorem wrd_eq (d : Dev nD) : wrd m d = atLaunch m d (Proc.devRef .tc main_v22) := wordsOf_eq _
/-- The array at the launch is what its buffer holds then. -/
theorem arr_eq (d : Dev nD) : arr m d = atLaunch m d (Proc.devRef .tc main_v23) := arrayOf_eq _
/-- The output at the launch is what its buffer holds then. -/
theorem ini_eq (d : Dev nD) : ini m d = atLaunch m d (Proc.devRef .tc main_v24) := by unfold ini; rfl
/-- The argument is unchanged at the launch. -/
theorem atLaunch_arg (d : Dev nD) : atLaunch m d (Proc.devRef .tc main_arg0) = m (aLoc d) := pre_arg _
/-- The contents at the launch are those after the host operations. -/
theorem atLaunch_eq (d : Dev nD) : StableHlo.after K.pre (StableHlo.launchContents m d) = atLaunch m d := by unfold atLaunch; rfl

/-- The result, of the contents the host operations leave. -/
theorem out_eq (d : Dev nD) : out m d = shapeCast S64x1x128x4000 (target (arrayOf (StableHlo.after K.pre (StableHlo.launchContents m d)))
    (wordsOf (StableHlo.after K.pre (StableHlo.launchContents m d)))) shapeCasts_S64x128x4000_S64x1x128x4000 := by
  unfold out arr wrd
  rw [atLaunch_eq]

attribute [irreducible] atLaunch arr wrd ini out

/-! ## The TensorCore's program -/

/-- A buffer of the TensorCore's, as the device names it. -/
abbrev tcb (r : Ref sig .tc) : DevRef τ sig := Proc.devRef .tc r

/-- Different buffers stay different on the device. -/
theorem tcb_ne {r s : Ref sig .tc} (h : r ≠ s) : tcb r ≠ tcb s := fun e => h (Proc.devRef_injective _ e)

/-- Every host buffer is unscoped. -/
theorem mem_uc (r : Ref sig .tc) : tcb r ∈ Pipeline.ucRefs τ sig := by
  rw [Pipeline.ucRefs, Finset.mem_filter]
  exact ⟨StableHlo.devRef_mem_tcRefs r, by rw [show (tcb r).isScoped = r.isScoped from rfl, unscoped]; decide⟩

/-- The host operations touch unscoped buffers only. -/
theorem sub_uc : ∀ op ∈ K.pre (F := F), op.bufs ⊆ Pipeline.ucRefs τ sig := fun op ho b hb => by
  obtain ⟨r, -, rfl⟩ := Finset.mem_map.mp (soloPre.sub op ho hb)
  exact mem_uc r

/-- Two whole buffers, held. -/
theorem held_two (d : Dev nD) {a b : Ref sig .tc} (h : a ≠ b) (V : Valuation τ sig (Elt F)) :
    (StableHlo.held (SparseCore.T d) {tcb a, tcb b} V : sProp 𝕄)
      = iprop(((SparseCore.T d).loc a ↦{fullShare} V (tcb a)) ∗ (SparseCore.T d).loc b ↦{fullShare} V (tcb b)) := by
  unfold StableHlo.held
  rw [SparseCore.bigSep_insert' (by rw [Finset.mem_singleton]; exact tcb_ne h), bigSep_singleton]

/-- The five buffers the rest of the program concerns, out of all. -/
theorem held_five (d : Dev nD) (V : Valuation τ sig (Elt F)) :
    (StableHlo.held (SparseCore.T d) (Pipeline.ucRefs τ sig) V : sProp 𝕄)
      ⊢ iprop((tLoc d ↦{fullShare} V (tcb main_v22)) ∗ (xLoc d ↦{fullShare} V (tcb main_v23)) ∗ (oLoc d ↦{fullShare} V (tcb main_v24))
          ∗ (rLoc d ↦{fullShare} V (tcb main_v25)) ∗ aLoc d ↦{fullShare} V (tcb main_arg0)) := by
  have hsub : ({tcb main_v22, tcb main_v23, tcb main_v24, tcb main_v25, tcb main_arg0} : Finset (DevRef τ sig)) ⊆ Pipeline.ucRefs τ sig := by
    intro b hb
    simp only [Finset.mem_insert, Finset.mem_singleton] at hb
    rcases hb with rfl | rfl | rfl | rfl | rfl <;> exact mem_uc _
  rw [StableHlo.held_sub_split _ hsub]
  refine sep_elim_left.trans (Entails.of_eq ?_)
  unfold StableHlo.held
  rw [SparseCore.bigSep_insert', SparseCore.bigSep_insert', SparseCore.bigSep_insert', SparseCore.bigSep_insert', bigSep_singleton] <;>
    simp only [Finset.mem_insert, Finset.mem_singleton, not_or] <;>
    repeat' (first | exact tcb_ne (by decide) | apply And.intro)

/-- The contents the last operation reads: the result's buffer as the kernel leaves it. -/
def atEnd (d : Dev nD) : Valuation τ sig (Elt F) :=
  Function.update (atLaunch m d) (tcb main_v24) (target (arr m d) (wrd m d) : S64x128x4000.Idx → Elt F .f32)

/-- After the launch the output holds the target. -/
theorem atEnd_v24 (d : Dev nD) : atEnd m d (tcb main_v24) = target (arr m d) (wrd m d) := Function.update_self ..
/-- After the launch the result's buffer is as it was. -/
theorem atEnd_v25 (d : Dev nD) : atEnd m d (tcb main_v25) = atLaunch m d (tcb main_v25) :=
  Function.update_of_ne (tcb_ne (by decide)) _ _

/-- The last operation. -/
abbrev lastOp : HloOp τ sig (Elt F) :=
  StableHlo.reshape main_v24 main_v25 (rfl : (.f32 : EltTy) = .f32) shapeCasts_S64x128x4000_S64x1x128x4000

/-- The last reshape leaves the result. -/
theorem lastOp_result (d : Dev nD) : (lastOp (F := F)).result (atEnd m d) (tcb main_v25) = out m d := by
  refine (StableHlo.reshape_result _ _ _ _ _ _ _).trans ?_
  unfold out
  rw [← atEnd_v24]
  rfl

/-- What the host holds at the end: the argument as it was and the result. -/
abbrev FIN (d : Dev nD) : sProp 𝕄 := iprop((aLoc d ↦{fullShare} m (aLoc d)) ∗ rLoc d ↦{fullShare} out m d)

/-- The buffers the rest of the program needs, taken out of all the unscoped ones. -/
theorem five_at (d : Dev nD) :
    (StableHlo.held (SparseCore.T d) (Pipeline.ucRefs τ sig) (StableHlo.after K.pre (StableHlo.launchContents m d)) : sProp 𝕄)
      ⊢ iprop(((tLoc d ↦{fullShare} wrd m d) ∗ (xLoc d ↦{fullShare} arr m d) ∗ oLoc d ↦{fullShare} ini m d)
          ∗ (rLoc d ↦{fullShare} atLaunch m d (tcb main_v25)) ∗ aLoc d ↦{fullShare} m (aLoc d)) := by
  rw [atLaunch_eq, wrd_eq, arr_eq, ini_eq, ← atLaunch_arg m d]
  refine (held_five d _).trans ?_
  iintro ⟨Ht, Hx, Ho, Hr, Ha⟩
  isplitl [Ht Hx Ho]
  · isplitl [Ht]; · iexact Ht
    isplitl [Hx]; · iexact Hx
    iexact Ho
  isplitl [Hr]; · iexact Hr
  iexact Ha

/-- What the launch carries in this program. -/
abbrev PM : (K (F := F)).Pay (nD := nD) (Val := Elt F) (Name := ℕ) (U := UU) := P (arr m) (ini m) (wrd m)

/-- @main: the host operations, the kernel, and the reshape of its result. -/
theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [K.main_eq, show (unscopedBufs d (fun b => m ((SparseCore.T d).loc b)) : sProp 𝕄)
      = StableHlo.held (SparseCore.T d) (Pipeline.ucRefs τ sig) (StableHlo.launchContents m d) from
    Pipeline.unscopedBufs_held d (StableHlo.launchContents m d)]
  iintro ⟨#Hctx, Hst, ⟨Hb, Hh, Hts, -⟩, -⟩
  iapply (StableHlo.wp_seq 𝒱 none Set.univ d (Pipeline.ucRefs τ sig) _ K.pre sub_uc soloPre.fresh (StableHlo.launchContents m d)) $$ [Hb Hh]
  · isplitl [Hb] <;> iassumption
  iintro ⟨Hb, Hh⟩
  ihave Hh := (five_at m d) $$ Hh
  icases Hh with ⟨Harr, Hr, Ha⟩
  rw [K.segC_rest]
  simp only [wp_bind, wp_pure]
  iapply ((K (F := F)).wp_run (D (F := F)) 𝒱 (EH := EH) (P := PM m) κ d 0)
  isplitr; · iexact Hctx
  isplitl [Hst]; · iexact Hst
  isplitl [Harr]; · iapply (Entails.of_eq (st0_eq (arr m) (ini m) (wrd m) d).symm); iexact Harr
  iintro ⟨Hst, Hdn⟩
  ihave Hdn := (Entails.of_eq (dn0_eq (arr m) (ini m) (wrd m) d)) $$ Hdn
  icases Hdn with ⟨-, -, Ho⟩
  iapply (StableHlo.wp_hlo_within 𝒱 (SparseCore.T d) none Set.univ (op := lastOp) (S := {tcb main_v24, tcb main_v25})
    (Finset.Subset.refl _) (V := atEnd m d)) $$ [Hb Ho Hr]
  · isplitl [Hb]; · iexact Hb
    iapply (Entails.of_eq (held_two d (show main_v24 ≠ main_v25 by decide) (atEnd m d)).symm)
    rw [atEnd_v24, atEnd_v25]
    isplitl [Ho] <;> iassumption
  iintro ⟨Hb, Hh⟩
  ihave Hh := (Entails.of_eq (held_two d (show main_v24 ≠ main_v25 by decide) _)) $$ Hh
  icases Hh with ⟨-, Hr⟩
  rw [lastOp_result]
  simp only [wp_ret]
  imodintro
  imodintro
  isplitl [Hst]; · iexact Hst
  isplitl [Ha Hr]
  · isplitl [Ha]; · iexact Ha
    iexact Hr
  isplitl [Hb] <;> iassumption

end Cert.Proof.Mask
end
-- ==== Proof.Run.lean ====
/-
  The run of the whole program: it terminates with the argument as it was, the result masked and every semaphore at zero.
-/
module

public import proofs.«01_k».proof.Proof.Main

@[expose] public section

noncomputable section

namespace Cert.Proof.Mask

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The run of the whole program -/

/-- What a final memory holds on device `d`: the argument as it was, the result masked. -/
def fq (d : Dev nD) (s' : Phys nD τ sig (Elt F)) : Prop := s'.mem.mem (aLoc d) = m (aLoc d) ∧ s'.mem.mem (rLoc d) = out m d

set_option maxRecDepth 16384 in
/-- What the host holds at the end says what the final memory holds. -/
theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := out m d)) $$ [HSI Hr]
  · isplitl [HSI] <;> iassumption
  icases H with %h2
  ipureintro; exact ⟨funext fun i => h1 i (Finset.mem_univ i), funext fun i => h2 i (Finset.mem_univ i)⟩

/-- Every final memory: on each device the argument as it was and the result masked, and every semaphore at zero. -/
def QC : PUnit × MemSt nD τ sig (Elt F) → Prop := fun r =>
  (∀ c : Dev nD, r.2.mem (aLoc c) = m (aLoc c) ∧ r.2.mem (rLoc c) = out m c) ∧ r.2.sem = fun _ => 0

/-- The kernel runs from every start, at any floats: the argument is unchanged, the result is the masked array, and every semaphore is at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl _ _ _ facts (wrd_ok m))
    (fun q _ => match q with | 0 => SparseCore.Cfg.VecSplit.of_plain (vecSplit _ _ _))
    m ρ main (fun _ => iprop(emp)) (FIN m) (u₀ (F := F)) (sep_elim_left.trans (hu₀ _ _ _)) (hmain m ρ) (fq m) (hfin m) (QC m) (fun _ h hz => ⟨h, hz⟩)

end Cert.Proof.Mask
end
-- ==== Proof.Same.lean ====
/-
  The kernel's program at the machine's floats and its idealization have one text (no operation of it is rewritten), printed twice under two
  names.  Here that is shown: function by function, the buffers of the one read as buffers of the other, and then for the whole program.
-/
module

public import proofs.«01_k».proof.Proof.Gen.Kernel
public import proofs.«01_k».proof.Proof.Gen.KernelIdeal

@[expose] public section

set_option maxHeartbeats 8000000

noncomputable section

namespace Cert.Proof.Same

open Idealize.ShloMosaic Idealize.SL.Sem

variable {F : FTy → Type} [FloatOps F]

/-! ## A function's buffers, read as the idealized program's -/

/-- The buffers of the first printed copy of the mixing rounds, matched. -/
def rounds (φ : Kernel.fn_threefry2x32.Bufs) : KernelIdeal.fn_threefry2x32.Bufs :=
  @Kernel.fn_threefry2x32.Bufs.rec (fun _ => KernelIdeal.fn_threefry2x32.Bufs) (@KernelIdeal.fn_threefry2x32.Bufs.mk) φ

/-- The buffers of the second copy, matched. -/
def rounds1 (φ : Kernel.fn_threefry2x32_1.Bufs) : KernelIdeal.fn_threefry2x32_1.Bufs :=
  @Kernel.fn_threefry2x32_1.Bufs.rec (fun _ => KernelIdeal.fn_threefry2x32_1.Bufs) (@KernelIdeal.fn_threefry2x32_1.Bufs.mk) φ

/-- The buffers of the third copy, matched. -/
def rounds2 (φ : Kernel.fn_threefry2x32_2.Bufs) : KernelIdeal.fn_threefry2x32_2.Bufs :=
  @Kernel.fn_threefry2x32_2.Bufs.rec (fun _ => KernelIdeal.fn_threefry2x32_2.Bufs) (@KernelIdeal.fn_threefry2x32_2.Bufs.mk) φ

/-- The buffers of the first clip, matched. -/
def clip (φ : Kernel.fn_clip.Bufs) : KernelIdeal.fn_clip.Bufs := ⟨φ.v0, φ.v1⟩

/-- The buffers of the second clip, matched. -/
def clip0 (φ : Kernel.fn_clip_0.Bufs) : KernelIdeal.fn_clip_0.Bufs := ⟨φ.v0, φ.v1⟩

/-- The buffers of the fold into a key, matched. -/
def foldIn (φ : Kernel.fn_threefry_fold_in.Bufs) : KernelIdeal.fn_threefry_fold_in.Bufs :=
  ⟨φ.c, φ.v0, φ.v1, φ.c_0, φ.v2, φ.v3, φ.v4, φ.v5, φ.v6, φ.v7, φ.v8, φ.v9, φ.v10, rounds φ.call0, φ.v12⟩

/-- The buffers of the split of a key, matched. -/
def split (φ : Kernel.fn_threefry_split.Bufs) : KernelIdeal.fn_threefry_split.Bufs :=
  ⟨φ.v0, φ.v1, φ.v2, φ.v3, φ.v4, φ.c, φ.v5, φ.v6, φ.c_0, φ.v7, φ.v8, φ.v9, φ.v10, rounds1 φ.call0, φ.v12, φ.v13, φ.v14⟩

/-- The buffers of the draw, matched. -/
def randint (φ : Kernel.fn_randint.Bufs) : KernelIdeal.fn_randint.Bufs :=
  ⟨φ.c, φ.c_0, φ.c_1, clip φ.call0, φ.v1, φ.c_2, φ.c_3, clip0 φ.call1, φ.v3, φ.c_4, φ.c_5, clip0 φ.call2, φ.v5, φ.v6, φ.v7, split φ.call3,
    φ.v9, φ.v10, φ.v11, φ.v12, φ.v13, φ.v14, φ.v15, φ.v16, φ.v17, φ.c_6, φ.v18, φ.v19, φ.c_7, φ.v20, φ.v21, φ.v22, φ.v23, rounds2 φ.call4,
    φ.v25, φ.v26, φ.v27, φ.v28, φ.v29, φ.v30, φ.c_8, φ.v31, φ.v32, φ.c_9, φ.v33, φ.v34, φ.v35, φ.v36, rounds2 φ.call5, φ.v38, φ.v39, φ.v40,
    φ.v41, φ.c_10, φ.v42, φ.v43, φ.v44, φ.v45, φ.v46, φ.c_11, φ.v47, φ.v48, φ.v49, φ.c_12, φ.v50, φ.v51, φ.v52, φ.v53, φ.v54, φ.v55, φ.v56,
    φ.v57, φ.v58, φ.v59, φ.v60, φ.v61, φ.v62, φ.v63, φ.v64, φ.v65⟩

/-! ## The functions -/

/-- The two programs' first clip is one program. -/
theorem clip_same (a b c) (φ) : Kernel.fn_clip.body (F := F) a b c φ = KernelIdeal.fn_clip.body (F := F) a b c (clip φ) := rfl

/-- So is their second clip. -/
theorem clip0_same (a b c) (φ) : Kernel.fn_clip_0.body (F := F) a b c φ = KernelIdeal.fn_clip_0.body (F := F) a b c (clip0 φ) := rfl

/-- The first copy of the mixing rounds is one program in both. -/
theorem rounds_same (a b c d) (φ) : Kernel.fn_threefry2x32.body (F := F) a b c d φ = KernelIdeal.fn_threefry2x32.body (F := F) a b c d (rounds φ) := by
  have h0 : Kernel.fn_threefry2x32.body_part0 (F := F) a b c d φ = KernelIdeal.fn_threefry2x32.body_part0 (F := F) a b c d (rounds φ) := by
    cases φ; rfl
  have h1 : Kernel.fn_threefry2x32.body_part1 (F := F) a b c d φ = KernelIdeal.fn_threefry2x32.body_part1 (F := F) a b c d (rounds φ) := by
    cases φ; rfl
  have h2 : Kernel.fn_threefry2x32.body_part2 (F := F) a b c d φ = KernelIdeal.fn_threefry2x32.body_part2 (F := F) a b c d (rounds φ) := by
    cases φ; rfl
  have h3 : Kernel.fn_threefry2x32.body_part3 (F := F) a b c d φ = KernelIdeal.fn_threefry2x32.body_part3 (F := F) a b c d (rounds φ) := by
    cases φ; rfl
  unfold Kernel.fn_threefry2x32.body KernelIdeal.fn_threefry2x32.body
  rw [h0, h1, h2, h3]

/-- So is the second copy. -/
theorem rounds1_same (a b c d) (φ) : Kernel.fn_threefry2x32_1.body (F := F) a b c d φ = KernelIdeal.fn_threefry2x32_1.body (F := F) a b c d (rounds1 φ) := by
  have h0 : Kernel.fn_threefry2x32_1.body_part0 (F := F) a b c d φ = KernelIdeal.fn_threefry2x32_1.body_part0 (F := F) a b c d (rounds1 φ) := by
    cases φ; rfl
  have h1 : Kernel.fn_threefry2x32_1.body_part1 (F := F) a b c d φ = KernelIdeal.fn_threefry2x32_1.body_part1 (F := F) a b c d (rounds1 φ) := by
    cases φ; rfl
  have h2 : Kernel.fn_threefry2x32_1.body_part2 (F := F) a b c d φ = KernelIdeal.fn_threefry2x32_1.body_part2 (F := F) a b c d (rounds1 φ) := by
    cases φ; rfl
  have h3 : Kernel.fn_threefry2x32_1.body_part3 (F := F) a b c d φ = KernelIdeal.fn_threefry2x32_1.body_part3 (F := F) a b c d (rounds1 φ) := by
    cases φ; rfl
  unfold Kernel.fn_threefry2x32_1.body KernelIdeal.fn_threefry2x32_1.body
  rw [h0, h1, h2, h3]

/-- So is the third. -/
theorem rounds2_same (a b c d) (φ) : Kernel.fn_threefry2x32_2.body (F := F) a b c d φ = KernelIdeal.fn_threefry2x32_2.body (F := F) a b c d (rounds2 φ) := by
  have h0 : Kernel.fn_threefry2x32_2.body_part0 (F := F) a b c d φ = KernelIdeal.fn_threefry2x32_2.body_part0 (F := F) a b c d (rounds2 φ) := by
    cases φ; rfl
  have h1 : Kernel.fn_threefry2x32_2.body_part1 (F := F) a b c d φ = KernelIdeal.fn_threefry2x32_2.body_part1 (F := F) a b c d (rounds2 φ) := by
    cases φ; rfl
  have h2 : Kernel.fn_threefry2x32_2.body_part2 (F := F) a b c d φ = KernelIdeal.fn_threefry2x32_2.body_part2 (F := F) a b c d (rounds2 φ) := by
    cases φ; rfl
  have h3 : Kernel.fn_threefry2x32_2.body_part3 (F := F) a b c d φ = KernelIdeal.fn_threefry2x32_2.body_part3 (F := F) a b c d (rounds2 φ) := by
    cases φ; rfl
  unfold Kernel.fn_threefry2x32_2.body KernelIdeal.fn_threefry2x32_2.body
  rw [h0, h1, h2, h3]

end Cert.Proof.Same

end
-- ==== Proof.SameMain.lean ====
/-
  The two printings of the kernel's program agree: the calls' records, and the whole program.
-/
module

public import proofs.«01_k».proof.Proof.Same

@[expose] public section

set_option maxHeartbeats 8000000

noncomputable section

namespace Cert.Proof.Same

open Idealize.ShloMosaic Idealize.SL.Sem

variable {F : FTy → Type} [FloatOps F]

/-- The fold into a key is one program in both. -/
theorem foldIn_same (a b) (φ) : Kernel.fn_threefry_fold_in.body (F := F) a b φ = KernelIdeal.fn_threefry_fold_in.body (F := F) a b (foldIn φ) := by
  unfold Kernel.fn_threefry_fold_in.body KernelIdeal.fn_threefry_fold_in.body
  rw [rounds_same]
  rfl

/-- So is the split of a key. -/
theorem split_same (a) (φ) : Kernel.fn_threefry_split.body (F := F) a φ = KernelIdeal.fn_threefry_split.body (F := F) a (split φ) := by
  unfold Kernel.fn_threefry_split.body KernelIdeal.fn_threefry_split.body
  rw [rounds1_same]
  rfl

/-- So is the draw. -/
theorem randint_same (a b c) (φ) : Kernel.fn_randint.body (F := F) a b c φ = KernelIdeal.fn_randint.body (F := F) a b c (randint φ) := by
  have h0 : Kernel.fn_randint.body_part0 (F := F) a b c φ = KernelIdeal.fn_randint.body_part0 (F := F) a b c (randint φ) := by
    unfold Kernel.fn_randint.body_part0 KernelIdeal.fn_randint.body_part0
    rw [clip_same, clip0_same, clip0_same, split_same, rounds2_same, rounds2_same]
    rfl
  have h1 : Kernel.fn_randint.body_part1 (F := F) a b c φ = KernelIdeal.fn_randint.body_part1 (F := F) a b c (randint φ) := rfl
  unfold Kernel.fn_randint.body KernelIdeal.fn_randint.body
  rw [h0, h1]

/-- The first call's buffers match. -/
theorem call0_same : foldIn Kernel.main_call0 = KernelIdeal.main_call0 := rfl

/-- The second call's buffers match. -/
theorem call1_same : randint Kernel.main_call1 = KernelIdeal.main_call1 := rfl

/-- The fourth call's buffers match. -/
theorem call3_same : randint Kernel.main_call3 = KernelIdeal.main_call3 := rfl

/-- The third call's buffers match. -/
theorem call2_same : foldIn Kernel.main_call2 = KernelIdeal.main_call2 := rfl

attribute [local irreducible] KernelIdeal.fn_threefry_fold_in.body KernelIdeal.fn_randint.body

/-- The two host programs are one. -/
theorem main_same : Kernel.main (F := F) = KernelIdeal.main (F := F) := by
  funext d
  unfold Kernel.main KernelIdeal.main
  rw [foldIn_same, randint_same, foldIn_same, randint_same, call0_same, call1_same, call2_same, call3_same]
  rfl

/-- The two programs' definitions are one. -/
theorem defs_same : Kernel.defs (F := F) = KernelIdeal.defs (F := F) := rfl

/-- The two programs' threads are one. -/
theorem threads_same : Kernel.threads (F := F) = KernelIdeal.threads (F := F) := by
  unfold Kernel.threads KernelIdeal.threads
  rw [main_same]
  rfl

end Cert.Proof.Same

end
-- ==== Proof.RHost.lean ====
/-
  The reference's host operations as one line: each writes the next buffer, so every operation's equation holds of what the line leaves.
-/
module

public import proofs.«01_k».proof.Proof.PairA
public import proofs.«01_k».proof.Proof.PairB
public import proofs.«01_k».proof.Proof.Eqns

@[expose] public section

set_option maxRecDepth 10000

noncomputable section

namespace Cert.Proof.Mask.R

open Idealize.ShloMosaic Idealize.ShloMosaic.StableHlo Idealize.SL.Sem
open Cert.ReferenceIdeal Cert.ReferenceIdeal.Gen
variable {F : FTy → Type} [FloatOps F]

/-- The operations that mask the columns write the nineteen buffers after the first draw's. -/
theorem soloM : Solo (Val := Elt F) 1013 1032 segM.1.1 := by
  unfold segM where1
  refine Solo.cons (Step.nullary _ _ _ (by decide)) (by decide) ?_
  iterate 4 refine Solo.cons (Step.unary _ _ _ _ _ (by decide) (by decide)) (by decide) ?_
  refine Solo.cons (Step.binary _ _ _ _ _ _ _ (by decide) (by decide) (by decide) (by decide)) (by decide) ?_
  refine Solo.cons (Step.nullary _ _ _ (by decide)) (by decide) ?_
  refine Solo.cons (Step.unary _ _ _ _ _ (by decide) (by decide)) (by decide) ?_
  refine Solo.cons (Step.binary _ _ _ _ _ _ _ (by decide) (by decide) (by decide) (by decide)) (by decide) ?_
  iterate 3 refine Solo.cons (Step.unary _ _ _ _ _ (by decide) (by decide)) (by decide) ?_
  iterate 2 refine Solo.cons (Step.binary _ _ _ _ _ _ _ (by decide) (by decide) (by decide) (by decide)) (by decide) ?_
  refine Solo.cons (Step.unary _ _ _ _ _ (by decide) (by decide)) (by decide) ?_
  refine Solo.cons (Step.nullary _ _ _ (by decide)) (by decide) ?_
  refine Solo.append (mid := 1032) ?_ (Solo.nil _)
  iterate 2 refine Solo.cons (Step.unary _ _ _ _ _ (by decide) (by decide)) (by decide) ?_
  refine Solo.cons (Step.ternary _ _ _ _ _ _ _ _ _ (by decide) (by decide) (by decide) (by decide) (by decide) (by decide)) (by decide) ?_
  exact Solo.nil _

/-- The operations that mask the rows, in the program's first part. -/
theorem soloN : Solo (Val := Elt F) 2043 2056 segN.1 := by
  unfold segN
  refine Solo.cons (Step.nullary _ _ _ (by decide)) (by decide) ?_
  iterate 4 refine Solo.cons (Step.unary _ _ _ _ _ (by decide) (by decide)) (by decide) ?_
  refine Solo.cons (Step.binary _ _ _ _ _ _ _ (by decide) (by decide) (by decide) (by decide)) (by decide) ?_
  refine Solo.cons (Step.nullary _ _ _ (by decide)) (by decide) ?_
  refine Solo.cons (Step.unary _ _ _ _ _ (by decide) (by decide)) (by decide) ?_
  refine Solo.cons (Step.binary _ _ _ _ _ _ _ (by decide) (by decide) (by decide) (by decide)) (by decide) ?_
  iterate 3 refine Solo.cons (Step.unary _ _ _ _ _ (by decide) (by decide)) (by decide) ?_
  refine Solo.cons (Step.binary _ _ _ _ _ _ _ (by decide) (by decide) (by decide) (by decide)) (by decide) ?_
  exact Solo.nil _

/-- And in its second part, up to the result. -/
theorem soloO : Solo (Val := Elt F) 2056 2062 segO.1 := by
  unfold segO where3
  refine Solo.cons (Step.binary _ _ _ _ _ _ _ (by decide) (by decide) (by decide) (by decide)) (by decide) ?_
  refine Solo.cons (Step.unary _ _ _ _ _ (by decide) (by decide)) (by decide) ?_
  refine Solo.cons (Step.nullary _ _ _ (by decide)) (by decide) ?_
  refine Solo.append (mid := 2062) ?_ (Solo.nil _)
  iterate 2 refine Solo.cons (Step.unary _ _ _ _ _ (by decide) (by decide)) (by decide) ?_
  refine Solo.cons (Step.ternary _ _ _ _ _ _ _ _ _ (by decide) (by decide) (by decide) (by decide) (by decide) (by decide)) (by decide) ?_
  exact Solo.nil _

/-- The whole program. -/
theorem soloAll : Solo (Val := Elt F) 2 2062 all :=
  (pairA.snd.append (soloM.append (pairB.snd.append soloN))).append soloO

/-- Its equations, of what it leaves. -/
theorem all_eqns (V : Valuation τ sig (Elt F)) : ∀ op ∈ all, Eqn (after all V) op := soloAll.sound V _ fun _ _ _ => rfl

/-- The argument is as it was. -/
theorem all_arg (V : Valuation τ sig (Elt F)) : after all V (Proc.devRef .tc main_arg0) = V (Proc.devRef .tc main_arg0) :=
  soloAll.keep V main_arg0 (.inl (by decide))

end Cert.Proof.Mask.R
end
-- ==== Proof.RVals.lean ====
/-
  The reference's value: the argument with zero at the drawn columns and rows.
-/
module

public import proofs.«01_k».proof.Proof.RHost
public import proofs.«01_k».proof.Proof.Tile

@[expose] public section

set_option maxRecDepth 10000

noncomputable section

namespace Cert.Proof.Mask.R

open Idealize.ShloMosaic Idealize.ShloMosaic.StableHlo Idealize.SL.Sem
open Cert.ReferenceIdeal Cert.ReferenceIdeal.Gen
variable {F : FTy → Type} [FloatOps F]

/-- The two signed comparisons say that `p` is one of the `k` places from `w` on. -/
theorem band_word (p : ℕ) (w k : BitVec 32) (hp : p < 4096) (hw : w.toNat < 3601) (hk : k.toNat ≤ 400) :
    IntOp.andi (IntOp.cmpi .sge (BitVec.ofNat 32 p) w) (IntOp.cmpi .slt (BitVec.ofNat 32 p) (IntOp.addi w k)) = 1 ↔ w.toNat ≤ p ∧ p < w.toNat + k.toNat := by
  have e1 : (BitVec.ofNat 32 p).toInt = p := by
    rw [BitVec.toInt_eq_toNat_cond, BitVec.toNat_ofNat]; omega
  have e2 : w.toInt = w.toNat := by rw [BitVec.toInt_eq_toNat_cond]; omega
  have e3 : (w + k).toInt = (w.toNat + k.toNat : ℕ) := by rw [BitVec.toInt_eq_toNat_cond, BitVec.toNat_add]; omega
  have e : IntOp.andi (IntOp.cmpi .sge (BitVec.ofNat 32 p) w) (IntOp.cmpi .slt (BitVec.ofNat 32 p) (IntOp.addi w k))
      = BitVec.ofBool (w.sle (BitVec.ofNat 32 p)) &&& BitVec.ofBool ((BitVec.ofNat 32 p).slt (w + k)) := rfl
  rw [e, BitVec.sle_eq_decide, BitVec.slt_eq_decide, e1, e2, e3]
  by_cases h1 : (w.toNat : ℤ) ≤ p <;> by_cases h2 : (p : ℤ) < (w.toNat + k.toNat : ℕ) <;> simp only [h1, h2, decide_true, decide_false] <;>
    first
    | exact iff_of_true rfl (by omega)
    | exact iff_of_false (by decide) (by omega)

/-- The band of a batch, over the batches and `n` places. -/
theorem band_apply {n : ℕ} (hn : n ≤ 4000) (hn1 : n ≠ 1) (u : S64.Idx → BitVec 32) (k : BitVec 32) (hu : ∀ i, (u i).toNat < 3601) (hk : k.toNat ≤ 400)
    (h1 : S_.BroadcastsInDim S64 ![]) (h2 : (⟨1, ![n]⟩ : Shape).BroadcastsInDim ⟨2, ![1, n]⟩ ![1]) (h3 : (⟨2, ![1, n]⟩ : Shape).BroadcastsInDim ⟨2, ![64, n]⟩ ![0, 1])
    (h4 : S64.BroadcastsInDim S64x1 ![0]) (h5 : S64x1.BroadcastsInDim ⟨2, ![64, n]⟩ ![0, 1])
    (j : (⟨2, ![64, n]⟩ : Shape).Idx) (i : S64.Idx) (hi : (i 0).val = (j 0).val) :
    andi (cmpi .sge (broadcastInDim ⟨2, ![64, n]⟩ ![0, 1] h3 (broadcastInDim ⟨2, ![1, n]⟩ ![1] h2 (iotaInDim ⟨1, ![n]⟩ 32 0)))
        (broadcastInDim ⟨2, ![64, n]⟩ ![0, 1] h5 (broadcastInDim S64x1 ![0] h4 u)))
      (cmpi .slt (broadcastInDim ⟨2, ![64, n]⟩ ![0, 1] h3 (broadcastInDim ⟨2, ![1, n]⟩ ![1] h2 (iotaInDim ⟨1, ![n]⟩ 32 0)))
        (broadcastInDim ⟨2, ![64, n]⟩ ![0, 1] h5 (broadcastInDim S64x1 ![0] h4 (addi u (broadcastInDim S64 ![] h1 (constantI S_ 32 k)))))) j = 1
      ↔ (u i).toNat ≤ (j 1).val ∧ (j 1).val < (u i).toNat + k.toNat := by
  have hx : broadcastInDim ⟨2, ![64, n]⟩ ![0, 1] h3 (broadcastInDim ⟨2, ![1, n]⟩ ![1] h2 (iotaInDim ⟨1, ![n]⟩ 32 0)) j = BitVec.ofNat 32 (j 1).val := by
    refine (broadcastInDim_apply _ _ _ j (fun | 0 => (0 : Fin 1) | 1 => j 1 : (⟨2, ![1, n]⟩ : Shape).Idx) ?_).trans ?_
    · intro a; fin_cases a; exacts [rfl, (if_neg hn1).symm]
    · refine (broadcastInDim_apply _ _ _ _ (fun | 0 => j 1 : (⟨1, ![n]⟩ : Shape).Idx) ?_).trans rfl
      intro a; fin_cases a; exact (if_neg hn1).symm
  have hy (v : S64.Idx → BitVec 32) : broadcastInDim ⟨2, ![64, n]⟩ ![0, 1] h5 (broadcastInDim S64x1 ![0] h4 v) j = v i := by
    refine (broadcastInDim_apply _ _ _ j (fun | 0 => j 0 | 1 => (0 : Fin 1) : S64x1.Idx) ?_).trans ?_
    · intro a; fin_cases a <;> rfl
    · exact broadcastInDim_apply _ _ _ _ i (by intro a; fin_cases a; exact hi)
  show IntOp.andi (IntOp.cmpi .sge (broadcastInDim _ _ _ _ j) (broadcastInDim _ _ _ _ j)) (IntOp.cmpi .slt (broadcastInDim _ _ _ _ j) (broadcastInDim _ _ _ _ j)) = 1 ↔ _
  rw [hx, hy, hy]
  exact band_word _ _ _ (by have := (j 1).isLt; exact lt_of_lt_of_le this (by show n ≤ _; omega)) (hu i) hk

/-- The drawn first columns and first rows, and the argument, as the reference holds them. -/
def cols (W : Valuation τ sig (Elt F)) : S64.Idx → BitVec 32 := rd W (.of main_v8 : TRef sig ⟨S64, .i32⟩)
/-- The first masked row of each batch. -/
def rows (W : Valuation τ sig (Elt F)) : S64.Idx → BitVec 32 := rd W (.of main_v32 : TRef sig ⟨S64, .i32⟩)
/-- The reference's argument. -/
def arg (W : Valuation τ sig (Elt F)) : S64x1x128x4000.Idx → Elt F .f32 := rd W (.of main_arg0 : TRef sig ⟨S64x1x128x4000, .f32⟩)
/-- The argument with its columns masked. -/
def part (W : Valuation τ sig (Elt F)) : S64x1x128x4000.Idx → Elt F .f32 := rd W (.of main_v23 : TRef sig ⟨S64x1x128x4000, .f32⟩)
/-- The reference's result. -/
def res (W : Valuation τ sig (Elt F)) : S64x1x128x4000.Idx → Elt F .f32 := rd W (.of main_v47 : TRef sig ⟨S64x1x128x4000, .f32⟩)

/-- The index of a batch. -/
def ix (b : Fin 64) : S64.Idx := fun | 0 => b

/-- After the first masking: zero at the drawn columns. -/
theorem part_eq (W : Valuation τ sig (Elt F)) (h : ∀ op ∈ R.all, Eqn W op) (hu : ∀ i, (cols W i).toNat < 3601) (j : S64x1x128x4000.Idx) :
    part W j = if (cols W (ix (j 0))).toNat ≤ (j 3).val ∧ (j 3).val < (cols W (ix (j 0))).toNat + 400 then zero else arg W j := by
  unfold R.all R.segM R.where1 at h
  simp only [List.forall_mem_append, List.forall_mem_cons] at h
  obtain ⟨⟨_, ⟨e9, e10, e11, e12, e13, e14, ec5, e15, e16, e17, e18, e19, e20, e21, e22, ecst, ⟨ew0, ew1, ew2, _⟩, _⟩, _⟩, _⟩ := h
  have e : part W = select (broadcastInDim S64x1x128x4000 ![0, 1, 2, 3] bcast_S64x1x1x4000_S64x1x128x4000_0_1_2_3
        (broadcastInDim S64x1x1x4000 ![0, 3] bcast_S64x4000_S64x1x1x4000_0_3 (rd W (.of main_v21 : TRef sig ⟨S64x4000, .i1⟩))))
      (broadcastInDim S64x1x128x4000 ![] bcast_S_S64x1x128x4000 (constant S_ .f32 0x00000000#32)) (arg W) := by
    refine (eqn_ternary W _ _ _ _ ew2).trans ?_
    rw [eqn_unary W _ _ ew0, eqn_unary W _ _ ew1]
    rw [show rd W (.of main_v22 : TRef sig ⟨S64x1x1x4000, .i1⟩) = _ from raw_unary W main_v21 main_v22 e22,
      show rd W (.of main_cst : TRef sig ⟨S_, .f32⟩) = _ from raw_nullary W main_cst ecst]
    rfl
  have x10 := (raw_unary W main_v9 main_v10 e10).trans (congrArg _ (raw_nullary W main_v9 e9))
  have e' : rd W (.of main_v21 : TRef sig ⟨S64x4000, .i1⟩) = andi
      (cmpi .sge (broadcastInDim S64x4000 ![0, 1] bcast_S1x4000_S64x4000_0_1 (broadcastInDim S1x4000 ![1] bcast_S4000_S1x4000_1 (iotaInDim S4000 32 0)))
        (broadcastInDim S64x4000 ![0, 1] bcast_S64x1_S64x4000_0_1 (broadcastInDim S64x1 ![0] bcast_S64_S64x1_0 (cols W))))
      (cmpi .slt (broadcastInDim S64x4000 ![0, 1] bcast_S1x4000_S64x4000_0_1 (broadcastInDim S1x4000 ![1] bcast_S4000_S1x4000_1 (iotaInDim S4000 32 0)))
        (broadcastInDim S64x4000 ![0, 1] bcast_S64x1_S64x4000_0_1 (broadcastInDim S64x1 ![0] bcast_S64_S64x1_0
          (addi (cols W) (broadcastInDim S64 ![] bcast_S_S64 (constantI S_ 32 400#32)))))) := by
    refine (raw_binary W main_v14 main_v20 main_v21 e21).trans (congrArg₂ _ ?_ ?_)
    · refine (raw_binary W main_v12 main_v13 main_v14 e14).trans (congrArg₂ _ ?_ ?_)
      · exact (raw_unary W main_v10 main_v12 e12).trans (congrArg _ x10)
      · exact (raw_unary W main_v11 main_v13 e13).trans (congrArg _ (raw_unary W main_v8 main_v11 e11))
    · refine (raw_binary W main_v18 main_v19 main_v20 e20).trans (congrArg₂ _ ?_ ?_)
      · exact (raw_unary W main_v10 main_v18 e18).trans (congrArg _ x10)
      · refine (raw_unary W main_v17 main_v19 e19).trans (congrArg _ ((raw_unary W main_v16 main_v17 e17).trans (congrArg _ ?_)))
        refine (raw_binary W main_v8 main_v15 main_v16 e16).trans (congrArg _ ?_)
        exact (raw_unary W main_c_5 main_v15 e15).trans (congrArg _ (raw_nullary W main_c_5 ec5))
  rw [e]
  show Scalar.select (broadcastInDim _ _ _ _ j) (broadcastInDim _ _ _ _ j) (arg W j) = _
  rw [broadcastInDim_apply _ _ _ j (fun | 0 => j 0 | 1 => (0 : Fin 1) | 2 => (0 : Fin 1) | 3 => j 3 : S64x1x1x4000.Idx) (by intro a; fin_cases a <;> rfl),
    broadcastInDim_apply _ _ _ _ (fun | 0 => j 0 | 1 => j 3 : S64x4000.Idx) (by intro a; fin_cases a <;> rfl), e']
  exact if_congr (band_apply (by decide) (by decide) (cols W) 400#32 hu (by decide) _ _ _ _ _ _ (ix (j 0)) rfl) rfl rfl

/-- The result: zero at the drawn rows too. -/
theorem res_eq (W : Valuation τ sig (Elt F)) (h : ∀ op ∈ R.all, Eqn W op) (hu : ∀ i, (rows W i).toNat < 3601) (j : S64x1x128x4000.Idx) :
    res W j = if (rows W (ix (j 0))).toNat ≤ (j 2).val ∧ (j 2).val < (rows W (ix (j 0))).toNat + 12 then zero else part W j := by
  unfold R.all R.segN R.segO R.where3 at h
  simp only [List.forall_mem_append, List.forall_mem_cons] at h
  obtain ⟨⟨_, _, _, e33, e34, e35, e36, e37, e38, ec12, e39, e40, e41, e42, e43, e44, _⟩, e45, e46, ecst, ⟨ew0, ew1, ew2, _⟩, _⟩ := h
  have e : res W = select (broadcastInDim S64x1x128x4000 ![0, 1, 2, 3] bcast_S64x1x128x1_S64x1x128x4000_0_1_2_3
        (broadcastInDim S64x1x128x1 ![0, 2] bcast_S64x128_S64x1x128x1_0_2 (rd W (.of main_v45 : TRef sig ⟨S64x128, .i1⟩))))
      (broadcastInDim S64x1x128x4000 ![] bcast_S_S64x1x128x4000 (constant S_ .f32 0x00000000#32)) (part W) := by
    refine (eqn_ternary W _ _ _ _ ew2).trans ?_
    rw [eqn_unary W _ _ ew0, eqn_unary W _ _ ew1]
    rw [show rd W (.of main_v46 : TRef sig ⟨S64x1x128x1, .i1⟩) = _ from raw_unary W main_v45 main_v46 e46,
      show rd W (.of main_cst_13 : TRef sig ⟨S_, .f32⟩) = _ from raw_nullary W main_cst_13 ecst]
    rfl
  have x34 := (raw_unary W main_v33 main_v34 e34).trans (congrArg _ (raw_nullary W main_v33 e33))
  have e' : rd W (.of main_v45 : TRef sig ⟨S64x128, .i1⟩) = andi
      (cmpi .sge (broadcastInDim S64x128 ![0, 1] bcast_S1x128_S64x128_0_1 (broadcastInDim S1x128 ![1] bcast_S128_S1x128_1 (iotaInDim S128 32 0)))
        (broadcastInDim S64x128 ![0, 1] bcast_S64x1_S64x128_0_1 (broadcastInDim S64x1 ![0] bcast_S64_S64x1_0 (rows W))))
      (cmpi .slt (broadcastInDim S64x128 ![0, 1] bcast_S1x128_S64x128_0_1 (broadcastInDim S1x128 ![1] bcast_S128_S1x128_1 (iotaInDim S128 32 0)))
        (broadcastInDim S64x128 ![0, 1] bcast_S64x1_S64x128_0_1 (broadcastInDim S64x1 ![0] bcast_S64_S64x1_0
          (addi (rows W) (broadcastInDim S64 ![] bcast_S_S64 (constantI S_ 32 12#32)))))) := by
    refine (raw_binary W main_v38 main_v44 main_v45 e45).trans (congrArg₂ _ ?_ ?_)
    · refine (raw_binary W main_v36 main_v37 main_v38 e38).trans (congrArg₂ _ ?_ ?_)
      · exact (raw_unary W main_v34 main_v36 e36).trans (congrArg _ x34)
      · exact (raw_unary W main_v35 main_v37 e37).trans (congrArg _ (raw_unary W main_v32 main_v35 e35))
    · refine (raw_binary W main_v42 main_v43 main_v44 e44).trans (congrArg₂ _ ?_ ?_)
      · exact (raw_unary W main_v34 main_v42 e42).trans (congrArg _ x34)
      · refine (raw_unary W main_v41 main_v43 e43).trans (congrArg _ ((raw_unary W main_v40 main_v41 e41).trans (congrArg _ ?_)))
        refine (raw_binary W main_v32 main_v39 main_v40 e40).trans (congrArg _ ?_)
        exact (raw_unary W main_c_12 main_v39 e39).trans (congrArg _ (raw_nullary W main_c_12 ec12))
  rw [e]
  show Scalar.select (broadcastInDim _ _ _ _ j) (broadcastInDim _ _ _ _ j) (part W j) = _
  rw [broadcastInDim_apply _ _ _ j (fun | 0 => j 0 | 1 => (0 : Fin 1) | 2 => j 2 | 3 => (0 : Fin 1) : S64x1x128x1.Idx) (by intro a; fin_cases a <;> rfl),
    broadcastInDim_apply _ _ _ _ (fun | 0 => j 0 | 1 => j 2 : S64x128.Idx) (by intro a; fin_cases a <;> rfl), e']
  exact if_congr (band_apply (by decide) (by decide) (rows W) 12#32 hu (by decide) _ _ _ _ _ _ (ix (j 0)) rfl) rfl rfl

end Cert.Proof.Mask.R
end
-- ==== Proof.RRun.lean ====
/-
  The reference's run: it ends with the argument as it was and the result that its operations leave.
-/
module

public import proofs.«01_k».proof.Proof.RVals
public import Idealize.ShloMosaic.Lib.StableHlo.RunHlo
public import Idealize.ShloMosaic.Lib.Quiescent

@[expose] public section

set_option maxRecDepth 10000

noncomputable section

namespace Cert.Proof.Mask.R

open Idealize.ShloMosaic Idealize.ShloMosaic.StableHlo Idealize.SL.Sem
open Cert.ReferenceIdeal Cert.ReferenceIdeal.Gen
variable {F : FTy → Type} [FloatOps F]

/-- No buffer of the reference's is scoped. -/
theorem unscoped (r : Ref sig .tc) : r.isScoped = false := by
  obtain ⟨sp, i, h⟩ := r
  cases sp <;> first | rfl | exact absurd h Bool.false_ne_true

/-- The result is what its buffer holds. -/
theorem res_of (W : Valuation τ sig (Elt F)) : R.res W = W (Proc.devRef .tc main_v47) := by unfold R.res rd; rfl
/-- The argument is what its buffer holds. -/
theorem arg_of (W : Valuation τ sig (Elt F)) : R.arg W = W (Proc.devRef .tc main_arg0) := by unfold R.arg rd; rfl

variable (m : (ℓ : Loc nD τ sig) → Buf (Elt F) ℓ) (ρ : Dev nD → PrngReg)

/-- The result on device `d`. -/
def out (d : Dev nD) : S64x1x128x4000.Idx → Elt F .f32 := R.res (after R.all (launchContents m d))

/-- The reference runs from every start: its argument is unchanged, its result is `out`, and every semaphore is at zero. -/
theorem run_main : θ_run (defs (F := F)) (onTc (τ := τ) (main (F := F))) ⟨m, fun _ => 0, ρ⟩ fun r =>
    (∀ d : Dev nD, r.2.mem ((d.tc : Thread nD τ).loc main_arg0) = m ((d.tc : Thread nD τ).loc main_arg0)
      ∧ r.2.mem ((d.tc : Thread nD τ).loc main_v47) = out m d) ∧ r.2.sem = fun _ => 0 := by
  refine (θ_run _ _ _).mono (fun r h => ⟨fun d => ⟨?_, ?_⟩, sem_eq_zero_of_no_sems rfl _⟩)
    (run_hlo (defs (F := F)) main (ops := R.all) main_eq ?_ ?_ (List.forall_iff_forall_mem.mpr R.soloAll.sub) R.soloAll.fresh m ρ)
  · exact (h d main_arg0).trans (R.all_arg _)
  · exact (h d main_v47).trans (res_of _).symm
  · exact Finset.filter_eq_empty_iff.mpr fun r _ => by rw [unscoped]; decide
  · exact Finset.filter_eq_empty_iff.mpr fun s _ => by
      have : IsEmpty (SemLoc sig) := Fintype.card_eq_zero_iff.mp (SemLoc.card_eq ▸ rfl)
      exact isEmptyElim s

end Cert.Proof.Mask.R
end
-- ==== Proof.Draws.lean ====
/-
  The two programs draw the same words; so the kernel's result and the reference's are one array.
-/
module

public import proofs.«01_k».proof.Proof.RVals
public import proofs.«01_k».proof.Proof.KHost

@[expose] public section

set_option maxRecDepth 10000

noncomputable section

namespace Cert.Proof.Mask

open Idealize.ShloMosaic Idealize.ShloMosaic.StableHlo Idealize.SL.Sem
open Cert.KernelIdeal Cert.KernelIdeal.Gen
variable {F : FTy → Type} [FloatOps F]

variable (V : Valuation τ sig (Elt F)) (V' : Valuation Cert.ReferenceIdeal.τ Cert.ReferenceIdeal.sig (Elt F))

/-- The first columns. -/
theorem cols_same : cols (after K.pre V) = R.cols (after R.all V') := by
  have e : after K.pre V (Proc.devRef .tc main_v8) = after K.segA.1.1 V (Proc.devRef .tc main_v8) := by
    unfold K.pre
    rw [after_append]
    exact (pairB.fst.append soloC).keep _ _ (.inl (by decide))
  have e' : after R.all V' (Proc.devRef .tc Cert.ReferenceIdeal.main_v8) = after R.segA.1.1 V' (Proc.devRef .tc Cert.ReferenceIdeal.main_v8) := by
    unfold R.all
    rw [after_append, after_append, R.soloO.keep _ _ (.inl (by decide))]
    exact (R.soloM.append (pairB.snd.append R.soloN)).keep _ _ (.inl (by decide))
  have h := (pairA (F := F)).sim V V' (fun a b h1 h2 => absurd h1 (by omega))
  have := h.ofBuf (.of main_v8 : TRef sig ⟨S64, .i32⟩) (.of Cert.ReferenceIdeal.main_v8 : TRef Cert.ReferenceIdeal.sig ⟨S64, .i32⟩) (by decide) (by decide) (by decide)
  unfold cols R.cols rd
  exact ((congrArg _ e).trans this).trans (congrArg _ e').symm

/-- The first rows. -/
theorem rows_same : rows (after K.pre V) = R.rows (after R.all V') := by
  have e : after K.pre V (Proc.devRef .tc main_v17) = after K.segB.1.1 (after K.segA.1.1 V) (Proc.devRef .tc main_v17) := by
    unfold K.pre
    rw [after_append, after_append]
    exact soloC.keep _ _ (.inl (by decide))
  have e' : after R.all V' (Proc.devRef .tc Cert.ReferenceIdeal.main_v32)
      = after R.segB.1.1 (after R.segM.1.1 (after R.segA.1.1 V')) (Proc.devRef .tc Cert.ReferenceIdeal.main_v32) := by
    unfold R.all
    rw [after_append, after_append, after_append, after_append, R.soloO.keep _ _ (.inl (by decide))]
    exact R.soloN.keep _ _ (.inl (by decide))
  have h := (pairB (F := F)).sim (after K.segA.1.1 V) (after R.segM.1.1 (after R.segA.1.1 V')) (fun a b h1 h2 => absurd h1 (by omega))
  have := h.ofBuf (.of main_v17 : TRef sig ⟨S64, .i32⟩) (.of Cert.ReferenceIdeal.main_v32 : TRef Cert.ReferenceIdeal.sig ⟨S64, .i32⟩) (by decide) (by decide) (by decide)
  unfold rows R.rows rd
  exact ((congrArg _ e).trans this).trans (congrArg _ e').symm

/-- An index of the array, its unit axis dropped. -/
def flat (j : S64x1x128x4000.Idx) : S64x128x4000.Idx := fun | 0 => j 0 | 1 => j 2 | 2 => j 3

/-- Putting the unit axis back reads the array at the index without it. -/
theorem unflat_apply {α : Type} (x : S64x128x4000.Idx → α) (j : S64x1x128x4000.Idx) :
    shapeCast S64x1x128x4000 x shapeCasts_S64x128x4000_S64x1x128x4000 j = x (flat j) := by
  refine shapeCast_apply _ _ _ _ ?_
  have h1 : (j 1).val = 0 := by have : (j 1).val < 1 := (j 1).isLt; omega
  rw [Shape.rowMajor_val_three, Shape.rowMajor_val_four]
  show ((j 0).val * 128 + (j 2).val) * 4000 + (j 3).val = (((j 0).val * 1 + (j 1).val) * 128 + (j 2).val) * 4000 + (j 3).val
  rw [h1]
  omega

/-- The kernel's masked array at such an index. -/
theorem target_flat (X : S64x128x4000.Idx → Elt F .f32) (T : S64x2x16.Idx → BitVec 32) (j : S64x1x128x4000.Idx) :
    target X T (flat j) = if (word T (j 0) 1).toNat ≤ (j 2).val ∧ (j 2).val < (word T (j 0) 1).toNat + 12 then zero
      else if (word T (j 0) 0).toNat ≤ (j 3).val ∧ (j 3).val < (word T (j 0) 0).toNat + 400 then zero else X (flat j) := by
  by_cases p : (word T (j 0) 1).toNat ≤ (j 2).val ∧ (j 2).val < (word T (j 0) 1).toNat + 12
  · exact (if_pos (.inr p)).trans (if_pos p).symm
  · by_cases q : (word T (j 0) 0).toNat ≤ (j 3).val ∧ (j 3).val < (word T (j 0) 0).toNat + 400
    · exact (if_pos (.inl q)).trans ((if_neg p).trans (if_pos q)).symm
    · exact (if_neg (not_or.mpr ⟨q, p⟩)).trans ((if_neg p).trans (if_neg q)).symm

/-- The kernel's result, its unit axis put back, is the reference's, where the arguments agree. -/
theorem value_same (hV : rd (after K.pre V) (.of main_arg0 : TRef sig ⟨S64x1x128x4000, .f32⟩) = R.arg (after R.all V')) :
    shapeCast S64x1x128x4000 (target (arrayOf (after K.pre V)) (wordsOf (after K.pre V))) shapeCasts_S64x128x4000_S64x1x128x4000 = R.res (after R.all V') := by
  have hK := pre_eqns V
  have hR := R.all_eqns V'
  obtain ⟨hc, hr⟩ := ranges _ hK
  obtain ⟨-, w0, w1⟩ := words_ok _ hK
  have hc' : ∀ i, (R.cols (after R.all V') i).toNat < 3601 := by rw [← cols_same V V']; exact hc
  have hr' : ∀ i, (R.rows (after R.all V') i).toNat < 117 := by rw [← rows_same V V']; exact hr
  funext j
  rw [R.res_eq _ hR (fun i => lt_trans (hr' i) (by decide)), R.part_eq _ hR hc', ← cols_same V V', ← rows_same V V', ← hV]
  have e : arrayOf (after K.pre V) (flat j) = rd (after K.pre V) (.of main_arg0 : TRef sig ⟨S64x1x128x4000, .f32⟩) j := by
    rw [array_eq _ hK]
    exact (unflat_apply _ j).symm.trans (congrFun (shapeCast_shapeCast _ _ _) j)
  refine (unflat_apply _ j).trans ((target_flat _ _ j).trans ?_)
  rw [w0 (j 0), w1 (j 0), e]
  rfl

/-- The argument, of a device's contents in either program. -/
def argK : S64x1x128x4000.Idx → Elt F .f32 := V (Proc.devRef .tc main_arg0)
/-- The reference's argument. -/
def argR : S64x1x128x4000.Idx → Elt F .f32 := V' (Proc.devRef .tc Cert.ReferenceIdeal.main_arg0)

/-- The same, of the contents at the start. -/
theorem value_same_start (hV : argK V = argR V') :
    shapeCast S64x1x128x4000 (target (arrayOf (after K.pre V)) (wordsOf (after K.pre V))) shapeCasts_S64x128x4000_S64x1x128x4000 = R.res (after R.all V') := by
  refine value_same V V' ?_
  have e : rd (after K.pre V) (.of main_arg0 : TRef sig ⟨S64x1x128x4000, .f32⟩) = argK V := by
    unfold rd argK
    exact (congrArg (TRef.of main_arg0 : TRef sig ⟨S64x1x128x4000, .f32⟩).ofBuf (pre_arg V)).trans rfl
  have e' : R.arg (after R.all V') = argR V' := by
    unfold R.arg rd argR
    exact (congrArg (TRef.of Cert.ReferenceIdeal.main_arg0 : TRef Cert.ReferenceIdeal.sig ⟨S64x1x128x4000, .f32⟩).ofBuf (R.all_arg V')).trans rfl
  exact e.trans (hV.trans e'.symm)

end Cert.Proof.Mask
end
-- ==== Proof.lean ====
/-
  The proof: every claim of the certificate.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Run
public import proofs.«01_k».proof.Proof.SameMain
public import proofs.«01_k».proof.Proof.RRun
public import proofs.«01_k».proof.Proof.Draws
public import Idealize.ShloMosaic.Adequacy
public import Idealize.ShloMosaic.Init

@[expose] public section

noncomputable section

namespace Cert.Proof

open Idealize.ShloMosaic Idealize.SL.Sem

/-- The kernel over the extended reals runs from every start, its argument unchanged and every semaphore at zero at the end. -/
theorem frame_kernelIdeal : Cert.quiescent_KernelIdeal := fun m ρ _ =>
  (θ_run Cert.KernelIdeal.defs _ _).mono (fun _ h => ⟨fun c => (h.1 c).1, h.2⟩) (Mask.run_main (F := Ideal) m ρ)

set_option maxHeartbeats 4000000 in
/-- The kernel over machine floats runs from every start, its argument unchanged and every semaphore at zero at the end. -/
theorem frame_kernel : Cert.quiescent_Kernel := fun m ρ _ => by
  rw [Same.defs_same]
  rw [Same.threads_same]
  exact (θ_run Cert.KernelIdeal.defs _ _).mono (fun _ h => ⟨fun c => (h.1 c).1, h.2⟩) (Mask.run_main (F := Bits) m ρ)

/-- The reference runs, its argument unchanged and every semaphore at zero. -/
theorem frame_reference : Cert.quiescent_ReferenceIdeal := fun m ρ _ =>
  (θ_run Cert.ReferenceIdeal.defs _ _).mono (fun _ h => ⟨fun c => (h.1 c).1, h.2⟩) (Mask.R.run_main (F := Ideal) m ρ)

/-- From the same argument, the kernel's result and the reference's are one array. -/
theorem out_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) : Mask.R.out m' c = Mask.out m c := by
  rw [Mask.out_eq]
  unfold Mask.R.out
  exact (Mask.value_same_start (F := Ideal) (StableHlo.launchContents m c) (StableHlo.launchContents m' c) (by unfold Mask.argK Mask.argR; exact h.symm)).symm

/-- The two programs at the ideal floats give equal results. -/
theorem algebraic : Cert.algebraic_KernelIdeal_ReferenceIdeal := fun m ρ m' ρ' _ h =>
  ⟨fun c => Mask.out m c,
    (θ_run Cert.KernelIdeal.defs _ _).mono (fun _ h => fun c => ⟨(h.1 c).2, (h.1 c).1⟩) (Mask.run_main (F := Ideal) m ρ),
    (θ_run Cert.ReferenceIdeal.defs _ _).mono (fun _ h' => fun c => ⟨(h'.1 c).2.trans (out_same m m' c (h c)), (h'.1 c).1⟩) (Mask.R.run_main (F := Ideal) m' ρ')⟩

/-- All the claims together. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
